-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.2.2 = (fun _ => 1#1)

def Pre_InDh (m : (ℓ : Loc Cert.InDh.nD Cert.InDh.τ Cert.InDh.sig) → Buf (Elt Bits) ℓ) : Prop :=
  True

def Pre_InDhIdeal (m : (ℓ : Loc Cert.InDhIdeal.nD Cert.InDhIdeal.τ Cert.InDhIdeal.sig) → Buf (Elt Ideal) ℓ) : Prop :=
  True

def Pre_InDhReferenceIdeal (m : (ℓ : Loc Cert.InDhReferenceIdeal.nD Cert.InDhReferenceIdeal.τ Cert.InDhReferenceIdeal.sig) → Buf (Elt Ideal) ℓ) : Prop :=
  True

def Pre_InDw (m : (ℓ : Loc Cert.InDw.nD Cert.InDw.τ Cert.InDw.sig) → Buf (Elt Bits) ℓ) : Prop :=
  True

def Pre_InDwIdeal (m : (ℓ : Loc Cert.InDwIdeal.nD Cert.InDwIdeal.τ Cert.InDwIdeal.sig) → Buf (Elt Ideal) ℓ) : Prop :=
  True

def Pre_InDwReferenceIdeal (m : (ℓ : Loc Cert.InDwReferenceIdeal.nD Cert.InDwReferenceIdeal.τ Cert.InDwReferenceIdeal.sig) → Buf (Elt Ideal) ℓ) : Prop :=
  True

def Pre_OutDy (m : (ℓ : Loc Cert.OutDy.nD Cert.OutDy.τ Cert.OutDy.sig) → Buf (Elt Bits) ℓ) : Prop :=
  True

def Pre_OutDyIdeal (m : (ℓ : Loc Cert.OutDyIdeal.nD Cert.OutDyIdeal.τ Cert.OutDyIdeal.sig) → Buf (Elt Ideal) ℓ) : Prop :=
  True

def Pre_OutDyReferenceIdeal (m : (ℓ : Loc Cert.OutDyReferenceIdeal.nD Cert.OutDyReferenceIdeal.τ Cert.OutDyReferenceIdeal.sig) → Buf (Elt Ideal) ℓ) : Prop :=
  True

def Pre_OutDw (m : (ℓ : Loc Cert.OutDw.nD Cert.OutDw.τ Cert.OutDw.sig) → Buf (Elt Bits) ℓ) : Prop :=
  True

def Pre_OutDwIdeal (m : (ℓ : Loc Cert.OutDwIdeal.nD Cert.OutDwIdeal.τ Cert.OutDwIdeal.sig) → Buf (Elt Ideal) ℓ) : Prop :=
  True

def Pre_OutDwReferenceIdeal (m : (ℓ : Loc Cert.OutDwReferenceIdeal.nD Cert.OutDwReferenceIdeal.τ Cert.OutDwReferenceIdeal.sig) → Buf (Elt Ideal) ℓ) : Prop :=
  True

def Pre_InFwd (m : (ℓ : Loc Cert.InFwd.nD Cert.InFwd.τ Cert.InFwd.sig) → Buf (Elt Bits) ℓ) : Prop :=
  True

def Pre_InFwdIdeal (m : (ℓ : Loc Cert.InFwdIdeal.nD Cert.InFwdIdeal.τ Cert.InFwdIdeal.sig) → Buf (Elt Ideal) ℓ) : Prop :=
  True

def Pre_InFwdReferenceIdeal (m : (ℓ : Loc Cert.InFwdReferenceIdeal.nD Cert.InFwdReferenceIdeal.τ Cert.InFwdReferenceIdeal.sig) → Buf (Elt Ideal) ℓ) : Prop :=
  True

def Pre_OutFwd (m : (ℓ : Loc Cert.OutFwd.nD Cert.OutFwd.τ Cert.OutFwd.sig) → Buf (Elt Bits) ℓ) : Prop :=
  True

def Pre_OutFwdIdeal (m : (ℓ : Loc Cert.OutFwdIdeal.nD Cert.OutFwdIdeal.τ Cert.OutFwdIdeal.sig) → Buf (Elt Ideal) ℓ) : Prop :=
  True

def Pre_OutFwdReferenceIdeal (m : (ℓ : Loc Cert.OutFwdReferenceIdeal.nD Cert.OutFwdReferenceIdeal.τ Cert.OutFwdReferenceIdeal.sig) → Buf (Elt Ideal) ℓ) : Prop :=
  True

def Pre_OutLoss (m : (ℓ : Loc Cert.OutLoss.nD Cert.OutLoss.τ Cert.OutLoss.sig) → Buf (Elt Bits) ℓ) : Prop :=
  True

def Pre_OutLossIdeal (m : (ℓ : Loc Cert.OutLossIdeal.nD Cert.OutLossIdeal.τ Cert.OutLossIdeal.sig) → Buf (Elt Ideal) ℓ) : Prop :=
  True

def Pre_OutLossReferenceIdeal (m : (ℓ : Loc Cert.OutLossReferenceIdeal.nD Cert.OutLossReferenceIdeal.τ Cert.OutLossReferenceIdeal.sig) → Buf (Elt Ideal) ℓ) : Prop :=
  True

def Pre_AdamWIn (m : (ℓ : Loc Cert.AdamWIn.nD Cert.AdamWIn.τ Cert.AdamWIn.sig) → Buf (Elt Bits) ℓ) : Prop :=
  True

def Pre_AdamWInIdeal (m : (ℓ : Loc Cert.AdamWInIdeal.nD Cert.AdamWInIdeal.τ Cert.AdamWInIdeal.sig) → Buf (Elt Ideal) ℓ) : Prop :=
  True

def Pre_AdamWInReferenceIdeal (m : (ℓ : Loc Cert.AdamWInReferenceIdeal.nD Cert.AdamWInReferenceIdeal.τ Cert.AdamWInReferenceIdeal.sig) → Buf (Elt Ideal) ℓ) : Prop :=
  True

def Pre_AdamNorm (m : (ℓ : Loc Cert.AdamNorm.nD Cert.AdamNorm.τ Cert.AdamNorm.sig) → Buf (Elt Bits) ℓ) : Prop :=
  True

def Pre_AdamNormIdeal (m : (ℓ : Loc Cert.AdamNormIdeal.nD Cert.AdamNormIdeal.τ Cert.AdamNormIdeal.sig) → Buf (Elt Ideal) ℓ) : Prop :=
  True

def Pre_AdamNormReferenceIdeal (m : (ℓ : Loc Cert.AdamNormReferenceIdeal.nD Cert.AdamNormReferenceIdeal.τ Cert.AdamNormReferenceIdeal.sig) → Buf (Elt Ideal) ℓ) : Prop :=
  True

def Pre_AdamGroup (m : (ℓ : Loc Cert.AdamGroup.nD Cert.AdamGroup.τ Cert.AdamGroup.sig) → Buf (Elt Bits) ℓ) : Prop :=
  True

def Pre_AdamGroupIdeal (m : (ℓ : Loc Cert.AdamGroupIdeal.nD Cert.AdamGroupIdeal.τ Cert.AdamGroupIdeal.sig) → Buf (Elt Ideal) ℓ) : Prop :=
  True

def Pre_AdamGroupReferenceIdeal (m : (ℓ : Loc Cert.AdamGroupReferenceIdeal.nD Cert.AdamGroupReferenceIdeal.τ Cert.AdamGroupReferenceIdeal.sig) → Buf (Elt Ideal) ℓ) : Prop :=
  True

def Pre_AdamHalf (m : (ℓ : Loc Cert.AdamHalf.nD Cert.AdamHalf.τ Cert.AdamHalf.sig) → Buf (Elt Bits) ℓ) : Prop :=
  True

def Pre_AdamHalfIdeal (m : (ℓ : Loc Cert.AdamHalfIdeal.nD Cert.AdamHalfIdeal.τ Cert.AdamHalfIdeal.sig) → Buf (Elt Ideal) ℓ) : Prop :=
  True

def Pre_AdamHalfReferenceIdeal (m : (ℓ : Loc Cert.AdamHalfReferenceIdeal.nD Cert.AdamHalfReferenceIdeal.τ Cert.AdamHalfReferenceIdeal.sig) → Buf (Elt Ideal) ℓ) : Prop :=
  True

def Pre_AdamHead (m : (ℓ : Loc Cert.AdamHead.nD Cert.AdamHead.τ Cert.AdamHead.sig) → Buf (Elt Bits) ℓ) : Prop :=
  True

def Pre_AdamHeadIdeal (m : (ℓ : Loc Cert.AdamHeadIdeal.nD Cert.AdamHeadIdeal.τ Cert.AdamHeadIdeal.sig) → Buf (Elt Ideal) ℓ) : Prop :=
  True

def Pre_AdamHeadReferenceIdeal (m : (ℓ : Loc Cert.AdamHeadReferenceIdeal.nD Cert.AdamHeadReferenceIdeal.τ Cert.AdamHeadReferenceIdeal.sig) → Buf (Elt Ideal) ℓ) : Prop :=
  True

def Pre_AdamPool (m : (ℓ : Loc Cert.AdamPool.nD Cert.AdamPool.τ Cert.AdamPool.sig) → Buf (Elt Bits) ℓ) : Prop :=
  True

def Pre_AdamPoolIdeal (m : (ℓ : Loc Cert.AdamPoolIdeal.nD Cert.AdamPoolIdeal.τ Cert.AdamPoolIdeal.sig) → Buf (Elt Ideal) ℓ) : Prop :=
  True

def Pre_AdamPoolReferenceIdeal (m : (ℓ : Loc Cert.AdamPoolReferenceIdeal.nD Cert.AdamPoolReferenceIdeal.τ Cert.AdamPoolReferenceIdeal.sig) → Buf (Elt Ideal) ℓ) : Prop :=
  True

def Pre_AdamRank (m : (ℓ : Loc Cert.AdamRank.nD Cert.AdamRank.τ Cert.AdamRank.sig) → Buf (Elt Bits) ℓ) : Prop :=
  True

def Pre_AdamRankIdeal (m : (ℓ : Loc Cert.AdamRankIdeal.nD Cert.AdamRankIdeal.τ Cert.AdamRankIdeal.sig) → Buf (Elt Ideal) ℓ) : Prop :=
  True

def Pre_AdamRankReferenceIdeal (m : (ℓ : Loc Cert.AdamRankReferenceIdeal.nD Cert.AdamRankReferenceIdeal.τ Cert.AdamRankReferenceIdeal.sig) → Buf (Elt Ideal) ℓ) : Prop :=
  True

def Pre_AdamQ (m : (ℓ : Loc Cert.AdamQ.nD Cert.AdamQ.τ Cert.AdamQ.sig) → Buf (Elt Bits) ℓ) : Prop :=
  True

def Pre_AdamQIdeal (m : (ℓ : Loc Cert.AdamQIdeal.nD Cert.AdamQIdeal.τ Cert.AdamQIdeal.sig) → Buf (Elt Ideal) ℓ) : Prop :=
  True

def Pre_AdamQReferenceIdeal (m : (ℓ : Loc Cert.AdamQReferenceIdeal.nD Cert.AdamQReferenceIdeal.τ Cert.AdamQReferenceIdeal.sig) → Buf (Elt Ideal) ℓ) : Prop :=
  True

def Pre_AdamKv (m : (ℓ : Loc Cert.AdamKv.nD Cert.AdamKv.τ Cert.AdamKv.sig) → Buf (Elt Bits) ℓ) : Prop :=
  True

def Pre_AdamKvIdeal (m : (ℓ : Loc Cert.AdamKvIdeal.nD Cert.AdamKvIdeal.τ Cert.AdamKvIdeal.sig) → Buf (Elt Ideal) ℓ) : Prop :=
  True

def Pre_AdamKvReferenceIdeal (m : (ℓ : Loc Cert.AdamKvReferenceIdeal.nD Cert.AdamKvReferenceIdeal.τ Cert.AdamKvReferenceIdeal.sig) → Buf (Elt Ideal) ℓ) : Prop :=
  True

def Pre_AdamWOut (m : (ℓ : Loc Cert.AdamWOut.nD Cert.AdamWOut.τ Cert.AdamWOut.sig) → Buf (Elt Bits) ℓ) : Prop :=
  True

def Pre_AdamWOutIdeal (m : (ℓ : Loc Cert.AdamWOutIdeal.nD Cert.AdamWOutIdeal.τ Cert.AdamWOutIdeal.sig) → Buf (Elt Ideal) ℓ) : Prop :=
  True

def Pre_AdamWOutReferenceIdeal (m : (ℓ : Loc Cert.AdamWOutReferenceIdeal.nD Cert.AdamWOutReferenceIdeal.τ Cert.AdamWOutReferenceIdeal.sig) → Buf (Elt Ideal) ℓ) : Prop :=
  True

def Pre_NormBwd (m : (ℓ : Loc Cert.NormBwd.nD Cert.NormBwd.τ Cert.NormBwd.sig) → Buf (Elt Bits) ℓ) : Prop :=
  True

def Pre_NormBwdIdeal (m : (ℓ : Loc Cert.NormBwdIdeal.nD Cert.NormBwdIdeal.τ Cert.NormBwdIdeal.sig) → Buf (Elt Ideal) ℓ) : Prop :=
  True

def Pre_NormBwdReferenceIdeal (m : (ℓ : Loc Cert.NormBwdReferenceIdeal.nD Cert.NormBwdReferenceIdeal.τ Cert.NormBwdReferenceIdeal.sig) → Buf (Elt Ideal) ℓ) : Prop :=
  True

def Pre_NormFwd (m : (ℓ : Loc Cert.NormFwd.nD Cert.NormFwd.τ Cert.NormFwd.sig) → Buf (Elt Bits) ℓ) : Prop :=
  True

def Pre_NormFwdIdeal (m : (ℓ : Loc Cert.NormFwdIdeal.nD Cert.NormFwdIdeal.τ Cert.NormFwdIdeal.sig) → Buf (Elt Ideal) ℓ) : Prop :=
  True

def Pre_NormFwdReferenceIdeal (m : (ℓ : Loc Cert.NormFwdReferenceIdeal.nD Cert.NormFwdReferenceIdeal.τ Cert.NormFwdReferenceIdeal.sig) → Buf (Elt Ideal) ℓ) : Prop :=
  True

def Pre_Gate (m : (ℓ : Loc Cert.Gate.nD Cert.Gate.τ Cert.Gate.sig) → Buf (Elt Bits) ℓ) : Prop :=
  True

def Pre_GateIdeal (m : (ℓ : Loc Cert.GateIdeal.nD Cert.GateIdeal.τ Cert.GateIdeal.sig) → Buf (Elt Ideal) ℓ) : Prop :=
  True

def Pre_GateReferenceIdeal (m : (ℓ : Loc Cert.GateReferenceIdeal.nD Cert.GateReferenceIdeal.τ Cert.GateReferenceIdeal.sig) → Buf (Elt Ideal) ℓ) : Prop :=
  True

def Pre_AttnGate (m : (ℓ : Loc Cert.AttnGate.nD Cert.AttnGate.τ Cert.AttnGate.sig) → Buf (Elt Bits) ℓ) : Prop :=
  True

def Pre_AttnGateIdeal (m : (ℓ : Loc Cert.AttnGateIdeal.nD Cert.AttnGateIdeal.τ Cert.AttnGateIdeal.sig) → Buf (Elt Ideal) ℓ) : Prop :=
  True

def Pre_AttnGateReferenceIdeal (m : (ℓ : Loc Cert.AttnGateReferenceIdeal.nD Cert.AttnGateReferenceIdeal.τ Cert.AttnGateReferenceIdeal.sig) → Buf (Elt Ideal) ℓ) : Prop :=
  True

def Pre_SumSmall (m : (ℓ : Loc Cert.SumSmall.nD Cert.SumSmall.τ Cert.SumSmall.sig) → Buf (Elt Bits) ℓ) : Prop :=
  True

def Pre_SumSmallIdeal (m : (ℓ : Loc Cert.SumSmallIdeal.nD Cert.SumSmallIdeal.τ Cert.SumSmallIdeal.sig) → Buf (Elt Ideal) ℓ) : Prop :=
  True

def Pre_SumSmallReferenceIdeal (m : (ℓ : Loc Cert.SumSmallReferenceIdeal.nD Cert.SumSmallReferenceIdeal.τ Cert.SumSmallReferenceIdeal.sig) → Buf (Elt Ideal) ℓ) : Prop :=
  True

def Pre_AttnFwd (m : (ℓ : Loc Cert.AttnFwd.nD Cert.AttnFwd.τ Cert.AttnFwd.sig) → Buf (Elt Bits) ℓ) : Prop :=
  True

def Pre_AttnFwdIdeal (m : (ℓ : Loc Cert.AttnFwdIdeal.nD Cert.AttnFwdIdeal.τ Cert.AttnFwdIdeal.sig) → Buf (Elt Ideal) ℓ) : Prop :=
  True

def Pre_AttnFwdIdeal_finite_scores [hPre_finite_scores : Cert.Pre_finite_scores.Facts] (m : (ℓ : Loc Cert.AttnFwdIdeal.nD Cert.AttnFwdIdeal.τ Cert.AttnFwdIdeal.sig) → Buf (Elt Ideal) ℓ) : Prop :=
  ∀ c : Dev Cert.AttnFwdIdeal.nD,
    (Cert.Pre_finite_scores.fn (F := Ideal) (m ((c.tc : Thread Cert.AttnFwdIdeal.nD Cert.AttnFwdIdeal.τ).loc Cert.AttnFwdIdeal.main_arg0)) (m ((c.tc : Thread Cert.AttnFwdIdeal.nD Cert.AttnFwdIdeal.τ).loc Cert.AttnFwdIdeal.main_arg1)) (m ((c.tc : Thread Cert.AttnFwdIdeal.nD Cert.AttnFwdIdeal.τ).loc Cert.AttnFwdIdeal.main_arg2))).1 = (fun _ => 1#1)
    ∧ (Cert.Pre_finite_scores.fn (F := Ideal) (m ((c.tc : Thread Cert.AttnFwdIdeal.nD Cert.AttnFwdIdeal.τ).loc Cert.AttnFwdIdeal.main_arg0)) (m ((c.tc : Thread Cert.AttnFwdIdeal.nD Cert.AttnFwdIdeal.τ).loc Cert.AttnFwdIdeal.main_arg1)) (m ((c.tc : Thread Cert.AttnFwdIdeal.nD Cert.AttnFwdIdeal.τ).loc Cert.AttnFwdIdeal.main_arg2))).2 = (fun _ => 1#1)

def Pre_AttnFwdReferenceIdeal (m : (ℓ : Loc Cert.AttnFwdReferenceIdeal.nD Cert.AttnFwdReferenceIdeal.τ Cert.AttnFwdReferenceIdeal.sig) → Buf (Elt Ideal) ℓ) : Prop :=
  True

def Pre_AttnFwdReferenceIdeal_finite_scores [hPre_finite_scores : Cert.Pre_finite_scores.Facts] (m : (ℓ : Loc Cert.AttnFwdReferenceIdeal.nD Cert.AttnFwdReferenceIdeal.τ Cert.AttnFwdReferenceIdeal.sig) → Buf (Elt Ideal) ℓ) : Prop :=
  ∀ c : Dev Cert.AttnFwdReferenceIdeal.nD,
    (Cert.Pre_finite_scores.fn (F := Ideal) (m ((c.tc : Thread Cert.AttnFwdReferenceIdeal.nD Cert.AttnFwdReferenceIdeal.τ).loc Cert.AttnFwdReferenceIdeal.main_arg0)) (m ((c.tc : Thread Cert.AttnFwdReferenceIdeal.nD Cert.AttnFwdReferenceIdeal.τ).loc Cert.AttnFwdReferenceIdeal.main_arg1)) (m ((c.tc : Thread Cert.AttnFwdReferenceIdeal.nD Cert.AttnFwdReferenceIdeal.τ).loc Cert.AttnFwdReferenceIdeal.main_arg2))).1 = (fun _ => 1#1)
    ∧ (Cert.Pre_finite_scores.fn (F := Ideal) (m ((c.tc : Thread Cert.AttnFwdReferenceIdeal.nD Cert.AttnFwdReferenceIdeal.τ).loc Cert.AttnFwdReferenceIdeal.main_arg0)) (m ((c.tc : Thread Cert.AttnFwdReferenceIdeal.nD Cert.AttnFwdReferenceIdeal.τ).loc Cert.AttnFwdReferenceIdeal.main_arg1)) (m ((c.tc : Thread Cert.AttnFwdReferenceIdeal.nD Cert.AttnFwdReferenceIdeal.τ).loc Cert.AttnFwdReferenceIdeal.main_arg2))).2 = (fun _ => 1#1)

def Pre_GateBwd (m : (ℓ : Loc Cert.GateBwd.nD Cert.GateBwd.τ Cert.GateBwd.sig) → Buf (Elt Bits) ℓ) : Prop :=
  True

def Pre_GateBwdIdeal (m : (ℓ : Loc Cert.GateBwdIdeal.nD Cert.GateBwdIdeal.τ Cert.GateBwdIdeal.sig) → Buf (Elt Ideal) ℓ) : Prop :=
  True

def Pre_GateBwdIdeal_finite_gate [hPre_finite_gate : Cert.Pre_finite_gate.Facts] (m : (ℓ : Loc Cert.GateBwdIdeal.nD Cert.GateBwdIdeal.τ Cert.GateBwdIdeal.sig) → Buf (Elt Ideal) ℓ) : Prop :=
  ∀ c : Dev Cert.GateBwdIdeal.nD,
    (Cert.Pre_finite_gate.fn (F := Ideal) (m ((c.tc : Thread Cert.GateBwdIdeal.nD Cert.GateBwdIdeal.τ).loc Cert.GateBwdIdeal.main_arg0)) (m ((c.tc : Thread Cert.GateBwdIdeal.nD Cert.GateBwdIdeal.τ).loc Cert.GateBwdIdeal.main_arg1)) (m ((c.tc : Thread Cert.GateBwdIdeal.nD Cert.GateBwdIdeal.τ).loc Cert.GateBwdIdeal.main_arg2)) (m ((c.tc : Thread Cert.GateBwdIdeal.nD Cert.GateBwdIdeal.τ).loc Cert.GateBwdIdeal.main_arg3)) (m ((c.tc : Thread Cert.GateBwdIdeal.nD Cert.GateBwdIdeal.τ).loc Cert.GateBwdIdeal.main_arg4)) (m ((c.tc : Thread Cert.GateBwdIdeal.nD Cert.GateBwdIdeal.τ).loc Cert.GateBwdIdeal.main_arg5))).1 = (fun _ => 1#1)
    ∧ (Cert.Pre_finite_gate.fn (F := Ideal) (m ((c.tc : Thread Cert.GateBwdIdeal.nD Cert.GateBwdIdeal.τ).loc Cert.GateBwdIdeal.main_arg0)) (m ((c.tc : Thread Cert.GateBwdIdeal.nD Cert.GateBwdIdeal.τ).loc Cert.GateBwdIdeal.main_arg1)) (m ((c.tc : Thread Cert.GateBwdIdeal.nD Cert.GateBwdIdeal.τ).loc Cert.GateBwdIdeal.main_arg2)) (m ((c.tc : Thread Cert.GateBwdIdeal.nD Cert.GateBwdIdeal.τ).loc Cert.GateBwdIdeal.main_arg3)) (m ((c.tc : Thread Cert.GateBwdIdeal.nD Cert.GateBwdIdeal.τ).loc Cert.GateBwdIdeal.main_arg4)) (m ((c.tc : Thread Cert.GateBwdIdeal.nD Cert.GateBwdIdeal.τ).loc Cert.GateBwdIdeal.main_arg5))).2 = (fun _ => 1#1)

def Pre_GateBwdReferenceIdeal (m : (ℓ : Loc Cert.GateBwdReferenceIdeal.nD Cert.GateBwdReferenceIdeal.τ Cert.GateBwdReferenceIdeal.sig) → Buf (Elt Ideal) ℓ) : Prop :=
  True

def Pre_GateBwdReferenceIdeal_finite_gate [hPre_finite_gate : Cert.Pre_finite_gate.Facts] (m : (ℓ : Loc Cert.GateBwdReferenceIdeal.nD Cert.GateBwdReferenceIdeal.τ Cert.GateBwdReferenceIdeal.sig) → Buf (Elt Ideal) ℓ) : Prop :=
  ∀ c : Dev Cert.GateBwdReferenceIdeal.nD,
    (Cert.Pre_finite_gate.fn (F := Ideal) (m ((c.tc : Thread Cert.GateBwdReferenceIdeal.nD Cert.GateBwdReferenceIdeal.τ).loc Cert.GateBwdReferenceIdeal.main_arg0)) (m ((c.tc : Thread Cert.GateBwdReferenceIdeal.nD Cert.GateBwdReferenceIdeal.τ).loc Cert.GateBwdReferenceIdeal.main_arg1)) (m ((c.tc : Thread Cert.GateBwdReferenceIdeal.nD Cert.GateBwdReferenceIdeal.τ).loc Cert.GateBwdReferenceIdeal.main_arg2)) (m ((c.tc : Thread Cert.GateBwdReferenceIdeal.nD Cert.GateBwdReferenceIdeal.τ).loc Cert.GateBwdReferenceIdeal.main_arg3)) (m ((c.tc : Thread Cert.GateBwdReferenceIdeal.nD Cert.GateBwdReferenceIdeal.τ).loc Cert.GateBwdReferenceIdeal.main_arg4)) (m ((c.tc : Thread Cert.GateBwdReferenceIdeal.nD Cert.GateBwdReferenceIdeal.τ).loc Cert.GateBwdReferenceIdeal.main_arg5))).1 = (fun _ => 1#1)
    ∧ (Cert.Pre_finite_gate.fn (F := Ideal) (m ((c.tc : Thread Cert.GateBwdReferenceIdeal.nD Cert.GateBwdReferenceIdeal.τ).loc Cert.GateBwdReferenceIdeal.main_arg0)) (m ((c.tc : Thread Cert.GateBwdReferenceIdeal.nD Cert.GateBwdReferenceIdeal.τ).loc Cert.GateBwdReferenceIdeal.main_arg1)) (m ((c.tc : Thread Cert.GateBwdReferenceIdeal.nD Cert.GateBwdReferenceIdeal.τ).loc Cert.GateBwdReferenceIdeal.main_arg2)) (m ((c.tc : Thread Cert.GateBwdReferenceIdeal.nD Cert.GateBwdReferenceIdeal.τ).loc Cert.GateBwdReferenceIdeal.main_arg3)) (m ((c.tc : Thread Cert.GateBwdReferenceIdeal.nD Cert.GateBwdReferenceIdeal.τ).loc Cert.GateBwdReferenceIdeal.main_arg4)) (m ((c.tc : Thread Cert.GateBwdReferenceIdeal.nD Cert.GateBwdReferenceIdeal.τ).loc Cert.GateBwdReferenceIdeal.main_arg5))).2 = (fun _ => 1#1)

def Pre_AttnGateBwd (m : (ℓ : Loc Cert.AttnGateBwd.nD Cert.AttnGateBwd.τ Cert.AttnGateBwd.sig) → Buf (Elt Bits) ℓ) : Prop :=
  True

def Pre_AttnGateBwdIdeal (m : (ℓ : Loc Cert.AttnGateBwdIdeal.nD Cert.AttnGateBwdIdeal.τ Cert.AttnGateBwdIdeal.sig) → Buf (Elt Ideal) ℓ) : Prop :=
  True

def Pre_AttnGateBwdIdeal_finite_heads [hPre_finite_heads : Cert.Pre_finite_heads.Facts] (m : (ℓ : Loc Cert.AttnGateBwdIdeal.nD Cert.AttnGateBwdIdeal.τ Cert.AttnGateBwdIdeal.sig) → Buf (Elt Ideal) ℓ) : Prop :=
  ∀ c : Dev Cert.AttnGateBwdIdeal.nD,
    (Cert.Pre_finite_heads.fn (F := Ideal) (m ((c.tc : Thread Cert.AttnGateBwdIdeal.nD Cert.AttnGateBwdIdeal.τ).loc Cert.AttnGateBwdIdeal.main_arg0)) (m ((c.tc : Thread Cert.AttnGateBwdIdeal.nD Cert.AttnGateBwdIdeal.τ).loc Cert.AttnGateBwdIdeal.main_arg1)) (m ((c.tc : Thread Cert.AttnGateBwdIdeal.nD Cert.AttnGateBwdIdeal.τ).loc Cert.AttnGateBwdIdeal.main_arg2)) (m ((c.tc : Thread Cert.AttnGateBwdIdeal.nD Cert.AttnGateBwdIdeal.τ).loc Cert.AttnGateBwdIdeal.main_arg3)) (m ((c.tc : Thread Cert.AttnGateBwdIdeal.nD Cert.AttnGateBwdIdeal.τ).loc Cert.AttnGateBwdIdeal.main_arg4))).1 = (fun _ => 1#1)
    ∧ (Cert.Pre_finite_heads.fn (F := Ideal) (m ((c.tc : Thread Cert.AttnGateBwdIdeal.nD Cert.AttnGateBwdIdeal.τ).loc Cert.AttnGateBwdIdeal.main_arg0)) (m ((c.tc : Thread Cert.AttnGateBwdIdeal.nD Cert.AttnGateBwdIdeal.τ).loc Cert.AttnGateBwdIdeal.main_arg1)) (m ((c.tc : Thread Cert.AttnGateBwdIdeal.nD Cert.AttnGateBwdIdeal.τ).loc Cert.AttnGateBwdIdeal.main_arg2)) (m ((c.tc : Thread Cert.AttnGateBwdIdeal.nD Cert.AttnGateBwdIdeal.τ).loc Cert.AttnGateBwdIdeal.main_arg3)) (m ((c.tc : Thread Cert.AttnGateBwdIdeal.nD Cert.AttnGateBwdIdeal.τ).loc Cert.AttnGateBwdIdeal.main_arg4))).2 = (fun _ => 1#1)

def Pre_AttnGateBwdReferenceIdeal (m : (ℓ : Loc Cert.AttnGateBwdReferenceIdeal.nD Cert.AttnGateBwdReferenceIdeal.τ Cert.AttnGateBwdReferenceIdeal.sig) → Buf (Elt Ideal) ℓ) : Prop :=
  True

def Pre_AttnGateBwdReferenceIdeal_finite_heads [hPre_finite_heads : Cert.Pre_finite_heads.Facts] (m : (ℓ : Loc Cert.AttnGateBwdReferenceIdeal.nD Cert.AttnGateBwdReferenceIdeal.τ Cert.AttnGateBwdReferenceIdeal.sig) → Buf (Elt Ideal) ℓ) : Prop :=
  ∀ c : Dev Cert.AttnGateBwdReferenceIdeal.nD,
    (Cert.Pre_finite_heads.fn (F := Ideal) (m ((c.tc : Thread Cert.AttnGateBwdReferenceIdeal.nD Cert.AttnGateBwdReferenceIdeal.τ).loc Cert.AttnGateBwdReferenceIdeal.main_arg0)) (m ((c.tc : Thread Cert.AttnGateBwdReferenceIdeal.nD Cert.AttnGateBwdReferenceIdeal.τ).loc Cert.AttnGateBwdReferenceIdeal.main_arg1)) (m ((c.tc : Thread Cert.AttnGateBwdReferenceIdeal.nD Cert.AttnGateBwdReferenceIdeal.τ).loc Cert.AttnGateBwdReferenceIdeal.main_arg2)) (m ((c.tc : Thread Cert.AttnGateBwdReferenceIdeal.nD Cert.AttnGateBwdReferenceIdeal.τ).loc Cert.AttnGateBwdReferenceIdeal.main_arg3)) (m ((c.tc : Thread Cert.AttnGateBwdReferenceIdeal.nD Cert.AttnGateBwdReferenceIdeal.τ).loc Cert.AttnGateBwdReferenceIdeal.main_arg4))).1 = (fun _ => 1#1)
    ∧ (Cert.Pre_finite_heads.fn (F := Ideal) (m ((c.tc : Thread Cert.AttnGateBwdReferenceIdeal.nD Cert.AttnGateBwdReferenceIdeal.τ).loc Cert.AttnGateBwdReferenceIdeal.main_arg0)) (m ((c.tc : Thread Cert.AttnGateBwdReferenceIdeal.nD Cert.AttnGateBwdReferenceIdeal.τ).loc Cert.AttnGateBwdReferenceIdeal.main_arg1)) (m ((c.tc : Thread Cert.AttnGateBwdReferenceIdeal.nD Cert.AttnGateBwdReferenceIdeal.τ).loc Cert.AttnGateBwdReferenceIdeal.main_arg2)) (m ((c.tc : Thread Cert.AttnGateBwdReferenceIdeal.nD Cert.AttnGateBwdReferenceIdeal.τ).loc Cert.AttnGateBwdReferenceIdeal.main_arg3)) (m ((c.tc : Thread Cert.AttnGateBwdReferenceIdeal.nD Cert.AttnGateBwdReferenceIdeal.τ).loc Cert.AttnGateBwdReferenceIdeal.main_arg4))).2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_InDh [hInDh : Cert.InDh.Facts] : Prop :=
  ∀ (m : (ℓ : Loc Cert.InDh.nD Cert.InDh.τ Cert.InDh.sig) → Buf (Elt Bits) ℓ) (g : Dev Cert.InDh.nD → PrngReg), Pre_InDh m →
    θ_run (Cert.InDh.defs (F := Bits)) (onTc (τ := Cert.InDh.τ) (Cert.InDh.main (F := Bits))) ⟨m, fun _ => 0, g⟩ (fun r => (∀ c : Dev Cert.InDh.nD,
      r.2.mem ((c.tc : Thread Cert.InDh.nD Cert.InDh.τ).loc Cert.InDh.main_arg0) = m ((c.tc : Thread Cert.InDh.nD Cert.InDh.τ).loc Cert.InDh.main_arg0)
      ∧ r.2.mem ((c.tc : Thread Cert.InDh.nD Cert.InDh.τ).loc Cert.InDh.main_arg1) = m ((c.tc : Thread Cert.InDh.nD Cert.InDh.τ).loc Cert.InDh.main_arg1))
      ∧ r.2.sem = fun _ => 0)

def quiescent_InDhIdeal [hInDhIdeal : Cert.InDhIdeal.Facts] : Prop :=
  ∀ (m : (ℓ : Loc Cert.InDhIdeal.nD Cert.InDhIdeal.τ Cert.InDhIdeal.sig) → Buf (Elt Ideal) ℓ) (g : Dev Cert.InDhIdeal.nD → PrngReg), Pre_InDhIdeal m →
    θ_run (Cert.InDhIdeal.defs (F := Ideal)) (onTc (τ := Cert.InDhIdeal.τ) (Cert.InDhIdeal.main (F := Ideal))) ⟨m, fun _ => 0, g⟩ (fun r => (∀ c : Dev Cert.InDhIdeal.nD,
      r.2.mem ((c.tc : Thread Cert.InDhIdeal.nD Cert.InDhIdeal.τ).loc Cert.InDhIdeal.main_arg0) = m ((c.tc : Thread Cert.InDhIdeal.nD Cert.InDhIdeal.τ).loc Cert.InDhIdeal.main_arg0)
      ∧ r.2.mem ((c.tc : Thread Cert.InDhIdeal.nD Cert.InDhIdeal.τ).loc Cert.InDhIdeal.main_arg1) = m ((c.tc : Thread Cert.InDhIdeal.nD Cert.InDhIdeal.τ).loc Cert.InDhIdeal.main_arg1))
      ∧ r.2.sem = fun _ => 0)

def quiescent_InDhReferenceIdeal [hInDhReferenceIdeal : Cert.InDhReferenceIdeal.Facts] : Prop :=
  ∀ (m : (ℓ : Loc Cert.InDhReferenceIdeal.nD Cert.InDhReferenceIdeal.τ Cert.InDhReferenceIdeal.sig) → Buf (Elt Ideal) ℓ) (g : Dev Cert.InDhReferenceIdeal.nD → PrngReg), Pre_InDhReferenceIdeal m →
    θ_run (Cert.InDhReferenceIdeal.defs (F := Ideal)) (onTc (τ := Cert.InDhReferenceIdeal.τ) (Cert.InDhReferenceIdeal.main (F := Ideal))) ⟨m, fun _ => 0, g⟩ (fun r => (∀ c : Dev Cert.InDhReferenceIdeal.nD,
      r.2.mem ((c.tc : Thread Cert.InDhReferenceIdeal.nD Cert.InDhReferenceIdeal.τ).loc Cert.InDhReferenceIdeal.main_arg0) = m ((c.tc : Thread Cert.InDhReferenceIdeal.nD Cert.InDhReferenceIdeal.τ).loc Cert.InDhReferenceIdeal.main_arg0)
      ∧ r.2.mem ((c.tc : Thread Cert.InDhReferenceIdeal.nD Cert.InDhReferenceIdeal.τ).loc Cert.InDhReferenceIdeal.main_arg1) = m ((c.tc : Thread Cert.InDhReferenceIdeal.nD Cert.InDhReferenceIdeal.τ).loc Cert.InDhReferenceIdeal.main_arg1))
      ∧ r.2.sem = fun _ => 0)

def quiescent_InDw [hInDw : Cert.InDw.Facts] : Prop :=
  ∀ (m : (ℓ : Loc Cert.InDw.nD Cert.InDw.τ Cert.InDw.sig) → Buf (Elt Bits) ℓ) (g : Dev Cert.InDw.nD → PrngReg), Pre_InDw m →
    θ_run (Cert.InDw.defs (F := Bits)) (onTc (τ := Cert.InDw.τ) (Cert.InDw.main (F := Bits))) ⟨m, fun _ => 0, g⟩ (fun r => (∀ c : Dev Cert.InDw.nD,
      r.2.mem ((c.tc : Thread Cert.InDw.nD Cert.InDw.τ).loc Cert.InDw.main_arg0) = m ((c.tc : Thread Cert.InDw.nD Cert.InDw.τ).loc Cert.InDw.main_arg0)
      ∧ r.2.mem ((c.tc : Thread Cert.InDw.nD Cert.InDw.τ).loc Cert.InDw.main_arg1) = m ((c.tc : Thread Cert.InDw.nD Cert.InDw.τ).loc Cert.InDw.main_arg1))
      ∧ r.2.sem = fun _ => 0)

def quiescent_InDwIdeal [hInDwIdeal : Cert.InDwIdeal.Facts] : Prop :=
  ∀ (m : (ℓ : Loc Cert.InDwIdeal.nD Cert.InDwIdeal.τ Cert.InDwIdeal.sig) → Buf (Elt Ideal) ℓ) (g : Dev Cert.InDwIdeal.nD → PrngReg), Pre_InDwIdeal m →
    θ_run (Cert.InDwIdeal.defs (F := Ideal)) (onTc (τ := Cert.InDwIdeal.τ) (Cert.InDwIdeal.main (F := Ideal))) ⟨m, fun _ => 0, g⟩ (fun r => (∀ c : Dev Cert.InDwIdeal.nD,
      r.2.mem ((c.tc : Thread Cert.InDwIdeal.nD Cert.InDwIdeal.τ).loc Cert.InDwIdeal.main_arg0) = m ((c.tc : Thread Cert.InDwIdeal.nD Cert.InDwIdeal.τ).loc Cert.InDwIdeal.main_arg0)
      ∧ r.2.mem ((c.tc : Thread Cert.InDwIdeal.nD Cert.InDwIdeal.τ).loc Cert.InDwIdeal.main_arg1) = m ((c.tc : Thread Cert.InDwIdeal.nD Cert.InDwIdeal.τ).loc Cert.InDwIdeal.main_arg1))
      ∧ r.2.sem = fun _ => 0)

def quiescent_InDwReferenceIdeal [hInDwReferenceIdeal : Cert.InDwReferenceIdeal.Facts] : Prop :=
  ∀ (m : (ℓ : Loc Cert.InDwReferenceIdeal.nD Cert.InDwReferenceIdeal.τ Cert.InDwReferenceIdeal.sig) → Buf (Elt Ideal) ℓ) (g : Dev Cert.InDwReferenceIdeal.nD → PrngReg), Pre_InDwReferenceIdeal m →
    θ_run (Cert.InDwReferenceIdeal.defs (F := Ideal)) (onTc (τ := Cert.InDwReferenceIdeal.τ) (Cert.InDwReferenceIdeal.main (F := Ideal))) ⟨m, fun _ => 0, g⟩ (fun r => (∀ c : Dev Cert.InDwReferenceIdeal.nD,
      r.2.mem ((c.tc : Thread Cert.InDwReferenceIdeal.nD Cert.InDwReferenceIdeal.τ).loc Cert.InDwReferenceIdeal.main_arg0) = m ((c.tc : Thread Cert.InDwReferenceIdeal.nD Cert.InDwReferenceIdeal.τ).loc Cert.InDwReferenceIdeal.main_arg0)
      ∧ r.2.mem ((c.tc : Thread Cert.InDwReferenceIdeal.nD Cert.InDwReferenceIdeal.τ).loc Cert.InDwReferenceIdeal.main_arg1) = m ((c.tc : Thread Cert.InDwReferenceIdeal.nD Cert.InDwReferenceIdeal.τ).loc Cert.InDwReferenceIdeal.main_arg1))
      ∧ r.2.sem = fun _ => 0)

def quiescent_OutDy [hOutDy : Cert.OutDy.Facts] : Prop :=
  ∀ (m : (ℓ : Loc Cert.OutDy.nD Cert.OutDy.τ Cert.OutDy.sig) → Buf (Elt Bits) ℓ) (g : Dev Cert.OutDy.nD → PrngReg), Pre_OutDy m →
    θ_run (Cert.OutDy.defs (F := Bits)) (onTc (τ := Cert.OutDy.τ) (Cert.OutDy.main (F := Bits))) ⟨m, fun _ => 0, g⟩ (fun r => (∀ c : Dev Cert.OutDy.nD,
      r.2.mem ((c.tc : Thread Cert.OutDy.nD Cert.OutDy.τ).loc Cert.OutDy.main_arg0) = m ((c.tc : Thread Cert.OutDy.nD Cert.OutDy.τ).loc Cert.OutDy.main_arg0)
      ∧ r.2.mem ((c.tc : Thread Cert.OutDy.nD Cert.OutDy.τ).loc Cert.OutDy.main_arg1) = m ((c.tc : Thread Cert.OutDy.nD Cert.OutDy.τ).loc Cert.OutDy.main_arg1))
      ∧ r.2.sem = fun _ => 0)

def quiescent_OutDyIdeal [hOutDyIdeal : Cert.OutDyIdeal.Facts] : Prop :=
  ∀ (m : (ℓ : Loc Cert.OutDyIdeal.nD Cert.OutDyIdeal.τ Cert.OutDyIdeal.sig) → Buf (Elt Ideal) ℓ) (g : Dev Cert.OutDyIdeal.nD → PrngReg), Pre_OutDyIdeal m →
    θ_run (Cert.OutDyIdeal.defs (F := Ideal)) (onTc (τ := Cert.OutDyIdeal.τ) (Cert.OutDyIdeal.main (F := Ideal))) ⟨m, fun _ => 0, g⟩ (fun r => (∀ c : Dev Cert.OutDyIdeal.nD,
      r.2.mem ((c.tc : Thread Cert.OutDyIdeal.nD Cert.OutDyIdeal.τ).loc Cert.OutDyIdeal.main_arg0) = m ((c.tc : Thread Cert.OutDyIdeal.nD Cert.OutDyIdeal.τ).loc Cert.OutDyIdeal.main_arg0)
      ∧ r.2.mem ((c.tc : Thread Cert.OutDyIdeal.nD Cert.OutDyIdeal.τ).loc Cert.OutDyIdeal.main_arg1) = m ((c.tc : Thread Cert.OutDyIdeal.nD Cert.OutDyIdeal.τ).loc Cert.OutDyIdeal.main_arg1))
      ∧ r.2.sem = fun _ => 0)

def quiescent_OutDyReferenceIdeal [hOutDyReferenceIdeal : Cert.OutDyReferenceIdeal.Facts] : Prop :=
  ∀ (m : (ℓ : Loc Cert.OutDyReferenceIdeal.nD Cert.OutDyReferenceIdeal.τ Cert.OutDyReferenceIdeal.sig) → Buf (Elt Ideal) ℓ) (g : Dev Cert.OutDyReferenceIdeal.nD → PrngReg), Pre_OutDyReferenceIdeal m →
    θ_run (Cert.OutDyReferenceIdeal.defs (F := Ideal)) (onTc (τ := Cert.OutDyReferenceIdeal.τ) (Cert.OutDyReferenceIdeal.main (F := Ideal))) ⟨m, fun _ => 0, g⟩ (fun r => (∀ c : Dev Cert.OutDyReferenceIdeal.nD,
      r.2.mem ((c.tc : Thread Cert.OutDyReferenceIdeal.nD Cert.OutDyReferenceIdeal.τ).loc Cert.OutDyReferenceIdeal.main_arg0) = m ((c.tc : Thread Cert.OutDyReferenceIdeal.nD Cert.OutDyReferenceIdeal.τ).loc Cert.OutDyReferenceIdeal.main_arg0)
      ∧ r.2.mem ((c.tc : Thread Cert.OutDyReferenceIdeal.nD Cert.OutDyReferenceIdeal.τ).loc Cert.OutDyReferenceIdeal.main_arg1) = m ((c.tc : Thread Cert.OutDyReferenceIdeal.nD Cert.OutDyReferenceIdeal.τ).loc Cert.OutDyReferenceIdeal.main_arg1))
      ∧ r.2.sem = fun _ => 0)

def quiescent_OutDw [hOutDw : Cert.OutDw.Facts] : Prop :=
  ∀ (m : (ℓ : Loc Cert.OutDw.nD Cert.OutDw.τ Cert.OutDw.sig) → Buf (Elt Bits) ℓ) (g : Dev Cert.OutDw.nD → PrngReg), Pre_OutDw m →
    θ_run (Cert.OutDw.defs (F := Bits)) (onTc (τ := Cert.OutDw.τ) (Cert.OutDw.main (F := Bits))) ⟨m, fun _ => 0, g⟩ (fun r => (∀ c : Dev Cert.OutDw.nD,
      r.2.mem ((c.tc : Thread Cert.OutDw.nD Cert.OutDw.τ).loc Cert.OutDw.main_arg0) = m ((c.tc : Thread Cert.OutDw.nD Cert.OutDw.τ).loc Cert.OutDw.main_arg0)
      ∧ r.2.mem ((c.tc : Thread Cert.OutDw.nD Cert.OutDw.τ).loc Cert.OutDw.main_arg1) = m ((c.tc : Thread Cert.OutDw.nD Cert.OutDw.τ).loc Cert.OutDw.main_arg1))
      ∧ r.2.sem = fun _ => 0)

def quiescent_OutDwIdeal [hOutDwIdeal : Cert.OutDwIdeal.Facts] : Prop :=
  ∀ (m : (ℓ : Loc Cert.OutDwIdeal.nD Cert.OutDwIdeal.τ Cert.OutDwIdeal.sig) → Buf (Elt Ideal) ℓ) (g : Dev Cert.OutDwIdeal.nD → PrngReg), Pre_OutDwIdeal m →
    θ_run (Cert.OutDwIdeal.defs (F := Ideal)) (onTc (τ := Cert.OutDwIdeal.τ) (Cert.OutDwIdeal.main (F := Ideal))) ⟨m, fun _ => 0, g⟩ (fun r => (∀ c : Dev Cert.OutDwIdeal.nD,
      r.2.mem ((c.tc : Thread Cert.OutDwIdeal.nD Cert.OutDwIdeal.τ).loc Cert.OutDwIdeal.main_arg0) = m ((c.tc : Thread Cert.OutDwIdeal.nD Cert.OutDwIdeal.τ).loc Cert.OutDwIdeal.main_arg0)
      ∧ r.2.mem ((c.tc : Thread Cert.OutDwIdeal.nD Cert.OutDwIdeal.τ).loc Cert.OutDwIdeal.main_arg1) = m ((c.tc : Thread Cert.OutDwIdeal.nD Cert.OutDwIdeal.τ).loc Cert.OutDwIdeal.main_arg1))
      ∧ r.2.sem = fun _ => 0)

def quiescent_OutDwReferenceIdeal [hOutDwReferenceIdeal : Cert.OutDwReferenceIdeal.Facts] : Prop :=
  ∀ (m : (ℓ : Loc Cert.OutDwReferenceIdeal.nD Cert.OutDwReferenceIdeal.τ Cert.OutDwReferenceIdeal.sig) → Buf (Elt Ideal) ℓ) (g : Dev Cert.OutDwReferenceIdeal.nD → PrngReg), Pre_OutDwReferenceIdeal m →
    θ_run (Cert.OutDwReferenceIdeal.defs (F := Ideal)) (onTc (τ := Cert.OutDwReferenceIdeal.τ) (Cert.OutDwReferenceIdeal.main (F := Ideal))) ⟨m, fun _ => 0, g⟩ (fun r => (∀ c : Dev Cert.OutDwReferenceIdeal.nD,
      r.2.mem ((c.tc : Thread Cert.OutDwReferenceIdeal.nD Cert.OutDwReferenceIdeal.τ).loc Cert.OutDwReferenceIdeal.main_arg0) = m ((c.tc : Thread Cert.OutDwReferenceIdeal.nD Cert.OutDwReferenceIdeal.τ).loc Cert.OutDwReferenceIdeal.main_arg0)
      ∧ r.2.mem ((c.tc : Thread Cert.OutDwReferenceIdeal.nD Cert.OutDwReferenceIdeal.τ).loc Cert.OutDwReferenceIdeal.main_arg1) = m ((c.tc : Thread Cert.OutDwReferenceIdeal.nD Cert.OutDwReferenceIdeal.τ).loc Cert.OutDwReferenceIdeal.main_arg1))
      ∧ r.2.sem = fun _ => 0)

def quiescent_InFwd [hInFwd : Cert.InFwd.Facts] : Prop :=
  ∀ (m : (ℓ : Loc Cert.InFwd.nD Cert.InFwd.τ Cert.InFwd.sig) → Buf (Elt Bits) ℓ) (g : Dev Cert.InFwd.nD → PrngReg), Pre_InFwd m →
    θ_run (Cert.InFwd.defs (F := Bits)) (onTc (τ := Cert.InFwd.τ) (Cert.InFwd.main (F := Bits))) ⟨m, fun _ => 0, g⟩ (fun r => (∀ c : Dev Cert.InFwd.nD,
      r.2.mem ((c.tc : Thread Cert.InFwd.nD Cert.InFwd.τ).loc Cert.InFwd.main_arg0) = m ((c.tc : Thread Cert.InFwd.nD Cert.InFwd.τ).loc Cert.InFwd.main_arg0)
      ∧ r.2.mem ((c.tc : Thread Cert.InFwd.nD Cert.InFwd.τ).loc Cert.InFwd.main_arg1) = m ((c.tc : Thread Cert.InFwd.nD Cert.InFwd.τ).loc Cert.InFwd.main_arg1))
      ∧ r.2.sem = fun _ => 0)

def quiescent_InFwdIdeal [hInFwdIdeal : Cert.InFwdIdeal.Facts] : Prop :=
  ∀ (m : (ℓ : Loc Cert.InFwdIdeal.nD Cert.InFwdIdeal.τ Cert.InFwdIdeal.sig) → Buf (Elt Ideal) ℓ) (g : Dev Cert.InFwdIdeal.nD → PrngReg), Pre_InFwdIdeal m →
    θ_run (Cert.InFwdIdeal.defs (F := Ideal)) (onTc (τ := Cert.InFwdIdeal.τ) (Cert.InFwdIdeal.main (F := Ideal))) ⟨m, fun _ => 0, g⟩ (fun r => (∀ c : Dev Cert.InFwdIdeal.nD,
      r.2.mem ((c.tc : Thread Cert.InFwdIdeal.nD Cert.InFwdIdeal.τ).loc Cert.InFwdIdeal.main_arg0) = m ((c.tc : Thread Cert.InFwdIdeal.nD Cert.InFwdIdeal.τ).loc Cert.InFwdIdeal.main_arg0)
      ∧ r.2.mem ((c.tc : Thread Cert.InFwdIdeal.nD Cert.InFwdIdeal.τ).loc Cert.InFwdIdeal.main_arg1) = m ((c.tc : Thread Cert.InFwdIdeal.nD Cert.InFwdIdeal.τ).loc Cert.InFwdIdeal.main_arg1))
      ∧ r.2.sem = fun _ => 0)

def quiescent_InFwdReferenceIdeal [hInFwdReferenceIdeal : Cert.InFwdReferenceIdeal.Facts] : Prop :=
  ∀ (m : (ℓ : Loc Cert.InFwdReferenceIdeal.nD Cert.InFwdReferenceIdeal.τ Cert.InFwdReferenceIdeal.sig) → Buf (Elt Ideal) ℓ) (g : Dev Cert.InFwdReferenceIdeal.nD → PrngReg), Pre_InFwdReferenceIdeal m →
    θ_run (Cert.InFwdReferenceIdeal.defs (F := Ideal)) (onTc (τ := Cert.InFwdReferenceIdeal.τ) (Cert.InFwdReferenceIdeal.main (F := Ideal))) ⟨m, fun _ => 0, g⟩ (fun r => (∀ c : Dev Cert.InFwdReferenceIdeal.nD,
      r.2.mem ((c.tc : Thread Cert.InFwdReferenceIdeal.nD Cert.InFwdReferenceIdeal.τ).loc Cert.InFwdReferenceIdeal.main_arg0) = m ((c.tc : Thread Cert.InFwdReferenceIdeal.nD Cert.InFwdReferenceIdeal.τ).loc Cert.InFwdReferenceIdeal.main_arg0)
      ∧ r.2.mem ((c.tc : Thread Cert.InFwdReferenceIdeal.nD Cert.InFwdReferenceIdeal.τ).loc Cert.InFwdReferenceIdeal.main_arg1) = m ((c.tc : Thread Cert.InFwdReferenceIdeal.nD Cert.InFwdReferenceIdeal.τ).loc Cert.InFwdReferenceIdeal.main_arg1))
      ∧ r.2.sem = fun _ => 0)

def quiescent_OutFwd [hOutFwd : Cert.OutFwd.Facts] : Prop :=
  ∀ (m : (ℓ : Loc Cert.OutFwd.nD Cert.OutFwd.τ Cert.OutFwd.sig) → Buf (Elt Bits) ℓ) (g : Dev Cert.OutFwd.nD → PrngReg), Pre_OutFwd m →
    θ_run (Cert.OutFwd.defs (F := Bits)) (onTc (τ := Cert.OutFwd.τ) (Cert.OutFwd.main (F := Bits))) ⟨m, fun _ => 0, g⟩ (fun r => (∀ c : Dev Cert.OutFwd.nD,
      r.2.mem ((c.tc : Thread Cert.OutFwd.nD Cert.OutFwd.τ).loc Cert.OutFwd.main_arg0) = m ((c.tc : Thread Cert.OutFwd.nD Cert.OutFwd.τ).loc Cert.OutFwd.main_arg0)
      ∧ r.2.mem ((c.tc : Thread Cert.OutFwd.nD Cert.OutFwd.τ).loc Cert.OutFwd.main_arg1) = m ((c.tc : Thread Cert.OutFwd.nD Cert.OutFwd.τ).loc Cert.OutFwd.main_arg1)
      ∧ r.2.mem ((c.tc : Thread Cert.OutFwd.nD Cert.OutFwd.τ).loc Cert.OutFwd.main_arg2) = m ((c.tc : Thread Cert.OutFwd.nD Cert.OutFwd.τ).loc Cert.OutFwd.main_arg2))
      ∧ r.2.sem = fun _ => 0)

def quiescent_OutFwdIdeal [hOutFwdIdeal : Cert.OutFwdIdeal.Facts] : Prop :=
  ∀ (m : (ℓ : Loc Cert.OutFwdIdeal.nD Cert.OutFwdIdeal.τ Cert.OutFwdIdeal.sig) → Buf (Elt Ideal) ℓ) (g : Dev Cert.OutFwdIdeal.nD → PrngReg), Pre_OutFwdIdeal m →
    θ_run (Cert.OutFwdIdeal.defs (F := Ideal)) (onTc (τ := Cert.OutFwdIdeal.τ) (Cert.OutFwdIdeal.main (F := Ideal))) ⟨m, fun _ => 0, g⟩ (fun r => (∀ c : Dev Cert.OutFwdIdeal.nD,
      r.2.mem ((c.tc : Thread Cert.OutFwdIdeal.nD Cert.OutFwdIdeal.τ).loc Cert.OutFwdIdeal.main_arg0) = m ((c.tc : Thread Cert.OutFwdIdeal.nD Cert.OutFwdIdeal.τ).loc Cert.OutFwdIdeal.main_arg0)
      ∧ r.2.mem ((c.tc : Thread Cert.OutFwdIdeal.nD Cert.OutFwdIdeal.τ).loc Cert.OutFwdIdeal.main_arg1) = m ((c.tc : Thread Cert.OutFwdIdeal.nD Cert.OutFwdIdeal.τ).loc Cert.OutFwdIdeal.main_arg1)
      ∧ r.2.mem ((c.tc : Thread Cert.OutFwdIdeal.nD Cert.OutFwdIdeal.τ).loc Cert.OutFwdIdeal.main_arg2) = m ((c.tc : Thread Cert.OutFwdIdeal.nD Cert.OutFwdIdeal.τ).loc Cert.OutFwdIdeal.main_arg2))
      ∧ r.2.sem = fun _ => 0)

def quiescent_OutFwdReferenceIdeal [hOutFwdReferenceIdeal : Cert.OutFwdReferenceIdeal.Facts] : Prop :=
  ∀ (m : (ℓ : Loc Cert.OutFwdReferenceIdeal.nD Cert.OutFwdReferenceIdeal.τ Cert.OutFwdReferenceIdeal.sig) → Buf (Elt Ideal) ℓ) (g : Dev Cert.OutFwdReferenceIdeal.nD → PrngReg), Pre_OutFwdReferenceIdeal m →
    θ_run (Cert.OutFwdReferenceIdeal.defs (F := Ideal)) (onTc (τ := Cert.OutFwdReferenceIdeal.τ) (Cert.OutFwdReferenceIdeal.main (F := Ideal))) ⟨m, fun _ => 0, g⟩ (fun r => (∀ c : Dev Cert.OutFwdReferenceIdeal.nD,
      r.2.mem ((c.tc : Thread Cert.OutFwdReferenceIdeal.nD Cert.OutFwdReferenceIdeal.τ).loc Cert.OutFwdReferenceIdeal.main_arg0) = m ((c.tc : Thread Cert.OutFwdReferenceIdeal.nD Cert.OutFwdReferenceIdeal.τ).loc Cert.OutFwdReferenceIdeal.main_arg0)
      ∧ r.2.mem ((c.tc : Thread Cert.OutFwdReferenceIdeal.nD Cert.OutFwdReferenceIdeal.τ).loc Cert.OutFwdReferenceIdeal.main_arg1) = m ((c.tc : Thread Cert.OutFwdReferenceIdeal.nD Cert.OutFwdReferenceIdeal.τ).loc Cert.OutFwdReferenceIdeal.main_arg1)
      ∧ r.2.mem ((c.tc : Thread Cert.OutFwdReferenceIdeal.nD Cert.OutFwdReferenceIdeal.τ).loc Cert.OutFwdReferenceIdeal.main_arg2) = m ((c.tc : Thread Cert.OutFwdReferenceIdeal.nD Cert.OutFwdReferenceIdeal.τ).loc Cert.OutFwdReferenceIdeal.main_arg2))
      ∧ r.2.sem = fun _ => 0)

def quiescent_OutLoss [hOutLoss : Cert.OutLoss.Facts] : Prop :=
  ∀ (m : (ℓ : Loc Cert.OutLoss.nD Cert.OutLoss.τ Cert.OutLoss.sig) → Buf (Elt Bits) ℓ) (g : Dev Cert.OutLoss.nD → PrngReg), Pre_OutLoss m →
    θ_run (Cert.OutLoss.defs (F := Bits)) (onTc (τ := Cert.OutLoss.τ) (Cert.OutLoss.main (F := Bits))) ⟨m, fun _ => 0, g⟩ (fun r => (∀ c : Dev Cert.OutLoss.nD,
      r.2.mem ((c.tc : Thread Cert.OutLoss.nD Cert.OutLoss.τ).loc Cert.OutLoss.main_arg0) = m ((c.tc : Thread Cert.OutLoss.nD Cert.OutLoss.τ).loc Cert.OutLoss.main_arg0)
      ∧ r.2.mem ((c.tc : Thread Cert.OutLoss.nD Cert.OutLoss.τ).loc Cert.OutLoss.main_arg1) = m ((c.tc : Thread Cert.OutLoss.nD Cert.OutLoss.τ).loc Cert.OutLoss.main_arg1)
      ∧ r.2.mem ((c.tc : Thread Cert.OutLoss.nD Cert.OutLoss.τ).loc Cert.OutLoss.main_arg2) = m ((c.tc : Thread Cert.OutLoss.nD Cert.OutLoss.τ).loc Cert.OutLoss.main_arg2)
      ∧ r.2.mem ((c.tc : Thread Cert.OutLoss.nD Cert.OutLoss.τ).loc Cert.OutLoss.main_arg3) = m ((c.tc : Thread Cert.OutLoss.nD Cert.OutLoss.τ).loc Cert.OutLoss.main_arg3))
      ∧ r.2.sem = fun _ => 0)

def quiescent_OutLossIdeal [hOutLossIdeal : Cert.OutLossIdeal.Facts] : Prop :=
  ∀ (m : (ℓ : Loc Cert.OutLossIdeal.nD Cert.OutLossIdeal.τ Cert.OutLossIdeal.sig) → Buf (Elt Ideal) ℓ) (g : Dev Cert.OutLossIdeal.nD → PrngReg), Pre_OutLossIdeal m →
    θ_run (Cert.OutLossIdeal.defs (F := Ideal)) (onTc (τ := Cert.OutLossIdeal.τ) (Cert.OutLossIdeal.main (F := Ideal))) ⟨m, fun _ => 0, g⟩ (fun r => (∀ c : Dev Cert.OutLossIdeal.nD,
      r.2.mem ((c.tc : Thread Cert.OutLossIdeal.nD Cert.OutLossIdeal.τ).loc Cert.OutLossIdeal.main_arg0) = m ((c.tc : Thread Cert.OutLossIdeal.nD Cert.OutLossIdeal.τ).loc Cert.OutLossIdeal.main_arg0)
      ∧ r.2.mem ((c.tc : Thread Cert.OutLossIdeal.nD Cert.OutLossIdeal.τ).loc Cert.OutLossIdeal.main_arg1) = m ((c.tc : Thread Cert.OutLossIdeal.nD Cert.OutLossIdeal.τ).loc Cert.OutLossIdeal.main_arg1)
      ∧ r.2.mem ((c.tc : Thread Cert.OutLossIdeal.nD Cert.OutLossIdeal.τ).loc Cert.OutLossIdeal.main_arg2) = m ((c.tc : Thread Cert.OutLossIdeal.nD Cert.OutLossIdeal.τ).loc Cert.OutLossIdeal.main_arg2)
      ∧ r.2.mem ((c.tc : Thread Cert.OutLossIdeal.nD Cert.OutLossIdeal.τ).loc Cert.OutLossIdeal.main_arg3) = m ((c.tc : Thread Cert.OutLossIdeal.nD Cert.OutLossIdeal.τ).loc Cert.OutLossIdeal.main_arg3))
      ∧ r.2.sem = fun _ => 0)

def quiescent_OutLossReferenceIdeal [hOutLossReferenceIdeal : Cert.OutLossReferenceIdeal.Facts] : Prop :=
  ∀ (m : (ℓ : Loc Cert.OutLossReferenceIdeal.nD Cert.OutLossReferenceIdeal.τ Cert.OutLossReferenceIdeal.sig) → Buf (Elt Ideal) ℓ) (g : Dev Cert.OutLossReferenceIdeal.nD → PrngReg), Pre_OutLossReferenceIdeal m →
    θ_run (Cert.OutLossReferenceIdeal.defs (F := Ideal)) (onTc (τ := Cert.OutLossReferenceIdeal.τ) (Cert.OutLossReferenceIdeal.main (F := Ideal))) ⟨m, fun _ => 0, g⟩ (fun r => (∀ c : Dev Cert.OutLossReferenceIdeal.nD,
      r.2.mem ((c.tc : Thread Cert.OutLossReferenceIdeal.nD Cert.OutLossReferenceIdeal.τ).loc Cert.OutLossReferenceIdeal.main_arg0) = m ((c.tc : Thread Cert.OutLossReferenceIdeal.nD Cert.OutLossReferenceIdeal.τ).loc Cert.OutLossReferenceIdeal.main_arg0)
      ∧ r.2.mem ((c.tc : Thread Cert.OutLossReferenceIdeal.nD Cert.OutLossReferenceIdeal.τ).loc Cert.OutLossReferenceIdeal.main_arg1) = m ((c.tc : Thread Cert.OutLossReferenceIdeal.nD Cert.OutLossReferenceIdeal.τ).loc Cert.OutLossReferenceIdeal.main_arg1)
      ∧ r.2.mem ((c.tc : Thread Cert.OutLossReferenceIdeal.nD Cert.OutLossReferenceIdeal.τ).loc Cert.OutLossReferenceIdeal.main_arg2) = m ((c.tc : Thread Cert.OutLossReferenceIdeal.nD Cert.OutLossReferenceIdeal.τ).loc Cert.OutLossReferenceIdeal.main_arg2)
      ∧ r.2.mem ((c.tc : Thread Cert.OutLossReferenceIdeal.nD Cert.OutLossReferenceIdeal.τ).loc Cert.OutLossReferenceIdeal.main_arg3) = m ((c.tc : Thread Cert.OutLossReferenceIdeal.nD Cert.OutLossReferenceIdeal.τ).loc Cert.OutLossReferenceIdeal.main_arg3))
      ∧ r.2.sem = fun _ => 0)

def quiescent_AdamWIn [hAdamWIn : Cert.AdamWIn.Facts] : Prop :=
  ∀ (m : (ℓ : Loc Cert.AdamWIn.nD Cert.AdamWIn.τ Cert.AdamWIn.sig) → Buf (Elt Bits) ℓ) (g : Dev Cert.AdamWIn.nD → PrngReg), Pre_AdamWIn m →
    θ_run (Cert.AdamWIn.defs (F := Bits)) (onTc (τ := Cert.AdamWIn.τ) (Cert.AdamWIn.main (F := Bits))) ⟨m, fun _ => 0, g⟩ (fun r => (∀ c : Dev Cert.AdamWIn.nD,
      r.2.mem ((c.tc : Thread Cert.AdamWIn.nD Cert.AdamWIn.τ).loc Cert.AdamWIn.main_arg0) = m ((c.tc : Thread Cert.AdamWIn.nD Cert.AdamWIn.τ).loc Cert.AdamWIn.main_arg0)
      ∧ r.2.mem ((c.tc : Thread Cert.AdamWIn.nD Cert.AdamWIn.τ).loc Cert.AdamWIn.main_arg1) = m ((c.tc : Thread Cert.AdamWIn.nD Cert.AdamWIn.τ).loc Cert.AdamWIn.main_arg1)
      ∧ r.2.mem ((c.tc : Thread Cert.AdamWIn.nD Cert.AdamWIn.τ).loc Cert.AdamWIn.main_arg2) = m ((c.tc : Thread Cert.AdamWIn.nD Cert.AdamWIn.τ).loc Cert.AdamWIn.main_arg2)
      ∧ r.2.mem ((c.tc : Thread Cert.AdamWIn.nD Cert.AdamWIn.τ).loc Cert.AdamWIn.main_arg3) = m ((c.tc : Thread Cert.AdamWIn.nD Cert.AdamWIn.τ).loc Cert.AdamWIn.main_arg3))
      ∧ r.2.sem = fun _ => 0)

def quiescent_AdamWInIdeal [hAdamWInIdeal : Cert.AdamWInIdeal.Facts] : Prop :=
  ∀ (m : (ℓ : Loc Cert.AdamWInIdeal.nD Cert.AdamWInIdeal.τ Cert.AdamWInIdeal.sig) → Buf (Elt Ideal) ℓ) (g : Dev Cert.AdamWInIdeal.nD → PrngReg), Pre_AdamWInIdeal m →
    θ_run (Cert.AdamWInIdeal.defs (F := Ideal)) (onTc (τ := Cert.AdamWInIdeal.τ) (Cert.AdamWInIdeal.main (F := Ideal))) ⟨m, fun _ => 0, g⟩ (fun r => (∀ c : Dev Cert.AdamWInIdeal.nD,
      r.2.mem ((c.tc : Thread Cert.AdamWInIdeal.nD Cert.AdamWInIdeal.τ).loc Cert.AdamWInIdeal.main_arg0) = m ((c.tc : Thread Cert.AdamWInIdeal.nD Cert.AdamWInIdeal.τ).loc Cert.AdamWInIdeal.main_arg0)
      ∧ r.2.mem ((c.tc : Thread Cert.AdamWInIdeal.nD Cert.AdamWInIdeal.τ).loc Cert.AdamWInIdeal.main_arg1) = m ((c.tc : Thread Cert.AdamWInIdeal.nD Cert.AdamWInIdeal.τ).loc Cert.AdamWInIdeal.main_arg1)
      ∧ r.2.mem ((c.tc : Thread Cert.AdamWInIdeal.nD Cert.AdamWInIdeal.τ).loc Cert.AdamWInIdeal.main_arg2) = m ((c.tc : Thread Cert.AdamWInIdeal.nD Cert.AdamWInIdeal.τ).loc Cert.AdamWInIdeal.main_arg2)
      ∧ r.2.mem ((c.tc : Thread Cert.AdamWInIdeal.nD Cert.AdamWInIdeal.τ).loc Cert.AdamWInIdeal.main_arg3) = m ((c.tc : Thread Cert.AdamWInIdeal.nD Cert.AdamWInIdeal.τ).loc Cert.AdamWInIdeal.main_arg3))
      ∧ r.2.sem = fun _ => 0)

def quiescent_AdamWInReferenceIdeal [hAdamWInReferenceIdeal : Cert.AdamWInReferenceIdeal.Facts] : Prop :=
  ∀ (m : (ℓ : Loc Cert.AdamWInReferenceIdeal.nD Cert.AdamWInReferenceIdeal.τ Cert.AdamWInReferenceIdeal.sig) → Buf (Elt Ideal) ℓ) (g : Dev Cert.AdamWInReferenceIdeal.nD → PrngReg), Pre_AdamWInReferenceIdeal m →
    θ_run (Cert.AdamWInReferenceIdeal.defs (F := Ideal)) (onTc (τ := Cert.AdamWInReferenceIdeal.τ) (Cert.AdamWInReferenceIdeal.main (F := Ideal))) ⟨m, fun _ => 0, g⟩ (fun r => (∀ c : Dev Cert.AdamWInReferenceIdeal.nD,
      r.2.mem ((c.tc : Thread Cert.AdamWInReferenceIdeal.nD Cert.AdamWInReferenceIdeal.τ).loc Cert.AdamWInReferenceIdeal.main_arg0) = m ((c.tc : Thread Cert.AdamWInReferenceIdeal.nD Cert.AdamWInReferenceIdeal.τ).loc Cert.AdamWInReferenceIdeal.main_arg0)
      ∧ r.2.mem ((c.tc : Thread Cert.AdamWInReferenceIdeal.nD Cert.AdamWInReferenceIdeal.τ).loc Cert.AdamWInReferenceIdeal.main_arg1) = m ((c.tc : Thread Cert.AdamWInReferenceIdeal.nD Cert.AdamWInReferenceIdeal.τ).loc Cert.AdamWInReferenceIdeal.main_arg1)
      ∧ r.2.mem ((c.tc : Thread Cert.AdamWInReferenceIdeal.nD Cert.AdamWInReferenceIdeal.τ).loc Cert.AdamWInReferenceIdeal.main_arg2) = m ((c.tc : Thread Cert.AdamWInReferenceIdeal.nD Cert.AdamWInReferenceIdeal.τ).loc Cert.AdamWInReferenceIdeal.main_arg2)
      ∧ r.2.mem ((c.tc : Thread Cert.AdamWInReferenceIdeal.nD Cert.AdamWInReferenceIdeal.τ).loc Cert.AdamWInReferenceIdeal.main_arg3) = m ((c.tc : Thread Cert.AdamWInReferenceIdeal.nD Cert.AdamWInReferenceIdeal.τ).loc Cert.AdamWInReferenceIdeal.main_arg3))
      ∧ r.2.sem = fun _ => 0)

def quiescent_AdamNorm [hAdamNorm : Cert.AdamNorm.Facts] : Prop :=
  ∀ (m : (ℓ : Loc Cert.AdamNorm.nD Cert.AdamNorm.τ Cert.AdamNorm.sig) → Buf (Elt Bits) ℓ) (g : Dev Cert.AdamNorm.nD → PrngReg), Pre_AdamNorm m →
    θ_run (Cert.AdamNorm.defs (F := Bits)) (onTc (τ := Cert.AdamNorm.τ) (Cert.AdamNorm.main (F := Bits))) ⟨m, fun _ => 0, g⟩ (fun r => (∀ c : Dev Cert.AdamNorm.nD,
      r.2.mem ((c.tc : Thread Cert.AdamNorm.nD Cert.AdamNorm.τ).loc Cert.AdamNorm.main_arg0) = m ((c.tc : Thread Cert.AdamNorm.nD Cert.AdamNorm.τ).loc Cert.AdamNorm.main_arg0)
      ∧ r.2.mem ((c.tc : Thread Cert.AdamNorm.nD Cert.AdamNorm.τ).loc Cert.AdamNorm.main_arg1) = m ((c.tc : Thread Cert.AdamNorm.nD Cert.AdamNorm.τ).loc Cert.AdamNorm.main_arg1)
      ∧ r.2.mem ((c.tc : Thread Cert.AdamNorm.nD Cert.AdamNorm.τ).loc Cert.AdamNorm.main_arg2) = m ((c.tc : Thread Cert.AdamNorm.nD Cert.AdamNorm.τ).loc Cert.AdamNorm.main_arg2)
      ∧ r.2.mem ((c.tc : Thread Cert.AdamNorm.nD Cert.AdamNorm.τ).loc Cert.AdamNorm.main_arg3) = m ((c.tc : Thread Cert.AdamNorm.nD Cert.AdamNorm.τ).loc Cert.AdamNorm.main_arg3))
      ∧ r.2.sem = fun _ => 0)

def quiescent_AdamNormIdeal [hAdamNormIdeal : Cert.AdamNormIdeal.Facts] : Prop :=
  ∀ (m : (ℓ : Loc Cert.AdamNormIdeal.nD Cert.AdamNormIdeal.τ Cert.AdamNormIdeal.sig) → Buf (Elt Ideal) ℓ) (g : Dev Cert.AdamNormIdeal.nD → PrngReg), Pre_AdamNormIdeal m →
    θ_run (Cert.AdamNormIdeal.defs (F := Ideal)) (onTc (τ := Cert.AdamNormIdeal.τ) (Cert.AdamNormIdeal.main (F := Ideal))) ⟨m, fun _ => 0, g⟩ (fun r => (∀ c : Dev Cert.AdamNormIdeal.nD,
      r.2.mem ((c.tc : Thread Cert.AdamNormIdeal.nD Cert.AdamNormIdeal.τ).loc Cert.AdamNormIdeal.main_arg0) = m ((c.tc : Thread Cert.AdamNormIdeal.nD Cert.AdamNormIdeal.τ).loc Cert.AdamNormIdeal.main_arg0)
      ∧ r.2.mem ((c.tc : Thread Cert.AdamNormIdeal.nD Cert.AdamNormIdeal.τ).loc Cert.AdamNormIdeal.main_arg1) = m ((c.tc : Thread Cert.AdamNormIdeal.nD Cert.AdamNormIdeal.τ).loc Cert.AdamNormIdeal.main_arg1)
      ∧ r.2.mem ((c.tc : Thread Cert.AdamNormIdeal.nD Cert.AdamNormIdeal.τ).loc Cert.AdamNormIdeal.main_arg2) = m ((c.tc : Thread Cert.AdamNormIdeal.nD Cert.AdamNormIdeal.τ).loc Cert.AdamNormIdeal.main_arg2)
      ∧ r.2.mem ((c.tc : Thread Cert.AdamNormIdeal.nD Cert.AdamNormIdeal.τ).loc Cert.AdamNormIdeal.main_arg3) = m ((c.tc : Thread Cert.AdamNormIdeal.nD Cert.AdamNormIdeal.τ).loc Cert.AdamNormIdeal.main_arg3))
      ∧ r.2.sem = fun _ => 0)

def quiescent_AdamNormReferenceIdeal [hAdamNormReferenceIdeal : Cert.AdamNormReferenceIdeal.Facts] : Prop :=
  ∀ (m : (ℓ : Loc Cert.AdamNormReferenceIdeal.nD Cert.AdamNormReferenceIdeal.τ Cert.AdamNormReferenceIdeal.sig) → Buf (Elt Ideal) ℓ) (g : Dev Cert.AdamNormReferenceIdeal.nD → PrngReg), Pre_AdamNormReferenceIdeal m →
    θ_run (Cert.AdamNormReferenceIdeal.defs (F := Ideal)) (onTc (τ := Cert.AdamNormReferenceIdeal.τ) (Cert.AdamNormReferenceIdeal.main (F := Ideal))) ⟨m, fun _ => 0, g⟩ (fun r => (∀ c : Dev Cert.AdamNormReferenceIdeal.nD,
      r.2.mem ((c.tc : Thread Cert.AdamNormReferenceIdeal.nD Cert.AdamNormReferenceIdeal.τ).loc Cert.AdamNormReferenceIdeal.main_arg0) = m ((c.tc : Thread Cert.AdamNormReferenceIdeal.nD Cert.AdamNormReferenceIdeal.τ).loc Cert.AdamNormReferenceIdeal.main_arg0)
      ∧ r.2.mem ((c.tc : Thread Cert.AdamNormReferenceIdeal.nD Cert.AdamNormReferenceIdeal.τ).loc Cert.AdamNormReferenceIdeal.main_arg1) = m ((c.tc : Thread Cert.AdamNormReferenceIdeal.nD Cert.AdamNormReferenceIdeal.τ).loc Cert.AdamNormReferenceIdeal.main_arg1)
      ∧ r.2.mem ((c.tc : Thread Cert.AdamNormReferenceIdeal.nD Cert.AdamNormReferenceIdeal.τ).loc Cert.AdamNormReferenceIdeal.main_arg2) = m ((c.tc : Thread Cert.AdamNormReferenceIdeal.nD Cert.AdamNormReferenceIdeal.τ).loc Cert.AdamNormReferenceIdeal.main_arg2)
      ∧ r.2.mem ((c.tc : Thread Cert.AdamNormReferenceIdeal.nD Cert.AdamNormReferenceIdeal.τ).loc Cert.AdamNormReferenceIdeal.main_arg3) = m ((c.tc : Thread Cert.AdamNormReferenceIdeal.nD Cert.AdamNormReferenceIdeal.τ).loc Cert.AdamNormReferenceIdeal.main_arg3))
      ∧ r.2.sem = fun _ => 0)

def quiescent_AdamGroup [hAdamGroup : Cert.AdamGroup.Facts] : Prop :=
  ∀ (m : (ℓ : Loc Cert.AdamGroup.nD Cert.AdamGroup.τ Cert.AdamGroup.sig) → Buf (Elt Bits) ℓ) (g : Dev Cert.AdamGroup.nD → PrngReg), Pre_AdamGroup m →
    θ_run (Cert.AdamGroup.defs (F := Bits)) (onTc (τ := Cert.AdamGroup.τ) (Cert.AdamGroup.main (F := Bits))) ⟨m, fun _ => 0, g⟩ (fun r => (∀ c : Dev Cert.AdamGroup.nD,
      r.2.mem ((c.tc : Thread Cert.AdamGroup.nD Cert.AdamGroup.τ).loc Cert.AdamGroup.main_arg0) = m ((c.tc : Thread Cert.AdamGroup.nD Cert.AdamGroup.τ).loc Cert.AdamGroup.main_arg0)
      ∧ r.2.mem ((c.tc : Thread Cert.AdamGroup.nD Cert.AdamGroup.τ).loc Cert.AdamGroup.main_arg1) = m ((c.tc : Thread Cert.AdamGroup.nD Cert.AdamGroup.τ).loc Cert.AdamGroup.main_arg1)
      ∧ r.2.mem ((c.tc : Thread Cert.AdamGroup.nD Cert.AdamGroup.τ).loc Cert.AdamGroup.main_arg2) = m ((c.tc : Thread Cert.AdamGroup.nD Cert.AdamGroup.τ).loc Cert.AdamGroup.main_arg2)
      ∧ r.2.mem ((c.tc : Thread Cert.AdamGroup.nD Cert.AdamGroup.τ).loc Cert.AdamGroup.main_arg3) = m ((c.tc : Thread Cert.AdamGroup.nD Cert.AdamGroup.τ).loc Cert.AdamGroup.main_arg3))
      ∧ r.2.sem = fun _ => 0)

def quiescent_AdamGroupIdeal [hAdamGroupIdeal : Cert.AdamGroupIdeal.Facts] : Prop :=
  ∀ (m : (ℓ : Loc Cert.AdamGroupIdeal.nD Cert.AdamGroupIdeal.τ Cert.AdamGroupIdeal.sig) → Buf (Elt Ideal) ℓ) (g : Dev Cert.AdamGroupIdeal.nD → PrngReg), Pre_AdamGroupIdeal m →
    θ_run (Cert.AdamGroupIdeal.defs (F := Ideal)) (onTc (τ := Cert.AdamGroupIdeal.τ) (Cert.AdamGroupIdeal.main (F := Ideal))) ⟨m, fun _ => 0, g⟩ (fun r => (∀ c : Dev Cert.AdamGroupIdeal.nD,
      r.2.mem ((c.tc : Thread Cert.AdamGroupIdeal.nD Cert.AdamGroupIdeal.τ).loc Cert.AdamGroupIdeal.main_arg0) = m ((c.tc : Thread Cert.AdamGroupIdeal.nD Cert.AdamGroupIdeal.τ).loc Cert.AdamGroupIdeal.main_arg0)
      ∧ r.2.mem ((c.tc : Thread Cert.AdamGroupIdeal.nD Cert.AdamGroupIdeal.τ).loc Cert.AdamGroupIdeal.main_arg1) = m ((c.tc : Thread Cert.AdamGroupIdeal.nD Cert.AdamGroupIdeal.τ).loc Cert.AdamGroupIdeal.main_arg1)
      ∧ r.2.mem ((c.tc : Thread Cert.AdamGroupIdeal.nD Cert.AdamGroupIdeal.τ).loc Cert.AdamGroupIdeal.main_arg2) = m ((c.tc : Thread Cert.AdamGroupIdeal.nD Cert.AdamGroupIdeal.τ).loc Cert.AdamGroupIdeal.main_arg2)
      ∧ r.2.mem ((c.tc : Thread Cert.AdamGroupIdeal.nD Cert.AdamGroupIdeal.τ).loc Cert.AdamGroupIdeal.main_arg3) = m ((c.tc : Thread Cert.AdamGroupIdeal.nD Cert.AdamGroupIdeal.τ).loc Cert.AdamGroupIdeal.main_arg3))
      ∧ r.2.sem = fun _ => 0)

def quiescent_AdamGroupReferenceIdeal [hAdamGroupReferenceIdeal : Cert.AdamGroupReferenceIdeal.Facts] : Prop :=
  ∀ (m : (ℓ : Loc Cert.AdamGroupReferenceIdeal.nD Cert.AdamGroupReferenceIdeal.τ Cert.AdamGroupReferenceIdeal.sig) → Buf (Elt Ideal) ℓ) (g : Dev Cert.AdamGroupReferenceIdeal.nD → PrngReg), Pre_AdamGroupReferenceIdeal m →
    θ_run (Cert.AdamGroupReferenceIdeal.defs (F := Ideal)) (onTc (τ := Cert.AdamGroupReferenceIdeal.τ) (Cert.AdamGroupReferenceIdeal.main (F := Ideal))) ⟨m, fun _ => 0, g⟩ (fun r => (∀ c : Dev Cert.AdamGroupReferenceIdeal.nD,
      r.2.mem ((c.tc : Thread Cert.AdamGroupReferenceIdeal.nD Cert.AdamGroupReferenceIdeal.τ).loc Cert.AdamGroupReferenceIdeal.main_arg0) = m ((c.tc : Thread Cert.AdamGroupReferenceIdeal.nD Cert.AdamGroupReferenceIdeal.τ).loc Cert.AdamGroupReferenceIdeal.main_arg0)
      ∧ r.2.mem ((c.tc : Thread Cert.AdamGroupReferenceIdeal.nD Cert.AdamGroupReferenceIdeal.τ).loc Cert.AdamGroupReferenceIdeal.main_arg1) = m ((c.tc : Thread Cert.AdamGroupReferenceIdeal.nD Cert.AdamGroupReferenceIdeal.τ).loc Cert.AdamGroupReferenceIdeal.main_arg1)
      ∧ r.2.mem ((c.tc : Thread Cert.AdamGroupReferenceIdeal.nD Cert.AdamGroupReferenceIdeal.τ).loc Cert.AdamGroupReferenceIdeal.main_arg2) = m ((c.tc : Thread Cert.AdamGroupReferenceIdeal.nD Cert.AdamGroupReferenceIdeal.τ).loc Cert.AdamGroupReferenceIdeal.main_arg2)
      ∧ r.2.mem ((c.tc : Thread Cert.AdamGroupReferenceIdeal.nD Cert.AdamGroupReferenceIdeal.τ).loc Cert.AdamGroupReferenceIdeal.main_arg3) = m ((c.tc : Thread Cert.AdamGroupReferenceIdeal.nD Cert.AdamGroupReferenceIdeal.τ).loc Cert.AdamGroupReferenceIdeal.main_arg3))
      ∧ r.2.sem = fun _ => 0)

def quiescent_AdamHalf [hAdamHalf : Cert.AdamHalf.Facts] : Prop :=
  ∀ (m : (ℓ : Loc Cert.AdamHalf.nD Cert.AdamHalf.τ Cert.AdamHalf.sig) → Buf (Elt Bits) ℓ) (g : Dev Cert.AdamHalf.nD → PrngReg), Pre_AdamHalf m →
    θ_run (Cert.AdamHalf.defs (F := Bits)) (onTc (τ := Cert.AdamHalf.τ) (Cert.AdamHalf.main (F := Bits))) ⟨m, fun _ => 0, g⟩ (fun r => (∀ c : Dev Cert.AdamHalf.nD,
      r.2.mem ((c.tc : Thread Cert.AdamHalf.nD Cert.AdamHalf.τ).loc Cert.AdamHalf.main_arg0) = m ((c.tc : Thread Cert.AdamHalf.nD Cert.AdamHalf.τ).loc Cert.AdamHalf.main_arg0)
      ∧ r.2.mem ((c.tc : Thread Cert.AdamHalf.nD Cert.AdamHalf.τ).loc Cert.AdamHalf.main_arg1) = m ((c.tc : Thread Cert.AdamHalf.nD Cert.AdamHalf.τ).loc Cert.AdamHalf.main_arg1)
      ∧ r.2.mem ((c.tc : Thread Cert.AdamHalf.nD Cert.AdamHalf.τ).loc Cert.AdamHalf.main_arg2) = m ((c.tc : Thread Cert.AdamHalf.nD Cert.AdamHalf.τ).loc Cert.AdamHalf.main_arg2)
      ∧ r.2.mem ((c.tc : Thread Cert.AdamHalf.nD Cert.AdamHalf.τ).loc Cert.AdamHalf.main_arg3) = m ((c.tc : Thread Cert.AdamHalf.nD Cert.AdamHalf.τ).loc Cert.AdamHalf.main_arg3))
      ∧ r.2.sem = fun _ => 0)

def quiescent_AdamHalfIdeal [hAdamHalfIdeal : Cert.AdamHalfIdeal.Facts] : Prop :=
  ∀ (m : (ℓ : Loc Cert.AdamHalfIdeal.nD Cert.AdamHalfIdeal.τ Cert.AdamHalfIdeal.sig) → Buf (Elt Ideal) ℓ) (g : Dev Cert.AdamHalfIdeal.nD → PrngReg), Pre_AdamHalfIdeal m →
    θ_run (Cert.AdamHalfIdeal.defs (F := Ideal)) (onTc (τ := Cert.AdamHalfIdeal.τ) (Cert.AdamHalfIdeal.main (F := Ideal))) ⟨m, fun _ => 0, g⟩ (fun r => (∀ c : Dev Cert.AdamHalfIdeal.nD,
      r.2.mem ((c.tc : Thread Cert.AdamHalfIdeal.nD Cert.AdamHalfIdeal.τ).loc Cert.AdamHalfIdeal.main_arg0) = m ((c.tc : Thread Cert.AdamHalfIdeal.nD Cert.AdamHalfIdeal.τ).loc Cert.AdamHalfIdeal.main_arg0)
      ∧ r.2.mem ((c.tc : Thread Cert.AdamHalfIdeal.nD Cert.AdamHalfIdeal.τ).loc Cert.AdamHalfIdeal.main_arg1) = m ((c.tc : Thread Cert.AdamHalfIdeal.nD Cert.AdamHalfIdeal.τ).loc Cert.AdamHalfIdeal.main_arg1)
      ∧ r.2.mem ((c.tc : Thread Cert.AdamHalfIdeal.nD Cert.AdamHalfIdeal.τ).loc Cert.AdamHalfIdeal.main_arg2) = m ((c.tc : Thread Cert.AdamHalfIdeal.nD Cert.AdamHalfIdeal.τ).loc Cert.AdamHalfIdeal.main_arg2)
      ∧ r.2.mem ((c.tc : Thread Cert.AdamHalfIdeal.nD Cert.AdamHalfIdeal.τ).loc Cert.AdamHalfIdeal.main_arg3) = m ((c.tc : Thread Cert.AdamHalfIdeal.nD Cert.AdamHalfIdeal.τ).loc Cert.AdamHalfIdeal.main_arg3))
      ∧ r.2.sem = fun _ => 0)

def quiescent_AdamHalfReferenceIdeal [hAdamHalfReferenceIdeal : Cert.AdamHalfReferenceIdeal.Facts] : Prop :=
  ∀ (m : (ℓ : Loc Cert.AdamHalfReferenceIdeal.nD Cert.AdamHalfReferenceIdeal.τ Cert.AdamHalfReferenceIdeal.sig) → Buf (Elt Ideal) ℓ) (g : Dev Cert.AdamHalfReferenceIdeal.nD → PrngReg), Pre_AdamHalfReferenceIdeal m →
    θ_run (Cert.AdamHalfReferenceIdeal.defs (F := Ideal)) (onTc (τ := Cert.AdamHalfReferenceIdeal.τ) (Cert.AdamHalfReferenceIdeal.main (F := Ideal))) ⟨m, fun _ => 0, g⟩ (fun r => (∀ c : Dev Cert.AdamHalfReferenceIdeal.nD,
      r.2.mem ((c.tc : Thread Cert.AdamHalfReferenceIdeal.nD Cert.AdamHalfReferenceIdeal.τ).loc Cert.AdamHalfReferenceIdeal.main_arg0) = m ((c.tc : Thread Cert.AdamHalfReferenceIdeal.nD Cert.AdamHalfReferenceIdeal.τ).loc Cert.AdamHalfReferenceIdeal.main_arg0)
      ∧ r.2.mem ((c.tc : Thread Cert.AdamHalfReferenceIdeal.nD Cert.AdamHalfReferenceIdeal.τ).loc Cert.AdamHalfReferenceIdeal.main_arg1) = m ((c.tc : Thread Cert.AdamHalfReferenceIdeal.nD Cert.AdamHalfReferenceIdeal.τ).loc Cert.AdamHalfReferenceIdeal.main_arg1)
      ∧ r.2.mem ((c.tc : Thread Cert.AdamHalfReferenceIdeal.nD Cert.AdamHalfReferenceIdeal.τ).loc Cert.AdamHalfReferenceIdeal.main_arg2) = m ((c.tc : Thread Cert.AdamHalfReferenceIdeal.nD Cert.AdamHalfReferenceIdeal.τ).loc Cert.AdamHalfReferenceIdeal.main_arg2)
      ∧ r.2.mem ((c.tc : Thread Cert.AdamHalfReferenceIdeal.nD Cert.AdamHalfReferenceIdeal.τ).loc Cert.AdamHalfReferenceIdeal.main_arg3) = m ((c.tc : Thread Cert.AdamHalfReferenceIdeal.nD Cert.AdamHalfReferenceIdeal.τ).loc Cert.AdamHalfReferenceIdeal.main_arg3))
      ∧ r.2.sem = fun _ => 0)

def quiescent_AdamHead [hAdamHead : Cert.AdamHead.Facts] : Prop :=
  ∀ (m : (ℓ : Loc Cert.AdamHead.nD Cert.AdamHead.τ Cert.AdamHead.sig) → Buf (Elt Bits) ℓ) (g : Dev Cert.AdamHead.nD → PrngReg), Pre_AdamHead m →
    θ_run (Cert.AdamHead.defs (F := Bits)) (onTc (τ := Cert.AdamHead.τ) (Cert.AdamHead.main (F := Bits))) ⟨m, fun _ => 0, g⟩ (fun r => (∀ c : Dev Cert.AdamHead.nD,
      r.2.mem ((c.tc : Thread Cert.AdamHead.nD Cert.AdamHead.τ).loc Cert.AdamHead.main_arg0) = m ((c.tc : Thread Cert.AdamHead.nD Cert.AdamHead.τ).loc Cert.AdamHead.main_arg0)
      ∧ r.2.mem ((c.tc : Thread Cert.AdamHead.nD Cert.AdamHead.τ).loc Cert.AdamHead.main_arg1) = m ((c.tc : Thread Cert.AdamHead.nD Cert.AdamHead.τ).loc Cert.AdamHead.main_arg1)
      ∧ r.2.mem ((c.tc : Thread Cert.AdamHead.nD Cert.AdamHead.τ).loc Cert.AdamHead.main_arg2) = m ((c.tc : Thread Cert.AdamHead.nD Cert.AdamHead.τ).loc Cert.AdamHead.main_arg2)
      ∧ r.2.mem ((c.tc : Thread Cert.AdamHead.nD Cert.AdamHead.τ).loc Cert.AdamHead.main_arg3) = m ((c.tc : Thread Cert.AdamHead.nD Cert.AdamHead.τ).loc Cert.AdamHead.main_arg3))
      ∧ r.2.sem = fun _ => 0)

def quiescent_AdamHeadIdeal [hAdamHeadIdeal : Cert.AdamHeadIdeal.Facts] : Prop :=
  ∀ (m : (ℓ : Loc Cert.AdamHeadIdeal.nD Cert.AdamHeadIdeal.τ Cert.AdamHeadIdeal.sig) → Buf (Elt Ideal) ℓ) (g : Dev Cert.AdamHeadIdeal.nD → PrngReg), Pre_AdamHeadIdeal m →
    θ_run (Cert.AdamHeadIdeal.defs (F := Ideal)) (onTc (τ := Cert.AdamHeadIdeal.τ) (Cert.AdamHeadIdeal.main (F := Ideal))) ⟨m, fun _ => 0, g⟩ (fun r => (∀ c : Dev Cert.AdamHeadIdeal.nD,
      r.2.mem ((c.tc : Thread Cert.AdamHeadIdeal.nD Cert.AdamHeadIdeal.τ).loc Cert.AdamHeadIdeal.main_arg0) = m ((c.tc : Thread Cert.AdamHeadIdeal.nD Cert.AdamHeadIdeal.τ).loc Cert.AdamHeadIdeal.main_arg0)
      ∧ r.2.mem ((c.tc : Thread Cert.AdamHeadIdeal.nD Cert.AdamHeadIdeal.τ).loc Cert.AdamHeadIdeal.main_arg1) = m ((c.tc : Thread Cert.AdamHeadIdeal.nD Cert.AdamHeadIdeal.τ).loc Cert.AdamHeadIdeal.main_arg1)
      ∧ r.2.mem ((c.tc : Thread Cert.AdamHeadIdeal.nD Cert.AdamHeadIdeal.τ).loc Cert.AdamHeadIdeal.main_arg2) = m ((c.tc : Thread Cert.AdamHeadIdeal.nD Cert.AdamHeadIdeal.τ).loc Cert.AdamHeadIdeal.main_arg2)
      ∧ r.2.mem ((c.tc : Thread Cert.AdamHeadIdeal.nD Cert.AdamHeadIdeal.τ).loc Cert.AdamHeadIdeal.main_arg3) = m ((c.tc : Thread Cert.AdamHeadIdeal.nD Cert.AdamHeadIdeal.τ).loc Cert.AdamHeadIdeal.main_arg3))
      ∧ r.2.sem = fun _ => 0)

def quiescent_AdamHeadReferenceIdeal [hAdamHeadReferenceIdeal : Cert.AdamHeadReferenceIdeal.Facts] : Prop :=
  ∀ (m : (ℓ : Loc Cert.AdamHeadReferenceIdeal.nD Cert.AdamHeadReferenceIdeal.τ Cert.AdamHeadReferenceIdeal.sig) → Buf (Elt Ideal) ℓ) (g : Dev Cert.AdamHeadReferenceIdeal.nD → PrngReg), Pre_AdamHeadReferenceIdeal m →
    θ_run (Cert.AdamHeadReferenceIdeal.defs (F := Ideal)) (onTc (τ := Cert.AdamHeadReferenceIdeal.τ) (Cert.AdamHeadReferenceIdeal.main (F := Ideal))) ⟨m, fun _ => 0, g⟩ (fun r => (∀ c : Dev Cert.AdamHeadReferenceIdeal.nD,
      r.2.mem ((c.tc : Thread Cert.AdamHeadReferenceIdeal.nD Cert.AdamHeadReferenceIdeal.τ).loc Cert.AdamHeadReferenceIdeal.main_arg0) = m ((c.tc : Thread Cert.AdamHeadReferenceIdeal.nD Cert.AdamHeadReferenceIdeal.τ).loc Cert.AdamHeadReferenceIdeal.main_arg0)
      ∧ r.2.mem ((c.tc : Thread Cert.AdamHeadReferenceIdeal.nD Cert.AdamHeadReferenceIdeal.τ).loc Cert.AdamHeadReferenceIdeal.main_arg1) = m ((c.tc : Thread Cert.AdamHeadReferenceIdeal.nD Cert.AdamHeadReferenceIdeal.τ).loc Cert.AdamHeadReferenceIdeal.main_arg1)
      ∧ r.2.mem ((c.tc : Thread Cert.AdamHeadReferenceIdeal.nD Cert.AdamHeadReferenceIdeal.τ).loc Cert.AdamHeadReferenceIdeal.main_arg2) = m ((c.tc : Thread Cert.AdamHeadReferenceIdeal.nD Cert.AdamHeadReferenceIdeal.τ).loc Cert.AdamHeadReferenceIdeal.main_arg2)
      ∧ r.2.mem ((c.tc : Thread Cert.AdamHeadReferenceIdeal.nD Cert.AdamHeadReferenceIdeal.τ).loc Cert.AdamHeadReferenceIdeal.main_arg3) = m ((c.tc : Thread Cert.AdamHeadReferenceIdeal.nD Cert.AdamHeadReferenceIdeal.τ).loc Cert.AdamHeadReferenceIdeal.main_arg3))
      ∧ r.2.sem = fun _ => 0)

def quiescent_AdamPool [hAdamPool : Cert.AdamPool.Facts] : Prop :=
  ∀ (m : (ℓ : Loc Cert.AdamPool.nD Cert.AdamPool.τ Cert.AdamPool.sig) → Buf (Elt Bits) ℓ) (g : Dev Cert.AdamPool.nD → PrngReg), Pre_AdamPool m →
    θ_run (Cert.AdamPool.defs (F := Bits)) (onTc (τ := Cert.AdamPool.τ) (Cert.AdamPool.main (F := Bits))) ⟨m, fun _ => 0, g⟩ (fun r => (∀ c : Dev Cert.AdamPool.nD,
      r.2.mem ((c.tc : Thread Cert.AdamPool.nD Cert.AdamPool.τ).loc Cert.AdamPool.main_arg0) = m ((c.tc : Thread Cert.AdamPool.nD Cert.AdamPool.τ).loc Cert.AdamPool.main_arg0)
      ∧ r.2.mem ((c.tc : Thread Cert.AdamPool.nD Cert.AdamPool.τ).loc Cert.AdamPool.main_arg1) = m ((c.tc : Thread Cert.AdamPool.nD Cert.AdamPool.τ).loc Cert.AdamPool.main_arg1)
      ∧ r.2.mem ((c.tc : Thread Cert.AdamPool.nD Cert.AdamPool.τ).loc Cert.AdamPool.main_arg2) = m ((c.tc : Thread Cert.AdamPool.nD Cert.AdamPool.τ).loc Cert.AdamPool.main_arg2)
      ∧ r.2.mem ((c.tc : Thread Cert.AdamPool.nD Cert.AdamPool.τ).loc Cert.AdamPool.main_arg3) = m ((c.tc : Thread Cert.AdamPool.nD Cert.AdamPool.τ).loc Cert.AdamPool.main_arg3))
      ∧ r.2.sem = fun _ => 0)

def quiescent_AdamPoolIdeal [hAdamPoolIdeal : Cert.AdamPoolIdeal.Facts] : Prop :=
  ∀ (m : (ℓ : Loc Cert.AdamPoolIdeal.nD Cert.AdamPoolIdeal.τ Cert.AdamPoolIdeal.sig) → Buf (Elt Ideal) ℓ) (g : Dev Cert.AdamPoolIdeal.nD → PrngReg), Pre_AdamPoolIdeal m →
    θ_run (Cert.AdamPoolIdeal.defs (F := Ideal)) (onTc (τ := Cert.AdamPoolIdeal.τ) (Cert.AdamPoolIdeal.main (F := Ideal))) ⟨m, fun _ => 0, g⟩ (fun r => (∀ c : Dev Cert.AdamPoolIdeal.nD,
      r.2.mem ((c.tc : Thread Cert.AdamPoolIdeal.nD Cert.AdamPoolIdeal.τ).loc Cert.AdamPoolIdeal.main_arg0) = m ((c.tc : Thread Cert.AdamPoolIdeal.nD Cert.AdamPoolIdeal.τ).loc Cert.AdamPoolIdeal.main_arg0)
      ∧ r.2.mem ((c.tc : Thread Cert.AdamPoolIdeal.nD Cert.AdamPoolIdeal.τ).loc Cert.AdamPoolIdeal.main_arg1) = m ((c.tc : Thread Cert.AdamPoolIdeal.nD Cert.AdamPoolIdeal.τ).loc Cert.AdamPoolIdeal.main_arg1)
      ∧ r.2.mem ((c.tc : Thread Cert.AdamPoolIdeal.nD Cert.AdamPoolIdeal.τ).loc Cert.AdamPoolIdeal.main_arg2) = m ((c.tc : Thread Cert.AdamPoolIdeal.nD Cert.AdamPoolIdeal.τ).loc Cert.AdamPoolIdeal.main_arg2)
      ∧ r.2.mem ((c.tc : Thread Cert.AdamPoolIdeal.nD Cert.AdamPoolIdeal.τ).loc Cert.AdamPoolIdeal.main_arg3) = m ((c.tc : Thread Cert.AdamPoolIdeal.nD Cert.AdamPoolIdeal.τ).loc Cert.AdamPoolIdeal.main_arg3))
      ∧ r.2.sem = fun _ => 0)

def quiescent_AdamPoolReferenceIdeal [hAdamPoolReferenceIdeal : Cert.AdamPoolReferenceIdeal.Facts] : Prop :=
  ∀ (m : (ℓ : Loc Cert.AdamPoolReferenceIdeal.nD Cert.AdamPoolReferenceIdeal.τ Cert.AdamPoolReferenceIdeal.sig) → Buf (Elt Ideal) ℓ) (g : Dev Cert.AdamPoolReferenceIdeal.nD → PrngReg), Pre_AdamPoolReferenceIdeal m →
    θ_run (Cert.AdamPoolReferenceIdeal.defs (F := Ideal)) (onTc (τ := Cert.AdamPoolReferenceIdeal.τ) (Cert.AdamPoolReferenceIdeal.main (F := Ideal))) ⟨m, fun _ => 0, g⟩ (fun r => (∀ c : Dev Cert.AdamPoolReferenceIdeal.nD,
      r.2.mem ((c.tc : Thread Cert.AdamPoolReferenceIdeal.nD Cert.AdamPoolReferenceIdeal.τ).loc Cert.AdamPoolReferenceIdeal.main_arg0) = m ((c.tc : Thread Cert.AdamPoolReferenceIdeal.nD Cert.AdamPoolReferenceIdeal.τ).loc Cert.AdamPoolReferenceIdeal.main_arg0)
      ∧ r.2.mem ((c.tc : Thread Cert.AdamPoolReferenceIdeal.nD Cert.AdamPoolReferenceIdeal.τ).loc Cert.AdamPoolReferenceIdeal.main_arg1) = m ((c.tc : Thread Cert.AdamPoolReferenceIdeal.nD Cert.AdamPoolReferenceIdeal.τ).loc Cert.AdamPoolReferenceIdeal.main_arg1)
      ∧ r.2.mem ((c.tc : Thread Cert.AdamPoolReferenceIdeal.nD Cert.AdamPoolReferenceIdeal.τ).loc Cert.AdamPoolReferenceIdeal.main_arg2) = m ((c.tc : Thread Cert.AdamPoolReferenceIdeal.nD Cert.AdamPoolReferenceIdeal.τ).loc Cert.AdamPoolReferenceIdeal.main_arg2)
      ∧ r.2.mem ((c.tc : Thread Cert.AdamPoolReferenceIdeal.nD Cert.AdamPoolReferenceIdeal.τ).loc Cert.AdamPoolReferenceIdeal.main_arg3) = m ((c.tc : Thread Cert.AdamPoolReferenceIdeal.nD Cert.AdamPoolReferenceIdeal.τ).loc Cert.AdamPoolReferenceIdeal.main_arg3))
      ∧ r.2.sem = fun _ => 0)

def quiescent_AdamRank [hAdamRank : Cert.AdamRank.Facts] : Prop :=
  ∀ (m : (ℓ : Loc Cert.AdamRank.nD Cert.AdamRank.τ Cert.AdamRank.sig) → Buf (Elt Bits) ℓ) (g : Dev Cert.AdamRank.nD → PrngReg), Pre_AdamRank m →
    θ_run (Cert.AdamRank.defs (F := Bits)) (onTc (τ := Cert.AdamRank.τ) (Cert.AdamRank.main (F := Bits))) ⟨m, fun _ => 0, g⟩ (fun r => (∀ c : Dev Cert.AdamRank.nD,
      r.2.mem ((c.tc : Thread Cert.AdamRank.nD Cert.AdamRank.τ).loc Cert.AdamRank.main_arg0) = m ((c.tc : Thread Cert.AdamRank.nD Cert.AdamRank.τ).loc Cert.AdamRank.main_arg0)
      ∧ r.2.mem ((c.tc : Thread Cert.AdamRank.nD Cert.AdamRank.τ).loc Cert.AdamRank.main_arg1) = m ((c.tc : Thread Cert.AdamRank.nD Cert.AdamRank.τ).loc Cert.AdamRank.main_arg1)
      ∧ r.2.mem ((c.tc : Thread Cert.AdamRank.nD Cert.AdamRank.τ).loc Cert.AdamRank.main_arg2) = m ((c.tc : Thread Cert.AdamRank.nD Cert.AdamRank.τ).loc Cert.AdamRank.main_arg2)
      ∧ r.2.mem ((c.tc : Thread Cert.AdamRank.nD Cert.AdamRank.τ).loc Cert.AdamRank.main_arg3) = m ((c.tc : Thread Cert.AdamRank.nD Cert.AdamRank.τ).loc Cert.AdamRank.main_arg3))
      ∧ r.2.sem = fun _ => 0)

def quiescent_AdamRankIdeal [hAdamRankIdeal : Cert.AdamRankIdeal.Facts] : Prop :=
  ∀ (m : (ℓ : Loc Cert.AdamRankIdeal.nD Cert.AdamRankIdeal.τ Cert.AdamRankIdeal.sig) → Buf (Elt Ideal) ℓ) (g : Dev Cert.AdamRankIdeal.nD → PrngReg), Pre_AdamRankIdeal m →
    θ_run (Cert.AdamRankIdeal.defs (F := Ideal)) (onTc (τ := Cert.AdamRankIdeal.τ) (Cert.AdamRankIdeal.main (F := Ideal))) ⟨m, fun _ => 0, g⟩ (fun r => (∀ c : Dev Cert.AdamRankIdeal.nD,
      r.2.mem ((c.tc : Thread Cert.AdamRankIdeal.nD Cert.AdamRankIdeal.τ).loc Cert.AdamRankIdeal.main_arg0) = m ((c.tc : Thread Cert.AdamRankIdeal.nD Cert.AdamRankIdeal.τ).loc Cert.AdamRankIdeal.main_arg0)
      ∧ r.2.mem ((c.tc : Thread Cert.AdamRankIdeal.nD Cert.AdamRankIdeal.τ).loc Cert.AdamRankIdeal.main_arg1) = m ((c.tc : Thread Cert.AdamRankIdeal.nD Cert.AdamRankIdeal.τ).loc Cert.AdamRankIdeal.main_arg1)
      ∧ r.2.mem ((c.tc : Thread Cert.AdamRankIdeal.nD Cert.AdamRankIdeal.τ).loc Cert.AdamRankIdeal.main_arg2) = m ((c.tc : Thread Cert.AdamRankIdeal.nD Cert.AdamRankIdeal.τ).loc Cert.AdamRankIdeal.main_arg2)
      ∧ r.2.mem ((c.tc : Thread Cert.AdamRankIdeal.nD Cert.AdamRankIdeal.τ).loc Cert.AdamRankIdeal.main_arg3) = m ((c.tc : Thread Cert.AdamRankIdeal.nD Cert.AdamRankIdeal.τ).loc Cert.AdamRankIdeal.main_arg3))
      ∧ r.2.sem = fun _ => 0)

def quiescent_AdamRankReferenceIdeal [hAdamRankReferenceIdeal : Cert.AdamRankReferenceIdeal.Facts] : Prop :=
  ∀ (m : (ℓ : Loc Cert.AdamRankReferenceIdeal.nD Cert.AdamRankReferenceIdeal.τ Cert.AdamRankReferenceIdeal.sig) → Buf (Elt Ideal) ℓ) (g : Dev Cert.AdamRankReferenceIdeal.nD → PrngReg), Pre_AdamRankReferenceIdeal m →
    θ_run (Cert.AdamRankReferenceIdeal.defs (F := Ideal)) (onTc (τ := Cert.AdamRankReferenceIdeal.τ) (Cert.AdamRankReferenceIdeal.main (F := Ideal))) ⟨m, fun _ => 0, g⟩ (fun r => (∀ c : Dev Cert.AdamRankReferenceIdeal.nD,
      r.2.mem ((c.tc : Thread Cert.AdamRankReferenceIdeal.nD Cert.AdamRankReferenceIdeal.τ).loc Cert.AdamRankReferenceIdeal.main_arg0) = m ((c.tc : Thread Cert.AdamRankReferenceIdeal.nD Cert.AdamRankReferenceIdeal.τ).loc Cert.AdamRankReferenceIdeal.main_arg0)
      ∧ r.2.mem ((c.tc : Thread Cert.AdamRankReferenceIdeal.nD Cert.AdamRankReferenceIdeal.τ).loc Cert.AdamRankReferenceIdeal.main_arg1) = m ((c.tc : Thread Cert.AdamRankReferenceIdeal.nD Cert.AdamRankReferenceIdeal.τ).loc Cert.AdamRankReferenceIdeal.main_arg1)
      ∧ r.2.mem ((c.tc : Thread Cert.AdamRankReferenceIdeal.nD Cert.AdamRankReferenceIdeal.τ).loc Cert.AdamRankReferenceIdeal.main_arg2) = m ((c.tc : Thread Cert.AdamRankReferenceIdeal.nD Cert.AdamRankReferenceIdeal.τ).loc Cert.AdamRankReferenceIdeal.main_arg2)
      ∧ r.2.mem ((c.tc : Thread Cert.AdamRankReferenceIdeal.nD Cert.AdamRankReferenceIdeal.τ).loc Cert.AdamRankReferenceIdeal.main_arg3) = m ((c.tc : Thread Cert.AdamRankReferenceIdeal.nD Cert.AdamRankReferenceIdeal.τ).loc Cert.AdamRankReferenceIdeal.main_arg3))
      ∧ r.2.sem = fun _ => 0)

def quiescent_AdamQ [hAdamQ : Cert.AdamQ.Facts] : Prop :=
  ∀ (m : (ℓ : Loc Cert.AdamQ.nD Cert.AdamQ.τ Cert.AdamQ.sig) → Buf (Elt Bits) ℓ) (g : Dev Cert.AdamQ.nD → PrngReg), Pre_AdamQ m →
    θ_run (Cert.AdamQ.defs (F := Bits)) (onTc (τ := Cert.AdamQ.τ) (Cert.AdamQ.main (F := Bits))) ⟨m, fun _ => 0, g⟩ (fun r => (∀ c : Dev Cert.AdamQ.nD,
      r.2.mem ((c.tc : Thread Cert.AdamQ.nD Cert.AdamQ.τ).loc Cert.AdamQ.main_arg0) = m ((c.tc : Thread Cert.AdamQ.nD Cert.AdamQ.τ).loc Cert.AdamQ.main_arg0)
      ∧ r.2.mem ((c.tc : Thread Cert.AdamQ.nD Cert.AdamQ.τ).loc Cert.AdamQ.main_arg1) = m ((c.tc : Thread Cert.AdamQ.nD Cert.AdamQ.τ).loc Cert.AdamQ.main_arg1)
      ∧ r.2.mem ((c.tc : Thread Cert.AdamQ.nD Cert.AdamQ.τ).loc Cert.AdamQ.main_arg2) = m ((c.tc : Thread Cert.AdamQ.nD Cert.AdamQ.τ).loc Cert.AdamQ.main_arg2)
      ∧ r.2.mem ((c.tc : Thread Cert.AdamQ.nD Cert.AdamQ.τ).loc Cert.AdamQ.main_arg3) = m ((c.tc : Thread Cert.AdamQ.nD Cert.AdamQ.τ).loc Cert.AdamQ.main_arg3))
      ∧ r.2.sem = fun _ => 0)

def quiescent_AdamQIdeal [hAdamQIdeal : Cert.AdamQIdeal.Facts] : Prop :=
  ∀ (m : (ℓ : Loc Cert.AdamQIdeal.nD Cert.AdamQIdeal.τ Cert.AdamQIdeal.sig) → Buf (Elt Ideal) ℓ) (g : Dev Cert.AdamQIdeal.nD → PrngReg), Pre_AdamQIdeal m →
    θ_run (Cert.AdamQIdeal.defs (F := Ideal)) (onTc (τ := Cert.AdamQIdeal.τ) (Cert.AdamQIdeal.main (F := Ideal))) ⟨m, fun _ => 0, g⟩ (fun r => (∀ c : Dev Cert.AdamQIdeal.nD,
      r.2.mem ((c.tc : Thread Cert.AdamQIdeal.nD Cert.AdamQIdeal.τ).loc Cert.AdamQIdeal.main_arg0) = m ((c.tc : Thread Cert.AdamQIdeal.nD Cert.AdamQIdeal.τ).loc Cert.AdamQIdeal.main_arg0)
      ∧ r.2.mem ((c.tc : Thread Cert.AdamQIdeal.nD Cert.AdamQIdeal.τ).loc Cert.AdamQIdeal.main_arg1) = m ((c.tc : Thread Cert.AdamQIdeal.nD Cert.AdamQIdeal.τ).loc Cert.AdamQIdeal.main_arg1)
      ∧ r.2.mem ((c.tc : Thread Cert.AdamQIdeal.nD Cert.AdamQIdeal.τ).loc Cert.AdamQIdeal.main_arg2) = m ((c.tc : Thread Cert.AdamQIdeal.nD Cert.AdamQIdeal.τ).loc Cert.AdamQIdeal.main_arg2)
      ∧ r.2.mem ((c.tc : Thread Cert.AdamQIdeal.nD Cert.AdamQIdeal.τ).loc Cert.AdamQIdeal.main_arg3) = m ((c.tc : Thread Cert.AdamQIdeal.nD Cert.AdamQIdeal.τ).loc Cert.AdamQIdeal.main_arg3))
      ∧ r.2.sem = fun _ => 0)

def quiescent_AdamQReferenceIdeal [hAdamQReferenceIdeal : Cert.AdamQReferenceIdeal.Facts] : Prop :=
  ∀ (m : (ℓ : Loc Cert.AdamQReferenceIdeal.nD Cert.AdamQReferenceIdeal.τ Cert.AdamQReferenceIdeal.sig) → Buf (Elt Ideal) ℓ) (g : Dev Cert.AdamQReferenceIdeal.nD → PrngReg), Pre_AdamQReferenceIdeal m →
    θ_run (Cert.AdamQReferenceIdeal.defs (F := Ideal)) (onTc (τ := Cert.AdamQReferenceIdeal.τ) (Cert.AdamQReferenceIdeal.main (F := Ideal))) ⟨m, fun _ => 0, g⟩ (fun r => (∀ c : Dev Cert.AdamQReferenceIdeal.nD,
      r.2.mem ((c.tc : Thread Cert.AdamQReferenceIdeal.nD Cert.AdamQReferenceIdeal.τ).loc Cert.AdamQReferenceIdeal.main_arg0) = m ((c.tc : Thread Cert.AdamQReferenceIdeal.nD Cert.AdamQReferenceIdeal.τ).loc Cert.AdamQReferenceIdeal.main_arg0)
      ∧ r.2.mem ((c.tc : Thread Cert.AdamQReferenceIdeal.nD Cert.AdamQReferenceIdeal.τ).loc Cert.AdamQReferenceIdeal.main_arg1) = m ((c.tc : Thread Cert.AdamQReferenceIdeal.nD Cert.AdamQReferenceIdeal.τ).loc Cert.AdamQReferenceIdeal.main_arg1)
      ∧ r.2.mem ((c.tc : Thread Cert.AdamQReferenceIdeal.nD Cert.AdamQReferenceIdeal.τ).loc Cert.AdamQReferenceIdeal.main_arg2) = m ((c.tc : Thread Cert.AdamQReferenceIdeal.nD Cert.AdamQReferenceIdeal.τ).loc Cert.AdamQReferenceIdeal.main_arg2)
      ∧ r.2.mem ((c.tc : Thread Cert.AdamQReferenceIdeal.nD Cert.AdamQReferenceIdeal.τ).loc Cert.AdamQReferenceIdeal.main_arg3) = m ((c.tc : Thread Cert.AdamQReferenceIdeal.nD Cert.AdamQReferenceIdeal.τ).loc Cert.AdamQReferenceIdeal.main_arg3))
      ∧ r.2.sem = fun _ => 0)

def quiescent_AdamKv [hAdamKv : Cert.AdamKv.Facts] : Prop :=
  ∀ (m : (ℓ : Loc Cert.AdamKv.nD Cert.AdamKv.τ Cert.AdamKv.sig) → Buf (Elt Bits) ℓ) (g : Dev Cert.AdamKv.nD → PrngReg), Pre_AdamKv m →
    θ_run (Cert.AdamKv.defs (F := Bits)) (onTc (τ := Cert.AdamKv.τ) (Cert.AdamKv.main (F := Bits))) ⟨m, fun _ => 0, g⟩ (fun r => (∀ c : Dev Cert.AdamKv.nD,
      r.2.mem ((c.tc : Thread Cert.AdamKv.nD Cert.AdamKv.τ).loc Cert.AdamKv.main_arg0) = m ((c.tc : Thread Cert.AdamKv.nD Cert.AdamKv.τ).loc Cert.AdamKv.main_arg0)
      ∧ r.2.mem ((c.tc : Thread Cert.AdamKv.nD Cert.AdamKv.τ).loc Cert.AdamKv.main_arg1) = m ((c.tc : Thread Cert.AdamKv.nD Cert.AdamKv.τ).loc Cert.AdamKv.main_arg1)
      ∧ r.2.mem ((c.tc : Thread Cert.AdamKv.nD Cert.AdamKv.τ).loc Cert.AdamKv.main_arg2) = m ((c.tc : Thread Cert.AdamKv.nD Cert.AdamKv.τ).loc Cert.AdamKv.main_arg2)
      ∧ r.2.mem ((c.tc : Thread Cert.AdamKv.nD Cert.AdamKv.τ).loc Cert.AdamKv.main_arg3) = m ((c.tc : Thread Cert.AdamKv.nD Cert.AdamKv.τ).loc Cert.AdamKv.main_arg3))
      ∧ r.2.sem = fun _ => 0)

def quiescent_AdamKvIdeal [hAdamKvIdeal : Cert.AdamKvIdeal.Facts] : Prop :=
  ∀ (m : (ℓ : Loc Cert.AdamKvIdeal.nD Cert.AdamKvIdeal.τ Cert.AdamKvIdeal.sig) → Buf (Elt Ideal) ℓ) (g : Dev Cert.AdamKvIdeal.nD → PrngReg), Pre_AdamKvIdeal m →
    θ_run (Cert.AdamKvIdeal.defs (F := Ideal)) (onTc (τ := Cert.AdamKvIdeal.τ) (Cert.AdamKvIdeal.main (F := Ideal))) ⟨m, fun _ => 0, g⟩ (fun r => (∀ c : Dev Cert.AdamKvIdeal.nD,
      r.2.mem ((c.tc : Thread Cert.AdamKvIdeal.nD Cert.AdamKvIdeal.τ).loc Cert.AdamKvIdeal.main_arg0) = m ((c.tc : Thread Cert.AdamKvIdeal.nD Cert.AdamKvIdeal.τ).loc Cert.AdamKvIdeal.main_arg0)
      ∧ r.2.mem ((c.tc : Thread Cert.AdamKvIdeal.nD Cert.AdamKvIdeal.τ).loc Cert.AdamKvIdeal.main_arg1) = m ((c.tc : Thread Cert.AdamKvIdeal.nD Cert.AdamKvIdeal.τ).loc Cert.AdamKvIdeal.main_arg1)
      ∧ r.2.mem ((c.tc : Thread Cert.AdamKvIdeal.nD Cert.AdamKvIdeal.τ).loc Cert.AdamKvIdeal.main_arg2) = m ((c.tc : Thread Cert.AdamKvIdeal.nD Cert.AdamKvIdeal.τ).loc Cert.AdamKvIdeal.main_arg2)
      ∧ r.2.mem ((c.tc : Thread Cert.AdamKvIdeal.nD Cert.AdamKvIdeal.τ).loc Cert.AdamKvIdeal.main_arg3) = m ((c.tc : Thread Cert.AdamKvIdeal.nD Cert.AdamKvIdeal.τ).loc Cert.AdamKvIdeal.main_arg3))
      ∧ r.2.sem = fun _ => 0)

def quiescent_AdamKvReferenceIdeal [hAdamKvReferenceIdeal : Cert.AdamKvReferenceIdeal.Facts] : Prop :=
  ∀ (m : (ℓ : Loc Cert.AdamKvReferenceIdeal.nD Cert.AdamKvReferenceIdeal.τ Cert.AdamKvReferenceIdeal.sig) → Buf (Elt Ideal) ℓ) (g : Dev Cert.AdamKvReferenceIdeal.nD → PrngReg), Pre_AdamKvReferenceIdeal m →
    θ_run (Cert.AdamKvReferenceIdeal.defs (F := Ideal)) (onTc (τ := Cert.AdamKvReferenceIdeal.τ) (Cert.AdamKvReferenceIdeal.main (F := Ideal))) ⟨m, fun _ => 0, g⟩ (fun r => (∀ c : Dev Cert.AdamKvReferenceIdeal.nD,
      r.2.mem ((c.tc : Thread Cert.AdamKvReferenceIdeal.nD Cert.AdamKvReferenceIdeal.τ).loc Cert.AdamKvReferenceIdeal.main_arg0) = m ((c.tc : Thread Cert.AdamKvReferenceIdeal.nD Cert.AdamKvReferenceIdeal.τ).loc Cert.AdamKvReferenceIdeal.main_arg0)
      ∧ r.2.mem ((c.tc : Thread Cert.AdamKvReferenceIdeal.nD Cert.AdamKvReferenceIdeal.τ).loc Cert.AdamKvReferenceIdeal.main_arg1) = m ((c.tc : Thread Cert.AdamKvReferenceIdeal.nD Cert.AdamKvReferenceIdeal.τ).loc Cert.AdamKvReferenceIdeal.main_arg1)
      ∧ r.2.mem ((c.tc : Thread Cert.AdamKvReferenceIdeal.nD Cert.AdamKvReferenceIdeal.τ).loc Cert.AdamKvReferenceIdeal.main_arg2) = m ((c.tc : Thread Cert.AdamKvReferenceIdeal.nD Cert.AdamKvReferenceIdeal.τ).loc Cert.AdamKvReferenceIdeal.main_arg2)
      ∧ r.2.mem ((c.tc : Thread Cert.AdamKvReferenceIdeal.nD Cert.AdamKvReferenceIdeal.τ).loc Cert.AdamKvReferenceIdeal.main_arg3) = m ((c.tc : Thread Cert.AdamKvReferenceIdeal.nD Cert.AdamKvReferenceIdeal.τ).loc Cert.AdamKvReferenceIdeal.main_arg3))
      ∧ r.2.sem = fun _ => 0)

def quiescent_AdamWOut [hAdamWOut : Cert.AdamWOut.Facts] : Prop :=
  ∀ (m : (ℓ : Loc Cert.AdamWOut.nD Cert.AdamWOut.τ Cert.AdamWOut.sig) → Buf (Elt Bits) ℓ) (g : Dev Cert.AdamWOut.nD → PrngReg), Pre_AdamWOut m →
    θ_run (Cert.AdamWOut.defs (F := Bits)) (onTc (τ := Cert.AdamWOut.τ) (Cert.AdamWOut.main (F := Bits))) ⟨m, fun _ => 0, g⟩ (fun r => (∀ c : Dev Cert.AdamWOut.nD,
      r.2.mem ((c.tc : Thread Cert.AdamWOut.nD Cert.AdamWOut.τ).loc Cert.AdamWOut.main_arg0) = m ((c.tc : Thread Cert.AdamWOut.nD Cert.AdamWOut.τ).loc Cert.AdamWOut.main_arg0)
      ∧ r.2.mem ((c.tc : Thread Cert.AdamWOut.nD Cert.AdamWOut.τ).loc Cert.AdamWOut.main_arg1) = m ((c.tc : Thread Cert.AdamWOut.nD Cert.AdamWOut.τ).loc Cert.AdamWOut.main_arg1)
      ∧ r.2.mem ((c.tc : Thread Cert.AdamWOut.nD Cert.AdamWOut.τ).loc Cert.AdamWOut.main_arg2) = m ((c.tc : Thread Cert.AdamWOut.nD Cert.AdamWOut.τ).loc Cert.AdamWOut.main_arg2)
      ∧ r.2.mem ((c.tc : Thread Cert.AdamWOut.nD Cert.AdamWOut.τ).loc Cert.AdamWOut.main_arg3) = m ((c.tc : Thread Cert.AdamWOut.nD Cert.AdamWOut.τ).loc Cert.AdamWOut.main_arg3))
      ∧ r.2.sem = fun _ => 0)

def quiescent_AdamWOutIdeal [hAdamWOutIdeal : Cert.AdamWOutIdeal.Facts] : Prop :=
  ∀ (m : (ℓ : Loc Cert.AdamWOutIdeal.nD Cert.AdamWOutIdeal.τ Cert.AdamWOutIdeal.sig) → Buf (Elt Ideal) ℓ) (g : Dev Cert.AdamWOutIdeal.nD → PrngReg), Pre_AdamWOutIdeal m →
    θ_run (Cert.AdamWOutIdeal.defs (F := Ideal)) (onTc (τ := Cert.AdamWOutIdeal.τ) (Cert.AdamWOutIdeal.main (F := Ideal))) ⟨m, fun _ => 0, g⟩ (fun r => (∀ c : Dev Cert.AdamWOutIdeal.nD,
      r.2.mem ((c.tc : Thread Cert.AdamWOutIdeal.nD Cert.AdamWOutIdeal.τ).loc Cert.AdamWOutIdeal.main_arg0) = m ((c.tc : Thread Cert.AdamWOutIdeal.nD Cert.AdamWOutIdeal.τ).loc Cert.AdamWOutIdeal.main_arg0)
      ∧ r.2.mem ((c.tc : Thread Cert.AdamWOutIdeal.nD Cert.AdamWOutIdeal.τ).loc Cert.AdamWOutIdeal.main_arg1) = m ((c.tc : Thread Cert.AdamWOutIdeal.nD Cert.AdamWOutIdeal.τ).loc Cert.AdamWOutIdeal.main_arg1)
      ∧ r.2.mem ((c.tc : Thread Cert.AdamWOutIdeal.nD Cert.AdamWOutIdeal.τ).loc Cert.AdamWOutIdeal.main_arg2) = m ((c.tc : Thread Cert.AdamWOutIdeal.nD Cert.AdamWOutIdeal.τ).loc Cert.AdamWOutIdeal.main_arg2)
      ∧ r.2.mem ((c.tc : Thread Cert.AdamWOutIdeal.nD Cert.AdamWOutIdeal.τ).loc Cert.AdamWOutIdeal.main_arg3) = m ((c.tc : Thread Cert.AdamWOutIdeal.nD Cert.AdamWOutIdeal.τ).loc Cert.AdamWOutIdeal.main_arg3))
      ∧ r.2.sem = fun _ => 0)

def quiescent_AdamWOutReferenceIdeal [hAdamWOutReferenceIdeal : Cert.AdamWOutReferenceIdeal.Facts] : Prop :=
  ∀ (m : (ℓ : Loc Cert.AdamWOutReferenceIdeal.nD Cert.AdamWOutReferenceIdeal.τ Cert.AdamWOutReferenceIdeal.sig) → Buf (Elt Ideal) ℓ) (g : Dev Cert.AdamWOutReferenceIdeal.nD → PrngReg), Pre_AdamWOutReferenceIdeal m →
    θ_run (Cert.AdamWOutReferenceIdeal.defs (F := Ideal)) (onTc (τ := Cert.AdamWOutReferenceIdeal.τ) (Cert.AdamWOutReferenceIdeal.main (F := Ideal))) ⟨m, fun _ => 0, g⟩ (fun r => (∀ c : Dev Cert.AdamWOutReferenceIdeal.nD,
      r.2.mem ((c.tc : Thread Cert.AdamWOutReferenceIdeal.nD Cert.AdamWOutReferenceIdeal.τ).loc Cert.AdamWOutReferenceIdeal.main_arg0) = m ((c.tc : Thread Cert.AdamWOutReferenceIdeal.nD Cert.AdamWOutReferenceIdeal.τ).loc Cert.AdamWOutReferenceIdeal.main_arg0)
      ∧ r.2.mem ((c.tc : Thread Cert.AdamWOutReferenceIdeal.nD Cert.AdamWOutReferenceIdeal.τ).loc Cert.AdamWOutReferenceIdeal.main_arg1) = m ((c.tc : Thread Cert.AdamWOutReferenceIdeal.nD Cert.AdamWOutReferenceIdeal.τ).loc Cert.AdamWOutReferenceIdeal.main_arg1)
      ∧ r.2.mem ((c.tc : Thread Cert.AdamWOutReferenceIdeal.nD Cert.AdamWOutReferenceIdeal.τ).loc Cert.AdamWOutReferenceIdeal.main_arg2) = m ((c.tc : Thread Cert.AdamWOutReferenceIdeal.nD Cert.AdamWOutReferenceIdeal.τ).loc Cert.AdamWOutReferenceIdeal.main_arg2)
      ∧ r.2.mem ((c.tc : Thread Cert.AdamWOutReferenceIdeal.nD Cert.AdamWOutReferenceIdeal.τ).loc Cert.AdamWOutReferenceIdeal.main_arg3) = m ((c.tc : Thread Cert.AdamWOutReferenceIdeal.nD Cert.AdamWOutReferenceIdeal.τ).loc Cert.AdamWOutReferenceIdeal.main_arg3))
      ∧ r.2.sem = fun _ => 0)

def quiescent_NormBwd [hNormBwd : Cert.NormBwd.Facts] : Prop :=
  ∀ (m : (ℓ : Loc Cert.NormBwd.nD Cert.NormBwd.τ Cert.NormBwd.sig) → Buf (Elt Bits) ℓ) (g : Dev Cert.NormBwd.nD → PrngReg), Pre_NormBwd m →
    θ_run (Cert.NormBwd.defs (F := Bits)) (onTc (τ := Cert.NormBwd.τ) (Cert.NormBwd.main (F := Bits))) ⟨m, fun _ => 0, g⟩ (fun r => (∀ c : Dev Cert.NormBwd.nD,
      r.2.mem ((c.tc : Thread Cert.NormBwd.nD Cert.NormBwd.τ).loc Cert.NormBwd.main_arg0) = m ((c.tc : Thread Cert.NormBwd.nD Cert.NormBwd.τ).loc Cert.NormBwd.main_arg0)
      ∧ r.2.mem ((c.tc : Thread Cert.NormBwd.nD Cert.NormBwd.τ).loc Cert.NormBwd.main_arg1) = m ((c.tc : Thread Cert.NormBwd.nD Cert.NormBwd.τ).loc Cert.NormBwd.main_arg1)
      ∧ r.2.mem ((c.tc : Thread Cert.NormBwd.nD Cert.NormBwd.τ).loc Cert.NormBwd.main_arg2) = m ((c.tc : Thread Cert.NormBwd.nD Cert.NormBwd.τ).loc Cert.NormBwd.main_arg2)
      ∧ r.2.mem ((c.tc : Thread Cert.NormBwd.nD Cert.NormBwd.τ).loc Cert.NormBwd.main_arg3) = m ((c.tc : Thread Cert.NormBwd.nD Cert.NormBwd.τ).loc Cert.NormBwd.main_arg3))
      ∧ r.2.sem = fun _ => 0)

def quiescent_NormBwdIdeal [hNormBwdIdeal : Cert.NormBwdIdeal.Facts] : Prop :=
  ∀ (m : (ℓ : Loc Cert.NormBwdIdeal.nD Cert.NormBwdIdeal.τ Cert.NormBwdIdeal.sig) → Buf (Elt Ideal) ℓ) (g : Dev Cert.NormBwdIdeal.nD → PrngReg), Pre_NormBwdIdeal m →
    θ_run (Cert.NormBwdIdeal.defs (F := Ideal)) (onTc (τ := Cert.NormBwdIdeal.τ) (Cert.NormBwdIdeal.main (F := Ideal))) ⟨m, fun _ => 0, g⟩ (fun r => (∀ c : Dev Cert.NormBwdIdeal.nD,
      r.2.mem ((c.tc : Thread Cert.NormBwdIdeal.nD Cert.NormBwdIdeal.τ).loc Cert.NormBwdIdeal.main_arg0) = m ((c.tc : Thread Cert.NormBwdIdeal.nD Cert.NormBwdIdeal.τ).loc Cert.NormBwdIdeal.main_arg0)
      ∧ r.2.mem ((c.tc : Thread Cert.NormBwdIdeal.nD Cert.NormBwdIdeal.τ).loc Cert.NormBwdIdeal.main_arg1) = m ((c.tc : Thread Cert.NormBwdIdeal.nD Cert.NormBwdIdeal.τ).loc Cert.NormBwdIdeal.main_arg1)
      ∧ r.2.mem ((c.tc : Thread Cert.NormBwdIdeal.nD Cert.NormBwdIdeal.τ).loc Cert.NormBwdIdeal.main_arg2) = m ((c.tc : Thread Cert.NormBwdIdeal.nD Cert.NormBwdIdeal.τ).loc Cert.NormBwdIdeal.main_arg2)
      ∧ r.2.mem ((c.tc : Thread Cert.NormBwdIdeal.nD Cert.NormBwdIdeal.τ).loc Cert.NormBwdIdeal.main_arg3) = m ((c.tc : Thread Cert.NormBwdIdeal.nD Cert.NormBwdIdeal.τ).loc Cert.NormBwdIdeal.main_arg3))
      ∧ r.2.sem = fun _ => 0)

def quiescent_NormBwdReferenceIdeal [hNormBwdReferenceIdeal : Cert.NormBwdReferenceIdeal.Facts] : Prop :=
  ∀ (m : (ℓ : Loc Cert.NormBwdReferenceIdeal.nD Cert.NormBwdReferenceIdeal.τ Cert.NormBwdReferenceIdeal.sig) → Buf (Elt Ideal) ℓ) (g : Dev Cert.NormBwdReferenceIdeal.nD → PrngReg), Pre_NormBwdReferenceIdeal m →
    θ_run (Cert.NormBwdReferenceIdeal.defs (F := Ideal)) (onTc (τ := Cert.NormBwdReferenceIdeal.τ) (Cert.NormBwdReferenceIdeal.main (F := Ideal))) ⟨m, fun _ => 0, g⟩ (fun r => (∀ c : Dev Cert.NormBwdReferenceIdeal.nD,
      r.2.mem ((c.tc : Thread Cert.NormBwdReferenceIdeal.nD Cert.NormBwdReferenceIdeal.τ).loc Cert.NormBwdReferenceIdeal.main_arg0) = m ((c.tc : Thread Cert.NormBwdReferenceIdeal.nD Cert.NormBwdReferenceIdeal.τ).loc Cert.NormBwdReferenceIdeal.main_arg0)
      ∧ r.2.mem ((c.tc : Thread Cert.NormBwdReferenceIdeal.nD Cert.NormBwdReferenceIdeal.τ).loc Cert.NormBwdReferenceIdeal.main_arg1) = m ((c.tc : Thread Cert.NormBwdReferenceIdeal.nD Cert.NormBwdReferenceIdeal.τ).loc Cert.NormBwdReferenceIdeal.main_arg1)
      ∧ r.2.mem ((c.tc : Thread Cert.NormBwdReferenceIdeal.nD Cert.NormBwdReferenceIdeal.τ).loc Cert.NormBwdReferenceIdeal.main_arg2) = m ((c.tc : Thread Cert.NormBwdReferenceIdeal.nD Cert.NormBwdReferenceIdeal.τ).loc Cert.NormBwdReferenceIdeal.main_arg2)
      ∧ r.2.mem ((c.tc : Thread Cert.NormBwdReferenceIdeal.nD Cert.NormBwdReferenceIdeal.τ).loc Cert.NormBwdReferenceIdeal.main_arg3) = m ((c.tc : Thread Cert.NormBwdReferenceIdeal.nD Cert.NormBwdReferenceIdeal.τ).loc Cert.NormBwdReferenceIdeal.main_arg3))
      ∧ r.2.sem = fun _ => 0)

def quiescent_NormFwd [hNormFwd : Cert.NormFwd.Facts] : Prop :=
  ∀ (m : (ℓ : Loc Cert.NormFwd.nD Cert.NormFwd.τ Cert.NormFwd.sig) → Buf (Elt Bits) ℓ) (g : Dev Cert.NormFwd.nD → PrngReg), Pre_NormFwd m →
    θ_run (Cert.NormFwd.defs (F := Bits)) (onTc (τ := Cert.NormFwd.τ) (Cert.NormFwd.main (F := Bits))) ⟨m, fun _ => 0, g⟩ (fun r => (∀ c : Dev Cert.NormFwd.nD,
      r.2.mem ((c.tc : Thread Cert.NormFwd.nD Cert.NormFwd.τ).loc Cert.NormFwd.main_arg0) = m ((c.tc : Thread Cert.NormFwd.nD Cert.NormFwd.τ).loc Cert.NormFwd.main_arg0)
      ∧ r.2.mem ((c.tc : Thread Cert.NormFwd.nD Cert.NormFwd.τ).loc Cert.NormFwd.main_arg1) = m ((c.tc : Thread Cert.NormFwd.nD Cert.NormFwd.τ).loc Cert.NormFwd.main_arg1))
      ∧ r.2.sem = fun _ => 0)

def quiescent_NormFwdIdeal [hNormFwdIdeal : Cert.NormFwdIdeal.Facts] : Prop :=
  ∀ (m : (ℓ : Loc Cert.NormFwdIdeal.nD Cert.NormFwdIdeal.τ Cert.NormFwdIdeal.sig) → Buf (Elt Ideal) ℓ) (g : Dev Cert.NormFwdIdeal.nD → PrngReg), Pre_NormFwdIdeal m →
    θ_run (Cert.NormFwdIdeal.defs (F := Ideal)) (onTc (τ := Cert.NormFwdIdeal.τ) (Cert.NormFwdIdeal.main (F := Ideal))) ⟨m, fun _ => 0, g⟩ (fun r => (∀ c : Dev Cert.NormFwdIdeal.nD,
      r.2.mem ((c.tc : Thread Cert.NormFwdIdeal.nD Cert.NormFwdIdeal.τ).loc Cert.NormFwdIdeal.main_arg0) = m ((c.tc : Thread Cert.NormFwdIdeal.nD Cert.NormFwdIdeal.τ).loc Cert.NormFwdIdeal.main_arg0)
      ∧ r.2.mem ((c.tc : Thread Cert.NormFwdIdeal.nD Cert.NormFwdIdeal.τ).loc Cert.NormFwdIdeal.main_arg1) = m ((c.tc : Thread Cert.NormFwdIdeal.nD Cert.NormFwdIdeal.τ).loc Cert.NormFwdIdeal.main_arg1))
      ∧ r.2.sem = fun _ => 0)

def quiescent_NormFwdReferenceIdeal [hNormFwdReferenceIdeal : Cert.NormFwdReferenceIdeal.Facts] : Prop :=
  ∀ (m : (ℓ : Loc Cert.NormFwdReferenceIdeal.nD Cert.NormFwdReferenceIdeal.τ Cert.NormFwdReferenceIdeal.sig) → Buf (Elt Ideal) ℓ) (g : Dev Cert.NormFwdReferenceIdeal.nD → PrngReg), Pre_NormFwdReferenceIdeal m →
    θ_run (Cert.NormFwdReferenceIdeal.defs (F := Ideal)) (onTc (τ := Cert.NormFwdReferenceIdeal.τ) (Cert.NormFwdReferenceIdeal.main (F := Ideal))) ⟨m, fun _ => 0, g⟩ (fun r => (∀ c : Dev Cert.NormFwdReferenceIdeal.nD,
      r.2.mem ((c.tc : Thread Cert.NormFwdReferenceIdeal.nD Cert.NormFwdReferenceIdeal.τ).loc Cert.NormFwdReferenceIdeal.main_arg0) = m ((c.tc : Thread Cert.NormFwdReferenceIdeal.nD Cert.NormFwdReferenceIdeal.τ).loc Cert.NormFwdReferenceIdeal.main_arg0)
      ∧ r.2.mem ((c.tc : Thread Cert.NormFwdReferenceIdeal.nD Cert.NormFwdReferenceIdeal.τ).loc Cert.NormFwdReferenceIdeal.main_arg1) = m ((c.tc : Thread Cert.NormFwdReferenceIdeal.nD Cert.NormFwdReferenceIdeal.τ).loc Cert.NormFwdReferenceIdeal.main_arg1))
      ∧ r.2.sem = fun _ => 0)

def quiescent_Gate [hGate : Cert.Gate.Facts] : Prop :=
  ∀ (m : (ℓ : Loc Cert.Gate.nD Cert.Gate.τ Cert.Gate.sig) → Buf (Elt Bits) ℓ) (g : Dev Cert.Gate.nD → PrngReg), Pre_Gate m →
    θ_run (Cert.Gate.defs (F := Bits)) (onTc (τ := Cert.Gate.τ) (Cert.Gate.main (F := Bits))) ⟨m, fun _ => 0, g⟩ (fun r => (∀ c : Dev Cert.Gate.nD,
      r.2.mem ((c.tc : Thread Cert.Gate.nD Cert.Gate.τ).loc Cert.Gate.main_arg0) = m ((c.tc : Thread Cert.Gate.nD Cert.Gate.τ).loc Cert.Gate.main_arg0)
      ∧ r.2.mem ((c.tc : Thread Cert.Gate.nD Cert.Gate.τ).loc Cert.Gate.main_arg1) = m ((c.tc : Thread Cert.Gate.nD Cert.Gate.τ).loc Cert.Gate.main_arg1)
      ∧ r.2.mem ((c.tc : Thread Cert.Gate.nD Cert.Gate.τ).loc Cert.Gate.main_arg2) = m ((c.tc : Thread Cert.Gate.nD Cert.Gate.τ).loc Cert.Gate.main_arg2)
      ∧ r.2.mem ((c.tc : Thread Cert.Gate.nD Cert.Gate.τ).loc Cert.Gate.main_arg3) = m ((c.tc : Thread Cert.Gate.nD Cert.Gate.τ).loc Cert.Gate.main_arg3))
      ∧ r.2.sem = fun _ => 0)

def quiescent_GateIdeal [hGateIdeal : Cert.GateIdeal.Facts] : Prop :=
  ∀ (m : (ℓ : Loc Cert.GateIdeal.nD Cert.GateIdeal.τ Cert.GateIdeal.sig) → Buf (Elt Ideal) ℓ) (g : Dev Cert.GateIdeal.nD → PrngReg), Pre_GateIdeal m →
    θ_run (Cert.GateIdeal.defs (F := Ideal)) (onTc (τ := Cert.GateIdeal.τ) (Cert.GateIdeal.main (F := Ideal))) ⟨m, fun _ => 0, g⟩ (fun r => (∀ c : Dev Cert.GateIdeal.nD,
      r.2.mem ((c.tc : Thread Cert.GateIdeal.nD Cert.GateIdeal.τ).loc Cert.GateIdeal.main_arg0) = m ((c.tc : Thread Cert.GateIdeal.nD Cert.GateIdeal.τ).loc Cert.GateIdeal.main_arg0)
      ∧ r.2.mem ((c.tc : Thread Cert.GateIdeal.nD Cert.GateIdeal.τ).loc Cert.GateIdeal.main_arg1) = m ((c.tc : Thread Cert.GateIdeal.nD Cert.GateIdeal.τ).loc Cert.GateIdeal.main_arg1)
      ∧ r.2.mem ((c.tc : Thread Cert.GateIdeal.nD Cert.GateIdeal.τ).loc Cert.GateIdeal.main_arg2) = m ((c.tc : Thread Cert.GateIdeal.nD Cert.GateIdeal.τ).loc Cert.GateIdeal.main_arg2)
      ∧ r.2.mem ((c.tc : Thread Cert.GateIdeal.nD Cert.GateIdeal.τ).loc Cert.GateIdeal.main_arg3) = m ((c.tc : Thread Cert.GateIdeal.nD Cert.GateIdeal.τ).loc Cert.GateIdeal.main_arg3))
      ∧ r.2.sem = fun _ => 0)

def quiescent_GateReferenceIdeal [hGateReferenceIdeal : Cert.GateReferenceIdeal.Facts] : Prop :=
  ∀ (m : (ℓ : Loc Cert.GateReferenceIdeal.nD Cert.GateReferenceIdeal.τ Cert.GateReferenceIdeal.sig) → Buf (Elt Ideal) ℓ) (g : Dev Cert.GateReferenceIdeal.nD → PrngReg), Pre_GateReferenceIdeal m →
    θ_run (Cert.GateReferenceIdeal.defs (F := Ideal)) (onTc (τ := Cert.GateReferenceIdeal.τ) (Cert.GateReferenceIdeal.main (F := Ideal))) ⟨m, fun _ => 0, g⟩ (fun r => (∀ c : Dev Cert.GateReferenceIdeal.nD,
      r.2.mem ((c.tc : Thread Cert.GateReferenceIdeal.nD Cert.GateReferenceIdeal.τ).loc Cert.GateReferenceIdeal.main_arg0) = m ((c.tc : Thread Cert.GateReferenceIdeal.nD Cert.GateReferenceIdeal.τ).loc Cert.GateReferenceIdeal.main_arg0)
      ∧ r.2.mem ((c.tc : Thread Cert.GateReferenceIdeal.nD Cert.GateReferenceIdeal.τ).loc Cert.GateReferenceIdeal.main_arg1) = m ((c.tc : Thread Cert.GateReferenceIdeal.nD Cert.GateReferenceIdeal.τ).loc Cert.GateReferenceIdeal.main_arg1)
      ∧ r.2.mem ((c.tc : Thread Cert.GateReferenceIdeal.nD Cert.GateReferenceIdeal.τ).loc Cert.GateReferenceIdeal.main_arg2) = m ((c.tc : Thread Cert.GateReferenceIdeal.nD Cert.GateReferenceIdeal.τ).loc Cert.GateReferenceIdeal.main_arg2)
      ∧ r.2.mem ((c.tc : Thread Cert.GateReferenceIdeal.nD Cert.GateReferenceIdeal.τ).loc Cert.GateReferenceIdeal.main_arg3) = m ((c.tc : Thread Cert.GateReferenceIdeal.nD Cert.GateReferenceIdeal.τ).loc Cert.GateReferenceIdeal.main_arg3))
      ∧ r.2.sem = fun _ => 0)

def quiescent_AttnGate [hAttnGate : Cert.AttnGate.Facts] : Prop :=
  ∀ (m : (ℓ : Loc Cert.AttnGate.nD Cert.AttnGate.τ Cert.AttnGate.sig) → Buf (Elt Bits) ℓ) (g : Dev Cert.AttnGate.nD → PrngReg), Pre_AttnGate m →
    θ_run (Cert.AttnGate.defs (F := Bits)) (onTc (τ := Cert.AttnGate.τ) (Cert.AttnGate.main (F := Bits))) ⟨m, fun _ => 0, g⟩ (fun r => (∀ c : Dev Cert.AttnGate.nD,
      r.2.mem ((c.tc : Thread Cert.AttnGate.nD Cert.AttnGate.τ).loc Cert.AttnGate.main_arg0) = m ((c.tc : Thread Cert.AttnGate.nD Cert.AttnGate.τ).loc Cert.AttnGate.main_arg0)
      ∧ r.2.mem ((c.tc : Thread Cert.AttnGate.nD Cert.AttnGate.τ).loc Cert.AttnGate.main_arg1) = m ((c.tc : Thread Cert.AttnGate.nD Cert.AttnGate.τ).loc Cert.AttnGate.main_arg1)
      ∧ r.2.mem ((c.tc : Thread Cert.AttnGate.nD Cert.AttnGate.τ).loc Cert.AttnGate.main_arg2) = m ((c.tc : Thread Cert.AttnGate.nD Cert.AttnGate.τ).loc Cert.AttnGate.main_arg2))
      ∧ r.2.sem = fun _ => 0)

def quiescent_AttnGateIdeal [hAttnGateIdeal : Cert.AttnGateIdeal.Facts] : Prop :=
  ∀ (m : (ℓ : Loc Cert.AttnGateIdeal.nD Cert.AttnGateIdeal.τ Cert.AttnGateIdeal.sig) → Buf (Elt Ideal) ℓ) (g : Dev Cert.AttnGateIdeal.nD → PrngReg), Pre_AttnGateIdeal m →
    θ_run (Cert.AttnGateIdeal.defs (F := Ideal)) (onTc (τ := Cert.AttnGateIdeal.τ) (Cert.AttnGateIdeal.main (F := Ideal))) ⟨m, fun _ => 0, g⟩ (fun r => (∀ c : Dev Cert.AttnGateIdeal.nD,
      r.2.mem ((c.tc : Thread Cert.AttnGateIdeal.nD Cert.AttnGateIdeal.τ).loc Cert.AttnGateIdeal.main_arg0) = m ((c.tc : Thread Cert.AttnGateIdeal.nD Cert.AttnGateIdeal.τ).loc Cert.AttnGateIdeal.main_arg0)
      ∧ r.2.mem ((c.tc : Thread Cert.AttnGateIdeal.nD Cert.AttnGateIdeal.τ).loc Cert.AttnGateIdeal.main_arg1) = m ((c.tc : Thread Cert.AttnGateIdeal.nD Cert.AttnGateIdeal.τ).loc Cert.AttnGateIdeal.main_arg1)
      ∧ r.2.mem ((c.tc : Thread Cert.AttnGateIdeal.nD Cert.AttnGateIdeal.τ).loc Cert.AttnGateIdeal.main_arg2) = m ((c.tc : Thread Cert.AttnGateIdeal.nD Cert.AttnGateIdeal.τ).loc Cert.AttnGateIdeal.main_arg2))
      ∧ r.2.sem = fun _ => 0)

def quiescent_AttnGateReferenceIdeal [hAttnGateReferenceIdeal : Cert.AttnGateReferenceIdeal.Facts] : Prop :=
  ∀ (m : (ℓ : Loc Cert.AttnGateReferenceIdeal.nD Cert.AttnGateReferenceIdeal.τ Cert.AttnGateReferenceIdeal.sig) → Buf (Elt Ideal) ℓ) (g : Dev Cert.AttnGateReferenceIdeal.nD → PrngReg), Pre_AttnGateReferenceIdeal m →
    θ_run (Cert.AttnGateReferenceIdeal.defs (F := Ideal)) (onTc (τ := Cert.AttnGateReferenceIdeal.τ) (Cert.AttnGateReferenceIdeal.main (F := Ideal))) ⟨m, fun _ => 0, g⟩ (fun r => (∀ c : Dev Cert.AttnGateReferenceIdeal.nD,
      r.2.mem ((c.tc : Thread Cert.AttnGateReferenceIdeal.nD Cert.AttnGateReferenceIdeal.τ).loc Cert.AttnGateReferenceIdeal.main_arg0) = m ((c.tc : Thread Cert.AttnGateReferenceIdeal.nD Cert.AttnGateReferenceIdeal.τ).loc Cert.AttnGateReferenceIdeal.main_arg0)
      ∧ r.2.mem ((c.tc : Thread Cert.AttnGateReferenceIdeal.nD Cert.AttnGateReferenceIdeal.τ).loc Cert.AttnGateReferenceIdeal.main_arg1) = m ((c.tc : Thread Cert.AttnGateReferenceIdeal.nD Cert.AttnGateReferenceIdeal.τ).loc Cert.AttnGateReferenceIdeal.main_arg1)
      ∧ r.2.mem ((c.tc : Thread Cert.AttnGateReferenceIdeal.nD Cert.AttnGateReferenceIdeal.τ).loc Cert.AttnGateReferenceIdeal.main_arg2) = m ((c.tc : Thread Cert.AttnGateReferenceIdeal.nD Cert.AttnGateReferenceIdeal.τ).loc Cert.AttnGateReferenceIdeal.main_arg2))
      ∧ r.2.sem = fun _ => 0)

def quiescent_SumSmall [hSumSmall : Cert.SumSmall.Facts] : Prop :=
  ∀ (m : (ℓ : Loc Cert.SumSmall.nD Cert.SumSmall.τ Cert.SumSmall.sig) → Buf (Elt Bits) ℓ) (g : Dev Cert.SumSmall.nD → PrngReg), Pre_SumSmall m →
    θ_run (Cert.SumSmall.defs (F := Bits)) (onTc (τ := Cert.SumSmall.τ) (Cert.SumSmall.main (F := Bits))) ⟨m, fun _ => 0, g⟩ (fun r => (∀ c : Dev Cert.SumSmall.nD,
      r.2.mem ((c.tc : Thread Cert.SumSmall.nD Cert.SumSmall.τ).loc Cert.SumSmall.main_arg0) = m ((c.tc : Thread Cert.SumSmall.nD Cert.SumSmall.τ).loc Cert.SumSmall.main_arg0))
      ∧ r.2.sem = fun _ => 0)

def quiescent_SumSmallIdeal [hSumSmallIdeal : Cert.SumSmallIdeal.Facts] : Prop :=
  ∀ (m : (ℓ : Loc Cert.SumSmallIdeal.nD Cert.SumSmallIdeal.τ Cert.SumSmallIdeal.sig) → Buf (Elt Ideal) ℓ) (g : Dev Cert.SumSmallIdeal.nD → PrngReg), Pre_SumSmallIdeal m →
    θ_run (Cert.SumSmallIdeal.defs (F := Ideal)) (onTc (τ := Cert.SumSmallIdeal.τ) (Cert.SumSmallIdeal.main (F := Ideal))) ⟨m, fun _ => 0, g⟩ (fun r => (∀ c : Dev Cert.SumSmallIdeal.nD,
      r.2.mem ((c.tc : Thread Cert.SumSmallIdeal.nD Cert.SumSmallIdeal.τ).loc Cert.SumSmallIdeal.main_arg0) = m ((c.tc : Thread Cert.SumSmallIdeal.nD Cert.SumSmallIdeal.τ).loc Cert.SumSmallIdeal.main_arg0))
      ∧ r.2.sem = fun _ => 0)

def quiescent_SumSmallReferenceIdeal [hSumSmallReferenceIdeal : Cert.SumSmallReferenceIdeal.Facts] : Prop :=
  ∀ (m : (ℓ : Loc Cert.SumSmallReferenceIdeal.nD Cert.SumSmallReferenceIdeal.τ Cert.SumSmallReferenceIdeal.sig) → Buf (Elt Ideal) ℓ) (g : Dev Cert.SumSmallReferenceIdeal.nD → PrngReg), Pre_SumSmallReferenceIdeal m →
    θ_run (Cert.SumSmallReferenceIdeal.defs (F := Ideal)) (onTc (τ := Cert.SumSmallReferenceIdeal.τ) (Cert.SumSmallReferenceIdeal.main (F := Ideal))) ⟨m, fun _ => 0, g⟩ (fun r => (∀ c : Dev Cert.SumSmallReferenceIdeal.nD,
      r.2.mem ((c.tc : Thread Cert.SumSmallReferenceIdeal.nD Cert.SumSmallReferenceIdeal.τ).loc Cert.SumSmallReferenceIdeal.main_arg0) = m ((c.tc : Thread Cert.SumSmallReferenceIdeal.nD Cert.SumSmallReferenceIdeal.τ).loc Cert.SumSmallReferenceIdeal.main_arg0))
      ∧ r.2.sem = fun _ => 0)

def quiescent_AttnFwd [hAttnFwd : Cert.AttnFwd.Facts] : Prop :=
  ∀ (m : (ℓ : Loc Cert.AttnFwd.nD Cert.AttnFwd.τ Cert.AttnFwd.sig) → Buf (Elt Bits) ℓ) (g : Dev Cert.AttnFwd.nD → PrngReg), Pre_AttnFwd m →
    θ_run (Cert.AttnFwd.defs (F := Bits)) (onTc (τ := Cert.AttnFwd.τ) (Cert.AttnFwd.main (F := Bits))) ⟨m, fun _ => 0, g⟩ (fun r => (∀ c : Dev Cert.AttnFwd.nD,
      r.2.mem ((c.tc : Thread Cert.AttnFwd.nD Cert.AttnFwd.τ).loc Cert.AttnFwd.main_arg0) = m ((c.tc : Thread Cert.AttnFwd.nD Cert.AttnFwd.τ).loc Cert.AttnFwd.main_arg0)
      ∧ r.2.mem ((c.tc : Thread Cert.AttnFwd.nD Cert.AttnFwd.τ).loc Cert.AttnFwd.main_arg1) = m ((c.tc : Thread Cert.AttnFwd.nD Cert.AttnFwd.τ).loc Cert.AttnFwd.main_arg1)
      ∧ r.2.mem ((c.tc : Thread Cert.AttnFwd.nD Cert.AttnFwd.τ).loc Cert.AttnFwd.main_arg2) = m ((c.tc : Thread Cert.AttnFwd.nD Cert.AttnFwd.τ).loc Cert.AttnFwd.main_arg2))
      ∧ r.2.sem = fun _ => 0)

def quiescent_AttnFwdIdeal [hAttnFwdIdeal : Cert.AttnFwdIdeal.Facts] : Prop :=
  ∀ (m : (ℓ : Loc Cert.AttnFwdIdeal.nD Cert.AttnFwdIdeal.τ Cert.AttnFwdIdeal.sig) → Buf (Elt Ideal) ℓ) (g : Dev Cert.AttnFwdIdeal.nD → PrngReg), Pre_AttnFwdIdeal m →
    θ_run (Cert.AttnFwdIdeal.defs (F := Ideal)) (onTc (τ := Cert.AttnFwdIdeal.τ) (Cert.AttnFwdIdeal.main (F := Ideal))) ⟨m, fun _ => 0, g⟩ (fun r => (∀ c : Dev Cert.AttnFwdIdeal.nD,
      r.2.mem ((c.tc : Thread Cert.AttnFwdIdeal.nD Cert.AttnFwdIdeal.τ).loc Cert.AttnFwdIdeal.main_arg0) = m ((c.tc : Thread Cert.AttnFwdIdeal.nD Cert.AttnFwdIdeal.τ).loc Cert.AttnFwdIdeal.main_arg0)
      ∧ r.2.mem ((c.tc : Thread Cert.AttnFwdIdeal.nD Cert.AttnFwdIdeal.τ).loc Cert.AttnFwdIdeal.main_arg1) = m ((c.tc : Thread Cert.AttnFwdIdeal.nD Cert.AttnFwdIdeal.τ).loc Cert.AttnFwdIdeal.main_arg1)
      ∧ r.2.mem ((c.tc : Thread Cert.AttnFwdIdeal.nD Cert.AttnFwdIdeal.τ).loc Cert.AttnFwdIdeal.main_arg2) = m ((c.tc : Thread Cert.AttnFwdIdeal.nD Cert.AttnFwdIdeal.τ).loc Cert.AttnFwdIdeal.main_arg2))
      ∧ r.2.sem = fun _ => 0)

def quiescent_AttnFwdIdeal_pre_finite_scores [hAttnFwdIdeal : Cert.AttnFwdIdeal.Facts] [hPre_finite_scores : Cert.Pre_finite_scores.Facts] : Prop :=
  ∀ (m : (ℓ : Loc Cert.AttnFwdIdeal.nD Cert.AttnFwdIdeal.τ Cert.AttnFwdIdeal.sig) → Buf (Elt Ideal) ℓ) (g : Dev Cert.AttnFwdIdeal.nD → PrngReg), Pre_AttnFwdIdeal_finite_scores m →
    θ_run (Cert.AttnFwdIdeal.defs (F := Ideal)) (onTc (τ := Cert.AttnFwdIdeal.τ) (Cert.AttnFwdIdeal.main (F := Ideal))) ⟨m, fun _ => 0, g⟩ (fun r => (∀ c : Dev Cert.AttnFwdIdeal.nD,
      r.2.mem ((c.tc : Thread Cert.AttnFwdIdeal.nD Cert.AttnFwdIdeal.τ).loc Cert.AttnFwdIdeal.main_arg0) = m ((c.tc : Thread Cert.AttnFwdIdeal.nD Cert.AttnFwdIdeal.τ).loc Cert.AttnFwdIdeal.main_arg0)
      ∧ r.2.mem ((c.tc : Thread Cert.AttnFwdIdeal.nD Cert.AttnFwdIdeal.τ).loc Cert.AttnFwdIdeal.main_arg1) = m ((c.tc : Thread Cert.AttnFwdIdeal.nD Cert.AttnFwdIdeal.τ).loc Cert.AttnFwdIdeal.main_arg1)
      ∧ r.2.mem ((c.tc : Thread Cert.AttnFwdIdeal.nD Cert.AttnFwdIdeal.τ).loc Cert.AttnFwdIdeal.main_arg2) = m ((c.tc : Thread Cert.AttnFwdIdeal.nD Cert.AttnFwdIdeal.τ).loc Cert.AttnFwdIdeal.main_arg2))
      ∧ r.2.sem = fun _ => 0)

def quiescent_AttnFwdReferenceIdeal [hAttnFwdReferenceIdeal : Cert.AttnFwdReferenceIdeal.Facts] : Prop :=
  ∀ (m : (ℓ : Loc Cert.AttnFwdReferenceIdeal.nD Cert.AttnFwdReferenceIdeal.τ Cert.AttnFwdReferenceIdeal.sig) → Buf (Elt Ideal) ℓ) (g : Dev Cert.AttnFwdReferenceIdeal.nD → PrngReg), Pre_AttnFwdReferenceIdeal m →
    θ_run (Cert.AttnFwdReferenceIdeal.defs (F := Ideal)) (onTc (τ := Cert.AttnFwdReferenceIdeal.τ) (Cert.AttnFwdReferenceIdeal.main (F := Ideal))) ⟨m, fun _ => 0, g⟩ (fun r => (∀ c : Dev Cert.AttnFwdReferenceIdeal.nD,
      r.2.mem ((c.tc : Thread Cert.AttnFwdReferenceIdeal.nD Cert.AttnFwdReferenceIdeal.τ).loc Cert.AttnFwdReferenceIdeal.main_arg0) = m ((c.tc : Thread Cert.AttnFwdReferenceIdeal.nD Cert.AttnFwdReferenceIdeal.τ).loc Cert.AttnFwdReferenceIdeal.main_arg0)
      ∧ r.2.mem ((c.tc : Thread Cert.AttnFwdReferenceIdeal.nD Cert.AttnFwdReferenceIdeal.τ).loc Cert.AttnFwdReferenceIdeal.main_arg1) = m ((c.tc : Thread Cert.AttnFwdReferenceIdeal.nD Cert.AttnFwdReferenceIdeal.τ).loc Cert.AttnFwdReferenceIdeal.main_arg1)
      ∧ r.2.mem ((c.tc : Thread Cert.AttnFwdReferenceIdeal.nD Cert.AttnFwdReferenceIdeal.τ).loc Cert.AttnFwdReferenceIdeal.main_arg2) = m ((c.tc : Thread Cert.AttnFwdReferenceIdeal.nD Cert.AttnFwdReferenceIdeal.τ).loc Cert.AttnFwdReferenceIdeal.main_arg2))
      ∧ r.2.sem = fun _ => 0)

def quiescent_AttnFwdReferenceIdeal_pre_finite_scores [hAttnFwdReferenceIdeal : Cert.AttnFwdReferenceIdeal.Facts] [hPre_finite_scores : Cert.Pre_finite_scores.Facts] : Prop :=
  ∀ (m : (ℓ : Loc Cert.AttnFwdReferenceIdeal.nD Cert.AttnFwdReferenceIdeal.τ Cert.AttnFwdReferenceIdeal.sig) → Buf (Elt Ideal) ℓ) (g : Dev Cert.AttnFwdReferenceIdeal.nD → PrngReg), Pre_AttnFwdReferenceIdeal_finite_scores m →
    θ_run (Cert.AttnFwdReferenceIdeal.defs (F := Ideal)) (onTc (τ := Cert.AttnFwdReferenceIdeal.τ) (Cert.AttnFwdReferenceIdeal.main (F := Ideal))) ⟨m, fun _ => 0, g⟩ (fun r => (∀ c : Dev Cert.AttnFwdReferenceIdeal.nD,
      r.2.mem ((c.tc : Thread Cert.AttnFwdReferenceIdeal.nD Cert.AttnFwdReferenceIdeal.τ).loc Cert.AttnFwdReferenceIdeal.main_arg0) = m ((c.tc : Thread Cert.AttnFwdReferenceIdeal.nD Cert.AttnFwdReferenceIdeal.τ).loc Cert.AttnFwdReferenceIdeal.main_arg0)
      ∧ r.2.mem ((c.tc : Thread Cert.AttnFwdReferenceIdeal.nD Cert.AttnFwdReferenceIdeal.τ).loc Cert.AttnFwdReferenceIdeal.main_arg1) = m ((c.tc : Thread Cert.AttnFwdReferenceIdeal.nD Cert.AttnFwdReferenceIdeal.τ).loc Cert.AttnFwdReferenceIdeal.main_arg1)
      ∧ r.2.mem ((c.tc : Thread Cert.AttnFwdReferenceIdeal.nD Cert.AttnFwdReferenceIdeal.τ).loc Cert.AttnFwdReferenceIdeal.main_arg2) = m ((c.tc : Thread Cert.AttnFwdReferenceIdeal.nD Cert.AttnFwdReferenceIdeal.τ).loc Cert.AttnFwdReferenceIdeal.main_arg2))
      ∧ r.2.sem = fun _ => 0)

def quiescent_GateBwd [hGateBwd : Cert.GateBwd.Facts] : Prop :=
  ∀ (m : (ℓ : Loc Cert.GateBwd.nD Cert.GateBwd.τ Cert.GateBwd.sig) → Buf (Elt Bits) ℓ) (g : Dev Cert.GateBwd.nD → PrngReg), Pre_GateBwd m →
    θ_run (Cert.GateBwd.defs (F := Bits)) (onTc (τ := Cert.GateBwd.τ) (Cert.GateBwd.main (F := Bits))) ⟨m, fun _ => 0, g⟩ (fun r => (∀ c : Dev Cert.GateBwd.nD,
      r.2.mem ((c.tc : Thread Cert.GateBwd.nD Cert.GateBwd.τ).loc Cert.GateBwd.main_arg0) = m ((c.tc : Thread Cert.GateBwd.nD Cert.GateBwd.τ).loc Cert.GateBwd.main_arg0)
      ∧ r.2.mem ((c.tc : Thread Cert.GateBwd.nD Cert.GateBwd.τ).loc Cert.GateBwd.main_arg1) = m ((c.tc : Thread Cert.GateBwd.nD Cert.GateBwd.τ).loc Cert.GateBwd.main_arg1)
      ∧ r.2.mem ((c.tc : Thread Cert.GateBwd.nD Cert.GateBwd.τ).loc Cert.GateBwd.main_arg2) = m ((c.tc : Thread Cert.GateBwd.nD Cert.GateBwd.τ).loc Cert.GateBwd.main_arg2)
      ∧ r.2.mem ((c.tc : Thread Cert.GateBwd.nD Cert.GateBwd.τ).loc Cert.GateBwd.main_arg3) = m ((c.tc : Thread Cert.GateBwd.nD Cert.GateBwd.τ).loc Cert.GateBwd.main_arg3)
      ∧ r.2.mem ((c.tc : Thread Cert.GateBwd.nD Cert.GateBwd.τ).loc Cert.GateBwd.main_arg4) = m ((c.tc : Thread Cert.GateBwd.nD Cert.GateBwd.τ).loc Cert.GateBwd.main_arg4)
      ∧ r.2.mem ((c.tc : Thread Cert.GateBwd.nD Cert.GateBwd.τ).loc Cert.GateBwd.main_arg5) = m ((c.tc : Thread Cert.GateBwd.nD Cert.GateBwd.τ).loc Cert.GateBwd.main_arg5))
      ∧ r.2.sem = fun _ => 0)

def quiescent_GateBwdIdeal [hGateBwdIdeal : Cert.GateBwdIdeal.Facts] : Prop :=
  ∀ (m : (ℓ : Loc Cert.GateBwdIdeal.nD Cert.GateBwdIdeal.τ Cert.GateBwdIdeal.sig) → Buf (Elt Ideal) ℓ) (g : Dev Cert.GateBwdIdeal.nD → PrngReg), Pre_GateBwdIdeal m →
    θ_run (Cert.GateBwdIdeal.defs (F := Ideal)) (onTc (τ := Cert.GateBwdIdeal.τ) (Cert.GateBwdIdeal.main (F := Ideal))) ⟨m, fun _ => 0, g⟩ (fun r => (∀ c : Dev Cert.GateBwdIdeal.nD,
      r.2.mem ((c.tc : Thread Cert.GateBwdIdeal.nD Cert.GateBwdIdeal.τ).loc Cert.GateBwdIdeal.main_arg0) = m ((c.tc : Thread Cert.GateBwdIdeal.nD Cert.GateBwdIdeal.τ).loc Cert.GateBwdIdeal.main_arg0)
      ∧ r.2.mem ((c.tc : Thread Cert.GateBwdIdeal.nD Cert.GateBwdIdeal.τ).loc Cert.GateBwdIdeal.main_arg1) = m ((c.tc : Thread Cert.GateBwdIdeal.nD Cert.GateBwdIdeal.τ).loc Cert.GateBwdIdeal.main_arg1)
      ∧ r.2.mem ((c.tc : Thread Cert.GateBwdIdeal.nD Cert.GateBwdIdeal.τ).loc Cert.GateBwdIdeal.main_arg2) = m ((c.tc : Thread Cert.GateBwdIdeal.nD Cert.GateBwdIdeal.τ).loc Cert.GateBwdIdeal.main_arg2)
      ∧ r.2.mem ((c.tc : Thread Cert.GateBwdIdeal.nD Cert.GateBwdIdeal.τ).loc Cert.GateBwdIdeal.main_arg3) = m ((c.tc : Thread Cert.GateBwdIdeal.nD Cert.GateBwdIdeal.τ).loc Cert.GateBwdIdeal.main_arg3)
      ∧ r.2.mem ((c.tc : Thread Cert.GateBwdIdeal.nD Cert.GateBwdIdeal.τ).loc Cert.GateBwdIdeal.main_arg4) = m ((c.tc : Thread Cert.GateBwdIdeal.nD Cert.GateBwdIdeal.τ).loc Cert.GateBwdIdeal.main_arg4)
      ∧ r.2.mem ((c.tc : Thread Cert.GateBwdIdeal.nD Cert.GateBwdIdeal.τ).loc Cert.GateBwdIdeal.main_arg5) = m ((c.tc : Thread Cert.GateBwdIdeal.nD Cert.GateBwdIdeal.τ).loc Cert.GateBwdIdeal.main_arg5))
      ∧ r.2.sem = fun _ => 0)

def quiescent_GateBwdIdeal_pre_finite_gate [hGateBwdIdeal : Cert.GateBwdIdeal.Facts] [hPre_finite_gate : Cert.Pre_finite_gate.Facts] : Prop :=
  ∀ (m : (ℓ : Loc Cert.GateBwdIdeal.nD Cert.GateBwdIdeal.τ Cert.GateBwdIdeal.sig) → Buf (Elt Ideal) ℓ) (g : Dev Cert.GateBwdIdeal.nD → PrngReg), Pre_GateBwdIdeal_finite_gate m →
    θ_run (Cert.GateBwdIdeal.defs (F := Ideal)) (onTc (τ := Cert.GateBwdIdeal.τ) (Cert.GateBwdIdeal.main (F := Ideal))) ⟨m, fun _ => 0, g⟩ (fun r => (∀ c : Dev Cert.GateBwdIdeal.nD,
      r.2.mem ((c.tc : Thread Cert.GateBwdIdeal.nD Cert.GateBwdIdeal.τ).loc Cert.GateBwdIdeal.main_arg0) = m ((c.tc : Thread Cert.GateBwdIdeal.nD Cert.GateBwdIdeal.τ).loc Cert.GateBwdIdeal.main_arg0)
      ∧ r.2.mem ((c.tc : Thread Cert.GateBwdIdeal.nD Cert.GateBwdIdeal.τ).loc Cert.GateBwdIdeal.main_arg1) = m ((c.tc : Thread Cert.GateBwdIdeal.nD Cert.GateBwdIdeal.τ).loc Cert.GateBwdIdeal.main_arg1)
      ∧ r.2.mem ((c.tc : Thread Cert.GateBwdIdeal.nD Cert.GateBwdIdeal.τ).loc Cert.GateBwdIdeal.main_arg2) = m ((c.tc : Thread Cert.GateBwdIdeal.nD Cert.GateBwdIdeal.τ).loc Cert.GateBwdIdeal.main_arg2)
      ∧ r.2.mem ((c.tc : Thread Cert.GateBwdIdeal.nD Cert.GateBwdIdeal.τ).loc Cert.GateBwdIdeal.main_arg3) = m ((c.tc : Thread Cert.GateBwdIdeal.nD Cert.GateBwdIdeal.τ).loc Cert.GateBwdIdeal.main_arg3)
      ∧ r.2.mem ((c.tc : Thread Cert.GateBwdIdeal.nD Cert.GateBwdIdeal.τ).loc Cert.GateBwdIdeal.main_arg4) = m ((c.tc : Thread Cert.GateBwdIdeal.nD Cert.GateBwdIdeal.τ).loc Cert.GateBwdIdeal.main_arg4)
      ∧ r.2.mem ((c.tc : Thread Cert.GateBwdIdeal.nD Cert.GateBwdIdeal.τ).loc Cert.GateBwdIdeal.main_arg5) = m ((c.tc : Thread Cert.GateBwdIdeal.nD Cert.GateBwdIdeal.τ).loc Cert.GateBwdIdeal.main_arg5))
      ∧ r.2.sem = fun _ => 0)

def quiescent_GateBwdReferenceIdeal [hGateBwdReferenceIdeal : Cert.GateBwdReferenceIdeal.Facts] : Prop :=
  ∀ (m : (ℓ : Loc Cert.GateBwdReferenceIdeal.nD Cert.GateBwdReferenceIdeal.τ Cert.GateBwdReferenceIdeal.sig) → Buf (Elt Ideal) ℓ) (g : Dev Cert.GateBwdReferenceIdeal.nD → PrngReg), Pre_GateBwdReferenceIdeal m →
    θ_run (Cert.GateBwdReferenceIdeal.defs (F := Ideal)) (onTc (τ := Cert.GateBwdReferenceIdeal.τ) (Cert.GateBwdReferenceIdeal.main (F := Ideal))) ⟨m, fun _ => 0, g⟩ (fun r => (∀ c : Dev Cert.GateBwdReferenceIdeal.nD,
      r.2.mem ((c.tc : Thread Cert.GateBwdReferenceIdeal.nD Cert.GateBwdReferenceIdeal.τ).loc Cert.GateBwdReferenceIdeal.main_arg0) = m ((c.tc : Thread Cert.GateBwdReferenceIdeal.nD Cert.GateBwdReferenceIdeal.τ).loc Cert.GateBwdReferenceIdeal.main_arg0)
      ∧ r.2.mem ((c.tc : Thread Cert.GateBwdReferenceIdeal.nD Cert.GateBwdReferenceIdeal.τ).loc Cert.GateBwdReferenceIdeal.main_arg1) = m ((c.tc : Thread Cert.GateBwdReferenceIdeal.nD Cert.GateBwdReferenceIdeal.τ).loc Cert.GateBwdReferenceIdeal.main_arg1)
      ∧ r.2.mem ((c.tc : Thread Cert.GateBwdReferenceIdeal.nD Cert.GateBwdReferenceIdeal.τ).loc Cert.GateBwdReferenceIdeal.main_arg2) = m ((c.tc : Thread Cert.GateBwdReferenceIdeal.nD Cert.GateBwdReferenceIdeal.τ).loc Cert.GateBwdReferenceIdeal.main_arg2)
      ∧ r.2.mem ((c.tc : Thread Cert.GateBwdReferenceIdeal.nD Cert.GateBwdReferenceIdeal.τ).loc Cert.GateBwdReferenceIdeal.main_arg3) = m ((c.tc : Thread Cert.GateBwdReferenceIdeal.nD Cert.GateBwdReferenceIdeal.τ).loc Cert.GateBwdReferenceIdeal.main_arg3)
      ∧ r.2.mem ((c.tc : Thread Cert.GateBwdReferenceIdeal.nD Cert.GateBwdReferenceIdeal.τ).loc Cert.GateBwdReferenceIdeal.main_arg4) = m ((c.tc : Thread Cert.GateBwdReferenceIdeal.nD Cert.GateBwdReferenceIdeal.τ).loc Cert.GateBwdReferenceIdeal.main_arg4)
      ∧ r.2.mem ((c.tc : Thread Cert.GateBwdReferenceIdeal.nD Cert.GateBwdReferenceIdeal.τ).loc Cert.GateBwdReferenceIdeal.main_arg5) = m ((c.tc : Thread Cert.GateBwdReferenceIdeal.nD Cert.GateBwdReferenceIdeal.τ).loc Cert.GateBwdReferenceIdeal.main_arg5))
      ∧ r.2.sem = fun _ => 0)

def quiescent_GateBwdReferenceIdeal_pre_finite_gate [hGateBwdReferenceIdeal : Cert.GateBwdReferenceIdeal.Facts] [hPre_finite_gate : Cert.Pre_finite_gate.Facts] : Prop :=
  ∀ (m : (ℓ : Loc Cert.GateBwdReferenceIdeal.nD Cert.GateBwdReferenceIdeal.τ Cert.GateBwdReferenceIdeal.sig) → Buf (Elt Ideal) ℓ) (g : Dev Cert.GateBwdReferenceIdeal.nD → PrngReg), Pre_GateBwdReferenceIdeal_finite_gate m →
    θ_run (Cert.GateBwdReferenceIdeal.defs (F := Ideal)) (onTc (τ := Cert.GateBwdReferenceIdeal.τ) (Cert.GateBwdReferenceIdeal.main (F := Ideal))) ⟨m, fun _ => 0, g⟩ (fun r => (∀ c : Dev Cert.GateBwdReferenceIdeal.nD,
      r.2.mem ((c.tc : Thread Cert.GateBwdReferenceIdeal.nD Cert.GateBwdReferenceIdeal.τ).loc Cert.GateBwdReferenceIdeal.main_arg0) = m ((c.tc : Thread Cert.GateBwdReferenceIdeal.nD Cert.GateBwdReferenceIdeal.τ).loc Cert.GateBwdReferenceIdeal.main_arg0)
      ∧ r.2.mem ((c.tc : Thread Cert.GateBwdReferenceIdeal.nD Cert.GateBwdReferenceIdeal.τ).loc Cert.GateBwdReferenceIdeal.main_arg1) = m ((c.tc : Thread Cert.GateBwdReferenceIdeal.nD Cert.GateBwdReferenceIdeal.τ).loc Cert.GateBwdReferenceIdeal.main_arg1)
      ∧ r.2.mem ((c.tc : Thread Cert.GateBwdReferenceIdeal.nD Cert.GateBwdReferenceIdeal.τ).loc Cert.GateBwdReferenceIdeal.main_arg2) = m ((c.tc : Thread Cert.GateBwdReferenceIdeal.nD Cert.GateBwdReferenceIdeal.τ).loc Cert.GateBwdReferenceIdeal.main_arg2)
      ∧ r.2.mem ((c.tc : Thread Cert.GateBwdReferenceIdeal.nD Cert.GateBwdReferenceIdeal.τ).loc Cert.GateBwdReferenceIdeal.main_arg3) = m ((c.tc : Thread Cert.GateBwdReferenceIdeal.nD Cert.GateBwdReferenceIdeal.τ).loc Cert.GateBwdReferenceIdeal.main_arg3)
      ∧ r.2.mem ((c.tc : Thread Cert.GateBwdReferenceIdeal.nD Cert.GateBwdReferenceIdeal.τ).loc Cert.GateBwdReferenceIdeal.main_arg4) = m ((c.tc : Thread Cert.GateBwdReferenceIdeal.nD Cert.GateBwdReferenceIdeal.τ).loc Cert.GateBwdReferenceIdeal.main_arg4)
      ∧ r.2.mem ((c.tc : Thread Cert.GateBwdReferenceIdeal.nD Cert.GateBwdReferenceIdeal.τ).loc Cert.GateBwdReferenceIdeal.main_arg5) = m ((c.tc : Thread Cert.GateBwdReferenceIdeal.nD Cert.GateBwdReferenceIdeal.τ).loc Cert.GateBwdReferenceIdeal.main_arg5))
      ∧ r.2.sem = fun _ => 0)

def quiescent_AttnGateBwd [hAttnGateBwd : Cert.AttnGateBwd.Facts] : Prop :=
  ∀ (m : (ℓ : Loc Cert.AttnGateBwd.nD Cert.AttnGateBwd.τ Cert.AttnGateBwd.sig) → Buf (Elt Bits) ℓ) (g : Dev Cert.AttnGateBwd.nD → PrngReg), Pre_AttnGateBwd m →
    θ_run (Cert.AttnGateBwd.defs (F := Bits)) (onTc (τ := Cert.AttnGateBwd.τ) (Cert.AttnGateBwd.main (F := Bits))) ⟨m, fun _ => 0, g⟩ (fun r => (∀ c : Dev Cert.AttnGateBwd.nD,
      r.2.mem ((c.tc : Thread Cert.AttnGateBwd.nD Cert.AttnGateBwd.τ).loc Cert.AttnGateBwd.main_arg0) = m ((c.tc : Thread Cert.AttnGateBwd.nD Cert.AttnGateBwd.τ).loc Cert.AttnGateBwd.main_arg0)
      ∧ r.2.mem ((c.tc : Thread Cert.AttnGateBwd.nD Cert.AttnGateBwd.τ).loc Cert.AttnGateBwd.main_arg1) = m ((c.tc : Thread Cert.AttnGateBwd.nD Cert.AttnGateBwd.τ).loc Cert.AttnGateBwd.main_arg1)
      ∧ r.2.mem ((c.tc : Thread Cert.AttnGateBwd.nD Cert.AttnGateBwd.τ).loc Cert.AttnGateBwd.main_arg2) = m ((c.tc : Thread Cert.AttnGateBwd.nD Cert.AttnGateBwd.τ).loc Cert.AttnGateBwd.main_arg2)
      ∧ r.2.mem ((c.tc : Thread Cert.AttnGateBwd.nD Cert.AttnGateBwd.τ).loc Cert.AttnGateBwd.main_arg3) = m ((c.tc : Thread Cert.AttnGateBwd.nD Cert.AttnGateBwd.τ).loc Cert.AttnGateBwd.main_arg3)
      ∧ r.2.mem ((c.tc : Thread Cert.AttnGateBwd.nD Cert.AttnGateBwd.τ).loc Cert.AttnGateBwd.main_arg4) = m ((c.tc : Thread Cert.AttnGateBwd.nD Cert.AttnGateBwd.τ).loc Cert.AttnGateBwd.main_arg4))
      ∧ r.2.sem = fun _ => 0)

def quiescent_AttnGateBwdIdeal [hAttnGateBwdIdeal : Cert.AttnGateBwdIdeal.Facts] : Prop :=
  ∀ (m : (ℓ : Loc Cert.AttnGateBwdIdeal.nD Cert.AttnGateBwdIdeal.τ Cert.AttnGateBwdIdeal.sig) → Buf (Elt Ideal) ℓ) (g : Dev Cert.AttnGateBwdIdeal.nD → PrngReg), Pre_AttnGateBwdIdeal m →
    θ_run (Cert.AttnGateBwdIdeal.defs (F := Ideal)) (onTc (τ := Cert.AttnGateBwdIdeal.τ) (Cert.AttnGateBwdIdeal.main (F := Ideal))) ⟨m, fun _ => 0, g⟩ (fun r => (∀ c : Dev Cert.AttnGateBwdIdeal.nD,
      r.2.mem ((c.tc : Thread Cert.AttnGateBwdIdeal.nD Cert.AttnGateBwdIdeal.τ).loc Cert.AttnGateBwdIdeal.main_arg0) = m ((c.tc : Thread Cert.AttnGateBwdIdeal.nD Cert.AttnGateBwdIdeal.τ).loc Cert.AttnGateBwdIdeal.main_arg0)
      ∧ r.2.mem ((c.tc : Thread Cert.AttnGateBwdIdeal.nD Cert.AttnGateBwdIdeal.τ).loc Cert.AttnGateBwdIdeal.main_arg1) = m ((c.tc : Thread Cert.AttnGateBwdIdeal.nD Cert.AttnGateBwdIdeal.τ).loc Cert.AttnGateBwdIdeal.main_arg1)
      ∧ r.2.mem ((c.tc : Thread Cert.AttnGateBwdIdeal.nD Cert.AttnGateBwdIdeal.τ).loc Cert.AttnGateBwdIdeal.main_arg2) = m ((c.tc : Thread Cert.AttnGateBwdIdeal.nD Cert.AttnGateBwdIdeal.τ).loc Cert.AttnGateBwdIdeal.main_arg2)
      ∧ r.2.mem ((c.tc : Thread Cert.AttnGateBwdIdeal.nD Cert.AttnGateBwdIdeal.τ).loc Cert.AttnGateBwdIdeal.main_arg3) = m ((c.tc : Thread Cert.AttnGateBwdIdeal.nD Cert.AttnGateBwdIdeal.τ).loc Cert.AttnGateBwdIdeal.main_arg3)
      ∧ r.2.mem ((c.tc : Thread Cert.AttnGateBwdIdeal.nD Cert.AttnGateBwdIdeal.τ).loc Cert.AttnGateBwdIdeal.main_arg4) = m ((c.tc : Thread Cert.AttnGateBwdIdeal.nD Cert.AttnGateBwdIdeal.τ).loc Cert.AttnGateBwdIdeal.main_arg4))
      ∧ r.2.sem = fun _ => 0)

def quiescent_AttnGateBwdIdeal_pre_finite_heads [hAttnGateBwdIdeal : Cert.AttnGateBwdIdeal.Facts] [hPre_finite_heads : Cert.Pre_finite_heads.Facts] : Prop :=
  ∀ (m : (ℓ : Loc Cert.AttnGateBwdIdeal.nD Cert.AttnGateBwdIdeal.τ Cert.AttnGateBwdIdeal.sig) → Buf (Elt Ideal) ℓ) (g : Dev Cert.AttnGateBwdIdeal.nD → PrngReg), Pre_AttnGateBwdIdeal_finite_heads m →
    θ_run (Cert.AttnGateBwdIdeal.defs (F := Ideal)) (onTc (τ := Cert.AttnGateBwdIdeal.τ) (Cert.AttnGateBwdIdeal.main (F := Ideal))) ⟨m, fun _ => 0, g⟩ (fun r => (∀ c : Dev Cert.AttnGateBwdIdeal.nD,
      r.2.mem ((c.tc : Thread Cert.AttnGateBwdIdeal.nD Cert.AttnGateBwdIdeal.τ).loc Cert.AttnGateBwdIdeal.main_arg0) = m ((c.tc : Thread Cert.AttnGateBwdIdeal.nD Cert.AttnGateBwdIdeal.τ).loc Cert.AttnGateBwdIdeal.main_arg0)
      ∧ r.2.mem ((c.tc : Thread Cert.AttnGateBwdIdeal.nD Cert.AttnGateBwdIdeal.τ).loc Cert.AttnGateBwdIdeal.main_arg1) = m ((c.tc : Thread Cert.AttnGateBwdIdeal.nD Cert.AttnGateBwdIdeal.τ).loc Cert.AttnGateBwdIdeal.main_arg1)
      ∧ r.2.mem ((c.tc : Thread Cert.AttnGateBwdIdeal.nD Cert.AttnGateBwdIdeal.τ).loc Cert.AttnGateBwdIdeal.main_arg2) = m ((c.tc : Thread Cert.AttnGateBwdIdeal.nD Cert.AttnGateBwdIdeal.τ).loc Cert.AttnGateBwdIdeal.main_arg2)
      ∧ r.2.mem ((c.tc : Thread Cert.AttnGateBwdIdeal.nD Cert.AttnGateBwdIdeal.τ).loc Cert.AttnGateBwdIdeal.main_arg3) = m ((c.tc : Thread Cert.AttnGateBwdIdeal.nD Cert.AttnGateBwdIdeal.τ).loc Cert.AttnGateBwdIdeal.main_arg3)
      ∧ r.2.mem ((c.tc : Thread Cert.AttnGateBwdIdeal.nD Cert.AttnGateBwdIdeal.τ).loc Cert.AttnGateBwdIdeal.main_arg4) = m ((c.tc : Thread Cert.AttnGateBwdIdeal.nD Cert.AttnGateBwdIdeal.τ).loc Cert.AttnGateBwdIdeal.main_arg4))
      ∧ r.2.sem = fun _ => 0)

def quiescent_AttnGateBwdReferenceIdeal [hAttnGateBwdReferenceIdeal : Cert.AttnGateBwdReferenceIdeal.Facts] : Prop :=
  ∀ (m : (ℓ : Loc Cert.AttnGateBwdReferenceIdeal.nD Cert.AttnGateBwdReferenceIdeal.τ Cert.AttnGateBwdReferenceIdeal.sig) → Buf (Elt Ideal) ℓ) (g : Dev Cert.AttnGateBwdReferenceIdeal.nD → PrngReg), Pre_AttnGateBwdReferenceIdeal m →
    θ_run (Cert.AttnGateBwdReferenceIdeal.defs (F := Ideal)) (onTc (τ := Cert.AttnGateBwdReferenceIdeal.τ) (Cert.AttnGateBwdReferenceIdeal.main (F := Ideal))) ⟨m, fun _ => 0, g⟩ (fun r => (∀ c : Dev Cert.AttnGateBwdReferenceIdeal.nD,
      r.2.mem ((c.tc : Thread Cert.AttnGateBwdReferenceIdeal.nD Cert.AttnGateBwdReferenceIdeal.τ).loc Cert.AttnGateBwdReferenceIdeal.main_arg0) = m ((c.tc : Thread Cert.AttnGateBwdReferenceIdeal.nD Cert.AttnGateBwdReferenceIdeal.τ).loc Cert.AttnGateBwdReferenceIdeal.main_arg0)
      ∧ r.2.mem ((c.tc : Thread Cert.AttnGateBwdReferenceIdeal.nD Cert.AttnGateBwdReferenceIdeal.τ).loc Cert.AttnGateBwdReferenceIdeal.main_arg1) = m ((c.tc : Thread Cert.AttnGateBwdReferenceIdeal.nD Cert.AttnGateBwdReferenceIdeal.τ).loc Cert.AttnGateBwdReferenceIdeal.main_arg1)
      ∧ r.2.mem ((c.tc : Thread Cert.AttnGateBwdReferenceIdeal.nD Cert.AttnGateBwdReferenceIdeal.τ).loc Cert.AttnGateBwdReferenceIdeal.main_arg2) = m ((c.tc : Thread Cert.AttnGateBwdReferenceIdeal.nD Cert.AttnGateBwdReferenceIdeal.τ).loc Cert.AttnGateBwdReferenceIdeal.main_arg2)
      ∧ r.2.mem ((c.tc : Thread Cert.AttnGateBwdReferenceIdeal.nD Cert.AttnGateBwdReferenceIdeal.τ).loc Cert.AttnGateBwdReferenceIdeal.main_arg3) = m ((c.tc : Thread Cert.AttnGateBwdReferenceIdeal.nD Cert.AttnGateBwdReferenceIdeal.τ).loc Cert.AttnGateBwdReferenceIdeal.main_arg3)
      ∧ r.2.mem ((c.tc : Thread Cert.AttnGateBwdReferenceIdeal.nD Cert.AttnGateBwdReferenceIdeal.τ).loc Cert.AttnGateBwdReferenceIdeal.main_arg4) = m ((c.tc : Thread Cert.AttnGateBwdReferenceIdeal.nD Cert.AttnGateBwdReferenceIdeal.τ).loc Cert.AttnGateBwdReferenceIdeal.main_arg4))
      ∧ r.2.sem = fun _ => 0)

def quiescent_AttnGateBwdReferenceIdeal_pre_finite_heads [hAttnGateBwdReferenceIdeal : Cert.AttnGateBwdReferenceIdeal.Facts] [hPre_finite_heads : Cert.Pre_finite_heads.Facts] : Prop :=
  ∀ (m : (ℓ : Loc Cert.AttnGateBwdReferenceIdeal.nD Cert.AttnGateBwdReferenceIdeal.τ Cert.AttnGateBwdReferenceIdeal.sig) → Buf (Elt Ideal) ℓ) (g : Dev Cert.AttnGateBwdReferenceIdeal.nD → PrngReg), Pre_AttnGateBwdReferenceIdeal_finite_heads m →
    θ_run (Cert.AttnGateBwdReferenceIdeal.defs (F := Ideal)) (onTc (τ := Cert.AttnGateBwdReferenceIdeal.τ) (Cert.AttnGateBwdReferenceIdeal.main (F := Ideal))) ⟨m, fun _ => 0, g⟩ (fun r => (∀ c : Dev Cert.AttnGateBwdReferenceIdeal.nD,
      r.2.mem ((c.tc : Thread Cert.AttnGateBwdReferenceIdeal.nD Cert.AttnGateBwdReferenceIdeal.τ).loc Cert.AttnGateBwdReferenceIdeal.main_arg0) = m ((c.tc : Thread Cert.AttnGateBwdReferenceIdeal.nD Cert.AttnGateBwdReferenceIdeal.τ).loc Cert.AttnGateBwdReferenceIdeal.main_arg0)
      ∧ r.2.mem ((c.tc : Thread Cert.AttnGateBwdReferenceIdeal.nD Cert.AttnGateBwdReferenceIdeal.τ).loc Cert.AttnGateBwdReferenceIdeal.main_arg1) = m ((c.tc : Thread Cert.AttnGateBwdReferenceIdeal.nD Cert.AttnGateBwdReferenceIdeal.τ).loc Cert.AttnGateBwdReferenceIdeal.main_arg1)
      ∧ r.2.mem ((c.tc : Thread Cert.AttnGateBwdReferenceIdeal.nD Cert.AttnGateBwdReferenceIdeal.τ).loc Cert.AttnGateBwdReferenceIdeal.main_arg2) = m ((c.tc : Thread Cert.AttnGateBwdReferenceIdeal.nD Cert.AttnGateBwdReferenceIdeal.τ).loc Cert.AttnGateBwdReferenceIdeal.main_arg2)
      ∧ r.2.mem ((c.tc : Thread Cert.AttnGateBwdReferenceIdeal.nD Cert.AttnGateBwdReferenceIdeal.τ).loc Cert.AttnGateBwdReferenceIdeal.main_arg3) = m ((c.tc : Thread Cert.AttnGateBwdReferenceIdeal.nD Cert.AttnGateBwdReferenceIdeal.τ).loc Cert.AttnGateBwdReferenceIdeal.main_arg3)
      ∧ r.2.mem ((c.tc : Thread Cert.AttnGateBwdReferenceIdeal.nD Cert.AttnGateBwdReferenceIdeal.τ).loc Cert.AttnGateBwdReferenceIdeal.main_arg4) = m ((c.tc : Thread Cert.AttnGateBwdReferenceIdeal.nD Cert.AttnGateBwdReferenceIdeal.τ).loc Cert.AttnGateBwdReferenceIdeal.main_arg4))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v36_0)) (v1 : (c : Dev Cert.KernelIdeal.nD) → Buf (Elt Ideal) ((c.tc : Thread Cert.KernelIdeal.nD Cert.KernelIdeal.τ).loc Cert.KernelIdeal.main_v36_1)) (v2 : (c : Dev Cert.KernelIdeal.nD) → Buf (Elt Ideal) ((c.tc : Thread Cert.KernelIdeal.nD Cert.KernelIdeal.τ).loc Cert.KernelIdeal.main_v36_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v36_0) = v0 c
          ∧ r.2.mem ((c.tc : Thread Cert.KernelIdeal.nD Cert.KernelIdeal.τ).loc Cert.KernelIdeal.main_v36_1) = v1 c
          ∧ r.2.mem ((c.tc : Thread Cert.KernelIdeal.nD Cert.KernelIdeal.τ).loc Cert.KernelIdeal.main_v36_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v61) = v0 c
          ∧ r.2.mem ((c.tc : Thread Cert.ReferenceIdeal.nD Cert.ReferenceIdeal.τ).loc Cert.ReferenceIdeal.main_v60) = v1 c
          ∧ r.2.mem ((c.tc : Thread Cert.ReferenceIdeal.nD Cert.ReferenceIdeal.τ).loc Cert.ReferenceIdeal.main_v59) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_InDh_InDhIdeal : Prop :=
  True

def algebraic_InDhIdeal_InDhReferenceIdeal [hInDhIdeal : Cert.InDhIdeal.Facts] [hInDhReferenceIdeal : Cert.InDhReferenceIdeal.Facts] : Prop :=
  ∀ (m : (ℓ : Loc Cert.InDhIdeal.nD Cert.InDhIdeal.τ Cert.InDhIdeal.sig) → Buf (Elt Ideal) ℓ) (g : Dev Cert.InDhIdeal.nD → PrngReg)
    (m' : (ℓ : Loc Cert.InDhReferenceIdeal.nD Cert.InDhReferenceIdeal.τ Cert.InDhReferenceIdeal.sig) → Buf (Elt Ideal) ℓ) (g' : Dev Cert.InDhReferenceIdeal.nD → PrngReg), Pre_InDhIdeal m →
    (∀ c : Dev Cert.InDhIdeal.nD,
      m' ((c.tc : Thread Cert.InDhReferenceIdeal.nD Cert.InDhReferenceIdeal.τ).loc Cert.InDhReferenceIdeal.main_arg0) = m ((c.tc : Thread Cert.InDhIdeal.nD Cert.InDhIdeal.τ).loc Cert.InDhIdeal.main_arg0)
      ∧ m' ((c.tc : Thread Cert.InDhReferenceIdeal.nD Cert.InDhReferenceIdeal.τ).loc Cert.InDhReferenceIdeal.main_arg1) = m ((c.tc : Thread Cert.InDhIdeal.nD Cert.InDhIdeal.τ).loc Cert.InDhIdeal.main_arg1)) →
    ∃ (v0 : (c : Dev Cert.InDhIdeal.nD) → Buf (Elt Ideal) ((c.tc : Thread Cert.InDhIdeal.nD Cert.InDhIdeal.τ).loc Cert.InDhIdeal.main_v0)),
      θ_run (Cert.InDhIdeal.defs (F := Ideal)) (onTc (τ := Cert.InDhIdeal.τ) (Cert.InDhIdeal.main (F := Ideal))) ⟨m, fun _ => 0, g⟩ (fun r => ∀ c : Dev Cert.InDhIdeal.nD,
          r.2.mem ((c.tc : Thread Cert.InDhIdeal.nD Cert.InDhIdeal.τ).loc Cert.InDhIdeal.main_v0) = v0 c
          ∧ r.2.mem ((c.tc : Thread Cert.InDhIdeal.nD Cert.InDhIdeal.τ).loc Cert.InDhIdeal.main_arg0) = m ((c.tc : Thread Cert.InDhIdeal.nD Cert.InDhIdeal.τ).loc Cert.InDhIdeal.main_arg0)
          ∧ r.2.mem ((c.tc : Thread Cert.InDhIdeal.nD Cert.InDhIdeal.τ).loc Cert.InDhIdeal.main_arg1) = m ((c.tc : Thread Cert.InDhIdeal.nD Cert.InDhIdeal.τ).loc Cert.InDhIdeal.main_arg1))
      ∧ θ_run (Cert.InDhReferenceIdeal.defs (F := Ideal)) (onTc (τ := Cert.InDhReferenceIdeal.τ) (Cert.InDhReferenceIdeal.main (F := Ideal))) ⟨m', fun _ => 0, g'⟩ (fun r => ∀ c : Dev Cert.InDhReferenceIdeal.nD,
          r.2.mem ((c.tc : Thread Cert.InDhReferenceIdeal.nD Cert.InDhReferenceIdeal.τ).loc Cert.InDhReferenceIdeal.main_v5) = v0 c
          ∧ r.2.mem ((c.tc : Thread Cert.InDhReferenceIdeal.nD Cert.InDhReferenceIdeal.τ).loc Cert.InDhReferenceIdeal.main_arg0) = m' ((c.tc : Thread Cert.InDhReferenceIdeal.nD Cert.InDhReferenceIdeal.τ).loc Cert.InDhReferenceIdeal.main_arg0)
          ∧ r.2.mem ((c.tc : Thread Cert.InDhReferenceIdeal.nD Cert.InDhReferenceIdeal.τ).loc Cert.InDhReferenceIdeal.main_arg1) = m' ((c.tc : Thread Cert.InDhReferenceIdeal.nD Cert.InDhReferenceIdeal.τ).loc Cert.InDhReferenceIdeal.main_arg1))

def preserves_InDw_InDwIdeal : Prop :=
  True

def algebraic_InDwIdeal_InDwReferenceIdeal [hInDwIdeal : Cert.InDwIdeal.Facts] [hInDwReferenceIdeal : Cert.InDwReferenceIdeal.Facts] : Prop :=
  ∀ (m : (ℓ : Loc Cert.InDwIdeal.nD Cert.InDwIdeal.τ Cert.InDwIdeal.sig) → Buf (Elt Ideal) ℓ) (g : Dev Cert.InDwIdeal.nD → PrngReg)
    (m' : (ℓ : Loc Cert.InDwReferenceIdeal.nD Cert.InDwReferenceIdeal.τ Cert.InDwReferenceIdeal.sig) → Buf (Elt Ideal) ℓ) (g' : Dev Cert.InDwReferenceIdeal.nD → PrngReg), Pre_InDwIdeal m →
    (∀ c : Dev Cert.InDwIdeal.nD,
      m' ((c.tc : Thread Cert.InDwReferenceIdeal.nD Cert.InDwReferenceIdeal.τ).loc Cert.InDwReferenceIdeal.main_arg0) = m ((c.tc : Thread Cert.InDwIdeal.nD Cert.InDwIdeal.τ).loc Cert.InDwIdeal.main_arg0)
      ∧ m' ((c.tc : Thread Cert.InDwReferenceIdeal.nD Cert.InDwReferenceIdeal.τ).loc Cert.InDwReferenceIdeal.main_arg1) = m ((c.tc : Thread Cert.InDwIdeal.nD Cert.InDwIdeal.τ).loc Cert.InDwIdeal.main_arg1)) →
    ∃ (v0 : (c : Dev Cert.InDwIdeal.nD) → Buf (Elt Ideal) ((c.tc : Thread Cert.InDwIdeal.nD Cert.InDwIdeal.τ).loc Cert.InDwIdeal.main_v0)),
      θ_run (Cert.InDwIdeal.defs (F := Ideal)) (onTc (τ := Cert.InDwIdeal.τ) (Cert.InDwIdeal.main (F := Ideal))) ⟨m, fun _ => 0, g⟩ (fun r => ∀ c : Dev Cert.InDwIdeal.nD,
          r.2.mem ((c.tc : Thread Cert.InDwIdeal.nD Cert.InDwIdeal.τ).loc Cert.InDwIdeal.main_v0) = v0 c
          ∧ r.2.mem ((c.tc : Thread Cert.InDwIdeal.nD Cert.InDwIdeal.τ).loc Cert.InDwIdeal.main_arg0) = m ((c.tc : Thread Cert.InDwIdeal.nD Cert.InDwIdeal.τ).loc Cert.InDwIdeal.main_arg0)
          ∧ r.2.mem ((c.tc : Thread Cert.InDwIdeal.nD Cert.InDwIdeal.τ).loc Cert.InDwIdeal.main_arg1) = m ((c.tc : Thread Cert.InDwIdeal.nD Cert.InDwIdeal.τ).loc Cert.InDwIdeal.main_arg1))
      ∧ θ_run (Cert.InDwReferenceIdeal.defs (F := Ideal)) (onTc (τ := Cert.InDwReferenceIdeal.τ) (Cert.InDwReferenceIdeal.main (F := Ideal))) ⟨m', fun _ => 0, g'⟩ (fun r => ∀ c : Dev Cert.InDwReferenceIdeal.nD,
          r.2.mem ((c.tc : Thread Cert.InDwReferenceIdeal.nD Cert.InDwReferenceIdeal.τ).loc Cert.InDwReferenceIdeal.main_v7) = v0 c
          ∧ r.2.mem ((c.tc : Thread Cert.InDwReferenceIdeal.nD Cert.InDwReferenceIdeal.τ).loc Cert.InDwReferenceIdeal.main_arg0) = m' ((c.tc : Thread Cert.InDwReferenceIdeal.nD Cert.InDwReferenceIdeal.τ).loc Cert.InDwReferenceIdeal.main_arg0)
          ∧ r.2.mem ((c.tc : Thread Cert.InDwReferenceIdeal.nD Cert.InDwReferenceIdeal.τ).loc Cert.InDwReferenceIdeal.main_arg1) = m' ((c.tc : Thread Cert.InDwReferenceIdeal.nD Cert.InDwReferenceIdeal.τ).loc Cert.InDwReferenceIdeal.main_arg1))

def preserves_OutDy_OutDyIdeal : Prop :=
  True

def algebraic_OutDyIdeal_OutDyReferenceIdeal [hOutDyIdeal : Cert.OutDyIdeal.Facts] [hOutDyReferenceIdeal : Cert.OutDyReferenceIdeal.Facts] : Prop :=
  ∀ (m : (ℓ : Loc Cert.OutDyIdeal.nD Cert.OutDyIdeal.τ Cert.OutDyIdeal.sig) → Buf (Elt Ideal) ℓ) (g : Dev Cert.OutDyIdeal.nD → PrngReg)
    (m' : (ℓ : Loc Cert.OutDyReferenceIdeal.nD Cert.OutDyReferenceIdeal.τ Cert.OutDyReferenceIdeal.sig) → Buf (Elt Ideal) ℓ) (g' : Dev Cert.OutDyReferenceIdeal.nD → PrngReg), Pre_OutDyIdeal m →
    (∀ c : Dev Cert.OutDyIdeal.nD,
      m' ((c.tc : Thread Cert.OutDyReferenceIdeal.nD Cert.OutDyReferenceIdeal.τ).loc Cert.OutDyReferenceIdeal.main_arg0) = m ((c.tc : Thread Cert.OutDyIdeal.nD Cert.OutDyIdeal.τ).loc Cert.OutDyIdeal.main_arg0)
      ∧ m' ((c.tc : Thread Cert.OutDyReferenceIdeal.nD Cert.OutDyReferenceIdeal.τ).loc Cert.OutDyReferenceIdeal.main_arg1) = m ((c.tc : Thread Cert.OutDyIdeal.nD Cert.OutDyIdeal.τ).loc Cert.OutDyIdeal.main_arg1)) →
    ∃ (v0 : (c : Dev Cert.OutDyIdeal.nD) → Buf (Elt Ideal) ((c.tc : Thread Cert.OutDyIdeal.nD Cert.OutDyIdeal.τ).loc Cert.OutDyIdeal.main_v0)),
      θ_run (Cert.OutDyIdeal.defs (F := Ideal)) (onTc (τ := Cert.OutDyIdeal.τ) (Cert.OutDyIdeal.main (F := Ideal))) ⟨m, fun _ => 0, g⟩ (fun r => ∀ c : Dev Cert.OutDyIdeal.nD,
          r.2.mem ((c.tc : Thread Cert.OutDyIdeal.nD Cert.OutDyIdeal.τ).loc Cert.OutDyIdeal.main_v0) = v0 c
          ∧ r.2.mem ((c.tc : Thread Cert.OutDyIdeal.nD Cert.OutDyIdeal.τ).loc Cert.OutDyIdeal.main_arg0) = m ((c.tc : Thread Cert.OutDyIdeal.nD Cert.OutDyIdeal.τ).loc Cert.OutDyIdeal.main_arg0)
          ∧ r.2.mem ((c.tc : Thread Cert.OutDyIdeal.nD Cert.OutDyIdeal.τ).loc Cert.OutDyIdeal.main_arg1) = m ((c.tc : Thread Cert.OutDyIdeal.nD Cert.OutDyIdeal.τ).loc Cert.OutDyIdeal.main_arg1))
      ∧ θ_run (Cert.OutDyReferenceIdeal.defs (F := Ideal)) (onTc (τ := Cert.OutDyReferenceIdeal.τ) (Cert.OutDyReferenceIdeal.main (F := Ideal))) ⟨m', fun _ => 0, g'⟩ (fun r => ∀ c : Dev Cert.OutDyReferenceIdeal.nD,
          r.2.mem ((c.tc : Thread Cert.OutDyReferenceIdeal.nD Cert.OutDyReferenceIdeal.τ).loc Cert.OutDyReferenceIdeal.main_v5) = v0 c
          ∧ r.2.mem ((c.tc : Thread Cert.OutDyReferenceIdeal.nD Cert.OutDyReferenceIdeal.τ).loc Cert.OutDyReferenceIdeal.main_arg0) = m' ((c.tc : Thread Cert.OutDyReferenceIdeal.nD Cert.OutDyReferenceIdeal.τ).loc Cert.OutDyReferenceIdeal.main_arg0)
          ∧ r.2.mem ((c.tc : Thread Cert.OutDyReferenceIdeal.nD Cert.OutDyReferenceIdeal.τ).loc Cert.OutDyReferenceIdeal.main_arg1) = m' ((c.tc : Thread Cert.OutDyReferenceIdeal.nD Cert.OutDyReferenceIdeal.τ).loc Cert.OutDyReferenceIdeal.main_arg1))

def preserves_OutDw_OutDwIdeal : Prop :=
  True

def algebraic_OutDwIdeal_OutDwReferenceIdeal [hOutDwIdeal : Cert.OutDwIdeal.Facts] [hOutDwReferenceIdeal : Cert.OutDwReferenceIdeal.Facts] : Prop :=
  ∀ (m : (ℓ : Loc Cert.OutDwIdeal.nD Cert.OutDwIdeal.τ Cert.OutDwIdeal.sig) → Buf (Elt Ideal) ℓ) (g : Dev Cert.OutDwIdeal.nD → PrngReg)
    (m' : (ℓ : Loc Cert.OutDwReferenceIdeal.nD Cert.OutDwReferenceIdeal.τ Cert.OutDwReferenceIdeal.sig) → Buf (Elt Ideal) ℓ) (g' : Dev Cert.OutDwReferenceIdeal.nD → PrngReg), Pre_OutDwIdeal m →
    (∀ c : Dev Cert.OutDwIdeal.nD,
      m' ((c.tc : Thread Cert.OutDwReferenceIdeal.nD Cert.OutDwReferenceIdeal.τ).loc Cert.OutDwReferenceIdeal.main_arg0) = m ((c.tc : Thread Cert.OutDwIdeal.nD Cert.OutDwIdeal.τ).loc Cert.OutDwIdeal.main_arg0)
      ∧ m' ((c.tc : Thread Cert.OutDwReferenceIdeal.nD Cert.OutDwReferenceIdeal.τ).loc Cert.OutDwReferenceIdeal.main_arg1) = m ((c.tc : Thread Cert.OutDwIdeal.nD Cert.OutDwIdeal.τ).loc Cert.OutDwIdeal.main_arg1)) →
    ∃ (v0 : (c : Dev Cert.OutDwIdeal.nD) → Buf (Elt Ideal) ((c.tc : Thread Cert.OutDwIdeal.nD Cert.OutDwIdeal.τ).loc Cert.OutDwIdeal.main_v0)),
      θ_run (Cert.OutDwIdeal.defs (F := Ideal)) (onTc (τ := Cert.OutDwIdeal.τ) (Cert.OutDwIdeal.main (F := Ideal))) ⟨m, fun _ => 0, g⟩ (fun r => ∀ c : Dev Cert.OutDwIdeal.nD,
          r.2.mem ((c.tc : Thread Cert.OutDwIdeal.nD Cert.OutDwIdeal.τ).loc Cert.OutDwIdeal.main_v0) = v0 c
          ∧ r.2.mem ((c.tc : Thread Cert.OutDwIdeal.nD Cert.OutDwIdeal.τ).loc Cert.OutDwIdeal.main_arg0) = m ((c.tc : Thread Cert.OutDwIdeal.nD Cert.OutDwIdeal.τ).loc Cert.OutDwIdeal.main_arg0)
          ∧ r.2.mem ((c.tc : Thread Cert.OutDwIdeal.nD Cert.OutDwIdeal.τ).loc Cert.OutDwIdeal.main_arg1) = m ((c.tc : Thread Cert.OutDwIdeal.nD Cert.OutDwIdeal.τ).loc Cert.OutDwIdeal.main_arg1))
      ∧ θ_run (Cert.OutDwReferenceIdeal.defs (F := Ideal)) (onTc (τ := Cert.OutDwReferenceIdeal.τ) (Cert.OutDwReferenceIdeal.main (F := Ideal))) ⟨m', fun _ => 0, g'⟩ (fun r => ∀ c : Dev Cert.OutDwReferenceIdeal.nD,
          r.2.mem ((c.tc : Thread Cert.OutDwReferenceIdeal.nD Cert.OutDwReferenceIdeal.τ).loc Cert.OutDwReferenceIdeal.main_v6) = v0 c
          ∧ r.2.mem ((c.tc : Thread Cert.OutDwReferenceIdeal.nD Cert.OutDwReferenceIdeal.τ).loc Cert.OutDwReferenceIdeal.main_arg0) = m' ((c.tc : Thread Cert.OutDwReferenceIdeal.nD Cert.OutDwReferenceIdeal.τ).loc Cert.OutDwReferenceIdeal.main_arg0)
          ∧ r.2.mem ((c.tc : Thread Cert.OutDwReferenceIdeal.nD Cert.OutDwReferenceIdeal.τ).loc Cert.OutDwReferenceIdeal.main_arg1) = m' ((c.tc : Thread Cert.OutDwReferenceIdeal.nD Cert.OutDwReferenceIdeal.τ).loc Cert.OutDwReferenceIdeal.main_arg1))

def preserves_InFwd_InFwdIdeal : Prop :=
  True

def algebraic_InFwdIdeal_InFwdReferenceIdeal [hInFwdIdeal : Cert.InFwdIdeal.Facts] [hInFwdReferenceIdeal : Cert.InFwdReferenceIdeal.Facts] : Prop :=
  ∀ (m : (ℓ : Loc Cert.InFwdIdeal.nD Cert.InFwdIdeal.τ Cert.InFwdIdeal.sig) → Buf (Elt Ideal) ℓ) (g : Dev Cert.InFwdIdeal.nD → PrngReg)
    (m' : (ℓ : Loc Cert.InFwdReferenceIdeal.nD Cert.InFwdReferenceIdeal.τ Cert.InFwdReferenceIdeal.sig) → Buf (Elt Ideal) ℓ) (g' : Dev Cert.InFwdReferenceIdeal.nD → PrngReg), Pre_InFwdIdeal m →
    (∀ c : Dev Cert.InFwdIdeal.nD,
      m' ((c.tc : Thread Cert.InFwdReferenceIdeal.nD Cert.InFwdReferenceIdeal.τ).loc Cert.InFwdReferenceIdeal.main_arg0) = m ((c.tc : Thread Cert.InFwdIdeal.nD Cert.InFwdIdeal.τ).loc Cert.InFwdIdeal.main_arg0)
      ∧ m' ((c.tc : Thread Cert.InFwdReferenceIdeal.nD Cert.InFwdReferenceIdeal.τ).loc Cert.InFwdReferenceIdeal.main_arg1) = m ((c.tc : Thread Cert.InFwdIdeal.nD Cert.InFwdIdeal.τ).loc Cert.InFwdIdeal.main_arg1)) →
    ∃ (v0 : (c : Dev Cert.InFwdIdeal.nD) → Buf (Elt Ideal) ((c.tc : Thread Cert.InFwdIdeal.nD Cert.InFwdIdeal.τ).loc Cert.InFwdIdeal.main_v0)),
      θ_run (Cert.InFwdIdeal.defs (F := Ideal)) (onTc (τ := Cert.InFwdIdeal.τ) (Cert.InFwdIdeal.main (F := Ideal))) ⟨m, fun _ => 0, g⟩ (fun r => ∀ c : Dev Cert.InFwdIdeal.nD,
          r.2.mem ((c.tc : Thread Cert.InFwdIdeal.nD Cert.InFwdIdeal.τ).loc Cert.InFwdIdeal.main_v0) = v0 c
          ∧ r.2.mem ((c.tc : Thread Cert.InFwdIdeal.nD Cert.InFwdIdeal.τ).loc Cert.InFwdIdeal.main_arg0) = m ((c.tc : Thread Cert.InFwdIdeal.nD Cert.InFwdIdeal.τ).loc Cert.InFwdIdeal.main_arg0)
          ∧ r.2.mem ((c.tc : Thread Cert.InFwdIdeal.nD Cert.InFwdIdeal.τ).loc Cert.InFwdIdeal.main_arg1) = m ((c.tc : Thread Cert.InFwdIdeal.nD Cert.InFwdIdeal.τ).loc Cert.InFwdIdeal.main_arg1))
      ∧ θ_run (Cert.InFwdReferenceIdeal.defs (F := Ideal)) (onTc (τ := Cert.InFwdReferenceIdeal.τ) (Cert.InFwdReferenceIdeal.main (F := Ideal))) ⟨m', fun _ => 0, g'⟩ (fun r => ∀ c : Dev Cert.InFwdReferenceIdeal.nD,
          r.2.mem ((c.tc : Thread Cert.InFwdReferenceIdeal.nD Cert.InFwdReferenceIdeal.τ).loc Cert.InFwdReferenceIdeal.main_v3) = v0 c
          ∧ r.2.mem ((c.tc : Thread Cert.InFwdReferenceIdeal.nD Cert.InFwdReferenceIdeal.τ).loc Cert.InFwdReferenceIdeal.main_arg0) = m' ((c.tc : Thread Cert.InFwdReferenceIdeal.nD Cert.InFwdReferenceIdeal.τ).loc Cert.InFwdReferenceIdeal.main_arg0)
          ∧ r.2.mem ((c.tc : Thread Cert.InFwdReferenceIdeal.nD Cert.InFwdReferenceIdeal.τ).loc Cert.InFwdReferenceIdeal.main_arg1) = m' ((c.tc : Thread Cert.InFwdReferenceIdeal.nD Cert.InFwdReferenceIdeal.τ).loc Cert.InFwdReferenceIdeal.main_arg1))

def preserves_OutFwd_OutFwdIdeal : Prop :=
  True

def algebraic_OutFwdIdeal_OutFwdReferenceIdeal [hOutFwdIdeal : Cert.OutFwdIdeal.Facts] [hOutFwdReferenceIdeal : Cert.OutFwdReferenceIdeal.Facts] : Prop :=
  ∀ (m : (ℓ : Loc Cert.OutFwdIdeal.nD Cert.OutFwdIdeal.τ Cert.OutFwdIdeal.sig) → Buf (Elt Ideal) ℓ) (g : Dev Cert.OutFwdIdeal.nD → PrngReg)
    (m' : (ℓ : Loc Cert.OutFwdReferenceIdeal.nD Cert.OutFwdReferenceIdeal.τ Cert.OutFwdReferenceIdeal.sig) → Buf (Elt Ideal) ℓ) (g' : Dev Cert.OutFwdReferenceIdeal.nD → PrngReg), Pre_OutFwdIdeal m →
    (∀ c : Dev Cert.OutFwdIdeal.nD,
      m' ((c.tc : Thread Cert.OutFwdReferenceIdeal.nD Cert.OutFwdReferenceIdeal.τ).loc Cert.OutFwdReferenceIdeal.main_arg0) = m ((c.tc : Thread Cert.OutFwdIdeal.nD Cert.OutFwdIdeal.τ).loc Cert.OutFwdIdeal.main_arg0)
      ∧ m' ((c.tc : Thread Cert.OutFwdReferenceIdeal.nD Cert.OutFwdReferenceIdeal.τ).loc Cert.OutFwdReferenceIdeal.main_arg1) = m ((c.tc : Thread Cert.OutFwdIdeal.nD Cert.OutFwdIdeal.τ).loc Cert.OutFwdIdeal.main_arg1)
      ∧ m' ((c.tc : Thread Cert.OutFwdReferenceIdeal.nD Cert.OutFwdReferenceIdeal.τ).loc Cert.OutFwdReferenceIdeal.main_arg2) = m ((c.tc : Thread Cert.OutFwdIdeal.nD Cert.OutFwdIdeal.τ).loc Cert.OutFwdIdeal.main_arg2)) →
    ∃ (v0 : (c : Dev Cert.OutFwdIdeal.nD) → Buf (Elt Ideal) ((c.tc : Thread Cert.OutFwdIdeal.nD Cert.OutFwdIdeal.τ).loc Cert.OutFwdIdeal.main_v0)),
      θ_run (Cert.OutFwdIdeal.defs (F := Ideal)) (onTc (τ := Cert.OutFwdIdeal.τ) (Cert.OutFwdIdeal.main (F := Ideal))) ⟨m, fun _ => 0, g⟩ (fun r => ∀ c : Dev Cert.OutFwdIdeal.nD,
          r.2.mem ((c.tc : Thread Cert.OutFwdIdeal.nD Cert.OutFwdIdeal.τ).loc Cert.OutFwdIdeal.main_v0) = v0 c
          ∧ r.2.mem ((c.tc : Thread Cert.OutFwdIdeal.nD Cert.OutFwdIdeal.τ).loc Cert.OutFwdIdeal.main_arg0) = m ((c.tc : Thread Cert.OutFwdIdeal.nD Cert.OutFwdIdeal.τ).loc Cert.OutFwdIdeal.main_arg0)
          ∧ r.2.mem ((c.tc : Thread Cert.OutFwdIdeal.nD Cert.OutFwdIdeal.τ).loc Cert.OutFwdIdeal.main_arg1) = m ((c.tc : Thread Cert.OutFwdIdeal.nD Cert.OutFwdIdeal.τ).loc Cert.OutFwdIdeal.main_arg1)
          ∧ r.2.mem ((c.tc : Thread Cert.OutFwdIdeal.nD Cert.OutFwdIdeal.τ).loc Cert.OutFwdIdeal.main_arg2) = m ((c.tc : Thread Cert.OutFwdIdeal.nD Cert.OutFwdIdeal.τ).loc Cert.OutFwdIdeal.main_arg2))
      ∧ θ_run (Cert.OutFwdReferenceIdeal.defs (F := Ideal)) (onTc (τ := Cert.OutFwdReferenceIdeal.τ) (Cert.OutFwdReferenceIdeal.main (F := Ideal))) ⟨m', fun _ => 0, g'⟩ (fun r => ∀ c : Dev Cert.OutFwdReferenceIdeal.nD,
          r.2.mem ((c.tc : Thread Cert.OutFwdReferenceIdeal.nD Cert.OutFwdReferenceIdeal.τ).loc Cert.OutFwdReferenceIdeal.main_v3) = v0 c
          ∧ r.2.mem ((c.tc : Thread Cert.OutFwdReferenceIdeal.nD Cert.OutFwdReferenceIdeal.τ).loc Cert.OutFwdReferenceIdeal.main_arg0) = m' ((c.tc : Thread Cert.OutFwdReferenceIdeal.nD Cert.OutFwdReferenceIdeal.τ).loc Cert.OutFwdReferenceIdeal.main_arg0)
          ∧ r.2.mem ((c.tc : Thread Cert.OutFwdReferenceIdeal.nD Cert.OutFwdReferenceIdeal.τ).loc Cert.OutFwdReferenceIdeal.main_arg1) = m' ((c.tc : Thread Cert.OutFwdReferenceIdeal.nD Cert.OutFwdReferenceIdeal.τ).loc Cert.OutFwdReferenceIdeal.main_arg1)
          ∧ r.2.mem ((c.tc : Thread Cert.OutFwdReferenceIdeal.nD Cert.OutFwdReferenceIdeal.τ).loc Cert.OutFwdReferenceIdeal.main_arg2) = m' ((c.tc : Thread Cert.OutFwdReferenceIdeal.nD Cert.OutFwdReferenceIdeal.τ).loc Cert.OutFwdReferenceIdeal.main_arg2))

def preserves_OutLoss_OutLossIdeal : Prop :=
  True

def algebraic_OutLossIdeal_OutLossReferenceIdeal [hOutLossIdeal : Cert.OutLossIdeal.Facts] [hOutLossReferenceIdeal : Cert.OutLossReferenceIdeal.Facts] : Prop :=
  ∀ (m : (ℓ : Loc Cert.OutLossIdeal.nD Cert.OutLossIdeal.τ Cert.OutLossIdeal.sig) → Buf (Elt Ideal) ℓ) (g : Dev Cert.OutLossIdeal.nD → PrngReg)
    (m' : (ℓ : Loc Cert.OutLossReferenceIdeal.nD Cert.OutLossReferenceIdeal.τ Cert.OutLossReferenceIdeal.sig) → Buf (Elt Ideal) ℓ) (g' : Dev Cert.OutLossReferenceIdeal.nD → PrngReg), Pre_OutLossIdeal m →
    (∀ c : Dev Cert.OutLossIdeal.nD,
      m' ((c.tc : Thread Cert.OutLossReferenceIdeal.nD Cert.OutLossReferenceIdeal.τ).loc Cert.OutLossReferenceIdeal.main_arg0) = m ((c.tc : Thread Cert.OutLossIdeal.nD Cert.OutLossIdeal.τ).loc Cert.OutLossIdeal.main_arg0)
      ∧ m' ((c.tc : Thread Cert.OutLossReferenceIdeal.nD Cert.OutLossReferenceIdeal.τ).loc Cert.OutLossReferenceIdeal.main_arg1) = m ((c.tc : Thread Cert.OutLossIdeal.nD Cert.OutLossIdeal.τ).loc Cert.OutLossIdeal.main_arg1)
      ∧ m' ((c.tc : Thread Cert.OutLossReferenceIdeal.nD Cert.OutLossReferenceIdeal.τ).loc Cert.OutLossReferenceIdeal.main_arg2) = m ((c.tc : Thread Cert.OutLossIdeal.nD Cert.OutLossIdeal.τ).loc Cert.OutLossIdeal.main_arg2)
      ∧ m' ((c.tc : Thread Cert.OutLossReferenceIdeal.nD Cert.OutLossReferenceIdeal.τ).loc Cert.OutLossReferenceIdeal.main_arg3) = m ((c.tc : Thread Cert.OutLossIdeal.nD Cert.OutLossIdeal.τ).loc Cert.OutLossIdeal.main_arg3)) →
    ∃ (v0 : (c : Dev Cert.OutLossIdeal.nD) → Buf (Elt Ideal) ((c.tc : Thread Cert.OutLossIdeal.nD Cert.OutLossIdeal.τ).loc Cert.OutLossIdeal.main_v0_0)) (v1 : (c : Dev Cert.OutLossIdeal.nD) → Buf (Elt Ideal) ((c.tc : Thread Cert.OutLossIdeal.nD Cert.OutLossIdeal.τ).loc Cert.OutLossIdeal.main_v0_1)),
      θ_run (Cert.OutLossIdeal.defs (F := Ideal)) (onTc (τ := Cert.OutLossIdeal.τ) (Cert.OutLossIdeal.main (F := Ideal))) ⟨m, fun _ => 0, g⟩ (fun r => ∀ c : Dev Cert.OutLossIdeal.nD,
          r.2.mem ((c.tc : Thread Cert.OutLossIdeal.nD Cert.OutLossIdeal.τ).loc Cert.OutLossIdeal.main_v0_0) = v0 c
          ∧ r.2.mem ((c.tc : Thread Cert.OutLossIdeal.nD Cert.OutLossIdeal.τ).loc Cert.OutLossIdeal.main_v0_1) = v1 c
          ∧ r.2.mem ((c.tc : Thread Cert.OutLossIdeal.nD Cert.OutLossIdeal.τ).loc Cert.OutLossIdeal.main_arg0) = m ((c.tc : Thread Cert.OutLossIdeal.nD Cert.OutLossIdeal.τ).loc Cert.OutLossIdeal.main_arg0)
          ∧ r.2.mem ((c.tc : Thread Cert.OutLossIdeal.nD Cert.OutLossIdeal.τ).loc Cert.OutLossIdeal.main_arg1) = m ((c.tc : Thread Cert.OutLossIdeal.nD Cert.OutLossIdeal.τ).loc Cert.OutLossIdeal.main_arg1)
          ∧ r.2.mem ((c.tc : Thread Cert.OutLossIdeal.nD Cert.OutLossIdeal.τ).loc Cert.OutLossIdeal.main_arg2) = m ((c.tc : Thread Cert.OutLossIdeal.nD Cert.OutLossIdeal.τ).loc Cert.OutLossIdeal.main_arg2)
          ∧ r.2.mem ((c.tc : Thread Cert.OutLossIdeal.nD Cert.OutLossIdeal.τ).loc Cert.OutLossIdeal.main_arg3) = m ((c.tc : Thread Cert.OutLossIdeal.nD Cert.OutLossIdeal.τ).loc Cert.OutLossIdeal.main_arg3))
      ∧ θ_run (Cert.OutLossReferenceIdeal.defs (F := Ideal)) (onTc (τ := Cert.OutLossReferenceIdeal.τ) (Cert.OutLossReferenceIdeal.main (F := Ideal))) ⟨m', fun _ => 0, g'⟩ (fun r => ∀ c : Dev Cert.OutLossReferenceIdeal.nD,
          r.2.mem ((c.tc : Thread Cert.OutLossReferenceIdeal.nD Cert.OutLossReferenceIdeal.τ).loc Cert.OutLossReferenceIdeal.main_v18) = v0 c
          ∧ r.2.mem ((c.tc : Thread Cert.OutLossReferenceIdeal.nD Cert.OutLossReferenceIdeal.τ).loc Cert.OutLossReferenceIdeal.main_v19) = v1 c
          ∧ r.2.mem ((c.tc : Thread Cert.OutLossReferenceIdeal.nD Cert.OutLossReferenceIdeal.τ).loc Cert.OutLossReferenceIdeal.main_arg0) = m' ((c.tc : Thread Cert.OutLossReferenceIdeal.nD Cert.OutLossReferenceIdeal.τ).loc Cert.OutLossReferenceIdeal.main_arg0)
          ∧ r.2.mem ((c.tc : Thread Cert.OutLossReferenceIdeal.nD Cert.OutLossReferenceIdeal.τ).loc Cert.OutLossReferenceIdeal.main_arg1) = m' ((c.tc : Thread Cert.OutLossReferenceIdeal.nD Cert.OutLossReferenceIdeal.τ).loc Cert.OutLossReferenceIdeal.main_arg1)
          ∧ r.2.mem ((c.tc : Thread Cert.OutLossReferenceIdeal.nD Cert.OutLossReferenceIdeal.τ).loc Cert.OutLossReferenceIdeal.main_arg2) = m' ((c.tc : Thread Cert.OutLossReferenceIdeal.nD Cert.OutLossReferenceIdeal.τ).loc Cert.OutLossReferenceIdeal.main_arg2)
          ∧ r.2.mem ((c.tc : Thread Cert.OutLossReferenceIdeal.nD Cert.OutLossReferenceIdeal.τ).loc Cert.OutLossReferenceIdeal.main_arg3) = m' ((c.tc : Thread Cert.OutLossReferenceIdeal.nD Cert.OutLossReferenceIdeal.τ).loc Cert.OutLossReferenceIdeal.main_arg3))

def preserves_AdamWIn_AdamWInIdeal : Prop :=
  True

def algebraic_AdamWInIdeal_AdamWInReferenceIdeal [hAdamWInIdeal : Cert.AdamWInIdeal.Facts] [hAdamWInReferenceIdeal : Cert.AdamWInReferenceIdeal.Facts] : Prop :=
  ∀ (m : (ℓ : Loc Cert.AdamWInIdeal.nD Cert.AdamWInIdeal.τ Cert.AdamWInIdeal.sig) → Buf (Elt Ideal) ℓ) (g : Dev Cert.AdamWInIdeal.nD → PrngReg)
    (m' : (ℓ : Loc Cert.AdamWInReferenceIdeal.nD Cert.AdamWInReferenceIdeal.τ Cert.AdamWInReferenceIdeal.sig) → Buf (Elt Ideal) ℓ) (g' : Dev Cert.AdamWInReferenceIdeal.nD → PrngReg), Pre_AdamWInIdeal m →
    (∀ c : Dev Cert.AdamWInIdeal.nD,
      m' ((c.tc : Thread Cert.AdamWInReferenceIdeal.nD Cert.AdamWInReferenceIdeal.τ).loc Cert.AdamWInReferenceIdeal.main_arg0) = m ((c.tc : Thread Cert.AdamWInIdeal.nD Cert.AdamWInIdeal.τ).loc Cert.AdamWInIdeal.main_arg0)
      ∧ m' ((c.tc : Thread Cert.AdamWInReferenceIdeal.nD Cert.AdamWInReferenceIdeal.τ).loc Cert.AdamWInReferenceIdeal.main_arg1) = m ((c.tc : Thread Cert.AdamWInIdeal.nD Cert.AdamWInIdeal.τ).loc Cert.AdamWInIdeal.main_arg1)
      ∧ m' ((c.tc : Thread Cert.AdamWInReferenceIdeal.nD Cert.AdamWInReferenceIdeal.τ).loc Cert.AdamWInReferenceIdeal.main_arg2) = m ((c.tc : Thread Cert.AdamWInIdeal.nD Cert.AdamWInIdeal.τ).loc Cert.AdamWInIdeal.main_arg2)
      ∧ m' ((c.tc : Thread Cert.AdamWInReferenceIdeal.nD Cert.AdamWInReferenceIdeal.τ).loc Cert.AdamWInReferenceIdeal.main_arg3) = m ((c.tc : Thread Cert.AdamWInIdeal.nD Cert.AdamWInIdeal.τ).loc Cert.AdamWInIdeal.main_arg3)) →
    ∃ (v0 : (c : Dev Cert.AdamWInIdeal.nD) → Buf (Elt Ideal) ((c.tc : Thread Cert.AdamWInIdeal.nD Cert.AdamWInIdeal.τ).loc Cert.AdamWInIdeal.main_v11)) (v1 : (c : Dev Cert.AdamWInIdeal.nD) → Buf (Elt Ideal) ((c.tc : Thread Cert.AdamWInIdeal.nD Cert.AdamWInIdeal.τ).loc Cert.AdamWInIdeal.main_v12)) (v2 : (c : Dev Cert.AdamWInIdeal.nD) → Buf (Elt Ideal) ((c.tc : Thread Cert.AdamWInIdeal.nD Cert.AdamWInIdeal.τ).loc Cert.AdamWInIdeal.main_v13)),
      θ_run (Cert.AdamWInIdeal.defs (F := Ideal)) (onTc (τ := Cert.AdamWInIdeal.τ) (Cert.AdamWInIdeal.main (F := Ideal))) ⟨m, fun _ => 0, g⟩ (fun r => ∀ c : Dev Cert.AdamWInIdeal.nD,
          r.2.mem ((c.tc : Thread Cert.AdamWInIdeal.nD Cert.AdamWInIdeal.τ).loc Cert.AdamWInIdeal.main_v11) = v0 c
          ∧ r.2.mem ((c.tc : Thread Cert.AdamWInIdeal.nD Cert.AdamWInIdeal.τ).loc Cert.AdamWInIdeal.main_v12) = v1 c
          ∧ r.2.mem ((c.tc : Thread Cert.AdamWInIdeal.nD Cert.AdamWInIdeal.τ).loc Cert.AdamWInIdeal.main_v13) = v2 c
          ∧ r.2.mem ((c.tc : Thread Cert.AdamWInIdeal.nD Cert.AdamWInIdeal.τ).loc Cert.AdamWInIdeal.main_arg0) = m ((c.tc : Thread Cert.AdamWInIdeal.nD Cert.AdamWInIdeal.τ).loc Cert.AdamWInIdeal.main_arg0)
          ∧ r.2.mem ((c.tc : Thread Cert.AdamWInIdeal.nD Cert.AdamWInIdeal.τ).loc Cert.AdamWInIdeal.main_arg1) = m ((c.tc : Thread Cert.AdamWInIdeal.nD Cert.AdamWInIdeal.τ).loc Cert.AdamWInIdeal.main_arg1)
          ∧ r.2.mem ((c.tc : Thread Cert.AdamWInIdeal.nD Cert.AdamWInIdeal.τ).loc Cert.AdamWInIdeal.main_arg2) = m ((c.tc : Thread Cert.AdamWInIdeal.nD Cert.AdamWInIdeal.τ).loc Cert.AdamWInIdeal.main_arg2)
          ∧ r.2.mem ((c.tc : Thread Cert.AdamWInIdeal.nD Cert.AdamWInIdeal.τ).loc Cert.AdamWInIdeal.main_arg3) = m ((c.tc : Thread Cert.AdamWInIdeal.nD Cert.AdamWInIdeal.τ).loc Cert.AdamWInIdeal.main_arg3))
      ∧ θ_run (Cert.AdamWInReferenceIdeal.defs (F := Ideal)) (onTc (τ := Cert.AdamWInReferenceIdeal.τ) (Cert.AdamWInReferenceIdeal.main (F := Ideal))) ⟨m', fun _ => 0, g'⟩ (fun r => ∀ c : Dev Cert.AdamWInReferenceIdeal.nD,
          r.2.mem ((c.tc : Thread Cert.AdamWInReferenceIdeal.nD Cert.AdamWInReferenceIdeal.τ).loc Cert.AdamWInReferenceIdeal.main_v24) = v0 c
          ∧ r.2.mem ((c.tc : Thread Cert.AdamWInReferenceIdeal.nD Cert.AdamWInReferenceIdeal.τ).loc Cert.AdamWInReferenceIdeal.main_v5) = v1 c
          ∧ r.2.mem ((c.tc : Thread Cert.AdamWInReferenceIdeal.nD Cert.AdamWInReferenceIdeal.τ).loc Cert.AdamWInReferenceIdeal.main_v11) = v2 c
          ∧ r.2.mem ((c.tc : Thread Cert.AdamWInReferenceIdeal.nD Cert.AdamWInReferenceIdeal.τ).loc Cert.AdamWInReferenceIdeal.main_arg0) = m' ((c.tc : Thread Cert.AdamWInReferenceIdeal.nD Cert.AdamWInReferenceIdeal.τ).loc Cert.AdamWInReferenceIdeal.main_arg0)
          ∧ r.2.mem ((c.tc : Thread Cert.AdamWInReferenceIdeal.nD Cert.AdamWInReferenceIdeal.τ).loc Cert.AdamWInReferenceIdeal.main_arg1) = m' ((c.tc : Thread Cert.AdamWInReferenceIdeal.nD Cert.AdamWInReferenceIdeal.τ).loc Cert.AdamWInReferenceIdeal.main_arg1)
          ∧ r.2.mem ((c.tc : Thread Cert.AdamWInReferenceIdeal.nD Cert.AdamWInReferenceIdeal.τ).loc Cert.AdamWInReferenceIdeal.main_arg2) = m' ((c.tc : Thread Cert.AdamWInReferenceIdeal.nD Cert.AdamWInReferenceIdeal.τ).loc Cert.AdamWInReferenceIdeal.main_arg2)
          ∧ r.2.mem ((c.tc : Thread Cert.AdamWInReferenceIdeal.nD Cert.AdamWInReferenceIdeal.τ).loc Cert.AdamWInReferenceIdeal.main_arg3) = m' ((c.tc : Thread Cert.AdamWInReferenceIdeal.nD Cert.AdamWInReferenceIdeal.τ).loc Cert.AdamWInReferenceIdeal.main_arg3))

def preserves_AdamNorm_AdamNormIdeal : Prop :=
  True

def algebraic_AdamNormIdeal_AdamNormReferenceIdeal [hAdamNormIdeal : Cert.AdamNormIdeal.Facts] [hAdamNormReferenceIdeal : Cert.AdamNormReferenceIdeal.Facts] : Prop :=
  ∀ (m : (ℓ : Loc Cert.AdamNormIdeal.nD Cert.AdamNormIdeal.τ Cert.AdamNormIdeal.sig) → Buf (Elt Ideal) ℓ) (g : Dev Cert.AdamNormIdeal.nD → PrngReg)
    (m' : (ℓ : Loc Cert.AdamNormReferenceIdeal.nD Cert.AdamNormReferenceIdeal.τ Cert.AdamNormReferenceIdeal.sig) → Buf (Elt Ideal) ℓ) (g' : Dev Cert.AdamNormReferenceIdeal.nD → PrngReg), Pre_AdamNormIdeal m →
    (∀ c : Dev Cert.AdamNormIdeal.nD,
      m' ((c.tc : Thread Cert.AdamNormReferenceIdeal.nD Cert.AdamNormReferenceIdeal.τ).loc Cert.AdamNormReferenceIdeal.main_arg0) = m ((c.tc : Thread Cert.AdamNormIdeal.nD Cert.AdamNormIdeal.τ).loc Cert.AdamNormIdeal.main_arg0)
      ∧ m' ((c.tc : Thread Cert.AdamNormReferenceIdeal.nD Cert.AdamNormReferenceIdeal.τ).loc Cert.AdamNormReferenceIdeal.main_arg1) = m ((c.tc : Thread Cert.AdamNormIdeal.nD Cert.AdamNormIdeal.τ).loc Cert.AdamNormIdeal.main_arg1)
      ∧ m' ((c.tc : Thread Cert.AdamNormReferenceIdeal.nD Cert.AdamNormReferenceIdeal.τ).loc Cert.AdamNormReferenceIdeal.main_arg2) = m ((c.tc : Thread Cert.AdamNormIdeal.nD Cert.AdamNormIdeal.τ).loc Cert.AdamNormIdeal.main_arg2)
      ∧ m' ((c.tc : Thread Cert.AdamNormReferenceIdeal.nD Cert.AdamNormReferenceIdeal.τ).loc Cert.AdamNormReferenceIdeal.main_arg3) = m ((c.tc : Thread Cert.AdamNormIdeal.nD Cert.AdamNormIdeal.τ).loc Cert.AdamNormIdeal.main_arg3)) →
    ∃ (v0 : (c : Dev Cert.AdamNormIdeal.nD) → Buf (Elt Ideal) ((c.tc : Thread Cert.AdamNormIdeal.nD Cert.AdamNormIdeal.τ).loc Cert.AdamNormIdeal.main_v0_0)) (v1 : (c : Dev Cert.AdamNormIdeal.nD) → Buf (Elt Ideal) ((c.tc : Thread Cert.AdamNormIdeal.nD Cert.AdamNormIdeal.τ).loc Cert.AdamNormIdeal.main_v0_1)) (v2 : (c : Dev Cert.AdamNormIdeal.nD) → Buf (Elt Ideal) ((c.tc : Thread Cert.AdamNormIdeal.nD Cert.AdamNormIdeal.τ).loc Cert.AdamNormIdeal.main_v0_2)),
      θ_run (Cert.AdamNormIdeal.defs (F := Ideal)) (onTc (τ := Cert.AdamNormIdeal.τ) (Cert.AdamNormIdeal.main (F := Ideal))) ⟨m, fun _ => 0, g⟩ (fun r => ∀ c : Dev Cert.AdamNormIdeal.nD,
          r.2.mem ((c.tc : Thread Cert.AdamNormIdeal.nD Cert.AdamNormIdeal.τ).loc Cert.AdamNormIdeal.main_v0_0) = v0 c
          ∧ r.2.mem ((c.tc : Thread Cert.AdamNormIdeal.nD Cert.AdamNormIdeal.τ).loc Cert.AdamNormIdeal.main_v0_1) = v1 c
          ∧ r.2.mem ((c.tc : Thread Cert.AdamNormIdeal.nD Cert.AdamNormIdeal.τ).loc Cert.AdamNormIdeal.main_v0_2) = v2 c
          ∧ r.2.mem ((c.tc : Thread Cert.AdamNormIdeal.nD Cert.AdamNormIdeal.τ).loc Cert.AdamNormIdeal.main_arg0) = m ((c.tc : Thread Cert.AdamNormIdeal.nD Cert.AdamNormIdeal.τ).loc Cert.AdamNormIdeal.main_arg0)
          ∧ r.2.mem ((c.tc : Thread Cert.AdamNormIdeal.nD Cert.AdamNormIdeal.τ).loc Cert.AdamNormIdeal.main_arg1) = m ((c.tc : Thread Cert.AdamNormIdeal.nD Cert.AdamNormIdeal.τ).loc Cert.AdamNormIdeal.main_arg1)
          ∧ r.2.mem ((c.tc : Thread Cert.AdamNormIdeal.nD Cert.AdamNormIdeal.τ).loc Cert.AdamNormIdeal.main_arg2) = m ((c.tc : Thread Cert.AdamNormIdeal.nD Cert.AdamNormIdeal.τ).loc Cert.AdamNormIdeal.main_arg2)
          ∧ r.2.mem ((c.tc : Thread Cert.AdamNormIdeal.nD Cert.AdamNormIdeal.τ).loc Cert.AdamNormIdeal.main_arg3) = m ((c.tc : Thread Cert.AdamNormIdeal.nD Cert.AdamNormIdeal.τ).loc Cert.AdamNormIdeal.main_arg3))
      ∧ θ_run (Cert.AdamNormReferenceIdeal.defs (F := Ideal)) (onTc (τ := Cert.AdamNormReferenceIdeal.τ) (Cert.AdamNormReferenceIdeal.main (F := Ideal))) ⟨m', fun _ => 0, g'⟩ (fun r => ∀ c : Dev Cert.AdamNormReferenceIdeal.nD,
          r.2.mem ((c.tc : Thread Cert.AdamNormReferenceIdeal.nD Cert.AdamNormReferenceIdeal.τ).loc Cert.AdamNormReferenceIdeal.main_v23) = v0 c
          ∧ r.2.mem ((c.tc : Thread Cert.AdamNormReferenceIdeal.nD Cert.AdamNormReferenceIdeal.τ).loc Cert.AdamNormReferenceIdeal.main_v4) = v1 c
          ∧ r.2.mem ((c.tc : Thread Cert.AdamNormReferenceIdeal.nD Cert.AdamNormReferenceIdeal.τ).loc Cert.AdamNormReferenceIdeal.main_v10) = v2 c
          ∧ r.2.mem ((c.tc : Thread Cert.AdamNormReferenceIdeal.nD Cert.AdamNormReferenceIdeal.τ).loc Cert.AdamNormReferenceIdeal.main_arg0) = m' ((c.tc : Thread Cert.AdamNormReferenceIdeal.nD Cert.AdamNormReferenceIdeal.τ).loc Cert.AdamNormReferenceIdeal.main_arg0)
          ∧ r.2.mem ((c.tc : Thread Cert.AdamNormReferenceIdeal.nD Cert.AdamNormReferenceIdeal.τ).loc Cert.AdamNormReferenceIdeal.main_arg1) = m' ((c.tc : Thread Cert.AdamNormReferenceIdeal.nD Cert.AdamNormReferenceIdeal.τ).loc Cert.AdamNormReferenceIdeal.main_arg1)
          ∧ r.2.mem ((c.tc : Thread Cert.AdamNormReferenceIdeal.nD Cert.AdamNormReferenceIdeal.τ).loc Cert.AdamNormReferenceIdeal.main_arg2) = m' ((c.tc : Thread Cert.AdamNormReferenceIdeal.nD Cert.AdamNormReferenceIdeal.τ).loc Cert.AdamNormReferenceIdeal.main_arg2)
          ∧ r.2.mem ((c.tc : Thread Cert.AdamNormReferenceIdeal.nD Cert.AdamNormReferenceIdeal.τ).loc Cert.AdamNormReferenceIdeal.main_arg3) = m' ((c.tc : Thread Cert.AdamNormReferenceIdeal.nD Cert.AdamNormReferenceIdeal.τ).loc Cert.AdamNormReferenceIdeal.main_arg3))

def preserves_AdamGroup_AdamGroupIdeal : Prop :=
  True

def algebraic_AdamGroupIdeal_AdamGroupReferenceIdeal [hAdamGroupIdeal : Cert.AdamGroupIdeal.Facts] [hAdamGroupReferenceIdeal : Cert.AdamGroupReferenceIdeal.Facts] : Prop :=
  ∀ (m : (ℓ : Loc Cert.AdamGroupIdeal.nD Cert.AdamGroupIdeal.τ Cert.AdamGroupIdeal.sig) → Buf (Elt Ideal) ℓ) (g : Dev Cert.AdamGroupIdeal.nD → PrngReg)
    (m' : (ℓ : Loc Cert.AdamGroupReferenceIdeal.nD Cert.AdamGroupReferenceIdeal.τ Cert.AdamGroupReferenceIdeal.sig) → Buf (Elt Ideal) ℓ) (g' : Dev Cert.AdamGroupReferenceIdeal.nD → PrngReg), Pre_AdamGroupIdeal m →
    (∀ c : Dev Cert.AdamGroupIdeal.nD,
      m' ((c.tc : Thread Cert.AdamGroupReferenceIdeal.nD Cert.AdamGroupReferenceIdeal.τ).loc Cert.AdamGroupReferenceIdeal.main_arg0) = m ((c.tc : Thread Cert.AdamGroupIdeal.nD Cert.AdamGroupIdeal.τ).loc Cert.AdamGroupIdeal.main_arg0)
      ∧ m' ((c.tc : Thread Cert.AdamGroupReferenceIdeal.nD Cert.AdamGroupReferenceIdeal.τ).loc Cert.AdamGroupReferenceIdeal.main_arg1) = m ((c.tc : Thread Cert.AdamGroupIdeal.nD Cert.AdamGroupIdeal.τ).loc Cert.AdamGroupIdeal.main_arg1)
      ∧ m' ((c.tc : Thread Cert.AdamGroupReferenceIdeal.nD Cert.AdamGroupReferenceIdeal.τ).loc Cert.AdamGroupReferenceIdeal.main_arg2) = m ((c.tc : Thread Cert.AdamGroupIdeal.nD Cert.AdamGroupIdeal.τ).loc Cert.AdamGroupIdeal.main_arg2)
      ∧ m' ((c.tc : Thread Cert.AdamGroupReferenceIdeal.nD Cert.AdamGroupReferenceIdeal.τ).loc Cert.AdamGroupReferenceIdeal.main_arg3) = m ((c.tc : Thread Cert.AdamGroupIdeal.nD Cert.AdamGroupIdeal.τ).loc Cert.AdamGroupIdeal.main_arg3)) →
    ∃ (v0 : (c : Dev Cert.AdamGroupIdeal.nD) → Buf (Elt Ideal) ((c.tc : Thread Cert.AdamGroupIdeal.nD Cert.AdamGroupIdeal.τ).loc Cert.AdamGroupIdeal.main_v0_0)) (v1 : (c : Dev Cert.AdamGroupIdeal.nD) → Buf (Elt Ideal) ((c.tc : Thread Cert.AdamGroupIdeal.nD Cert.AdamGroupIdeal.τ).loc Cert.AdamGroupIdeal.main_v0_1)) (v2 : (c : Dev Cert.AdamGroupIdeal.nD) → Buf (Elt Ideal) ((c.tc : Thread Cert.AdamGroupIdeal.nD Cert.AdamGroupIdeal.τ).loc Cert.AdamGroupIdeal.main_v0_2)),
      θ_run (Cert.AdamGroupIdeal.defs (F := Ideal)) (onTc (τ := Cert.AdamGroupIdeal.τ) (Cert.AdamGroupIdeal.main (F := Ideal))) ⟨m, fun _ => 0, g⟩ (fun r => ∀ c : Dev Cert.AdamGroupIdeal.nD,
          r.2.mem ((c.tc : Thread Cert.AdamGroupIdeal.nD Cert.AdamGroupIdeal.τ).loc Cert.AdamGroupIdeal.main_v0_0) = v0 c
          ∧ r.2.mem ((c.tc : Thread Cert.AdamGroupIdeal.nD Cert.AdamGroupIdeal.τ).loc Cert.AdamGroupIdeal.main_v0_1) = v1 c
          ∧ r.2.mem ((c.tc : Thread Cert.AdamGroupIdeal.nD Cert.AdamGroupIdeal.τ).loc Cert.AdamGroupIdeal.main_v0_2) = v2 c
          ∧ r.2.mem ((c.tc : Thread Cert.AdamGroupIdeal.nD Cert.AdamGroupIdeal.τ).loc Cert.AdamGroupIdeal.main_arg0) = m ((c.tc : Thread Cert.AdamGroupIdeal.nD Cert.AdamGroupIdeal.τ).loc Cert.AdamGroupIdeal.main_arg0)
          ∧ r.2.mem ((c.tc : Thread Cert.AdamGroupIdeal.nD Cert.AdamGroupIdeal.τ).loc Cert.AdamGroupIdeal.main_arg1) = m ((c.tc : Thread Cert.AdamGroupIdeal.nD Cert.AdamGroupIdeal.τ).loc Cert.AdamGroupIdeal.main_arg1)
          ∧ r.2.mem ((c.tc : Thread Cert.AdamGroupIdeal.nD Cert.AdamGroupIdeal.τ).loc Cert.AdamGroupIdeal.main_arg2) = m ((c.tc : Thread Cert.AdamGroupIdeal.nD Cert.AdamGroupIdeal.τ).loc Cert.AdamGroupIdeal.main_arg2)
          ∧ r.2.mem ((c.tc : Thread Cert.AdamGroupIdeal.nD Cert.AdamGroupIdeal.τ).loc Cert.AdamGroupIdeal.main_arg3) = m ((c.tc : Thread Cert.AdamGroupIdeal.nD Cert.AdamGroupIdeal.τ).loc Cert.AdamGroupIdeal.main_arg3))
      ∧ θ_run (Cert.AdamGroupReferenceIdeal.defs (F := Ideal)) (onTc (τ := Cert.AdamGroupReferenceIdeal.τ) (Cert.AdamGroupReferenceIdeal.main (F := Ideal))) ⟨m', fun _ => 0, g'⟩ (fun r => ∀ c : Dev Cert.AdamGroupReferenceIdeal.nD,
          r.2.mem ((c.tc : Thread Cert.AdamGroupReferenceIdeal.nD Cert.AdamGroupReferenceIdeal.τ).loc Cert.AdamGroupReferenceIdeal.main_v23) = v0 c
          ∧ r.2.mem ((c.tc : Thread Cert.AdamGroupReferenceIdeal.nD Cert.AdamGroupReferenceIdeal.τ).loc Cert.AdamGroupReferenceIdeal.main_v4) = v1 c
          ∧ r.2.mem ((c.tc : Thread Cert.AdamGroupReferenceIdeal.nD Cert.AdamGroupReferenceIdeal.τ).loc Cert.AdamGroupReferenceIdeal.main_v10) = v2 c
          ∧ r.2.mem ((c.tc : Thread Cert.AdamGroupReferenceIdeal.nD Cert.AdamGroupReferenceIdeal.τ).loc Cert.AdamGroupReferenceIdeal.main_arg0) = m' ((c.tc : Thread Cert.AdamGroupReferenceIdeal.nD Cert.AdamGroupReferenceIdeal.τ).loc Cert.AdamGroupReferenceIdeal.main_arg0)
          ∧ r.2.mem ((c.tc : Thread Cert.AdamGroupReferenceIdeal.nD Cert.AdamGroupReferenceIdeal.τ).loc Cert.AdamGroupReferenceIdeal.main_arg1) = m' ((c.tc : Thread Cert.AdamGroupReferenceIdeal.nD Cert.AdamGroupReferenceIdeal.τ).loc Cert.AdamGroupReferenceIdeal.main_arg1)
          ∧ r.2.mem ((c.tc : Thread Cert.AdamGroupReferenceIdeal.nD Cert.AdamGroupReferenceIdeal.τ).loc Cert.AdamGroupReferenceIdeal.main_arg2) = m' ((c.tc : Thread Cert.AdamGroupReferenceIdeal.nD Cert.AdamGroupReferenceIdeal.τ).loc Cert.AdamGroupReferenceIdeal.main_arg2)
          ∧ r.2.mem ((c.tc : Thread Cert.AdamGroupReferenceIdeal.nD Cert.AdamGroupReferenceIdeal.τ).loc Cert.AdamGroupReferenceIdeal.main_arg3) = m' ((c.tc : Thread Cert.AdamGroupReferenceIdeal.nD Cert.AdamGroupReferenceIdeal.τ).loc Cert.AdamGroupReferenceIdeal.main_arg3))

def preserves_AdamHalf_AdamHalfIdeal : Prop :=
  True

def algebraic_AdamHalfIdeal_AdamHalfReferenceIdeal [hAdamHalfIdeal : Cert.AdamHalfIdeal.Facts] [hAdamHalfReferenceIdeal : Cert.AdamHalfReferenceIdeal.Facts] : Prop :=
  ∀ (m : (ℓ : Loc Cert.AdamHalfIdeal.nD Cert.AdamHalfIdeal.τ Cert.AdamHalfIdeal.sig) → Buf (Elt Ideal) ℓ) (g : Dev Cert.AdamHalfIdeal.nD → PrngReg)
    (m' : (ℓ : Loc Cert.AdamHalfReferenceIdeal.nD Cert.AdamHalfReferenceIdeal.τ Cert.AdamHalfReferenceIdeal.sig) → Buf (Elt Ideal) ℓ) (g' : Dev Cert.AdamHalfReferenceIdeal.nD → PrngReg), Pre_AdamHalfIdeal m →
    (∀ c : Dev Cert.AdamHalfIdeal.nD,
      m' ((c.tc : Thread Cert.AdamHalfReferenceIdeal.nD Cert.AdamHalfReferenceIdeal.τ).loc Cert.AdamHalfReferenceIdeal.main_arg0) = m ((c.tc : Thread Cert.AdamHalfIdeal.nD Cert.AdamHalfIdeal.τ).loc Cert.AdamHalfIdeal.main_arg0)
      ∧ m' ((c.tc : Thread Cert.AdamHalfReferenceIdeal.nD Cert.AdamHalfReferenceIdeal.τ).loc Cert.AdamHalfReferenceIdeal.main_arg1) = m ((c.tc : Thread Cert.AdamHalfIdeal.nD Cert.AdamHalfIdeal.τ).loc Cert.AdamHalfIdeal.main_arg1)
      ∧ m' ((c.tc : Thread Cert.AdamHalfReferenceIdeal.nD Cert.AdamHalfReferenceIdeal.τ).loc Cert.AdamHalfReferenceIdeal.main_arg2) = m ((c.tc : Thread Cert.AdamHalfIdeal.nD Cert.AdamHalfIdeal.τ).loc Cert.AdamHalfIdeal.main_arg2)
      ∧ m' ((c.tc : Thread Cert.AdamHalfReferenceIdeal.nD Cert.AdamHalfReferenceIdeal.τ).loc Cert.AdamHalfReferenceIdeal.main_arg3) = m ((c.tc : Thread Cert.AdamHalfIdeal.nD Cert.AdamHalfIdeal.τ).loc Cert.AdamHalfIdeal.main_arg3)) →
    ∃ (v0 : (c : Dev Cert.AdamHalfIdeal.nD) → Buf (Elt Ideal) ((c.tc : Thread Cert.AdamHalfIdeal.nD Cert.AdamHalfIdeal.τ).loc Cert.AdamHalfIdeal.main_v0_0)) (v1 : (c : Dev Cert.AdamHalfIdeal.nD) → Buf (Elt Ideal) ((c.tc : Thread Cert.AdamHalfIdeal.nD Cert.AdamHalfIdeal.τ).loc Cert.AdamHalfIdeal.main_v0_1)) (v2 : (c : Dev Cert.AdamHalfIdeal.nD) → Buf (Elt Ideal) ((c.tc : Thread Cert.AdamHalfIdeal.nD Cert.AdamHalfIdeal.τ).loc Cert.AdamHalfIdeal.main_v0_2)),
      θ_run (Cert.AdamHalfIdeal.defs (F := Ideal)) (onTc (τ := Cert.AdamHalfIdeal.τ) (Cert.AdamHalfIdeal.main (F := Ideal))) ⟨m, fun _ => 0, g⟩ (fun r => ∀ c : Dev Cert.AdamHalfIdeal.nD,
          r.2.mem ((c.tc : Thread Cert.AdamHalfIdeal.nD Cert.AdamHalfIdeal.τ).loc Cert.AdamHalfIdeal.main_v0_0) = v0 c
          ∧ r.2.mem ((c.tc : Thread Cert.AdamHalfIdeal.nD Cert.AdamHalfIdeal.τ).loc Cert.AdamHalfIdeal.main_v0_1) = v1 c
          ∧ r.2.mem ((c.tc : Thread Cert.AdamHalfIdeal.nD Cert.AdamHalfIdeal.τ).loc Cert.AdamHalfIdeal.main_v0_2) = v2 c
          ∧ r.2.mem ((c.tc : Thread Cert.AdamHalfIdeal.nD Cert.AdamHalfIdeal.τ).loc Cert.AdamHalfIdeal.main_arg0) = m ((c.tc : Thread Cert.AdamHalfIdeal.nD Cert.AdamHalfIdeal.τ).loc Cert.AdamHalfIdeal.main_arg0)
          ∧ r.2.mem ((c.tc : Thread Cert.AdamHalfIdeal.nD Cert.AdamHalfIdeal.τ).loc Cert.AdamHalfIdeal.main_arg1) = m ((c.tc : Thread Cert.AdamHalfIdeal.nD Cert.AdamHalfIdeal.τ).loc Cert.AdamHalfIdeal.main_arg1)
          ∧ r.2.mem ((c.tc : Thread Cert.AdamHalfIdeal.nD Cert.AdamHalfIdeal.τ).loc Cert.AdamHalfIdeal.main_arg2) = m ((c.tc : Thread Cert.AdamHalfIdeal.nD Cert.AdamHalfIdeal.τ).loc Cert.AdamHalfIdeal.main_arg2)
          ∧ r.2.mem ((c.tc : Thread Cert.AdamHalfIdeal.nD Cert.AdamHalfIdeal.τ).loc Cert.AdamHalfIdeal.main_arg3) = m ((c.tc : Thread Cert.AdamHalfIdeal.nD Cert.AdamHalfIdeal.τ).loc Cert.AdamHalfIdeal.main_arg3))
      ∧ θ_run (Cert.AdamHalfReferenceIdeal.defs (F := Ideal)) (onTc (τ := Cert.AdamHalfReferenceIdeal.τ) (Cert.AdamHalfReferenceIdeal.main (F := Ideal))) ⟨m', fun _ => 0, g'⟩ (fun r => ∀ c : Dev Cert.AdamHalfReferenceIdeal.nD,
          r.2.mem ((c.tc : Thread Cert.AdamHalfReferenceIdeal.nD Cert.AdamHalfReferenceIdeal.τ).loc Cert.AdamHalfReferenceIdeal.main_v23) = v0 c
          ∧ r.2.mem ((c.tc : Thread Cert.AdamHalfReferenceIdeal.nD Cert.AdamHalfReferenceIdeal.τ).loc Cert.AdamHalfReferenceIdeal.main_v4) = v1 c
          ∧ r.2.mem ((c.tc : Thread Cert.AdamHalfReferenceIdeal.nD Cert.AdamHalfReferenceIdeal.τ).loc Cert.AdamHalfReferenceIdeal.main_v10) = v2 c
          ∧ r.2.mem ((c.tc : Thread Cert.AdamHalfReferenceIdeal.nD Cert.AdamHalfReferenceIdeal.τ).loc Cert.AdamHalfReferenceIdeal.main_arg0) = m' ((c.tc : Thread Cert.AdamHalfReferenceIdeal.nD Cert.AdamHalfReferenceIdeal.τ).loc Cert.AdamHalfReferenceIdeal.main_arg0)
          ∧ r.2.mem ((c.tc : Thread Cert.AdamHalfReferenceIdeal.nD Cert.AdamHalfReferenceIdeal.τ).loc Cert.AdamHalfReferenceIdeal.main_arg1) = m' ((c.tc : Thread Cert.AdamHalfReferenceIdeal.nD Cert.AdamHalfReferenceIdeal.τ).loc Cert.AdamHalfReferenceIdeal.main_arg1)
          ∧ r.2.mem ((c.tc : Thread Cert.AdamHalfReferenceIdeal.nD Cert.AdamHalfReferenceIdeal.τ).loc Cert.AdamHalfReferenceIdeal.main_arg2) = m' ((c.tc : Thread Cert.AdamHalfReferenceIdeal.nD Cert.AdamHalfReferenceIdeal.τ).loc Cert.AdamHalfReferenceIdeal.main_arg2)
          ∧ r.2.mem ((c.tc : Thread Cert.AdamHalfReferenceIdeal.nD Cert.AdamHalfReferenceIdeal.τ).loc Cert.AdamHalfReferenceIdeal.main_arg3) = m' ((c.tc : Thread Cert.AdamHalfReferenceIdeal.nD Cert.AdamHalfReferenceIdeal.τ).loc Cert.AdamHalfReferenceIdeal.main_arg3))

def preserves_AdamHead_AdamHeadIdeal : Prop :=
  True

def algebraic_AdamHeadIdeal_AdamHeadReferenceIdeal [hAdamHeadIdeal : Cert.AdamHeadIdeal.Facts] [hAdamHeadReferenceIdeal : Cert.AdamHeadReferenceIdeal.Facts] : Prop :=
  ∀ (m : (ℓ : Loc Cert.AdamHeadIdeal.nD Cert.AdamHeadIdeal.τ Cert.AdamHeadIdeal.sig) → Buf (Elt Ideal) ℓ) (g : Dev Cert.AdamHeadIdeal.nD → PrngReg)
    (m' : (ℓ : Loc Cert.AdamHeadReferenceIdeal.nD Cert.AdamHeadReferenceIdeal.τ Cert.AdamHeadReferenceIdeal.sig) → Buf (Elt Ideal) ℓ) (g' : Dev Cert.AdamHeadReferenceIdeal.nD → PrngReg), Pre_AdamHeadIdeal m →
    (∀ c : Dev Cert.AdamHeadIdeal.nD,
      m' ((c.tc : Thread Cert.AdamHeadReferenceIdeal.nD Cert.AdamHeadReferenceIdeal.τ).loc Cert.AdamHeadReferenceIdeal.main_arg0) = m ((c.tc : Thread Cert.AdamHeadIdeal.nD Cert.AdamHeadIdeal.τ).loc Cert.AdamHeadIdeal.main_arg0)
      ∧ m' ((c.tc : Thread Cert.AdamHeadReferenceIdeal.nD Cert.AdamHeadReferenceIdeal.τ).loc Cert.AdamHeadReferenceIdeal.main_arg1) = m ((c.tc : Thread Cert.AdamHeadIdeal.nD Cert.AdamHeadIdeal.τ).loc Cert.AdamHeadIdeal.main_arg1)
      ∧ m' ((c.tc : Thread Cert.AdamHeadReferenceIdeal.nD Cert.AdamHeadReferenceIdeal.τ).loc Cert.AdamHeadReferenceIdeal.main_arg2) = m ((c.tc : Thread Cert.AdamHeadIdeal.nD Cert.AdamHeadIdeal.τ).loc Cert.AdamHeadIdeal.main_arg2)
      ∧ m' ((c.tc : Thread Cert.AdamHeadReferenceIdeal.nD Cert.AdamHeadReferenceIdeal.τ).loc Cert.AdamHeadReferenceIdeal.main_arg3) = m ((c.tc : Thread Cert.AdamHeadIdeal.nD Cert.AdamHeadIdeal.τ).loc Cert.AdamHeadIdeal.main_arg3)) →
    ∃ (v0 : (c : Dev Cert.AdamHeadIdeal.nD) → Buf (Elt Ideal) ((c.tc : Thread Cert.AdamHeadIdeal.nD Cert.AdamHeadIdeal.τ).loc Cert.AdamHeadIdeal.main_v0_0)) (v1 : (c : Dev Cert.AdamHeadIdeal.nD) → Buf (Elt Ideal) ((c.tc : Thread Cert.AdamHeadIdeal.nD Cert.AdamHeadIdeal.τ).loc Cert.AdamHeadIdeal.main_v0_1)) (v2 : (c : Dev Cert.AdamHeadIdeal.nD) → Buf (Elt Ideal) ((c.tc : Thread Cert.AdamHeadIdeal.nD Cert.AdamHeadIdeal.τ).loc Cert.AdamHeadIdeal.main_v0_2)),
      θ_run (Cert.AdamHeadIdeal.defs (F := Ideal)) (onTc (τ := Cert.AdamHeadIdeal.τ) (Cert.AdamHeadIdeal.main (F := Ideal))) ⟨m, fun _ => 0, g⟩ (fun r => ∀ c : Dev Cert.AdamHeadIdeal.nD,
          r.2.mem ((c.tc : Thread Cert.AdamHeadIdeal.nD Cert.AdamHeadIdeal.τ).loc Cert.AdamHeadIdeal.main_v0_0) = v0 c
          ∧ r.2.mem ((c.tc : Thread Cert.AdamHeadIdeal.nD Cert.AdamHeadIdeal.τ).loc Cert.AdamHeadIdeal.main_v0_1) = v1 c
          ∧ r.2.mem ((c.tc : Thread Cert.AdamHeadIdeal.nD Cert.AdamHeadIdeal.τ).loc Cert.AdamHeadIdeal.main_v0_2) = v2 c
          ∧ r.2.mem ((c.tc : Thread Cert.AdamHeadIdeal.nD Cert.AdamHeadIdeal.τ).loc Cert.AdamHeadIdeal.main_arg0) = m ((c.tc : Thread Cert.AdamHeadIdeal.nD Cert.AdamHeadIdeal.τ).loc Cert.AdamHeadIdeal.main_arg0)
          ∧ r.2.mem ((c.tc : Thread Cert.AdamHeadIdeal.nD Cert.AdamHeadIdeal.τ).loc Cert.AdamHeadIdeal.main_arg1) = m ((c.tc : Thread Cert.AdamHeadIdeal.nD Cert.AdamHeadIdeal.τ).loc Cert.AdamHeadIdeal.main_arg1)
          ∧ r.2.mem ((c.tc : Thread Cert.AdamHeadIdeal.nD Cert.AdamHeadIdeal.τ).loc Cert.AdamHeadIdeal.main_arg2) = m ((c.tc : Thread Cert.AdamHeadIdeal.nD Cert.AdamHeadIdeal.τ).loc Cert.AdamHeadIdeal.main_arg2)
          ∧ r.2.mem ((c.tc : Thread Cert.AdamHeadIdeal.nD Cert.AdamHeadIdeal.τ).loc Cert.AdamHeadIdeal.main_arg3) = m ((c.tc : Thread Cert.AdamHeadIdeal.nD Cert.AdamHeadIdeal.τ).loc Cert.AdamHeadIdeal.main_arg3))
      ∧ θ_run (Cert.AdamHeadReferenceIdeal.defs (F := Ideal)) (onTc (τ := Cert.AdamHeadReferenceIdeal.τ) (Cert.AdamHeadReferenceIdeal.main (F := Ideal))) ⟨m', fun _ => 0, g'⟩ (fun r => ∀ c : Dev Cert.AdamHeadReferenceIdeal.nD,
          r.2.mem ((c.tc : Thread Cert.AdamHeadReferenceIdeal.nD Cert.AdamHeadReferenceIdeal.τ).loc Cert.AdamHeadReferenceIdeal.main_v23) = v0 c
          ∧ r.2.mem ((c.tc : Thread Cert.AdamHeadReferenceIdeal.nD Cert.AdamHeadReferenceIdeal.τ).loc Cert.AdamHeadReferenceIdeal.main_v4) = v1 c
          ∧ r.2.mem ((c.tc : Thread Cert.AdamHeadReferenceIdeal.nD Cert.AdamHeadReferenceIdeal.τ).loc Cert.AdamHeadReferenceIdeal.main_v10) = v2 c
          ∧ r.2.mem ((c.tc : Thread Cert.AdamHeadReferenceIdeal.nD Cert.AdamHeadReferenceIdeal.τ).loc Cert.AdamHeadReferenceIdeal.main_arg0) = m' ((c.tc : Thread Cert.AdamHeadReferenceIdeal.nD Cert.AdamHeadReferenceIdeal.τ).loc Cert.AdamHeadReferenceIdeal.main_arg0)
          ∧ r.2.mem ((c.tc : Thread Cert.AdamHeadReferenceIdeal.nD Cert.AdamHeadReferenceIdeal.τ).loc Cert.AdamHeadReferenceIdeal.main_arg1) = m' ((c.tc : Thread Cert.AdamHeadReferenceIdeal.nD Cert.AdamHeadReferenceIdeal.τ).loc Cert.AdamHeadReferenceIdeal.main_arg1)
          ∧ r.2.mem ((c.tc : Thread Cert.AdamHeadReferenceIdeal.nD Cert.AdamHeadReferenceIdeal.τ).loc Cert.AdamHeadReferenceIdeal.main_arg2) = m' ((c.tc : Thread Cert.AdamHeadReferenceIdeal.nD Cert.AdamHeadReferenceIdeal.τ).loc Cert.AdamHeadReferenceIdeal.main_arg2)
          ∧ r.2.mem ((c.tc : Thread Cert.AdamHeadReferenceIdeal.nD Cert.AdamHeadReferenceIdeal.τ).loc Cert.AdamHeadReferenceIdeal.main_arg3) = m' ((c.tc : Thread Cert.AdamHeadReferenceIdeal.nD Cert.AdamHeadReferenceIdeal.τ).loc Cert.AdamHeadReferenceIdeal.main_arg3))

def preserves_AdamPool_AdamPoolIdeal : Prop :=
  True

def algebraic_AdamPoolIdeal_AdamPoolReferenceIdeal [hAdamPoolIdeal : Cert.AdamPoolIdeal.Facts] [hAdamPoolReferenceIdeal : Cert.AdamPoolReferenceIdeal.Facts] : Prop :=
  ∀ (m : (ℓ : Loc Cert.AdamPoolIdeal.nD Cert.AdamPoolIdeal.τ Cert.AdamPoolIdeal.sig) → Buf (Elt Ideal) ℓ) (g : Dev Cert.AdamPoolIdeal.nD → PrngReg)
    (m' : (ℓ : Loc Cert.AdamPoolReferenceIdeal.nD Cert.AdamPoolReferenceIdeal.τ Cert.AdamPoolReferenceIdeal.sig) → Buf (Elt Ideal) ℓ) (g' : Dev Cert.AdamPoolReferenceIdeal.nD → PrngReg), Pre_AdamPoolIdeal m →
    (∀ c : Dev Cert.AdamPoolIdeal.nD,
      m' ((c.tc : Thread Cert.AdamPoolReferenceIdeal.nD Cert.AdamPoolReferenceIdeal.τ).loc Cert.AdamPoolReferenceIdeal.main_arg0) = m ((c.tc : Thread Cert.AdamPoolIdeal.nD Cert.AdamPoolIdeal.τ).loc Cert.AdamPoolIdeal.main_arg0)
      ∧ m' ((c.tc : Thread Cert.AdamPoolReferenceIdeal.nD Cert.AdamPoolReferenceIdeal.τ).loc Cert.AdamPoolReferenceIdeal.main_arg1) = m ((c.tc : Thread Cert.AdamPoolIdeal.nD Cert.AdamPoolIdeal.τ).loc Cert.AdamPoolIdeal.main_arg1)
      ∧ m' ((c.tc : Thread Cert.AdamPoolReferenceIdeal.nD Cert.AdamPoolReferenceIdeal.τ).loc Cert.AdamPoolReferenceIdeal.main_arg2) = m ((c.tc : Thread Cert.AdamPoolIdeal.nD Cert.AdamPoolIdeal.τ).loc Cert.AdamPoolIdeal.main_arg2)
      ∧ m' ((c.tc : Thread Cert.AdamPoolReferenceIdeal.nD Cert.AdamPoolReferenceIdeal.τ).loc Cert.AdamPoolReferenceIdeal.main_arg3) = m ((c.tc : Thread Cert.AdamPoolIdeal.nD Cert.AdamPoolIdeal.τ).loc Cert.AdamPoolIdeal.main_arg3)) →
    ∃ (v0 : (c : Dev Cert.AdamPoolIdeal.nD) → Buf (Elt Ideal) ((c.tc : Thread Cert.AdamPoolIdeal.nD Cert.AdamPoolIdeal.τ).loc Cert.AdamPoolIdeal.main_v5)) (v1 : (c : Dev Cert.AdamPoolIdeal.nD) → Buf (Elt Ideal) ((c.tc : Thread Cert.AdamPoolIdeal.nD Cert.AdamPoolIdeal.τ).loc Cert.AdamPoolIdeal.main_v6)) (v2 : (c : Dev Cert.AdamPoolIdeal.nD) → Buf (Elt Ideal) ((c.tc : Thread Cert.AdamPoolIdeal.nD Cert.AdamPoolIdeal.τ).loc Cert.AdamPoolIdeal.main_v7)),
      θ_run (Cert.AdamPoolIdeal.defs (F := Ideal)) (onTc (τ := Cert.AdamPoolIdeal.τ) (Cert.AdamPoolIdeal.main (F := Ideal))) ⟨m, fun _ => 0, g⟩ (fun r => ∀ c : Dev Cert.AdamPoolIdeal.nD,
          r.2.mem ((c.tc : Thread Cert.AdamPoolIdeal.nD Cert.AdamPoolIdeal.τ).loc Cert.AdamPoolIdeal.main_v5) = v0 c
          ∧ r.2.mem ((c.tc : Thread Cert.AdamPoolIdeal.nD Cert.AdamPoolIdeal.τ).loc Cert.AdamPoolIdeal.main_v6) = v1 c
          ∧ r.2.mem ((c.tc : Thread Cert.AdamPoolIdeal.nD Cert.AdamPoolIdeal.τ).loc Cert.AdamPoolIdeal.main_v7) = v2 c
          ∧ r.2.mem ((c.tc : Thread Cert.AdamPoolIdeal.nD Cert.AdamPoolIdeal.τ).loc Cert.AdamPoolIdeal.main_arg0) = m ((c.tc : Thread Cert.AdamPoolIdeal.nD Cert.AdamPoolIdeal.τ).loc Cert.AdamPoolIdeal.main_arg0)
          ∧ r.2.mem ((c.tc : Thread Cert.AdamPoolIdeal.nD Cert.AdamPoolIdeal.τ).loc Cert.AdamPoolIdeal.main_arg1) = m ((c.tc : Thread Cert.AdamPoolIdeal.nD Cert.AdamPoolIdeal.τ).loc Cert.AdamPoolIdeal.main_arg1)
          ∧ r.2.mem ((c.tc : Thread Cert.AdamPoolIdeal.nD Cert.AdamPoolIdeal.τ).loc Cert.AdamPoolIdeal.main_arg2) = m ((c.tc : Thread Cert.AdamPoolIdeal.nD Cert.AdamPoolIdeal.τ).loc Cert.AdamPoolIdeal.main_arg2)
          ∧ r.2.mem ((c.tc : Thread Cert.AdamPoolIdeal.nD Cert.AdamPoolIdeal.τ).loc Cert.AdamPoolIdeal.main_arg3) = m ((c.tc : Thread Cert.AdamPoolIdeal.nD Cert.AdamPoolIdeal.τ).loc Cert.AdamPoolIdeal.main_arg3))
      ∧ θ_run (Cert.AdamPoolReferenceIdeal.defs (F := Ideal)) (onTc (τ := Cert.AdamPoolReferenceIdeal.τ) (Cert.AdamPoolReferenceIdeal.main (F := Ideal))) ⟨m', fun _ => 0, g'⟩ (fun r => ∀ c : Dev Cert.AdamPoolReferenceIdeal.nD,
          r.2.mem ((c.tc : Thread Cert.AdamPoolReferenceIdeal.nD Cert.AdamPoolReferenceIdeal.τ).loc Cert.AdamPoolReferenceIdeal.main_v23) = v0 c
          ∧ r.2.mem ((c.tc : Thread Cert.AdamPoolReferenceIdeal.nD Cert.AdamPoolReferenceIdeal.τ).loc Cert.AdamPoolReferenceIdeal.main_v4) = v1 c
          ∧ r.2.mem ((c.tc : Thread Cert.AdamPoolReferenceIdeal.nD Cert.AdamPoolReferenceIdeal.τ).loc Cert.AdamPoolReferenceIdeal.main_v10) = v2 c
          ∧ r.2.mem ((c.tc : Thread Cert.AdamPoolReferenceIdeal.nD Cert.AdamPoolReferenceIdeal.τ).loc Cert.AdamPoolReferenceIdeal.main_arg0) = m' ((c.tc : Thread Cert.AdamPoolReferenceIdeal.nD Cert.AdamPoolReferenceIdeal.τ).loc Cert.AdamPoolReferenceIdeal.main_arg0)
          ∧ r.2.mem ((c.tc : Thread Cert.AdamPoolReferenceIdeal.nD Cert.AdamPoolReferenceIdeal.τ).loc Cert.AdamPoolReferenceIdeal.main_arg1) = m' ((c.tc : Thread Cert.AdamPoolReferenceIdeal.nD Cert.AdamPoolReferenceIdeal.τ).loc Cert.AdamPoolReferenceIdeal.main_arg1)
          ∧ r.2.mem ((c.tc : Thread Cert.AdamPoolReferenceIdeal.nD Cert.AdamPoolReferenceIdeal.τ).loc Cert.AdamPoolReferenceIdeal.main_arg2) = m' ((c.tc : Thread Cert.AdamPoolReferenceIdeal.nD Cert.AdamPoolReferenceIdeal.τ).loc Cert.AdamPoolReferenceIdeal.main_arg2)
          ∧ r.2.mem ((c.tc : Thread Cert.AdamPoolReferenceIdeal.nD Cert.AdamPoolReferenceIdeal.τ).loc Cert.AdamPoolReferenceIdeal.main_arg3) = m' ((c.tc : Thread Cert.AdamPoolReferenceIdeal.nD Cert.AdamPoolReferenceIdeal.τ).loc Cert.AdamPoolReferenceIdeal.main_arg3))

def preserves_AdamRank_AdamRankIdeal : Prop :=
  True

def algebraic_AdamRankIdeal_AdamRankReferenceIdeal [hAdamRankIdeal : Cert.AdamRankIdeal.Facts] [hAdamRankReferenceIdeal : Cert.AdamRankReferenceIdeal.Facts] : Prop :=
  ∀ (m : (ℓ : Loc Cert.AdamRankIdeal.nD Cert.AdamRankIdeal.τ Cert.AdamRankIdeal.sig) → Buf (Elt Ideal) ℓ) (g : Dev Cert.AdamRankIdeal.nD → PrngReg)
    (m' : (ℓ : Loc Cert.AdamRankReferenceIdeal.nD Cert.AdamRankReferenceIdeal.τ Cert.AdamRankReferenceIdeal.sig) → Buf (Elt Ideal) ℓ) (g' : Dev Cert.AdamRankReferenceIdeal.nD → PrngReg), Pre_AdamRankIdeal m →
    (∀ c : Dev Cert.AdamRankIdeal.nD,
      m' ((c.tc : Thread Cert.AdamRankReferenceIdeal.nD Cert.AdamRankReferenceIdeal.τ).loc Cert.AdamRankReferenceIdeal.main_arg0) = m ((c.tc : Thread Cert.AdamRankIdeal.nD Cert.AdamRankIdeal.τ).loc Cert.AdamRankIdeal.main_arg0)
      ∧ m' ((c.tc : Thread Cert.AdamRankReferenceIdeal.nD Cert.AdamRankReferenceIdeal.τ).loc Cert.AdamRankReferenceIdeal.main_arg1) = m ((c.tc : Thread Cert.AdamRankIdeal.nD Cert.AdamRankIdeal.τ).loc Cert.AdamRankIdeal.main_arg1)
      ∧ m' ((c.tc : Thread Cert.AdamRankReferenceIdeal.nD Cert.AdamRankReferenceIdeal.τ).loc Cert.AdamRankReferenceIdeal.main_arg2) = m ((c.tc : Thread Cert.AdamRankIdeal.nD Cert.AdamRankIdeal.τ).loc Cert.AdamRankIdeal.main_arg2)
      ∧ m' ((c.tc : Thread Cert.AdamRankReferenceIdeal.nD Cert.AdamRankReferenceIdeal.τ).loc Cert.AdamRankReferenceIdeal.main_arg3) = m ((c.tc : Thread Cert.AdamRankIdeal.nD Cert.AdamRankIdeal.τ).loc Cert.AdamRankIdeal.main_arg3)) →
    ∃ (v0 : (c : Dev Cert.AdamRankIdeal.nD) → Buf (Elt Ideal) ((c.tc : Thread Cert.AdamRankIdeal.nD Cert.AdamRankIdeal.τ).loc Cert.AdamRankIdeal.main_v5)) (v1 : (c : Dev Cert.AdamRankIdeal.nD) → Buf (Elt Ideal) ((c.tc : Thread Cert.AdamRankIdeal.nD Cert.AdamRankIdeal.τ).loc Cert.AdamRankIdeal.main_v6)) (v2 : (c : Dev Cert.AdamRankIdeal.nD) → Buf (Elt Ideal) ((c.tc : Thread Cert.AdamRankIdeal.nD Cert.AdamRankIdeal.τ).loc Cert.AdamRankIdeal.main_v7)),
      θ_run (Cert.AdamRankIdeal.defs (F := Ideal)) (onTc (τ := Cert.AdamRankIdeal.τ) (Cert.AdamRankIdeal.main (F := Ideal))) ⟨m, fun _ => 0, g⟩ (fun r => ∀ c : Dev Cert.AdamRankIdeal.nD,
          r.2.mem ((c.tc : Thread Cert.AdamRankIdeal.nD Cert.AdamRankIdeal.τ).loc Cert.AdamRankIdeal.main_v5) = v0 c
          ∧ r.2.mem ((c.tc : Thread Cert.AdamRankIdeal.nD Cert.AdamRankIdeal.τ).loc Cert.AdamRankIdeal.main_v6) = v1 c
          ∧ r.2.mem ((c.tc : Thread Cert.AdamRankIdeal.nD Cert.AdamRankIdeal.τ).loc Cert.AdamRankIdeal.main_v7) = v2 c
          ∧ r.2.mem ((c.tc : Thread Cert.AdamRankIdeal.nD Cert.AdamRankIdeal.τ).loc Cert.AdamRankIdeal.main_arg0) = m ((c.tc : Thread Cert.AdamRankIdeal.nD Cert.AdamRankIdeal.τ).loc Cert.AdamRankIdeal.main_arg0)
          ∧ r.2.mem ((c.tc : Thread Cert.AdamRankIdeal.nD Cert.AdamRankIdeal.τ).loc Cert.AdamRankIdeal.main_arg1) = m ((c.tc : Thread Cert.AdamRankIdeal.nD Cert.AdamRankIdeal.τ).loc Cert.AdamRankIdeal.main_arg1)
          ∧ r.2.mem ((c.tc : Thread Cert.AdamRankIdeal.nD Cert.AdamRankIdeal.τ).loc Cert.AdamRankIdeal.main_arg2) = m ((c.tc : Thread Cert.AdamRankIdeal.nD Cert.AdamRankIdeal.τ).loc Cert.AdamRankIdeal.main_arg2)
          ∧ r.2.mem ((c.tc : Thread Cert.AdamRankIdeal.nD Cert.AdamRankIdeal.τ).loc Cert.AdamRankIdeal.main_arg3) = m ((c.tc : Thread Cert.AdamRankIdeal.nD Cert.AdamRankIdeal.τ).loc Cert.AdamRankIdeal.main_arg3))
      ∧ θ_run (Cert.AdamRankReferenceIdeal.defs (F := Ideal)) (onTc (τ := Cert.AdamRankReferenceIdeal.τ) (Cert.AdamRankReferenceIdeal.main (F := Ideal))) ⟨m', fun _ => 0, g'⟩ (fun r => ∀ c : Dev Cert.AdamRankReferenceIdeal.nD,
          r.2.mem ((c.tc : Thread Cert.AdamRankReferenceIdeal.nD Cert.AdamRankReferenceIdeal.τ).loc Cert.AdamRankReferenceIdeal.main_v23) = v0 c
          ∧ r.2.mem ((c.tc : Thread Cert.AdamRankReferenceIdeal.nD Cert.AdamRankReferenceIdeal.τ).loc Cert.AdamRankReferenceIdeal.main_v4) = v1 c
          ∧ r.2.mem ((c.tc : Thread Cert.AdamRankReferenceIdeal.nD Cert.AdamRankReferenceIdeal.τ).loc Cert.AdamRankReferenceIdeal.main_v10) = v2 c
          ∧ r.2.mem ((c.tc : Thread Cert.AdamRankReferenceIdeal.nD Cert.AdamRankReferenceIdeal.τ).loc Cert.AdamRankReferenceIdeal.main_arg0) = m' ((c.tc : Thread Cert.AdamRankReferenceIdeal.nD Cert.AdamRankReferenceIdeal.τ).loc Cert.AdamRankReferenceIdeal.main_arg0)
          ∧ r.2.mem ((c.tc : Thread Cert.AdamRankReferenceIdeal.nD Cert.AdamRankReferenceIdeal.τ).loc Cert.AdamRankReferenceIdeal.main_arg1) = m' ((c.tc : Thread Cert.AdamRankReferenceIdeal.nD Cert.AdamRankReferenceIdeal.τ).loc Cert.AdamRankReferenceIdeal.main_arg1)
          ∧ r.2.mem ((c.tc : Thread Cert.AdamRankReferenceIdeal.nD Cert.AdamRankReferenceIdeal.τ).loc Cert.AdamRankReferenceIdeal.main_arg2) = m' ((c.tc : Thread Cert.AdamRankReferenceIdeal.nD Cert.AdamRankReferenceIdeal.τ).loc Cert.AdamRankReferenceIdeal.main_arg2)
          ∧ r.2.mem ((c.tc : Thread Cert.AdamRankReferenceIdeal.nD Cert.AdamRankReferenceIdeal.τ).loc Cert.AdamRankReferenceIdeal.main_arg3) = m' ((c.tc : Thread Cert.AdamRankReferenceIdeal.nD Cert.AdamRankReferenceIdeal.τ).loc Cert.AdamRankReferenceIdeal.main_arg3))

def preserves_AdamQ_AdamQIdeal : Prop :=
  True

def algebraic_AdamQIdeal_AdamQReferenceIdeal [hAdamQIdeal : Cert.AdamQIdeal.Facts] [hAdamQReferenceIdeal : Cert.AdamQReferenceIdeal.Facts] : Prop :=
  ∀ (m : (ℓ : Loc Cert.AdamQIdeal.nD Cert.AdamQIdeal.τ Cert.AdamQIdeal.sig) → Buf (Elt Ideal) ℓ) (g : Dev Cert.AdamQIdeal.nD → PrngReg)
    (m' : (ℓ : Loc Cert.AdamQReferenceIdeal.nD Cert.AdamQReferenceIdeal.τ Cert.AdamQReferenceIdeal.sig) → Buf (Elt Ideal) ℓ) (g' : Dev Cert.AdamQReferenceIdeal.nD → PrngReg), Pre_AdamQIdeal m →
    (∀ c : Dev Cert.AdamQIdeal.nD,
      m' ((c.tc : Thread Cert.AdamQReferenceIdeal.nD Cert.AdamQReferenceIdeal.τ).loc Cert.AdamQReferenceIdeal.main_arg0) = m ((c.tc : Thread Cert.AdamQIdeal.nD Cert.AdamQIdeal.τ).loc Cert.AdamQIdeal.main_arg0)
      ∧ m' ((c.tc : Thread Cert.AdamQReferenceIdeal.nD Cert.AdamQReferenceIdeal.τ).loc Cert.AdamQReferenceIdeal.main_arg1) = m ((c.tc : Thread Cert.AdamQIdeal.nD Cert.AdamQIdeal.τ).loc Cert.AdamQIdeal.main_arg1)
      ∧ m' ((c.tc : Thread Cert.AdamQReferenceIdeal.nD Cert.AdamQReferenceIdeal.τ).loc Cert.AdamQReferenceIdeal.main_arg2) = m ((c.tc : Thread Cert.AdamQIdeal.nD Cert.AdamQIdeal.τ).loc Cert.AdamQIdeal.main_arg2)
      ∧ m' ((c.tc : Thread Cert.AdamQReferenceIdeal.nD Cert.AdamQReferenceIdeal.τ).loc Cert.AdamQReferenceIdeal.main_arg3) = m ((c.tc : Thread Cert.AdamQIdeal.nD Cert.AdamQIdeal.τ).loc Cert.AdamQIdeal.main_arg3)) →
    ∃ (v0 : (c : Dev Cert.AdamQIdeal.nD) → Buf (Elt Ideal) ((c.tc : Thread Cert.AdamQIdeal.nD Cert.AdamQIdeal.τ).loc Cert.AdamQIdeal.main_v5)) (v1 : (c : Dev Cert.AdamQIdeal.nD) → Buf (Elt Ideal) ((c.tc : Thread Cert.AdamQIdeal.nD Cert.AdamQIdeal.τ).loc Cert.AdamQIdeal.main_v6)) (v2 : (c : Dev Cert.AdamQIdeal.nD) → Buf (Elt Ideal) ((c.tc : Thread Cert.AdamQIdeal.nD Cert.AdamQIdeal.τ).loc Cert.AdamQIdeal.main_v7)),
      θ_run (Cert.AdamQIdeal.defs (F := Ideal)) (onTc (τ := Cert.AdamQIdeal.τ) (Cert.AdamQIdeal.main (F := Ideal))) ⟨m, fun _ => 0, g⟩ (fun r => ∀ c : Dev Cert.AdamQIdeal.nD,
          r.2.mem ((c.tc : Thread Cert.AdamQIdeal.nD Cert.AdamQIdeal.τ).loc Cert.AdamQIdeal.main_v5) = v0 c
          ∧ r.2.mem ((c.tc : Thread Cert.AdamQIdeal.nD Cert.AdamQIdeal.τ).loc Cert.AdamQIdeal.main_v6) = v1 c
          ∧ r.2.mem ((c.tc : Thread Cert.AdamQIdeal.nD Cert.AdamQIdeal.τ).loc Cert.AdamQIdeal.main_v7) = v2 c
          ∧ r.2.mem ((c.tc : Thread Cert.AdamQIdeal.nD Cert.AdamQIdeal.τ).loc Cert.AdamQIdeal.main_arg0) = m ((c.tc : Thread Cert.AdamQIdeal.nD Cert.AdamQIdeal.τ).loc Cert.AdamQIdeal.main_arg0)
          ∧ r.2.mem ((c.tc : Thread Cert.AdamQIdeal.nD Cert.AdamQIdeal.τ).loc Cert.AdamQIdeal.main_arg1) = m ((c.tc : Thread Cert.AdamQIdeal.nD Cert.AdamQIdeal.τ).loc Cert.AdamQIdeal.main_arg1)
          ∧ r.2.mem ((c.tc : Thread Cert.AdamQIdeal.nD Cert.AdamQIdeal.τ).loc Cert.AdamQIdeal.main_arg2) = m ((c.tc : Thread Cert.AdamQIdeal.nD Cert.AdamQIdeal.τ).loc Cert.AdamQIdeal.main_arg2)
          ∧ r.2.mem ((c.tc : Thread Cert.AdamQIdeal.nD Cert.AdamQIdeal.τ).loc Cert.AdamQIdeal.main_arg3) = m ((c.tc : Thread Cert.AdamQIdeal.nD Cert.AdamQIdeal.τ).loc Cert.AdamQIdeal.main_arg3))
      ∧ θ_run (Cert.AdamQReferenceIdeal.defs (F := Ideal)) (onTc (τ := Cert.AdamQReferenceIdeal.τ) (Cert.AdamQReferenceIdeal.main (F := Ideal))) ⟨m', fun _ => 0, g'⟩ (fun r => ∀ c : Dev Cert.AdamQReferenceIdeal.nD,
          r.2.mem ((c.tc : Thread Cert.AdamQReferenceIdeal.nD Cert.AdamQReferenceIdeal.τ).loc Cert.AdamQReferenceIdeal.main_v23) = v0 c
          ∧ r.2.mem ((c.tc : Thread Cert.AdamQReferenceIdeal.nD Cert.AdamQReferenceIdeal.τ).loc Cert.AdamQReferenceIdeal.main_v4) = v1 c
          ∧ r.2.mem ((c.tc : Thread Cert.AdamQReferenceIdeal.nD Cert.AdamQReferenceIdeal.τ).loc Cert.AdamQReferenceIdeal.main_v10) = v2 c
          ∧ r.2.mem ((c.tc : Thread Cert.AdamQReferenceIdeal.nD Cert.AdamQReferenceIdeal.τ).loc Cert.AdamQReferenceIdeal.main_arg0) = m' ((c.tc : Thread Cert.AdamQReferenceIdeal.nD Cert.AdamQReferenceIdeal.τ).loc Cert.AdamQReferenceIdeal.main_arg0)
          ∧ r.2.mem ((c.tc : Thread Cert.AdamQReferenceIdeal.nD Cert.AdamQReferenceIdeal.τ).loc Cert.AdamQReferenceIdeal.main_arg1) = m' ((c.tc : Thread Cert.AdamQReferenceIdeal.nD Cert.AdamQReferenceIdeal.τ).loc Cert.AdamQReferenceIdeal.main_arg1)
          ∧ r.2.mem ((c.tc : Thread Cert.AdamQReferenceIdeal.nD Cert.AdamQReferenceIdeal.τ).loc Cert.AdamQReferenceIdeal.main_arg2) = m' ((c.tc : Thread Cert.AdamQReferenceIdeal.nD Cert.AdamQReferenceIdeal.τ).loc Cert.AdamQReferenceIdeal.main_arg2)
          ∧ r.2.mem ((c.tc : Thread Cert.AdamQReferenceIdeal.nD Cert.AdamQReferenceIdeal.τ).loc Cert.AdamQReferenceIdeal.main_arg3) = m' ((c.tc : Thread Cert.AdamQReferenceIdeal.nD Cert.AdamQReferenceIdeal.τ).loc Cert.AdamQReferenceIdeal.main_arg3))

def preserves_AdamKv_AdamKvIdeal : Prop :=
  True

def algebraic_AdamKvIdeal_AdamKvReferenceIdeal [hAdamKvIdeal : Cert.AdamKvIdeal.Facts] [hAdamKvReferenceIdeal : Cert.AdamKvReferenceIdeal.Facts] : Prop :=
  ∀ (m : (ℓ : Loc Cert.AdamKvIdeal.nD Cert.AdamKvIdeal.τ Cert.AdamKvIdeal.sig) → Buf (Elt Ideal) ℓ) (g : Dev Cert.AdamKvIdeal.nD → PrngReg)
    (m' : (ℓ : Loc Cert.AdamKvReferenceIdeal.nD Cert.AdamKvReferenceIdeal.τ Cert.AdamKvReferenceIdeal.sig) → Buf (Elt Ideal) ℓ) (g' : Dev Cert.AdamKvReferenceIdeal.nD → PrngReg), Pre_AdamKvIdeal m →
    (∀ c : Dev Cert.AdamKvIdeal.nD,
      m' ((c.tc : Thread Cert.AdamKvReferenceIdeal.nD Cert.AdamKvReferenceIdeal.τ).loc Cert.AdamKvReferenceIdeal.main_arg0) = m ((c.tc : Thread Cert.AdamKvIdeal.nD Cert.AdamKvIdeal.τ).loc Cert.AdamKvIdeal.main_arg0)
      ∧ m' ((c.tc : Thread Cert.AdamKvReferenceIdeal.nD Cert.AdamKvReferenceIdeal.τ).loc Cert.AdamKvReferenceIdeal.main_arg1) = m ((c.tc : Thread Cert.AdamKvIdeal.nD Cert.AdamKvIdeal.τ).loc Cert.AdamKvIdeal.main_arg1)
      ∧ m' ((c.tc : Thread Cert.AdamKvReferenceIdeal.nD Cert.AdamKvReferenceIdeal.τ).loc Cert.AdamKvReferenceIdeal.main_arg2) = m ((c.tc : Thread Cert.AdamKvIdeal.nD Cert.AdamKvIdeal.τ).loc Cert.AdamKvIdeal.main_arg2)
      ∧ m' ((c.tc : Thread Cert.AdamKvReferenceIdeal.nD Cert.AdamKvReferenceIdeal.τ).loc Cert.AdamKvReferenceIdeal.main_arg3) = m ((c.tc : Thread Cert.AdamKvIdeal.nD Cert.AdamKvIdeal.τ).loc Cert.AdamKvIdeal.main_arg3)) →
    ∃ (v0 : (c : Dev Cert.AdamKvIdeal.nD) → Buf (Elt Ideal) ((c.tc : Thread Cert.AdamKvIdeal.nD Cert.AdamKvIdeal.τ).loc Cert.AdamKvIdeal.main_v5)) (v1 : (c : Dev Cert.AdamKvIdeal.nD) → Buf (Elt Ideal) ((c.tc : Thread Cert.AdamKvIdeal.nD Cert.AdamKvIdeal.τ).loc Cert.AdamKvIdeal.main_v6)) (v2 : (c : Dev Cert.AdamKvIdeal.nD) → Buf (Elt Ideal) ((c.tc : Thread Cert.AdamKvIdeal.nD Cert.AdamKvIdeal.τ).loc Cert.AdamKvIdeal.main_v7)),
      θ_run (Cert.AdamKvIdeal.defs (F := Ideal)) (onTc (τ := Cert.AdamKvIdeal.τ) (Cert.AdamKvIdeal.main (F := Ideal))) ⟨m, fun _ => 0, g⟩ (fun r => ∀ c : Dev Cert.AdamKvIdeal.nD,
          r.2.mem ((c.tc : Thread Cert.AdamKvIdeal.nD Cert.AdamKvIdeal.τ).loc Cert.AdamKvIdeal.main_v5) = v0 c
          ∧ r.2.mem ((c.tc : Thread Cert.AdamKvIdeal.nD Cert.AdamKvIdeal.τ).loc Cert.AdamKvIdeal.main_v6) = v1 c
          ∧ r.2.mem ((c.tc : Thread Cert.AdamKvIdeal.nD Cert.AdamKvIdeal.τ).loc Cert.AdamKvIdeal.main_v7) = v2 c
          ∧ r.2.mem ((c.tc : Thread Cert.AdamKvIdeal.nD Cert.AdamKvIdeal.τ).loc Cert.AdamKvIdeal.main_arg0) = m ((c.tc : Thread Cert.AdamKvIdeal.nD Cert.AdamKvIdeal.τ).loc Cert.AdamKvIdeal.main_arg0)
          ∧ r.2.mem ((c.tc : Thread Cert.AdamKvIdeal.nD Cert.AdamKvIdeal.τ).loc Cert.AdamKvIdeal.main_arg1) = m ((c.tc : Thread Cert.AdamKvIdeal.nD Cert.AdamKvIdeal.τ).loc Cert.AdamKvIdeal.main_arg1)
          ∧ r.2.mem ((c.tc : Thread Cert.AdamKvIdeal.nD Cert.AdamKvIdeal.τ).loc Cert.AdamKvIdeal.main_arg2) = m ((c.tc : Thread Cert.AdamKvIdeal.nD Cert.AdamKvIdeal.τ).loc Cert.AdamKvIdeal.main_arg2)
          ∧ r.2.mem ((c.tc : Thread Cert.AdamKvIdeal.nD Cert.AdamKvIdeal.τ).loc Cert.AdamKvIdeal.main_arg3) = m ((c.tc : Thread Cert.AdamKvIdeal.nD Cert.AdamKvIdeal.τ).loc Cert.AdamKvIdeal.main_arg3))
      ∧ θ_run (Cert.AdamKvReferenceIdeal.defs (F := Ideal)) (onTc (τ := Cert.AdamKvReferenceIdeal.τ) (Cert.AdamKvReferenceIdeal.main (F := Ideal))) ⟨m', fun _ => 0, g'⟩ (fun r => ∀ c : Dev Cert.AdamKvReferenceIdeal.nD,
          r.2.mem ((c.tc : Thread Cert.AdamKvReferenceIdeal.nD Cert.AdamKvReferenceIdeal.τ).loc Cert.AdamKvReferenceIdeal.main_v23) = v0 c
          ∧ r.2.mem ((c.tc : Thread Cert.AdamKvReferenceIdeal.nD Cert.AdamKvReferenceIdeal.τ).loc Cert.AdamKvReferenceIdeal.main_v4) = v1 c
          ∧ r.2.mem ((c.tc : Thread Cert.AdamKvReferenceIdeal.nD Cert.AdamKvReferenceIdeal.τ).loc Cert.AdamKvReferenceIdeal.main_v10) = v2 c
          ∧ r.2.mem ((c.tc : Thread Cert.AdamKvReferenceIdeal.nD Cert.AdamKvReferenceIdeal.τ).loc Cert.AdamKvReferenceIdeal.main_arg0) = m' ((c.tc : Thread Cert.AdamKvReferenceIdeal.nD Cert.AdamKvReferenceIdeal.τ).loc Cert.AdamKvReferenceIdeal.main_arg0)
          ∧ r.2.mem ((c.tc : Thread Cert.AdamKvReferenceIdeal.nD Cert.AdamKvReferenceIdeal.τ).loc Cert.AdamKvReferenceIdeal.main_arg1) = m' ((c.tc : Thread Cert.AdamKvReferenceIdeal.nD Cert.AdamKvReferenceIdeal.τ).loc Cert.AdamKvReferenceIdeal.main_arg1)
          ∧ r.2.mem ((c.tc : Thread Cert.AdamKvReferenceIdeal.nD Cert.AdamKvReferenceIdeal.τ).loc Cert.AdamKvReferenceIdeal.main_arg2) = m' ((c.tc : Thread Cert.AdamKvReferenceIdeal.nD Cert.AdamKvReferenceIdeal.τ).loc Cert.AdamKvReferenceIdeal.main_arg2)
          ∧ r.2.mem ((c.tc : Thread Cert.AdamKvReferenceIdeal.nD Cert.AdamKvReferenceIdeal.τ).loc Cert.AdamKvReferenceIdeal.main_arg3) = m' ((c.tc : Thread Cert.AdamKvReferenceIdeal.nD Cert.AdamKvReferenceIdeal.τ).loc Cert.AdamKvReferenceIdeal.main_arg3))

def preserves_AdamWOut_AdamWOutIdeal : Prop :=
  True

def algebraic_AdamWOutIdeal_AdamWOutReferenceIdeal [hAdamWOutIdeal : Cert.AdamWOutIdeal.Facts] [hAdamWOutReferenceIdeal : Cert.AdamWOutReferenceIdeal.Facts] : Prop :=
  ∀ (m : (ℓ : Loc Cert.AdamWOutIdeal.nD Cert.AdamWOutIdeal.τ Cert.AdamWOutIdeal.sig) → Buf (Elt Ideal) ℓ) (g : Dev Cert.AdamWOutIdeal.nD → PrngReg)
    (m' : (ℓ : Loc Cert.AdamWOutReferenceIdeal.nD Cert.AdamWOutReferenceIdeal.τ Cert.AdamWOutReferenceIdeal.sig) → Buf (Elt Ideal) ℓ) (g' : Dev Cert.AdamWOutReferenceIdeal.nD → PrngReg), Pre_AdamWOutIdeal m →
    (∀ c : Dev Cert.AdamWOutIdeal.nD,
      m' ((c.tc : Thread Cert.AdamWOutReferenceIdeal.nD Cert.AdamWOutReferenceIdeal.τ).loc Cert.AdamWOutReferenceIdeal.main_arg0) = m ((c.tc : Thread Cert.AdamWOutIdeal.nD Cert.AdamWOutIdeal.τ).loc Cert.AdamWOutIdeal.main_arg0)
      ∧ m' ((c.tc : Thread Cert.AdamWOutReferenceIdeal.nD Cert.AdamWOutReferenceIdeal.τ).loc Cert.AdamWOutReferenceIdeal.main_arg1) = m ((c.tc : Thread Cert.AdamWOutIdeal.nD Cert.AdamWOutIdeal.τ).loc Cert.AdamWOutIdeal.main_arg1)
      ∧ m' ((c.tc : Thread Cert.AdamWOutReferenceIdeal.nD Cert.AdamWOutReferenceIdeal.τ).loc Cert.AdamWOutReferenceIdeal.main_arg2) = m ((c.tc : Thread Cert.AdamWOutIdeal.nD Cert.AdamWOutIdeal.τ).loc Cert.AdamWOutIdeal.main_arg2)
      ∧ m' ((c.tc : Thread Cert.AdamWOutReferenceIdeal.nD Cert.AdamWOutReferenceIdeal.τ).loc Cert.AdamWOutReferenceIdeal.main_arg3) = m ((c.tc : Thread Cert.AdamWOutIdeal.nD Cert.AdamWOutIdeal.τ).loc Cert.AdamWOutIdeal.main_arg3)) →
    ∃ (v0 : (c : Dev Cert.AdamWOutIdeal.nD) → Buf (Elt Ideal) ((c.tc : Thread Cert.AdamWOutIdeal.nD Cert.AdamWOutIdeal.τ).loc Cert.AdamWOutIdeal.main_v5)) (v1 : (c : Dev Cert.AdamWOutIdeal.nD) → Buf (Elt Ideal) ((c.tc : Thread Cert.AdamWOutIdeal.nD Cert.AdamWOutIdeal.τ).loc Cert.AdamWOutIdeal.main_v6)) (v2 : (c : Dev Cert.AdamWOutIdeal.nD) → Buf (Elt Ideal) ((c.tc : Thread Cert.AdamWOutIdeal.nD Cert.AdamWOutIdeal.τ).loc Cert.AdamWOutIdeal.main_v7)),
      θ_run (Cert.AdamWOutIdeal.defs (F := Ideal)) (onTc (τ := Cert.AdamWOutIdeal.τ) (Cert.AdamWOutIdeal.main (F := Ideal))) ⟨m, fun _ => 0, g⟩ (fun r => ∀ c : Dev Cert.AdamWOutIdeal.nD,
          r.2.mem ((c.tc : Thread Cert.AdamWOutIdeal.nD Cert.AdamWOutIdeal.τ).loc Cert.AdamWOutIdeal.main_v5) = v0 c
          ∧ r.2.mem ((c.tc : Thread Cert.AdamWOutIdeal.nD Cert.AdamWOutIdeal.τ).loc Cert.AdamWOutIdeal.main_v6) = v1 c
          ∧ r.2.mem ((c.tc : Thread Cert.AdamWOutIdeal.nD Cert.AdamWOutIdeal.τ).loc Cert.AdamWOutIdeal.main_v7) = v2 c
          ∧ r.2.mem ((c.tc : Thread Cert.AdamWOutIdeal.nD Cert.AdamWOutIdeal.τ).loc Cert.AdamWOutIdeal.main_arg0) = m ((c.tc : Thread Cert.AdamWOutIdeal.nD Cert.AdamWOutIdeal.τ).loc Cert.AdamWOutIdeal.main_arg0)
          ∧ r.2.mem ((c.tc : Thread Cert.AdamWOutIdeal.nD Cert.AdamWOutIdeal.τ).loc Cert.AdamWOutIdeal.main_arg1) = m ((c.tc : Thread Cert.AdamWOutIdeal.nD Cert.AdamWOutIdeal.τ).loc Cert.AdamWOutIdeal.main_arg1)
          ∧ r.2.mem ((c.tc : Thread Cert.AdamWOutIdeal.nD Cert.AdamWOutIdeal.τ).loc Cert.AdamWOutIdeal.main_arg2) = m ((c.tc : Thread Cert.AdamWOutIdeal.nD Cert.AdamWOutIdeal.τ).loc Cert.AdamWOutIdeal.main_arg2)
          ∧ r.2.mem ((c.tc : Thread Cert.AdamWOutIdeal.nD Cert.AdamWOutIdeal.τ).loc Cert.AdamWOutIdeal.main_arg3) = m ((c.tc : Thread Cert.AdamWOutIdeal.nD Cert.AdamWOutIdeal.τ).loc Cert.AdamWOutIdeal.main_arg3))
      ∧ θ_run (Cert.AdamWOutReferenceIdeal.defs (F := Ideal)) (onTc (τ := Cert.AdamWOutReferenceIdeal.τ) (Cert.AdamWOutReferenceIdeal.main (F := Ideal))) ⟨m', fun _ => 0, g'⟩ (fun r => ∀ c : Dev Cert.AdamWOutReferenceIdeal.nD,
          r.2.mem ((c.tc : Thread Cert.AdamWOutReferenceIdeal.nD Cert.AdamWOutReferenceIdeal.τ).loc Cert.AdamWOutReferenceIdeal.main_v23) = v0 c
          ∧ r.2.mem ((c.tc : Thread Cert.AdamWOutReferenceIdeal.nD Cert.AdamWOutReferenceIdeal.τ).loc Cert.AdamWOutReferenceIdeal.main_v4) = v1 c
          ∧ r.2.mem ((c.tc : Thread Cert.AdamWOutReferenceIdeal.nD Cert.AdamWOutReferenceIdeal.τ).loc Cert.AdamWOutReferenceIdeal.main_v10) = v2 c
          ∧ r.2.mem ((c.tc : Thread Cert.AdamWOutReferenceIdeal.nD Cert.AdamWOutReferenceIdeal.τ).loc Cert.AdamWOutReferenceIdeal.main_arg0) = m' ((c.tc : Thread Cert.AdamWOutReferenceIdeal.nD Cert.AdamWOutReferenceIdeal.τ).loc Cert.AdamWOutReferenceIdeal.main_arg0)
          ∧ r.2.mem ((c.tc : Thread Cert.AdamWOutReferenceIdeal.nD Cert.AdamWOutReferenceIdeal.τ).loc Cert.AdamWOutReferenceIdeal.main_arg1) = m' ((c.tc : Thread Cert.AdamWOutReferenceIdeal.nD Cert.AdamWOutReferenceIdeal.τ).loc Cert.AdamWOutReferenceIdeal.main_arg1)
          ∧ r.2.mem ((c.tc : Thread Cert.AdamWOutReferenceIdeal.nD Cert.AdamWOutReferenceIdeal.τ).loc Cert.AdamWOutReferenceIdeal.main_arg2) = m' ((c.tc : Thread Cert.AdamWOutReferenceIdeal.nD Cert.AdamWOutReferenceIdeal.τ).loc Cert.AdamWOutReferenceIdeal.main_arg2)
          ∧ r.2.mem ((c.tc : Thread Cert.AdamWOutReferenceIdeal.nD Cert.AdamWOutReferenceIdeal.τ).loc Cert.AdamWOutReferenceIdeal.main_arg3) = m' ((c.tc : Thread Cert.AdamWOutReferenceIdeal.nD Cert.AdamWOutReferenceIdeal.τ).loc Cert.AdamWOutReferenceIdeal.main_arg3))

def preserves_NormBwd_NormBwdIdeal : Prop :=
  True

def algebraic_NormBwdIdeal_NormBwdReferenceIdeal [hNormBwdIdeal : Cert.NormBwdIdeal.Facts] [hNormBwdReferenceIdeal : Cert.NormBwdReferenceIdeal.Facts] : Prop :=
  ∀ (m : (ℓ : Loc Cert.NormBwdIdeal.nD Cert.NormBwdIdeal.τ Cert.NormBwdIdeal.sig) → Buf (Elt Ideal) ℓ) (g : Dev Cert.NormBwdIdeal.nD → PrngReg)
    (m' : (ℓ : Loc Cert.NormBwdReferenceIdeal.nD Cert.NormBwdReferenceIdeal.τ Cert.NormBwdReferenceIdeal.sig) → Buf (Elt Ideal) ℓ) (g' : Dev Cert.NormBwdReferenceIdeal.nD → PrngReg), Pre_NormBwdIdeal m →
    (∀ c : Dev Cert.NormBwdIdeal.nD,
      m' ((c.tc : Thread Cert.NormBwdReferenceIdeal.nD Cert.NormBwdReferenceIdeal.τ).loc Cert.NormBwdReferenceIdeal.main_arg0) = m ((c.tc : Thread Cert.NormBwdIdeal.nD Cert.NormBwdIdeal.τ).loc Cert.NormBwdIdeal.main_arg0)
      ∧ m' ((c.tc : Thread Cert.NormBwdReferenceIdeal.nD Cert.NormBwdReferenceIdeal.τ).loc Cert.NormBwdReferenceIdeal.main_arg1) = m ((c.tc : Thread Cert.NormBwdIdeal.nD Cert.NormBwdIdeal.τ).loc Cert.NormBwdIdeal.main_arg1)
      ∧ m' ((c.tc : Thread Cert.NormBwdReferenceIdeal.nD Cert.NormBwdReferenceIdeal.τ).loc Cert.NormBwdReferenceIdeal.main_arg2) = m ((c.tc : Thread Cert.NormBwdIdeal.nD Cert.NormBwdIdeal.τ).loc Cert.NormBwdIdeal.main_arg2)
      ∧ m' ((c.tc : Thread Cert.NormBwdReferenceIdeal.nD Cert.NormBwdReferenceIdeal.τ).loc Cert.NormBwdReferenceIdeal.main_arg3) = m ((c.tc : Thread Cert.NormBwdIdeal.nD Cert.NormBwdIdeal.τ).loc Cert.NormBwdIdeal.main_arg3)) →
    ∃ (v0 : (c : Dev Cert.NormBwdIdeal.nD) → Buf (Elt Ideal) ((c.tc : Thread Cert.NormBwdIdeal.nD Cert.NormBwdIdeal.τ).loc Cert.NormBwdIdeal.main_v0_0)) (v1 : (c : Dev Cert.NormBwdIdeal.nD) → Buf (Elt Ideal) ((c.tc : Thread Cert.NormBwdIdeal.nD Cert.NormBwdIdeal.τ).loc Cert.NormBwdIdeal.main_v0_1)),
      θ_run (Cert.NormBwdIdeal.defs (F := Ideal)) (onTc (τ := Cert.NormBwdIdeal.τ) (Cert.NormBwdIdeal.main (F := Ideal))) ⟨m, fun _ => 0, g⟩ (fun r => ∀ c : Dev Cert.NormBwdIdeal.nD,
          r.2.mem ((c.tc : Thread Cert.NormBwdIdeal.nD Cert.NormBwdIdeal.τ).loc Cert.NormBwdIdeal.main_v0_0) = v0 c
          ∧ r.2.mem ((c.tc : Thread Cert.NormBwdIdeal.nD Cert.NormBwdIdeal.τ).loc Cert.NormBwdIdeal.main_v0_1) = v1 c
          ∧ r.2.mem ((c.tc : Thread Cert.NormBwdIdeal.nD Cert.NormBwdIdeal.τ).loc Cert.NormBwdIdeal.main_arg0) = m ((c.tc : Thread Cert.NormBwdIdeal.nD Cert.NormBwdIdeal.τ).loc Cert.NormBwdIdeal.main_arg0)
          ∧ r.2.mem ((c.tc : Thread Cert.NormBwdIdeal.nD Cert.NormBwdIdeal.τ).loc Cert.NormBwdIdeal.main_arg1) = m ((c.tc : Thread Cert.NormBwdIdeal.nD Cert.NormBwdIdeal.τ).loc Cert.NormBwdIdeal.main_arg1)
          ∧ r.2.mem ((c.tc : Thread Cert.NormBwdIdeal.nD Cert.NormBwdIdeal.τ).loc Cert.NormBwdIdeal.main_arg2) = m ((c.tc : Thread Cert.NormBwdIdeal.nD Cert.NormBwdIdeal.τ).loc Cert.NormBwdIdeal.main_arg2)
          ∧ r.2.mem ((c.tc : Thread Cert.NormBwdIdeal.nD Cert.NormBwdIdeal.τ).loc Cert.NormBwdIdeal.main_arg3) = m ((c.tc : Thread Cert.NormBwdIdeal.nD Cert.NormBwdIdeal.τ).loc Cert.NormBwdIdeal.main_arg3))
      ∧ θ_run (Cert.NormBwdReferenceIdeal.defs (F := Ideal)) (onTc (τ := Cert.NormBwdReferenceIdeal.τ) (Cert.NormBwdReferenceIdeal.main (F := Ideal))) ⟨m', fun _ => 0, g'⟩ (fun r => ∀ c : Dev Cert.NormBwdReferenceIdeal.nD,
          r.2.mem ((c.tc : Thread Cert.NormBwdReferenceIdeal.nD Cert.NormBwdReferenceIdeal.τ).loc Cert.NormBwdReferenceIdeal.main_v34) = v0 c
          ∧ r.2.mem ((c.tc : Thread Cert.NormBwdReferenceIdeal.nD Cert.NormBwdReferenceIdeal.τ).loc Cert.NormBwdReferenceIdeal.main_v17) = v1 c
          ∧ r.2.mem ((c.tc : Thread Cert.NormBwdReferenceIdeal.nD Cert.NormBwdReferenceIdeal.τ).loc Cert.NormBwdReferenceIdeal.main_arg0) = m' ((c.tc : Thread Cert.NormBwdReferenceIdeal.nD Cert.NormBwdReferenceIdeal.τ).loc Cert.NormBwdReferenceIdeal.main_arg0)
          ∧ r.2.mem ((c.tc : Thread Cert.NormBwdReferenceIdeal.nD Cert.NormBwdReferenceIdeal.τ).loc Cert.NormBwdReferenceIdeal.main_arg1) = m' ((c.tc : Thread Cert.NormBwdReferenceIdeal.nD Cert.NormBwdReferenceIdeal.τ).loc Cert.NormBwdReferenceIdeal.main_arg1)
          ∧ r.2.mem ((c.tc : Thread Cert.NormBwdReferenceIdeal.nD Cert.NormBwdReferenceIdeal.τ).loc Cert.NormBwdReferenceIdeal.main_arg2) = m' ((c.tc : Thread Cert.NormBwdReferenceIdeal.nD Cert.NormBwdReferenceIdeal.τ).loc Cert.NormBwdReferenceIdeal.main_arg2)
          ∧ r.2.mem ((c.tc : Thread Cert.NormBwdReferenceIdeal.nD Cert.NormBwdReferenceIdeal.τ).loc Cert.NormBwdReferenceIdeal.main_arg3) = m' ((c.tc : Thread Cert.NormBwdReferenceIdeal.nD Cert.NormBwdReferenceIdeal.τ).loc Cert.NormBwdReferenceIdeal.main_arg3))

def preserves_NormFwd_NormFwdIdeal : Prop :=
  True

def algebraic_NormFwdIdeal_NormFwdReferenceIdeal [hNormFwdIdeal : Cert.NormFwdIdeal.Facts] [hNormFwdReferenceIdeal : Cert.NormFwdReferenceIdeal.Facts] : Prop :=
  ∀ (m : (ℓ : Loc Cert.NormFwdIdeal.nD Cert.NormFwdIdeal.τ Cert.NormFwdIdeal.sig) → Buf (Elt Ideal) ℓ) (g : Dev Cert.NormFwdIdeal.nD → PrngReg)
    (m' : (ℓ : Loc Cert.NormFwdReferenceIdeal.nD Cert.NormFwdReferenceIdeal.τ Cert.NormFwdReferenceIdeal.sig) → Buf (Elt Ideal) ℓ) (g' : Dev Cert.NormFwdReferenceIdeal.nD → PrngReg), Pre_NormFwdIdeal m →
    (∀ c : Dev Cert.NormFwdIdeal.nD,
      m' ((c.tc : Thread Cert.NormFwdReferenceIdeal.nD Cert.NormFwdReferenceIdeal.τ).loc Cert.NormFwdReferenceIdeal.main_arg0) = m ((c.tc : Thread Cert.NormFwdIdeal.nD Cert.NormFwdIdeal.τ).loc Cert.NormFwdIdeal.main_arg0)
      ∧ m' ((c.tc : Thread Cert.NormFwdReferenceIdeal.nD Cert.NormFwdReferenceIdeal.τ).loc Cert.NormFwdReferenceIdeal.main_arg1) = m ((c.tc : Thread Cert.NormFwdIdeal.nD Cert.NormFwdIdeal.τ).loc Cert.NormFwdIdeal.main_arg1)) →
    ∃ (v0 : (c : Dev Cert.NormFwdIdeal.nD) → Buf (Elt Ideal) ((c.tc : Thread Cert.NormFwdIdeal.nD Cert.NormFwdIdeal.τ).loc Cert.NormFwdIdeal.main_v0)),
      θ_run (Cert.NormFwdIdeal.defs (F := Ideal)) (onTc (τ := Cert.NormFwdIdeal.τ) (Cert.NormFwdIdeal.main (F := Ideal))) ⟨m, fun _ => 0, g⟩ (fun r => ∀ c : Dev Cert.NormFwdIdeal.nD,
          r.2.mem ((c.tc : Thread Cert.NormFwdIdeal.nD Cert.NormFwdIdeal.τ).loc Cert.NormFwdIdeal.main_v0) = v0 c
          ∧ r.2.mem ((c.tc : Thread Cert.NormFwdIdeal.nD Cert.NormFwdIdeal.τ).loc Cert.NormFwdIdeal.main_arg0) = m ((c.tc : Thread Cert.NormFwdIdeal.nD Cert.NormFwdIdeal.τ).loc Cert.NormFwdIdeal.main_arg0)
          ∧ r.2.mem ((c.tc : Thread Cert.NormFwdIdeal.nD Cert.NormFwdIdeal.τ).loc Cert.NormFwdIdeal.main_arg1) = m ((c.tc : Thread Cert.NormFwdIdeal.nD Cert.NormFwdIdeal.τ).loc Cert.NormFwdIdeal.main_arg1))
      ∧ θ_run (Cert.NormFwdReferenceIdeal.defs (F := Ideal)) (onTc (τ := Cert.NormFwdReferenceIdeal.τ) (Cert.NormFwdReferenceIdeal.main (F := Ideal))) ⟨m', fun _ => 0, g'⟩ (fun r => ∀ c : Dev Cert.NormFwdReferenceIdeal.nD,
          r.2.mem ((c.tc : Thread Cert.NormFwdReferenceIdeal.nD Cert.NormFwdReferenceIdeal.τ).loc Cert.NormFwdReferenceIdeal.main_v12) = v0 c
          ∧ r.2.mem ((c.tc : Thread Cert.NormFwdReferenceIdeal.nD Cert.NormFwdReferenceIdeal.τ).loc Cert.NormFwdReferenceIdeal.main_arg0) = m' ((c.tc : Thread Cert.NormFwdReferenceIdeal.nD Cert.NormFwdReferenceIdeal.τ).loc Cert.NormFwdReferenceIdeal.main_arg0)
          ∧ r.2.mem ((c.tc : Thread Cert.NormFwdReferenceIdeal.nD Cert.NormFwdReferenceIdeal.τ).loc Cert.NormFwdReferenceIdeal.main_arg1) = m' ((c.tc : Thread Cert.NormFwdReferenceIdeal.nD Cert.NormFwdReferenceIdeal.τ).loc Cert.NormFwdReferenceIdeal.main_arg1))

def preserves_Gate_GateIdeal : Prop :=
  True

def algebraic_GateIdeal_GateReferenceIdeal [hGateIdeal : Cert.GateIdeal.Facts] [hGateReferenceIdeal : Cert.GateReferenceIdeal.Facts] : Prop :=
  ∀ (m : (ℓ : Loc Cert.GateIdeal.nD Cert.GateIdeal.τ Cert.GateIdeal.sig) → Buf (Elt Ideal) ℓ) (g : Dev Cert.GateIdeal.nD → PrngReg)
    (m' : (ℓ : Loc Cert.GateReferenceIdeal.nD Cert.GateReferenceIdeal.τ Cert.GateReferenceIdeal.sig) → Buf (Elt Ideal) ℓ) (g' : Dev Cert.GateReferenceIdeal.nD → PrngReg), Pre_GateIdeal m →
    (∀ c : Dev Cert.GateIdeal.nD,
      m' ((c.tc : Thread Cert.GateReferenceIdeal.nD Cert.GateReferenceIdeal.τ).loc Cert.GateReferenceIdeal.main_arg0) = m ((c.tc : Thread Cert.GateIdeal.nD Cert.GateIdeal.τ).loc Cert.GateIdeal.main_arg0)
      ∧ m' ((c.tc : Thread Cert.GateReferenceIdeal.nD Cert.GateReferenceIdeal.τ).loc Cert.GateReferenceIdeal.main_arg1) = m ((c.tc : Thread Cert.GateIdeal.nD Cert.GateIdeal.τ).loc Cert.GateIdeal.main_arg1)
      ∧ m' ((c.tc : Thread Cert.GateReferenceIdeal.nD Cert.GateReferenceIdeal.τ).loc Cert.GateReferenceIdeal.main_arg2) = m ((c.tc : Thread Cert.GateIdeal.nD Cert.GateIdeal.τ).loc Cert.GateIdeal.main_arg2)
      ∧ m' ((c.tc : Thread Cert.GateReferenceIdeal.nD Cert.GateReferenceIdeal.τ).loc Cert.GateReferenceIdeal.main_arg3) = m ((c.tc : Thread Cert.GateIdeal.nD Cert.GateIdeal.τ).loc Cert.GateIdeal.main_arg3)) →
    ∃ (v0 : (c : Dev Cert.GateIdeal.nD) → Buf (Elt Ideal) ((c.tc : Thread Cert.GateIdeal.nD Cert.GateIdeal.τ).loc Cert.GateIdeal.main_v0)),
      θ_run (Cert.GateIdeal.defs (F := Ideal)) (onTc (τ := Cert.GateIdeal.τ) (Cert.GateIdeal.main (F := Ideal))) ⟨m, fun _ => 0, g⟩ (fun r => ∀ c : Dev Cert.GateIdeal.nD,
          r.2.mem ((c.tc : Thread Cert.GateIdeal.nD Cert.GateIdeal.τ).loc Cert.GateIdeal.main_v0) = v0 c
          ∧ r.2.mem ((c.tc : Thread Cert.GateIdeal.nD Cert.GateIdeal.τ).loc Cert.GateIdeal.main_arg0) = m ((c.tc : Thread Cert.GateIdeal.nD Cert.GateIdeal.τ).loc Cert.GateIdeal.main_arg0)
          ∧ r.2.mem ((c.tc : Thread Cert.GateIdeal.nD Cert.GateIdeal.τ).loc Cert.GateIdeal.main_arg1) = m ((c.tc : Thread Cert.GateIdeal.nD Cert.GateIdeal.τ).loc Cert.GateIdeal.main_arg1)
          ∧ r.2.mem ((c.tc : Thread Cert.GateIdeal.nD Cert.GateIdeal.τ).loc Cert.GateIdeal.main_arg2) = m ((c.tc : Thread Cert.GateIdeal.nD Cert.GateIdeal.τ).loc Cert.GateIdeal.main_arg2)
          ∧ r.2.mem ((c.tc : Thread Cert.GateIdeal.nD Cert.GateIdeal.τ).loc Cert.GateIdeal.main_arg3) = m ((c.tc : Thread Cert.GateIdeal.nD Cert.GateIdeal.τ).loc Cert.GateIdeal.main_arg3))
      ∧ θ_run (Cert.GateReferenceIdeal.defs (F := Ideal)) (onTc (τ := Cert.GateReferenceIdeal.τ) (Cert.GateReferenceIdeal.main (F := Ideal))) ⟨m', fun _ => 0, g'⟩ (fun r => ∀ c : Dev Cert.GateReferenceIdeal.nD,
          r.2.mem ((c.tc : Thread Cert.GateReferenceIdeal.nD Cert.GateReferenceIdeal.τ).loc Cert.GateReferenceIdeal.main_v20) = v0 c
          ∧ r.2.mem ((c.tc : Thread Cert.GateReferenceIdeal.nD Cert.GateReferenceIdeal.τ).loc Cert.GateReferenceIdeal.main_arg0) = m' ((c.tc : Thread Cert.GateReferenceIdeal.nD Cert.GateReferenceIdeal.τ).loc Cert.GateReferenceIdeal.main_arg0)
          ∧ r.2.mem ((c.tc : Thread Cert.GateReferenceIdeal.nD Cert.GateReferenceIdeal.τ).loc Cert.GateReferenceIdeal.main_arg1) = m' ((c.tc : Thread Cert.GateReferenceIdeal.nD Cert.GateReferenceIdeal.τ).loc Cert.GateReferenceIdeal.main_arg1)
          ∧ r.2.mem ((c.tc : Thread Cert.GateReferenceIdeal.nD Cert.GateReferenceIdeal.τ).loc Cert.GateReferenceIdeal.main_arg2) = m' ((c.tc : Thread Cert.GateReferenceIdeal.nD Cert.GateReferenceIdeal.τ).loc Cert.GateReferenceIdeal.main_arg2)
          ∧ r.2.mem ((c.tc : Thread Cert.GateReferenceIdeal.nD Cert.GateReferenceIdeal.τ).loc Cert.GateReferenceIdeal.main_arg3) = m' ((c.tc : Thread Cert.GateReferenceIdeal.nD Cert.GateReferenceIdeal.τ).loc Cert.GateReferenceIdeal.main_arg3))

def preserves_AttnGate_AttnGateIdeal : Prop :=
  True

def algebraic_AttnGateIdeal_AttnGateReferenceIdeal [hAttnGateIdeal : Cert.AttnGateIdeal.Facts] [hAttnGateReferenceIdeal : Cert.AttnGateReferenceIdeal.Facts] : Prop :=
  ∀ (m : (ℓ : Loc Cert.AttnGateIdeal.nD Cert.AttnGateIdeal.τ Cert.AttnGateIdeal.sig) → Buf (Elt Ideal) ℓ) (g : Dev Cert.AttnGateIdeal.nD → PrngReg)
    (m' : (ℓ : Loc Cert.AttnGateReferenceIdeal.nD Cert.AttnGateReferenceIdeal.τ Cert.AttnGateReferenceIdeal.sig) → Buf (Elt Ideal) ℓ) (g' : Dev Cert.AttnGateReferenceIdeal.nD → PrngReg), Pre_AttnGateIdeal m →
    (∀ c : Dev Cert.AttnGateIdeal.nD,
      m' ((c.tc : Thread Cert.AttnGateReferenceIdeal.nD Cert.AttnGateReferenceIdeal.τ).loc Cert.AttnGateReferenceIdeal.main_arg0) = m ((c.tc : Thread Cert.AttnGateIdeal.nD Cert.AttnGateIdeal.τ).loc Cert.AttnGateIdeal.main_arg0)
      ∧ m' ((c.tc : Thread Cert.AttnGateReferenceIdeal.nD Cert.AttnGateReferenceIdeal.τ).loc Cert.AttnGateReferenceIdeal.main_arg1) = m ((c.tc : Thread Cert.AttnGateIdeal.nD Cert.AttnGateIdeal.τ).loc Cert.AttnGateIdeal.main_arg1)
      ∧ m' ((c.tc : Thread Cert.AttnGateReferenceIdeal.nD Cert.AttnGateReferenceIdeal.τ).loc Cert.AttnGateReferenceIdeal.main_arg2) = m ((c.tc : Thread Cert.AttnGateIdeal.nD Cert.AttnGateIdeal.τ).loc Cert.AttnGateIdeal.main_arg2)) →
    ∃ (v0 : (c : Dev Cert.AttnGateIdeal.nD) → Buf (Elt Ideal) ((c.tc : Thread Cert.AttnGateIdeal.nD Cert.AttnGateIdeal.τ).loc Cert.AttnGateIdeal.main_v0)),
      θ_run (Cert.AttnGateIdeal.defs (F := Ideal)) (onTc (τ := Cert.AttnGateIdeal.τ) (Cert.AttnGateIdeal.main (F := Ideal))) ⟨m, fun _ => 0, g⟩ (fun r => ∀ c : Dev Cert.AttnGateIdeal.nD,
          r.2.mem ((c.tc : Thread Cert.AttnGateIdeal.nD Cert.AttnGateIdeal.τ).loc Cert.AttnGateIdeal.main_v0) = v0 c
          ∧ r.2.mem ((c.tc : Thread Cert.AttnGateIdeal.nD Cert.AttnGateIdeal.τ).loc Cert.AttnGateIdeal.main_arg0) = m ((c.tc : Thread Cert.AttnGateIdeal.nD Cert.AttnGateIdeal.τ).loc Cert.AttnGateIdeal.main_arg0)
          ∧ r.2.mem ((c.tc : Thread Cert.AttnGateIdeal.nD Cert.AttnGateIdeal.τ).loc Cert.AttnGateIdeal.main_arg1) = m ((c.tc : Thread Cert.AttnGateIdeal.nD Cert.AttnGateIdeal.τ).loc Cert.AttnGateIdeal.main_arg1)
          ∧ r.2.mem ((c.tc : Thread Cert.AttnGateIdeal.nD Cert.AttnGateIdeal.τ).loc Cert.AttnGateIdeal.main_arg2) = m ((c.tc : Thread Cert.AttnGateIdeal.nD Cert.AttnGateIdeal.τ).loc Cert.AttnGateIdeal.main_arg2))
      ∧ θ_run (Cert.AttnGateReferenceIdeal.defs (F := Ideal)) (onTc (τ := Cert.AttnGateReferenceIdeal.τ) (Cert.AttnGateReferenceIdeal.main (F := Ideal))) ⟨m', fun _ => 0, g'⟩ (fun r => ∀ c : Dev Cert.AttnGateReferenceIdeal.nD,
          r.2.mem ((c.tc : Thread Cert.AttnGateReferenceIdeal.nD Cert.AttnGateReferenceIdeal.τ).loc Cert.AttnGateReferenceIdeal.main_v3) = v0 c
          ∧ r.2.mem ((c.tc : Thread Cert.AttnGateReferenceIdeal.nD Cert.AttnGateReferenceIdeal.τ).loc Cert.AttnGateReferenceIdeal.main_arg0) = m' ((c.tc : Thread Cert.AttnGateReferenceIdeal.nD Cert.AttnGateReferenceIdeal.τ).loc Cert.AttnGateReferenceIdeal.main_arg0)
          ∧ r.2.mem ((c.tc : Thread Cert.AttnGateReferenceIdeal.nD Cert.AttnGateReferenceIdeal.τ).loc Cert.AttnGateReferenceIdeal.main_arg1) = m' ((c.tc : Thread Cert.AttnGateReferenceIdeal.nD Cert.AttnGateReferenceIdeal.τ).loc Cert.AttnGateReferenceIdeal.main_arg1)
          ∧ r.2.mem ((c.tc : Thread Cert.AttnGateReferenceIdeal.nD Cert.AttnGateReferenceIdeal.τ).loc Cert.AttnGateReferenceIdeal.main_arg2) = m' ((c.tc : Thread Cert.AttnGateReferenceIdeal.nD Cert.AttnGateReferenceIdeal.τ).loc Cert.AttnGateReferenceIdeal.main_arg2))

def preserves_SumSmall_SumSmallIdeal : Prop :=
  True

def algebraic_SumSmallIdeal_SumSmallReferenceIdeal [hSumSmallIdeal : Cert.SumSmallIdeal.Facts] [hSumSmallReferenceIdeal : Cert.SumSmallReferenceIdeal.Facts] : Prop :=
  ∀ (m : (ℓ : Loc Cert.SumSmallIdeal.nD Cert.SumSmallIdeal.τ Cert.SumSmallIdeal.sig) → Buf (Elt Ideal) ℓ) (g : Dev Cert.SumSmallIdeal.nD → PrngReg)
    (m' : (ℓ : Loc Cert.SumSmallReferenceIdeal.nD Cert.SumSmallReferenceIdeal.τ Cert.SumSmallReferenceIdeal.sig) → Buf (Elt Ideal) ℓ) (g' : Dev Cert.SumSmallReferenceIdeal.nD → PrngReg), Pre_SumSmallIdeal m →
    (∀ c : Dev Cert.SumSmallIdeal.nD,
      m' ((c.tc : Thread Cert.SumSmallReferenceIdeal.nD Cert.SumSmallReferenceIdeal.τ).loc Cert.SumSmallReferenceIdeal.main_arg0) = m ((c.tc : Thread Cert.SumSmallIdeal.nD Cert.SumSmallIdeal.τ).loc Cert.SumSmallIdeal.main_arg0)) →
    ∃ (v0 : (c : Dev Cert.SumSmallIdeal.nD) → Buf (Elt Ideal) ((c.tc : Thread Cert.SumSmallIdeal.nD Cert.SumSmallIdeal.τ).loc Cert.SumSmallIdeal.main_v14)) (v1 : (c : Dev Cert.SumSmallIdeal.nD) → Buf (Elt Ideal) ((c.tc : Thread Cert.SumSmallIdeal.nD Cert.SumSmallIdeal.τ).loc Cert.SumSmallIdeal.main_v15)) (v2 : (c : Dev Cert.SumSmallIdeal.nD) → Buf (Elt Ideal) ((c.tc : Thread Cert.SumSmallIdeal.nD Cert.SumSmallIdeal.τ).loc Cert.SumSmallIdeal.main_v16)) (v3 : (c : Dev Cert.SumSmallIdeal.nD) → Buf (Elt Ideal) ((c.tc : Thread Cert.SumSmallIdeal.nD Cert.SumSmallIdeal.τ).loc Cert.SumSmallIdeal.main_v17)) (v4 : (c : Dev Cert.SumSmallIdeal.nD) → Buf (Elt Ideal) ((c.tc : Thread Cert.SumSmallIdeal.nD Cert.SumSmallIdeal.τ).loc Cert.SumSmallIdeal.main_v18)) (v5 : (c : Dev Cert.SumSmallIdeal.nD) → Buf (Elt Ideal) ((c.tc : Thread Cert.SumSmallIdeal.nD Cert.SumSmallIdeal.τ).loc Cert.SumSmallIdeal.main_v19)) (v6 : (c : Dev Cert.SumSmallIdeal.nD) → Buf (Elt Ideal) ((c.tc : Thread Cert.SumSmallIdeal.nD Cert.SumSmallIdeal.τ).loc Cert.SumSmallIdeal.main_v20)) (v7 : (c : Dev Cert.SumSmallIdeal.nD) → Buf (Elt Ideal) ((c.tc : Thread Cert.SumSmallIdeal.nD Cert.SumSmallIdeal.τ).loc Cert.SumSmallIdeal.main_v21)) (v8 : (c : Dev Cert.SumSmallIdeal.nD) → Buf (Elt Ideal) ((c.tc : Thread Cert.SumSmallIdeal.nD Cert.SumSmallIdeal.τ).loc Cert.SumSmallIdeal.main_v22)) (v9 : (c : Dev Cert.SumSmallIdeal.nD) → Buf (Elt Ideal) ((c.tc : Thread Cert.SumSmallIdeal.nD Cert.SumSmallIdeal.τ).loc Cert.SumSmallIdeal.main_v23)) (v10 : (c : Dev Cert.SumSmallIdeal.nD) → Buf (Elt Ideal) ((c.tc : Thread Cert.SumSmallIdeal.nD Cert.SumSmallIdeal.τ).loc Cert.SumSmallIdeal.main_v24)) (v11 : (c : Dev Cert.SumSmallIdeal.nD) → Buf (Elt Ideal) ((c.tc : Thread Cert.SumSmallIdeal.nD Cert.SumSmallIdeal.τ).loc Cert.SumSmallIdeal.main_v25)),
      θ_run (Cert.SumSmallIdeal.defs (F := Ideal)) (onTc (τ := Cert.SumSmallIdeal.τ) (Cert.SumSmallIdeal.main (F := Ideal))) ⟨m, fun _ => 0, g⟩ (fun r => ∀ c : Dev Cert.SumSmallIdeal.nD,
          r.2.mem ((c.tc : Thread Cert.SumSmallIdeal.nD Cert.SumSmallIdeal.τ).loc Cert.SumSmallIdeal.main_v14) = v0 c
          ∧ r.2.mem ((c.tc : Thread Cert.SumSmallIdeal.nD Cert.SumSmallIdeal.τ).loc Cert.SumSmallIdeal.main_v15) = v1 c
          ∧ r.2.mem ((c.tc : Thread Cert.SumSmallIdeal.nD Cert.SumSmallIdeal.τ).loc Cert.SumSmallIdeal.main_v16) = v2 c
          ∧ r.2.mem ((c.tc : Thread Cert.SumSmallIdeal.nD Cert.SumSmallIdeal.τ).loc Cert.SumSmallIdeal.main_v17) = v3 c
          ∧ r.2.mem ((c.tc : Thread Cert.SumSmallIdeal.nD Cert.SumSmallIdeal.τ).loc Cert.SumSmallIdeal.main_v18) = v4 c
          ∧ r.2.mem ((c.tc : Thread Cert.SumSmallIdeal.nD Cert.SumSmallIdeal.τ).loc Cert.SumSmallIdeal.main_v19) = v5 c
          ∧ r.2.mem ((c.tc : Thread Cert.SumSmallIdeal.nD Cert.SumSmallIdeal.τ).loc Cert.SumSmallIdeal.main_v20) = v6 c
          ∧ r.2.mem ((c.tc : Thread Cert.SumSmallIdeal.nD Cert.SumSmallIdeal.τ).loc Cert.SumSmallIdeal.main_v21) = v7 c
          ∧ r.2.mem ((c.tc : Thread Cert.SumSmallIdeal.nD Cert.SumSmallIdeal.τ).loc Cert.SumSmallIdeal.main_v22) = v8 c
          ∧ r.2.mem ((c.tc : Thread Cert.SumSmallIdeal.nD Cert.SumSmallIdeal.τ).loc Cert.SumSmallIdeal.main_v23) = v9 c
          ∧ r.2.mem ((c.tc : Thread Cert.SumSmallIdeal.nD Cert.SumSmallIdeal.τ).loc Cert.SumSmallIdeal.main_v24) = v10 c
          ∧ r.2.mem ((c.tc : Thread Cert.SumSmallIdeal.nD Cert.SumSmallIdeal.τ).loc Cert.SumSmallIdeal.main_v25) = v11 c
          ∧ r.2.mem ((c.tc : Thread Cert.SumSmallIdeal.nD Cert.SumSmallIdeal.τ).loc Cert.SumSmallIdeal.main_arg0) = m ((c.tc : Thread Cert.SumSmallIdeal.nD Cert.SumSmallIdeal.τ).loc Cert.SumSmallIdeal.main_arg0))
      ∧ θ_run (Cert.SumSmallReferenceIdeal.defs (F := Ideal)) (onTc (τ := Cert.SumSmallReferenceIdeal.τ) (Cert.SumSmallReferenceIdeal.main (F := Ideal))) ⟨m', fun _ => 0, g'⟩ (fun r => ∀ c : Dev Cert.SumSmallReferenceIdeal.nD,
          r.2.mem ((c.tc : Thread Cert.SumSmallReferenceIdeal.nD Cert.SumSmallReferenceIdeal.τ).loc Cert.SumSmallReferenceIdeal.main_v36) = v0 c
          ∧ r.2.mem ((c.tc : Thread Cert.SumSmallReferenceIdeal.nD Cert.SumSmallReferenceIdeal.τ).loc Cert.SumSmallReferenceIdeal.main_v3) = v1 c
          ∧ r.2.mem ((c.tc : Thread Cert.SumSmallReferenceIdeal.nD Cert.SumSmallReferenceIdeal.τ).loc Cert.SumSmallReferenceIdeal.main_v6) = v2 c
          ∧ r.2.mem ((c.tc : Thread Cert.SumSmallReferenceIdeal.nD Cert.SumSmallReferenceIdeal.τ).loc Cert.SumSmallReferenceIdeal.main_v9) = v3 c
          ∧ r.2.mem ((c.tc : Thread Cert.SumSmallReferenceIdeal.nD Cert.SumSmallReferenceIdeal.τ).loc Cert.SumSmallReferenceIdeal.main_v12) = v4 c
          ∧ r.2.mem ((c.tc : Thread Cert.SumSmallReferenceIdeal.nD Cert.SumSmallReferenceIdeal.τ).loc Cert.SumSmallReferenceIdeal.main_v15) = v5 c
          ∧ r.2.mem ((c.tc : Thread Cert.SumSmallReferenceIdeal.nD Cert.SumSmallReferenceIdeal.τ).loc Cert.SumSmallReferenceIdeal.main_v18) = v6 c
          ∧ r.2.mem ((c.tc : Thread Cert.SumSmallReferenceIdeal.nD Cert.SumSmallReferenceIdeal.τ).loc Cert.SumSmallReferenceIdeal.main_v21) = v7 c
          ∧ r.2.mem ((c.tc : Thread Cert.SumSmallReferenceIdeal.nD Cert.SumSmallReferenceIdeal.τ).loc Cert.SumSmallReferenceIdeal.main_v24) = v8 c
          ∧ r.2.mem ((c.tc : Thread Cert.SumSmallReferenceIdeal.nD Cert.SumSmallReferenceIdeal.τ).loc Cert.SumSmallReferenceIdeal.main_v27) = v9 c
          ∧ r.2.mem ((c.tc : Thread Cert.SumSmallReferenceIdeal.nD Cert.SumSmallReferenceIdeal.τ).loc Cert.SumSmallReferenceIdeal.main_v30) = v10 c
          ∧ r.2.mem ((c.tc : Thread Cert.SumSmallReferenceIdeal.nD Cert.SumSmallReferenceIdeal.τ).loc Cert.SumSmallReferenceIdeal.main_v33) = v11 c
          ∧ r.2.mem ((c.tc : Thread Cert.SumSmallReferenceIdeal.nD Cert.SumSmallReferenceIdeal.τ).loc Cert.SumSmallReferenceIdeal.main_arg0) = m' ((c.tc : Thread Cert.SumSmallReferenceIdeal.nD Cert.SumSmallReferenceIdeal.τ).loc Cert.SumSmallReferenceIdeal.main_arg0))

def preserves_AttnFwd_AttnFwdIdeal : Prop :=
  True

def algebraic_AttnFwdIdeal_AttnFwdReferenceIdeal_pre_finite_scores [hAttnFwdIdeal : Cert.AttnFwdIdeal.Facts] [hAttnFwdReferenceIdeal : Cert.AttnFwdReferenceIdeal.Facts] [hPre_finite_scores : Cert.Pre_finite_scores.Facts] : Prop :=
  ∀ (m : (ℓ : Loc Cert.AttnFwdIdeal.nD Cert.AttnFwdIdeal.τ Cert.AttnFwdIdeal.sig) → Buf (Elt Ideal) ℓ) (g : Dev Cert.AttnFwdIdeal.nD → PrngReg)
    (m' : (ℓ : Loc Cert.AttnFwdReferenceIdeal.nD Cert.AttnFwdReferenceIdeal.τ Cert.AttnFwdReferenceIdeal.sig) → Buf (Elt Ideal) ℓ) (g' : Dev Cert.AttnFwdReferenceIdeal.nD → PrngReg), Pre_AttnFwdIdeal_finite_scores m →
    (∀ c : Dev Cert.AttnFwdIdeal.nD,
      m' ((c.tc : Thread Cert.AttnFwdReferenceIdeal.nD Cert.AttnFwdReferenceIdeal.τ).loc Cert.AttnFwdReferenceIdeal.main_arg0) = m ((c.tc : Thread Cert.AttnFwdIdeal.nD Cert.AttnFwdIdeal.τ).loc Cert.AttnFwdIdeal.main_arg0)
      ∧ m' ((c.tc : Thread Cert.AttnFwdReferenceIdeal.nD Cert.AttnFwdReferenceIdeal.τ).loc Cert.AttnFwdReferenceIdeal.main_arg1) = m ((c.tc : Thread Cert.AttnFwdIdeal.nD Cert.AttnFwdIdeal.τ).loc Cert.AttnFwdIdeal.main_arg1)
      ∧ m' ((c.tc : Thread Cert.AttnFwdReferenceIdeal.nD Cert.AttnFwdReferenceIdeal.τ).loc Cert.AttnFwdReferenceIdeal.main_arg2) = m ((c.tc : Thread Cert.AttnFwdIdeal.nD Cert.AttnFwdIdeal.τ).loc Cert.AttnFwdIdeal.main_arg2)) →
    ∃ (v0 : (c : Dev Cert.AttnFwdIdeal.nD) → Buf (Elt Ideal) ((c.tc : Thread Cert.AttnFwdIdeal.nD Cert.AttnFwdIdeal.τ).loc Cert.AttnFwdIdeal.main_v0_0)) (v1 : (c : Dev Cert.AttnFwdIdeal.nD) → Buf (Elt Ideal) ((c.tc : Thread Cert.AttnFwdIdeal.nD Cert.AttnFwdIdeal.τ).loc Cert.AttnFwdIdeal.main_v0_1)),
      θ_run (Cert.AttnFwdIdeal.defs (F := Ideal)) (onTc (τ := Cert.AttnFwdIdeal.τ) (Cert.AttnFwdIdeal.main (F := Ideal))) ⟨m, fun _ => 0, g⟩ (fun r => ∀ c : Dev Cert.AttnFwdIdeal.nD,
          r.2.mem ((c.tc : Thread Cert.AttnFwdIdeal.nD Cert.AttnFwdIdeal.τ).loc Cert.AttnFwdIdeal.main_v0_0) = v0 c
          ∧ r.2.mem ((c.tc : Thread Cert.AttnFwdIdeal.nD Cert.AttnFwdIdeal.τ).loc Cert.AttnFwdIdeal.main_v0_1) = v1 c
          ∧ r.2.mem ((c.tc : Thread Cert.AttnFwdIdeal.nD Cert.AttnFwdIdeal.τ).loc Cert.AttnFwdIdeal.main_arg0) = m ((c.tc : Thread Cert.AttnFwdIdeal.nD Cert.AttnFwdIdeal.τ).loc Cert.AttnFwdIdeal.main_arg0)
          ∧ r.2.mem ((c.tc : Thread Cert.AttnFwdIdeal.nD Cert.AttnFwdIdeal.τ).loc Cert.AttnFwdIdeal.main_arg1) = m ((c.tc : Thread Cert.AttnFwdIdeal.nD Cert.AttnFwdIdeal.τ).loc Cert.AttnFwdIdeal.main_arg1)
          ∧ r.2.mem ((c.tc : Thread Cert.AttnFwdIdeal.nD Cert.AttnFwdIdeal.τ).loc Cert.AttnFwdIdeal.main_arg2) = m ((c.tc : Thread Cert.AttnFwdIdeal.nD Cert.AttnFwdIdeal.τ).loc Cert.AttnFwdIdeal.main_arg2))
      ∧ θ_run (Cert.AttnFwdReferenceIdeal.defs (F := Ideal)) (onTc (τ := Cert.AttnFwdReferenceIdeal.τ) (Cert.AttnFwdReferenceIdeal.main (F := Ideal))) ⟨m', fun _ => 0, g'⟩ (fun r => ∀ c : Dev Cert.AttnFwdReferenceIdeal.nD,
          r.2.mem ((c.tc : Thread Cert.AttnFwdReferenceIdeal.nD Cert.AttnFwdReferenceIdeal.τ).loc Cert.AttnFwdReferenceIdeal.main_v20) = v0 c
          ∧ r.2.mem ((c.tc : Thread Cert.AttnFwdReferenceIdeal.nD Cert.AttnFwdReferenceIdeal.τ).loc Cert.AttnFwdReferenceIdeal.main_v35) = v1 c
          ∧ r.2.mem ((c.tc : Thread Cert.AttnFwdReferenceIdeal.nD Cert.AttnFwdReferenceIdeal.τ).loc Cert.AttnFwdReferenceIdeal.main_arg0) = m' ((c.tc : Thread Cert.AttnFwdReferenceIdeal.nD Cert.AttnFwdReferenceIdeal.τ).loc Cert.AttnFwdReferenceIdeal.main_arg0)
          ∧ r.2.mem ((c.tc : Thread Cert.AttnFwdReferenceIdeal.nD Cert.AttnFwdReferenceIdeal.τ).loc Cert.AttnFwdReferenceIdeal.main_arg1) = m' ((c.tc : Thread Cert.AttnFwdReferenceIdeal.nD Cert.AttnFwdReferenceIdeal.τ).loc Cert.AttnFwdReferenceIdeal.main_arg1)
          ∧ r.2.mem ((c.tc : Thread Cert.AttnFwdReferenceIdeal.nD Cert.AttnFwdReferenceIdeal.τ).loc Cert.AttnFwdReferenceIdeal.main_arg2) = m' ((c.tc : Thread Cert.AttnFwdReferenceIdeal.nD Cert.AttnFwdReferenceIdeal.τ).loc Cert.AttnFwdReferenceIdeal.main_arg2))

def preserves_GateBwd_GateBwdIdeal : Prop :=
  True

def algebraic_GateBwdIdeal_GateBwdReferenceIdeal_pre_finite_gate [hGateBwdIdeal : Cert.GateBwdIdeal.Facts] [hGateBwdReferenceIdeal : Cert.GateBwdReferenceIdeal.Facts] [hPre_finite_gate : Cert.Pre_finite_gate.Facts] : Prop :=
  ∀ (m : (ℓ : Loc Cert.GateBwdIdeal.nD Cert.GateBwdIdeal.τ Cert.GateBwdIdeal.sig) → Buf (Elt Ideal) ℓ) (g : Dev Cert.GateBwdIdeal.nD → PrngReg)
    (m' : (ℓ : Loc Cert.GateBwdReferenceIdeal.nD Cert.GateBwdReferenceIdeal.τ Cert.GateBwdReferenceIdeal.sig) → Buf (Elt Ideal) ℓ) (g' : Dev Cert.GateBwdReferenceIdeal.nD → PrngReg), Pre_GateBwdIdeal_finite_gate m →
    (∀ c : Dev Cert.GateBwdIdeal.nD,
      m' ((c.tc : Thread Cert.GateBwdReferenceIdeal.nD Cert.GateBwdReferenceIdeal.τ).loc Cert.GateBwdReferenceIdeal.main_arg0) = m ((c.tc : Thread Cert.GateBwdIdeal.nD Cert.GateBwdIdeal.τ).loc Cert.GateBwdIdeal.main_arg0)
      ∧ m' ((c.tc : Thread Cert.GateBwdReferenceIdeal.nD Cert.GateBwdReferenceIdeal.τ).loc Cert.GateBwdReferenceIdeal.main_arg1) = m ((c.tc : Thread Cert.GateBwdIdeal.nD Cert.GateBwdIdeal.τ).loc Cert.GateBwdIdeal.main_arg1)
      ∧ m' ((c.tc : Thread Cert.GateBwdReferenceIdeal.nD Cert.GateBwdReferenceIdeal.τ).loc Cert.GateBwdReferenceIdeal.main_arg2) = m ((c.tc : Thread Cert.GateBwdIdeal.nD Cert.GateBwdIdeal.τ).loc Cert.GateBwdIdeal.main_arg2)
      ∧ m' ((c.tc : Thread Cert.GateBwdReferenceIdeal.nD Cert.GateBwdReferenceIdeal.τ).loc Cert.GateBwdReferenceIdeal.main_arg3) = m ((c.tc : Thread Cert.GateBwdIdeal.nD Cert.GateBwdIdeal.τ).loc Cert.GateBwdIdeal.main_arg3)
      ∧ m' ((c.tc : Thread Cert.GateBwdReferenceIdeal.nD Cert.GateBwdReferenceIdeal.τ).loc Cert.GateBwdReferenceIdeal.main_arg4) = m ((c.tc : Thread Cert.GateBwdIdeal.nD Cert.GateBwdIdeal.τ).loc Cert.GateBwdIdeal.main_arg4)
      ∧ m' ((c.tc : Thread Cert.GateBwdReferenceIdeal.nD Cert.GateBwdReferenceIdeal.τ).loc Cert.GateBwdReferenceIdeal.main_arg5) = m ((c.tc : Thread Cert.GateBwdIdeal.nD Cert.GateBwdIdeal.τ).loc Cert.GateBwdIdeal.main_arg5)) →
    ∃ (v0 : (c : Dev Cert.GateBwdIdeal.nD) → Buf (Elt Ideal) ((c.tc : Thread Cert.GateBwdIdeal.nD Cert.GateBwdIdeal.τ).loc Cert.GateBwdIdeal.main_v0_0)) (v1 : (c : Dev Cert.GateBwdIdeal.nD) → Buf (Elt Ideal) ((c.tc : Thread Cert.GateBwdIdeal.nD Cert.GateBwdIdeal.τ).loc Cert.GateBwdIdeal.main_v0_1)) (v2 : (c : Dev Cert.GateBwdIdeal.nD) → Buf (Elt Ideal) ((c.tc : Thread Cert.GateBwdIdeal.nD Cert.GateBwdIdeal.τ).loc Cert.GateBwdIdeal.main_v0_2)),
      θ_run (Cert.GateBwdIdeal.defs (F := Ideal)) (onTc (τ := Cert.GateBwdIdeal.τ) (Cert.GateBwdIdeal.main (F := Ideal))) ⟨m, fun _ => 0, g⟩ (fun r => ∀ c : Dev Cert.GateBwdIdeal.nD,
          r.2.mem ((c.tc : Thread Cert.GateBwdIdeal.nD Cert.GateBwdIdeal.τ).loc Cert.GateBwdIdeal.main_v0_0) = v0 c
          ∧ r.2.mem ((c.tc : Thread Cert.GateBwdIdeal.nD Cert.GateBwdIdeal.τ).loc Cert.GateBwdIdeal.main_v0_1) = v1 c
          ∧ r.2.mem ((c.tc : Thread Cert.GateBwdIdeal.nD Cert.GateBwdIdeal.τ).loc Cert.GateBwdIdeal.main_v0_2) = v2 c
          ∧ r.2.mem ((c.tc : Thread Cert.GateBwdIdeal.nD Cert.GateBwdIdeal.τ).loc Cert.GateBwdIdeal.main_arg0) = m ((c.tc : Thread Cert.GateBwdIdeal.nD Cert.GateBwdIdeal.τ).loc Cert.GateBwdIdeal.main_arg0)
          ∧ r.2.mem ((c.tc : Thread Cert.GateBwdIdeal.nD Cert.GateBwdIdeal.τ).loc Cert.GateBwdIdeal.main_arg1) = m ((c.tc : Thread Cert.GateBwdIdeal.nD Cert.GateBwdIdeal.τ).loc Cert.GateBwdIdeal.main_arg1)
          ∧ r.2.mem ((c.tc : Thread Cert.GateBwdIdeal.nD Cert.GateBwdIdeal.τ).loc Cert.GateBwdIdeal.main_arg2) = m ((c.tc : Thread Cert.GateBwdIdeal.nD Cert.GateBwdIdeal.τ).loc Cert.GateBwdIdeal.main_arg2)
          ∧ r.2.mem ((c.tc : Thread Cert.GateBwdIdeal.nD Cert.GateBwdIdeal.τ).loc Cert.GateBwdIdeal.main_arg3) = m ((c.tc : Thread Cert.GateBwdIdeal.nD Cert.GateBwdIdeal.τ).loc Cert.GateBwdIdeal.main_arg3)
          ∧ r.2.mem ((c.tc : Thread Cert.GateBwdIdeal.nD Cert.GateBwdIdeal.τ).loc Cert.GateBwdIdeal.main_arg4) = m ((c.tc : Thread Cert.GateBwdIdeal.nD Cert.GateBwdIdeal.τ).loc Cert.GateBwdIdeal.main_arg4)
          ∧ r.2.mem ((c.tc : Thread Cert.GateBwdIdeal.nD Cert.GateBwdIdeal.τ).loc Cert.GateBwdIdeal.main_arg5) = m ((c.tc : Thread Cert.GateBwdIdeal.nD Cert.GateBwdIdeal.τ).loc Cert.GateBwdIdeal.main_arg5))
      ∧ θ_run (Cert.GateBwdReferenceIdeal.defs (F := Ideal)) (onTc (τ := Cert.GateBwdReferenceIdeal.τ) (Cert.GateBwdReferenceIdeal.main (F := Ideal))) ⟨m', fun _ => 0, g'⟩ (fun r => ∀ c : Dev Cert.GateBwdReferenceIdeal.nD,
          r.2.mem ((c.tc : Thread Cert.GateBwdReferenceIdeal.nD Cert.GateBwdReferenceIdeal.τ).loc Cert.GateBwdReferenceIdeal.main_v51) = v0 c
          ∧ r.2.mem ((c.tc : Thread Cert.GateBwdReferenceIdeal.nD Cert.GateBwdReferenceIdeal.τ).loc Cert.GateBwdReferenceIdeal.main_v49) = v1 c
          ∧ r.2.mem ((c.tc : Thread Cert.GateBwdReferenceIdeal.nD Cert.GateBwdReferenceIdeal.τ).loc Cert.GateBwdReferenceIdeal.main_v34) = v2 c
          ∧ r.2.mem ((c.tc : Thread Cert.GateBwdReferenceIdeal.nD Cert.GateBwdReferenceIdeal.τ).loc Cert.GateBwdReferenceIdeal.main_arg0) = m' ((c.tc : Thread Cert.GateBwdReferenceIdeal.nD Cert.GateBwdReferenceIdeal.τ).loc Cert.GateBwdReferenceIdeal.main_arg0)
          ∧ r.2.mem ((c.tc : Thread Cert.GateBwdReferenceIdeal.nD Cert.GateBwdReferenceIdeal.τ).loc Cert.GateBwdReferenceIdeal.main_arg1) = m' ((c.tc : Thread Cert.GateBwdReferenceIdeal.nD Cert.GateBwdReferenceIdeal.τ).loc Cert.GateBwdReferenceIdeal.main_arg1)
          ∧ r.2.mem ((c.tc : Thread Cert.GateBwdReferenceIdeal.nD Cert.GateBwdReferenceIdeal.τ).loc Cert.GateBwdReferenceIdeal.main_arg2) = m' ((c.tc : Thread Cert.GateBwdReferenceIdeal.nD Cert.GateBwdReferenceIdeal.τ).loc Cert.GateBwdReferenceIdeal.main_arg2)
          ∧ r.2.mem ((c.tc : Thread Cert.GateBwdReferenceIdeal.nD Cert.GateBwdReferenceIdeal.τ).loc Cert.GateBwdReferenceIdeal.main_arg3) = m' ((c.tc : Thread Cert.GateBwdReferenceIdeal.nD Cert.GateBwdReferenceIdeal.τ).loc Cert.GateBwdReferenceIdeal.main_arg3)
          ∧ r.2.mem ((c.tc : Thread Cert.GateBwdReferenceIdeal.nD Cert.GateBwdReferenceIdeal.τ).loc Cert.GateBwdReferenceIdeal.main_arg4) = m' ((c.tc : Thread Cert.GateBwdReferenceIdeal.nD Cert.GateBwdReferenceIdeal.τ).loc Cert.GateBwdReferenceIdeal.main_arg4)
          ∧ r.2.mem ((c.tc : Thread Cert.GateBwdReferenceIdeal.nD Cert.GateBwdReferenceIdeal.τ).loc Cert.GateBwdReferenceIdeal.main_arg5) = m' ((c.tc : Thread Cert.GateBwdReferenceIdeal.nD Cert.GateBwdReferenceIdeal.τ).loc Cert.GateBwdReferenceIdeal.main_arg5))

def preserves_AttnGateBwd_AttnGateBwdIdeal : Prop :=
  True

def algebraic_AttnGateBwdIdeal_AttnGateBwdReferenceIdeal_pre_finite_heads [hAttnGateBwdIdeal : Cert.AttnGateBwdIdeal.Facts] [hAttnGateBwdReferenceIdeal : Cert.AttnGateBwdReferenceIdeal.Facts] [hPre_finite_heads : Cert.Pre_finite_heads.Facts] : Prop :=
  ∀ (m : (ℓ : Loc Cert.AttnGateBwdIdeal.nD Cert.AttnGateBwdIdeal.τ Cert.AttnGateBwdIdeal.sig) → Buf (Elt Ideal) ℓ) (g : Dev Cert.AttnGateBwdIdeal.nD → PrngReg)
    (m' : (ℓ : Loc Cert.AttnGateBwdReferenceIdeal.nD Cert.AttnGateBwdReferenceIdeal.τ Cert.AttnGateBwdReferenceIdeal.sig) → Buf (Elt Ideal) ℓ) (g' : Dev Cert.AttnGateBwdReferenceIdeal.nD → PrngReg), Pre_AttnGateBwdIdeal_finite_heads m →
    (∀ c : Dev Cert.AttnGateBwdIdeal.nD,
      m' ((c.tc : Thread Cert.AttnGateBwdReferenceIdeal.nD Cert.AttnGateBwdReferenceIdeal.τ).loc Cert.AttnGateBwdReferenceIdeal.main_arg0) = m ((c.tc : Thread Cert.AttnGateBwdIdeal.nD Cert.AttnGateBwdIdeal.τ).loc Cert.AttnGateBwdIdeal.main_arg0)
      ∧ m' ((c.tc : Thread Cert.AttnGateBwdReferenceIdeal.nD Cert.AttnGateBwdReferenceIdeal.τ).loc Cert.AttnGateBwdReferenceIdeal.main_arg1) = m ((c.tc : Thread Cert.AttnGateBwdIdeal.nD Cert.AttnGateBwdIdeal.τ).loc Cert.AttnGateBwdIdeal.main_arg1)
      ∧ m' ((c.tc : Thread Cert.AttnGateBwdReferenceIdeal.nD Cert.AttnGateBwdReferenceIdeal.τ).loc Cert.AttnGateBwdReferenceIdeal.main_arg2) = m ((c.tc : Thread Cert.AttnGateBwdIdeal.nD Cert.AttnGateBwdIdeal.τ).loc Cert.AttnGateBwdIdeal.main_arg2)
      ∧ m' ((c.tc : Thread Cert.AttnGateBwdReferenceIdeal.nD Cert.AttnGateBwdReferenceIdeal.τ).loc Cert.AttnGateBwdReferenceIdeal.main_arg3) = m ((c.tc : Thread Cert.AttnGateBwdIdeal.nD Cert.AttnGateBwdIdeal.τ).loc Cert.AttnGateBwdIdeal.main_arg3)
      ∧ m' ((c.tc : Thread Cert.AttnGateBwdReferenceIdeal.nD Cert.AttnGateBwdReferenceIdeal.τ).loc Cert.AttnGateBwdReferenceIdeal.main_arg4) = m ((c.tc : Thread Cert.AttnGateBwdIdeal.nD Cert.AttnGateBwdIdeal.τ).loc Cert.AttnGateBwdIdeal.main_arg4)) →
    ∃ (v0 : (c : Dev Cert.AttnGateBwdIdeal.nD) → Buf (Elt Ideal) ((c.tc : Thread Cert.AttnGateBwdIdeal.nD Cert.AttnGateBwdIdeal.τ).loc Cert.AttnGateBwdIdeal.main_v0_0)) (v1 : (c : Dev Cert.AttnGateBwdIdeal.nD) → Buf (Elt Ideal) ((c.tc : Thread Cert.AttnGateBwdIdeal.nD Cert.AttnGateBwdIdeal.τ).loc Cert.AttnGateBwdIdeal.main_v0_1)) (v2 : (c : Dev Cert.AttnGateBwdIdeal.nD) → Buf (Elt Ideal) ((c.tc : Thread Cert.AttnGateBwdIdeal.nD Cert.AttnGateBwdIdeal.τ).loc Cert.AttnGateBwdIdeal.main_v0_2)),
      θ_run (Cert.AttnGateBwdIdeal.defs (F := Ideal)) (onTc (τ := Cert.AttnGateBwdIdeal.τ) (Cert.AttnGateBwdIdeal.main (F := Ideal))) ⟨m, fun _ => 0, g⟩ (fun r => ∀ c : Dev Cert.AttnGateBwdIdeal.nD,
          r.2.mem ((c.tc : Thread Cert.AttnGateBwdIdeal.nD Cert.AttnGateBwdIdeal.τ).loc Cert.AttnGateBwdIdeal.main_v0_0) = v0 c
          ∧ r.2.mem ((c.tc : Thread Cert.AttnGateBwdIdeal.nD Cert.AttnGateBwdIdeal.τ).loc Cert.AttnGateBwdIdeal.main_v0_1) = v1 c
          ∧ r.2.mem ((c.tc : Thread Cert.AttnGateBwdIdeal.nD Cert.AttnGateBwdIdeal.τ).loc Cert.AttnGateBwdIdeal.main_v0_2) = v2 c
          ∧ r.2.mem ((c.tc : Thread Cert.AttnGateBwdIdeal.nD Cert.AttnGateBwdIdeal.τ).loc Cert.AttnGateBwdIdeal.main_arg0) = m ((c.tc : Thread Cert.AttnGateBwdIdeal.nD Cert.AttnGateBwdIdeal.τ).loc Cert.AttnGateBwdIdeal.main_arg0)
          ∧ r.2.mem ((c.tc : Thread Cert.AttnGateBwdIdeal.nD Cert.AttnGateBwdIdeal.τ).loc Cert.AttnGateBwdIdeal.main_arg1) = m ((c.tc : Thread Cert.AttnGateBwdIdeal.nD Cert.AttnGateBwdIdeal.τ).loc Cert.AttnGateBwdIdeal.main_arg1)
          ∧ r.2.mem ((c.tc : Thread Cert.AttnGateBwdIdeal.nD Cert.AttnGateBwdIdeal.τ).loc Cert.AttnGateBwdIdeal.main_arg2) = m ((c.tc : Thread Cert.AttnGateBwdIdeal.nD Cert.AttnGateBwdIdeal.τ).loc Cert.AttnGateBwdIdeal.main_arg2)
          ∧ r.2.mem ((c.tc : Thread Cert.AttnGateBwdIdeal.nD Cert.AttnGateBwdIdeal.τ).loc Cert.AttnGateBwdIdeal.main_arg3) = m ((c.tc : Thread Cert.AttnGateBwdIdeal.nD Cert.AttnGateBwdIdeal.τ).loc Cert.AttnGateBwdIdeal.main_arg3)
          ∧ r.2.mem ((c.tc : Thread Cert.AttnGateBwdIdeal.nD Cert.AttnGateBwdIdeal.τ).loc Cert.AttnGateBwdIdeal.main_arg4) = m ((c.tc : Thread Cert.AttnGateBwdIdeal.nD Cert.AttnGateBwdIdeal.τ).loc Cert.AttnGateBwdIdeal.main_arg4))
      ∧ θ_run (Cert.AttnGateBwdReferenceIdeal.defs (F := Ideal)) (onTc (τ := Cert.AttnGateBwdReferenceIdeal.τ) (Cert.AttnGateBwdReferenceIdeal.main (F := Ideal))) ⟨m', fun _ => 0, g'⟩ (fun r => ∀ c : Dev Cert.AttnGateBwdReferenceIdeal.nD,
          r.2.mem ((c.tc : Thread Cert.AttnGateBwdReferenceIdeal.nD Cert.AttnGateBwdReferenceIdeal.τ).loc Cert.AttnGateBwdReferenceIdeal.main_v8) = v0 c
          ∧ r.2.mem ((c.tc : Thread Cert.AttnGateBwdReferenceIdeal.nD Cert.AttnGateBwdReferenceIdeal.τ).loc Cert.AttnGateBwdReferenceIdeal.main_v4) = v1 c
          ∧ r.2.mem ((c.tc : Thread Cert.AttnGateBwdReferenceIdeal.nD Cert.AttnGateBwdReferenceIdeal.τ).loc Cert.AttnGateBwdReferenceIdeal.main_v9) = v2 c
          ∧ r.2.mem ((c.tc : Thread Cert.AttnGateBwdReferenceIdeal.nD Cert.AttnGateBwdReferenceIdeal.τ).loc Cert.AttnGateBwdReferenceIdeal.main_arg0) = m' ((c.tc : Thread Cert.AttnGateBwdReferenceIdeal.nD Cert.AttnGateBwdReferenceIdeal.τ).loc Cert.AttnGateBwdReferenceIdeal.main_arg0)
          ∧ r.2.mem ((c.tc : Thread Cert.AttnGateBwdReferenceIdeal.nD Cert.AttnGateBwdReferenceIdeal.τ).loc Cert.AttnGateBwdReferenceIdeal.main_arg1) = m' ((c.tc : Thread Cert.AttnGateBwdReferenceIdeal.nD Cert.AttnGateBwdReferenceIdeal.τ).loc Cert.AttnGateBwdReferenceIdeal.main_arg1)
          ∧ r.2.mem ((c.tc : Thread Cert.AttnGateBwdReferenceIdeal.nD Cert.AttnGateBwdReferenceIdeal.τ).loc Cert.AttnGateBwdReferenceIdeal.main_arg2) = m' ((c.tc : Thread Cert.AttnGateBwdReferenceIdeal.nD Cert.AttnGateBwdReferenceIdeal.τ).loc Cert.AttnGateBwdReferenceIdeal.main_arg2)
          ∧ r.2.mem ((c.tc : Thread Cert.AttnGateBwdReferenceIdeal.nD Cert.AttnGateBwdReferenceIdeal.τ).loc Cert.AttnGateBwdReferenceIdeal.main_arg3) = m' ((c.tc : Thread Cert.AttnGateBwdReferenceIdeal.nD Cert.AttnGateBwdReferenceIdeal.τ).loc Cert.AttnGateBwdReferenceIdeal.main_arg3)
          ∧ r.2.mem ((c.tc : Thread Cert.AttnGateBwdReferenceIdeal.nD Cert.AttnGateBwdReferenceIdeal.τ).loc Cert.AttnGateBwdReferenceIdeal.main_arg4) = m' ((c.tc : Thread Cert.AttnGateBwdReferenceIdeal.nD Cert.AttnGateBwdReferenceIdeal.τ).loc Cert.AttnGateBwdReferenceIdeal.main_arg4))

def Claim : Prop :=
  ∃ (hKernel : Cert.Kernel.Facts) (hKernelIdeal : Cert.KernelIdeal.Facts) (hReferenceIdeal : Cert.ReferenceIdeal.Facts) (hInDh : Cert.InDh.Facts) (hInDhIdeal : Cert.InDhIdeal.Facts) (hInDhReferenceIdeal : Cert.InDhReferenceIdeal.Facts) (hInDw : Cert.InDw.Facts) (hInDwIdeal : Cert.InDwIdeal.Facts) (hInDwReferenceIdeal : Cert.InDwReferenceIdeal.Facts) (hOutDy : Cert.OutDy.Facts) (hOutDyIdeal : Cert.OutDyIdeal.Facts) (hOutDyReferenceIdeal : Cert.OutDyReferenceIdeal.Facts) (hOutDw : Cert.OutDw.Facts) (hOutDwIdeal : Cert.OutDwIdeal.Facts) (hOutDwReferenceIdeal : Cert.OutDwReferenceIdeal.Facts) (hInFwd : Cert.InFwd.Facts) (hInFwdIdeal : Cert.InFwdIdeal.Facts) (hInFwdReferenceIdeal : Cert.InFwdReferenceIdeal.Facts) (hOutFwd : Cert.OutFwd.Facts) (hOutFwdIdeal : Cert.OutFwdIdeal.Facts) (hOutFwdReferenceIdeal : Cert.OutFwdReferenceIdeal.Facts) (hOutLoss : Cert.OutLoss.Facts) (hOutLossIdeal : Cert.OutLossIdeal.Facts) (hOutLossReferenceIdeal : Cert.OutLossReferenceIdeal.Facts) (hAdamWIn : Cert.AdamWIn.Facts) (hAdamWInIdeal : Cert.AdamWInIdeal.Facts) (hAdamWInReferenceIdeal : Cert.AdamWInReferenceIdeal.Facts) (hAdamNorm : Cert.AdamNorm.Facts) (hAdamNormIdeal : Cert.AdamNormIdeal.Facts) (hAdamNormReferenceIdeal : Cert.AdamNormReferenceIdeal.Facts) (hAdamGroup : Cert.AdamGroup.Facts) (hAdamGroupIdeal : Cert.AdamGroupIdeal.Facts) (hAdamGroupReferenceIdeal : Cert.AdamGroupReferenceIdeal.Facts) (hAdamHalf : Cert.AdamHalf.Facts) (hAdamHalfIdeal : Cert.AdamHalfIdeal.Facts) (hAdamHalfReferenceIdeal : Cert.AdamHalfReferenceIdeal.Facts) (hAdamHead : Cert.AdamHead.Facts) (hAdamHeadIdeal : Cert.AdamHeadIdeal.Facts) (hAdamHeadReferenceIdeal : Cert.AdamHeadReferenceIdeal.Facts) (hAdamPool : Cert.AdamPool.Facts) (hAdamPoolIdeal : Cert.AdamPoolIdeal.Facts) (hAdamPoolReferenceIdeal : Cert.AdamPoolReferenceIdeal.Facts) (hAdamRank : Cert.AdamRank.Facts) (hAdamRankIdeal : Cert.AdamRankIdeal.Facts) (hAdamRankReferenceIdeal : Cert.AdamRankReferenceIdeal.Facts) (hAdamQ : Cert.AdamQ.Facts) (hAdamQIdeal : Cert.AdamQIdeal.Facts) (hAdamQReferenceIdeal : Cert.AdamQReferenceIdeal.Facts) (hAdamKv : Cert.AdamKv.Facts) (hAdamKvIdeal : Cert.AdamKvIdeal.Facts) (hAdamKvReferenceIdeal : Cert.AdamKvReferenceIdeal.Facts) (hAdamWOut : Cert.AdamWOut.Facts) (hAdamWOutIdeal : Cert.AdamWOutIdeal.Facts) (hAdamWOutReferenceIdeal : Cert.AdamWOutReferenceIdeal.Facts) (hNormBwd : Cert.NormBwd.Facts) (hNormBwdIdeal : Cert.NormBwdIdeal.Facts) (hNormBwdReferenceIdeal : Cert.NormBwdReferenceIdeal.Facts) (hNormFwd : Cert.NormFwd.Facts) (hNormFwdIdeal : Cert.NormFwdIdeal.Facts) (hNormFwdReferenceIdeal : Cert.NormFwdReferenceIdeal.Facts) (hGate : Cert.Gate.Facts) (hGateIdeal : Cert.GateIdeal.Facts) (hGateReferenceIdeal : Cert.GateReferenceIdeal.Facts) (hAttnGate : Cert.AttnGate.Facts) (hAttnGateIdeal : Cert.AttnGateIdeal.Facts) (hAttnGateReferenceIdeal : Cert.AttnGateReferenceIdeal.Facts) (hSumSmall : Cert.SumSmall.Facts) (hSumSmallIdeal : Cert.SumSmallIdeal.Facts) (hSumSmallReferenceIdeal : Cert.SumSmallReferenceIdeal.Facts) (hAttnFwd : Cert.AttnFwd.Facts) (hAttnFwdIdeal : Cert.AttnFwdIdeal.Facts) (hAttnFwdReferenceIdeal : Cert.AttnFwdReferenceIdeal.Facts) (hGateBwd : Cert.GateBwd.Facts) (hGateBwdIdeal : Cert.GateBwdIdeal.Facts) (hGateBwdReferenceIdeal : Cert.GateBwdReferenceIdeal.Facts) (hAttnGateBwd : Cert.AttnGateBwd.Facts) (hAttnGateBwdIdeal : Cert.AttnGateBwdIdeal.Facts) (hAttnGateBwdReferenceIdeal : Cert.AttnGateBwdReferenceIdeal.Facts) (hPre_finite : Cert.Pre_finite.Facts) (hPre_finite_scores : Cert.Pre_finite_scores.Facts) (hPre_finite_gate : Cert.Pre_finite_gate.Facts) (hPre_finite_heads : Cert.Pre_finite_heads.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_InDh (hInDh := hInDh)
    ∧ quiescent_InDhIdeal (hInDhIdeal := hInDhIdeal)
    ∧ quiescent_InDhReferenceIdeal (hInDhReferenceIdeal := hInDhReferenceIdeal)
    ∧ quiescent_InDw (hInDw := hInDw)
    ∧ quiescent_InDwIdeal (hInDwIdeal := hInDwIdeal)
    ∧ quiescent_InDwReferenceIdeal (hInDwReferenceIdeal := hInDwReferenceIdeal)
    ∧ quiescent_OutDy (hOutDy := hOutDy)
    ∧ quiescent_OutDyIdeal (hOutDyIdeal := hOutDyIdeal)
    ∧ quiescent_OutDyReferenceIdeal (hOutDyReferenceIdeal := hOutDyReferenceIdeal)
    ∧ quiescent_OutDw (hOutDw := hOutDw)
    ∧ quiescent_OutDwIdeal (hOutDwIdeal := hOutDwIdeal)
    ∧ quiescent_OutDwReferenceIdeal (hOutDwReferenceIdeal := hOutDwReferenceIdeal)
    ∧ quiescent_InFwd (hInFwd := hInFwd)
    ∧ quiescent_InFwdIdeal (hInFwdIdeal := hInFwdIdeal)
    ∧ quiescent_InFwdReferenceIdeal (hInFwdReferenceIdeal := hInFwdReferenceIdeal)
    ∧ quiescent_OutFwd (hOutFwd := hOutFwd)
    ∧ quiescent_OutFwdIdeal (hOutFwdIdeal := hOutFwdIdeal)
    ∧ quiescent_OutFwdReferenceIdeal (hOutFwdReferenceIdeal := hOutFwdReferenceIdeal)
    ∧ quiescent_OutLoss (hOutLoss := hOutLoss)
    ∧ quiescent_OutLossIdeal (hOutLossIdeal := hOutLossIdeal)
    ∧ quiescent_OutLossReferenceIdeal (hOutLossReferenceIdeal := hOutLossReferenceIdeal)
    ∧ quiescent_AdamWIn (hAdamWIn := hAdamWIn)
    ∧ quiescent_AdamWInIdeal (hAdamWInIdeal := hAdamWInIdeal)
    ∧ quiescent_AdamWInReferenceIdeal (hAdamWInReferenceIdeal := hAdamWInReferenceIdeal)
    ∧ quiescent_AdamNorm (hAdamNorm := hAdamNorm)
    ∧ quiescent_AdamNormIdeal (hAdamNormIdeal := hAdamNormIdeal)
    ∧ quiescent_AdamNormReferenceIdeal (hAdamNormReferenceIdeal := hAdamNormReferenceIdeal)
    ∧ quiescent_AdamGroup (hAdamGroup := hAdamGroup)
    ∧ quiescent_AdamGroupIdeal (hAdamGroupIdeal := hAdamGroupIdeal)
    ∧ quiescent_AdamGroupReferenceIdeal (hAdamGroupReferenceIdeal := hAdamGroupReferenceIdeal)
    ∧ quiescent_AdamHalf (hAdamHalf := hAdamHalf)
    ∧ quiescent_AdamHalfIdeal (hAdamHalfIdeal := hAdamHalfIdeal)
    ∧ quiescent_AdamHalfReferenceIdeal (hAdamHalfReferenceIdeal := hAdamHalfReferenceIdeal)
    ∧ quiescent_AdamHead (hAdamHead := hAdamHead)
    ∧ quiescent_AdamHeadIdeal (hAdamHeadIdeal := hAdamHeadIdeal)
    ∧ quiescent_AdamHeadReferenceIdeal (hAdamHeadReferenceIdeal := hAdamHeadReferenceIdeal)
    ∧ quiescent_AdamPool (hAdamPool := hAdamPool)
    ∧ quiescent_AdamPoolIdeal (hAdamPoolIdeal := hAdamPoolIdeal)
    ∧ quiescent_AdamPoolReferenceIdeal (hAdamPoolReferenceIdeal := hAdamPoolReferenceIdeal)
    ∧ quiescent_AdamRank (hAdamRank := hAdamRank)
    ∧ quiescent_AdamRankIdeal (hAdamRankIdeal := hAdamRankIdeal)
    ∧ quiescent_AdamRankReferenceIdeal (hAdamRankReferenceIdeal := hAdamRankReferenceIdeal)
    ∧ quiescent_AdamQ (hAdamQ := hAdamQ)
    ∧ quiescent_AdamQIdeal (hAdamQIdeal := hAdamQIdeal)
    ∧ quiescent_AdamQReferenceIdeal (hAdamQReferenceIdeal := hAdamQReferenceIdeal)
    ∧ quiescent_AdamKv (hAdamKv := hAdamKv)
    ∧ quiescent_AdamKvIdeal (hAdamKvIdeal := hAdamKvIdeal)
    ∧ quiescent_AdamKvReferenceIdeal (hAdamKvReferenceIdeal := hAdamKvReferenceIdeal)
    ∧ quiescent_AdamWOut (hAdamWOut := hAdamWOut)
    ∧ quiescent_AdamWOutIdeal (hAdamWOutIdeal := hAdamWOutIdeal)
    ∧ quiescent_AdamWOutReferenceIdeal (hAdamWOutReferenceIdeal := hAdamWOutReferenceIdeal)
    ∧ quiescent_NormBwd (hNormBwd := hNormBwd)
    ∧ quiescent_NormBwdIdeal (hNormBwdIdeal := hNormBwdIdeal)
    ∧ quiescent_NormBwdReferenceIdeal (hNormBwdReferenceIdeal := hNormBwdReferenceIdeal)
    ∧ quiescent_NormFwd (hNormFwd := hNormFwd)
    ∧ quiescent_NormFwdIdeal (hNormFwdIdeal := hNormFwdIdeal)
    ∧ quiescent_NormFwdReferenceIdeal (hNormFwdReferenceIdeal := hNormFwdReferenceIdeal)
    ∧ quiescent_Gate (hGate := hGate)
    ∧ quiescent_GateIdeal (hGateIdeal := hGateIdeal)
    ∧ quiescent_GateReferenceIdeal (hGateReferenceIdeal := hGateReferenceIdeal)
    ∧ quiescent_AttnGate (hAttnGate := hAttnGate)
    ∧ quiescent_AttnGateIdeal (hAttnGateIdeal := hAttnGateIdeal)
    ∧ quiescent_AttnGateReferenceIdeal (hAttnGateReferenceIdeal := hAttnGateReferenceIdeal)
    ∧ quiescent_SumSmall (hSumSmall := hSumSmall)
    ∧ quiescent_SumSmallIdeal (hSumSmallIdeal := hSumSmallIdeal)
    ∧ quiescent_SumSmallReferenceIdeal (hSumSmallReferenceIdeal := hSumSmallReferenceIdeal)
    ∧ quiescent_AttnFwd (hAttnFwd := hAttnFwd)
    ∧ quiescent_AttnFwdIdeal (hAttnFwdIdeal := hAttnFwdIdeal)
    ∧ quiescent_AttnFwdIdeal_pre_finite_scores (hAttnFwdIdeal := hAttnFwdIdeal) (hPre_finite_scores := hPre_finite_scores)
    ∧ quiescent_AttnFwdReferenceIdeal (hAttnFwdReferenceIdeal := hAttnFwdReferenceIdeal)
    ∧ quiescent_AttnFwdReferenceIdeal_pre_finite_scores (hAttnFwdReferenceIdeal := hAttnFwdReferenceIdeal) (hPre_finite_scores := hPre_finite_scores)
    ∧ quiescent_GateBwd (hGateBwd := hGateBwd)
    ∧ quiescent_GateBwdIdeal (hGateBwdIdeal := hGateBwdIdeal)
    ∧ quiescent_GateBwdIdeal_pre_finite_gate (hGateBwdIdeal := hGateBwdIdeal) (hPre_finite_gate := hPre_finite_gate)
    ∧ quiescent_GateBwdReferenceIdeal (hGateBwdReferenceIdeal := hGateBwdReferenceIdeal)
    ∧ quiescent_GateBwdReferenceIdeal_pre_finite_gate (hGateBwdReferenceIdeal := hGateBwdReferenceIdeal) (hPre_finite_gate := hPre_finite_gate)
    ∧ quiescent_AttnGateBwd (hAttnGateBwd := hAttnGateBwd)
    ∧ quiescent_AttnGateBwdIdeal (hAttnGateBwdIdeal := hAttnGateBwdIdeal)
    ∧ quiescent_AttnGateBwdIdeal_pre_finite_heads (hAttnGateBwdIdeal := hAttnGateBwdIdeal) (hPre_finite_heads := hPre_finite_heads)
    ∧ quiescent_AttnGateBwdReferenceIdeal (hAttnGateBwdReferenceIdeal := hAttnGateBwdReferenceIdeal)
    ∧ quiescent_AttnGateBwdReferenceIdeal_pre_finite_heads (hAttnGateBwdReferenceIdeal := hAttnGateBwdReferenceIdeal) (hPre_finite_heads := hPre_finite_heads)
    ∧ preserves_Kernel_KernelIdeal
    ∧ algebraic_KernelIdeal_ReferenceIdeal_pre_finite (hKernelIdeal := hKernelIdeal) (hReferenceIdeal := hReferenceIdeal) (hPre_finite := hPre_finite)
    ∧ preserves_InDh_InDhIdeal
    ∧ algebraic_InDhIdeal_InDhReferenceIdeal (hInDhIdeal := hInDhIdeal) (hInDhReferenceIdeal := hInDhReferenceIdeal)
    ∧ preserves_InDw_InDwIdeal
    ∧ algebraic_InDwIdeal_InDwReferenceIdeal (hInDwIdeal := hInDwIdeal) (hInDwReferenceIdeal := hInDwReferenceIdeal)
    ∧ preserves_OutDy_OutDyIdeal
    ∧ algebraic_OutDyIdeal_OutDyReferenceIdeal (hOutDyIdeal := hOutDyIdeal) (hOutDyReferenceIdeal := hOutDyReferenceIdeal)
    ∧ preserves_OutDw_OutDwIdeal
    ∧ algebraic_OutDwIdeal_OutDwReferenceIdeal (hOutDwIdeal := hOutDwIdeal) (hOutDwReferenceIdeal := hOutDwReferenceIdeal)
    ∧ preserves_InFwd_InFwdIdeal
    ∧ algebraic_InFwdIdeal_InFwdReferenceIdeal (hInFwdIdeal := hInFwdIdeal) (hInFwdReferenceIdeal := hInFwdReferenceIdeal)
    ∧ preserves_OutFwd_OutFwdIdeal
    ∧ algebraic_OutFwdIdeal_OutFwdReferenceIdeal (hOutFwdIdeal := hOutFwdIdeal) (hOutFwdReferenceIdeal := hOutFwdReferenceIdeal)
    ∧ preserves_OutLoss_OutLossIdeal
    ∧ algebraic_OutLossIdeal_OutLossReferenceIdeal (hOutLossIdeal := hOutLossIdeal) (hOutLossReferenceIdeal := hOutLossReferenceIdeal)
    ∧ preserves_AdamWIn_AdamWInIdeal
    ∧ algebraic_AdamWInIdeal_AdamWInReferenceIdeal (hAdamWInIdeal := hAdamWInIdeal) (hAdamWInReferenceIdeal := hAdamWInReferenceIdeal)
    ∧ preserves_AdamNorm_AdamNormIdeal
    ∧ algebraic_AdamNormIdeal_AdamNormReferenceIdeal (hAdamNormIdeal := hAdamNormIdeal) (hAdamNormReferenceIdeal := hAdamNormReferenceIdeal)
    ∧ preserves_AdamGroup_AdamGroupIdeal
    ∧ algebraic_AdamGroupIdeal_AdamGroupReferenceIdeal (hAdamGroupIdeal := hAdamGroupIdeal) (hAdamGroupReferenceIdeal := hAdamGroupReferenceIdeal)
    ∧ preserves_AdamHalf_AdamHalfIdeal
    ∧ algebraic_AdamHalfIdeal_AdamHalfReferenceIdeal (hAdamHalfIdeal := hAdamHalfIdeal) (hAdamHalfReferenceIdeal := hAdamHalfReferenceIdeal)
    ∧ preserves_AdamHead_AdamHeadIdeal
    ∧ algebraic_AdamHeadIdeal_AdamHeadReferenceIdeal (hAdamHeadIdeal := hAdamHeadIdeal) (hAdamHeadReferenceIdeal := hAdamHeadReferenceIdeal)
    ∧ preserves_AdamPool_AdamPoolIdeal
    ∧ algebraic_AdamPoolIdeal_AdamPoolReferenceIdeal (hAdamPoolIdeal := hAdamPoolIdeal) (hAdamPoolReferenceIdeal := hAdamPoolReferenceIdeal)
    ∧ preserves_AdamRank_AdamRankIdeal
    ∧ algebraic_AdamRankIdeal_AdamRankReferenceIdeal (hAdamRankIdeal := hAdamRankIdeal) (hAdamRankReferenceIdeal := hAdamRankReferenceIdeal)
    ∧ preserves_AdamQ_AdamQIdeal
    ∧ algebraic_AdamQIdeal_AdamQReferenceIdeal (hAdamQIdeal := hAdamQIdeal) (hAdamQReferenceIdeal := hAdamQReferenceIdeal)
    ∧ preserves_AdamKv_AdamKvIdeal
    ∧ algebraic_AdamKvIdeal_AdamKvReferenceIdeal (hAdamKvIdeal := hAdamKvIdeal) (hAdamKvReferenceIdeal := hAdamKvReferenceIdeal)
    ∧ preserves_AdamWOut_AdamWOutIdeal
    ∧ algebraic_AdamWOutIdeal_AdamWOutReferenceIdeal (hAdamWOutIdeal := hAdamWOutIdeal) (hAdamWOutReferenceIdeal := hAdamWOutReferenceIdeal)
    ∧ preserves_NormBwd_NormBwdIdeal
    ∧ algebraic_NormBwdIdeal_NormBwdReferenceIdeal (hNormBwdIdeal := hNormBwdIdeal) (hNormBwdReferenceIdeal := hNormBwdReferenceIdeal)
    ∧ preserves_NormFwd_NormFwdIdeal
    ∧ algebraic_NormFwdIdeal_NormFwdReferenceIdeal (hNormFwdIdeal := hNormFwdIdeal) (hNormFwdReferenceIdeal := hNormFwdReferenceIdeal)
    ∧ preserves_Gate_GateIdeal
    ∧ algebraic_GateIdeal_GateReferenceIdeal (hGateIdeal := hGateIdeal) (hGateReferenceIdeal := hGateReferenceIdeal)
    ∧ preserves_AttnGate_AttnGateIdeal
    ∧ algebraic_AttnGateIdeal_AttnGateReferenceIdeal (hAttnGateIdeal := hAttnGateIdeal) (hAttnGateReferenceIdeal := hAttnGateReferenceIdeal)
    ∧ preserves_SumSmall_SumSmallIdeal
    ∧ algebraic_SumSmallIdeal_SumSmallReferenceIdeal (hSumSmallIdeal := hSumSmallIdeal) (hSumSmallReferenceIdeal := hSumSmallReferenceIdeal)
    ∧ preserves_AttnFwd_AttnFwdIdeal
    ∧ algebraic_AttnFwdIdeal_AttnFwdReferenceIdeal_pre_finite_scores (hAttnFwdIdeal := hAttnFwdIdeal) (hAttnFwdReferenceIdeal := hAttnFwdReferenceIdeal) (hPre_finite_scores := hPre_finite_scores)
    ∧ preserves_GateBwd_GateBwdIdeal
    ∧ algebraic_GateBwdIdeal_GateBwdReferenceIdeal_pre_finite_gate (hGateBwdIdeal := hGateBwdIdeal) (hGateBwdReferenceIdeal := hGateBwdReferenceIdeal) (hPre_finite_gate := hPre_finite_gate)
    ∧ preserves_AttnGateBwd_AttnGateBwdIdeal
    ∧ algebraic_AttnGateBwdIdeal_AttnGateBwdReferenceIdeal_pre_finite_heads (hAttnGateBwdIdeal := hAttnGateBwdIdeal) (hAttnGateBwdReferenceIdeal := hAttnGateBwdReferenceIdeal) (hPre_finite_heads := hPre_finite_heads)
-- ==== Pre_finite.lean ====
abbrev S4096x1024 : Shape := ⟨2, ![4096, 1024]⟩
abbrev S4096x512 : Shape := ⟨2, ![4096, 512]⟩
abbrev S_ : Shape := ⟨0, ![]⟩

class Facts : Prop where
  bitsLt_bf16_f32 : FTy.bits .bf16 < FTy.bits .f32
  bcast_S_S4096x1024 : S_.BroadcastsInDim S4096x1024 (![] : Fin 0 → Fin S4096x1024.rank)
  bcast_S_S4096x512 : S_.BroadcastsInDim S4096x512 (![] : Fin 0 → Fin S4096x512.rank)

variable [Facts]

def fn {F : FTy → Type} [FloatOps F] (main_arg0 : FVec F S4096x1024 .bf16) (main_arg1 : FVec F S4096x1024 .bf16) (main_arg2 : FVec F S4096x512 .bf16) (main_arg3 : FVec F S4096x512 .f32) : IVec S4096x1024 1 × IVec S4096x1024 1 × IVec S4096x512 1 × IVec S4096x512 1 :=
  let main_v0 : FVec F S4096x1024 .f32 := (extf .f32 · bitsLt_bf16_f32) main_arg0
  let main_v1 : FVec F S4096x1024 .f32 := Host.absf main_v0
  let main_cst : FVec F S_ .f32 := constant S_ .f32 0x7F800000#32
  let main_v2 : FVec F S4096x1024 .f32 := broadcastInDim S4096x1024 ![] bcast_S_S4096x1024 main_cst
  let main_v3 : IVec S4096x1024 1 := cmpf .olt main_v1 main_v2
  let main_v4 : FVec F S4096x1024 .f32 := (extf .f32 · bitsLt_bf16_f32) main_arg1
  let main_v5 : FVec F S4096x1024 .f32 := Host.absf main_v4
  let main_cst_0 : FVec F S_ .f32 := constant S_ .f32 0x7F800000#32
  let main_v6 : FVec F S4096x1024 .f32 := broadcastInDim S4096x1024 ![] bcast_S_S4096x1024 main_cst_0
  let main_v7 : IVec S4096x1024 1 := cmpf .olt main_v5 main_v6
  let main_v8 : FVec F S4096x512 .f32 := (extf .f32 · bitsLt_bf16_f32) main_arg2
  let main_v9 : FVec F S4096x512 .f32 := Host.absf main_v8
  let main_cst_1 : FVec F S_ .f32 := constant S_ .f32 0x7F800000#32
  let main_v10 : FVec F S4096x512 .f32 := broadcastInDim S4096x512 ![] bcast_S_S4096x512 main_cst_1
  let main_v11 : IVec S4096x512 1 := cmpf .olt main_v9 main_v10
  let main_v12 : FVec F S4096x512 .f32 := Host.absf main_arg3
  let main_cst_2 : FVec F S_ .f32 := constant S_ .f32 0x7F800000#32
  let main_v13 : FVec F S4096x512 .f32 := broadcastInDim S4096x512 ![] bcast_S_S4096x512 main_cst_2
  let main_v14 : IVec S4096x512 1 := cmpf .olt main_v12 main_v13
  (main_v3, main_v7, main_v11, main_v14)
-- ==== Pre_finite_gate.lean ====
abbrev S4096x2048 : Shape := ⟨2, ![4096, 2048]⟩
abbrev S4096x512 : Shape := ⟨2, ![4096, 512]⟩
abbrev S4096x6144 : Shape := ⟨2, ![4096, 6144]⟩
abbrev S1x512 : Shape := ⟨2, ![1, 512]⟩
abbrev S_ : Shape := ⟨0, ![]⟩

class Facts : Prop where
  slices_S4096x2048_S4096x512_0_0 : S4096x2048.Slices ![0, 0] S4096x512
  bcast_S_S4096x512 : S_.BroadcastsInDim S4096x512 (![] : Fin 0 → Fin S4096x512.rank)
  bcast_S_S1x512 : S_.BroadcastsInDim S1x512 (![] : Fin 0 → Fin S1x512.rank)

variable [Facts]

def fn {F : FTy → Type} [FloatOps F] (main_arg0 : FVec F S4096x2048 .f32) (main_arg1 : FVec F S4096x512 .f32) (main_arg2 : FVec F S4096x512 .f32) (main_arg3 : FVec F S4096x6144 .f32) (main_arg4 : FVec F S1x512 .f32) (main_arg5 : FVec F S4096x6144 .bf16) : IVec S4096x512 1 × IVec S1x512 1 :=
  let main_v0 : FVec F S4096x512 .f32 := (extractStridedSlice S4096x512 ![0, 0] · slices_S4096x2048_S4096x512_0_0) main_arg0
  let main_v1 : FVec F S4096x512 .f32 := Host.absf main_v0
  let main_cst : FVec F S_ .f32 := constant S_ .f32 0x7F800000#32
  let main_v2 : FVec F S4096x512 .f32 := broadcastInDim S4096x512 ![] bcast_S_S4096x512 main_cst
  let main_v3 : IVec S4096x512 1 := cmpf .olt main_v1 main_v2
  let main_v4 : FVec F S1x512 .f32 := Host.absf main_arg4
  let main_cst_0 : FVec F S_ .f32 := constant S_ .f32 0x7F800000#32
  let main_v5 : FVec F S1x512 .f32 := broadcastInDim S1x512 ![] bcast_S_S1x512 main_cst_0
  let main_v6 : IVec S1x512 1 := cmpf .olt main_v4 main_v5
  (main_v3, main_v6)
-- ==== Pre_finite_heads.lean ====
abbrev S4096x2048 : Shape := ⟨2, ![4096, 2048]⟩
abbrev S4096x512 : Shape := ⟨2, ![4096, 512]⟩
abbrev S4096x6144 : Shape := ⟨2, ![4096, 6144]⟩
abbrev S1x512 : Shape := ⟨2, ![1, 512]⟩
abbrev S_ : Shape := ⟨0, ![]⟩

class Facts : Prop where
  slices_S4096x2048_S4096x512_0_1536 : S4096x2048.Slices ![0, 1536] S4096x512
  bcast_S_S4096x512 : S_.BroadcastsInDim S4096x512 (![] : Fin 0 → Fin S4096x512.rank)

variable [Facts]

def fn {F : FTy → Type} [FloatOps F] (main_arg0 : FVec F S4096x2048 .f32) (main_arg1 : FVec F S4096x512 .f32) (main_arg2 : FVec F S4096x6144 .f32) (main_arg3 : FVec F S1x512 .f32) (main_arg4 : FVec F S4096x6144 .bf16) : IVec S4096x512 1 × IVec S4096x512 1 :=
  let main_v0 : FVec F S4096x512 .f32 := (extractStridedSlice S4096x512 ![0, 1536] · slices_S4096x2048_S4096x512_0_1536) main_arg0
  let main_v1 : FVec F S4096x512 .f32 := Host.absf main_v0
  let main_cst : FVec F S_ .f32 := constant S_ .f32 0x7F800000#32
  let main_v2 : FVec F S4096x512 .f32 := broadcastInDim S4096x512 ![] bcast_S_S4096x512 main_cst
  let main_v3 : IVec S4096x512 1 := cmpf .olt main_v1 main_v2
  let main_v4 : FVec F S4096x512 .f32 := Host.absf main_arg1
  let main_cst_0 : FVec F S_ .f32 := constant S_ .f32 0x7F800000#32
  let main_v5 : FVec F S4096x512 .f32 := broadcastInDim S4096x512 ![] bcast_S_S4096x512 main_cst_0
  let main_v6 : IVec S4096x512 1 := cmpf .olt main_v4 main_v5
  (main_v3, main_v6)
-- ==== Pre_finite_scores.lean ====
abbrev S4096x1024 : Shape := ⟨2, ![4096, 1024]⟩
abbrev S4096x512 : Shape := ⟨2, ![4096, 512]⟩
abbrev S_ : Shape := ⟨0, ![]⟩

class Facts : Prop where
  bitsLt_bf16_f32 : FTy.bits .bf16 < FTy.bits .f32
  bcast_S_S4096x1024 : S_.BroadcastsInDim S4096x1024 (![] : Fin 0 → Fin S4096x1024.rank)

variable [Facts]

def fn {F : FTy → Type} [FloatOps F] (main_arg0 : FVec F S4096x1024 .bf16) (main_arg1 : FVec F S4096x1024 .bf16) (main_arg2 : FVec F S4096x512 .bf16) : IVec S4096x1024 1 × IVec S4096x1024 1 :=
  let main_v0 : FVec F S4096x1024 .f32 := (extf .f32 · bitsLt_bf16_f32) main_arg0
  let main_v1 : FVec F S4096x1024 .f32 := Host.absf main_v0
  let main_cst : FVec F S_ .f32 := constant S_ .f32 0x7F800000#32
  let main_v2 : FVec F S4096x1024 .f32 := broadcastInDim S4096x1024 ![] bcast_S_S4096x1024 main_cst
  let main_v3 : IVec S4096x1024 1 := cmpf .olt main_v1 main_v2
  let main_v4 : FVec F S4096x1024 .f32 := (extf .f32 · bitsLt_bf16_f32) main_arg1
  let main_v5 : FVec F S4096x1024 .f32 := Host.absf main_v4
  let main_cst_0 : FVec F S_ .f32 := constant S_ .f32 0x7F800000#32
  let main_v6 : FVec F S4096x1024 .f32 := broadcastInDim S4096x1024 ![] bcast_S_S4096x1024 main_cst_0
  let main_v7 : IVec S4096x1024 1 := cmpf .olt main_v5 main_v6
  (main_v3, main_v7)
-- ==== Kernel.lean ====
abbrev S4096x1024 : Shape := ⟨2, ![4096, 1024]⟩
abbrev S4096x512 : Shape := ⟨2, ![4096, 512]⟩
abbrev S4096x4x256 : Shape := ⟨3, ![4096, 4, 256]⟩
abbrev S4096x4x128 : Shape := ⟨3, ![4096, 4, 128]⟩
abbrev S4x4096x4096 : Shape := ⟨3, ![4, 4096, 4096]⟩
abbrev S_ : Shape := ⟨0, ![]⟩
abbrev S4x4096 : Shape := ⟨2, ![4, 4096]⟩
abbrev S4x4096x1 : Shape := ⟨3, ![4, 4096, 1]⟩
abbrev S4x128x4096 : Shape := ⟨3, ![4, 128, 4096]⟩
abbrev S4096x4x4096 : Shape := ⟨3, ![4096, 4, 4096]⟩
abbrev S4096x4 : Shape := ⟨2, ![4096, 4]⟩
abbrev S4096x4x1 : Shape := ⟨3, ![4096, 4, 1]⟩
abbrev S1024x256 : Shape := ⟨2, ![1024, 256]⟩
abbrev S1024x128 : Shape := ⟨2, ![1024, 128]⟩
abbrev S4096x256 : Shape := ⟨2, ![4096, 256]⟩
abbrev S1024 : Shape := ⟨1, ![1024]⟩
abbrev S1024x1 : Shape := ⟨2, ![1024, 1]⟩
abbrev S1024x1024 : Shape := ⟨2, ![1024, 1024]⟩

abbrev nBuf : Space → Nat
  | .hbm => 48
  | .vmem => 20
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S4096x512, .bf16⟩
  | .hbm, ⟨3, _⟩ => ⟨S4096x512, .f32⟩
  | .hbm, ⟨4, _⟩ => ⟨S4096x1024, .f32⟩
  | .hbm, ⟨5, _⟩ => ⟨S4096x1024, .f32⟩
  | .hbm, ⟨6, _⟩ => ⟨S4096x512, .f32⟩
  | .hbm, ⟨7, _⟩ => ⟨S4096x4x256, .f32⟩
  | .hbm, ⟨8, _⟩ => ⟨S4096x4x256, .f32⟩
  | .hbm, ⟨9, _⟩ => ⟨S4096x4x128, .f32⟩
  | .hbm, ⟨10, _⟩ => ⟨S4x4096x4096, .f32⟩
  | .hbm, ⟨11, _⟩ => ⟨S_, .f32⟩
  | .hbm, ⟨12, _⟩ => ⟨S4x4096, .f32⟩
  | .hbm, ⟨13, _⟩ => ⟨S_, .f32⟩
  | .hbm, ⟨14, _⟩ => ⟨S4x4096, .f32⟩
  | .hbm, ⟨15, _⟩ => ⟨S4x4096, .f32⟩
  | .hbm, ⟨16, _⟩ => ⟨S4x4096x1, .f32⟩
  | .hbm, ⟨17, _⟩ => ⟨S4x4096x4096, .f32⟩
  | .hbm, ⟨18, _⟩ => ⟨S4x4096x4096, .f32⟩
  | .hbm, ⟨19, _⟩ => ⟨S4x4096x4096, .f32⟩
  | .hbm, ⟨20, _⟩ => ⟨S_, .f32⟩
  | .hbm, ⟨21, _⟩ => ⟨S4x4096, .f32⟩
  | .hbm, ⟨22, _⟩ => ⟨S4x4096x1, .f32⟩
  | .hbm, ⟨23, _⟩ => ⟨S4x4096x4096, .f32⟩
  | .hbm, ⟨24, _⟩ => ⟨S4x4096x4096, .f32⟩
  | .hbm, ⟨25, _⟩ => ⟨S4x128x4096, .f32⟩
  | .hbm, ⟨26, _⟩ => ⟨S4096x4x128, .f32⟩
  | .hbm, ⟨27, _⟩ => ⟨S4096x512, .f32⟩
  | .hbm, ⟨28, _⟩ => ⟨S4096x4x256, .f32⟩
  | .hbm, ⟨29, _⟩ => ⟨S4096x4x256, .f32⟩
  | .hbm, ⟨30, _⟩ => ⟨S4x4096x4096, .f32⟩
  | .hbm, ⟨31, _⟩ => ⟨S4096x4x4096, .f32⟩
  | .hbm, ⟨32, _⟩ => ⟨S_, .f32⟩
  | .hbm, ⟨33, _⟩ => ⟨S4096x4, .f32⟩
  | .hbm, ⟨34, _⟩ => ⟨S4096x4x1, .f32⟩
  | .hbm, ⟨35, _⟩ => ⟨S4096x4x4096, .f32⟩
  | .hbm, ⟨36, _⟩ => ⟨S4096x4x4096, .f32⟩
  | .hbm, ⟨37, _⟩ => ⟨S4096x4x4096, .f32⟩
  | .hbm, ⟨38, _⟩ => ⟨S_, .f32⟩
  | .hbm, ⟨39, _⟩ => ⟨S4096x4, .f32⟩
  | .hbm, ⟨40, _⟩ => ⟨S4096x4, .f32⟩
  | .hbm, ⟨41, _⟩ => ⟨S4096x4, .f32⟩
  | .hbm, ⟨42, _⟩ => ⟨S4096x4x1, .f32⟩
  | .hbm, ⟨43, _⟩ => ⟨S4096x4x128, .f32⟩
  | .hbm, ⟨44, _⟩ => ⟨S4096x512, .f32⟩
  | .hbm, ⟨45, _⟩ => ⟨S4096x1024, .f32⟩
  | .hbm, ⟨46, _⟩ => ⟨S4096x1024, .f32⟩
  | .hbm, ⟨47, _⟩ => ⟨S4096x512, .f32⟩
  | .local _ .vmem, ⟨0, _⟩ => ⟨S1024x256, .bf16⟩
  | .local _ .vmem, ⟨1, _⟩ => ⟨S1024x256, .bf16⟩
  | .local _ .vmem, ⟨2, _⟩ => ⟨S1024x256, .bf16⟩
  | .local _ .vmem, ⟨3, _⟩ => ⟨S1024x256, .bf16⟩
  | .local _ .vmem, ⟨4, _⟩ => ⟨S1024x128, .bf16⟩
  | .local _ .vmem, ⟨5, _⟩ => ⟨S1024x128, .bf16⟩
  | .local _ .vmem, ⟨6, _⟩ => ⟨S1024x128, .f32⟩
  | .local _ .vmem, ⟨7, _⟩ => ⟨S1024x128, .f32⟩
  | .local _ .vmem, ⟨8, _⟩ => ⟨S1024x128, .f32⟩
  | .local _ .vmem, ⟨9, _⟩ => ⟨S1024x128, .f32⟩
  | .local _ .vmem, ⟨10, _⟩ => ⟨S1024x128, .f32⟩
  | .local _ .vmem, ⟨11, _⟩ => ⟨S1024x128, .f32⟩
  | .local _ .vmem, ⟨12, _⟩ => ⟨S4096x256, .f32⟩
  | .local _ .vmem, ⟨13, _⟩ => ⟨S4096x256, .f32⟩
  | .local _ .vmem, ⟨14, _⟩ => ⟨S1024x256, .f32⟩
  | .local _ .vmem, ⟨15, _⟩ => ⟨S1024x256, .f32⟩
  | .local _ .vmem, ⟨16, _⟩ => ⟨S1024x128, .f32⟩
  | .local _ .vmem, ⟨17, _⟩ => ⟨S1024x128, .f32⟩
  | .local _ .vmem, ⟨18, _⟩ => ⟨S1024x256, .f32⟩
  | .local _ .vmem, ⟨19, _⟩ => ⟨S1024x128, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst_1 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_cst_2 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_cst_3 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36_0 : Ref sig .tc := ⟨.hbm, 45, rfl⟩
abbrev main_v36_1 : Ref sig .tc := ⟨.hbm, 46, rfl⟩
abbrev main_v36_2 : Ref sig .tc := ⟨.hbm, 47, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_scratch0 : Ref sig .tc := ⟨.vmem, 18, rfl⟩
abbrev cc0_scratch1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨3, ![4, 4, 4], ![false, false, false]⟩

def k0_mult1 (i : grid0.Coords) : BitVec 32 :=
  let arg2 : BitVec 32 := BitVec.ofNat 32 (i 2).val
  let c1024_i32 : BitVec 32 := 1024#32
  let v29 : BitVec 32 := Scalar.muli arg2 c1024_i32
  v29
def k0_cond1 (i : grid0.Coords) : BitVec 1 :=
  let arg1 : BitVec 32 := BitVec.ofNat 32 (i 1).val
  let c0_i32 : BitVec 32 := 0#32
  let v31 : BitVec 1 := Scalar.cmpi .eq arg1 c0_i32
  let v32 : BitVec 32 := Scalar.extui v31
  let c0_i32_20 : BitVec 32 := 0#32
  let v33 : BitVec 1 := Scalar.cmpi .ne v32 c0_i32_20
  v33

def k0_off1 (i : grid0.Coords) : Fin 2 → Nat :=
  let arg2 : BitVec 32 := BitVec.ofNat 32 (i 2).val
  let c1024_i32 : BitVec 32 := 1024#32
  let v29 : BitVec 32 := Scalar.muli arg2 c1024_i32
  let v30 : BitVec 32 := v29
  let v46 : Index := Scalar.indexCast v30
  let c0_28 : Index := 0#32
  ![v46.toNat, 0]
def k0_cond2 (i : grid0.Coords) : BitVec 1 :=
  let arg1 : BitVec 32 := BitVec.ofNat 32 (i 1).val
  let c0_i32_21 : BitVec 32 := 0#32
  let v34 : BitVec 1 := Scalar.cmpi .sgt arg1 c0_i32_21
  let v35 : BitVec 32 := Scalar.extui v34
  let c0_i32_22 : BitVec 32 := 0#32
  let v36 : BitVec 1 := Scalar.cmpi .ne v35 c0_i32_22
  v36

def k0_off2 (i : grid0.Coords) : Fin 2 → Nat :=
  let arg2 : BitVec 32 := BitVec.ofNat 32 (i 2).val
  let c1024_i32 : BitVec 32 := 1024#32
  let v29 : BitVec 32 := Scalar.muli arg2 c1024_i32
  let v30 : BitVec 32 := v29
  let v46 : Index := Scalar.indexCast v30
  let c0_28 : Index := 0#32
  ![v46.toNat, 0]
def k0_cond5 (i : grid0.Coords) : BitVec 1 :=
  let arg2 : BitVec 32 := BitVec.ofNat 32 (i 2).val
  let c3_i32 : BitVec 32 := 3#32
  let v43 : BitVec 1 := Scalar.cmpi .eq arg2 c3_i32
  let v44 : BitVec 32 := Scalar.extui v43
  let c0_i32_27 : BitVec 32 := 0#32
  let v45 : BitVec 1 := Scalar.cmpi .ne v44 c0_i32_27
  v45

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S1024x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1024x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, true]

abbrev stage0_4 : Fin 2 → Memref sig .tc .vmem S1024x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false, true]

abbrev stage0_5 : Fin 2 → Memref sig .tc .vmem S1024x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false, true]

abbrev stage0_6 : Fin 2 → Memref sig .tc .vmem S4096x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false, false]

abbrev stage0_7 : Fin 2 → Memref sig .tc .vmem S1024x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, false]

abbrev stage0_8 : Fin 2 → Memref sig .tc .vmem S1024x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, false]
-- ==== ReferenceIdeal.lean ====
abbrev S4096x1024 : Shape := ⟨2, ![4096, 1024]⟩
abbrev S4096x512 : Shape := ⟨2, ![4096, 512]⟩
abbrev S4096x4x256 : Shape := ⟨3, ![4096, 4, 256]⟩
abbrev S4096x4x128 : Shape := ⟨3, ![4096, 4, 128]⟩
abbrev S4x4096x4096 : Shape := ⟨3, ![4, 4096, 4096]⟩
abbrev S_ : Shape := ⟨0, ![]⟩
abbrev S4x4096 : Shape := ⟨2, ![4, 4096]⟩
abbrev S4x4096x1 : Shape := ⟨3, ![4, 4096, 1]⟩
abbrev S4x128x4096 : Shape := ⟨3, ![4, 128, 4096]⟩
abbrev S4x4096x256 : Shape := ⟨3, ![4, 4096, 256]⟩

abbrev nBuf : Space → Nat
  | .hbm => 78
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S4096x512, .bf16⟩
  | .hbm, ⟨3, _⟩ => ⟨S4096x512, .f32⟩
  | .hbm, ⟨4, _⟩ => ⟨S4096x1024, .f32⟩
  | .hbm, ⟨5, _⟩ => ⟨S4096x1024, .f32⟩
  | .hbm, ⟨6, _⟩ => ⟨S4096x512, .f32⟩
  | .hbm, ⟨7, _⟩ => ⟨S4096x4x256, .f32⟩
  | .hbm, ⟨8, _⟩ => ⟨S4096x4x256, .f32⟩
  | .hbm, ⟨9, _⟩ => ⟨S4096x4x128, .f32⟩
  | .hbm, ⟨10, _⟩ => ⟨S4x4096x4096, .f32⟩
  | .hbm, ⟨11, _⟩ => ⟨S_, .f32⟩
  | .hbm, ⟨12, _⟩ => ⟨S4x4096, .f32⟩
  | .hbm, ⟨13, _⟩ => ⟨S4x4096x1, .f32⟩
  | .hbm, ⟨14, _⟩ => ⟨S4x4096x4096, .f32⟩
  | .hbm, ⟨15, _⟩ => ⟨S4x4096x4096, .i1⟩
  | .hbm, ⟨16, _⟩ => ⟨S4x4096x4096, .f32⟩
  | .hbm, ⟨17, _⟩ => ⟨S_, .f32⟩
  | .hbm, ⟨18, _⟩ => ⟨S4x4096, .f32⟩
  | .hbm, ⟨19, _⟩ => ⟨S_, .f32⟩
  | .hbm, ⟨20, _⟩ => ⟨S4x4096, .f32⟩
  | .hbm, ⟨21, _⟩ => ⟨S4x4096, .f32⟩
  | .hbm, ⟨22, _⟩ => ⟨S_, .f32⟩
  | .hbm, ⟨23, _⟩ => ⟨S4x4096, .f32⟩
  | .hbm, ⟨24, _⟩ => ⟨S4x4096, .i1⟩
  | .hbm, ⟨25, _⟩ => ⟨S_, .f32⟩
  | .hbm, ⟨26, _⟩ => ⟨S4x4096, .f32⟩
  | .hbm, ⟨27, _⟩ => ⟨S4x4096, .i1⟩
  | .hbm, ⟨28, _⟩ => ⟨S_, .f32⟩
  | .hbm, ⟨29, _⟩ => ⟨S4x4096, .f32⟩
  | .hbm, ⟨30, _⟩ => ⟨S_, .f32⟩
  | .hbm, ⟨31, _⟩ => ⟨S4x4096, .f32⟩
  | .hbm, ⟨32, _⟩ => ⟨S_, .f32⟩
  | .hbm, ⟨33, _⟩ => ⟨S4x4096, .f32⟩
  | .hbm, ⟨34, _⟩ => ⟨S4x4096, .f32⟩
  | .hbm, ⟨35, _⟩ => ⟨S4x4096, .f32⟩
  | .hbm, ⟨36, _⟩ => ⟨S4x4096x1, .f32⟩
  | .hbm, ⟨37, _⟩ => ⟨S4x4096x4096, .f32⟩
  | .hbm, ⟨38, _⟩ => ⟨S4x4096x4096, .f32⟩
  | .hbm, ⟨39, _⟩ => ⟨S4x4096x4096, .f32⟩
  | .hbm, ⟨40, _⟩ => ⟨S_, .f32⟩
  | .hbm, ⟨41, _⟩ => ⟨S4x4096, .f32⟩
  | .hbm, ⟨42, _⟩ => ⟨S4x4096x1, .f32⟩
  | .hbm, ⟨43, _⟩ => ⟨S4x4096x4096, .f32⟩
  | .hbm, ⟨44, _⟩ => ⟨S4x4096x4096, .f32⟩
  | .hbm, ⟨45, _⟩ => ⟨S4x4096x1, .f32⟩
  | .hbm, ⟨46, _⟩ => ⟨S_, .f32⟩
  | .hbm, ⟨47, _⟩ => ⟨S4x4096x1, .f32⟩
  | .hbm, ⟨48, _⟩ => ⟨S4x4096x1, .f32⟩
  | .hbm, ⟨49, _⟩ => ⟨S4x128x4096, .f32⟩
  | .hbm, ⟨50, _⟩ => ⟨S4096x4x128, .f32⟩
  | .hbm, ⟨51, _⟩ => ⟨S4096x512, .f32⟩
  | .hbm, ⟨52, _⟩ => ⟨S4096x4x128, .f32⟩
  | .hbm, ⟨53, _⟩ => ⟨S4x128x4096, .f32⟩
  | .hbm, ⟨54, _⟩ => ⟨S4x4096x4096, .f32⟩
  | .hbm, ⟨55, _⟩ => ⟨S4x128x4096, .f32⟩
  | .hbm, ⟨56, _⟩ => ⟨S4096x4x128, .f32⟩
  | .hbm, ⟨57, _⟩ => ⟨S4x4096x4096, .f32⟩
  | .hbm, ⟨58, _⟩ => ⟨S4x4096x4096, .f32⟩
  | .hbm, ⟨59, _⟩ => ⟨S4x4096x4096, .f32⟩
  | .hbm, ⟨60, _⟩ => ⟨S_, .f32⟩
  | .hbm, ⟨61, _⟩ => ⟨S4x4096, .f32⟩
  | .hbm, ⟨62, _⟩ => ⟨S4x4096x1, .f32⟩
  | .hbm, ⟨63, _⟩ => ⟨S4x4096x1, .f32⟩
  | .hbm, ⟨64, _⟩ => ⟨S4x4096x4096, .f32⟩
  | .hbm, ⟨65, _⟩ => ⟨S4x4096x4096, .f32⟩
  | .hbm, ⟨66, _⟩ => ⟨S_, .f32⟩
  | .hbm, ⟨67, _⟩ => ⟨S4x4096, .f32⟩
  | .hbm, ⟨68, _⟩ => ⟨S4x4096x4096, .f32⟩
  | .hbm, ⟨69, _⟩ => ⟨S4x4096x4096, .f32⟩
  | .hbm, ⟨70, _⟩ => ⟨S4x4096x4096, .f32⟩
  | .hbm, ⟨71, _⟩ => ⟨S4x4096x256, .f32⟩
  | .hbm, ⟨72, _⟩ => ⟨S4096x4x256, .f32⟩
  | .hbm, ⟨73, _⟩ => ⟨S4x4096x256, .f32⟩
  | .hbm, ⟨74, _⟩ => ⟨S4096x4x256, .f32⟩
  | .hbm, ⟨75, _⟩ => ⟨S4096x512, .f32⟩
  | .hbm, ⟨76, _⟩ => ⟨S4096x1024, .f32⟩
  | .hbm, ⟨77, _⟩ => ⟨S4096x1024, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst_0 : Ref sig .tc := ⟨.hbm, 17, rfl⟩
abbrev main_v12 : Ref sig .tc := ⟨.hbm, 18, rfl⟩
abbrev main_cst_1 : Ref sig .tc := ⟨.hbm, 19, rfl⟩
abbrev main_v13 : Ref sig .tc := ⟨.hbm, 20, rfl⟩
abbrev main_v14 : Ref sig .tc := ⟨.hbm, 21, rfl⟩
abbrev main_cst_2 : Ref sig .tc := ⟨.hbm, 22, rfl⟩
abbrev main_v15 : Ref sig .tc := ⟨.hbm, 23, rfl⟩
abbrev main_v16 : Ref sig .tc := ⟨.hbm, 24, rfl⟩
abbrev main_cst_3 : Ref sig .tc := ⟨.hbm, 25, rfl⟩
abbrev main_v17 : Ref sig .tc := ⟨.hbm, 26, rfl⟩
abbrev main_v18 : Ref sig .tc := ⟨.hbm, 27, rfl⟩
abbrev main_cst_4 : Ref sig .tc := ⟨.hbm, 28, rfl⟩
abbrev main_v19 : Ref sig .tc := ⟨.hbm, 29, rfl⟩
abbrev main_cst_5 : Ref sig .tc := ⟨.hbm, 30, rfl⟩
abbrev main_v20 : Ref sig .tc := ⟨.hbm, 31, rfl⟩
abbrev main_cst_6 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_cst_7 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_cst_8 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_cst_9 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_cst_10 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩

abbrev nD : Nat := 1
abbrev τ : Topo := Topo.v7x

variable {F : FTy → Type} [FloatOps F]
-- ==== InDh.lean ====
abbrev S4096x6144 : Shape := ⟨2, ![4096, 6144]⟩
abbrev S6144x2048 : Shape := ⟨2, ![6144, 2048]⟩
abbrev S4096x2048 : Shape := ⟨2, ![4096, 2048]⟩
abbrev S512x6144 : Shape := ⟨2, ![512, 6144]⟩
abbrev S6144x512 : Shape := ⟨2, ![6144, 512]⟩
abbrev S512x512 : Shape := ⟨2, ![512, 512]⟩

abbrev nBuf : Space → Nat
  | .hbm => 3
  | .vmem => 6
  | .smem => 0
  | _ => 0

abbrev bufTy : (tb : Table) → Fin (tcTables nBuf tb) → BufTy
  | .hbm, ⟨0, _⟩ => ⟨S4096x6144, .bf16⟩
  | .hbm, ⟨1, _⟩ => ⟨S6144x2048, .bf16⟩
  | .hbm, ⟨2, _⟩ => ⟨S4096x2048, .f32⟩
  | .local _ .vmem, ⟨0, _⟩ => ⟨S512x6144, .bf16⟩
  | .local _ .vmem, ⟨1, _⟩ => ⟨S512x6144, .bf16⟩
  | .local _ .vmem, ⟨2, _⟩ => ⟨S6144x512, .bf16⟩
  | .local _ .vmem, ⟨3, _⟩ => ⟨S6144x512, .bf16⟩
  | .local _ .vmem, ⟨4, _⟩ => ⟨S512x512, .f32⟩
  | .local _ .vmem, ⟨5, _⟩ => ⟨S512x512, .f32⟩
  | _, _ => ⟨S4096x6144, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S512x6144 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S6144x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== InDhReferenceIdeal.lean ====
abbrev S4096x6144 : Shape := ⟨2, ![4096, 6144]⟩
abbrev S6144x2048 : Shape := ⟨2, ![6144, 2048]⟩
abbrev S_ : Shape := ⟨0, ![]⟩
abbrev S4096x2048 : Shape := ⟨2, ![4096, 2048]⟩
abbrev S2048x6144 : Shape := ⟨2, ![2048, 6144]⟩

abbrev nBuf : Space → Nat
  | .hbm => 9
  | .vmem => 0
  | .smem => 0
  | _ => 0

abbrev bufTy : (tb : Table) → Fin (tcTables nBuf tb) → BufTy
  | .hbm, ⟨0, _⟩ => ⟨S4096x6144, .bf16⟩
  | .hbm, ⟨1, _⟩ => ⟨S6144x2048, .bf16⟩
  | .hbm, ⟨2, _⟩ => ⟨S_, .f32⟩
  | .hbm, ⟨3, _⟩ => ⟨S4096x2048, .f32⟩
  | .hbm, ⟨4, _⟩ => ⟨S6144x2048, .f32⟩
  | .hbm, ⟨5, _⟩ => ⟨S2048x6144, .f32⟩
  | .hbm, ⟨6, _⟩ => ⟨S4096x6144, .f32⟩
  | .hbm, ⟨7, _⟩ => ⟨S4096x6144, .f32⟩
  | .hbm, ⟨8, _⟩ => ⟨S4096x2048, .f32⟩
  | _, _ => ⟨S4096x6144, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== InDw.lean ====
abbrev S4096x6144 : Shape := ⟨2, ![4096, 6144]⟩
abbrev S4096x2048 : Shape := ⟨2, ![4096, 2048]⟩
abbrev S6144x2048 : Shape := ⟨2, ![6144, 2048]⟩
abbrev S4096x512 : Shape := ⟨2, ![4096, 512]⟩
abbrev S4096x1024 : Shape := ⟨2, ![4096, 1024]⟩
abbrev S512x1024 : Shape := ⟨2, ![512, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x6144, .bf16⟩
  | .hbm, ⟨1, _⟩ => ⟨S4096x2048, .bf16⟩
  | .hbm, ⟨2, _⟩ => ⟨S6144x2048, .f32⟩
  | .local _ .vmem, ⟨0, _⟩ => ⟨S4096x512, .bf16⟩
  | .local _ .vmem, ⟨1, _⟩ => ⟨S4096x512, .bf16⟩
  | .local _ .vmem, ⟨2, _⟩ => ⟨S4096x1024, .bf16⟩
  | .local _ .vmem, ⟨3, _⟩ => ⟨S4096x1024, .bf16⟩
  | .local _ .vmem, ⟨4, _⟩ => ⟨S512x1024, .f32⟩
  | .local _ .vmem, ⟨5, _⟩ => ⟨S512x1024, .f32⟩
  | _, _ => ⟨S4096x6144, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 12, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S4096x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== InDwReferenceIdeal.lean ====
abbrev S4096x6144 : Shape := ⟨2, ![4096, 6144]⟩
abbrev S4096x2048 : Shape := ⟨2, ![4096, 2048]⟩
abbrev S_ : Shape := ⟨0, ![]⟩
abbrev S6144x2048 : Shape := ⟨2, ![6144, 2048]⟩
abbrev S2048x6144 : Shape := ⟨2, ![2048, 6144]⟩

abbrev nBuf : Space → Nat
  | .hbm => 11
  | .vmem => 0
  | .smem => 0
  | _ => 0

abbrev bufTy : (tb : Table) → Fin (tcTables nBuf tb) → BufTy
  | .hbm, ⟨0, _⟩ => ⟨S4096x6144, .bf16⟩
  | .hbm, ⟨1, _⟩ => ⟨S4096x2048, .bf16⟩
  | .hbm, ⟨2, _⟩ => ⟨S_, .f32⟩
  | .hbm, ⟨3, _⟩ => ⟨S6144x2048, .f32⟩
  | .hbm, ⟨4, _⟩ => ⟨S4096x2048, .f32⟩
  | .hbm, ⟨5, _⟩ => ⟨S2048x6144, .f32⟩
  | .hbm, ⟨6, _⟩ => ⟨S4096x6144, .f32⟩
  | .hbm, ⟨7, _⟩ => ⟨S4096x6144, .f32⟩
  | .hbm, ⟨8, _⟩ => ⟨S6144x2048, .f32⟩
  | .hbm, ⟨9, _⟩ => ⟨S2048x6144, .f32⟩
  | .hbm, ⟨10, _⟩ => ⟨S6144x2048, .f32⟩
  | _, _ => ⟨S4096x6144, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== OutDy.lean ====
abbrev S4096x2048 : Shape := ⟨2, ![4096, 2048]⟩
abbrev S2048x2048 : Shape := ⟨2, ![2048, 2048]⟩
abbrev S512x2048 : Shape := ⟨2, ![512, 2048]⟩
abbrev S1024x2048 : Shape := ⟨2, ![1024, 2048]⟩
abbrev S512x1024 : Shape := ⟨2, ![512, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x2048, .f32⟩
  | .hbm, ⟨1, _⟩ => ⟨S2048x2048, .bf16⟩
  | .hbm, ⟨2, _⟩ => ⟨S4096x2048, .f32⟩
  | .local _ .vmem, ⟨0, _⟩ => ⟨S512x2048, .f32⟩
  | .local _ .vmem, ⟨1, _⟩ => ⟨S512x2048, .f32⟩
  | .local _ .vmem, ⟨2, _⟩ => ⟨S1024x2048, .bf16⟩
  | .local _ .vmem, ⟨3, _⟩ => ⟨S1024x2048, .bf16⟩
  | .local _ .vmem, ⟨4, _⟩ => ⟨S512x1024, .f32⟩
  | .local _ .vmem, ⟨5, _⟩ => ⟨S512x1024, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== OutDyReferenceIdeal.lean ====
abbrev S4096x2048 : Shape := ⟨2, ![4096, 2048]⟩
abbrev S2048x2048 : Shape := ⟨2, ![2048, 2048]⟩
abbrev S_ : Shape := ⟨0, ![]⟩

abbrev nBuf : Space → Nat
  | .hbm => 10
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S2048x2048, .bf16⟩
  | .hbm, ⟨2, _⟩ => ⟨S_, .f32⟩
  | .hbm, ⟨3, _⟩ => ⟨S4096x2048, .f32⟩
  | .hbm, ⟨4, _⟩ => ⟨S_, .f32⟩
  | .hbm, ⟨5, _⟩ => ⟨S4096x2048, .f32⟩
  | .hbm, ⟨6, _⟩ => ⟨S2048x2048, .f32⟩
  | .hbm, ⟨7, _⟩ => ⟨S4096x2048, .f32⟩
  | .hbm, ⟨8, _⟩ => ⟨S4096x2048, .f32⟩
  | .hbm, ⟨9, _⟩ => ⟨S4096x2048, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_cst_0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩

abbrev nD : Nat := 1
abbrev τ : Topo := Topo.v7x

variable {F : FTy → Type} [FloatOps F]
-- ==== OutDw.lean ====
abbrev S4096x2048 : Shape := ⟨2, ![4096, 2048]⟩
abbrev S2048x2048 : Shape := ⟨2, ![2048, 2048]⟩
abbrev S4096x512 : Shape := ⟨2, ![4096, 512]⟩
abbrev S512x512 : Shape := ⟨2, ![512, 512]⟩

abbrev nBuf : Space → Nat
  | .hbm => 3
  | .vmem => 6
  | .smem => 0
  | _ => 0

abbrev bufTy : (tb : Table) → Fin (tcTables nBuf tb) → BufTy
  | .hbm, ⟨0, _⟩ => ⟨S4096x2048, .bf16⟩
  | .hbm, ⟨1, _⟩ => ⟨S4096x2048, .f32⟩
  | .hbm, ⟨2, _⟩ => ⟨S2048x2048, .f32⟩
  | .local _ .vmem, ⟨0, _⟩ => ⟨S4096x512, .bf16⟩
  | .local _ .vmem, ⟨1, _⟩ => ⟨S4096x512, .bf16⟩
  | .local _ .vmem, ⟨2, _⟩ => ⟨S4096x512, .f32⟩
  | .local _ .vmem, ⟨3, _⟩ => ⟨S4096x512, .f32⟩
  | .local _ .vmem, ⟨4, _⟩ => ⟨S512x512, .f32⟩
  | .local _ .vmem, ⟨5, _⟩ => ⟨S512x512, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S4096x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S4096x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== OutDwReferenceIdeal.lean ====
abbrev S4096x2048 : Shape := ⟨2, ![4096, 2048]⟩
abbrev S_ : Shape := ⟨0, ![]⟩
abbrev S2048x2048 : Shape := ⟨2, ![2048, 2048]⟩

abbrev nBuf : Space → Nat
  | .hbm => 11
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4096x2048, .f32⟩
  | .hbm, ⟨2, _⟩ => ⟨S_, .f32⟩
  | .hbm, ⟨3, _⟩ => ⟨S4096x2048, .f32⟩
  | .hbm, ⟨4, _⟩ => ⟨S_, .f32⟩
  | .hbm, ⟨5, _⟩ => ⟨S2048x2048, .f32⟩
  | .hbm, ⟨6, _⟩ => ⟨S4096x2048, .f32⟩
  | .hbm, ⟨7, _⟩ => ⟨S4096x2048, .f32⟩
  | .hbm, ⟨8, _⟩ => ⟨S4096x2048, .f32⟩
  | .hbm, ⟨9, _⟩ => ⟨S2048x2048, .f32⟩
  | .hbm, ⟨10, _⟩ => ⟨S2048x2048, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_cst_0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩

abbrev nD : Nat := 1
abbrev τ : Topo := Topo.v7x

variable {F : FTy → Type} [FloatOps F]
-- ==== InFwd.lean ====
abbrev S4096x2048 : Shape := ⟨2, ![4096, 2048]⟩
abbrev S6144x2048 : Shape := ⟨2, ![6144, 2048]⟩
abbrev S4096x6144 : Shape := ⟨2, ![4096, 6144]⟩
abbrev S512x2048 : Shape := ⟨2, ![512, 2048]⟩
abbrev S1024x2048 : Shape := ⟨2, ![1024, 2048]⟩
abbrev S512x1024 : Shape := ⟨2, ![512, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x2048, .bf16⟩
  | .hbm, ⟨1, _⟩ => ⟨S6144x2048, .bf16⟩
  | .hbm, ⟨2, _⟩ => ⟨S4096x6144, .f32⟩
  | .local _ .vmem, ⟨0, _⟩ => ⟨S512x2048, .bf16⟩
  | .local _ .vmem, ⟨1, _⟩ => ⟨S512x2048, .bf16⟩
  | .local _ .vmem, ⟨2, _⟩ => ⟨S1024x2048, .bf16⟩
  | .local _ .vmem, ⟨3, _⟩ => ⟨S1024x2048, .bf16⟩
  | .local _ .vmem, ⟨4, _⟩ => ⟨S512x1024, .f32⟩
  | .local _ .vmem, ⟨5, _⟩ => ⟨S512x1024, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![6, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== InFwdReferenceIdeal.lean ====
abbrev S4096x2048 : Shape := ⟨2, ![4096, 2048]⟩
abbrev S6144x2048 : Shape := ⟨2, ![6144, 2048]⟩
abbrev S2048x6144 : Shape := ⟨2, ![2048, 6144]⟩
abbrev S4096x6144 : Shape := ⟨2, ![4096, 6144]⟩

abbrev nBuf : Space → Nat
  | .hbm => 6
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S6144x2048, .bf16⟩
  | .hbm, ⟨2, _⟩ => ⟨S4096x2048, .f32⟩
  | .hbm, ⟨3, _⟩ => ⟨S6144x2048, .f32⟩
  | .hbm, ⟨4, _⟩ => ⟨S2048x6144, .f32⟩
  | .hbm, ⟨5, _⟩ => ⟨S4096x6144, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== OutFwd.lean ====
abbrev S4096x2048 : Shape := ⟨2, ![4096, 2048]⟩
abbrev S2048x2048 : Shape := ⟨2, ![2048, 2048]⟩
abbrev S512x2048 : Shape := ⟨2, ![512, 2048]⟩
abbrev S2048x1024 : Shape := ⟨2, ![2048, 1024]⟩
abbrev S512x1024 : Shape := ⟨2, ![512, 1024]⟩

abbrev nBuf : Space → Nat
  | .hbm => 4
  | .vmem => 8
  | .smem => 0
  | _ => 0

abbrev bufTy : (tb : Table) → Fin (tcTables nBuf tb) → BufTy
  | .hbm, ⟨0, _⟩ => ⟨S4096x2048, .f32⟩
  | .hbm, ⟨1, _⟩ => ⟨S4096x2048, .bf16⟩
  | .hbm, ⟨2, _⟩ => ⟨S2048x2048, .bf16⟩
  | .hbm, ⟨3, _⟩ => ⟨S4096x2048, .f32⟩
  | .local _ .vmem, ⟨0, _⟩ => ⟨S512x2048, .bf16⟩
  | .local _ .vmem, ⟨1, _⟩ => ⟨S512x2048, .bf16⟩
  | .local _ .vmem, ⟨2, _⟩ => ⟨S2048x1024, .bf16⟩
  | .local _ .vmem, ⟨3, _⟩ => ⟨S2048x1024, .bf16⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![2, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== OutFwdReferenceIdeal.lean ====
abbrev S4096x2048 : Shape := ⟨2, ![4096, 2048]⟩
abbrev S2048x2048 : Shape := ⟨2, ![2048, 2048]⟩

abbrev nBuf : Space → Nat
  | .hbm => 7
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S4096x2048, .bf16⟩
  | .hbm, ⟨2, _⟩ => ⟨S2048x2048, .bf16⟩
  | .hbm, ⟨3, _⟩ => ⟨S4096x2048, .f32⟩
  | .hbm, ⟨4, _⟩ => ⟨S2048x2048, .f32⟩
  | .hbm, ⟨5, _⟩ => ⟨S4096x2048, .f32⟩
  | .hbm, ⟨6, _⟩ => ⟨S4096x2048, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== OutLoss.lean ====
abbrev S4096x2048 : Shape := ⟨2, ![4096, 2048]⟩
abbrev S2048x2048 : Shape := ⟨2, ![2048, 2048]⟩
abbrev S1x1 : Shape := ⟨2, ![1, 1]⟩
abbrev S512x2048 : Shape := ⟨2, ![512, 2048]⟩
abbrev S2048x1024 : Shape := ⟨2, ![2048, 1024]⟩
abbrev S512x1024 : Shape := ⟨2, ![512, 1024]⟩
abbrev S512 : Shape := ⟨1, ![512]⟩
abbrev S512x1 : Shape := ⟨2, ![512, 1]⟩
abbrev S1 : Shape := ⟨1, ![1]⟩

abbrev nBuf : Space → Nat
  | .hbm => 6
  | .vmem => 11
  | .smem => 0
  | _ => 0

abbrev bufTy : (tb : Table) → Fin (tcTables nBuf tb) → BufTy
  | .hbm, ⟨0, _⟩ => ⟨S4096x2048, .bf16⟩
  | .hbm, ⟨1, _⟩ => ⟨S2048x2048, .bf16⟩
  | .hbm, ⟨2, _⟩ => ⟨S4096x2048, .f32⟩
  | .hbm, ⟨3, _⟩ => ⟨S4096x2048, .f32⟩
  | .hbm, ⟨4, _⟩ => ⟨S4096x2048, .f32⟩
  | .hbm, ⟨5, _⟩ => ⟨S1x1, .f32⟩
  | .local _ .vmem, ⟨0, _⟩ => ⟨S512x2048, .bf16⟩
  | .local _ .vmem, ⟨1, _⟩ => ⟨S512x2048, .bf16⟩
  | .local _ .vmem, ⟨2, _⟩ => ⟨S2048x1024, .bf16⟩
  | .local _ .vmem, ⟨3, _⟩ => ⟨S2048x1024, .bf16⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S1x1, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10

abbrev nD : Nat := 1
abbrev τ : Topo := Topo.v7x

variable {F : FTy → Type} [FloatOps F]

abbrev grid0 : Pipeline.Grid := ⟨2, ![2, 8], ![false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let arg1 : BitVec 32 := BitVec.ofNat 32 (i 1).val
  let c0_i32_0 : BitVec 32 := 0#32
  let v1 : BitVec 1 := Scalar.cmpi .eq arg1 c0_i32_0
  let v2 : BitVec 1 := Scalar.andi v0 v1
  let v20 : BitVec 32 := Scalar.extui v2
  let c0_i32_14 : BitVec 32 := 0#32
  let v21 : BitVec 1 := Scalar.cmpi .ne v20 c0_i32_14
  v21

def k0_cond2 (i : grid0.Coords) : BitVec 1 :=
  let arg0 : BitVec 32 := BitVec.ofNat 32 (i 0).val
  let c0_i32 : BitVec 32 := 0#32
  let v0 : BitVec 1 := Scalar.cmpi .eq arg0 c0_i32
  let arg1 : BitVec 32 := BitVec.ofNat 32 (i 1).val
  let c0_i32_0 : BitVec 32 := 0#32
  let v1 : BitVec 1 := Scalar.cmpi .eq arg1 c0_i32_0
  let v2 : BitVec 1 := Scalar.andi v0 v1
  let v_true : BitVec 1 := 1#1
  let v22 : BitVec 1 := Scalar.xori v2 v_true
  let v23 : BitVec 32 := Scalar.extui v22
  let c0_i32_15 : BitVec 32 := 0#32
  let v24 : BitVec 1 := Scalar.cmpi .ne v23 c0_i32_15
  v24

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 1 → Memref sig .tc .vmem S1x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]
-- ==== OutLossReferenceIdeal.lean ====
abbrev S4096x2048 : Shape := ⟨2, ![4096, 2048]⟩
abbrev S2048x2048 : Shape := ⟨2, ![2048, 2048]⟩
abbrev S_ : Shape := ⟨0, ![]⟩
abbrev S4096 : Shape := ⟨1, ![4096]⟩
abbrev S1x1 : Shape := ⟨2, ![1, 1]⟩

abbrev nBuf : Space → Nat
  | .hbm => 32
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2048x2048, .bf16⟩
  | .hbm, ⟨2, _⟩ => ⟨S4096x2048, .f32⟩
  | .hbm, ⟨3, _⟩ => ⟨S4096x2048, .f32⟩
  | .hbm, ⟨4, _⟩ => ⟨S4096x2048, .f32⟩
  | .hbm, ⟨5, _⟩ => ⟨S2048x2048, .f32⟩
  | .hbm, ⟨6, _⟩ => ⟨S4096x2048, .f32⟩
  | .hbm, ⟨7, _⟩ => ⟨S4096x2048, .f32⟩
  | .hbm, ⟨8, _⟩ => ⟨S4096x2048, .f32⟩
  | .hbm, ⟨9, _⟩ => ⟨S4096x2048, .f32⟩
  | .hbm, ⟨10, _⟩ => ⟨S_, .f32⟩
  | .hbm, ⟨11, _⟩ => ⟨S4096x2048, .f32⟩
  | .hbm, ⟨12, _⟩ => ⟨S4096x2048, .f32⟩
  | .hbm, ⟨13, _⟩ => ⟨S_, .f32⟩
  | .hbm, ⟨14, _⟩ => ⟨S4096, .f32⟩
  | .hbm, ⟨15, _⟩ => ⟨S_, .f32⟩
  | .hbm, ⟨16, _⟩ => ⟨S4096, .f32⟩
  | .hbm, ⟨17, _⟩ => ⟨S4096, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S4096, .f32⟩
  | .hbm, ⟨26, _⟩ => ⟨S_, .f32⟩
  | .hbm, ⟨27, _⟩ => ⟨S4096, .f32⟩
  | .hbm, ⟨28, _⟩ => ⟨S4096, .f32⟩
  | .hbm, ⟨29, _⟩ => ⟨S4096x2048, .f32⟩
  | .hbm, ⟨30, _⟩ => ⟨S4096x2048, .f32⟩
  | .hbm, ⟨31, _⟩ => ⟨S1x1, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_cst_2 : Ref sig .tc := ⟨.hbm, 18, rfl⟩
abbrev main_v11 : Ref sig .tc := ⟨.hbm, 19, rfl⟩
abbrev main_cst_3 : Ref sig .tc := ⟨.hbm, 20, rfl⟩
abbrev main_v12 : Ref sig .tc := ⟨.hbm, 21, rfl⟩
abbrev main_cst_4 : Ref sig .tc := ⟨.hbm, 22, rfl⟩
abbrev main_cst_5 : Ref sig .tc := ⟨.hbm, 23, rfl⟩
abbrev main_v13 : Ref sig .tc := ⟨.hbm, 24, rfl⟩
abbrev main_v14 : Ref sig .tc := ⟨.hbm, 25, rfl⟩
abbrev main_cst_6 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩

abbrev nD : Nat := 1
abbrev τ : Topo := Topo.v7x

variable {F : FTy → Type} [FloatOps F]
-- ==== AdamWIn.lean ====
abbrev S2x2048x1496 : Shape := ⟨3, ![2, 2048, 1496]⟩
abbrev S2x1496x2048 : Shape := ⟨3, ![2, 1496, 2048]⟩
abbrev S2992x2048 : Shape := ⟨2, ![2992, 2048]⟩
abbrev S88x2048 : Shape := ⟨2, ![88, 2048]⟩

abbrev nBuf : Space → Nat
  | .hbm => 20
  | .vmem => 14
  | .smem => 0
  | _ => 0

abbrev bufTy : (tb : Table) → Fin (tcTables nBuf tb) → BufTy
  | .hbm, ⟨0, _⟩ => ⟨S2x2048x1496, .f32⟩
  | .hbm, ⟨1, _⟩ => ⟨S2x1496x2048, .f32⟩
  | .hbm, ⟨2, _⟩ => ⟨S2x2048x1496, .f32⟩
  | .hbm, ⟨3, _⟩ => ⟨S2x2048x1496, .f32⟩
  | .hbm, ⟨4, _⟩ => ⟨S2x1496x2048, .f32⟩
  | .hbm, ⟨5, _⟩ => ⟨S2x1496x2048, .f32⟩
  | .hbm, ⟨6, _⟩ => ⟨S2x1496x2048, .f32⟩
  | .hbm, ⟨7, _⟩ => ⟨S2992x2048, .f32⟩
  | .hbm, ⟨8, _⟩ => ⟨S2992x2048, .f32⟩
  | .hbm, ⟨9, _⟩ => ⟨S2992x2048, .f32⟩
  | .hbm, ⟨10, _⟩ => ⟨S2992x2048, .f32⟩
  | .hbm, ⟨11, _⟩ => ⟨S2992x2048, .f32⟩
  | .hbm, ⟨12, _⟩ => ⟨S2992x2048, .f32⟩
  | .hbm, ⟨13, _⟩ => ⟨S2992x2048, .f32⟩
  | .hbm, ⟨14, _⟩ => ⟨S2x1496x2048, .f32⟩
  | .hbm, ⟨15, _⟩ => ⟨S2x1496x2048, .f32⟩
  | .hbm, ⟨16, _⟩ => ⟨S2x1496x2048, .f32⟩
  | .hbm, ⟨17, _⟩ => ⟨S2x2048x1496, .f32⟩
  | .hbm, ⟨18, _⟩ => ⟨S2x2048x1496, .f32⟩
  | .hbm, ⟨19, _⟩ => ⟨S2x2048x1496, .f32⟩
  | .local _ .vmem, ⟨0, _⟩ => ⟨S88x2048, .f32⟩
  | .local _ .vmem, ⟨1, _⟩ => ⟨S88x2048, .f32⟩
  | .local _ .vmem, ⟨2, _⟩ => ⟨S88x2048, .f32⟩
  | .local _ .vmem, ⟨3, _⟩ => ⟨S88x2048, .f32⟩
  | .local _ .vmem, ⟨4, _⟩ => ⟨S88x2048, .f32⟩
  | .local _ .vmem, ⟨5, _⟩ => ⟨S88x2048, .f32⟩
  | .local _ .vmem, ⟨6, _⟩ => ⟨S88x2048, .f32⟩
  | .local _ .vmem, ⟨7, _⟩ => ⟨S88x2048, .f32⟩
  | .local _ .vmem, ⟨8, _⟩ => ⟨S88x2048, .f32⟩
  | .local _ .vmem, ⟨9, _⟩ => ⟨S88x2048, .f32⟩
  | .local _ .vmem, ⟨10, _⟩ => ⟨S88x2048, .f32⟩
  | .local _ .vmem, ⟨11, _⟩ => ⟨S88x2048, .f32⟩
  | .local _ .vmem, ⟨12, _⟩ => ⟨S88x2048, .f32⟩
  | .local _ .vmem, ⟨13, _⟩ => ⟨S88x2048, .f32⟩
  | _, _ => ⟨S2x2048x1496, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7_0 : Ref sig .tc := ⟨.hbm, 11, rfl⟩
abbrev main_v7_1 : Ref sig .tc := ⟨.hbm, 12, rfl⟩
abbrev main_v7_2 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![34], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S88x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S88x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S88x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S88x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S88x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S88x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S88x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamWInReferenceIdeal.lean ====
abbrev S2x2048x1496 : Shape := ⟨3, ![2, 2048, 1496]⟩
abbrev S2x1496x2048 : Shape := ⟨3, ![2, 1496, 2048]⟩
abbrev S_ : Shape := ⟨0, ![]⟩

abbrev nBuf : Space → Nat
  | .hbm => 38
  | .vmem => 0
  | .smem => 0
  | _ => 0

abbrev bufTy : (tb : Table) → Fin (tcTables nBuf tb) → BufTy
  | .hbm, ⟨0, _⟩ => ⟨S2x2048x1496, .f32⟩
  | .hbm, ⟨1, _⟩ => ⟨S2x1496x2048, .f32⟩
  | .hbm, ⟨2, _⟩ => ⟨S2x2048x1496, .f32⟩
  | .hbm, ⟨3, _⟩ => ⟨S2x2048x1496, .f32⟩
  | .hbm, ⟨4, _⟩ => ⟨S2x2048x1496, .f32⟩
  | .hbm, ⟨5, _⟩ => ⟨S_, .f32⟩
  | .hbm, ⟨6, _⟩ => ⟨S2x2048x1496, .f32⟩
  | .hbm, ⟨7, _⟩ => ⟨S2x2048x1496, .f32⟩
  | .hbm, ⟨8, _⟩ => ⟨S_, .f32⟩
  | .hbm, ⟨9, _⟩ => ⟨S2x2048x1496, .f32⟩
  | .hbm, ⟨10, _⟩ => ⟨S2x2048x1496, .f32⟩
  | .hbm, ⟨11, _⟩ => ⟨S2x2048x1496, .f32⟩
  | .hbm, ⟨12, _⟩ => ⟨S_, .f32⟩
  | .hbm, ⟨13, _⟩ => ⟨S2x2048x1496, .f32⟩
  | .hbm, ⟨14, _⟩ => ⟨S2x2048x1496, .f32⟩
  | .hbm, ⟨15, _⟩ => ⟨S2x2048x1496, .f32⟩
  | .hbm, ⟨16, _⟩ => ⟨S_, .f32⟩
  | .hbm, ⟨17, _⟩ => ⟨S2x2048x1496, .f32⟩
  | .hbm, ⟨18, _⟩ => ⟨S2x2048x1496, .f32⟩
  | .hbm, ⟨19, _⟩ => ⟨S2x2048x1496, .f32⟩
  | .hbm, ⟨20, _⟩ => ⟨S_, .f32⟩
  | .hbm, ⟨21, _⟩ => ⟨S2x2048x1496, .f32⟩
  | .hbm, ⟨22, _⟩ => ⟨S2x2048x1496, .f32⟩
  | .hbm, ⟨23, _⟩ => ⟨S_, .f32⟩
  | .hbm, ⟨24, _⟩ => ⟨S2x2048x1496, .f32⟩
  | .hbm, ⟨25, _⟩ => ⟨S2x2048x1496, .f32⟩
  | .hbm, ⟨26, _⟩ => ⟨S2x2048x1496, .f32⟩
  | .hbm, ⟨27, _⟩ => ⟨S_, .f32⟩
  | .hbm, ⟨28, _⟩ => ⟨S2x2048x1496, .f32⟩
  | .hbm, ⟨29, _⟩ => ⟨S2x2048x1496, .f32⟩
  | .hbm, ⟨30, _⟩ => ⟨S2x2048x1496, .f32⟩
  | .hbm, ⟨31, _⟩ => ⟨S_, .f32⟩
  | .hbm, ⟨32, _⟩ => ⟨S2x2048x1496, .f32⟩
  | .hbm, ⟨33, _⟩ => ⟨S2x2048x1496, .f32⟩
  | .hbm, ⟨34, _⟩ => ⟨S2x2048x1496, .f32⟩
  | .hbm, ⟨35, _⟩ => ⟨S_, .f32⟩
  | .hbm, ⟨36, _⟩ => ⟨S2x2048x1496, .f32⟩
  | .hbm, ⟨37, _⟩ => ⟨S2x2048x1496, .f32⟩
  | _, _ => ⟨S2x2048x1496, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_3 : Ref sig .tc := ⟨.hbm, 20, rfl⟩
abbrev main_v12 : Ref sig .tc := ⟨.hbm, 21, rfl⟩
abbrev main_v13 : Ref sig .tc := ⟨.hbm, 22, rfl⟩
abbrev main_cst_4 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_5 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst_6 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_cst_7 : Ref sig .tc := ⟨.hbm, 35, rfl⟩
abbrev main_v23 : Ref sig .tc := ⟨.hbm, 36, rfl⟩
abbrev main_v24 : Ref sig .tc := ⟨.hbm, 37, rfl⟩

abbrev nD : Nat := 1
abbrev τ : Topo := Topo.v7x

variable {F : FTy → Type} [FloatOps F]
-- ==== AdamNorm.lean ====
abbrev S2x2048 : Shape := ⟨2, ![2, 2048]⟩

abbrev nBuf : Space → Nat
  | .hbm => 7
  | .vmem => 7
  | .smem => 0
  | _ => 0

abbrev bufTy : (tb : Table) → Fin (tcTables nBuf tb) → BufTy
  | .hbm, ⟨0, _⟩ => ⟨S2x2048, .f32⟩
  | .hbm, ⟨1, _⟩ => ⟨S2x2048, .f32⟩
  | .hbm, ⟨2, _⟩ => ⟨S2x2048, .f32⟩
  | .hbm, ⟨3, _⟩ => ⟨S2x2048, .f32⟩
  | .hbm, ⟨4, _⟩ => ⟨S2x2048, .f32⟩
  | .hbm, ⟨5, _⟩ => ⟨S2x2048, .f32⟩
  | .hbm, ⟨6, _⟩ => ⟨S2x2048, .f32⟩
  | .local _ .vmem, ⟨0, _⟩ => ⟨S2x2048, .f32⟩
  | .local _ .vmem, ⟨1, _⟩ => ⟨S2x2048, .f32⟩
  | .local _ .vmem, ⟨2, _⟩ => ⟨S2x2048, .f32⟩
  | .local _ .vmem, ⟨3, _⟩ => ⟨S2x2048, .f32⟩
  | .local _ .vmem, ⟨4, _⟩ => ⟨S2x2048, .f32⟩
  | .local _ .vmem, ⟨5, _⟩ => ⟨S2x2048, .f32⟩
  | .local _ .vmem, ⟨6, _⟩ => ⟨S2x2048, .f32⟩
  | _, _ => ⟨S2x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S2x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S2x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S2x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S2x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S2x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S2x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S2x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamNormIdeal.lean ====
abbrev S2x2048 : Shape := ⟨2, ![2, 2048]⟩

abbrev nBuf : Space → Nat
  | .hbm => 7
  | .vmem => 7
  | .smem => 0
  | _ => 0

abbrev bufTy : (tb : Table) → Fin (tcTables nBuf tb) → BufTy
  | .hbm, ⟨0, _⟩ => ⟨S2x2048, .f32⟩
  | .hbm, ⟨1, _⟩ => ⟨S2x2048, .f32⟩
  | .hbm, ⟨2, _⟩ => ⟨S2x2048, .f32⟩
  | .hbm, ⟨3, _⟩ => ⟨S2x2048, .f32⟩
  | .hbm, ⟨4, _⟩ => ⟨S2x2048, .f32⟩
  | .hbm, ⟨5, _⟩ => ⟨S2x2048, .f32⟩
  | .hbm, ⟨6, _⟩ => ⟨S2x2048, .f32⟩
  | .local _ .vmem, ⟨0, _⟩ => ⟨S2x2048, .f32⟩
  | .local _ .vmem, ⟨1, _⟩ => ⟨S2x2048, .f32⟩
  | .local _ .vmem, ⟨2, _⟩ => ⟨S2x2048, .f32⟩
  | .local _ .vmem, ⟨3, _⟩ => ⟨S2x2048, .f32⟩
  | .local _ .vmem, ⟨4, _⟩ => ⟨S2x2048, .f32⟩
  | .local _ .vmem, ⟨5, _⟩ => ⟨S2x2048, .f32⟩
  | .local _ .vmem, ⟨6, _⟩ => ⟨S2x2048, .f32⟩
  | _, _ => ⟨S2x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S2x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S2x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S2x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S2x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S2x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S2x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S2x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamNormReferenceIdeal.lean ====
abbrev S2x2048 : Shape := ⟨2, ![2, 2048]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2x2048, .f32⟩
  | .hbm, ⟨1, _⟩ => ⟨S2x2048, .f32⟩
  | .hbm, ⟨2, _⟩ => ⟨S2x2048, .f32⟩
  | .hbm, ⟨3, _⟩ => ⟨S2x2048, .f32⟩
  | .hbm, ⟨4, _⟩ => ⟨S_, .f32⟩
  | .hbm, ⟨5, _⟩ => ⟨S2x2048, .f32⟩
  | .hbm, ⟨6, _⟩ => ⟨S2x2048, .f32⟩
  | .hbm, ⟨7, _⟩ => ⟨S_, .f32⟩
  | .hbm, ⟨8, _⟩ => ⟨S2x2048, .f32⟩
  | .hbm, ⟨9, _⟩ => ⟨S2x2048, .f32⟩
  | .hbm, ⟨10, _⟩ => ⟨S2x2048, .f32⟩
  | .hbm, ⟨11, _⟩ => ⟨S_, .f32⟩
  | .hbm, ⟨12, _⟩ => ⟨S2x2048, .f32⟩
  | .hbm, ⟨13, _⟩ => ⟨S2x2048, .f32⟩
  | .hbm, ⟨14, _⟩ => ⟨S2x2048, .f32⟩
  | .hbm, ⟨15, _⟩ => ⟨S_, .f32⟩
  | .hbm, ⟨16, _⟩ => ⟨S2x2048, .f32⟩
  | .hbm, ⟨17, _⟩ => ⟨S2x2048, .f32⟩
  | .hbm, ⟨18, _⟩ => ⟨S2x2048, .f32⟩
  | .hbm, ⟨19, _⟩ => ⟨S_, .f32⟩
  | .hbm, ⟨20, _⟩ => ⟨S2x2048, .f32⟩
  | .hbm, ⟨21, _⟩ => ⟨S2x2048, .f32⟩
  | .hbm, ⟨22, _⟩ => ⟨S_, .f32⟩
  | .hbm, ⟨23, _⟩ => ⟨S2x2048, .f32⟩
  | .hbm, ⟨24, _⟩ => ⟨S2x2048, .f32⟩
  | .hbm, ⟨25, _⟩ => ⟨S2x2048, .f32⟩
  | .hbm, ⟨26, _⟩ => ⟨S_, .f32⟩
  | .hbm, ⟨27, _⟩ => ⟨S2x2048, .f32⟩
  | .hbm, ⟨28, _⟩ => ⟨S2x2048, .f32⟩
  | .hbm, ⟨29, _⟩ => ⟨S2x2048, .f32⟩
  | .hbm, ⟨30, _⟩ => ⟨S_, .f32⟩
  | .hbm, ⟨31, _⟩ => ⟨S2x2048, .f32⟩
  | .hbm, ⟨32, _⟩ => ⟨S2x2048, .f32⟩
  | .hbm, ⟨33, _⟩ => ⟨S2x2048, .f32⟩
  | .hbm, ⟨34, _⟩ => ⟨S_, .f32⟩
  | .hbm, ⟨35, _⟩ => ⟨S2x2048, .f32⟩
  | .hbm, ⟨36, _⟩ => ⟨S2x2048, .f32⟩
  | _, _ => ⟨S2x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamGroup.lean ====
abbrev S2x512 : Shape := ⟨2, ![2, 512]⟩

abbrev nBuf : Space → Nat
  | .hbm => 7
  | .vmem => 7
  | .smem => 0
  | _ => 0

abbrev bufTy : (tb : Table) → Fin (tcTables nBuf tb) → BufTy
  | .hbm, ⟨0, _⟩ => ⟨S2x512, .f32⟩
  | .hbm, ⟨1, _⟩ => ⟨S2x512, .f32⟩
  | .hbm, ⟨2, _⟩ => ⟨S2x512, .f32⟩
  | .hbm, ⟨3, _⟩ => ⟨S2x512, .f32⟩
  | .hbm, ⟨4, _⟩ => ⟨S2x512, .f32⟩
  | .hbm, ⟨5, _⟩ => ⟨S2x512, .f32⟩
  | .hbm, ⟨6, _⟩ => ⟨S2x512, .f32⟩
  | .local _ .vmem, ⟨0, _⟩ => ⟨S2x512, .f32⟩
  | .local _ .vmem, ⟨1, _⟩ => ⟨S2x512, .f32⟩
  | .local _ .vmem, ⟨2, _⟩ => ⟨S2x512, .f32⟩
  | .local _ .vmem, ⟨3, _⟩ => ⟨S2x512, .f32⟩
  | .local _ .vmem, ⟨4, _⟩ => ⟨S2x512, .f32⟩
  | .local _ .vmem, ⟨5, _⟩ => ⟨S2x512, .f32⟩
  | .local _ .vmem, ⟨6, _⟩ => ⟨S2x512, .f32⟩
  | _, _ => ⟨S2x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S2x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S2x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S2x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S2x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S2x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S2x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S2x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamGroupIdeal.lean ====
abbrev S2x512 : Shape := ⟨2, ![2, 512]⟩

abbrev nBuf : Space → Nat
  | .hbm => 7
  | .vmem => 7
  | .smem => 0
  | _ => 0

abbrev bufTy : (tb : Table) → Fin (tcTables nBuf tb) → BufTy
  | .hbm, ⟨0, _⟩ => ⟨S2x512, .f32⟩
  | .hbm, ⟨1, _⟩ => ⟨S2x512, .f32⟩
  | .hbm, ⟨2, _⟩ => ⟨S2x512, .f32⟩
  | .hbm, ⟨3, _⟩ => ⟨S2x512, .f32⟩
  | .hbm, ⟨4, _⟩ => ⟨S2x512, .f32⟩
  | .hbm, ⟨5, _⟩ => ⟨S2x512, .f32⟩
  | .hbm, ⟨6, _⟩ => ⟨S2x512, .f32⟩
  | .local _ .vmem, ⟨0, _⟩ => ⟨S2x512, .f32⟩
  | .local _ .vmem, ⟨1, _⟩ => ⟨S2x512, .f32⟩
  | .local _ .vmem, ⟨2, _⟩ => ⟨S2x512, .f32⟩
  | .local _ .vmem, ⟨3, _⟩ => ⟨S2x512, .f32⟩
  | .local _ .vmem, ⟨4, _⟩ => ⟨S2x512, .f32⟩
  | .local _ .vmem, ⟨5, _⟩ => ⟨S2x512, .f32⟩
  | .local _ .vmem, ⟨6, _⟩ => ⟨S2x512, .f32⟩
  | _, _ => ⟨S2x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S2x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S2x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S2x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S2x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S2x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S2x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S2x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamGroupReferenceIdeal.lean ====
abbrev S2x512 : Shape := ⟨2, ![2, 512]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2x512, .f32⟩
  | .hbm, ⟨1, _⟩ => ⟨S2x512, .f32⟩
  | .hbm, ⟨2, _⟩ => ⟨S2x512, .f32⟩
  | .hbm, ⟨3, _⟩ => ⟨S2x512, .f32⟩
  | .hbm, ⟨4, _⟩ => ⟨S_, .f32⟩
  | .hbm, ⟨5, _⟩ => ⟨S2x512, .f32⟩
  | .hbm, ⟨6, _⟩ => ⟨S2x512, .f32⟩
  | .hbm, ⟨7, _⟩ => ⟨S_, .f32⟩
  | .hbm, ⟨8, _⟩ => ⟨S2x512, .f32⟩
  | .hbm, ⟨9, _⟩ => ⟨S2x512, .f32⟩
  | .hbm, ⟨10, _⟩ => ⟨S2x512, .f32⟩
  | .hbm, ⟨11, _⟩ => ⟨S_, .f32⟩
  | .hbm, ⟨12, _⟩ => ⟨S2x512, .f32⟩
  | .hbm, ⟨13, _⟩ => ⟨S2x512, .f32⟩
  | .hbm, ⟨14, _⟩ => ⟨S2x512, .f32⟩
  | .hbm, ⟨15, _⟩ => ⟨S_, .f32⟩
  | .hbm, ⟨16, _⟩ => ⟨S2x512, .f32⟩
  | .hbm, ⟨17, _⟩ => ⟨S2x512, .f32⟩
  | .hbm, ⟨18, _⟩ => ⟨S2x512, .f32⟩
  | .hbm, ⟨19, _⟩ => ⟨S_, .f32⟩
  | .hbm, ⟨20, _⟩ => ⟨S2x512, .f32⟩
  | .hbm, ⟨21, _⟩ => ⟨S2x512, .f32⟩
  | .hbm, ⟨22, _⟩ => ⟨S_, .f32⟩
  | .hbm, ⟨23, _⟩ => ⟨S2x512, .f32⟩
  | .hbm, ⟨24, _⟩ => ⟨S2x512, .f32⟩
  | .hbm, ⟨25, _⟩ => ⟨S2x512, .f32⟩
  | .hbm, ⟨26, _⟩ => ⟨S_, .f32⟩
  | .hbm, ⟨27, _⟩ => ⟨S2x512, .f32⟩
  | .hbm, ⟨28, _⟩ => ⟨S2x512, .f32⟩
  | .hbm, ⟨29, _⟩ => ⟨S2x512, .f32⟩
  | .hbm, ⟨30, _⟩ => ⟨S_, .f32⟩
  | .hbm, ⟨31, _⟩ => ⟨S2x512, .f32⟩
  | .hbm, ⟨32, _⟩ => ⟨S2x512, .f32⟩
  | .hbm, ⟨33, _⟩ => ⟨S2x512, .f32⟩
  | .hbm, ⟨34, _⟩ => ⟨S_, .f32⟩
  | .hbm, ⟨35, _⟩ => ⟨S2x512, .f32⟩
  | .hbm, ⟨36, _⟩ => ⟨S2x512, .f32⟩
  | _, _ => ⟨S2x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamHalf.lean ====
abbrev S2x256 : Shape := ⟨2, ![2, 256]⟩

abbrev nBuf : Space → Nat
  | .hbm => 7
  | .vmem => 7
  | .smem => 0
  | _ => 0

abbrev bufTy : (tb : Table) → Fin (tcTables nBuf tb) → BufTy
  | .hbm, ⟨0, _⟩ => ⟨S2x256, .f32⟩
  | .hbm, ⟨1, _⟩ => ⟨S2x256, .f32⟩
  | .hbm, ⟨2, _⟩ => ⟨S2x256, .f32⟩
  | .hbm, ⟨3, _⟩ => ⟨S2x256, .f32⟩
  | .hbm, ⟨4, _⟩ => ⟨S2x256, .f32⟩
  | .hbm, ⟨5, _⟩ => ⟨S2x256, .f32⟩
  | .hbm, ⟨6, _⟩ => ⟨S2x256, .f32⟩
  | .local _ .vmem, ⟨0, _⟩ => ⟨S2x256, .f32⟩
  | .local _ .vmem, ⟨1, _⟩ => ⟨S2x256, .f32⟩
  | .local _ .vmem, ⟨2, _⟩ => ⟨S2x256, .f32⟩
  | .local _ .vmem, ⟨3, _⟩ => ⟨S2x256, .f32⟩
  | .local _ .vmem, ⟨4, _⟩ => ⟨S2x256, .f32⟩
  | .local _ .vmem, ⟨5, _⟩ => ⟨S2x256, .f32⟩
  | .local _ .vmem, ⟨6, _⟩ => ⟨S2x256, .f32⟩
  | _, _ => ⟨S2x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S2x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S2x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S2x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S2x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S2x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S2x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S2x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamHalfIdeal.lean ====
abbrev S2x256 : Shape := ⟨2, ![2, 256]⟩

abbrev nBuf : Space → Nat
  | .hbm => 7
  | .vmem => 7
  | .smem => 0
  | _ => 0

abbrev bufTy : (tb : Table) → Fin (tcTables nBuf tb) → BufTy
  | .hbm, ⟨0, _⟩ => ⟨S2x256, .f32⟩
  | .hbm, ⟨1, _⟩ => ⟨S2x256, .f32⟩
  | .hbm, ⟨2, _⟩ => ⟨S2x256, .f32⟩
  | .hbm, ⟨3, _⟩ => ⟨S2x256, .f32⟩
  | .hbm, ⟨4, _⟩ => ⟨S2x256, .f32⟩
  | .hbm, ⟨5, _⟩ => ⟨S2x256, .f32⟩
  | .hbm, ⟨6, _⟩ => ⟨S2x256, .f32⟩
  | .local _ .vmem, ⟨0, _⟩ => ⟨S2x256, .f32⟩
  | .local _ .vmem, ⟨1, _⟩ => ⟨S2x256, .f32⟩
  | .local _ .vmem, ⟨2, _⟩ => ⟨S2x256, .f32⟩
  | .local _ .vmem, ⟨3, _⟩ => ⟨S2x256, .f32⟩
  | .local _ .vmem, ⟨4, _⟩ => ⟨S2x256, .f32⟩
  | .local _ .vmem, ⟨5, _⟩ => ⟨S2x256, .f32⟩
  | .local _ .vmem, ⟨6, _⟩ => ⟨S2x256, .f32⟩
  | _, _ => ⟨S2x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S2x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S2x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S2x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S2x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S2x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S2x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S2x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamHalfReferenceIdeal.lean ====
abbrev S2x256 : Shape := ⟨2, ![2, 256]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2x256, .f32⟩
  | .hbm, ⟨1, _⟩ => ⟨S2x256, .f32⟩
  | .hbm, ⟨2, _⟩ => ⟨S2x256, .f32⟩
  | .hbm, ⟨3, _⟩ => ⟨S2x256, .f32⟩
  | .hbm, ⟨4, _⟩ => ⟨S_, .f32⟩
  | .hbm, ⟨5, _⟩ => ⟨S2x256, .f32⟩
  | .hbm, ⟨6, _⟩ => ⟨S2x256, .f32⟩
  | .hbm, ⟨7, _⟩ => ⟨S_, .f32⟩
  | .hbm, ⟨8, _⟩ => ⟨S2x256, .f32⟩
  | .hbm, ⟨9, _⟩ => ⟨S2x256, .f32⟩
  | .hbm, ⟨10, _⟩ => ⟨S2x256, .f32⟩
  | .hbm, ⟨11, _⟩ => ⟨S_, .f32⟩
  | .hbm, ⟨12, _⟩ => ⟨S2x256, .f32⟩
  | .hbm, ⟨13, _⟩ => ⟨S2x256, .f32⟩
  | .hbm, ⟨14, _⟩ => ⟨S2x256, .f32⟩
  | .hbm, ⟨15, _⟩ => ⟨S_, .f32⟩
  | .hbm, ⟨16, _⟩ => ⟨S2x256, .f32⟩
  | .hbm, ⟨17, _⟩ => ⟨S2x256, .f32⟩
  | .hbm, ⟨18, _⟩ => ⟨S2x256, .f32⟩
  | .hbm, ⟨19, _⟩ => ⟨S_, .f32⟩
  | .hbm, ⟨20, _⟩ => ⟨S2x256, .f32⟩
  | .hbm, ⟨21, _⟩ => ⟨S2x256, .f32⟩
  | .hbm, ⟨22, _⟩ => ⟨S_, .f32⟩
  | .hbm, ⟨23, _⟩ => ⟨S2x256, .f32⟩
  | .hbm, ⟨24, _⟩ => ⟨S2x256, .f32⟩
  | .hbm, ⟨25, _⟩ => ⟨S2x256, .f32⟩
  | .hbm, ⟨26, _⟩ => ⟨S_, .f32⟩
  | .hbm, ⟨27, _⟩ => ⟨S2x256, .f32⟩
  | .hbm, ⟨28, _⟩ => ⟨S2x256, .f32⟩
  | .hbm, ⟨29, _⟩ => ⟨S2x256, .f32⟩
  | .hbm, ⟨30, _⟩ => ⟨S_, .f32⟩
  | .hbm, ⟨31, _⟩ => ⟨S2x256, .f32⟩
  | .hbm, ⟨32, _⟩ => ⟨S2x256, .f32⟩
  | .hbm, ⟨33, _⟩ => ⟨S2x256, .f32⟩
  | .hbm, ⟨34, _⟩ => ⟨S_, .f32⟩
  | .hbm, ⟨35, _⟩ => ⟨S2x256, .f32⟩
  | .hbm, ⟨36, _⟩ => ⟨S2x256, .f32⟩
  | _, _ => ⟨S2x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamHead.lean ====
abbrev S2x192 : Shape := ⟨2, ![2, 192]⟩

abbrev nBuf : Space → Nat
  | .hbm => 7
  | .vmem => 7
  | .smem => 0
  | _ => 0

abbrev bufTy : (tb : Table) → Fin (tcTables nBuf tb) → BufTy
  | .hbm, ⟨0, _⟩ => ⟨S2x192, .f32⟩
  | .hbm, ⟨1, _⟩ => ⟨S2x192, .f32⟩
  | .hbm, ⟨2, _⟩ => ⟨S2x192, .f32⟩
  | .hbm, ⟨3, _⟩ => ⟨S2x192, .f32⟩
  | .hbm, ⟨4, _⟩ => ⟨S2x192, .f32⟩
  | .hbm, ⟨5, _⟩ => ⟨S2x192, .f32⟩
  | .hbm, ⟨6, _⟩ => ⟨S2x192, .f32⟩
  | .local _ .vmem, ⟨0, _⟩ => ⟨S2x192, .f32⟩
  | .local _ .vmem, ⟨1, _⟩ => ⟨S2x192, .f32⟩
  | .local _ .vmem, ⟨2, _⟩ => ⟨S2x192, .f32⟩
  | .local _ .vmem, ⟨3, _⟩ => ⟨S2x192, .f32⟩
  | .local _ .vmem, ⟨4, _⟩ => ⟨S2x192, .f32⟩
  | .local _ .vmem, ⟨5, _⟩ => ⟨S2x192, .f32⟩
  | .local _ .vmem, ⟨6, _⟩ => ⟨S2x192, .f32⟩
  | _, _ => ⟨S2x192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S2x192 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S2x192 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S2x192 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S2x192 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S2x192 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S2x192 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S2x192 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamHeadIdeal.lean ====
abbrev S2x192 : Shape := ⟨2, ![2, 192]⟩

abbrev nBuf : Space → Nat
  | .hbm => 7
  | .vmem => 7
  | .smem => 0
  | _ => 0

abbrev bufTy : (tb : Table) → Fin (tcTables nBuf tb) → BufTy
  | .hbm, ⟨0, _⟩ => ⟨S2x192, .f32⟩
  | .hbm, ⟨1, _⟩ => ⟨S2x192, .f32⟩
  | .hbm, ⟨2, _⟩ => ⟨S2x192, .f32⟩
  | .hbm, ⟨3, _⟩ => ⟨S2x192, .f32⟩
  | .hbm, ⟨4, _⟩ => ⟨S2x192, .f32⟩
  | .hbm, ⟨5, _⟩ => ⟨S2x192, .f32⟩
  | .hbm, ⟨6, _⟩ => ⟨S2x192, .f32⟩
  | .local _ .vmem, ⟨0, _⟩ => ⟨S2x192, .f32⟩
  | .local _ .vmem, ⟨1, _⟩ => ⟨S2x192, .f32⟩
  | .local _ .vmem, ⟨2, _⟩ => ⟨S2x192, .f32⟩
  | .local _ .vmem, ⟨3, _⟩ => ⟨S2x192, .f32⟩
  | .local _ .vmem, ⟨4, _⟩ => ⟨S2x192, .f32⟩
  | .local _ .vmem, ⟨5, _⟩ => ⟨S2x192, .f32⟩
  | .local _ .vmem, ⟨6, _⟩ => ⟨S2x192, .f32⟩
  | _, _ => ⟨S2x192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S2x192 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S2x192 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S2x192 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S2x192 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S2x192 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S2x192 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S2x192 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamHeadReferenceIdeal.lean ====
abbrev S2x192 : Shape := ⟨2, ![2, 192]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2x192, .f32⟩
  | .hbm, ⟨1, _⟩ => ⟨S2x192, .f32⟩
  | .hbm, ⟨2, _⟩ => ⟨S2x192, .f32⟩
  | .hbm, ⟨3, _⟩ => ⟨S2x192, .f32⟩
  | .hbm, ⟨4, _⟩ => ⟨S_, .f32⟩
  | .hbm, ⟨5, _⟩ => ⟨S2x192, .f32⟩
  | .hbm, ⟨6, _⟩ => ⟨S2x192, .f32⟩
  | .hbm, ⟨7, _⟩ => ⟨S_, .f32⟩
  | .hbm, ⟨8, _⟩ => ⟨S2x192, .f32⟩
  | .hbm, ⟨9, _⟩ => ⟨S2x192, .f32⟩
  | .hbm, ⟨10, _⟩ => ⟨S2x192, .f32⟩
  | .hbm, ⟨11, _⟩ => ⟨S_, .f32⟩
  | .hbm, ⟨12, _⟩ => ⟨S2x192, .f32⟩
  | .hbm, ⟨13, _⟩ => ⟨S2x192, .f32⟩
  | .hbm, ⟨14, _⟩ => ⟨S2x192, .f32⟩
  | .hbm, ⟨15, _⟩ => ⟨S_, .f32⟩
  | .hbm, ⟨16, _⟩ => ⟨S2x192, .f32⟩
  | .hbm, ⟨17, _⟩ => ⟨S2x192, .f32⟩
  | .hbm, ⟨18, _⟩ => ⟨S2x192, .f32⟩
  | .hbm, ⟨19, _⟩ => ⟨S_, .f32⟩
  | .hbm, ⟨20, _⟩ => ⟨S2x192, .f32⟩
  | .hbm, ⟨21, _⟩ => ⟨S2x192, .f32⟩
  | .hbm, ⟨22, _⟩ => ⟨S_, .f32⟩
  | .hbm, ⟨23, _⟩ => ⟨S2x192, .f32⟩
  | .hbm, ⟨24, _⟩ => ⟨S2x192, .f32⟩
  | .hbm, ⟨25, _⟩ => ⟨S2x192, .f32⟩
  | .hbm, ⟨26, _⟩ => ⟨S_, .f32⟩
  | .hbm, ⟨27, _⟩ => ⟨S2x192, .f32⟩
  | .hbm, ⟨28, _⟩ => ⟨S2x192, .f32⟩
  | .hbm, ⟨29, _⟩ => ⟨S2x192, .f32⟩
  | .hbm, ⟨30, _⟩ => ⟨S_, .f32⟩
  | .hbm, ⟨31, _⟩ => ⟨S2x192, .f32⟩
  | .hbm, ⟨32, _⟩ => ⟨S2x192, .f32⟩
  | .hbm, ⟨33, _⟩ => ⟨S2x192, .f32⟩
  | .hbm, ⟨34, _⟩ => ⟨S_, .f32⟩
  | .hbm, ⟨35, _⟩ => ⟨S2x192, .f32⟩
  | .hbm, ⟨36, _⟩ => ⟨S2x192, .f32⟩
  | _, _ => ⟨S2x192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamPool.lean ====
abbrev S2x4x128x128 : Shape := ⟨4, ![2, 4, 128, 128]⟩
abbrev S1024x128 : Shape := ⟨2, ![1024, 128]⟩

abbrev nBuf : Space → Nat
  | .hbm => 14
  | .vmem => 7
  | .smem => 0
  | _ => 0

abbrev bufTy : (tb : Table) → Fin (tcTables nBuf tb) → BufTy
  | .hbm, ⟨0, _⟩ => ⟨S2x4x128x128, .f32⟩
  | .hbm, ⟨1, _⟩ => ⟨S2x4x128x128, .f32⟩
  | .hbm, ⟨2, _⟩ => ⟨S2x4x128x128, .f32⟩
  | .hbm, ⟨3, _⟩ => ⟨S2x4x128x128, .f32⟩
  | .hbm, ⟨4, _⟩ => ⟨S1024x128, .f32⟩
  | .hbm, ⟨5, _⟩ => ⟨S1024x128, .f32⟩
  | .hbm, ⟨6, _⟩ => ⟨S1024x128, .f32⟩
  | .hbm, ⟨7, _⟩ => ⟨S1024x128, .f32⟩
  | .hbm, ⟨8, _⟩ => ⟨S1024x128, .f32⟩
  | .hbm, ⟨9, _⟩ => ⟨S1024x128, .f32⟩
  | .hbm, ⟨10, _⟩ => ⟨S1024x128, .f32⟩
  | .hbm, ⟨11, _⟩ => ⟨S2x4x128x128, .f32⟩
  | .hbm, ⟨12, _⟩ => ⟨S2x4x128x128, .f32⟩
  | .hbm, ⟨13, _⟩ => ⟨S2x4x128x128, .f32⟩
  | .local _ .vmem, ⟨0, _⟩ => ⟨S1024x128, .f32⟩
  | .local _ .vmem, ⟨1, _⟩ => ⟨S1024x128, .f32⟩
  | .local _ .vmem, ⟨2, _⟩ => ⟨S1024x128, .f32⟩
  | .local _ .vmem, ⟨3, _⟩ => ⟨S1024x128, .f32⟩
  | .local _ .vmem, ⟨4, _⟩ => ⟨S1024x128, .f32⟩
  | .local _ .vmem, ⟨5, _⟩ => ⟨S1024x128, .f32⟩
  | .local _ .vmem, ⟨6, _⟩ => ⟨S1024x128, .f32⟩
  | _, _ => ⟨S2x4x128x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1024x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1024x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1024x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1024x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1024x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1024x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1024x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamPoolIdeal.lean ====
abbrev S2x4x128x128 : Shape := ⟨4, ![2, 4, 128, 128]⟩
abbrev S1024x128 : Shape := ⟨2, ![1024, 128]⟩

abbrev nBuf : Space → Nat
  | .hbm => 14
  | .vmem => 7
  | .smem => 0
  | _ => 0

abbrev bufTy : (tb : Table) → Fin (tcTables nBuf tb) → BufTy
  | .hbm, ⟨0, _⟩ => ⟨S2x4x128x128, .f32⟩
  | .hbm, ⟨1, _⟩ => ⟨S2x4x128x128, .f32⟩
  | .hbm, ⟨2, _⟩ => ⟨S2x4x128x128, .f32⟩
  | .hbm, ⟨3, _⟩ => ⟨S2x4x128x128, .f32⟩
  | .hbm, ⟨4, _⟩ => ⟨S1024x128, .f32⟩
  | .hbm, ⟨5, _⟩ => ⟨S1024x128, .f32⟩
  | .hbm, ⟨6, _⟩ => ⟨S1024x128, .f32⟩
  | .hbm, ⟨7, _⟩ => ⟨S1024x128, .f32⟩
  | .hbm, ⟨8, _⟩ => ⟨S1024x128, .f32⟩
  | .hbm, ⟨9, _⟩ => ⟨S1024x128, .f32⟩
  | .hbm, ⟨10, _⟩ => ⟨S1024x128, .f32⟩
  | .hbm, ⟨11, _⟩ => ⟨S2x4x128x128, .f32⟩
  | .hbm, ⟨12, _⟩ => ⟨S2x4x128x128, .f32⟩
  | .hbm, ⟨13, _⟩ => ⟨S2x4x128x128, .f32⟩
  | .local _ .vmem, ⟨0, _⟩ => ⟨S1024x128, .f32⟩
  | .local _ .vmem, ⟨1, _⟩ => ⟨S1024x128, .f32⟩
  | .local _ .vmem, ⟨2, _⟩ => ⟨S1024x128, .f32⟩
  | .local _ .vmem, ⟨3, _⟩ => ⟨S1024x128, .f32⟩
  | .local _ .vmem, ⟨4, _⟩ => ⟨S1024x128, .f32⟩
  | .local _ .vmem, ⟨5, _⟩ => ⟨S1024x128, .f32⟩
  | .local _ .vmem, ⟨6, _⟩ => ⟨S1024x128, .f32⟩
  | _, _ => ⟨S2x4x128x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1024x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1024x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1024x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1024x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1024x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1024x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1024x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamPoolReferenceIdeal.lean ====
abbrev S2x4x128x128 : Shape := ⟨4, ![2, 4, 128, 128]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2x4x128x128, .f32⟩
  | .hbm, ⟨1, _⟩ => ⟨S2x4x128x128, .f32⟩
  | .hbm, ⟨2, _⟩ => ⟨S2x4x128x128, .f32⟩
  | .hbm, ⟨3, _⟩ => ⟨S2x4x128x128, .f32⟩
  | .hbm, ⟨4, _⟩ => ⟨S_, .f32⟩
  | .hbm, ⟨5, _⟩ => ⟨S2x4x128x128, .f32⟩
  | .hbm, ⟨6, _⟩ => ⟨S2x4x128x128, .f32⟩
  | .hbm, ⟨7, _⟩ => ⟨S_, .f32⟩
  | .hbm, ⟨8, _⟩ => ⟨S2x4x128x128, .f32⟩
  | .hbm, ⟨9, _⟩ => ⟨S2x4x128x128, .f32⟩
  | .hbm, ⟨10, _⟩ => ⟨S2x4x128x128, .f32⟩
  | .hbm, ⟨11, _⟩ => ⟨S_, .f32⟩
  | .hbm, ⟨12, _⟩ => ⟨S2x4x128x128, .f32⟩
  | .hbm, ⟨13, _⟩ => ⟨S2x4x128x128, .f32⟩
  | .hbm, ⟨14, _⟩ => ⟨S2x4x128x128, .f32⟩
  | .hbm, ⟨15, _⟩ => ⟨S_, .f32⟩
  | .hbm, ⟨16, _⟩ => ⟨S2x4x128x128, .f32⟩
  | .hbm, ⟨17, _⟩ => ⟨S2x4x128x128, .f32⟩
  | .hbm, ⟨18, _⟩ => ⟨S2x4x128x128, .f32⟩
  | .hbm, ⟨19, _⟩ => ⟨S_, .f32⟩
  | .hbm, ⟨20, _⟩ => ⟨S2x4x128x128, .f32⟩
  | .hbm, ⟨21, _⟩ => ⟨S2x4x128x128, .f32⟩
  | .hbm, ⟨22, _⟩ => ⟨S_, .f32⟩
  | .hbm, ⟨23, _⟩ => ⟨S2x4x128x128, .f32⟩
  | .hbm, ⟨24, _⟩ => ⟨S2x4x128x128, .f32⟩
  | .hbm, ⟨25, _⟩ => ⟨S2x4x128x128, .f32⟩
  | .hbm, ⟨26, _⟩ => ⟨S_, .f32⟩
  | .hbm, ⟨27, _⟩ => ⟨S2x4x128x128, .f32⟩
  | .hbm, ⟨28, _⟩ => ⟨S2x4x128x128, .f32⟩
  | .hbm, ⟨29, _⟩ => ⟨S2x4x128x128, .f32⟩
  | .hbm, ⟨30, _⟩ => ⟨S_, .f32⟩
  | .hbm, ⟨31, _⟩ => ⟨S2x4x128x128, .f32⟩
  | .hbm, ⟨32, _⟩ => ⟨S2x4x128x128, .f32⟩
  | .hbm, ⟨33, _⟩ => ⟨S2x4x128x128, .f32⟩
  | .hbm, ⟨34, _⟩ => ⟨S_, .f32⟩
  | .hbm, ⟨35, _⟩ => ⟨S2x4x128x128, .f32⟩
  | .hbm, ⟨36, _⟩ => ⟨S2x4x128x128, .f32⟩
  | _, _ => ⟨S2x4x128x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamRank.lean ====
abbrev S2x16x64 : Shape := ⟨3, ![2, 16, 64]⟩
abbrev S32x64 : Shape := ⟨2, ![32, 64]⟩

abbrev nBuf : Space → Nat
  | .hbm => 14
  | .vmem => 7
  | .smem => 0
  | _ => 0

abbrev bufTy : (tb : Table) → Fin (tcTables nBuf tb) → BufTy
  | .hbm, ⟨0, _⟩ => ⟨S2x16x64, .f32⟩
  | .hbm, ⟨1, _⟩ => ⟨S2x16x64, .f32⟩
  | .hbm, ⟨2, _⟩ => ⟨S2x16x64, .f32⟩
  | .hbm, ⟨3, _⟩ => ⟨S2x16x64, .f32⟩
  | .hbm, ⟨4, _⟩ => ⟨S32x64, .f32⟩
  | .hbm, ⟨5, _⟩ => ⟨S32x64, .f32⟩
  | .hbm, ⟨6, _⟩ => ⟨S32x64, .f32⟩
  | .hbm, ⟨7, _⟩ => ⟨S32x64, .f32⟩
  | .hbm, ⟨8, _⟩ => ⟨S32x64, .f32⟩
  | .hbm, ⟨9, _⟩ => ⟨S32x64, .f32⟩
  | .hbm, ⟨10, _⟩ => ⟨S32x64, .f32⟩
  | .hbm, ⟨11, _⟩ => ⟨S2x16x64, .f32⟩
  | .hbm, ⟨12, _⟩ => ⟨S2x16x64, .f32⟩
  | .hbm, ⟨13, _⟩ => ⟨S2x16x64, .f32⟩
  | .local _ .vmem, ⟨0, _⟩ => ⟨S32x64, .f32⟩
  | .local _ .vmem, ⟨1, _⟩ => ⟨S32x64, .f32⟩
  | .local _ .vmem, ⟨2, _⟩ => ⟨S32x64, .f32⟩
  | .local _ .vmem, ⟨3, _⟩ => ⟨S32x64, .f32⟩
  | .local _ .vmem, ⟨4, _⟩ => ⟨S32x64, .f32⟩
  | .local _ .vmem, ⟨5, _⟩ => ⟨S32x64, .f32⟩
  | .local _ .vmem, ⟨6, _⟩ => ⟨S32x64, .f32⟩
  | _, _ => ⟨S2x16x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S32x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S32x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S32x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S32x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S32x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S32x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S32x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamRankIdeal.lean ====
abbrev S2x16x64 : Shape := ⟨3, ![2, 16, 64]⟩
abbrev S32x64 : Shape := ⟨2, ![32, 64]⟩

abbrev nBuf : Space → Nat
  | .hbm => 14
  | .vmem => 7
  | .smem => 0
  | _ => 0

abbrev bufTy : (tb : Table) → Fin (tcTables nBuf tb) → BufTy
  | .hbm, ⟨0, _⟩ => ⟨S2x16x64, .f32⟩
  | .hbm, ⟨1, _⟩ => ⟨S2x16x64, .f32⟩
  | .hbm, ⟨2, _⟩ => ⟨S2x16x64, .f32⟩
  | .hbm, ⟨3, _⟩ => ⟨S2x16x64, .f32⟩
  | .hbm, ⟨4, _⟩ => ⟨S32x64, .f32⟩
  | .hbm, ⟨5, _⟩ => ⟨S32x64, .f32⟩
  | .hbm, ⟨6, _⟩ => ⟨S32x64, .f32⟩
  | .hbm, ⟨7, _⟩ => ⟨S32x64, .f32⟩
  | .hbm, ⟨8, _⟩ => ⟨S32x64, .f32⟩
  | .hbm, ⟨9, _⟩ => ⟨S32x64, .f32⟩
  | .hbm, ⟨10, _⟩ => ⟨S32x64, .f32⟩
  | .hbm, ⟨11, _⟩ => ⟨S2x16x64, .f32⟩
  | .hbm, ⟨12, _⟩ => ⟨S2x16x64, .f32⟩
  | .hbm, ⟨13, _⟩ => ⟨S2x16x64, .f32⟩
  | .local _ .vmem, ⟨0, _⟩ => ⟨S32x64, .f32⟩
  | .local _ .vmem, ⟨1, _⟩ => ⟨S32x64, .f32⟩
  | .local _ .vmem, ⟨2, _⟩ => ⟨S32x64, .f32⟩
  | .local _ .vmem, ⟨3, _⟩ => ⟨S32x64, .f32⟩
  | .local _ .vmem, ⟨4, _⟩ => ⟨S32x64, .f32⟩
  | .local _ .vmem, ⟨5, _⟩ => ⟨S32x64, .f32⟩
  | .local _ .vmem, ⟨6, _⟩ => ⟨S32x64, .f32⟩
  | _, _ => ⟨S2x16x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S32x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S32x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S32x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S32x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S32x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S32x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S32x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamRankReferenceIdeal.lean ====
abbrev S2x16x64 : Shape := ⟨3, ![2, 16, 64]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2x16x64, .f32⟩
  | .hbm, ⟨1, _⟩ => ⟨S2x16x64, .f32⟩
  | .hbm, ⟨2, _⟩ => ⟨S2x16x64, .f32⟩
  | .hbm, ⟨3, _⟩ => ⟨S2x16x64, .f32⟩
  | .hbm, ⟨4, _⟩ => ⟨S_, .f32⟩
  | .hbm, ⟨5, _⟩ => ⟨S2x16x64, .f32⟩
  | .hbm, ⟨6, _⟩ => ⟨S2x16x64, .f32⟩
  | .hbm, ⟨7, _⟩ => ⟨S_, .f32⟩
  | .hbm, ⟨8, _⟩ => ⟨S2x16x64, .f32⟩
  | .hbm, ⟨9, _⟩ => ⟨S2x16x64, .f32⟩
  | .hbm, ⟨10, _⟩ => ⟨S2x16x64, .f32⟩
  | .hbm, ⟨11, _⟩ => ⟨S_, .f32⟩
  | .hbm, ⟨12, _⟩ => ⟨S2x16x64, .f32⟩
  | .hbm, ⟨13, _⟩ => ⟨S2x16x64, .f32⟩
  | .hbm, ⟨14, _⟩ => ⟨S2x16x64, .f32⟩
  | .hbm, ⟨15, _⟩ => ⟨S_, .f32⟩
  | .hbm, ⟨16, _⟩ => ⟨S2x16x64, .f32⟩
  | .hbm, ⟨17, _⟩ => ⟨S2x16x64, .f32⟩
  | .hbm, ⟨18, _⟩ => ⟨S2x16x64, .f32⟩
  | .hbm, ⟨19, _⟩ => ⟨S_, .f32⟩
  | .hbm, ⟨20, _⟩ => ⟨S2x16x64, .f32⟩
  | .hbm, ⟨21, _⟩ => ⟨S2x16x64, .f32⟩
  | .hbm, ⟨22, _⟩ => ⟨S_, .f32⟩
  | .hbm, ⟨23, _⟩ => ⟨S2x16x64, .f32⟩
  | .hbm, ⟨24, _⟩ => ⟨S2x16x64, .f32⟩
  | .hbm, ⟨25, _⟩ => ⟨S2x16x64, .f32⟩
  | .hbm, ⟨26, _⟩ => ⟨S_, .f32⟩
  | .hbm, ⟨27, _⟩ => ⟨S2x16x64, .f32⟩
  | .hbm, ⟨28, _⟩ => ⟨S2x16x64, .f32⟩
  | .hbm, ⟨29, _⟩ => ⟨S2x16x64, .f32⟩
  | .hbm, ⟨30, _⟩ => ⟨S_, .f32⟩
  | .hbm, ⟨31, _⟩ => ⟨S2x16x64, .f32⟩
  | .hbm, ⟨32, _⟩ => ⟨S2x16x64, .f32⟩
  | .hbm, ⟨33, _⟩ => ⟨S2x16x64, .f32⟩
  | .hbm, ⟨34, _⟩ => ⟨S_, .f32⟩
  | .hbm, ⟨35, _⟩ => ⟨S2x16x64, .f32⟩
  | .hbm, ⟨36, _⟩ => ⟨S2x16x64, .f32⟩
  | _, _ => ⟨S2x16x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamQ.lean ====
abbrev S2x512x192 : Shape := ⟨3, ![2, 512, 192]⟩
abbrev S1024x192 : Shape := ⟨2, ![1024, 192]⟩

abbrev nBuf : Space → Nat
  | .hbm => 14
  | .vmem => 7
  | .smem => 0
  | _ => 0

abbrev bufTy : (tb : Table) → Fin (tcTables nBuf tb) → BufTy
  | .hbm, ⟨0, _⟩ => ⟨S2x512x192, .f32⟩
  | .hbm, ⟨1, _⟩ => ⟨S2x512x192, .f32⟩
  | .hbm, ⟨2, _⟩ => ⟨S2x512x192, .f32⟩
  | .hbm, ⟨3, _⟩ => ⟨S2x512x192, .f32⟩
  | .hbm, ⟨4, _⟩ => ⟨S1024x192, .f32⟩
  | .hbm, ⟨5, _⟩ => ⟨S1024x192, .f32⟩
  | .hbm, ⟨6, _⟩ => ⟨S1024x192, .f32⟩
  | .hbm, ⟨7, _⟩ => ⟨S1024x192, .f32⟩
  | .hbm, ⟨8, _⟩ => ⟨S1024x192, .f32⟩
  | .hbm, ⟨9, _⟩ => ⟨S1024x192, .f32⟩
  | .hbm, ⟨10, _⟩ => ⟨S1024x192, .f32⟩
  | .hbm, ⟨11, _⟩ => ⟨S2x512x192, .f32⟩
  | .hbm, ⟨12, _⟩ => ⟨S2x512x192, .f32⟩
  | .hbm, ⟨13, _⟩ => ⟨S2x512x192, .f32⟩
  | .local _ .vmem, ⟨0, _⟩ => ⟨S1024x192, .f32⟩
  | .local _ .vmem, ⟨1, _⟩ => ⟨S1024x192, .f32⟩
  | .local _ .vmem, ⟨2, _⟩ => ⟨S1024x192, .f32⟩
  | .local _ .vmem, ⟨3, _⟩ => ⟨S1024x192, .f32⟩
  | .local _ .vmem, ⟨4, _⟩ => ⟨S1024x192, .f32⟩
  | .local _ .vmem, ⟨5, _⟩ => ⟨S1024x192, .f32⟩
  | .local _ .vmem, ⟨6, _⟩ => ⟨S1024x192, .f32⟩
  | _, _ => ⟨S2x512x192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1024x192 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1024x192 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1024x192 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1024x192 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1024x192 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1024x192 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1024x192 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamQIdeal.lean ====
abbrev S2x512x192 : Shape := ⟨3, ![2, 512, 192]⟩
abbrev S1024x192 : Shape := ⟨2, ![1024, 192]⟩

abbrev nBuf : Space → Nat
  | .hbm => 14
  | .vmem => 7
  | .smem => 0
  | _ => 0

abbrev bufTy : (tb : Table) → Fin (tcTables nBuf tb) → BufTy
  | .hbm, ⟨0, _⟩ => ⟨S2x512x192, .f32⟩
  | .hbm, ⟨1, _⟩ => ⟨S2x512x192, .f32⟩
  | .hbm, ⟨2, _⟩ => ⟨S2x512x192, .f32⟩
  | .hbm, ⟨3, _⟩ => ⟨S2x512x192, .f32⟩
  | .hbm, ⟨4, _⟩ => ⟨S1024x192, .f32⟩
  | .hbm, ⟨5, _⟩ => ⟨S1024x192, .f32⟩
  | .hbm, ⟨6, _⟩ => ⟨S1024x192, .f32⟩
  | .hbm, ⟨7, _⟩ => ⟨S1024x192, .f32⟩
  | .hbm, ⟨8, _⟩ => ⟨S1024x192, .f32⟩
  | .hbm, ⟨9, _⟩ => ⟨S1024x192, .f32⟩
  | .hbm, ⟨10, _⟩ => ⟨S1024x192, .f32⟩
  | .hbm, ⟨11, _⟩ => ⟨S2x512x192, .f32⟩
  | .hbm, ⟨12, _⟩ => ⟨S2x512x192, .f32⟩
  | .hbm, ⟨13, _⟩ => ⟨S2x512x192, .f32⟩
  | .local _ .vmem, ⟨0, _⟩ => ⟨S1024x192, .f32⟩
  | .local _ .vmem, ⟨1, _⟩ => ⟨S1024x192, .f32⟩
  | .local _ .vmem, ⟨2, _⟩ => ⟨S1024x192, .f32⟩
  | .local _ .vmem, ⟨3, _⟩ => ⟨S1024x192, .f32⟩
  | .local _ .vmem, ⟨4, _⟩ => ⟨S1024x192, .f32⟩
  | .local _ .vmem, ⟨5, _⟩ => ⟨S1024x192, .f32⟩
  | .local _ .vmem, ⟨6, _⟩ => ⟨S1024x192, .f32⟩
  | _, _ => ⟨S2x512x192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1024x192 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1024x192 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1024x192 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1024x192 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1024x192 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1024x192 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1024x192 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamQReferenceIdeal.lean ====
abbrev S2x512x192 : Shape := ⟨3, ![2, 512, 192]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2x512x192, .f32⟩
  | .hbm, ⟨1, _⟩ => ⟨S2x512x192, .f32⟩
  | .hbm, ⟨2, _⟩ => ⟨S2x512x192, .f32⟩
  | .hbm, ⟨3, _⟩ => ⟨S2x512x192, .f32⟩
  | .hbm, ⟨4, _⟩ => ⟨S_, .f32⟩
  | .hbm, ⟨5, _⟩ => ⟨S2x512x192, .f32⟩
  | .hbm, ⟨6, _⟩ => ⟨S2x512x192, .f32⟩
  | .hbm, ⟨7, _⟩ => ⟨S_, .f32⟩
  | .hbm, ⟨8, _⟩ => ⟨S2x512x192, .f32⟩
  | .hbm, ⟨9, _⟩ => ⟨S2x512x192, .f32⟩
  | .hbm, ⟨10, _⟩ => ⟨S2x512x192, .f32⟩
  | .hbm, ⟨11, _⟩ => ⟨S_, .f32⟩
  | .hbm, ⟨12, _⟩ => ⟨S2x512x192, .f32⟩
  | .hbm, ⟨13, _⟩ => ⟨S2x512x192, .f32⟩
  | .hbm, ⟨14, _⟩ => ⟨S2x512x192, .f32⟩
  | .hbm, ⟨15, _⟩ => ⟨S_, .f32⟩
  | .hbm, ⟨16, _⟩ => ⟨S2x512x192, .f32⟩
  | .hbm, ⟨17, _⟩ => ⟨S2x512x192, .f32⟩
  | .hbm, ⟨18, _⟩ => ⟨S2x512x192, .f32⟩
  | .hbm, ⟨19, _⟩ => ⟨S_, .f32⟩
  | .hbm, ⟨20, _⟩ => ⟨S2x512x192, .f32⟩
  | .hbm, ⟨21, _⟩ => ⟨S2x512x192, .f32⟩
  | .hbm, ⟨22, _⟩ => ⟨S_, .f32⟩
  | .hbm, ⟨23, _⟩ => ⟨S2x512x192, .f32⟩
  | .hbm, ⟨24, _⟩ => ⟨S2x512x192, .f32⟩
  | .hbm, ⟨25, _⟩ => ⟨S2x512x192, .f32⟩
  | .hbm, ⟨26, _⟩ => ⟨S_, .f32⟩
  | .hbm, ⟨27, _⟩ => ⟨S2x512x192, .f32⟩
  | .hbm, ⟨28, _⟩ => ⟨S2x512x192, .f32⟩
  | .hbm, ⟨29, _⟩ => ⟨S2x512x192, .f32⟩
  | .hbm, ⟨30, _⟩ => ⟨S_, .f32⟩
  | .hbm, ⟨31, _⟩ => ⟨S2x512x192, .f32⟩
  | .hbm, ⟨32, _⟩ => ⟨S2x512x192, .f32⟩
  | .hbm, ⟨33, _⟩ => ⟨S2x512x192, .f32⟩
  | .hbm, ⟨34, _⟩ => ⟨S_, .f32⟩
  | .hbm, ⟨35, _⟩ => ⟨S2x512x192, .f32⟩
  | .hbm, ⟨36, _⟩ => ⟨S2x512x192, .f32⟩
  | _, _ => ⟨S2x512x192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamKv.lean ====
abbrev S2x256x256 : Shape := ⟨3, ![2, 256, 256]⟩
abbrev S512x256 : Shape := ⟨2, ![512, 256]⟩

abbrev nBuf : Space → Nat
  | .hbm => 14
  | .vmem => 7
  | .smem => 0
  | _ => 0

abbrev bufTy : (tb : Table) → Fin (tcTables nBuf tb) → BufTy
  | .hbm, ⟨0, _⟩ => ⟨S2x256x256, .f32⟩
  | .hbm, ⟨1, _⟩ => ⟨S2x256x256, .f32⟩
  | .hbm, ⟨2, _⟩ => ⟨S2x256x256, .f32⟩
  | .hbm, ⟨3, _⟩ => ⟨S2x256x256, .f32⟩
  | .hbm, ⟨4, _⟩ => ⟨S512x256, .f32⟩
  | .hbm, ⟨5, _⟩ => ⟨S512x256, .f32⟩
  | .hbm, ⟨6, _⟩ => ⟨S512x256, .f32⟩
  | .hbm, ⟨7, _⟩ => ⟨S512x256, .f32⟩
  | .hbm, ⟨8, _⟩ => ⟨S512x256, .f32⟩
  | .hbm, ⟨9, _⟩ => ⟨S512x256, .f32⟩
  | .hbm, ⟨10, _⟩ => ⟨S512x256, .f32⟩
  | .hbm, ⟨11, _⟩ => ⟨S2x256x256, .f32⟩
  | .hbm, ⟨12, _⟩ => ⟨S2x256x256, .f32⟩
  | .hbm, ⟨13, _⟩ => ⟨S2x256x256, .f32⟩
  | .local _ .vmem, ⟨0, _⟩ => ⟨S512x256, .f32⟩
  | .local _ .vmem, ⟨1, _⟩ => ⟨S512x256, .f32⟩
  | .local _ .vmem, ⟨2, _⟩ => ⟨S512x256, .f32⟩
  | .local _ .vmem, ⟨3, _⟩ => ⟨S512x256, .f32⟩
  | .local _ .vmem, ⟨4, _⟩ => ⟨S512x256, .f32⟩
  | .local _ .vmem, ⟨5, _⟩ => ⟨S512x256, .f32⟩
  | .local _ .vmem, ⟨6, _⟩ => ⟨S512x256, .f32⟩
  | _, _ => ⟨S2x256x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S512x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S512x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S512x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S512x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S512x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S512x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S512x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamKvIdeal.lean ====
abbrev S2x256x256 : Shape := ⟨3, ![2, 256, 256]⟩
abbrev S512x256 : Shape := ⟨2, ![512, 256]⟩

abbrev nBuf : Space → Nat
  | .hbm => 14
  | .vmem => 7
  | .smem => 0
  | _ => 0

abbrev bufTy : (tb : Table) → Fin (tcTables nBuf tb) → BufTy
  | .hbm, ⟨0, _⟩ => ⟨S2x256x256, .f32⟩
  | .hbm, ⟨1, _⟩ => ⟨S2x256x256, .f32⟩
  | .hbm, ⟨2, _⟩ => ⟨S2x256x256, .f32⟩
  | .hbm, ⟨3, _⟩ => ⟨S2x256x256, .f32⟩
  | .hbm, ⟨4, _⟩ => ⟨S512x256, .f32⟩
  | .hbm, ⟨5, _⟩ => ⟨S512x256, .f32⟩
  | .hbm, ⟨6, _⟩ => ⟨S512x256, .f32⟩
  | .hbm, ⟨7, _⟩ => ⟨S512x256, .f32⟩
  | .hbm, ⟨8, _⟩ => ⟨S512x256, .f32⟩
  | .hbm, ⟨9, _⟩ => ⟨S512x256, .f32⟩
  | .hbm, ⟨10, _⟩ => ⟨S512x256, .f32⟩
  | .hbm, ⟨11, _⟩ => ⟨S2x256x256, .f32⟩
  | .hbm, ⟨12, _⟩ => ⟨S2x256x256, .f32⟩
  | .hbm, ⟨13, _⟩ => ⟨S2x256x256, .f32⟩
  | .local _ .vmem, ⟨0, _⟩ => ⟨S512x256, .f32⟩
  | .local _ .vmem, ⟨1, _⟩ => ⟨S512x256, .f32⟩
  | .local _ .vmem, ⟨2, _⟩ => ⟨S512x256, .f32⟩
  | .local _ .vmem, ⟨3, _⟩ => ⟨S512x256, .f32⟩
  | .local _ .vmem, ⟨4, _⟩ => ⟨S512x256, .f32⟩
  | .local _ .vmem, ⟨5, _⟩ => ⟨S512x256, .f32⟩
  | .local _ .vmem, ⟨6, _⟩ => ⟨S512x256, .f32⟩
  | _, _ => ⟨S2x256x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S512x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S512x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S512x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S512x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S512x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S512x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S512x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamKvReferenceIdeal.lean ====
abbrev S2x256x256 : Shape := ⟨3, ![2, 256, 256]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2x256x256, .f32⟩
  | .hbm, ⟨1, _⟩ => ⟨S2x256x256, .f32⟩
  | .hbm, ⟨2, _⟩ => ⟨S2x256x256, .f32⟩
  | .hbm, ⟨3, _⟩ => ⟨S2x256x256, .f32⟩
  | .hbm, ⟨4, _⟩ => ⟨S_, .f32⟩
  | .hbm, ⟨5, _⟩ => ⟨S2x256x256, .f32⟩
  | .hbm, ⟨6, _⟩ => ⟨S2x256x256, .f32⟩
  | .hbm, ⟨7, _⟩ => ⟨S_, .f32⟩
  | .hbm, ⟨8, _⟩ => ⟨S2x256x256, .f32⟩
  | .hbm, ⟨9, _⟩ => ⟨S2x256x256, .f32⟩
  | .hbm, ⟨10, _⟩ => ⟨S2x256x256, .f32⟩
  | .hbm, ⟨11, _⟩ => ⟨S_, .f32⟩
  | .hbm, ⟨12, _⟩ => ⟨S2x256x256, .f32⟩
  | .hbm, ⟨13, _⟩ => ⟨S2x256x256, .f32⟩
  | .hbm, ⟨14, _⟩ => ⟨S2x256x256, .f32⟩
  | .hbm, ⟨15, _⟩ => ⟨S_, .f32⟩
  | .hbm, ⟨16, _⟩ => ⟨S2x256x256, .f32⟩
  | .hbm, ⟨17, _⟩ => ⟨S2x256x256, .f32⟩
  | .hbm, ⟨18, _⟩ => ⟨S2x256x256, .f32⟩
  | .hbm, ⟨19, _⟩ => ⟨S_, .f32⟩
  | .hbm, ⟨20, _⟩ => ⟨S2x256x256, .f32⟩
  | .hbm, ⟨21, _⟩ => ⟨S2x256x256, .f32⟩
  | .hbm, ⟨22, _⟩ => ⟨S_, .f32⟩
  | .hbm, ⟨23, _⟩ => ⟨S2x256x256, .f32⟩
  | .hbm, ⟨24, _⟩ => ⟨S2x256x256, .f32⟩
  | .hbm, ⟨25, _⟩ => ⟨S2x256x256, .f32⟩
  | .hbm, ⟨26, _⟩ => ⟨S_, .f32⟩
  | .hbm, ⟨27, _⟩ => ⟨S2x256x256, .f32⟩
  | .hbm, ⟨28, _⟩ => ⟨S2x256x256, .f32⟩
  | .hbm, ⟨29, _⟩ => ⟨S2x256x256, .f32⟩
  | .hbm, ⟨30, _⟩ => ⟨S_, .f32⟩
  | .hbm, ⟨31, _⟩ => ⟨S2x256x256, .f32⟩
  | .hbm, ⟨32, _⟩ => ⟨S2x256x256, .f32⟩
  | .hbm, ⟨33, _⟩ => ⟨S2x256x256, .f32⟩
  | .hbm, ⟨34, _⟩ => ⟨S_, .f32⟩
  | .hbm, ⟨35, _⟩ => ⟨S2x256x256, .f32⟩
  | .hbm, ⟨36, _⟩ => ⟨S2x256x256, .f32⟩
  | _, _ => ⟨S2x256x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamWOut.lean ====
abbrev S2x512x2048 : Shape := ⟨3, ![2, 512, 2048]⟩
abbrev S1024x2048 : Shape := ⟨2, ![1024, 2048]⟩
abbrev S128x2048 : Shape := ⟨2, ![128, 2048]⟩

abbrev nBuf : Space → Nat
  | .hbm => 14
  | .vmem => 14
  | .smem => 0
  | _ => 0

abbrev bufTy : (tb : Table) → Fin (tcTables nBuf tb) → BufTy
  | .hbm, ⟨0, _⟩ => ⟨S2x512x2048, .f32⟩
  | .hbm, ⟨1, _⟩ => ⟨S2x512x2048, .f32⟩
  | .hbm, ⟨2, _⟩ => ⟨S2x512x2048, .f32⟩
  | .hbm, ⟨3, _⟩ => ⟨S2x512x2048, .f32⟩
  | .hbm, ⟨4, _⟩ => ⟨S1024x2048, .f32⟩
  | .hbm, ⟨5, _⟩ => ⟨S1024x2048, .f32⟩
  | .hbm, ⟨6, _⟩ => ⟨S1024x2048, .f32⟩
  | .hbm, ⟨7, _⟩ => ⟨S1024x2048, .f32⟩
  | .hbm, ⟨8, _⟩ => ⟨S1024x2048, .f32⟩
  | .hbm, ⟨9, _⟩ => ⟨S1024x2048, .f32⟩
  | .hbm, ⟨10, _⟩ => ⟨S1024x2048, .f32⟩
  | .hbm, ⟨11, _⟩ => ⟨S2x512x2048, .f32⟩
  | .hbm, ⟨12, _⟩ => ⟨S2x512x2048, .f32⟩
  | .hbm, ⟨13, _⟩ => ⟨S2x512x2048, .f32⟩
  | .local _ .vmem, ⟨0, _⟩ => ⟨S128x2048, .f32⟩
  | .local _ .vmem, ⟨1, _⟩ => ⟨S128x2048, .f32⟩
  | .local _ .vmem, ⟨2, _⟩ => ⟨S128x2048, .f32⟩
  | .local _ .vmem, ⟨3, _⟩ => ⟨S128x2048, .f32⟩
  | .local _ .vmem, ⟨4, _⟩ => ⟨S128x2048, .f32⟩
  | .local _ .vmem, ⟨5, _⟩ => ⟨S128x2048, .f32⟩
  | .local _ .vmem, ⟨6, _⟩ => ⟨S128x2048, .f32⟩
  | .local _ .vmem, ⟨7, _⟩ => ⟨S128x2048, .f32⟩
  | .local _ .vmem, ⟨8, _⟩ => ⟨S128x2048, .f32⟩
  | .local _ .vmem, ⟨9, _⟩ => ⟨S128x2048, .f32⟩
  | .local _ .vmem, ⟨10, _⟩ => ⟨S128x2048, .f32⟩
  | .local _ .vmem, ⟨11, _⟩ => ⟨S128x2048, .f32⟩
  | .local _ .vmem, ⟨12, _⟩ => ⟨S128x2048, .f32⟩
  | .local _ .vmem, ⟨13, _⟩ => ⟨S128x2048, .f32⟩
  | _, _ => ⟨S2x512x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamWOutReferenceIdeal.lean ====
abbrev S2x512x2048 : Shape := ⟨3, ![2, 512, 2048]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2x512x2048, .f32⟩
  | .hbm, ⟨1, _⟩ => ⟨S2x512x2048, .f32⟩
  | .hbm, ⟨2, _⟩ => ⟨S2x512x2048, .f32⟩
  | .hbm, ⟨3, _⟩ => ⟨S2x512x2048, .f32⟩
  | .hbm, ⟨4, _⟩ => ⟨S_, .f32⟩
  | .hbm, ⟨5, _⟩ => ⟨S2x512x2048, .f32⟩
  | .hbm, ⟨6, _⟩ => ⟨S2x512x2048, .f32⟩
  | .hbm, ⟨7, _⟩ => ⟨S_, .f32⟩
  | .hbm, ⟨8, _⟩ => ⟨S2x512x2048, .f32⟩
  | .hbm, ⟨9, _⟩ => ⟨S2x512x2048, .f32⟩
  | .hbm, ⟨10, _⟩ => ⟨S2x512x2048, .f32⟩
  | .hbm, ⟨11, _⟩ => ⟨S_, .f32⟩
  | .hbm, ⟨12, _⟩ => ⟨S2x512x2048, .f32⟩
  | .hbm, ⟨13, _⟩ => ⟨S2x512x2048, .f32⟩
  | .hbm, ⟨14, _⟩ => ⟨S2x512x2048, .f32⟩
  | .hbm, ⟨15, _⟩ => ⟨S_, .f32⟩
  | .hbm, ⟨16, _⟩ => ⟨S2x512x2048, .f32⟩
  | .hbm, ⟨17, _⟩ => ⟨S2x512x2048, .f32⟩
  | .hbm, ⟨18, _⟩ => ⟨S2x512x2048, .f32⟩
  | .hbm, ⟨19, _⟩ => ⟨S_, .f32⟩
  | .hbm, ⟨20, _⟩ => ⟨S2x512x2048, .f32⟩
  | .hbm, ⟨21, _⟩ => ⟨S2x512x2048, .f32⟩
  | .hbm, ⟨22, _⟩ => ⟨S_, .f32⟩
  | .hbm, ⟨23, _⟩ => ⟨S2x512x2048, .f32⟩
  | .hbm, ⟨24, _⟩ => ⟨S2x512x2048, .f32⟩
  | .hbm, ⟨25, _⟩ => ⟨S2x512x2048, .f32⟩
  | .hbm, ⟨26, _⟩ => ⟨S_, .f32⟩
  | .hbm, ⟨27, _⟩ => ⟨S2x512x2048, .f32⟩
  | .hbm, ⟨28, _⟩ => ⟨S2x512x2048, .f32⟩
  | .hbm, ⟨29, _⟩ => ⟨S2x512x2048, .f32⟩
  | .hbm, ⟨30, _⟩ => ⟨S_, .f32⟩
  | .hbm, ⟨31, _⟩ => ⟨S2x512x2048, .f32⟩
  | .hbm, ⟨32, _⟩ => ⟨S2x512x2048, .f32⟩
  | .hbm, ⟨33, _⟩ => ⟨S2x512x2048, .f32⟩
  | .hbm, ⟨34, _⟩ => ⟨S_, .f32⟩
  | .hbm, ⟨35, _⟩ => ⟨S2x512x2048, .f32⟩
  | .hbm, ⟨36, _⟩ => ⟨S2x512x2048, .f32⟩
  | _, _ => ⟨S2x512x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== NormBwd.lean ====
abbrev S4096x2048 : Shape := ⟨2, ![4096, 2048]⟩
abbrev S1x2048 : Shape := ⟨2, ![1, 2048]⟩
abbrev S512x2048 : Shape := ⟨2, ![512, 2048]⟩
abbrev S512 : Shape := ⟨1, ![512]⟩
abbrev S512x1 : Shape := ⟨2, ![512, 1]⟩
abbrev S2048 : Shape := ⟨1, ![2048]⟩

abbrev nBuf : Space → Nat
  | .hbm => 6
  | .vmem => 10
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S1x2048, .f32⟩
  | .hbm, ⟨3, _⟩ => ⟨S4096x2048, .f32⟩
  | .hbm, ⟨4, _⟩ => ⟨S4096x2048, .f32⟩
  | .hbm, ⟨5, _⟩ => ⟨S1x2048, .f32⟩
  | .local _ .vmem, ⟨0, _⟩ => ⟨S512x2048, .f32⟩
  | .local _ .vmem, ⟨1, _⟩ => ⟨S512x2048, .f32⟩
  | .local _ .vmem, ⟨2, _⟩ => ⟨S512x2048, .f32⟩
  | .local _ .vmem, ⟨3, _⟩ => ⟨S512x2048, .f32⟩
  | .local _ .vmem, ⟨4, _⟩ => ⟨S1x2048, .f32⟩
  | .local _ .vmem, ⟨5, _⟩ => ⟨S512x2048, .f32⟩
  | .local _ .vmem, ⟨6, _⟩ => ⟨S512x2048, .f32⟩
  | .local _ .vmem, ⟨7, _⟩ => ⟨S512x2048, .f32⟩
  | .local _ .vmem, ⟨8, _⟩ => ⟨S512x2048, .f32⟩
  | .local _ .vmem, ⟨9, _⟩ => ⟨S1x2048, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32 : BitVec 32 := 0#32
  let v15 : BitVec 1 := Scalar.cmpi .eq arg0 c0_i32
  let v16 : BitVec 32 := Scalar.extui v15
  let c0_i32_6 : BitVec 32 := 0#32
  let v17 : BitVec 1 := Scalar.cmpi .ne v16 c0_i32_6
  v17

def k0_cond2 (i : grid0.Coords) : BitVec 1 :=
  let arg0 : BitVec 32 := BitVec.ofNat 32 (i 0).val
  let c0_i32_7 : BitVec 32 := 0#32
  let v18 : BitVec 1 := Scalar.cmpi .sgt arg0 c0_i32_7
  let v19 : BitVec 32 := Scalar.extui v18
  let c0_i32_8 : BitVec 32 := 0#32
  let v20 : BitVec 1 := Scalar.cmpi .ne v19 c0_i32_8
  v20

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== NormBwdReferenceIdeal.lean ====
abbrev S4096x2048 : Shape := ⟨2, ![4096, 2048]⟩
abbrev S1x2048 : Shape := ⟨2, ![1, 2048]⟩
abbrev S_ : Shape := ⟨0, ![]⟩
abbrev S4096 : Shape := ⟨1, ![4096]⟩
abbrev S4096x1 : Shape := ⟨2, ![4096, 1]⟩
abbrev S2048 : Shape := ⟨1, ![2048]⟩

abbrev nBuf : Space → Nat
  | .hbm => 47
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S1x2048, .f32⟩
  | .hbm, ⟨3, _⟩ => ⟨S4096x2048, .f32⟩
  | .hbm, ⟨4, _⟩ => ⟨S4096x2048, .f32⟩
  | .hbm, ⟨5, _⟩ => ⟨S_, .f32⟩
  | .hbm, ⟨6, _⟩ => ⟨S4096, .f32⟩
  | .hbm, ⟨7, _⟩ => ⟨S4096x1, .f32⟩
  | .hbm, ⟨8, _⟩ => ⟨S_, .f32⟩
  | .hbm, ⟨9, _⟩ => ⟨S4096x1, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S_, .f32⟩
  | .hbm, ⟨17, _⟩ => ⟨S4096x1, .f32⟩
  | .hbm, ⟨18, _⟩ => ⟨S4096x1, .f32⟩
  | .hbm, ⟨19, _⟩ => ⟨S4096x2048, .f32⟩
  | .hbm, ⟨20, _⟩ => ⟨S4096x2048, .f32⟩
  | .hbm, ⟨21, _⟩ => ⟨S4096x2048, .f32⟩
  | .hbm, ⟨22, _⟩ => ⟨S4096x2048, .f32⟩
  | .hbm, ⟨23, _⟩ => ⟨S4096x2048, .f32⟩
  | .hbm, ⟨24, _⟩ => ⟨S_, .f32⟩
  | .hbm, ⟨25, _⟩ => ⟨S2048, .f32⟩
  | .hbm, ⟨26, _⟩ => ⟨S1x2048, .f32⟩
  | .hbm, ⟨27, _⟩ => ⟨S4096x2048, .f32⟩
  | .hbm, ⟨28, _⟩ => ⟨S4096x2048, .f32⟩
  | .hbm, ⟨29, _⟩ => ⟨S4096x2048, .f32⟩
  | .hbm, ⟨30, _⟩ => ⟨S_, .f32⟩
  | .hbm, ⟨31, _⟩ => ⟨S4096, .f32⟩
  | .hbm, ⟨32, _⟩ => ⟨S4096x1, .f32⟩
  | .hbm, ⟨33, _⟩ => ⟨S4096x2048, .f32⟩
  | .hbm, ⟨34, _⟩ => ⟨S4096x2048, .f32⟩
  | .hbm, ⟨35, _⟩ => ⟨S4096x2048, .f32⟩
  | .hbm, ⟨36, _⟩ => ⟨S4096x1, .f32⟩
  | .hbm, ⟨37, _⟩ => ⟨S_, .f32⟩
  | .hbm, ⟨38, _⟩ => ⟨S4096x1, .f32⟩
  | .hbm, ⟨39, _⟩ => ⟨S4096x1, .f32⟩
  | .hbm, ⟨40, _⟩ => ⟨S_, .f32⟩
  | .hbm, ⟨41, _⟩ => ⟨S4096, .f32⟩
  | .hbm, ⟨42, _⟩ => ⟨S4096x2048, .f32⟩
  | .hbm, ⟨43, _⟩ => ⟨S4096x2048, .f32⟩
  | .hbm, ⟨44, _⟩ => ⟨S4096x2048, .f32⟩
  | .hbm, ⟨45, _⟩ => ⟨S4096x2048, .f32⟩
  | .hbm, ⟨46, _⟩ => ⟨S4096x2048, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_3 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_4 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_cst_5 : Ref sig .tc := ⟨.hbm, 37, rfl⟩
abbrev main_v27 : Ref sig .tc := ⟨.hbm, 38, rfl⟩
abbrev main_v28 : Ref sig .tc := ⟨.hbm, 39, rfl⟩
abbrev main_cst_6 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩

abbrev nD : Nat := 1
abbrev τ : Topo := Topo.v7x

variable {F : FTy → Type} [FloatOps F]
-- ==== NormFwd.lean ====
abbrev S4096x2048 : Shape := ⟨2, ![4096, 2048]⟩
abbrev S1x2048 : Shape := ⟨2, ![1, 2048]⟩
abbrev S512x2048 : Shape := ⟨2, ![512, 2048]⟩
abbrev S512 : Shape := ⟨1, ![512]⟩
abbrev S512x1 : Shape := ⟨2, ![512, 1]⟩

abbrev nBuf : Space → Nat
  | .hbm => 3
  | .vmem => 5
  | .smem => 0
  | _ => 0

abbrev bufTy : (tb : Table) → Fin (tcTables nBuf tb) → BufTy
  | .hbm, ⟨0, _⟩ => ⟨S4096x2048, .f32⟩
  | .hbm, ⟨1, _⟩ => ⟨S1x2048, .f32⟩
  | .hbm, ⟨2, _⟩ => ⟨S4096x2048, .bf16⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S512x2048, .bf16⟩
  | .local _ .vmem, ⟨4, _⟩ => ⟨S512x2048, .bf16⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== NormFwdReferenceIdeal.lean ====
abbrev S4096x2048 : Shape := ⟨2, ![4096, 2048]⟩
abbrev S1x2048 : Shape := ⟨2, ![1, 2048]⟩
abbrev S_ : Shape := ⟨0, ![]⟩
abbrev S4096 : Shape := ⟨1, ![4096]⟩
abbrev S4096x1 : Shape := ⟨2, ![4096, 1]⟩

abbrev nBuf : Space → Nat
  | .hbm => 18
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S1x2048, .f32⟩
  | .hbm, ⟨2, _⟩ => ⟨S4096x2048, .f32⟩
  | .hbm, ⟨3, _⟩ => ⟨S_, .f32⟩
  | .hbm, ⟨4, _⟩ => ⟨S4096, .f32⟩
  | .hbm, ⟨5, _⟩ => ⟨S4096x1, .f32⟩
  | .hbm, ⟨6, _⟩ => ⟨S_, .f32⟩
  | .hbm, ⟨7, _⟩ => ⟨S4096x1, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S4096x1, .f32⟩
  | .hbm, ⟨13, _⟩ => ⟨S4096x2048, .f32⟩
  | .hbm, ⟨14, _⟩ => ⟨S4096x2048, .f32⟩
  | .hbm, ⟨15, _⟩ => ⟨S4096x2048, .f32⟩
  | .hbm, ⟨16, _⟩ => ⟨S4096x2048, .f32⟩
  | .hbm, ⟨17, _⟩ => ⟨S4096x2048, .bf16⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]
-- ==== Gate.lean ====
abbrev S4096x512 : Shape := ⟨2, ![4096, 512]⟩
abbrev S4096x6144 : Shape := ⟨2, ![4096, 6144]⟩
abbrev S1x512 : Shape := ⟨2, ![1, 512]⟩
abbrev S1024x512 : Shape := ⟨2, ![1024, 512]⟩
abbrev S1024x128 : Shape := ⟨2, ![1024, 128]⟩
abbrev S1024 : Shape := ⟨1, ![1024]⟩
abbrev S1024x1 : Shape := ⟨2, ![1024, 1]⟩
abbrev S1x128 : Shape := ⟨2, ![1, 128]⟩

abbrev nBuf : Space → Nat
  | .hbm => 5
  | .vmem => 9
  | .smem => 0
  | _ => 0

abbrev bufTy : (tb : Table) → Fin (tcTables nBuf tb) → BufTy
  | .hbm, ⟨0, _⟩ => ⟨S4096x512, .f32⟩
  | .hbm, ⟨1, _⟩ => ⟨S4096x512, .f32⟩
  | .hbm, ⟨2, _⟩ => ⟨S4096x6144, .f32⟩
  | .hbm, ⟨3, _⟩ => ⟨S1x512, .f32⟩
  | .hbm, ⟨4, _⟩ => ⟨S4096x512, .bf16⟩
  | .local _ .vmem, ⟨0, _⟩ => ⟨S1024x512, .f32⟩
  | .local _ .vmem, ⟨1, _⟩ => ⟨S1024x512, .f32⟩
  | .local _ .vmem, ⟨2, _⟩ => ⟨S1024x512, .f32⟩
  | .local _ .vmem, ⟨3, _⟩ => ⟨S1024x512, .f32⟩
  | .local _ .vmem, ⟨4, _⟩ => ⟨S1024x512, .f32⟩
  | .local _ .vmem, ⟨5, _⟩ => ⟨S1024x512, .f32⟩
  | .local _ .vmem, ⟨6, _⟩ => ⟨S1x512, .f32⟩
  | .local _ .vmem, ⟨7, _⟩ => ⟨S1024x512, .bf16⟩
  | .local _ .vmem, ⟨8, _⟩ => ⟨S1024x512, .bf16⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1024x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== GateReferenceIdeal.lean ====
abbrev S4096x512 : Shape := ⟨2, ![4096, 512]⟩
abbrev S4096x6144 : Shape := ⟨2, ![4096, 6144]⟩
abbrev S1x512 : Shape := ⟨2, ![1, 512]⟩
abbrev S4096x4x128 : Shape := ⟨3, ![4096, 4, 128]⟩
abbrev S_ : Shape := ⟨0, ![]⟩
abbrev S4096x4 : Shape := ⟨2, ![4096, 4]⟩
abbrev S4096x4x1 : Shape := ⟨3, ![4096, 4, 1]⟩
abbrev S4x128 : Shape := ⟨2, ![4, 128]⟩
abbrev S1x4x128 : Shape := ⟨3, ![1, 4, 128]⟩

abbrev nBuf : Space → Nat
  | .hbm => 36
  | .vmem => 0
  | .smem => 0
  | _ => 0

abbrev bufTy : (tb : Table) → Fin (tcTables nBuf tb) → BufTy
  | .hbm, ⟨0, _⟩ => ⟨S4096x512, .f32⟩
  | .hbm, ⟨1, _⟩ => ⟨S4096x512, .f32⟩
  | .hbm, ⟨2, _⟩ => ⟨S4096x6144, .f32⟩
  | .hbm, ⟨3, _⟩ => ⟨S1x512, .f32⟩
  | .hbm, ⟨4, _⟩ => ⟨S4096x512, .f32⟩
  | .hbm, ⟨5, _⟩ => ⟨S4096x512, .f32⟩
  | .hbm, ⟨6, _⟩ => ⟨S4096x4x128, .f32⟩
  | .hbm, ⟨7, _⟩ => ⟨S4096x4x128, .f32⟩
  | .hbm, ⟨8, _⟩ => ⟨S_, .f32⟩
  | .hbm, ⟨9, _⟩ => ⟨S4096x4, .f32⟩
  | .hbm, ⟨10, _⟩ => ⟨S4096x4x1, .f32⟩
  | .hbm, ⟨11, _⟩ => ⟨S_, .f32⟩
  | .hbm, ⟨12, _⟩ => ⟨S4096x4x1, .f32⟩
  | .hbm, ⟨13, _⟩ => ⟨S4096x4x1, .f32⟩
  | .hbm, ⟨14, _⟩ => ⟨S_, .f32⟩
  | .hbm, ⟨15, _⟩ => ⟨S4096x4x1, .f32⟩
  | .hbm, ⟨16, _⟩ => ⟨S4096x4x1, .f32⟩
  | .hbm, ⟨17, _⟩ => ⟨S4096x4x1, .f32⟩
  | .hbm, ⟨18, _⟩ => ⟨S4096x4x128, .f32⟩
  | .hbm, ⟨19, _⟩ => ⟨S4096x4x128, .f32⟩
  | .hbm, ⟨20, _⟩ => ⟨S4x128, .f32⟩
  | .hbm, ⟨21, _⟩ => ⟨S1x4x128, .f32⟩
  | .hbm, ⟨22, _⟩ => ⟨S4096x4x128, .f32⟩
  | .hbm, ⟨23, _⟩ => ⟨S4096x4x128, .f32⟩
  | .hbm, ⟨24, _⟩ => ⟨S4096x512, .f32⟩
  | .hbm, ⟨25, _⟩ => ⟨S4096x512, .f32⟩
  | .hbm, ⟨26, _⟩ => ⟨S_, .f32⟩
  | .hbm, ⟨27, _⟩ => ⟨S4096x512, .f32⟩
  | .hbm, ⟨28, _⟩ => ⟨S4096x512, .f32⟩
  | .hbm, ⟨29, _⟩ => ⟨S_, .f32⟩
  | .hbm, ⟨30, _⟩ => ⟨S4096x512, .f32⟩
  | .hbm, ⟨31, _⟩ => ⟨S4096x512, .f32⟩
  | .hbm, ⟨32, _⟩ => ⟨S4096x512, .f32⟩
  | .hbm, ⟨33, _⟩ => ⟨S4096x512, .f32⟩
  | .hbm, ⟨34, _⟩ => ⟨S4096x512, .f32⟩
  | .hbm, ⟨35, _⟩ => ⟨S4096x512, .bf16⟩
  | _, _ => ⟨S4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_call0_v0 : Ref sig .tc := ⟨.hbm, 24, rfl⟩
abbrev main_call0_v1 : Ref sig .tc := ⟨.hbm, 25, rfl⟩
abbrev main_call0_cst : Ref sig .tc := ⟨.hbm, 26, rfl⟩
abbrev main_call0_v2 : Ref sig .tc := ⟨.hbm, 27, rfl⟩
abbrev main_call0_v3 : Ref sig .tc := ⟨.hbm, 28, rfl⟩
abbrev main_call0_cst_0 : Ref sig .tc := ⟨.hbm, 29, rfl⟩
abbrev main_call0_v4 : Ref sig .tc := ⟨.hbm, 30, rfl⟩
abbrev main_call0_v5 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩

abbrev nD : Nat := 1
abbrev τ : Topo := Topo.v7x

variable {F : FTy → Type} [FloatOps F]
-- ==== AttnGate.lean ====
abbrev S4096x512 : Shape := ⟨2, ![4096, 512]⟩
abbrev S4096x6144 : Shape := ⟨2, ![4096, 6144]⟩
abbrev S1x512 : Shape := ⟨2, ![1, 512]⟩
abbrev S1024x512 : Shape := ⟨2, ![1024, 512]⟩
abbrev S1024x128 : Shape := ⟨2, ![1024, 128]⟩

abbrev nBuf : Space → Nat
  | .hbm => 4
  | .vmem => 7
  | .smem => 0
  | _ => 0

abbrev bufTy : (tb : Table) → Fin (tcTables nBuf tb) → BufTy
  | .hbm, ⟨0, _⟩ => ⟨S4096x512, .f32⟩
  | .hbm, ⟨1, _⟩ => ⟨S4096x6144, .f32⟩
  | .hbm, ⟨2, _⟩ => ⟨S1x512, .f32⟩
  | .hbm, ⟨3, _⟩ => ⟨S4096x512, .bf16⟩
  | .local _ .vmem, ⟨0, _⟩ => ⟨S1024x512, .f32⟩
  | .local _ .vmem, ⟨1, _⟩ => ⟨S1024x512, .f32⟩
  | .local _ .vmem, ⟨2, _⟩ => ⟨S1024x512, .f32⟩
  | .local _ .vmem, ⟨3, _⟩ => ⟨S1024x512, .f32⟩
  | .local _ .vmem, ⟨4, _⟩ => ⟨S1x512, .f32⟩
  | .local _ .vmem, ⟨5, _⟩ => ⟨S1024x512, .bf16⟩
  | .local _ .vmem, ⟨6, _⟩ => ⟨S1024x512, .bf16⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c9_i32 : BitVec 32 := 9#32
  let c0_i32 : BitVec 32 := 0#32
  ![arg0.toNat, c9_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== AttnGateReferenceIdeal.lean ====
abbrev S4096x512 : Shape := ⟨2, ![4096, 512]⟩
abbrev S4096x6144 : Shape := ⟨2, ![4096, 6144]⟩
abbrev S1x512 : Shape := ⟨2, ![1, 512]⟩
abbrev S_ : Shape := ⟨0, ![]⟩

abbrev nBuf : Space → Nat
  | .hbm => 15
  | .vmem => 0
  | .smem => 0
  | _ => 0

abbrev bufTy : (tb : Table) → Fin (tcTables nBuf tb) → BufTy
  | .hbm, ⟨0, _⟩ => ⟨S4096x512, .f32⟩
  | .hbm, ⟨1, _⟩ => ⟨S4096x6144, .f32⟩
  | .hbm, ⟨2, _⟩ => ⟨S1x512, .f32⟩
  | .hbm, ⟨3, _⟩ => ⟨S4096x512, .f32⟩
  | .hbm, ⟨4, _⟩ => ⟨S4096x512, .f32⟩
  | .hbm, ⟨5, _⟩ => ⟨S4096x512, .f32⟩
  | .hbm, ⟨6, _⟩ => ⟨S_, .f32⟩
  | .hbm, ⟨7, _⟩ => ⟨S4096x512, .f32⟩
  | .hbm, ⟨8, _⟩ => ⟨S4096x512, .f32⟩
  | .hbm, ⟨9, _⟩ => ⟨S_, .f32⟩
  | .hbm, ⟨10, _⟩ => ⟨S4096x512, .f32⟩
  | .hbm, ⟨11, _⟩ => ⟨S4096x512, .f32⟩
  | .hbm, ⟨12, _⟩ => ⟨S4096x512, .f32⟩
  | .hbm, ⟨13, _⟩ => ⟨S4096x512, .f32⟩
  | .hbm, ⟨14, _⟩ => ⟨S4096x512, .bf16⟩
  | _, _ => ⟨S4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_call0_v0 : Ref sig .tc := ⟨.hbm, 4, rfl⟩
abbrev main_call0_v1 : Ref sig .tc := ⟨.hbm, 5, rfl⟩
abbrev main_call0_cst : Ref sig .tc := ⟨.hbm, 6, rfl⟩
abbrev main_call0_v2 : Ref sig .tc := ⟨.hbm, 7, rfl⟩
abbrev main_call0_v3 : Ref sig .tc := ⟨.hbm, 8, rfl⟩
abbrev main_call0_cst_0 : Ref sig .tc := ⟨.hbm, 9, rfl⟩
abbrev main_call0_v4 : Ref sig .tc := ⟨.hbm, 10, rfl⟩
abbrev main_call0_v5 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩

abbrev nD : Nat := 1
abbrev τ : Topo := Topo.v7x

variable {F : FTy → Type} [FloatOps F]
-- ==== SumSmall.lean ====
abbrev S8x1136x128 : Shape := ⟨3, ![8, 1136, 128]⟩
abbrev S1136x128 : Shape := ⟨2, ![1136, 128]⟩
abbrev S8x16x128 : Shape := ⟨3, ![8, 16, 128]⟩
abbrev S16x128 : Shape := ⟨2, ![16, 128]⟩
abbrev S1x16x128 : Shape := ⟨3, ![1, 16, 128]⟩
abbrev S145408 : Shape := ⟨1, ![145408]⟩
abbrev S4096 : Shape := ⟨1, ![4096]⟩
abbrev S1024 : Shape := ⟨1, ![1024]⟩
abbrev S512 : Shape := ⟨1, ![512]⟩
abbrev S131072 : Shape := ⟨1, ![131072]⟩
abbrev S384 : Shape := ⟨1, ![384]⟩
abbrev S1 : Shape := ⟨1, ![1]⟩
abbrev S_ : Shape := ⟨0, ![]⟩
abbrev S2x2048 : Shape := ⟨2, ![2, 2048]⟩
abbrev S2x512 : Shape := ⟨2, ![2, 512]⟩
abbrev S2x256 : Shape := ⟨2, ![2, 256]⟩
abbrev S2x4x128x128 : Shape := ⟨4, ![2, 4, 128, 128]⟩
abbrev S2x192 : Shape := ⟨2, ![2, 192]⟩

abbrev nBuf : Space → Nat
  | .hbm => 27
  | .vmem => 4
  | .smem => 0
  | _ => 0

abbrev bufTy : (tb : Table) → Fin (tcTables nBuf tb) → BufTy
  | .hbm, ⟨0, _⟩ => ⟨S8x1136x128, .f32⟩
  | .hbm, ⟨1, _⟩ => ⟨S1136x128, .f32⟩
  | .hbm, ⟨2, _⟩ => ⟨S145408, .f32⟩
  | .hbm, ⟨3, _⟩ => ⟨S4096, .f32⟩
  | .hbm, ⟨4, _⟩ => ⟨S1024, .f32⟩
  | .hbm, ⟨5, _⟩ => ⟨S512, .f32⟩
  | .hbm, ⟨6, _⟩ => ⟨S512, .f32⟩
  | .hbm, ⟨7, _⟩ => ⟨S1024, .f32⟩
  | .hbm, ⟨8, _⟩ => ⟨S131072, .f32⟩
  | .hbm, ⟨9, _⟩ => ⟨S1024, .f32⟩
  | .hbm, ⟨10, _⟩ => ⟨S1024, .f32⟩
  | .hbm, ⟨11, _⟩ => ⟨S512, .f32⟩
  | .hbm, ⟨12, _⟩ => ⟨S384, .f32⟩
  | .hbm, ⟨13, _⟩ => ⟨S384, .f32⟩
  | .hbm, ⟨14, _⟩ => ⟨S1, .f32⟩
  | .hbm, ⟨15, _⟩ => ⟨S_, .f32⟩
  | .hbm, ⟨16, _⟩ => ⟨S2x2048, .f32⟩
  | .hbm, ⟨17, _⟩ => ⟨S2x512, .f32⟩
  | .hbm, ⟨18, _⟩ => ⟨S2x256, .f32⟩
  | .hbm, ⟨19, _⟩ => ⟨S2x256, .f32⟩
  | .hbm, ⟨20, _⟩ => ⟨S2x512, .f32⟩
  | .hbm, ⟨21, _⟩ => ⟨S2x4x128x128, .f32⟩
  | .hbm, ⟨22, _⟩ => ⟨S2x512, .f32⟩
  | .hbm, ⟨23, _⟩ => ⟨S2x512, .f32⟩
  | .hbm, ⟨24, _⟩ => ⟨S2x256, .f32⟩
  | .hbm, ⟨25, _⟩ => ⟨S2x192, .f32⟩
  | .hbm, ⟨26, _⟩ => ⟨S2x192, .f32⟩
  | .local _ .vmem, ⟨0, _⟩ => ⟨S8x16x128, .f32⟩
  | .local _ .vmem, ⟨1, _⟩ => ⟨S8x16x128, .f32⟩
  | .local _ .vmem, ⟨2, _⟩ => ⟨S16x128, .f32⟩
  | .local _ .vmem, ⟨3, _⟩ => ⟨S16x128, .f32⟩
  | _, _ => ⟨S8x1136x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_v7 : Ref sig .tc := ⟨.hbm, 8, rfl⟩
abbrev main_v8 : Ref sig .tc := ⟨.hbm, 9, rfl⟩
abbrev main_v9 : Ref sig .tc := ⟨.hbm, 10, rfl⟩
abbrev main_v10 : Ref sig .tc := ⟨.hbm, 11, rfl⟩
abbrev main_v11 : Ref sig .tc := ⟨.hbm, 12, rfl⟩
abbrev main_v12 : Ref sig .tc := ⟨.hbm, 13, rfl⟩
abbrev main_v13 : Ref sig .tc := ⟨.hbm, 14, rfl⟩
abbrev main_v14 : Ref sig .tc := ⟨.hbm, 15, rfl⟩
abbrev main_v15 : Ref sig .tc := ⟨.hbm, 16, rfl⟩
abbrev main_v16 : Ref sig .tc := ⟨.hbm, 17, rfl⟩
abbrev main_v17 : Ref sig .tc := ⟨.hbm, 18, rfl⟩
abbrev main_v18 : Ref sig .tc := ⟨.hbm, 19, rfl⟩
abbrev main_v19 : Ref sig .tc := ⟨.hbm, 20, rfl⟩
abbrev main_v20 : Ref sig .tc := ⟨.hbm, 21, rfl⟩
abbrev main_v21 : Ref sig .tc := ⟨.hbm, 22, rfl⟩
abbrev main_v22 : Ref sig .tc := ⟨.hbm, 23, rfl⟩
abbrev main_v23 : Ref sig .tc := ⟨.hbm, 24, rfl⟩
abbrev main_v24 : Ref sig .tc := ⟨.hbm, 25, rfl⟩
abbrev main_v25 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![71], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x16x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== SumSmallReferenceIdeal.lean ====
abbrev S8x1136x128 : Shape := ⟨3, ![8, 1136, 128]⟩
abbrev S8x145408 : Shape := ⟨2, ![8, 145408]⟩
abbrev S8x4096 : Shape := ⟨2, ![8, 4096]⟩
abbrev S_ : Shape := ⟨0, ![]⟩
abbrev S4096 : Shape := ⟨1, ![4096]⟩
abbrev S2x2048 : Shape := ⟨2, ![2, 2048]⟩
abbrev S8x1024 : Shape := ⟨2, ![8, 1024]⟩
abbrev S1024 : Shape := ⟨1, ![1024]⟩
abbrev S2x512 : Shape := ⟨2, ![2, 512]⟩
abbrev S8x512 : Shape := ⟨2, ![8, 512]⟩
abbrev S512 : Shape := ⟨1, ![512]⟩
abbrev S2x256 : Shape := ⟨2, ![2, 256]⟩
abbrev S8x131072 : Shape := ⟨2, ![8, 131072]⟩
abbrev S131072 : Shape := ⟨1, ![131072]⟩
abbrev S2x4x128x128 : Shape := ⟨4, ![2, 4, 128, 128]⟩
abbrev S8x384 : Shape := ⟨2, ![8, 384]⟩
abbrev S384 : Shape := ⟨1, ![384]⟩
abbrev S2x192 : Shape := ⟨2, ![2, 192]⟩
abbrev S8x1 : Shape := ⟨2, ![8, 1]⟩
abbrev S8 : Shape := ⟨1, ![8]⟩

abbrev nBuf : Space → Nat
  | .hbm => 50
  | .vmem => 0
  | .smem => 0
  | _ => 0

abbrev bufTy : (tb : Table) → Fin (tcTables nBuf tb) → BufTy
  | .hbm, ⟨0, _⟩ => ⟨S8x1136x128, .f32⟩
  | .hbm, ⟨1, _⟩ => ⟨S8x145408, .f32⟩
  | .hbm, ⟨2, _⟩ => ⟨S8x4096, .f32⟩
  | .hbm, ⟨3, _⟩ => ⟨S_, .f32⟩
  | .hbm, ⟨4, _⟩ => ⟨S4096, .f32⟩
  | .hbm, ⟨5, _⟩ => ⟨S2x2048, .f32⟩
  | .hbm, ⟨6, _⟩ => ⟨S8x1024, .f32⟩
  | .hbm, ⟨7, _⟩ => ⟨S_, .f32⟩
  | .hbm, ⟨8, _⟩ => ⟨S1024, .f32⟩
  | .hbm, ⟨9, _⟩ => ⟨S2x512, .f32⟩
  | .hbm, ⟨10, _⟩ => ⟨S8x512, .f32⟩
  | .hbm, ⟨11, _⟩ => ⟨S_, .f32⟩
  | .hbm, ⟨12, _⟩ => ⟨S512, .f32⟩
  | .hbm, ⟨13, _⟩ => ⟨S2x256, .f32⟩
  | .hbm, ⟨14, _⟩ => ⟨S8x512, .f32⟩
  | .hbm, ⟨15, _⟩ => ⟨S_, .f32⟩
  | .hbm, ⟨16, _⟩ => ⟨S512, .f32⟩
  | .hbm, ⟨17, _⟩ => ⟨S2x256, .f32⟩
  | .hbm, ⟨18, _⟩ => ⟨S8x1024, .f32⟩
  | .hbm, ⟨19, _⟩ => ⟨S_, .f32⟩
  | .hbm, ⟨20, _⟩ => ⟨S1024, .f32⟩
  | .hbm, ⟨21, _⟩ => ⟨S2x512, .f32⟩
  | .hbm, ⟨22, _⟩ => ⟨S8x131072, .f32⟩
  | .hbm, ⟨23, _⟩ => ⟨S_, .f32⟩
  | .hbm, ⟨24, _⟩ => ⟨S131072, .f32⟩
  | .hbm, ⟨25, _⟩ => ⟨S2x4x128x128, .f32⟩
  | .hbm, ⟨26, _⟩ => ⟨S8x1024, .f32⟩
  | .hbm, ⟨27, _⟩ => ⟨S_, .f32⟩
  | .hbm, ⟨28, _⟩ => ⟨S1024, .f32⟩
  | .hbm, ⟨29, _⟩ => ⟨S2x512, .f32⟩
  | .hbm, ⟨30, _⟩ => ⟨S8x1024, .f32⟩
  | .hbm, ⟨31, _⟩ => ⟨S_, .f32⟩
  | .hbm, ⟨32, _⟩ => ⟨S1024, .f32⟩
  | .hbm, ⟨33, _⟩ => ⟨S2x512, .f32⟩
  | .hbm, ⟨34, _⟩ => ⟨S8x512, .f32⟩
  | .hbm, ⟨35, _⟩ => ⟨S_, .f32⟩
  | .hbm, ⟨36, _⟩ => ⟨S512, .f32⟩
  | .hbm, ⟨37, _⟩ => ⟨S2x256, .f32⟩
  | .hbm, ⟨38, _⟩ => ⟨S8x384, .f32⟩
  | .hbm, ⟨39, _⟩ => ⟨S_, .f32⟩
  | .hbm, ⟨40, _⟩ => ⟨S384, .f32⟩
  | .hbm, ⟨41, _⟩ => ⟨S2x192, .f32⟩
  | .hbm, ⟨42, _⟩ => ⟨S8x384, .f32⟩
  | .hbm, ⟨43, _⟩ => ⟨S_, .f32⟩
  | .hbm, ⟨44, _⟩ => ⟨S384, .f32⟩
  | .hbm, ⟨45, _⟩ => ⟨S2x192, .f32⟩
  | .hbm, ⟨46, _⟩ => ⟨S8x1, .f32⟩
  | .hbm, ⟨47, _⟩ => ⟨S8, .f32⟩
  | .hbm, ⟨48, _⟩ => ⟨S_, .f32⟩
  | .hbm, ⟨49, _⟩ => ⟨S_, .f32⟩
  | _, _ => ⟨S8x1136x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_cst : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_cst_0 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_cst_1 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_cst_2 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst_3 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_cst_4 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_cst_5 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_cst_6 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_cst_7 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_cst_8 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_cst_9 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_cst_10 : Ref sig .tc := ⟨.hbm, 48, rfl⟩
abbrev main_v36 : Ref sig .tc := ⟨.hbm, 49, rfl⟩

abbrev nD : Nat := 1
abbrev τ : Topo := Topo.v7x

variable {F : FTy → Type} [FloatOps F]
-- ==== AttnFwd.lean ====
abbrev S4096x1024 : Shape := ⟨2, ![4096, 1024]⟩
abbrev S4096x512 : Shape := ⟨2, ![4096, 512]⟩
abbrev S1024x256 : Shape := ⟨2, ![1024, 256]⟩
abbrev S1024x128 : Shape := ⟨2, ![1024, 128]⟩
abbrev S1024x1024 : Shape := ⟨2, ![1024, 1024]⟩
abbrev S1024 : Shape := ⟨1, ![1024]⟩
abbrev S1024x1 : Shape := ⟨2, ![1024, 1]⟩

abbrev nBuf : Space → Nat
  | .hbm => 5
  | .vmem => 13
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S4096x512, .bf16⟩
  | .hbm, ⟨3, _⟩ => ⟨S4096x512, .f32⟩
  | .hbm, ⟨4, _⟩ => ⟨S4096x512, .f32⟩
  | .local _ .vmem, ⟨0, _⟩ => ⟨S1024x256, .bf16⟩
  | .local _ .vmem, ⟨1, _⟩ => ⟨S1024x256, .bf16⟩
  | .local _ .vmem, ⟨2, _⟩ => ⟨S1024x256, .bf16⟩
  | .local _ .vmem, ⟨3, _⟩ => ⟨S1024x256, .bf16⟩
  | .local _ .vmem, ⟨4, _⟩ => ⟨S1024x128, .bf16⟩
  | .local _ .vmem, ⟨5, _⟩ => ⟨S1024x128, .bf16⟩
  | .local _ .vmem, ⟨6, _⟩ => ⟨S1024x128, .f32⟩
  | .local _ .vmem, ⟨7, _⟩ => ⟨S1024x128, .f32⟩
  | .local _ .vmem, ⟨8, _⟩ => ⟨S1024x128, .f32⟩
  | .local _ .vmem, ⟨9, _⟩ => ⟨S1024x128, .f32⟩
  | .local _ .vmem, ⟨10, _⟩ => ⟨S1024x128, .f32⟩
  | .local _ .vmem, ⟨11, _⟩ => ⟨S1024x128, .f32⟩
  | .local _ .vmem, ⟨12, _⟩ => ⟨S1024x128, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![4, 4, 4], ![false, false, false]⟩

def k0_cond2 (i : grid0.Coords) : BitVec 1 :=
  let arg2 : BitVec 32 := BitVec.ofNat 32 (i 2).val
  let c3_i32 : BitVec 32 := 3#32
  let v38 : BitVec 1 := Scalar.cmpi .eq arg2 c3_i32
  let v39 : BitVec 32 := Scalar.extui v38
  let c0_i32_21 : BitVec 32 := 0#32
  let v40 : BitVec 1 := Scalar.cmpi .ne v39 c0_i32_21
  v40

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S1024x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1024x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1024x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, true]

abbrev stage0_3 : Fin 2 → Memref sig .tc .vmem S1024x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1024x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]
-- ==== AttnFwdReferenceIdeal.lean ====
abbrev S4096x1024 : Shape := ⟨2, ![4096, 1024]⟩
abbrev S4096x512 : Shape := ⟨2, ![4096, 512]⟩
abbrev S4096x4x256 : Shape := ⟨3, ![4096, 4, 256]⟩
abbrev S4096x4x128 : Shape := ⟨3, ![4096, 4, 128]⟩
abbrev S4x4096x4096 : Shape := ⟨3, ![4, 4096, 4096]⟩
abbrev S_ : Shape := ⟨0, ![]⟩
abbrev S4x4096 : Shape := ⟨2, ![4, 4096]⟩
abbrev S4x4096x1 : Shape := ⟨3, ![4, 4096, 1]⟩
abbrev S4x128x4096 : Shape := ⟨3, ![4, 128, 4096]⟩
abbrev S4096x4x4096 : Shape := ⟨3, ![4096, 4, 4096]⟩
abbrev S4096x4 : Shape := ⟨2, ![4096, 4]⟩
abbrev S4096x4x1 : Shape := ⟨3, ![4096, 4, 1]⟩

abbrev nBuf : Space → Nat
  | .hbm => 44
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S4096x512, .bf16⟩
  | .hbm, ⟨3, _⟩ => ⟨S4096x1024, .f32⟩
  | .hbm, ⟨4, _⟩ => ⟨S4096x1024, .f32⟩
  | .hbm, ⟨5, _⟩ => ⟨S4096x512, .f32⟩
  | .hbm, ⟨6, _⟩ => ⟨S4096x4x256, .f32⟩
  | .hbm, ⟨7, _⟩ => ⟨S4096x4x256, .f32⟩
  | .hbm, ⟨8, _⟩ => ⟨S4096x4x128, .f32⟩
  | .hbm, ⟨9, _⟩ => ⟨S4x4096x4096, .f32⟩
  | .hbm, ⟨10, _⟩ => ⟨S_, .f32⟩
  | .hbm, ⟨11, _⟩ => ⟨S4x4096, .f32⟩
  | .hbm, ⟨12, _⟩ => ⟨S_, .f32⟩
  | .hbm, ⟨13, _⟩ => ⟨S4x4096, .f32⟩
  | .hbm, ⟨14, _⟩ => ⟨S4x4096, .f32⟩
  | .hbm, ⟨15, _⟩ => ⟨S4x4096x1, .f32⟩
  | .hbm, ⟨16, _⟩ => ⟨S4x4096x4096, .f32⟩
  | .hbm, ⟨17, _⟩ => ⟨S4x4096x4096, .f32⟩
  | .hbm, ⟨18, _⟩ => ⟨S4x4096x4096, .f32⟩
  | .hbm, ⟨19, _⟩ => ⟨S_, .f32⟩
  | .hbm, ⟨20, _⟩ => ⟨S4x4096, .f32⟩
  | .hbm, ⟨21, _⟩ => ⟨S4x4096x1, .f32⟩
  | .hbm, ⟨22, _⟩ => ⟨S4x4096x4096, .f32⟩
  | .hbm, ⟨23, _⟩ => ⟨S4x4096x4096, .f32⟩
  | .hbm, ⟨24, _⟩ => ⟨S4x128x4096, .f32⟩
  | .hbm, ⟨25, _⟩ => ⟨S4096x4x128, .f32⟩
  | .hbm, ⟨26, _⟩ => ⟨S4096x512, .f32⟩
  | .hbm, ⟨27, _⟩ => ⟨S4096x4x256, .f32⟩
  | .hbm, ⟨28, _⟩ => ⟨S4096x4x256, .f32⟩
  | .hbm, ⟨29, _⟩ => ⟨S4x4096x4096, .f32⟩
  | .hbm, ⟨30, _⟩ => ⟨S4096x4x4096, .f32⟩
  | .hbm, ⟨31, _⟩ => ⟨S_, .f32⟩
  | .hbm, ⟨32, _⟩ => ⟨S4096x4, .f32⟩
  | .hbm, ⟨33, _⟩ => ⟨S4096x4x1, .f32⟩
  | .hbm, ⟨34, _⟩ => ⟨S4096x4x4096, .f32⟩
  | .hbm, ⟨35, _⟩ => ⟨S4096x4x4096, .f32⟩
  | .hbm, ⟨36, _⟩ => ⟨S4096x4x4096, .f32⟩
  | .hbm, ⟨37, _⟩ => ⟨S_, .f32⟩
  | .hbm, ⟨38, _⟩ => ⟨S4096x4, .f32⟩
  | .hbm, ⟨39, _⟩ => ⟨S4096x4, .f32⟩
  | .hbm, ⟨40, _⟩ => ⟨S4096x4, .f32⟩
  | .hbm, ⟨41, _⟩ => ⟨S4096x4x1, .f32⟩
  | .hbm, ⟨42, _⟩ => ⟨S4096x4x128, .f32⟩
  | .hbm, ⟨43, _⟩ => ⟨S4096x512, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst : Ref sig .tc := ⟨.hbm, 10, rfl⟩
abbrev main_v7 : Ref sig .tc := ⟨.hbm, 11, rfl⟩
abbrev main_cst_0 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst_1 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_cst_2 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_cst_3 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩

abbrev nD : Nat := 1
abbrev τ : Topo := Topo.v7x

variable {F : FTy → Type} [FloatOps F]
-- ==== GateBwd.lean ====
abbrev S4096x2048 : Shape := ⟨2, ![4096, 2048]⟩
abbrev S4096x512 : Shape := ⟨2, ![4096, 512]⟩
abbrev S4096x6144 : Shape := ⟨2, ![4096, 6144]⟩
abbrev S1x512 : Shape := ⟨2, ![1, 512]⟩
abbrev S1024x512 : Shape := ⟨2, ![1024, 512]⟩
abbrev S1024x128 : Shape := ⟨2, ![1024, 128]⟩
abbrev S1024 : Shape := ⟨1, ![1024]⟩
abbrev S1024x1 : Shape := ⟨2, ![1024, 1]⟩
abbrev S1x128 : Shape := ⟨2, ![1, 128]⟩
abbrev S128 : Shape := ⟨1, ![128]⟩

abbrev nBuf : Space → Nat
  | .hbm => 9
  | .vmem => 14
  | .smem => 0
  | _ => 0

abbrev bufTy : (tb : Table) → Fin (tcTables nBuf tb) → BufTy
  | .hbm, ⟨0, _⟩ => ⟨S4096x2048, .f32⟩
  | .hbm, ⟨1, _⟩ => ⟨S4096x512, .f32⟩
  | .hbm, ⟨2, _⟩ => ⟨S4096x512, .f32⟩
  | .hbm, ⟨3, _⟩ => ⟨S4096x6144, .f32⟩
  | .hbm, ⟨4, _⟩ => ⟨S1x512, .f32⟩
  | .hbm, ⟨5, _⟩ => ⟨S4096x6144, .bf16⟩
  | .hbm, ⟨6, _⟩ => ⟨S4096x6144, .bf16⟩
  | .hbm, ⟨7, _⟩ => ⟨S4096x512, .f32⟩
  | .hbm, ⟨8, _⟩ => ⟨S1x512, .f32⟩
  | .local _ .vmem, ⟨0, _⟩ => ⟨S1024x512, .f32⟩
  | .local _ .vmem, ⟨1, _⟩ => ⟨S1024x512, .f32⟩
  | .local _ .vmem, ⟨2, _⟩ => ⟨S1024x512, .f32⟩
  | .local _ .vmem, ⟨3, _⟩ => ⟨S1024x512, .f32⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | .local _ .vmem, ⟨7, _⟩ => ⟨S1024x512, .f32⟩
  | .local _ .vmem, ⟨8, _⟩ => ⟨S1x512, .f32⟩
  | .local _ .vmem, ⟨9, _⟩ => ⟨S1024x512, .bf16⟩
  | .local _ .vmem, ⟨10, _⟩ => ⟨S1024x512, .bf16⟩
  | .local _ .vmem, ⟨11, _⟩ => ⟨S1024x512, .f32⟩
  | .local _ .vmem, ⟨12, _⟩ => ⟨S1024x512, .f32⟩
  | .local _ .vmem, ⟨13, _⟩ => ⟨S1x512, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13

abbrev nD : Nat := 1
abbrev τ : Topo := Topo.v7x

variable {F : FTy → Type} [FloatOps F]

abbrev grid0 : Pipeline.Grid := ⟨1, ![4], ![false]⟩

def k0_cond1 (i : grid0.Coords) : BitVec 1 :=
  let arg0 : BitVec 32 := BitVec.ofNat 32 (i 0).val
  let c0_i32 : BitVec 32 := 0#32
  let v181 : BitVec 1 := Scalar.cmpi .eq arg0 c0_i32
  let v182 : BitVec 32 := Scalar.extui v181
  let c0_i32_68 : BitVec 32 := 0#32
  let v183 : BitVec 1 := Scalar.cmpi .ne v182 c0_i32_68
  v183

def k0_cond2 (i : grid0.Coords) : BitVec 1 :=
  let arg0 : BitVec 32 := BitVec.ofNat 32 (i 0).val
  let c0_i32_69 : BitVec 32 := 0#32
  let v184 : BitVec 1 := Scalar.cmpi .sgt arg0 c0_i32_69
  let v185 : BitVec 32 := Scalar.extui v184
  let c0_i32_70 : BitVec 32 := 0#32
  let v186 : BitVec 1 := Scalar.cmpi .ne v185 c0_i32_70
  v186

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1024x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1024x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== GateBwdReferenceIdeal.lean ====
abbrev S4096x2048 : Shape := ⟨2, ![4096, 2048]⟩
abbrev S4096x512 : Shape := ⟨2, ![4096, 512]⟩
abbrev S4096x6144 : Shape := ⟨2, ![4096, 6144]⟩
abbrev S1x512 : Shape := ⟨2, ![1, 512]⟩
abbrev S4096x4x128 : Shape := ⟨3, ![4096, 4, 128]⟩
abbrev S_ : Shape := ⟨0, ![]⟩
abbrev S4096x4 : Shape := ⟨2, ![4096, 4]⟩
abbrev S4096x4x1 : Shape := ⟨3, ![4096, 4, 1]⟩
abbrev S4x128 : Shape := ⟨2, ![4, 128]⟩
abbrev S1x4x128 : Shape := ⟨3, ![1, 4, 128]⟩

abbrev nBuf : Space → Nat
  | .hbm => 84
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S4096x512, .f32⟩
  | .hbm, ⟨2, _⟩ => ⟨S4096x512, .f32⟩
  | .hbm, ⟨3, _⟩ => ⟨S4096x6144, .f32⟩
  | .hbm, ⟨4, _⟩ => ⟨S1x512, .f32⟩
  | .hbm, ⟨5, _⟩ => ⟨S4096x6144, .bf16⟩
  | .hbm, ⟨6, _⟩ => ⟨S4096x512, .f32⟩
  | .hbm, ⟨7, _⟩ => ⟨S4096x512, .f32⟩
  | .hbm, ⟨8, _⟩ => ⟨S4096x4x128, .f32⟩
  | .hbm, ⟨9, _⟩ => ⟨S4096x4x128, .f32⟩
  | .hbm, ⟨10, _⟩ => ⟨S_, .f32⟩
  | .hbm, ⟨11, _⟩ => ⟨S4096x4, .f32⟩
  | .hbm, ⟨12, _⟩ => ⟨S4096x4x1, .f32⟩
  | .hbm, ⟨13, _⟩ => ⟨S_, .f32⟩
  | .hbm, ⟨14, _⟩ => ⟨S4096x4x1, .f32⟩
  | .hbm, ⟨15, _⟩ => ⟨S4096x4x1, .f32⟩
  | .hbm, ⟨16, _⟩ => ⟨S_, .f32⟩
  | .hbm, ⟨17, _⟩ => ⟨S4096x4x1, .f32⟩
  | .hbm, ⟨18, _⟩ => ⟨S4096x4x1, .f32⟩
  | .hbm, ⟨19, _⟩ => ⟨S4096x4x1, .f32⟩
  | .hbm, ⟨20, _⟩ => ⟨S4096x4x1, .f32⟩
  | .hbm, ⟨21, _⟩ => ⟨S_, .f32⟩
  | .hbm, ⟨22, _⟩ => ⟨S4096x4x1, .f32⟩
  | .hbm, ⟨23, _⟩ => ⟨S4096x4x1, .f32⟩
  | .hbm, ⟨24, _⟩ => ⟨S4096x4x128, .f32⟩
  | .hbm, ⟨25, _⟩ => ⟨S4096x4x128, .f32⟩
  | .hbm, ⟨26, _⟩ => ⟨S4x128, .f32⟩
  | .hbm, ⟨27, _⟩ => ⟨S1x4x128, .f32⟩
  | .hbm, ⟨28, _⟩ => ⟨S4096x4x128, .f32⟩
  | .hbm, ⟨29, _⟩ => ⟨S4096x4x128, .f32⟩
  | .hbm, ⟨30, _⟩ => ⟨S4096x512, .f32⟩
  | .hbm, ⟨31, _⟩ => ⟨S4096x512, .f32⟩
  | .hbm, ⟨32, _⟩ => ⟨S_, .f32⟩
  | .hbm, ⟨33, _⟩ => ⟨S4096x512, .f32⟩
  | .hbm, ⟨34, _⟩ => ⟨S4096x512, .f32⟩
  | .hbm, ⟨35, _⟩ => ⟨S_, .f32⟩
  | .hbm, ⟨36, _⟩ => ⟨S4096x512, .f32⟩
  | .hbm, ⟨37, _⟩ => ⟨S4096x512, .f32⟩
  | .hbm, ⟨38, _⟩ => ⟨S_, .f32⟩
  | .hbm, ⟨39, _⟩ => ⟨S4096x512, .f32⟩
  | .hbm, ⟨40, _⟩ => ⟨S4096x512, .f32⟩
  | .hbm, ⟨41, _⟩ => ⟨S4096x512, .f32⟩
  | .hbm, ⟨42, _⟩ => ⟨S4096x512, .f32⟩
  | .hbm, ⟨43, _⟩ => ⟨S4096x512, .f32⟩
  | .hbm, ⟨44, _⟩ => ⟨S4096x512, .f32⟩
  | .hbm, ⟨45, _⟩ => ⟨S4096x512, .f32⟩
  | .hbm, ⟨46, _⟩ => ⟨S4096x512, .f32⟩
  | .hbm, ⟨47, _⟩ => ⟨S4096x512, .f32⟩
  | .hbm, ⟨48, _⟩ => ⟨S4096x4x128, .f32⟩
  | .hbm, ⟨49, _⟩ => ⟨S4096x512, .f32⟩
  | .hbm, ⟨50, _⟩ => ⟨S4096x512, .f32⟩
  | .hbm, ⟨51, _⟩ => ⟨S4096x512, .f32⟩
  | .hbm, ⟨52, _⟩ => ⟨S4096x512, .f32⟩
  | .hbm, ⟨53, _⟩ => ⟨S4096x4x128, .f32⟩
  | .hbm, ⟨54, _⟩ => ⟨S_, .f32⟩
  | .hbm, ⟨55, _⟩ => ⟨S4x128, .f32⟩
  | .hbm, ⟨56, _⟩ => ⟨S1x4x128, .f32⟩
  | .hbm, ⟨57, _⟩ => ⟨S4096x4x128, .f32⟩
  | .hbm, ⟨58, _⟩ => ⟨S4096x4x128, .f32⟩
  | .hbm, ⟨59, _⟩ => ⟨S_, .f32⟩
  | .hbm, ⟨60, _⟩ => ⟨S4x128, .f32⟩
  | .hbm, ⟨61, _⟩ => ⟨S1x512, .f32⟩
  | .hbm, ⟨62, _⟩ => ⟨S4096x4x128, .f32⟩
  | .hbm, ⟨63, _⟩ => ⟨S_, .f32⟩
  | .hbm, ⟨64, _⟩ => ⟨S4096x4, .f32⟩
  | .hbm, ⟨65, _⟩ => ⟨S4096x4x1, .f32⟩
  | .hbm, ⟨66, _⟩ => ⟨S4096x4x128, .f32⟩
  | .hbm, ⟨67, _⟩ => ⟨S4096x4x128, .f32⟩
  | .hbm, ⟨68, _⟩ => ⟨S4096x4x1, .f32⟩
  | .hbm, ⟨69, _⟩ => ⟨S_, .f32⟩
  | .hbm, ⟨70, _⟩ => ⟨S4096x4x1, .f32⟩
  | .hbm, ⟨71, _⟩ => ⟨S4096x4x1, .f32⟩
  | .hbm, ⟨72, _⟩ => ⟨S_, .f32⟩
  | .hbm, ⟨73, _⟩ => ⟨S4096x4, .f32⟩
  | .hbm, ⟨74, _⟩ => ⟨S4096x4x128, .f32⟩
  | .hbm, ⟨75, _⟩ => ⟨S4096x4x128, .f32⟩
  | .hbm, ⟨76, _⟩ => ⟨S4096x4x128, .f32⟩
  | .hbm, ⟨77, _⟩ => ⟨S4096x4x128, .f32⟩
  | .hbm, ⟨78, _⟩ => ⟨S4096x4x128, .f32⟩
  | .hbm, ⟨79, _⟩ => ⟨S4096x512, .f32⟩
  | .hbm, ⟨80, _⟩ => ⟨S4096x512, .bf16⟩
  | .hbm, ⟨81, _⟩ => ⟨S_, .i32⟩
  | .hbm, ⟨82, _⟩ => ⟨S_, .i32⟩
  | .hbm, ⟨83, _⟩ => ⟨S4096x6144, .bf16⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_v5 : Ref sig .tc := ⟨.hbm, 12, rfl⟩
abbrev main_cst_0 : Ref sig .tc := ⟨.hbm, 13, rfl⟩
abbrev main_v6 : Ref sig .tc := ⟨.hbm, 14, rfl⟩
abbrev main_v7 : Ref sig .tc := ⟨.hbm, 15, rfl⟩
abbrev main_cst_1 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_2 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_call0_v0 : Ref sig .tc := ⟨.hbm, 30, rfl⟩
abbrev main_call0_v1 : Ref sig .tc := ⟨.hbm, 31, rfl⟩
abbrev main_call0_cst : Ref sig .tc := ⟨.hbm, 32, rfl⟩
abbrev main_call0_v2 : Ref sig .tc := ⟨.hbm, 33, rfl⟩
abbrev main_call0_v3 : Ref sig .tc := ⟨.hbm, 34, rfl⟩
abbrev main_call0_cst_0 : Ref sig .tc := ⟨.hbm, 35, rfl⟩
abbrev main_call0_v4 : Ref sig .tc := ⟨.hbm, 36, rfl⟩
abbrev main_v20_2 : Ref sig .tc := ⟨.hbm, 37, rfl⟩
abbrev main_call0_cst_1 : Ref sig .tc := ⟨.hbm, 38, rfl⟩
abbrev main_call0_v6 : Ref sig .tc := ⟨.hbm, 39, rfl⟩
abbrev main_call0_v7 : Ref sig .tc := ⟨.hbm, 40, rfl⟩
abbrev main_v20_1 : Ref sig .tc := ⟨.hbm, 41, rfl⟩
abbrev main_v20_0 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_call1_v0 : Ref sig .tc := ⟨.hbm, 49, rfl⟩
abbrev main_call1_v1 : Ref sig .tc := ⟨.hbm, 50, rfl⟩
abbrev main_call1_v2 : Ref sig .tc := ⟨.hbm, 51, rfl⟩
abbrev main_v27 : Ref sig .tc := ⟨.hbm, 52, rfl⟩
abbrev main_v28 : Ref sig .tc := ⟨.hbm, 53, rfl⟩
abbrev main_cst_3 : Ref sig .tc := ⟨.hbm, 54, rfl⟩
abbrev main_v29 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_cst_4 : Ref sig .tc := ⟨.hbm, 59, rfl⟩
abbrev main_v33 : Ref sig .tc := ⟨.hbm, 60, rfl⟩
abbrev main_v34 : Ref sig .tc := ⟨.hbm, 61, rfl⟩
abbrev main_v35 : Ref sig .tc := ⟨.hbm, 62, rfl⟩
abbrev main_cst_5 : Ref sig .tc := ⟨.hbm, 63, rfl⟩
abbrev main_v36 : Ref sig .tc := ⟨.hbm, 64, rfl⟩
abbrev main_v37 : Ref sig .tc := ⟨.hbm, 65, rfl⟩
abbrev main_v38 : Ref sig .tc := ⟨.hbm, 66, rfl⟩
abbrev main_v39 : Ref sig .tc := ⟨.hbm, 67, rfl⟩
abbrev main_v40 : Ref sig .tc := ⟨.hbm, 68, rfl⟩
abbrev main_cst_6 : Ref sig .tc := ⟨.hbm, 69, rfl⟩
abbrev main_v41 : Ref sig .tc := ⟨.hbm, 70, rfl⟩
abbrev main_v42 : Ref sig .tc := ⟨.hbm, 71, rfl⟩
abbrev main_cst_7 : Ref sig .tc := ⟨.hbm, 72, rfl⟩
abbrev main_v43 : Ref sig .tc := ⟨.hbm, 73, rfl⟩
abbrev main_v44 : Ref sig .tc := ⟨.hbm, 74, rfl⟩
abbrev main_v45 : Ref sig .tc := ⟨.hbm, 75, rfl⟩
abbrev main_v46 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_c : Ref sig .tc := ⟨.hbm, 81, rfl⟩
abbrev main_c_8 : Ref sig .tc := ⟨.hbm, 82, rfl⟩
abbrev main_v51 : Ref sig .tc := ⟨.hbm, 83, rfl⟩

abbrev nD : Nat := 1
abbrev τ : Topo := Topo.v7x

variable {F : FTy → Type} [FloatOps F]
-- ==== AttnGateBwd.lean ====
abbrev S4096x2048 : Shape := ⟨2, ![4096, 2048]⟩
abbrev S4096x512 : Shape := ⟨2, ![4096, 512]⟩
abbrev S4096x6144 : Shape := ⟨2, ![4096, 6144]⟩
abbrev S1x512 : Shape := ⟨2, ![1, 512]⟩
abbrev S1024x512 : Shape := ⟨2, ![1024, 512]⟩
abbrev S1024x128 : Shape := ⟨2, ![1024, 128]⟩
abbrev S1x128 : Shape := ⟨2, ![1, 128]⟩

abbrev nBuf : Space → Nat
  | .hbm => 8
  | .vmem => 12
  | .smem => 0
  | _ => 0

abbrev bufTy : (tb : Table) → Fin (tcTables nBuf tb) → BufTy
  | .hbm, ⟨0, _⟩ => ⟨S4096x2048, .f32⟩
  | .hbm, ⟨1, _⟩ => ⟨S4096x512, .f32⟩
  | .hbm, ⟨2, _⟩ => ⟨S4096x6144, .f32⟩
  | .hbm, ⟨3, _⟩ => ⟨S1x512, .f32⟩
  | .hbm, ⟨4, _⟩ => ⟨S4096x6144, .bf16⟩
  | .hbm, ⟨5, _⟩ => ⟨S4096x6144, .bf16⟩
  | .hbm, ⟨6, _⟩ => ⟨S4096x512, .f32⟩
  | .hbm, ⟨7, _⟩ => ⟨S1x512, .f32⟩
  | .local _ .vmem, ⟨0, _⟩ => ⟨S1024x512, .f32⟩
  | .local _ .vmem, ⟨1, _⟩ => ⟨S1024x512, .f32⟩
  | .local _ .vmem, ⟨2, _⟩ => ⟨S1024x512, .f32⟩
  | .local _ .vmem, ⟨3, _⟩ => ⟨S1024x512, .f32⟩
  | .local _ .vmem, ⟨4, _⟩ => ⟨S1024x512, .f32⟩
  | .local _ .vmem, ⟨5, _⟩ => ⟨S1024x512, .f32⟩
  | .local _ .vmem, ⟨6, _⟩ => ⟨S1x512, .f32⟩
  | .local _ .vmem, ⟨7, _⟩ => ⟨S1024x512, .bf16⟩
  | .local _ .vmem, ⟨8, _⟩ => ⟨S1024x512, .bf16⟩
  | .local _ .vmem, ⟨9, _⟩ => ⟨S1024x512, .f32⟩
  | .local _ .vmem, ⟨10, _⟩ => ⟨S1024x512, .f32⟩
  | .local _ .vmem, ⟨11, _⟩ => ⟨S1x512, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11

abbrev nD : Nat := 1
abbrev τ : Topo := Topo.v7x

variable {F : FTy → Type} [FloatOps F]

abbrev grid0 : Pipeline.Grid := ⟨1, ![4], ![false]⟩

def k0_cond1 (i : grid0.Coords) : BitVec 1 :=
  let arg0 : BitVec 32 := BitVec.ofNat 32 (i 0).val
  let c0_i32 : BitVec 32 := 0#32
  let v65 : BitVec 1 := Scalar.cmpi .eq arg0 c0_i32
  let v66 : BitVec 32 := Scalar.extui v65
  let c0_i32_32 : BitVec 32 := 0#32
  let v67 : BitVec 1 := Scalar.cmpi .ne v66 c0_i32_32
  v67

def k0_cond2 (i : grid0.Coords) : BitVec 1 :=
  let arg0 : BitVec 32 := BitVec.ofNat 32 (i 0).val
  let c0_i32_33 : BitVec 32 := 0#32
  let v68 : BitVec 1 := Scalar.cmpi .sgt arg0 c0_i32_33
  let v69 : BitVec 32 := Scalar.extui v68
  let c0_i32_34 : BitVec 32 := 0#32
  let v70 : BitVec 1 := Scalar.cmpi .ne v69 c0_i32_34
  v70

def cc0_transform_0 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c9_i32 : BitVec 32 := 9#32
  let c0_i32 : BitVec 32 := 0#32
  ![arg0.toNat, c9_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c9_i32 : BitVec 32 := 9#32
  let c0_i32 : BitVec 32 := 0#32
  ![arg0.toNat, c9_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1024x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== AttnGateBwdReferenceIdeal.lean ====
abbrev S4096x2048 : Shape := ⟨2, ![4096, 2048]⟩
abbrev S4096x512 : Shape := ⟨2, ![4096, 512]⟩
abbrev S4096x6144 : Shape := ⟨2, ![4096, 6144]⟩
abbrev S1x512 : Shape := ⟨2, ![1, 512]⟩
abbrev S_ : Shape := ⟨0, ![]⟩

abbrev nBuf : Space → Nat
  | .hbm => 33
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S4096x512, .f32⟩
  | .hbm, ⟨2, _⟩ => ⟨S4096x6144, .f32⟩
  | .hbm, ⟨3, _⟩ => ⟨S1x512, .f32⟩
  | .hbm, ⟨4, _⟩ => ⟨S4096x6144, .bf16⟩
  | .hbm, ⟨5, _⟩ => ⟨S4096x512, .f32⟩
  | .hbm, ⟨6, _⟩ => ⟨S4096x512, .f32⟩
  | .hbm, ⟨7, _⟩ => ⟨S4096x512, .f32⟩
  | .hbm, ⟨8, _⟩ => ⟨S_, .f32⟩
  | .hbm, ⟨9, _⟩ => ⟨S4096x512, .f32⟩
  | .hbm, ⟨10, _⟩ => ⟨S4096x512, .f32⟩
  | .hbm, ⟨11, _⟩ => ⟨S_, .f32⟩
  | .hbm, ⟨12, _⟩ => ⟨S4096x512, .f32⟩
  | .hbm, ⟨13, _⟩ => ⟨S4096x512, .f32⟩
  | .hbm, ⟨14, _⟩ => ⟨S_, .f32⟩
  | .hbm, ⟨15, _⟩ => ⟨S4096x512, .f32⟩
  | .hbm, ⟨16, _⟩ => ⟨S4096x512, .f32⟩
  | .hbm, ⟨17, _⟩ => ⟨S4096x512, .f32⟩
  | .hbm, ⟨18, _⟩ => ⟨S4096x512, .f32⟩
  | .hbm, ⟨19, _⟩ => ⟨S4096x512, .f32⟩
  | .hbm, ⟨20, _⟩ => ⟨S4096x512, .f32⟩
  | .hbm, ⟨21, _⟩ => ⟨S4096x512, .f32⟩
  | .hbm, ⟨22, _⟩ => ⟨S4096x512, .f32⟩
  | .hbm, ⟨23, _⟩ => ⟨S4096x512, .f32⟩
  | .hbm, ⟨24, _⟩ => ⟨S4096x512, .f32⟩
  | .hbm, ⟨25, _⟩ => ⟨S4096x512, .f32⟩
  | .hbm, ⟨26, _⟩ => ⟨S4096x512, .f32⟩
  | .hbm, ⟨27, _⟩ => ⟨S4096x512, .bf16⟩
  | .hbm, ⟨28, _⟩ => ⟨S_, .i32⟩
  | .hbm, ⟨29, _⟩ => ⟨S_, .i32⟩
  | .hbm, ⟨30, _⟩ => ⟨S4096x6144, .bf16⟩
  | .hbm, ⟨31, _⟩ => ⟨S_, .f32⟩
  | .hbm, ⟨32, _⟩ => ⟨S1x512, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_call0_v0 : Ref sig .tc := ⟨.hbm, 6, rfl⟩
abbrev main_call0_v1 : Ref sig .tc := ⟨.hbm, 7, rfl⟩
abbrev main_call0_cst : Ref sig .tc := ⟨.hbm, 8, rfl⟩
abbrev main_call0_v2 : Ref sig .tc := ⟨.hbm, 9, rfl⟩
abbrev main_call0_v3 : Ref sig .tc := ⟨.hbm, 10, rfl⟩
abbrev main_call0_cst_0 : Ref sig .tc := ⟨.hbm, 11, rfl⟩
abbrev main_call0_v4 : Ref sig .tc := ⟨.hbm, 12, rfl⟩
abbrev main_v1_2 : Ref sig .tc := ⟨.hbm, 13, rfl⟩
abbrev main_call0_cst_1 : Ref sig .tc := ⟨.hbm, 14, rfl⟩
abbrev main_call0_v6 : Ref sig .tc := ⟨.hbm, 15, rfl⟩
abbrev main_call0_v7 : Ref sig .tc := ⟨.hbm, 16, rfl⟩
abbrev main_v1_1 : Ref sig .tc := ⟨.hbm, 17, rfl⟩
abbrev main_v1_0 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_call1_v0 : Ref sig .tc := ⟨.hbm, 23, rfl⟩
abbrev main_call1_v1 : Ref sig .tc := ⟨.hbm, 24, rfl⟩
abbrev main_call1_v2 : Ref sig .tc := ⟨.hbm, 25, rfl⟩
abbrev main_v6 : Ref sig .tc := ⟨.hbm, 26, rfl⟩
abbrev main_v7 : Ref sig .tc := ⟨.hbm, 27, rfl⟩
abbrev main_c : Ref sig .tc := ⟨.hbm, 28, rfl⟩
abbrev main_c_0 : Ref sig .tc := ⟨.hbm, 29, rfl⟩
abbrev main_v8 : Ref sig .tc := ⟨.hbm, 30, rfl⟩
abbrev main_cst : Ref sig .tc := ⟨.hbm, 31, rfl⟩
abbrev main_v9 : Ref sig .tc := ⟨.hbm, 32, rfl⟩

abbrev nD : Nat := 1
abbrev τ : Topo := Topo.v7x

variable {F : FTy → Type} [FloatOps F]
-- ==== Proof.Attn.Body.lean ====
/-
  One run of the attention gradient's body, at one point of the grid.

  The body reads a tile of queries, keys, values, of the output's cotangent, the output and the rows' log-sums. It forms the tile's
  three products (`tileV`, `tileK`, `tileQ`), puts or adds `tileQ` into the tile's rows of the query gradient, starts or
  continues the two accumulators with `tileK` and `tileV`, and at the last query tile copies the accumulators out.
  `body_run` states this once, for every combination of the body's conditionals that occurs.
-/
module

public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import Idealize.ShloMosaic.Lib.VecWindow
public import Idealize.ShloMosaic.Lib.Pipeline.FrameBody
public import Idealize.ShloMosaic.Lib.Tactic
public import Idealize.ShloMosaic.Lib.WordCmp

@[expose] public section

set_option maxRecDepth 16384

noncomputable section

namespace Cert.KernelIdeal.Attn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ (UR sig nD τ) ℕ

/-! ## The conditions of the body's conditionals -/

/-- The key tile is the first. -/
abbrev cFirstKey (i : grid0.Coords) : Prop := k0_cond1 i = 1#1
/-- The key tile is not the first. -/
abbrev cLaterKey (i : grid0.Coords) : Prop := k0_cond2 i = 1#1
/-- The query tile is the first. -/
abbrev cFirstQry (i : grid0.Coords) : Prop := (Scalar.cmpi .ne (Scalar.extui (Scalar.cmpi .eq (BitVec.ofNat 32 (i 2).val) 0#32)) 0#32) = 1#1
/-- The query tile is not the first. -/
abbrev cLaterQry (i : grid0.Coords) : Prop := (Scalar.cmpi .ne (Scalar.extui (Scalar.cmpi .sgt (BitVec.ofNat 32 (i 2).val) 0#32)) 0#32) = 1#1
/-- The query tile is the last. -/
abbrev cLastQry (i : grid0.Coords) : Prop := k0_cond5 i = 1#1

/-! ## What one point computes from its six blocks -/

/-- The first column of a block of log-sums (all its columns are equal). -/
def lseCol (x5 : Vec F S1024x128 .f32) : Vec F S1024x1 .f32 := VecWindow.window x5 ![0, 0] S1024x1.size inb_S1024x128_S1024x1_0_0

/-- The tile's share of the values' gradient. -/
def tileV (x0 x1 : Vec F S1024x256 .bf16) (x3 x5 : Vec F S1024x128 .f32) : Vec F S1024x128 .f32 :=
  k0_pay8 x3 x0 x1 (lseCol x5)
/-- The tile's share of the keys' gradient. -/
def tileK (x0 x1 : Vec F S1024x256 .bf16) (x2 : Vec F S1024x128 .bf16) (x3 x4 x5 : Vec F S1024x128 .f32) : Vec F S1024x256 .f32 :=
  k0_pay9 x3 x4 x0 x1 (lseCol x5) x2 x0
/-- The tile's share of the queries' gradient. -/
def tileQ (x0 x1 : Vec F S1024x256 .bf16) (x2 : Vec F S1024x128 .bf16) (x3 x4 x5 : Vec F S1024x128 .f32) : Vec F S1024x256 .f32 :=
  k0_pay10 x3 x4 x0 x1 (lseCol x5) x2 x1

/-- The query gradient's block after the point: the tile's rows replaced at the first key tile, added to at a later one. -/
def dqNext (i : grid0.Coords) (x : Vec F S4096x256 .f32) (q : Vec F S1024x256 .f32) : Vec F S4096x256 .f32 :=
  if h : cLaterKey i then VecWindow.put x (k0_off2 i) S1024x256.size (k0_pay1 q (VecWindow.window x (k0_off2 i) S1024x256.size (k0_off2_inb i h)))
  else VecWindow.put x (k0_off1 i) S1024x256.size q
theorem dqNext_first {i : grid0.Coords} (h : ¬cLaterKey i) (x : Vec F S4096x256 .f32) (q : Vec F S1024x256 .f32) :
    dqNext i x q = VecWindow.put x (k0_off1 i) S1024x256.size q := by
  unfold dqNext; rw [dif_neg h]
theorem dqNext_later {i : grid0.Coords} (h : cLaterKey i) (x : Vec F S4096x256 .f32) (q : Vec F S1024x256 .f32) :
    dqNext i x q = VecWindow.put x (k0_off2 i) S1024x256.size (k0_pay1 q (VecWindow.window x (k0_off2 i) S1024x256.size (k0_off2_inb i h))) := by
  unfold dqNext; rw [dif_pos h]
/-- The keys' accumulator after the point. -/
def accKNext (i : grid0.Coords) (x : Vec F S1024x256 .f32) (q : Vec F S1024x256 .f32) : Vec F S1024x256 .f32 :=
  if cLaterQry i then k0_pay5 q x else k0_pay3 q
/-- The values' accumulator after the point. -/
def accVNext (i : grid0.Coords) (x : Vec F S1024x128 .f32) (q : Vec F S1024x128 .f32) : Vec F S1024x128 .f32 :=
  if cLaterQry i then k0_pay4 q x else k0_pay2 q

/-! ## What the body's loads read -/

/-- A load of a whole staging buffer reads its contents. -/
theorem load_whole {s : Shape} {e : EltTy} (a : Memref sig .tc .vmem s e) (h : a.IsWhole) (x : Vec F s e) {off : Fin s.rank → ℕ}
    (inb : ∀ k, off k + s.size k ≤ s.size k) : a.view.readAt (Elt F) (Rect.unit off s.size inb).toLoadRect (h.unread x) = x :=
  (View.readAt_full _ _ _).trans (h.read_unread x)

/-- The load of the log-sums reads their first column. -/
theorem load_lse (arg8 : Memref sig .tc .vmem S1024x128 .f32) (harg8 : arg8.IsWhole) (x5 : Vec F S1024x128 .f32) :
    (arg8.view.readAt (Elt F) (Rect.unit (s := S1024x128) ![0, 0] S1024x1.size inb_S1024x128_S1024x1_0_0).toLoadRect (harg8.unread x5)) = lseCol x5 :=
  (View.readAt_unit _ _ _ rfl inb_S1024x128_S1024x1_0_0).trans (by rw [harg8.read_unread]; rfl)

section Tiles

variable (arg3 : Memref sig .tc .vmem S1024x256 .bf16) (harg3 : arg3.IsWhole) (arg4 : Memref sig .tc .vmem S1024x256 .bf16) (harg4 : arg4.IsWhole) (arg5 : Memref sig .tc .vmem S1024x128 .bf16) (harg5 : arg5.IsWhole) (arg6 : Memref sig .tc .vmem S1024x128 .f32) (harg6 : arg6.IsWhole) (arg7 : Memref sig .tc .vmem S1024x128 .f32) (harg7 : arg7.IsWhole) (arg8 : Memref sig .tc .vmem S1024x128 .f32) (harg8 : arg8.IsWhole)
    (x0 x1 : Vec F S1024x256 .bf16) (x2 : Vec F S1024x128 .bf16) (x3 x4 x5 : Vec F S1024x128 .f32)

/-- The values' product, of the loads. -/
theorem loads_tileV : k0_pay8 (arg6.view.readAt (Elt F) (Rect.unit (s := S1024x128) ![0, 0] S1024x128.size inb_S1024x128_S1024x128_0_0).toLoadRect (harg6.unread x3)) (arg3.view.readAt (Elt F) (Rect.unit (s := S1024x256) ![0, 0] S1024x256.size inb_S1024x256_S1024x256_0_0).toLoadRect (harg3.unread x0)) (arg4.view.readAt (Elt F) (Rect.unit (s := S1024x256) ![0, 0] S1024x256.size inb_S1024x256_S1024x256_0_0).toLoadRect (harg4.unread x1)) (arg8.view.readAt (Elt F) (Rect.unit (s := S1024x128) ![0, 0] S1024x1.size inb_S1024x128_S1024x1_0_0).toLoadRect (harg8.unread x5)) = tileV x0 x1 x3 x5 := by
  rw [load_whole, load_whole, load_whole, load_lse]; rfl
/-- The keys' product, of the loads. -/
theorem loads_tileK : k0_pay9 (arg6.view.readAt (Elt F) (Rect.unit (s := S1024x128) ![0, 0] S1024x128.size inb_S1024x128_S1024x128_0_0).toLoadRect (harg6.unread x3)) (arg7.view.readAt (Elt F) (Rect.unit (s := S1024x128) ![0, 0] S1024x128.size inb_S1024x128_S1024x128_0_0).toLoadRect (harg7.unread x4)) (arg3.view.readAt (Elt F) (Rect.unit (s := S1024x256) ![0, 0] S1024x256.size inb_S1024x256_S1024x256_0_0).toLoadRect (harg3.unread x0)) (arg4.view.readAt (Elt F) (Rect.unit (s := S1024x256) ![0, 0] S1024x256.size inb_S1024x256_S1024x256_0_0).toLoadRect (harg4.unread x1)) (arg8.view.readAt (Elt F) (Rect.unit (s := S1024x128) ![0, 0] S1024x1.size inb_S1024x128_S1024x1_0_0).toLoadRect (harg8.unread x5)) (arg5.view.readAt (Elt F) (Rect.unit (s := S1024x128) ![0, 0] S1024x128.size inb_S1024x128_S1024x128_0_0).toLoadRect (harg5.unread x2)) (arg3.view.readAt (Elt F) (Rect.unit (s := S1024x256) ![0, 0] S1024x256.size inb_S1024x256_S1024x256_0_0).toLoadRect (harg3.unread x0)) = tileK x0 x1 x2 x3 x4 x5 := by
  rw [load_whole, load_whole, load_whole, load_whole, load_whole, load_lse]; rfl
/-- The queries' product, of the loads. -/
theorem loads_tileQ : k0_pay10 (arg6.view.readAt (Elt F) (Rect.unit (s := S1024x128) ![0, 0] S1024x128.size inb_S1024x128_S1024x128_0_0).toLoadRect (harg6.unread x3)) (arg7.view.readAt (Elt F) (Rect.unit (s := S1024x128) ![0, 0] S1024x128.size inb_S1024x128_S1024x128_0_0).toLoadRect (harg7.unread x4)) (arg3.view.readAt (Elt F) (Rect.unit (s := S1024x256) ![0, 0] S1024x256.size inb_S1024x256_S1024x256_0_0).toLoadRect (harg3.unread x0)) (arg4.view.readAt (Elt F) (Rect.unit (s := S1024x256) ![0, 0] S1024x256.size inb_S1024x256_S1024x256_0_0).toLoadRect (harg4.unread x1)) (arg8.view.readAt (Elt F) (Rect.unit (s := S1024x128) ![0, 0] S1024x1.size inb_S1024x128_S1024x1_0_0).toLoadRect (harg8.unread x5)) (arg5.view.readAt (Elt F) (Rect.unit (s := S1024x128) ![0, 0] S1024x128.size inb_S1024x128_S1024x128_0_0).toLoadRect (harg5.unread x2)) (arg4.view.readAt (Elt F) (Rect.unit (s := S1024x256) ![0, 0] S1024x256.size inb_S1024x256_S1024x256_0_0).toLoadRect (harg4.unread x1)) = tileQ x0 x1 x2 x3 x4 x5 := by
  rw [load_whole, load_whole, load_whole, load_whole, load_whole, load_lse]; rfl

end Tiles

set_option maxHeartbeats 4000000 in
/-- The body at one point, on whole staging buffers and accumulators of any contents. -/
theorem body_run (c : Dev nD) (i : grid0.Coords) (arg3 : Memref sig .tc .vmem S1024x256 .bf16) (harg3 : arg3.IsWhole) (arg4 : Memref sig .tc .vmem S1024x256 .bf16) (harg4 : arg4.IsWhole) (arg5 : Memref sig .tc .vmem S1024x128 .bf16) (harg5 : arg5.IsWhole) (arg6 : Memref sig .tc .vmem S1024x128 .f32) (harg6 : arg6.IsWhole) (arg7 : Memref sig .tc .vmem S1024x128 .f32) (harg7 : arg7.IsWhole) (arg8 : Memref sig .tc .vmem S1024x128 .f32) (harg8 : arg8.IsWhole) (arg9 : Memref sig .tc .vmem S4096x256 .f32) (harg9 : arg9.IsWhole) (arg10 : Memref sig .tc .vmem S1024x256 .f32) (harg10 : arg10.IsWhole) (arg11 : Memref sig .tc .vmem S1024x128 .f32) (harg11 : arg11.IsWhole) (arg12 : Memref sig .tc .vmem S1024x256 .f32) (harg12 : arg12.IsWhole) (arg13 : Memref sig .tc .vmem S1024x128 .f32) (harg13 : arg13.IsWhole)
    (hj : (cFirstKey i ∧ ¬cLaterKey i) ∨ (¬cFirstKey i ∧ cLaterKey i))
    (hi : (cFirstQry i ∧ ¬cLaterQry i ∧ ¬cLastQry i) ∨ (¬cFirstQry i ∧ cLaterQry i ∧ ¬cLastQry i) ∨ (¬cFirstQry i ∧ cLaterQry i ∧ cLastQry i))
    (x0 : Vec F S1024x256 .bf16) (x1 : Vec F S1024x256 .bf16) (x2 : Vec F S1024x128 .bf16) (x3 : Vec F S1024x128 .f32) (x4 : Vec F S1024x128 .f32) (x5 : Vec F S1024x128 .f32)
    (x6 : Vec F S4096x256 .f32) (x7 : Vec F S1024x256 .f32) (x8 : Vec F S1024x128 .f32) (xs0 : Vec F S1024x256 .f32) (xs1 : Vec F S1024x128 .f32)
    (E : Set ℕ) (K : PUnit → sProp 𝕄) :
    iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8 ∗ owns (c : Thread nD τ) arg12 fullShare xs0 ∗ owns (c : Thread nD τ) arg13 fullShare xs1
        ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5
            ∗ owns (c : Thread nD τ) arg9 fullShare (dqNext i x6 (tileQ x0 x1 x2 x3 x4 x5))
            ∗ owns (c : Thread nD τ) arg10 fullShare (if cLastQry i then accKNext i xs0 (tileK x0 x1 x2 x3 x4 x5) else x7)
            ∗ owns (c : Thread nD τ) arg11 fullShare (if cLastQry i then accVNext i xs1 (tileV x0 x1 x3 x5) else x8)
            ∗ owns (c : Thread nD τ) arg12 fullShare (accKNext i xs0 (tileK x0 x1 x2 x3 x4 x5))
            ∗ owns (c : Thread nD τ) arg13 fullShare (accVNext i xs1 (tileV x0 x1 x3 x5))) -∗ K ⟨⟩))
      ⊢ wp frame (wpE (defs₀ (F := F)) Variants.none c none) E (cc0_l1_attn_bwd i arg3 harg3 arg4 harg4 arg5 harg5 arg6 harg6 arg7 harg7 arg8 harg8 arg9 harg9 arg10 harg10 arg11 harg11 arg12 harg12 arg13 harg13) K := by
  simp only [cc0_l1_attn_bwd_eq_skeleton]; unfold cc0_l1_attn_bwd_skel
  simp only [k0_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%fs0, %hfs0, HS0⟩, ⟨%fs1, %hfs1, HS1⟩, Hk⟩
  obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6; obtain rfl := harg10.eq_unread hf7; obtain rfl := harg11.eq_unread hf8; obtain rfl := harg12.eq_unread hfs0; obtain rfl := harg13.eq_unread hfs1
  rcases hj with ⟨hc0, hc1⟩ | ⟨hc0, hc1⟩ <;> rcases hi with ⟨hc2, hc3, hc4⟩ | ⟨hc2, hc3, hc4⟩ | ⟨hc2, hc3, hc4⟩
  · sl_exec (disch := first | sl_exact hc0 | sl_exact hc1 | sl_exact hc2 | sl_exact hc3 | sl_exact hc4)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; isplitr; swap; · iexact H6
      ipureintro
      exact (View.read_writes_cons_put _ _ _ _ _ rfl).trans ((congrArg₂ (fun x w => VecWindow.put x _ _ w) hf6 (loads_tileQ arg3 harg3 arg4 harg4 arg5 harg5 arg6 harg6 arg7 harg7 arg8 harg8 x0 x1 x2 x3 x4 x5)).trans (dqNext_first hc1 _ _).symm)
    isplitl [H7]
    · iexists _; isplitr; swap; · iexact H7
      ipureintro
      exact hf7.trans (if_neg hc4).symm
    isplitl [H8]
    · iexists _; isplitr; swap; · iexact H8
      ipureintro
      exact hf8.trans (if_neg hc4).symm
    isplitl [HS0]
    · iexists _; isplitr; swap; · iexact HS0
      ipureintro
      exact (View.read_writes_full _ _ _ _ _).trans ((congrArg k0_pay3 (loads_tileK arg3 harg3 arg4 harg4 arg5 harg5 arg6 harg6 arg7 harg7 arg8 harg8 x0 x1 x2 x3 x4 x5)).trans (if_neg hc3).symm)
    iexists _; isplitr; swap; · iexact HS1
    ipureintro
    exact (View.read_writes_full _ _ _ _ _).trans ((congrArg k0_pay2 (loads_tileV arg3 harg3 arg4 harg4 arg6 harg6 arg8 harg8 x0 x1 x3 x5)).trans (if_neg hc3).symm)
  · sl_exec (disch := first | sl_exact hc0 | sl_exact hc1 | sl_exact hc2 | sl_exact hc3 | sl_exact hc4)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; isplitr; swap; · iexact H6
      ipureintro
      exact (View.read_writes_cons_put _ _ _ _ _ rfl).trans ((congrArg₂ (fun x w => VecWindow.put x _ _ w) hf6 (loads_tileQ arg3 harg3 arg4 harg4 arg5 harg5 arg6 harg6 arg7 harg7 arg8 harg8 x0 x1 x2 x3 x4 x5)).trans (dqNext_first hc1 _ _).symm)
    isplitl [H7]
    · iexists _; isplitr; swap; · iexact H7
      ipureintro
      exact hf7.trans (if_neg hc4).symm
    isplitl [H8]
    · iexists _; isplitr; swap; · iexact H8
      ipureintro
      exact hf8.trans (if_neg hc4).symm
    isplitl [HS0]
    · iexists _; isplitr; swap; · iexact HS0
      ipureintro
      exact (View.read_writes_full _ _ _ _ _).trans ((congrArg₂ k0_pay5 (loads_tileK arg3 harg3 arg4 harg4 arg5 harg5 arg6 harg6 arg7 harg7 arg8 harg8 x0 x1 x2 x3 x4 x5) (load_whole arg12 harg12 xs0 inb_S1024x256_S1024x256_0_0)).trans (if_pos hc3).symm)
    iexists _; isplitr; swap; · iexact HS1
    ipureintro
    exact (View.read_writes_full _ _ _ _ _).trans ((congrArg₂ k0_pay4 (loads_tileV arg3 harg3 arg4 harg4 arg6 harg6 arg8 harg8 x0 x1 x3 x5) (load_whole arg13 harg13 xs1 inb_S1024x128_S1024x128_0_0)).trans (if_pos hc3).symm)
  · sl_exec (disch := first | sl_exact hc0 | sl_exact hc1 | sl_exact hc2 | sl_exact hc3 | sl_exact hc4)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; isplitr; swap; · iexact H6
      ipureintro
      exact (View.read_writes_cons_put _ _ _ _ _ rfl).trans ((congrArg₂ (fun x w => VecWindow.put x _ _ w) hf6 (loads_tileQ arg3 harg3 arg4 harg4 arg5 harg5 arg6 harg6 arg7 harg7 arg8 harg8 x0 x1 x2 x3 x4 x5)).trans (dqNext_first hc1 _ _).symm)
    isplitl [H7]
    · iexists _; isplitr; swap; · iexact H7
      ipureintro
      exact (View.read_writes_full _ _ _ _ _).trans ((View.readAt_writes_full _ _ _ _ _ _).trans (((congrArg₂ k0_pay5 (loads_tileK arg3 harg3 arg4 harg4 arg5 harg5 arg6 harg6 arg7 harg7 arg8 harg8 x0 x1 x2 x3 x4 x5) (load_whole arg12 harg12 xs0 inb_S1024x256_S1024x256_0_0)).trans (if_pos hc3).symm).trans (if_pos hc4).symm))
    isplitl [H8]
    · iexists _; isplitr; swap; · iexact H8
      ipureintro
      exact (View.read_writes_full _ _ _ _ _).trans ((View.readAt_writes_full _ _ _ _ _ _).trans (((congrArg₂ k0_pay4 (loads_tileV arg3 harg3 arg4 harg4 arg6 harg6 arg8 harg8 x0 x1 x3 x5) (load_whole arg13 harg13 xs1 inb_S1024x128_S1024x128_0_0)).trans (if_pos hc3).symm).trans (if_pos hc4).symm))
    isplitl [HS0]
    · iexists _; isplitr; swap; · iexact HS0
      ipureintro
      exact (View.read_writes_full _ _ _ _ _).trans ((congrArg₂ k0_pay5 (loads_tileK arg3 harg3 arg4 harg4 arg5 harg5 arg6 harg6 arg7 harg7 arg8 harg8 x0 x1 x2 x3 x4 x5) (load_whole arg12 harg12 xs0 inb_S1024x256_S1024x256_0_0)).trans (if_pos hc3).symm)
    iexists _; isplitr; swap; · iexact HS1
    ipureintro
    exact (View.read_writes_full _ _ _ _ _).trans ((congrArg₂ k0_pay4 (loads_tileV arg3 harg3 arg4 harg4 arg6 harg6 arg8 harg8 x0 x1 x3 x5) (load_whole arg13 harg13 xs1 inb_S1024x128_S1024x128_0_0)).trans (if_pos hc3).symm)
  · sl_exec (disch := first | sl_exact hc0 | sl_exact hc1 | sl_exact hc2 | sl_exact hc3 | sl_exact hc4)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; isplitr; swap; · iexact H6
      ipureintro
      exact (View.read_writes_cons_put _ _ _ _ _ rfl).trans ((congrArg₂ (fun x w => VecWindow.put x _ _ w) hf6
        (congrArg₂ k0_pay1 (loads_tileQ arg3 harg3 arg4 harg4 arg5 harg5 arg6 harg6 arg7 harg7 arg8 harg8 x0 x1 x2 x3 x4 x5) ((View.readAt_unit _ _ _ rfl (k0_off2_inb i hc1)).trans (congrArg (fun x => VecWindow.window x _ _ _) hf6)))).trans (dqNext_later hc1 _ _).symm)
    isplitl [H7]
    · iexists _; isplitr; swap; · iexact H7
      ipureintro
      exact hf7.trans (if_neg hc4).symm
    isplitl [H8]
    · iexists _; isplitr; swap; · iexact H8
      ipureintro
      exact hf8.trans (if_neg hc4).symm
    isplitl [HS0]
    · iexists _; isplitr; swap; · iexact HS0
      ipureintro
      exact (View.read_writes_full _ _ _ _ _).trans ((congrArg k0_pay3 (loads_tileK arg3 harg3 arg4 harg4 arg5 harg5 arg6 harg6 arg7 harg7 arg8 harg8 x0 x1 x2 x3 x4 x5)).trans (if_neg hc3).symm)
    iexists _; isplitr; swap; · iexact HS1
    ipureintro
    exact (View.read_writes_full _ _ _ _ _).trans ((congrArg k0_pay2 (loads_tileV arg3 harg3 arg4 harg4 arg6 harg6 arg8 harg8 x0 x1 x3 x5)).trans (if_neg hc3).symm)
  · sl_exec (disch := first | sl_exact hc0 | sl_exact hc1 | sl_exact hc2 | sl_exact hc3 | sl_exact hc4)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; isplitr; swap; · iexact H6
      ipureintro
      exact (View.read_writes_cons_put _ _ _ _ _ rfl).trans ((congrArg₂ (fun x w => VecWindow.put x _ _ w) hf6
        (congrArg₂ k0_pay1 (loads_tileQ arg3 harg3 arg4 harg4 arg5 harg5 arg6 harg6 arg7 harg7 arg8 harg8 x0 x1 x2 x3 x4 x5) ((View.readAt_unit _ _ _ rfl (k0_off2_inb i hc1)).trans (congrArg (fun x => VecWindow.window x _ _ _) hf6)))).trans (dqNext_later hc1 _ _).symm)
    isplitl [H7]
    · iexists _; isplitr; swap; · iexact H7
      ipureintro
      exact hf7.trans (if_neg hc4).symm
    isplitl [H8]
    · iexists _; isplitr; swap; · iexact H8
      ipureintro
      exact hf8.trans (if_neg hc4).symm
    isplitl [HS0]
    · iexists _; isplitr; swap; · iexact HS0
      ipureintro
      exact (View.read_writes_full _ _ _ _ _).trans ((congrArg₂ k0_pay5 (loads_tileK arg3 harg3 arg4 harg4 arg5 harg5 arg6 harg6 arg7 harg7 arg8 harg8 x0 x1 x2 x3 x4 x5) (load_whole arg12 harg12 xs0 inb_S1024x256_S1024x256_0_0)).trans (if_pos hc3).symm)
    iexists _; isplitr; swap; · iexact HS1
    ipureintro
    exact (View.read_writes_full _ _ _ _ _).trans ((congrArg₂ k0_pay4 (loads_tileV arg3 harg3 arg4 harg4 arg6 harg6 arg8 harg8 x0 x1 x3 x5) (load_whole arg13 harg13 xs1 inb_S1024x128_S1024x128_0_0)).trans (if_pos hc3).symm)
  · sl_exec (disch := first | sl_exact hc0 | sl_exact hc1 | sl_exact hc2 | sl_exact hc3 | sl_exact hc4)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; isplitr; swap; · iexact H6
      ipureintro
      exact (View.read_writes_cons_put _ _ _ _ _ rfl).trans ((congrArg₂ (fun x w => VecWindow.put x _ _ w) hf6
        (congrArg₂ k0_pay1 (loads_tileQ arg3 harg3 arg4 harg4 arg5 harg5 arg6 harg6 arg7 harg7 arg8 harg8 x0 x1 x2 x3 x4 x5) ((View.readAt_unit _ _ _ rfl (k0_off2_inb i hc1)).trans (congrArg (fun x => VecWindow.window x _ _ _) hf6)))).trans (dqNext_later hc1 _ _).symm)
    isplitl [H7]
    · iexists _; isplitr; swap; · iexact H7
      ipureintro
      exact (View.read_writes_full _ _ _ _ _).trans ((View.readAt_writes_full _ _ _ _ _ _).trans (((congrArg₂ k0_pay5 (loads_tileK arg3 harg3 arg4 harg4 arg5 harg5 arg6 harg6 arg7 harg7 arg8 harg8 x0 x1 x2 x3 x4 x5) (load_whole arg12 harg12 xs0 inb_S1024x256_S1024x256_0_0)).trans (if_pos hc3).symm).trans (if_pos hc4).symm))
    isplitl [H8]
    · iexists _; isplitr; swap; · iexact H8
      ipureintro
      exact (View.read_writes_full _ _ _ _ _).trans ((View.readAt_writes_full _ _ _ _ _ _).trans (((congrArg₂ k0_pay4 (loads_tileV arg3 harg3 arg4 harg4 arg6 harg6 arg8 harg8 x0 x1 x3 x5) (load_whole arg13 harg13 xs1 inb_S1024x128_S1024x128_0_0)).trans (if_pos hc3).symm).trans (if_pos hc4).symm))
    isplitl [HS0]
    · iexists _; isplitr; swap; · iexact HS0
      ipureintro
      exact (View.read_writes_full _ _ _ _ _).trans ((congrArg₂ k0_pay5 (loads_tileK arg3 harg3 arg4 harg4 arg5 harg5 arg6 harg6 arg7 harg7 arg8 harg8 x0 x1 x2 x3 x4 x5) (load_whole arg12 harg12 xs0 inb_S1024x256_S1024x256_0_0)).trans (if_pos hc3).symm)
    iexists _; isplitr; swap; · iexact HS1
    ipureintro
    exact (View.read_writes_full _ _ _ _ _).trans ((congrArg₂ k0_pay4 (loads_tileV arg3 harg3 arg4 harg4 arg6 harg6 arg8 harg8 x0 x1 x3 x5) (load_whole arg13 harg13 xs1 inb_S1024x128_S1024x128_0_0)).trans (if_pos hc3).symm)

end Cert.KernelIdeal.Attn

end
-- ==== Proof.Attn.Run.lean ====
/-
  The run of the attention gradient over its whole grid.

  What the body may leave in each staging buffer is stated as a relation to what it found there (`rdat`): an input is left as
  found; the query gradient's block has the tile's rows replaced or added to (`dqNext`); the gradients of keys and values,
  at the last query tile, are the accumulators. The accumulators' contents before point `n` are the recursion `accK`, `accV` from
  whatever the scratch buffers held at the start.
-/
module

public import proofs.«01_k».proof.Proof.Attn.Body
public import Idealize.ShloMosaic.Lib.Claim
public import Idealize.ShloMosaic.Lib.Pipeline.ArrRel
public import Idealize.ShloMosaic.Lib.Pipeline.FrameBody

@[expose] public section

set_option maxRecDepth 16384

noncomputable section

namespace Cert.KernelIdeal.Attn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (RDat)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The conditions, of the point's number -/

theorem firstKey_iff : ∀ t : Fin cfg0.N, cFirstKey (grid0.coords t) ↔ t.val / 4 % 4 = 0 :=
  (by decide +kernel : ∀ t : Fin grid0.N, cFirstKey (grid0.coords t) ↔ t.val / 4 % 4 = 0)
theorem laterKey_iff : ∀ t : Fin cfg0.N, cLaterKey (grid0.coords t) ↔ ¬ t.val / 4 % 4 = 0 :=
  (by decide +kernel : ∀ t : Fin grid0.N, cLaterKey (grid0.coords t) ↔ ¬ t.val / 4 % 4 = 0)
theorem firstQry_iff : ∀ t : Fin cfg0.N, cFirstQry (grid0.coords t) ↔ t.val % 4 = 0 :=
  (by decide +kernel : ∀ t : Fin grid0.N, cFirstQry (grid0.coords t) ↔ t.val % 4 = 0)
theorem laterQry_iff : ∀ t : Fin cfg0.N, cLaterQry (grid0.coords t) ↔ ¬ t.val % 4 = 0 :=
  (by decide +kernel : ∀ t : Fin grid0.N, cLaterQry (grid0.coords t) ↔ ¬ t.val % 4 = 0)
theorem lastQry_iff : ∀ t : Fin cfg0.N, cLastQry (grid0.coords t) ↔ t.val % 4 = 3 :=
  (by decide +kernel : ∀ t : Fin grid0.N, cLastQry (grid0.coords t) ↔ t.val % 4 = 3)

/-- One of the two conditions on the key tile holds. -/
theorem keyCase (t : Fin cfg0.N) : (cFirstKey (grid0.coords t) ∧ ¬cLaterKey (grid0.coords t)) ∨ (¬cFirstKey (grid0.coords t) ∧ cLaterKey (grid0.coords t)) := by
  rw [firstKey_iff, laterKey_iff]; omega
/-- The conditions on the query tile hold in one of three combinations. -/
theorem qryCase (t : Fin cfg0.N) : (cFirstQry (grid0.coords t) ∧ ¬cLaterQry (grid0.coords t) ∧ ¬cLastQry (grid0.coords t)) ∨ (¬cFirstQry (grid0.coords t) ∧ cLaterQry (grid0.coords t) ∧ ¬cLastQry (grid0.coords t)) ∨ (¬cFirstQry (grid0.coords t) ∧ cLaterQry (grid0.coords t) ∧ cLastQry (grid0.coords t)) := by
  rw [firstQry_iff, laterQry_iff, lastQry_iff]; omega

/-! ## The tiles' products and the accumulators -/

/-- The values' product at point `t`. -/
def tV (c : Dev nD) (t : Fin cfg0.N) : Vec F S1024x128 .f32 := tileV (iblk m c 0 t) (iblk m c 1 t) (iblk m c 3 t) (iblk m c 5 t)
/-- The keys' product at point `t`. -/
def tK (c : Dev nD) (t : Fin cfg0.N) : Vec F S1024x256 .f32 := tileK (iblk m c 0 t) (iblk m c 1 t) (iblk m c 2 t) (iblk m c 3 t) (iblk m c 4 t) (iblk m c 5 t)
/-- The queries' product at point `t`. -/
def tQ (c : Dev nD) (t : Fin cfg0.N) : Vec F S1024x256 .f32 := tileQ (iblk m c 0 t) (iblk m c 1 t) (iblk m c 2 t) (iblk m c 3 t) (iblk m c 4 t) (iblk m c 5 t)

/-- The keys' accumulator before point `n`, from contents `d` at the start. -/
def accK (c : Dev nD) (d : Vec F S1024x256 .f32) : ℕ → Vec F S1024x256 .f32
  | 0 => d
  | n + 1 => if h : n < cfg0.N then accKNext (grid0.coords ⟨n, h⟩) (accK c d n) (tK m c ⟨n, h⟩) else accK c d n
/-- The values' accumulator before point `n`, from contents `d` at the start. -/
def accV (c : Dev nD) (d : Vec F S1024x128 .f32) : ℕ → Vec F S1024x128 .f32
  | 0 => d
  | n + 1 => if h : n < cfg0.N then accVNext (grid0.coords ⟨n, h⟩) (accV c d n) (tV m c ⟨n, h⟩) else accV c d n

theorem accK_succ (c : Dev nD) (d : Vec F S1024x256 .f32) (t : Fin cfg0.N) :
    accK m c d (t.val + 1) = accKNext (grid0.coords t) (accK m c d t.val) (tK m c t) := by
  rw [accK, dif_pos t.isLt]
theorem accV_succ (c : Dev nD) (d : Vec F S1024x128 .f32) (t : Fin cfg0.N) :
    accV m c d (t.val + 1) = accVNext (grid0.coords t) (accV m c d t.val) (tV m c t) := by
  rw [accV, dif_pos t.isLt]

/-! ## The proof data -/

/-- The scratch buffer of the keys' accumulator. -/
abbrev scK : Memref sig .tc .vmem S1024x256 .f32 := Memref.whole cc0_scratch0
/-- The scratch buffer of the values' accumulator. -/
abbrev scV : Memref sig .tc .vmem S1024x128 .f32 := Memref.whole cc0_scratch1

/-- The scratch buffers before point `n`. -/
def Inv (c : Dev nD) (n : ℕ) : sProp 𝕄 :=
  iprop(iprop((∃ d, owns (c : Thread nD τ) scK fullShare (accK m c d n)) ∗ (∃ d, owns (c : Thread nD τ) scV fullShare (accV m c d n))) ∗ (∃ r, prngReg c r))

/-- The launch's invariant, the scratch buffers at anything. -/
theorem PhiA_eq (c : Dev nD) :
    (Pipeline.ΦA spec0 c : sProp 𝕄)
      = iprop(iprop((∃ d, owns (c : Thread nD τ) scK fullShare d) ∗ (∃ d, owns (c : Thread nD τ) scV fullShare d)) ∗ (∃ r, prngReg c r)) := by
  unfold Pipeline.ΦA; rw [scopedRest0_eq]; simp only [scK, scV, owns_whole]; try rfl

/-- What the body may leave in each window's buffer, of what it found there. -/
def leaves (c : Dev nD) : (w : Fin cfg0.W) → (t : Fin cfg0.N) → (Y X : (cfg0.win w).block.Idx → Elt F (cfg0.win w).elt) → Prop
  | ⟨0, _⟩, _, Y, X => X = Y
  | ⟨1, _⟩, _, Y, X => X = Y
  | ⟨2, _⟩, _, Y, X => X = Y
  | ⟨3, _⟩, _, Y, X => X = Y
  | ⟨4, _⟩, _, Y, X => X = Y
  | ⟨5, _⟩, _, Y, X => X = Y
  | ⟨6, _⟩, t, Y, X => X = dqNext (grid0.coords t) Y (tQ m c t)
  | ⟨7, _⟩, t, _, X => t.val % 4 = 3 → ∃ d, X = accK m c d (t.val + 1)
  | ⟨8, _⟩, t, _, X => t.val % 4 = 3 → ∃ d, X = accV m c d (t.val + 1)

/-- The proof data of the launch. -/
def rdat (c : Dev nD) : RDat τ (Elt F) Unit ℕ (UR sig nD τ) ℕ cfg0 c where
  A w := V m c (Pipeline.arrRef spec0 w)
  after := leaves m c
  Φ t := Inv m c t.val
  q _ := fullShare
  owed _ := 0

theorem rdat_A (c : Dev nD) (w : Fin cfg0.W) : (rdat m c).A w = V m c (Pipeline.arrRef spec0 w) := by dsimp only [rdat]
theorem rdat_after (c : Dev nD) : (rdat m c).after = leaves m c := rfl
theorem rdat_Φ (c : Dev nD) (t : Fin (cfg0.N + 1)) : (rdat m c).Φ t = Inv m c t.val := rfl

/-! ## What the body finds in an input's buffer: the window's block -/

theorem finds0 (c : Dev nD) (t : Fin cfg0.N) (Y) (h : (rdat m c).Finds 0 t Y) : Y = iblk m c 0 t := by
  obtain ⟨d, rfl⟩ := (rdat m c).finds_in_eq_fetched 0 rfl (fun _ _ _ => rfl) (fun _ _ _ h => h) t Y h
  unfold RDat.fetched RDat.blockOf iblk; rw [rdat_A]; try rfl
theorem finds1 (c : Dev nD) (t : Fin cfg0.N) (Y) (h : (rdat m c).Finds 1 t Y) : Y = iblk m c 1 t := by
  obtain ⟨d, rfl⟩ := (rdat m c).finds_in_eq_fetched 1 rfl (fun _ _ _ => rfl) (fun _ _ _ h => h) t Y h
  unfold RDat.fetched RDat.blockOf iblk; rw [rdat_A]; try rfl
theorem finds2 (c : Dev nD) (t : Fin cfg0.N) (Y) (h : (rdat m c).Finds 2 t Y) : Y = iblk m c 2 t := by
  obtain ⟨d, rfl⟩ := (rdat m c).finds_in_eq_fetched 2 rfl (fun _ _ _ => rfl) (fun _ _ _ h => h) t Y h
  unfold RDat.fetched RDat.blockOf iblk; rw [rdat_A]; try rfl
theorem finds3 (c : Dev nD) (t : Fin cfg0.N) (Y) (h : (rdat m c).Finds 3 t Y) : Y = iblk m c 3 t := by
  obtain ⟨d, rfl⟩ := (rdat m c).finds_in_eq_fetched 3 rfl (fun _ _ _ => rfl) (fun _ _ _ h => h) t Y h
  unfold RDat.fetched RDat.blockOf iblk; rw [rdat_A]; try rfl
theorem finds4 (c : Dev nD) (t : Fin cfg0.N) (Y) (h : (rdat m c).Finds 4 t Y) : Y = iblk m c 4 t := by
  obtain ⟨d, rfl⟩ := (rdat m c).finds_in_eq_fetched 4 rfl (fun _ _ _ => rfl) (fun _ _ _ h => h) t Y h
  unfold RDat.fetched RDat.blockOf iblk; rw [rdat_A]; try rfl
theorem finds5 (c : Dev nD) (t : Fin cfg0.N) (Y) (h : (rdat m c).Finds 5 t Y) : Y = iblk m c 5 t := by
  obtain ⟨d, rfl⟩ := (rdat m c).finds_in_eq_fetched 5 rfl (fun _ _ _ => rfl) (fun _ _ _ h => h) t Y h
  unfold RDat.fetched RDat.blockOf iblk; rw [rdat_A]; try rfl

/-! ## The body's obligation -/

/-- The body at a point, on the staging buffers of that point. -/
theorem point_run (c : Dev nD) (t : Fin cfg0.N)
    (Y6 : Vec F S4096x256 .f32) (Y7 : Vec F S1024x256 .f32) (Y8 : Vec F S1024x128 .f32) :
    iprop(Inv m c t.val ∗ (rdat m c).owesAt () t.castSucc
        ∗ owns (c : Thread nD τ) (st0_0 t) fullShare (iblk m c 0 t) ∗ owns (c : Thread nD τ) (st0_1 t) fullShare (iblk m c 1 t) ∗ owns (c : Thread nD τ) (st0_2 t) fullShare (iblk m c 2 t)
        ∗ owns (c : Thread nD τ) (st0_3 t) fullShare (iblk m c 3 t) ∗ owns (c : Thread nD τ) (st0_4 t) fullShare (iblk m c 4 t) ∗ owns (c : Thread nD τ) (st0_5 t) fullShare (iblk m c 5 t)
        ∗ owns (c : Thread nD τ) (st0_6 t) fullShare Y6 ∗ owns (c : Thread nD τ) (st0_7 t) fullShare Y7 ∗ owns (c : Thread nD τ) (st0_8 t) fullShare Y8)
      ⊢ wp frame (wpE (defs₀ (F := F)) Variants.none c none) Set.univ (bodyAt0 t) (fun _ =>
          iprop(Inv m c (t.val + 1) ∗ (rdat m c).owesAt () t.succ
            ∗ (∃ X, ⌜leaves m c 0 t (iblk m c 0 t) X⌝ ∗ owns (c : Thread nD τ) (st0_0 t) fullShare X)
            ∗ (∃ X, ⌜leaves m c 1 t (iblk m c 1 t) X⌝ ∗ owns (c : Thread nD τ) (st0_1 t) fullShare X)
            ∗ (∃ X, ⌜leaves m c 2 t (iblk m c 2 t) X⌝ ∗ owns (c : Thread nD τ) (st0_2 t) fullShare X)
            ∗ (∃ X, ⌜leaves m c 3 t (iblk m c 3 t) X⌝ ∗ owns (c : Thread nD τ) (st0_3 t) fullShare X)
            ∗ (∃ X, ⌜leaves m c 4 t (iblk m c 4 t) X⌝ ∗ owns (c : Thread nD τ) (st0_4 t) fullShare X)
            ∗ (∃ X, ⌜leaves m c 5 t (iblk m c 5 t) X⌝ ∗ owns (c : Thread nD τ) (st0_5 t) fullShare X)
            ∗ (∃ X, ⌜leaves m c 6 t Y6 X⌝ ∗ owns (c : Thread nD τ) (st0_6 t) fullShare X)
            ∗ (∃ X, ⌜leaves m c 7 t Y7 X⌝ ∗ owns (c : Thread nD τ) (st0_7 t) fullShare X)
            ∗ (∃ X, ⌜leaves m c 8 t Y8 X⌝ ∗ owns (c : Thread nD τ) (st0_8 t) fullShare X))) := by
  unfold Inv
  iintro ⟨⟨⟨⟨%d0, HS0⟩, ⟨%d1, HS1⟩⟩, Hg⟩, Ho, H0, H1, H2, H3, H4, H5, H6, H7, H8⟩
  iapply body_run (F := F) c (grid0.coords t) _ (hstage0_0 ((cfg0.slots t 0).cast nbuf0_0)) _ (hstage0_1 ((cfg0.slots t 1).cast nbuf0_1)) _ (hstage0_2 ((cfg0.slots t 2).cast nbuf0_2)) _ (hstage0_3 ((cfg0.slots t 3).cast nbuf0_3)) _ (hstage0_4 ((cfg0.slots t 4).cast nbuf0_4)) _ (hstage0_5 ((cfg0.slots t 5).cast nbuf0_5)) _ (hstage0_6 ((cfg0.slots t 6).cast nbuf0_6)) _ (hstage0_7 ((cfg0.slots t 7).cast nbuf0_7)) _ (hstage0_8 ((cfg0.slots t 8).cast nbuf0_8)) scK (Memref.isWhole_whole _) scV (Memref.isWhole_whole _) (keyCase t) (qryCase t)
  iframe H0 H1 H2 H3 H4 H5 H6 H7 H8 HS0 HS1
  iintro ⟨H0, H1, H2, H3, H4, H5, H6, H7, H8, HS0, HS1⟩
  isplitl [HS0 HS1 Hg]
  · isplitl [HS0 HS1]
    · isplitl [HS0]
      · iexists d0; rw [accK_succ]; iexact HS0
      iexists d1; rw [accV_succ]; iexact HS1
    iexact Hg
  isplitl [Ho]; · iexact Ho
  isplitl [H0]; · iexists _; isplitr; swap; · iexact H0
                  ipureintro; rfl
  isplitl [H1]; · iexists _; isplitr; swap; · iexact H1
                  ipureintro; rfl
  isplitl [H2]; · iexists _; isplitr; swap; · iexact H2
                  ipureintro; rfl
  isplitl [H3]; · iexists _; isplitr; swap; · iexact H3
                  ipureintro; rfl
  isplitl [H4]; · iexists _; isplitr; swap; · iexact H4
                  ipureintro; rfl
  isplitl [H5]; · iexists _; isplitr; swap; · iexact H5
                  ipureintro; rfl
  isplitl [H6]; · iexists _; isplitr; swap; · iexact H6
                  ipureintro; rfl
  isplitl [H7]
  · iexists _; isplitr; swap; · iexact H7
    ipureintro
    exact fun h => ⟨d0, (if_pos ((lastQry_iff t).mpr h)).trans (accK_succ m c d0 t).symm⟩
  iexists _; isplitr; swap; · iexact H8
  ipureintro
  exact fun h => ⟨d1, (if_pos ((lastQry_iff t).mpr h)).trans (accV_succ m c d1 t).symm⟩

theorem body_row (t : Fin cfg0.N) : defs₀ (F := F) .tc cfg0.body (cfg0.bodyArgs t (cfg0.slots t)) = bodyAt0 t := by
  unfold defs₀; rw [Defs.onTc_tc]

theorem body_obligation (c : Dev nD) : (rdat (F := F) m c).BodyObligation (defs₀ (F := F)) Variants.none () Set.univ := fun t Y hY => by
  rw [bigSep_W0]
  have e0 := finds0 m c t _ (hY 0); have e1 := finds1 m c t _ (hY 1); have e2 := finds2 m c t _ (hY 2)
  have e3 := finds3 m c t _ (hY 3); have e4 := finds4 m c t _ (hY 4); have e5 := finds5 m c t _ (hY 5)
  simp only [bigSep_W0]
  rw [e0, e1, e2, e3, e4, e5]
  exact triple_restated (point_run m c t (Y 6) (Y 7) (Y 8)) (by rw [← body_row]) .rfl fun _ => .rfl

/-! ## The launch -/

theorem hin (c : Dev nD) : Pipeline.ΦA spec0 c ⊢ (rdat m c).Φ 0 := by
  rw [rdat_Φ, PhiA_eq]; exact .rfl
theorem hout (c : Dev nD) : (rdat m c).Φ (Fin.last cfg0.N) ⊢ Pipeline.ΦA spec0 c := by
  rw [rdat_Φ, PhiA_eq]; unfold Inv
  iintro ⟨⟨⟨%d0, HS0⟩, ⟨%d1, HS1⟩⟩, Hg⟩
  isplitl [HS0 HS1]
  · isplitl [HS0]
    · iexists _; iexact HS0
    iexists _; iexact HS1
  iexact Hg

set_option backward.isDefEq.respectTransparency.types false in
/-- Every execution terminates, with each output array at contents its relation allows, everything else as it was, and every
    counter at zero. -/
theorem run_main : θ_run defs (onTc (τ := τ) (main (F := F))) (s₀ m ρ) (fun r => RDat.FramePost cfg0 (rdat m) (V m) r ∧ r.2.sem = fun _ => 0) :=
  RDat.θ_run_frame_track (Q' := _) cfgs (0 : Fin 1) launch0 defs₀ Variants.none (rdat m) m ρ main
    (hbody := body_obligation m) (hshare := fun c => (rdat m c).share_full fun _ => rfl)
    (howed := fun _ _ => rfl) (V := V m) (hmain := hmain m Variants.none) (hA := rdat_A m) (hin := hin m) (hout := hout m)

/-- The run writes no argument array. -/
theorem args_kept (c : Dev nD) (r : PUnit × MemSt nD τ sig (Elt F)) (h : RDat.FramePost cfg0 (rdat m) (V m) r) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  ⟨(h.arr_in c 0 rfl).trans ((rdat_A m c 0).trans (V_main_arg0 m c)),
   (h.arr_in c 1 rfl).trans ((rdat_A m c 1).trans (V_main_arg1 m c)),
   (h.arr_in c 2 rfl).trans ((rdat_A m c 2).trans (V_main_arg2 m c)),
   (h.arr_in c 3 rfl).trans ((rdat_A m c 3).trans (V_main_arg3 m c))⟩

/-- The argument arrays end unchanged and every counter is at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun r h => ⟨fun c => args_kept m c r h.1, h.2⟩) (run_main m ρ)

end Cert.KernelIdeal.Attn

end
-- ==== Proof.Attn.Tiles.lean ====
/-
  What one point of the attention gradient computes, read at an index over the extended reals.
-/
module

public import proofs.«01_k».proof.Proof.Attn.Body
public import Idealize.ShloMosaic.Lib.Pointwise
public import Idealize.ShloMosaic.Lib.Pipeline.ValueKit.Geometry

@[expose] public section

set_option maxRecDepth 16384

noncomputable section

namespace Cert.KernelIdeal.Attn

open Idealize.ShloMosaic Idealize.ShloMosaic.TcCoe
open Cert.KernelIdeal Cert.KernelIdeal.Gen

/-- The probability of key `k` for query `q` in a tile: the exponential of the score less the query's log-sum. -/
def prob (x0 x1 : Vec Ideal S1024x256 .bf16) (x5 : Vec Ideal S1024x128 .f32) (q k : Fin 1024) : EReal :=
  Ideal.exp ((∑ d : Fin 256, x0 (ix2 q d) * x1 (ix2 k d)) - x5 (ix2 q 0))

/-- The gradient of the score of key `k` for query `q` in a tile. -/
def dscore (x0 x1 : Vec Ideal S1024x256 .bf16) (x2 : Vec Ideal S1024x128 .bf16) (x3 x4 x5 : Vec Ideal S1024x128 .f32) (q k : Fin 1024) : EReal :=
  prob x0 x1 x5 q k * ((∑ e : Fin 128, x3 (ix2 q e) * x2 (ix2 k e)) - ∑ e : Fin 128, x3 (ix2 q e) * x4 (ix2 q e))

theorem pay6_apply (x0 x1 : Vec Ideal S1024x256 .bf16) (x5 : Vec Ideal S1024x128 .f32) (q k : Fin 1024) :
    k0_pay6 x0 x1 (lseCol x5) (ix2 q k) = prob x0 x1 x5 q k := by
  pointwise [k0_pay6, lseCol, prob]
  refine congrArg _ (congrArg _ ?_)
  unfold VecWindow.window
  blk_ext

theorem pay7_apply (x0 x1 : Vec Ideal S1024x256 .bf16) (x2 : Vec Ideal S1024x128 .bf16) (x3 x4 x5 : Vec Ideal S1024x128 .f32) (q k : Fin 1024) :
    k0_pay7 x3 x4 x0 x1 (lseCol x5) x2 (ix2 q k) = dscore x0 x1 x2 x3 x4 x5 q k := by
  unfold dscore
  rw [← pay6_apply]
  pointwise [k0_pay7]

theorem tileV_apply (x0 x1 : Vec Ideal S1024x256 .bf16) (x3 x5 : Vec Ideal S1024x128 .f32) (k : Fin 1024) (e : Fin 128) :
    tileV x0 x1 x3 x5 (ix2 k e) = ∑ q : Fin 1024, prob x0 x1 x5 q k * x3 (ix2 q e) := by
  simp only [← pay6_apply]
  pointwise [tileV, k0_pay8]

theorem tileK_apply (x0 x1 : Vec Ideal S1024x256 .bf16) (x2 : Vec Ideal S1024x128 .bf16) (x3 x4 x5 : Vec Ideal S1024x128 .f32) (k : Fin 1024) (d : Fin 256) :
    tileK x0 x1 x2 x3 x4 x5 (ix2 k d) = ∑ q : Fin 1024, dscore x0 x1 x2 x3 x4 x5 q k * x0 (ix2 q d) := by
  simp only [← pay7_apply]
  pointwise [tileK, k0_pay9]

theorem tileQ_apply (x0 x1 : Vec Ideal S1024x256 .bf16) (x2 : Vec Ideal S1024x128 .bf16) (x3 x4 x5 : Vec Ideal S1024x128 .f32) (q : Fin 1024) (d : Fin 256) :
    tileQ x0 x1 x2 x3 x4 x5 (ix2 q d) = ∑ k : Fin 1024, dscore x0 x1 x2 x3 x4 x5 q k * x1 (ix2 k d) := by
  simp only [← pay7_apply]
  pointwise [tileQ, k0_pay10]

end Cert.KernelIdeal.Attn

end
-- ==== Proof.Attn.Blocks.lean ====
/-
  The blocks of the attention gradient's grid, over the arrays' coordinates: point `(h, j, i)` of head `h`, key tile `j` and query
  tile `i` has rows `1024 i + r` of head `h`'s columns of the query-side arrays and rows `1024 j + r` of the key-side ones.
-/
module

public import proofs.«01_k».proof.Proof.Attn.Run
public import proofs.«01_k».proof.Proof.Attn.Tiles
public import Idealize.ShloMosaic.Lib.Pipeline.ValueKit.Geometry

@[expose] public section

set_option maxRecDepth 16384

noncomputable section

namespace Cert.KernelIdeal.Attn

open Idealize.ShloMosaic Idealize.ShloMosaic.TcCoe
open Cert.KernelIdeal Cert.KernelIdeal.Gen

variable {F : FTy → Type} [FloatOps F]
variable (m : (ℓ : Loc nD τ sig) → Buf (Elt F) ℓ)

/-- The grid point of head `h`, key tile `j`, query tile `i`. -/
def pt (h j i : Fin 4) : Fin cfg0.N := ⟨16 * h.val + 4 * j.val + i.val, by have : cfg0.N = 64 := N_0; omega⟩

/-- Row `r` of tile `i`. -/
def row (i : Fin 4) (r : Fin 1024) : Fin 4096 := ⟨1024 * i.val + r.val, by omega⟩
/-- Column `d` of head `h`, in an array of 256 columns a head. -/
def colQ (h : Fin 4) (d : Fin 256) : Fin 1024 := ⟨256 * h.val + d.val, by omega⟩
/-- Column `e` of head `h`, in an array of 128 columns a head. -/
def colV (h : Fin 4) (e : Fin 128) : Fin 512 := ⟨128 * h.val + e.val, by omega⟩

theorem index_qry (t : Fin cfg0.N) : win0_0.index t = ![t.val % 4, t.val / 16] ∧ win0_3.index t = ![t.val % 4, t.val / 16]
    ∧ win0_4.index t = ![t.val % 4, t.val / 16] ∧ win0_5.index t = ![t.val % 4, t.val / 16] := by
  revert t; decide +kernel
theorem index_key (t : Fin cfg0.N) : win0_1.index t = ![t.val / 4 % 4, t.val / 16] ∧ win0_2.index t = ![t.val / 4 % 4, t.val / 16]
    ∧ win0_7.index t = ![t.val / 4 % 4, t.val / 16] ∧ win0_8.index t = ![t.val / 4 % 4, t.val / 16] := by
  revert t; decide +kernel
theorem index_dq (t : Fin cfg0.N) : win0_6.index t = ![0, t.val / 16] := by
  revert t; decide +kernel

variable (c : Dev nD) (h j i : Fin 4)

theorem iblk0_apply (r : Fin 1024) (d : Fin 256) : iblk m c 0 (pt h j i) (ix2 r d) = V m c main_arg0 (ix2 (row i r) (colQ h d)) := by
  have e := (index_qry (pt h j i)).1
  unfold iblk pt row colQ at *
  blk_ext [e]

theorem iblk1_apply (r : Fin 1024) (d : Fin 256) : iblk m c 1 (pt h j i) (ix2 r d) = V m c main_arg1 (ix2 (row j r) (colQ h d)) := by
  have e := (index_key (pt h j i)).1
  unfold iblk pt row colQ at *
  blk_ext [e]

theorem iblk2_apply (r : Fin 1024) (d : Fin 128) : iblk m c 2 (pt h j i) (ix2 r d) = V m c main_arg2 (ix2 (row j r) (colV h d)) := by
  have e := (index_key (pt h j i)).2.1
  unfold iblk pt row colV at *
  blk_ext [e]

theorem iblk3_apply (r : Fin 1024) (d : Fin 128) : iblk m c 3 (pt h j i) (ix2 r d) = V m c main_arg3 (ix2 (row i r) (colV h d)) := by
  have e := (index_qry (pt h j i)).2.1
  unfold iblk pt row colV at *
  blk_ext [e]

theorem iblk4_apply (r : Fin 1024) (d : Fin 128) : iblk m c 4 (pt h j i) (ix2 r d) = V m c main_v20 (ix2 (row i r) (colV h d)) := by
  have e := (index_qry (pt h j i)).2.2.1
  unfold iblk pt row colV at *
  blk_ext [e]

theorem iblk5_apply (r : Fin 1024) (d : Fin 128) : iblk m c 5 (pt h j i) (ix2 r d) = V m c main_v35 (ix2 (row i r) (colV h d)) := by
  have e := (index_qry (pt h j i)).2.2.2
  unfold iblk pt row colV at *
  blk_ext [e]

end Cert.KernelIdeal.Attn

end
-- ==== Proof.Attn.Outputs.lean ====
/-
  What the attention gradient's three result arrays hold after the run, over the extended reals: each element is one sum over all
  queries or all keys of its head.
-/
module

public import proofs.«01_k».proof.Proof.Attn.Blocks

@[expose] public section

set_option maxRecDepth 16384

noncomputable section

namespace Cert.KernelIdeal.Attn

open Idealize.ShloMosaic Idealize.ShloMosaic.TcCoe
open Idealize.SL Idealize.SL.Sem
open Idealize.ShloMosaic.Pipeline (RDat)
open Cert.KernelIdeal Cert.KernelIdeal.Gen

variable (m : (ℓ : Loc nD τ sig) → Buf (Elt Ideal) ℓ) (ρ : Dev nD → PrngReg) (c : Dev nD)

/-! ## The gradients, over the arrays -/

/-- The queries the region reads. -/
def aQ (q : Fin 4096) (d : Fin 1024) : EReal := V m c main_arg0 (ix2 q d)
/-- The keys the region reads. -/
def aK (k : Fin 4096) (d : Fin 1024) : EReal := V m c main_arg1 (ix2 k d)
/-- The values the region reads. -/
def aV (k : Fin 4096) (e : Fin 512) : EReal := V m c main_arg2 (ix2 k e)
/-- The output's gradient the region reads. -/
def aD (q : Fin 4096) (e : Fin 512) : EReal := V m c main_arg3 (ix2 q e)
/-- The saved output the region reads. -/
def aO (q : Fin 4096) (e : Fin 512) : EReal := V m c main_v20 (ix2 q e)
/-- The saved log-sums the region reads. -/
def aL (q : Fin 4096) (e : Fin 512) : EReal := V m c main_v35 (ix2 q e)

/-- The probability of key `k` for query `q` in head `h`. -/
def Prob (h : Fin 4) (q k : Fin 4096) : EReal :=
  Ideal.exp ((∑ d : Fin 256, aQ m c q (colQ h d) * aK m c k (colQ h d)) - aL m c q (colV h 0))
/-- The gradient of the score of key `k` for query `q` in head `h`. -/
def Dscore (h : Fin 4) (q k : Fin 4096) : EReal :=
  Prob m c h q k * ((∑ e : Fin 128, aD m c q (colV h e) * aV m c k (colV h e))
    - ∑ e : Fin 128, aD m c q (colV h e) * aO m c q (colV h e))
/-- The gradient of the queries. -/
def gradQ (h : Fin 4) (q : Fin 4096) (d : Fin 256) : EReal := ∑ k : Fin 4096, Dscore m c h q k * aK m c k (colQ h d)
/-- The gradient of the keys. -/
def gradK (h : Fin 4) (k : Fin 4096) (d : Fin 256) : EReal := ∑ q : Fin 4096, Dscore m c h q k * aQ m c q (colQ h d)
/-- The gradient of the values. -/
def gradV (h : Fin 4) (k : Fin 4096) (e : Fin 128) : EReal := ∑ q : Fin 4096, Prob m c h q k * aD m c q (colV h e)

/-- A sum over all rows, by tiles. -/
theorem sum_rows (f : Fin 4096 → EReal) : ∑ i : Fin 4, ∑ r : Fin 1024, f (row i r) = ∑ k : Fin 4096, f k := by
  rw [Fin.sum_univ_tiles 4 1024 rfl f]
  refine Finset.sum_congr rfl fun i _ => Finset.sum_congr rfl fun r _ => congrArg f (Fin.ext ?_)
  show 1024 * i.val + r.val = i.val * 1024 + r.val
  omega

/-! ## A tile's products -/

theorem prob_pt (h j i : Fin 4) (q k : Fin 1024) :
    prob (iblk m c 0 (pt h j i)) (iblk m c 1 (pt h j i)) (iblk m c 5 (pt h j i)) q k = Prob m c h (row i q) (row j k) := by
  unfold prob Prob
  simp only [iblk0_apply, iblk1_apply, iblk5_apply]; rfl
theorem dscore_pt (h j i : Fin 4) (q k : Fin 1024) :
    dscore (iblk m c 0 (pt h j i)) (iblk m c 1 (pt h j i)) (iblk m c 2 (pt h j i)) (iblk m c 3 (pt h j i)) (iblk m c 4 (pt h j i)) (iblk m c 5 (pt h j i)) q k
      = Dscore m c h (row i q) (row j k) := by
  unfold dscore Dscore
  rw [prob_pt]
  simp only [iblk2_apply, iblk3_apply, iblk4_apply]; rfl

theorem tV_pt (h j i : Fin 4) (k : Fin 1024) (e : Fin 128) :
    tV m c (pt h j i) (ix2 k e) = ∑ q : Fin 1024, Prob m c h (row i q) (row j k) * aD m c (row i q) (colV h e) := by
  unfold tV; rw [tileV_apply]
  simp only [prob_pt, iblk3_apply]; rfl
theorem tK_pt (h j i : Fin 4) (k : Fin 1024) (d : Fin 256) :
    tK m c (pt h j i) (ix2 k d) = ∑ q : Fin 1024, Dscore m c h (row i q) (row j k) * aQ m c (row i q) (colQ h d) := by
  unfold tK; rw [tileK_apply]
  simp only [dscore_pt, iblk0_apply]; rfl
theorem tQ_pt (h j i : Fin 4) (q : Fin 1024) (d : Fin 256) :
    tQ m c (pt h j i) (ix2 q d) = ∑ k : Fin 1024, Dscore m c h (row i q) (row j k) * aK m c (row j k) (colQ h d) := by
  unfold tQ; rw [tileQ_apply]
  simp only [dscore_pt, iblk1_apply]; rfl

/-! ## The accumulators at the last query tile -/

theorem accKNext_first {t : Fin cfg0.N} (h : t.val % 4 = 0) (x q : Vec Ideal S1024x256 .f32) : accKNext (grid0.coords t) x q = q := by
  unfold accKNext
  rw [if_neg (by rw [laterQry_iff]; omega)]
  exact shapeCast_self _ _
theorem accKNext_later {t : Fin cfg0.N} (h : ¬t.val % 4 = 0) (x q : Vec Ideal S1024x256 .f32) (k : Fin 1024) (d : Fin 256) :
    accKNext (grid0.coords t) x q (ix2 k d) = x (ix2 k d) + q (ix2 k d) := by
  unfold accKNext
  rw [if_pos (by rw [laterQry_iff]; omega)]
  pointwise [k0_pay5]
theorem accVNext_first {t : Fin cfg0.N} (h : t.val % 4 = 0) (x q : Vec Ideal S1024x128 .f32) : accVNext (grid0.coords t) x q = q := by
  unfold accVNext
  rw [if_neg (by rw [laterQry_iff]; omega)]
  exact shapeCast_self _ _
theorem accVNext_later {t : Fin cfg0.N} (h : ¬t.val % 4 = 0) (x q : Vec Ideal S1024x128 .f32) (k : Fin 1024) (e : Fin 128) :
    accVNext (grid0.coords t) x q (ix2 k e) = x (ix2 k e) + q (ix2 k e) := by
  unfold accVNext
  rw [if_pos (by rw [laterQry_iff]; omega)]
  pointwise [k0_pay4]

theorem pt_val (h j i : Fin 4) : (pt h j i).val = 16 * h.val + 4 * j.val + i.val := rfl
theorem pt3 (h j : Fin 4) : ¬(pt h j 3).val % 4 = 0 := by revert h j; decide
theorem pt2 (h j : Fin 4) : ¬(pt h j 2).val % 4 = 0 := by revert h j; decide
theorem pt1 (h j : Fin 4) : ¬(pt h j 1).val % 4 = 0 := by revert h j; decide
theorem pt0 (h j : Fin 4) : (pt h j 0).val % 4 = 0 := by revert h j; decide
theorem pt3_key (h j : Fin 4) : (pt h j 3).val / 4 % 4 = j.val := by revert h j; decide
theorem pt3_head (h j : Fin 4) : (pt h j 3).val / 16 = h.val := by revert h j; decide
theorem pt33 (h : Fin 4) : (pt h 3 3).val = 16 * h.val + 15 := rfl

theorem accK_last (d : Vec Ideal S1024x256 .f32) (h j : Fin 4) (k : Fin 1024) (e : Fin 256) :
    accK m c d ((pt h j 3).val + 1) (ix2 k e) = gradK m c h (row j k) e := by
  rw [accK_succ, accKNext_later (pt3 h j), show (pt h j 3).val = (pt h j 2).val + 1 from rfl,
    accK_succ, accKNext_later (pt2 h j), show (pt h j 2).val = (pt h j 1).val + 1 from rfl,
    accK_succ, accKNext_later (pt1 h j), show (pt h j 1).val = (pt h j 0).val + 1 from rfl,
    accK_succ, accKNext_first (pt0 h j), tK_pt, tK_pt, tK_pt, tK_pt]
  unfold gradK
  rw [← sum_rows, Fin.sum_univ_four]
theorem accV_last (d : Vec Ideal S1024x128 .f32) (h j : Fin 4) (k : Fin 1024) (e : Fin 128) :
    accV m c d ((pt h j 3).val + 1) (ix2 k e) = gradV m c h (row j k) e := by
  rw [accV_succ, accVNext_later (pt3 h j), show (pt h j 3).val = (pt h j 2).val + 1 from rfl,
    accV_succ, accVNext_later (pt2 h j), show (pt h j 2).val = (pt h j 1).val + 1 from rfl,
    accV_succ, accVNext_later (pt1 h j), show (pt h j 1).val = (pt h j 0).val + 1 from rfl,
    accV_succ, accVNext_first (pt0 h j), tV_pt, tV_pt, tV_pt, tV_pt]
  unfold gradV
  rw [← sum_rows, Fin.sum_univ_four]

/-! ## The query gradient's block at a head's last point -/

theorem offs_eq (t : Fin cfg0.N) : k0_off1 (grid0.coords t) = ![1024 * (t.val % 4), 0] ∧ k0_off2 (grid0.coords t) = ![1024 * (t.val % 4), 0] := by
  have e : ((grid0.coords t) 2).val = t.val % 4 := by revert t; decide +kernel
  rw [k0_off1_eq, k0_off2_eq, e]; exact ⟨rfl, rfl⟩

theorem dqNext_apply (t : Fin cfg0.N) (x : Vec Ideal S4096x256 .f32) (q : Vec Ideal S1024x256 .f32) (i : Fin 4) (r : Fin 1024) (d : Fin 256) :
    dqNext (grid0.coords t) x q (ix2 (row i r) d)
      = if i.val = t.val % 4 then (if t.val / 4 % 4 = 0 then q (ix2 r d) else x (ix2 (row i r) d) + q (ix2 r d)) else x (ix2 (row i r) d) := by
  obtain ⟨e1, e2⟩ := offs_eq t
  by_cases hj : t.val / 4 % 4 = 0
  · rw [dqNext_first (by rw [laterKey_iff]; omega), if_pos hj]
    unfold VecWindow.put
    rw [e1]
    by_cases hi : i.val = t.val % 4
    · rw [if_pos hi, dif_pos (fun a => by fin_cases a <;> simp [row] <;> omega)]
      refine congrArg q (funext fun a => Fin.ext ?_)
      fin_cases a <;> simp [Rect.unitLocal, row] <;> omega
    · rw [if_neg hi, dif_neg (fun hh => by have := hh 0; simp [row] at this; omega)]
  · rw [dqNext_later (by rw [laterKey_iff]; omega), if_neg hj]
    unfold VecWindow.put
    by_cases hi : i.val = t.val % 4
    · rw [if_pos hi, dif_pos (fun a => by rw [e2]; fin_cases a <;> simp [row] <;> omega)]
      have hl : Rect.unitLocal (s := S4096x256) (off := k0_off2 (grid0.coords t)) (size := S1024x256.size) (ix2 (row i r) d) (fun a => by rw [e2]; fin_cases a <;> simp [row] <;> omega) = ix2 r d := by
        refine (funext fun a => Fin.ext ?_)
        fin_cases a <;> simp [Rect.unitLocal, row, e2] <;> omega
      rw [hl]
      pointwise [k0_pay1]
      congr 1
      unfold VecWindow.window
      refine congrArg x (funext fun a => Fin.ext ?_)
      have ea : k0_off2 (grid0.coords t) a = ![1024 * (t.val % 4), 0] a := congrFun e2 a
      show k0_off2 (grid0.coords t) a + 1 * (ix2 r d a).val = (ix2 (row i r) d a).val
      rw [ea]
      fin_cases a <;> simp [row] <;> omega
    · rw [if_neg hi, dif_neg (fun hh => by have := hh 0; rw [e2] at this; simp [row] at this; omega)]

/-- The queries' product at point `n` (modulo the grid). -/
def tQn (n : ℕ) : Vec Ideal S1024x256 .f32 := tQ m c ⟨n % 64, lt_of_lt_of_eq (Nat.mod_lt _ (by decide)) N_0.symm⟩

theorem dq_rows : ∀ (n : ℕ) (hn : n < cfg0.N) (X : Vec Ideal S4096x256 .f32), (rdat m c).Leaves 6 ⟨n, hn⟩ X →
    ∀ (i : Fin 4) (r : Fin 1024) (d : Fin 256), 0 < (n % 16 + 4 - i.val) / 4 →
      X (ix2 (row i r) d) = ∑ j ∈ Finset.range ((n % 16 + 4 - i.val) / 4), tQn m c (16 * (n / 16) + 4 * j + i.val) (ix2 r d) := by
  intro n
  induction n with
  | zero =>
    rintro hn X ⟨Y, -, hX⟩ i r d hK
    obtain rfl : X = dqNext (grid0.coords ⟨0, hn⟩) Y (tQ m c ⟨0, hn⟩) := hX
    have hi : i.val = 0 := by omega
    rw [dqNext_apply]
    dsimp only
    rw [if_pos (show i.val = 0 % 4 from hi), if_pos (by decide), hi, show (0 % 16 + 4 - 0) / 4 = 1 from rfl, Finset.sum_range_one]
    unfold tQn; rfl
  | succ n ih =>
    rintro hn X ⟨Y, hY, hX⟩ i r d hK
    obtain rfl : X = dqNext (grid0.coords ⟨n + 1, hn⟩) Y (tQ m c ⟨n + 1, hn⟩) := hX
    have hN : cfg0.N = 64 := N_0
    have hprev : ¬(n + 1) % 16 = 0 → (rdat m c).Leaves 6 ⟨n, by omega⟩ Y := fun h => by
      rcases ((rdat m c).finds_of_pos (w := 6) rfl (Nat.succ_ne_zero n) Y).mp hY with hf | hL
      · exact absurd ((flush0_6 _).mp hf) (by show ¬(n + 1 - 1) % 16 = 15; omega)
      · exact hL
    have ht : tQ m c ⟨n + 1, hn⟩ = tQn m c (n + 1) := by
      unfold tQn; refine congrArg _ (Fin.ext ?_); show n + 1 = (n + 1) % 64; omega
    rw [dqNext_apply]
    dsimp only
    by_cases hi : i.val = (n + 1) % 4
    · rw [if_pos hi]
      by_cases hj : (n + 1) / 4 % 4 = 0
      · rw [if_pos hj, show ((n + 1) % 16 + 4 - i.val) / 4 = 1 by omega, Finset.sum_range_one, ht,
          show 16 * ((n + 1) / 16) + 4 * 0 + i.val = n + 1 by omega]
      · rw [if_neg hj, ih _ Y (hprev (by omega)) i r d (by omega), ht,
          show ((n + 1) % 16 + 4 - i.val) / 4 = (n % 16 + 4 - i.val) / 4 + 1 by omega, Finset.sum_range_succ,
          show 16 * ((n + 1) / 16) + 4 * ((n % 16 + 4 - i.val) / 4) + i.val = n + 1 by omega, show (n + 1) / 16 = n / 16 by omega]
    · rw [if_neg hi, ih _ Y (hprev (by omega)) i r d (by omega), show ((n + 1) % 16 + 4 - i.val) / 4 = (n % 16 + 4 - i.val) / 4 by omega,
        show (n + 1) / 16 = n / 16 by omega]

theorem dq_last (h : Fin 4) (X : Vec Ideal S4096x256 .f32) (hX : (rdat m c).Leaves 6 (pt h 3 3) X) (q : Fin 4096) (d : Fin 256) :
    X (ix2 q d) = gradQ m c h q d := by
  obtain ⟨i, r, rfl⟩ : ∃ i r, q = row i r := ⟨⟨q.val / 1024, by omega⟩, ⟨q.val % 1024, by omega⟩, Fin.ext (by show q.val = 1024 * (q.val / 1024) + q.val % 1024; omega)⟩
  have e := dq_rows m c (pt h 3 3).val (pt h 3 3).isLt X hX i r d (by rw [pt33]; omega)
  rw [e, show ((pt h 3 3).val % 16 + 4 - i.val) / 4 = 4 by rw [pt33]; omega, Finset.sum_range]
  unfold gradQ
  rw [← sum_rows]
  refine Finset.sum_congr rfl fun j _ => ?_
  rw [← tQ_pt]
  unfold tQn
  refine congrFun (congrArg _ (Fin.ext ?_)) _
  show (16 * ((pt h 3 3).val / 16) + 4 * j.val + i.val) % 64 = (pt h j i).val
  rw [pt33, pt_val]; omega

/-! ## The arrays after the run -/

/-- The query gradient as an array. -/
def resQ : Vec Ideal S4096x1024 .f32 := fun y => gradQ m c ⟨(y 1).val / 256, by have : (y 1).val < 1024 := (y 1).isLt; omega⟩ (y 0) ⟨(y 1).val % 256, by omega⟩
/-- The key gradient as an array. -/
def resK : Vec Ideal S4096x1024 .f32 := fun y => gradK m c ⟨(y 1).val / 256, by have : (y 1).val < 1024 := (y 1).isLt; omega⟩ (y 0) ⟨(y 1).val % 256, by omega⟩
/-- The value gradient as an array. -/
def resV : Vec Ideal S4096x512 .f32 := fun y => gradV m c ⟨(y 1).val / 128, by have : (y 1).val < 512 := (y 1).isLt; omega⟩ (y 0) ⟨(y 1).val % 128, by omega⟩

theorem resQ_apply (h : Fin 4) (q : Fin 4096) (d : Fin 256) : resQ m c (ix2 q (colQ h d)) = gradQ m c h q d := by
  show gradQ m c ⟨(256 * h.val + d.val) / 256, _⟩ q ⟨(256 * h.val + d.val) % 256, _⟩ = _
  congr 1 <;> refine Fin.ext ?_ <;> dsimp only <;> omega
theorem resK_apply (h : Fin 4) (k : Fin 4096) (d : Fin 256) : resK m c (ix2 k (colQ h d)) = gradK m c h k d := by
  show gradK m c ⟨(256 * h.val + d.val) / 256, _⟩ k ⟨(256 * h.val + d.val) % 256, _⟩ = _
  congr 1 <;> refine Fin.ext ?_ <;> dsimp only <;> omega
theorem resV_apply (h : Fin 4) (k : Fin 4096) (e : Fin 128) : resV m c (ix2 k (colV h e)) = gradV m c h k e := by
  show gradV m c ⟨(128 * h.val + e.val) / 128, _⟩ k ⟨(128 * h.val + e.val) % 128, _⟩ = _
  congr 1 <;> refine Fin.ext ?_ <;> dsimp only <;> omega

theorem result_q (r : PUnit × MemSt nD τ sig (Elt Ideal)) (hr : RDat.FramePost cfg0 (rdat m) (V m) r) :
    r.2.mem (c.tc.loc main_v36_0) = resQ m c := by
  obtain ⟨after, hL, hA⟩ := hr.exists_exact c
  refine (hA 6).trans (((rdat m c).withAfter after).arrAt_eq_of_covers 6 (resQ m c) (by decide +kernel) fun t hf y => ?_)
  have hl := hL 6 t hf
  have hm := (flush0_6 t).mp hf
  obtain ⟨h, rfl⟩ : ∃ h, t = pt h 3 3 := ⟨⟨t.val / 16, by have : cfg0.N = 64 := N_0; omega⟩, Fin.ext (by rw [pt33]; dsimp only; omega)⟩
  have e := index_dq (pt h 3 3)
  have ex : (pt h 3 3).val / 16 = h.val := by rw [pt33]; omega
  rw [RDat.withAfter_after]
  idx_vars y
  refine (dq_last m c h _ hl _ _).trans ((resQ_apply m c h _ _).symm.trans ?_)
  blk_ext [e, ex, colQ]

theorem result_k (r : PUnit × MemSt nD τ sig (Elt Ideal)) (hr : RDat.FramePost cfg0 (rdat m) (V m) r) :
    r.2.mem (c.tc.loc main_v36_1) = resK m c := by
  obtain ⟨after, hL, hA⟩ := hr.exists_exact c
  refine (hA 7).trans (((rdat m c).withAfter after).arrAt_eq_of_covers 7 (resK m c) (by decide +kernel) fun t hf y => ?_)
  have hm := (flush0_7 t).mp hf
  obtain ⟨Y, -, hX⟩ := hL 7 t hf
  obtain ⟨d, hd⟩ := (show t.val % 4 = 3 → ∃ d, after 7 t = accK m c d (t.val + 1) from hX) hm
  obtain ⟨h, j, rfl⟩ : ∃ h j, t = pt h j 3 := ⟨⟨t.val / 16, by have : cfg0.N = 64 := N_0; omega⟩, ⟨t.val / 4 % 4, by omega⟩,
    Fin.ext (by rw [pt_val]; dsimp only; show _ = 16 * (t.val / 16) + 4 * (t.val / 4 % 4) + 3; omega)⟩
  have e := (index_key (pt h j 3)).2.2.1
  rw [RDat.withAfter_after]
  idx_vars y
  rw [hd]
  refine (accK_last m c d h j _ _).trans ((resK_apply m c h _ _).symm.trans ?_)
  blk_ext [e, colQ, row, pt3_key, pt3_head]

theorem result_v (r : PUnit × MemSt nD τ sig (Elt Ideal)) (hr : RDat.FramePost cfg0 (rdat m) (V m) r) :
    r.2.mem (c.tc.loc main_v36_2) = resV m c := by
  obtain ⟨after, hL, hA⟩ := hr.exists_exact c
  refine (hA 8).trans (((rdat m c).withAfter after).arrAt_eq_of_covers 8 (resV m c) (by decide +kernel) fun t hf y => ?_)
  have hm := (flush0_8 t).mp hf
  obtain ⟨Y, -, hX⟩ := hL 8 t hf
  obtain ⟨d, hd⟩ := (show t.val % 4 = 3 → ∃ d, after 8 t = accV m c d (t.val + 1) from hX) hm
  obtain ⟨h, j, rfl⟩ : ∃ h j, t = pt h j 3 := ⟨⟨t.val / 16, by have : cfg0.N = 64 := N_0; omega⟩, ⟨t.val / 4 % 4, by omega⟩,
    Fin.ext (by rw [pt_val]; dsimp only; show _ = 16 * (t.val / 16) + 4 * (t.val / 4 % 4) + 3; omega)⟩
  have e := (index_key (pt h j 3)).2.2.2
  rw [RDat.withAfter_after]
  idx_vars y
  rw [hd]
  refine (accV_last m c d h j _ _).trans ((resV_apply m c h _ _).symm.trans ?_)
  blk_ext [e, colV, row, pt3_key, pt3_head]

end Cert.KernelIdeal.Attn

end
-- ==== Proof.Attn.Ref.lean ====
/-
  What the reference (the derivative of the attention) computes, read element by element over the extended reals.
-/
module

public import proofs.«01_k».proof.Proof.Gen.ReferenceIdeal.Read
public import proofs.«01_k».proof.Proof.Attn.Blocks
public import Idealize.ShloMosaic.Lib.Pointwise

@[expose] public section

set_option maxRecDepth 16384

noncomputable section

namespace Cert.ReferenceIdeal.Attn

open Idealize.ShloMosaic Idealize.ShloMosaic.TcCoe
open Cert.ReferenceIdeal Cert.ReferenceIdeal.Gen Cert.ReferenceIdeal.Read
open Cert.KernelIdeal.Attn (colQ colV)

variable (x0 x1 : Vec Ideal S4096x1024 .bf16) (x2 : Vec Ideal S4096x512 .bf16) (x3 : Vec Ideal S4096x512 .f32)

/-- The score of key `k` for query `q` in head `h`. -/
def score (h : Fin 4) (q k : Fin 4096) : EReal := ∑ d : Fin 256, x0 (ix2 q (colQ h d)) * x1 (ix2 k (colQ h d))
/-- The row's largest score. -/
def top (h : Fin 4) (q : Fin 4096) : EReal := max ⊥ (Finset.univ.fold max ⊥ fun k : Fin 4096 => score x0 x1 h q k)
/-- The exponential of the shifted score. -/
def expo (h : Fin 4) (q k : Fin 4096) : EReal := Ideal.exp (score x0 x1 h q k - top x0 x1 h q)
/-- The row's sum of exponentials. -/
def mass (h : Fin 4) (q : Fin 4096) : EReal := ∑ k : Fin 4096, expo x0 x1 h q k
/-- The product of the output's gradient with the values. -/
def dprob (h : Fin 4) (q k : Fin 4096) : EReal := ∑ e : Fin 128, x3 (ix2 q (colV h e)) * x2 (ix2 k (colV h e))

/-- The word of minus infinity. -/
theorem word_bot : Ideal.ofBits .f32 0xFF800000#32 = ⊥ := by simp [Ideal.ofBits, Ideal.ieee]

theorem v3_apply (q : Fin 4096) (h : Fin 4) (d : Fin 256) : val_main_v3 (F := Ideal) x0 (ix3 q h d) = x0 (ix2 q (colQ h d)) := by
  pointwise [val_main_v3, val_main_v0]
  blk_ext [colQ]
theorem v4_apply (q : Fin 4096) (h : Fin 4) (d : Fin 256) : val_main_v4 (F := Ideal) x1 (ix3 q h d) = x1 (ix2 q (colQ h d)) := by
  pointwise [val_main_v4, val_main_v1]
  blk_ext [colQ]
theorem v5_apply (q : Fin 4096) (h : Fin 4) (d : Fin 128) : val_main_v5 (F := Ideal) x2 (ix3 q h d) = x2 (ix2 q (colV h d)) := by
  pointwise [val_main_v5, val_main_v2]
  blk_ext [colV]
theorem v6_apply (h : Fin 4) (q k : Fin 4096) : val_main_v6 (F := Ideal) x0 x1 (ix3 h q k) = score x0 x1 h q k := by
  unfold score
  pointwise [val_main_v6, v3_apply, v4_apply]
/-- A maximum over the last axis, element by element. -/
theorem rowTop (x : Vec Ideal S4x4096x4096 .f32) (b : Vec Ideal S_ .f32) (hr : S4x4096x4096.ReducesTo [2] S4x4096) (hu : 0 < S_.numel) (h : Fin 4) (q : Fin 4096) :
    Host.reduce (FloatOps.maximumf (F := Ideal) (φ := .f32)) x b hr hu (ix2 h q)
      = Finset.univ.fold max (b (Shape.Idx.first hu)) fun k : Fin 4096 => x (ix3 h q k) := by
  have hs : S4x4096x4096.Reduces [2] S4x4096 := by decide
  rw [Host.reduce_eq_fold_single (FloatOps.maximumf (F := Ideal) (φ := .f32)) x b hr hs hu]
  refine congrArg (fun f => Finset.fold max (b (Shape.Idx.first hu)) f Finset.univ) (funext fun k => ?_)
  refine congrArg x (funext fun a => Fin.ext ?_)
  fin_cases a <;> rfl
theorem v14_apply (h : Fin 4) (q : Fin 4096) : val_main_v14 (F := Ideal) x0 x1 (ix2 h q) = top x0 x1 h q := by
  have e : val_main_v7 (F := Ideal) x0 x1 (ix2 h q) = Finset.univ.fold max ⊥ fun k : Fin 4096 => score x0 x1 h q k := by
    unfold val_main_v7
    rw [rowTop]
    simp only [v6_apply]
    rw [val_main_cst_apply]
    exact congrArg (fun b => Finset.fold max b _ Finset.univ) word_bot
  rw [val_main_v14_apply, e, val_main_v13_apply, val_main_cst_1_apply]
  unfold top
  exact congrArg (fun b => max b _) word_bot
theorem v27_apply (h : Fin 4) (q k : Fin 4096) : val_main_v27 (F := Ideal) x0 x1 (ix3 h q k) = expo x0 x1 h q k := by
  unfold expo
  pointwise [val_main_v27, val_main_v26, val_main_v25, val_main_v24, v14_apply, v6_apply]
theorem v28_apply (h : Fin 4) (q : Fin 4096) : val_main_v28 (F := Ideal) x0 x1 (ix2 h q) = mass x0 x1 h q := by
  unfold mass
  pointwise [val_main_v28, val_main_cst_7, v27_apply]
theorem v31_apply (h : Fin 4) (q k : Fin 4096) : val_main_v31 (F := Ideal) x0 x1 (ix3 h q k) = Ideal.div (expo x0 x1 h q k) (mass x0 x1 h q) := by
  pointwise [val_main_v31, val_main_v30, val_main_v29, v28_apply, v27_apply]
theorem v37_apply (q : Fin 4096) (h : Fin 4) (e : Fin 128) : val_main_v37 (F := Ideal) x0 x1 x2 (ix2 q (colV h e))
    = ∑ k : Fin 4096, x2 (ix2 k (colV h e)) * Ideal.div (expo x0 x1 h q k) (mass x0 x1 h q) := by
  pointwise [val_main_v37, val_main_v36, val_main_v35, v5_apply, v31_apply, colV]

/-! ## The gradients -/

/-- The reference's gradient of the score. -/
def dref (h : Fin 4) (q k : Fin 4096) : EReal :=
  (Ideal.div (dprob x2 x3 h q k) (mass x0 x1 h q)
    + -∑ k' : Fin 4096, dprob x2 x3 h q k' * Ideal.div 1 (mass x0 x1 h q * mass x0 x1 h q) * expo x0 x1 h q k') * expo x0 x1 h q k

theorem v39_apply (h : Fin 4) (e : Fin 128) (q : Fin 4096) : val_main_v39 (F := Ideal) x3 (ix3 h e q) = x3 (ix2 q (colV h e)) := by
  pointwise [val_main_v39, val_main_v38]
  blk_ext [colV]
theorem v40_apply (h : Fin 4) (q k : Fin 4096) : val_main_v40 (F := Ideal) x2 x3 (ix3 h q k) = dprob x2 x3 h q k := by
  unfold dprob
  pointwise [val_main_v40, v39_apply, v5_apply]
theorem v34_apply (h : Fin 4) (q : Fin 4096) : val_main_v34 (F := Ideal) x0 x1 (ix3 h q 0) = Ideal.div 1 (mass x0 x1 h q * mass x0 x1 h q) := by
  pointwise [val_main_v34, val_main_v33, val_main_cst_8, val_main_v32, val_main_v29, v28_apply]
theorem v46_apply (h : Fin 4) (q : Fin 4096) : val_main_v46 (F := Ideal) x0 x1 x2 x3 (ix2 h q)
    = ∑ k : Fin 4096, dprob x2 x3 h q k * Ideal.div 1 (mass x0 x1 h q * mass x0 x1 h q) * expo x0 x1 h q k := by
  pointwise [val_main_v46, val_main_cst_9, val_main_v45, val_main_v44, val_main_v43, v27_apply, v40_apply, v34_apply]
theorem v51_apply (h : Fin 4) (q : Fin 4096) : val_main_v51 (F := Ideal) x0 x1 x2 x3 (ix2 h q)
    = -∑ k : Fin 4096, dprob x2 x3 h q k * Ideal.div 1 (mass x0 x1 h q * mass x0 x1 h q) * expo x0 x1 h q k := by
  pointwise [val_main_v51, val_main_cst_10, val_main_v48, val_main_v47, v46_apply]
  exact Fin.sum_univ_one _
theorem v54_apply (h : Fin 4) (q k : Fin 4096) : val_main_v54 (F := Ideal) x0 x1 x2 x3 (ix3 h q k) = dref x0 x1 x2 x3 h q k := by
  unfold dref
  pointwise [val_main_v54, val_main_v53, val_main_v52, val_main_v50, val_main_v49, val_main_v29, v28_apply, v40_apply, v51_apply, v27_apply]
theorem v59_apply (k : Fin 4096) (h : Fin 4) (e : Fin 128) : val_main_v59 (F := Ideal) x0 x1 x3 (ix2 k (colV h e))
    = ∑ q : Fin 4096, x3 (ix2 q (colV h e)) * Ideal.div (expo x0 x1 h q k) (mass x0 x1 h q) := by
  pointwise [val_main_v59, val_main_v42, val_main_v41, v39_apply, v31_apply, colV]
theorem v60_apply (k : Fin 4096) (h : Fin 4) (d : Fin 256) : val_main_v60 (F := Ideal) x0 x1 x2 x3 (ix2 k (colQ h d))
    = ∑ q : Fin 4096, dref x0 x1 x2 x3 h q k * x0 (ix2 q (colQ h d)) := by
  pointwise [val_main_v60, val_main_v56, val_main_v55, v54_apply, v3_apply, colQ]
theorem v61_apply (q : Fin 4096) (h : Fin 4) (d : Fin 256) : val_main_v61 (F := Ideal) x0 x1 x2 x3 (ix2 q (colQ h d))
    = ∑ k : Fin 4096, dref x0 x1 x2 x3 h q k * x1 (ix2 k (colQ h d)) := by
  pointwise [val_main_v61, val_main_v58, val_main_v57, v54_apply, v4_apply, colQ]

end Cert.ReferenceIdeal.Attn

end
-- ==== Proof.Attn.Host.lean ====
/-
  The two arrays that the host prepares for the region: the saved output of the attention, and each row's log-sum.
-/
module

public import proofs.«01_k».proof.Proof.Attn.Outputs
public import proofs.«01_k».proof.Proof.Attn.Ref

@[expose] public section

set_option maxRecDepth 16384

noncomputable section

namespace Cert.KernelIdeal.Attn

open Idealize.ShloMosaic Idealize.ShloMosaic.TcCoe
open Idealize.SL Idealize.SL.Sem
open Cert.KernelIdeal Cert.KernelIdeal.Gen
open Cert.ReferenceIdeal.Attn (score top expo mass)

/-- The scores, queries first. -/
def hScore (x0 x1 : Vec Ideal S4096x1024 .bf16) : Vec Ideal S4096x4x4096 .f32 :=
  transpose S4096x4x4096 [2, 0, 1] (Cert.ReferenceIdeal.Read.val_main_v6 (F := Ideal) x1 x0) transposes_S4x4096x4096_S4096x4x4096_2_0_1
/-- Their maxima along the keys. -/
def hTop (s : Vec Ideal S4096x4x4096 .f32) : Vec Ideal S4096x4 .f32 :=
  Host.reduce (FloatOps.maximumf (F := Ideal) (φ := .f32)) s (constant (F := Ideal) S_ .f32 0xFF800000#32) reducesTo_S4096x4x4096_S4096x4_d2 h_S_
/-- The log-sums. -/
def hLse (s : Vec Ideal S4096x4x4096 .f32) (t : Vec Ideal S4096x4 .f32) : Vec Ideal S4096x4 .f32 :=
  addf t (Host.log (Host.reduceAdd (F := Ideal) (Host.exp (subf s (broadcastInDim S4096x4x4096 ![0, 1, 2] bcast_S4096x4x1_S4096x4x4096_0_1_2
    (broadcastInDim S4096x4x1 ![0, 1] bcast_S4096x4_S4096x4x1_0_1 t)))) (constant (F := Ideal) S_ .f32 0x00000000#32) reducesTo_S4096x4x4096_S4096x4_d2 h_S_))
/-- The log-sums on every column of their head. -/
def hSpread (l : Vec Ideal S4096x4 .f32) : Vec Ideal S4096x512 .f32 :=
  shapeCast S4096x512 (broadcastInDim S4096x4x128 ![0, 1, 2] bcast_S4096x4x1_S4096x4x128_0_1_2
    (broadcastInDim S4096x4x1 ![0, 1] bcast_S4096x4_S4096x4x1_0_1 l)) shapeCasts_S4096x4x128_S4096x512

section read

variable (m : (ℓ : Loc nD τ sig) → Buf (Elt Ideal) ℓ) (c : Dev nD)

theorem V_out : V m c main_v20 = Cert.ReferenceIdeal.Read.val_main_v37 (F := Ideal) (m (c.tc.loc main_arg0)) (m (c.tc.loc main_arg1)) (m (c.tc.loc main_arg2)) := by
  unfold V
  after_results_simp
  all_goals unfold Cert.ReferenceIdeal.Read.val_main_v37 Cert.ReferenceIdeal.Read.val_main_v36 Cert.ReferenceIdeal.Read.val_main_v35 Cert.ReferenceIdeal.Read.val_main_v31 Cert.ReferenceIdeal.Read.val_main_v30 Cert.ReferenceIdeal.Read.val_main_v29 Cert.ReferenceIdeal.Read.val_main_v28 Cert.ReferenceIdeal.Read.val_main_v27 Cert.ReferenceIdeal.Read.val_main_v26 Cert.ReferenceIdeal.Read.val_main_v25 Cert.ReferenceIdeal.Read.val_main_v24 Cert.ReferenceIdeal.Read.val_main_v14 Cert.ReferenceIdeal.Read.val_main_v13 Cert.ReferenceIdeal.Read.val_main_v7 Cert.ReferenceIdeal.Read.val_main_v6 Cert.ReferenceIdeal.Read.val_main_v5 Cert.ReferenceIdeal.Read.val_main_v4 Cert.ReferenceIdeal.Read.val_main_v3 Cert.ReferenceIdeal.Read.val_main_v2 Cert.ReferenceIdeal.Read.val_main_v1 Cert.ReferenceIdeal.Read.val_main_v0 Cert.ReferenceIdeal.Read.val_main_cst Cert.ReferenceIdeal.Read.val_main_cst_1 Cert.ReferenceIdeal.Read.val_main_cst_7
  all_goals rfl

theorem V_lse : V m c main_v35 = hSpread (hLse (hScore (m (c.tc.loc main_arg0)) (m (c.tc.loc main_arg1))) (hTop (hScore (m (c.tc.loc main_arg0)) (m (c.tc.loc main_arg1))))) := by
  unfold V
  after_results_simp <;> rfl

end read

/-! ## The log-sum of a row -/

variable (x0 x1 : Vec Ideal S4096x1024 .bf16)

theorem hScore_apply (q : Fin 4096) (h : Fin 4) (k : Fin 4096) :
    hScore x0 x1 (ix3 q h k) = ∑ d : Fin 256, x1 (ix2 k (colQ h d)) * x0 (ix2 q (colQ h d)) := by
  pointwise [hScore, Cert.ReferenceIdeal.Attn.v6_apply, score]

theorem hTop_apply (s : Vec Ideal S4096x4x4096 .f32) (q : Fin 4096) (h : Fin 4) :
    hTop s (ix2 q h) = Finset.univ.fold max ⊥ fun k : Fin 4096 => s (ix3 q h k) := by
  have hs : S4096x4x4096.Reduces [2] S4096x4 := by decide
  unfold hTop
  rw [Host.reduce_eq_fold_single (FloatOps.maximumf (F := Ideal) (φ := .f32)) s _ _ hs h_S_]
  refine (congrArg (fun b => Finset.fold max b _ Finset.univ) Cert.ReferenceIdeal.Attn.word_bot).trans ?_
  refine congrArg (fun f => Finset.fold max ⊥ f Finset.univ) (funext fun k => ?_)
  refine congrArg s (funext fun a => Fin.ext ?_)
  fin_cases a <;> rfl

theorem hLse_apply (s : Vec Ideal S4096x4x4096 .f32) (t : Vec Ideal S4096x4 .f32) (q : Fin 4096) (h : Fin 4) :
    hLse s t (ix2 q h) = t (ix2 q h) + Ideal.log (∑ k : Fin 4096, Ideal.exp (s (ix3 q h k) - t (ix2 q h))) := by
  pointwise [hLse]

theorem hSpread_apply (l : Vec Ideal S4096x4 .f32) (q : Fin 4096) (h : Fin 4) (e : Fin 128) : hSpread l (ix2 q (colV h e)) = l (ix2 q h) := by
  pointwise [hSpread, colV]
  try blk_ext

end Cert.KernelIdeal.Attn

end
-- ==== Proof.Attn.Equation.lean ====
/-
  The equation between the two, over finite arrays: the kernel's probabilities, of saved log-sums, are the reference's quotients; and its
  score gradient, of the saved output, is the reference's, of the derivative of the quotient.
-/
module

public import proofs.«01_k».proof.Proof.Attn.Host

@[expose] public section

noncomputable section

namespace Cert.KernelIdeal.Attn

open Idealize.ShloMosaic
open Cert.ReferenceIdeal.Attn (score top expo mass dprob dref)

/-! ## Real arithmetic -/

theorem coe_sum_real {ι : Type} [Fintype ι] (f : ι → ℝ) : (((∑ i, f i : ℝ)) : EReal) = ∑ i, (f i : EReal) := by
  classical
  induction (Finset.univ : Finset ι) using Finset.induction_on with
  | empty => simp
  | insert a s ha ih => rw [Finset.sum_insert ha, Finset.sum_insert ha, EReal.coe_add, ih]

/-- The largest of finitely many reals is one. -/
theorem fold_max_real (f : Fin 4096 → ℝ) : ∃ r : ℝ, (Finset.univ.fold max ⊥ fun k => (f k : EReal)) = r := by
  obtain ⟨k, -, hk⟩ := Finset.exists_mem_eq_sup (Finset.univ : Finset (Fin 4096)) ⟨0, Finset.mem_univ _⟩ fun k => (f k : EReal)
  exact ⟨f k, hk⟩

section row

variable (s dp : Fin 4096 → ℝ) (M T : ℝ)

/-- The row's sum, shifted by `M`. -/
def total : ℝ := ∑ k, Real.exp (s k - M)
theorem total_pos : 0 < total s M := Finset.sum_pos (fun _ _ => Real.exp_pos _) ⟨0, Finset.mem_univ _⟩

/-- The quotient does not depend on the shift. -/
theorem prob_shift (k : Fin 4096) : Real.exp (s k - (T + Real.log (total s T))) = Real.exp (s k - M) / total s M := by
  have hT := total_pos s T
  have hM := total_pos s M
  have e : total s T = total s M * Real.exp (M - T) := by
    unfold total
    rw [Finset.sum_mul]
    refine Finset.sum_congr rfl fun k _ => ?_
    rw [← Real.exp_add]; congr 1; ring
  rw [show s k - (T + Real.log (total s T)) = (s k - T) - Real.log (total s T) by ring, Real.exp_sub, Real.exp_log hT, e,
    show s k - T = (s k - M) + (M - T) by ring, Real.exp_add]
  have := (Real.exp_pos (M - T)).ne'
  field_simp

/-- The derivative of the quotient, in the two forms. -/
theorem dscore_shift (k : Fin 4096) :
    Real.exp (s k - M) / total s M * (dp k - ∑ k', dp k' * (Real.exp (s k' - M) / total s M))
      = (dp k * (1 / total s M) + -∑ k', dp k' * (1 * (1 / (total s M * total s M))) * Real.exp (s k' - M)) * Real.exp (s k - M) := by
  have hM := (total_pos s M).ne'
  have e : ∑ k', dp k' * (1 * (1 / (total s M * total s M))) * Real.exp (s k' - M)
      = (1 / total s M) * ∑ k', dp k' * (Real.exp (s k' - M) / total s M) := by
    rw [Finset.mul_sum]
    refine Finset.sum_congr rfl fun k' _ => ?_
    field_simp
  rw [e]
  field_simp
  ring

end row

/-! ## Finite arrays -/

variable (a0 a1 : S4096x1024.Idx → ℝ) (a2 a3 : S4096x512.Idx → ℝ) (h : Fin 4)

/-- An array of reals, as one of extended reals. -/
abbrev lift {s : Shape} (φ : FTy) (a : s.Idx → ℝ) : FVec Ideal s φ := fun i => ((a i : ℝ) : EReal)

def rScore (q k : Fin 4096) : ℝ := ∑ d : Fin 256, a0 (ix2 q (colQ h d)) * a1 (ix2 k (colQ h d))
def rDprob (q k : Fin 4096) : ℝ := ∑ e : Fin 128, a3 (ix2 q (colV h e)) * a2 (ix2 k (colV h e))

/-- The row's inner product of output and its gradient, as a sum over the keys. -/
theorem delta_sum (p : Fin 4096 → ℝ) (q : Fin 4096) :
    ∑ e : Fin 128, a3 (ix2 q (colV h e)) * ∑ k : Fin 4096, a2 (ix2 k (colV h e)) * p k = ∑ k : Fin 4096, rDprob a2 a3 h q k * p k := by
  unfold rDprob
  simp only [Finset.mul_sum, Finset.sum_mul]
  rw [Finset.sum_comm]
  exact Finset.sum_congr rfl fun k _ => Finset.sum_congr rfl fun e _ => (mul_assoc _ _ _).symm

theorem score_real (q k : Fin 4096) : score (lift .bf16 a0) (lift .bf16 a1) h q k = (rScore a0 a1 h q k : ℝ) := by
  unfold score rScore
  rw [coe_sum_real]
  simp only [EReal.coe_mul]
theorem dprob_real (q k : Fin 4096) : dprob (lift .bf16 a2) (lift .f32 a3) h q k = (rDprob a2 a3 h q k : ℝ) := by
  unfold dprob rDprob
  rw [coe_sum_real]
  simp only [EReal.coe_mul]
theorem top_real (q : Fin 4096) : ∃ M : ℝ, top (lift .bf16 a0) (lift .bf16 a1) h q = M := by
  obtain ⟨r, hr⟩ := fold_max_real fun k => rScore a0 a1 h q k
  refine ⟨r, ?_⟩
  unfold top
  simp only [score_real]
  rw [hr]
  exact max_eq_right bot_le

variable {a0 a1 a2 a3 h} {q : Fin 4096} {M : ℝ} (hM : top (lift .bf16 a0) (lift .bf16 a1) h q = M)
include hM

theorem expo_real (k : Fin 4096) : expo (lift .bf16 a0) (lift .bf16 a1) h q k = (Real.exp (rScore a0 a1 h q k - M) : ℝ) := by
  unfold expo
  rw [hM, score_real, ← EReal.coe_sub, Ideal.exp_coe]
theorem mass_real : mass (lift .bf16 a0) (lift .bf16 a1) h q = (total (rScore a0 a1 h q) M : ℝ) := by
  unfold mass total
  simp only [expo_real hM]
  rw [coe_sum_real]
theorem quot_real (k : Fin 4096) : Ideal.div (expo (lift .bf16 a0) (lift .bf16 a1) h q k) (mass (lift .bf16 a0) (lift .bf16 a1) h q)
    = (Real.exp (rScore a0 a1 h q k - M) / total (rScore a0 a1 h q) M : ℝ) := by
  rw [expo_real hM, mass_real hM, Ideal.div_coe (total_pos _ _).ne', ← EReal.coe_mul, mul_one_div]

/-- The kernel's probability: the reference's quotient. -/
theorem prob_eq (k : Fin 4096) {l : EReal} {T : ℝ}
    (hT : (Finset.univ.fold max ⊥ fun k => score (lift .bf16 a0) (lift .bf16 a1) h q k) = T)
    (hl : l = T + Ideal.log (∑ k : Fin 4096, Ideal.exp (score (lift .bf16 a0) (lift .bf16 a1) h q k - T))) :
    Ideal.exp (score (lift .bf16 a0) (lift .bf16 a1) h q k - l)
      = Ideal.div (expo (lift .bf16 a0) (lift .bf16 a1) h q k) (mass (lift .bf16 a0) (lift .bf16 a1) h q) := by
  have hs : (∑ k : Fin 4096, Ideal.exp (score (lift .bf16 a0) (lift .bf16 a1) h q k - T)) = (total (rScore a0 a1 h q) T : ℝ) := by
    unfold total
    rw [coe_sum_real]
    refine Finset.sum_congr rfl fun k _ => ?_
    rw [score_real, ← EReal.coe_sub, Ideal.exp_coe]
  rw [quot_real hM, hl, hs, Ideal.log_coe, if_neg (not_le.mpr (total_pos _ _)), score_real, ← EReal.coe_add, ← EReal.coe_sub, Ideal.exp_coe,
    prob_shift (rScore a0 a1 h q) M T k]

/-- The kernel's gradient of the score: the reference's. -/
theorem dscore_eq (k : Fin 4096) :
    Ideal.div (expo (lift .bf16 a0) (lift .bf16 a1) h q k) (mass (lift .bf16 a0) (lift .bf16 a1) h q)
      * (dprob (lift .bf16 a2) (lift .f32 a3) h q k - ∑ e : Fin 128, (lift .f32 a3 : S4096x512.Idx → EReal) (ix2 q (colV h e))
          * ∑ k' : Fin 4096, (lift .bf16 a2 : S4096x512.Idx → EReal) (ix2 k' (colV h e)) * Ideal.div (expo (lift .bf16 a0) (lift .bf16 a1) h q k') (mass (lift .bf16 a0) (lift .bf16 a1) h q))
      = dref (lift .bf16 a0) (lift .bf16 a1) (lift .bf16 a2) (lift .f32 a3) h q k := by
  have hL := (total_pos (rScore a0 a1 h q) M).ne'
  unfold dref
  simp only [quot_real hM]
  simp only [dprob_real, expo_real hM, mass_real hM, lift, ← EReal.coe_mul, ← coe_sum_real]
  rw [Ideal.div_coe hL, ← EReal.coe_one]
  simp only [Ideal.div_coe (mul_ne_zero hL hL), ← EReal.coe_mul, ← EReal.coe_sub, ← coe_sum_real, ← EReal.coe_neg, ← EReal.coe_add]
  rw [delta_sum, dscore_shift (rScore a0 a1 h q) (rDprob a2 a3 h q) M k]

end Cert.KernelIdeal.Attn

end
-- ==== Proof.Attn.Final.lean ====
/-
  The kernel's three results are the reference's, over finite arguments.
-/
module

public import proofs.«01_k».proof.Proof.Attn.Equation
public import proofs.«01_k».proof.Defs

@[expose] public section

set_option maxRecDepth 16384

noncomputable section

namespace Cert.KernelIdeal.Attn

open Idealize.ShloMosaic Idealize.ShloMosaic.TcCoe
open Idealize.SL Idealize.SL.Sem
open Cert.KernelIdeal Cert.KernelIdeal.Gen
open Cert.ReferenceIdeal.Attn (score top expo mass dprob dref)

/-! ## Finiteness -/

/-- An extended real whose absolute value is below infinity is a real. -/
theorem real_of_abs (x : EReal) (h : Ideal.cmp .olt (max x (-x)) (Ideal.ofBits .f32 0x7F800000#32) = 1) : ∃ r : ℝ, x = r := by
  rw [show Ideal.ofBits .f32 0x7F800000#32 = ⊤ by simp [Ideal.ofBits, Ideal.ieee], Ideal.cmp_olt_eq_one] at h
  induction x using EReal.rec with
  | bot => simp at h
  | top => simp at h
  | coe r => exact ⟨r, rfl⟩

theorem lift_of_real {s : Shape} (φ : FTy) (x : FVec Ideal s φ) (h : ∀ i, ∃ r : ℝ, x i = ((r : ℝ) : EReal)) : ∃ a : s.Idx → ℝ, x = lift φ a :=
  ⟨fun i => (h i).choose, funext fun i => (h i).choose_spec⟩

variable [Cert.Pre_finite.Facts]
variable (m : (ℓ : Loc nD τ sig) → Buf (Elt Ideal) ℓ) (hm : Cert.Pre_KernelIdeal_finite m) (c : Dev nD)

include hm in
theorem args_real : ∃ a0 a1 a2 a3, m (c.tc.loc main_arg0) = lift (s := S4096x1024) .bf16 a0 ∧ m (c.tc.loc main_arg1) = lift (s := S4096x1024) .bf16 a1
    ∧ m (c.tc.loc main_arg2) = lift (s := S4096x512) .bf16 a2 ∧ m (c.tc.loc main_arg3) = lift (s := S4096x512) .f32 a3 := by
  obtain ⟨h0, h1, h2, h3⟩ := hm c
  obtain ⟨a0, e0⟩ := lift_of_real (s := S4096x1024) .bf16 (m (c.tc.loc main_arg0)) fun i => real_of_abs _ (congrFun h0 i)
  obtain ⟨a1, e1⟩ := lift_of_real (s := S4096x1024) .bf16 (m (c.tc.loc main_arg1)) fun i => real_of_abs _ (congrFun h1 i)
  obtain ⟨a2, e2⟩ := lift_of_real (s := S4096x512) .bf16 (m (c.tc.loc main_arg2)) fun i => real_of_abs _ (congrFun h2 i)
  obtain ⟨a3, e3⟩ := lift_of_real (s := S4096x512) .f32 (m (c.tc.loc main_arg3)) fun i => real_of_abs _ (congrFun h3 i)
  exact ⟨a0, a1, a2, a3, e0, e1, e2, e3⟩

/-! ## The region's tensors -/

theorem aL_eq (h : Fin 4) (q : Fin 4096) :
    aL m c q (colV h 0) = (Finset.univ.fold max ⊥ fun k => score (m (c.tc.loc main_arg0)) (m (c.tc.loc main_arg1)) h q k)
      + Ideal.log (∑ k : Fin 4096, Ideal.exp (score (m (c.tc.loc main_arg0)) (m (c.tc.loc main_arg1)) h q k
          - (Finset.univ.fold max ⊥ fun k => score (m (c.tc.loc main_arg0)) (m (c.tc.loc main_arg1)) h q k))) := by
  have hs : ∀ k, hScore (m (c.tc.loc main_arg0)) (m (c.tc.loc main_arg1)) (ix3 q h k) = score (m (c.tc.loc main_arg0)) (m (c.tc.loc main_arg1)) h q k := fun k => by
    rw [hScore_apply]
    exact Finset.sum_congr rfl fun d _ => mul_comm _ _
  unfold aL
  rw [V_lse, hSpread_apply, hLse_apply, hTop_apply]
  simp only [hs]

theorem aO_eq (h : Fin 4) (q : Fin 4096) (e : Fin 128) :
    aO m c q (colV h e) = ∑ k : Fin 4096, (show EReal from m (c.tc.loc main_arg2) (ix2 k (colV h e)))
      * Ideal.div (expo (m (c.tc.loc main_arg0)) (m (c.tc.loc main_arg1)) h q k) (mass (m (c.tc.loc main_arg0)) (m (c.tc.loc main_arg1)) h q) := by
  unfold aO
  rw [V_out]
  exact Cert.ReferenceIdeal.Attn.v37_apply _ _ _ _ _ _

include hm in
theorem Prob_eq (h : Fin 4) (q k : Fin 4096) :
    Prob m c h q k = Ideal.div (expo (m (c.tc.loc main_arg0)) (m (c.tc.loc main_arg1)) h q k) (mass (m (c.tc.loc main_arg0)) (m (c.tc.loc main_arg1)) h q) := by
  have hl := aL_eq m c h q
  unfold Prob aQ aK
  rw [V_main_arg0, V_main_arg1]
  obtain ⟨a0, a1, a2, a3, e0, e1, -, -⟩ := args_real m hm c
  rw [e0, e1] at hl ⊢
  obtain ⟨T, hT⟩ := fold_max_real fun k => rScore a0 a1 h q k
  obtain ⟨M, hM⟩ := top_real a0 a1 h q
  have hT' : (Finset.univ.fold max ⊥ fun k => score (lift .bf16 a0) (lift .bf16 a1) h q k) = T := by
    simp only [score_real]; exact hT
  rw [hT'] at hl
  exact prob_eq hM k hT' hl

include hm in
theorem Dscore_eq (h : Fin 4) (q k : Fin 4096) :
    Dscore m c h q k = dref (m (c.tc.loc main_arg0)) (m (c.tc.loc main_arg1)) (m (c.tc.loc main_arg2)) (m (c.tc.loc main_arg3)) h q k := by
  unfold Dscore
  rw [Prob_eq m hm]
  simp only [aO_eq]
  unfold aD aV
  rw [V_main_arg2, V_main_arg3]
  obtain ⟨a0, a1, a2, a3, e0, e1, e2, e3⟩ := args_real m hm c
  rw [e0, e1, e2, e3]
  obtain ⟨M, hM⟩ := top_real a0 a1 h q
  exact dscore_eq hM k

/-! ## The results -/

theorem col_split {n : ℕ} (b H : ℕ) (hn : n = H * b) (hb : 0 < b) (x : Fin n) : x.val / b < H := by
  rw [Nat.div_lt_iff_lt_mul hb, ← hn]; exact x.isLt

theorem ext_Q {f g : Vec Ideal S4096x1024 .f32} (hfg : ∀ (q : Fin 4096) (h : Fin 4) (d : Fin 256), f (ix2 q (colQ h d)) = g (ix2 q (colQ h d))) : f = g := by
  funext i
  idx_vars i
  have := hfg i0 ⟨i1.val / 256, by omega⟩ ⟨i1.val % 256, by omega⟩
  rwa [show colQ ⟨i1.val / 256, by omega⟩ ⟨i1.val % 256, by omega⟩ = i1 from Fin.ext (Nat.div_add_mod _ _)] at this
theorem ext_V {f g : Vec Ideal S4096x512 .f32} (hfg : ∀ (q : Fin 4096) (h : Fin 4) (d : Fin 128), f (ix2 q (colV h d)) = g (ix2 q (colV h d))) : f = g := by
  funext i
  idx_vars i
  have := hfg i0 ⟨i1.val / 128, by omega⟩ ⟨i1.val % 128, by omega⟩
  rwa [show colV ⟨i1.val / 128, by omega⟩ ⟨i1.val % 128, by omega⟩ = i1 from Fin.ext (Nat.div_add_mod _ _)] at this

open Cert.ReferenceIdeal.Read Cert.ReferenceIdeal.Attn

include hm in
theorem resQ_eq : resQ m c = val_main_v61 (F := Ideal) (m (c.tc.loc main_arg0)) (m (c.tc.loc main_arg1)) (m (c.tc.loc main_arg2)) (m (c.tc.loc main_arg3)) :=
  ext_Q fun q h d => by
    rw [resQ_apply, v61_apply]
    unfold gradQ aK
    simp only [Dscore_eq m hm, V_main_arg1]; rfl
include hm in
theorem resK_eq : resK m c = val_main_v60 (F := Ideal) (m (c.tc.loc main_arg0)) (m (c.tc.loc main_arg1)) (m (c.tc.loc main_arg2)) (m (c.tc.loc main_arg3)) :=
  ext_Q fun q h d => by
    rw [resK_apply, v60_apply]
    unfold gradK aQ
    simp only [Dscore_eq m hm, V_main_arg0]; rfl
include hm in
theorem resV_eq : resV m c = val_main_v59 (F := Ideal) (m (c.tc.loc main_arg0)) (m (c.tc.loc main_arg1)) (m (c.tc.loc main_arg3)) :=
  ext_V fun q h d => by
    rw [resV_apply, v59_apply]
    unfold gradV aD
    simp only [Prob_eq m hm, V_main_arg3]
    exact Finset.sum_congr rfl fun k _ => mul_comm _ _

end Cert.KernelIdeal.Attn

end
-- ==== Proof.Proj.InDh.lean ====
/-
  The input projection's gradient to its input: each tile is a product over all the projection's columns.
-/
module

public import proofs.«01_k».proof.Proof.Gen.InDhIdeal.Value
public import proofs.«01_k».proof.Proof.Gen.InDhReferenceIdeal.Read
public import Idealize.ShloMosaic.Lib.Pointwise
public import Idealize.ShloMosaic.Lib.Pipeline.ValueKit.Geometry

@[expose] public section

set_option maxRecDepth 16384

noncomputable section

namespace Cert.InDhIdeal.Proj

open Idealize.ShloMosaic Idealize.ShloMosaic.TcCoe
open Cert.InDhIdeal Cert.InDhIdeal.Gen Cert.InDhReferenceIdeal.Read

theorem tile_apply (x0 : Vec Ideal S512x6144 .bf16) (x1 : Vec Ideal S6144x512 .bf16) (i : Fin 512) (j : Fin 512) :
    out0_2 x0 x1 (ix2 i j) = ∑ k : Fin 6144, x0 (ix2 i k) * x1 (ix2 k j) := by
  unfold out0_2
  rw [View.canon_cons_unit_lit _ _ _ (by decide), View.ld_unit_lit _ _ (by decide), View.ld_unit_lit _ _ (by decide)]
  pointwise [k0_pay1]

theorem index_eq (t : Fin cfg0.N) : win0_0.index t = ![t.val % 8, 0] ∧ win0_1.index t = ![0, t.val / 8] ∧ win0_2.index t = ![t.val % 8, t.val / 8] := by
  revert t; decide +kernel

variable (m : (ℓ : Loc nD τ sig) → Buf (Elt Ideal) ℓ) (c : Dev nD)

/-- The result as the reference computes it of the arguments. -/
def res : Vec Ideal S4096x2048 .f32 :=
  val_main_v5 (F := Ideal) (m ((c.tc : Thread nD τ).loc main_arg0)) (m ((c.tc : Thread nD τ).loc main_arg1))

theorem res_apply (i : Fin 4096) (j : Fin 2048) : res m c (ix2 i j) =
    ∑ k : Fin 6144, (show EReal from V m c main_arg0 (ix2 i k)) * (show EReal from V m c main_arg1 (ix2 k j)) := by
  unfold res
  pointwise [val_main_v5, val_main_v4, val_main_v2, val_main_v1]

theorem block_apply (t : Fin cfg0.N) (ht : t.val < 32) (i : Fin 512) (j : Fin 512) : out0_2 (iblk m c 0 t) (iblk m c 1 t) (ix2 i j)
    = res m c (ix2 ⟨512 * (t.val % 8) + i.val, by omega⟩ ⟨512 * (t.val / 8) + j.val, by omega⟩) := by
  obtain ⟨e0, e1, -⟩ := index_eq t
  rw [tile_apply, res_apply]
  refine Finset.sum_congr rfl fun k _ => ?_
  congr 1 <;> blk_ext [iblk, V, e0, e1]

theorem value : (dats m 0 c).arrAt 2 cfg0.N = res m c := by
  refine (dats m 0 c).arrAt_eq_of_covers 2 (res m c) (by decide +kernel) fun t hf y => ?_
  obtain ⟨-, -, e2⟩ := index_eq t
  rw [after0_2]
  idx_vars y
  blk_simp
  refine (block_apply m c t t.isLt y0 y1).trans ?_
  blk_ext [e2]

end Cert.InDhIdeal.Proj

end
-- ==== Proof.Proj.InDw.lean ====
/-
  The input projection's gradient to its weights: each tile is a product over all the tokens.
-/
module

public import proofs.«01_k».proof.Proof.Gen.InDwIdeal.Value
public import proofs.«01_k».proof.Proof.Gen.InDwReferenceIdeal.Read
public import Idealize.ShloMosaic.Lib.Pointwise
public import Idealize.ShloMosaic.Lib.Pipeline.ValueKit.Geometry

@[expose] public section

set_option maxRecDepth 16384

noncomputable section

namespace Cert.InDwIdeal.Proj

open Idealize.ShloMosaic Idealize.ShloMosaic.TcCoe
open Cert.InDwIdeal Cert.InDwIdeal.Gen Cert.InDwReferenceIdeal.Read

theorem tile_apply (x0 : Vec Ideal S4096x512 .bf16) (x1 : Vec Ideal S4096x1024 .bf16) (i : Fin 512) (j : Fin 1024) :
    out0_2 x0 x1 (ix2 i j) = ∑ k : Fin 4096, x0 (ix2 k i) * x1 (ix2 k j) := by
  unfold out0_2
  rw [View.canon_cons_unit_lit _ _ _ (by decide), View.ld_unit_lit _ _ (by decide), View.ld_unit_lit _ _ (by decide)]
  pointwise [k0_pay1]

theorem index_eq (t : Fin cfg0.N) : win0_0.index t = ![0, t.val % 12] ∧ win0_1.index t = ![0, t.val / 12] ∧ win0_2.index t = ![t.val % 12, t.val / 12] := by
  revert t; decide +kernel

variable (m : (ℓ : Loc nD τ sig) → Buf (Elt Ideal) ℓ) (c : Dev nD)

/-- The result as the reference computes it of the arguments. -/
def res : Vec Ideal S6144x2048 .f32 :=
  val_main_v7 (F := Ideal) (m ((c.tc : Thread nD τ).loc main_arg0)) (m ((c.tc : Thread nD τ).loc main_arg1))

theorem res_apply (i : Fin 6144) (j : Fin 2048) : res m c (ix2 i j) =
    ∑ k : Fin 4096, (show EReal from V m c main_arg0 (ix2 k i)) * (show EReal from V m c main_arg1 (ix2 k j)) := by
  unfold res
  pointwise [val_main_v7, val_main_v6, val_main_v5, val_main_v4, val_main_v1]

theorem block_apply (t : Fin cfg0.N) (ht : t.val < 24) (i : Fin 512) (j : Fin 1024) : out0_2 (iblk m c 0 t) (iblk m c 1 t) (ix2 i j)
    = res m c (ix2 ⟨512 * (t.val % 12) + i.val, by omega⟩ ⟨1024 * (t.val / 12) + j.val, by omega⟩) := by
  obtain ⟨e0, e1, -⟩ := index_eq t
  rw [tile_apply, res_apply]
  refine Finset.sum_congr rfl fun k _ => ?_
  congr 1 <;> blk_ext [iblk, V, e0, e1]

theorem value : (dats m 0 c).arrAt 2 cfg0.N = res m c := by
  refine (dats m 0 c).arrAt_eq_of_covers 2 (res m c) (by decide +kernel) fun t hf y => ?_
  obtain ⟨-, -, e2⟩ := index_eq t
  rw [after0_2]
  idx_vars y
  blk_simp
  refine (block_apply m c t t.isLt y0 y1).trans ?_
  blk_ext [e2]

end Cert.InDwIdeal.Proj

end
-- ==== Proof.Proj.OutDy.lean ====
/-
  The output projection's gradient to its input: each tile is a product over all the features.
-/
module

public import proofs.«01_k».proof.Proof.Gen.OutDyIdeal.Value
public import proofs.«01_k».proof.Proof.Gen.OutDyReferenceIdeal.Read
public import Idealize.ShloMosaic.Lib.Pointwise
public import Idealize.ShloMosaic.Lib.Pipeline.ValueKit.Geometry

@[expose] public section

set_option maxRecDepth 16384

noncomputable section

namespace Cert.OutDyIdeal.Proj

open Idealize.ShloMosaic Idealize.ShloMosaic.TcCoe
open Cert.OutDyIdeal Cert.OutDyIdeal.Gen Cert.OutDyReferenceIdeal.Read

theorem tile_apply (x0 : Vec Ideal S512x2048 .f32) (x1 : Vec Ideal S1024x2048 .bf16) (i : Fin 512) (j : Fin 1024) :
    out0_2 x0 x1 (ix2 i j) = ∑ k : Fin 2048, x0 (ix2 i k) * x1 (ix2 j k) := by
  unfold out0_2
  rw [View.canon_cons_unit_lit _ _ _ (by decide), View.ld_unit_lit _ _ (by decide), View.ld_unit_lit _ _ (by decide)]
  pointwise [k0_pay1]

theorem index_eq (t : Fin cfg0.N) : win0_0.index t = ![t.val % 8, 0] ∧ win0_1.index t = ![t.val / 8, 0] ∧ win0_2.index t = ![t.val % 8, t.val / 8] := by
  revert t; decide +kernel

variable (m : (ℓ : Loc nD τ sig) → Buf (Elt Ideal) ℓ) (c : Dev nD)

/-- The result as the reference computes it of the arguments. -/
def res : Vec Ideal S4096x2048 .f32 :=
  val_main_v5 (F := Ideal) (m ((c.tc : Thread nD τ).loc main_arg0)) (m ((c.tc : Thread nD τ).loc main_arg1))

theorem res_apply (i : Fin 4096) (j : Fin 2048) : res m c (ix2 i j) =
    ∑ k : Fin 2048, (show EReal from V m c main_arg0 (ix2 i k)) * (show EReal from V m c main_arg1 (ix2 j k)) := by
  unfold res
  pointwise [val_main_v5, val_main_v2]

theorem block_apply (t : Fin cfg0.N) (ht : t.val < 16) (i : Fin 512) (j : Fin 1024) : out0_2 (iblk m c 0 t) (iblk m c 1 t) (ix2 i j)
    = res m c (ix2 ⟨512 * (t.val % 8) + i.val, by omega⟩ ⟨1024 * (t.val / 8) + j.val, by omega⟩) := by
  obtain ⟨e0, e1, -⟩ := index_eq t
  rw [tile_apply, res_apply]
  refine Finset.sum_congr rfl fun k _ => ?_
  congr 1 <;> blk_ext [iblk, V, e0, e1]

theorem value : (dats m 0 c).arrAt 2 cfg0.N = res m c := by
  refine (dats m 0 c).arrAt_eq_of_covers 2 (res m c) (by decide +kernel) fun t hf y => ?_
  obtain ⟨-, -, e2⟩ := index_eq t
  rw [after0_2]
  idx_vars y
  blk_simp
  refine (block_apply m c t t.isLt y0 y1).trans ?_
  blk_ext [e2]

end Cert.OutDyIdeal.Proj

end
-- ==== Proof.Proj.OutDw.lean ====
/-
  The output projection's gradient to its weights: each tile is a product over all the tokens.
-/
module

public import proofs.«01_k».proof.Proof.Gen.OutDwIdeal.Value
public import proofs.«01_k».proof.Proof.Gen.OutDwReferenceIdeal.Read
public import Idealize.ShloMosaic.Lib.Pointwise
public import Idealize.ShloMosaic.Lib.Pipeline.ValueKit.Geometry

@[expose] public section

set_option maxRecDepth 16384

noncomputable section

namespace Cert.OutDwIdeal.Proj

open Idealize.ShloMosaic Idealize.ShloMosaic.TcCoe
open Cert.OutDwIdeal Cert.OutDwIdeal.Gen Cert.OutDwReferenceIdeal.Read

theorem tile_apply (x0 : Vec Ideal S4096x512 .bf16) (x1 : Vec Ideal S4096x512 .f32) (i : Fin 512) (j : Fin 512) :
    out0_2 x0 x1 (ix2 i j) = ∑ k : Fin 4096, x0 (ix2 k i) * x1 (ix2 k j) := by
  unfold out0_2
  rw [View.canon_cons_unit_lit _ _ _ (by decide), View.ld_unit_lit _ _ (by decide), View.ld_unit_lit _ _ (by decide)]
  pointwise [k0_pay1]

theorem index_eq (t : Fin cfg0.N) : win0_0.index t = ![0, t.val % 4] ∧ win0_1.index t = ![0, t.val / 4] ∧ win0_2.index t = ![t.val % 4, t.val / 4] := by
  revert t; decide +kernel

variable (m : (ℓ : Loc nD τ sig) → Buf (Elt Ideal) ℓ) (c : Dev nD)

/-- The result as the reference computes it of the arguments. -/
def res : Vec Ideal S2048x2048 .f32 :=
  val_main_v6 (F := Ideal) (m ((c.tc : Thread nD τ).loc main_arg0)) (m ((c.tc : Thread nD τ).loc main_arg1))

theorem res_apply (i : Fin 2048) (j : Fin 2048) : res m c (ix2 i j) =
    ∑ k : Fin 4096, (show EReal from V m c main_arg0 (ix2 k i)) * (show EReal from V m c main_arg1 (ix2 k j)) := by
  unfold res
  pointwise [val_main_v6, val_main_v5, val_main_v2]
  exact Finset.sum_congr rfl fun k _ => mul_comm _ _

theorem block_apply (t : Fin cfg0.N) (ht : t.val < 16) (i : Fin 512) (j : Fin 512) : out0_2 (iblk m c 0 t) (iblk m c 1 t) (ix2 i j)
    = res m c (ix2 ⟨512 * (t.val % 4) + i.val, by omega⟩ ⟨512 * (t.val / 4) + j.val, by omega⟩) := by
  obtain ⟨e0, e1, -⟩ := index_eq t
  rw [tile_apply, res_apply]
  refine Finset.sum_congr rfl fun k _ => ?_
  congr 1 <;> blk_ext [iblk, V, e0, e1]

theorem value : (dats m 0 c).arrAt 2 cfg0.N = res m c := by
  refine (dats m 0 c).arrAt_eq_of_covers 2 (res m c) (by decide +kernel) fun t hf y => ?_
  obtain ⟨-, -, e2⟩ := index_eq t
  rw [after0_2]
  idx_vars y
  blk_simp
  refine (block_apply m c t t.isLt y0 y1).trans ?_
  blk_ext [e2]

end Cert.OutDwIdeal.Proj

end
-- ==== Proof.Proj.InFwd.lean ====
/-
  The input projection: each tile is a product over all the features.
-/
module

public import proofs.«01_k».proof.Proof.Gen.InFwdIdeal.Value
public import proofs.«01_k».proof.Proof.Gen.InFwdReferenceIdeal.Read
public import Idealize.ShloMosaic.Lib.Pointwise
public import Idealize.ShloMosaic.Lib.Pipeline.ValueKit.Geometry

@[expose] public section

set_option maxRecDepth 16384

noncomputable section

namespace Cert.InFwdIdeal.Proj

open Idealize.ShloMosaic Idealize.ShloMosaic.TcCoe
open Cert.InFwdIdeal Cert.InFwdIdeal.Gen Cert.InFwdReferenceIdeal.Read

theorem tile_apply (x0 : Vec Ideal S512x2048 .bf16) (x1 : Vec Ideal S1024x2048 .bf16) (i : Fin 512) (j : Fin 1024) :
    out0_2 x0 x1 (ix2 i j) = ∑ k : Fin 2048, x0 (ix2 i k) * x1 (ix2 j k) := by
  unfold out0_2
  rw [View.canon_cons_unit_lit _ _ _ (by decide), View.ld_unit_lit _ _ (by decide), View.ld_unit_lit _ _ (by decide)]
  pointwise [k0_pay1]

theorem index_eq (t : Fin cfg0.N) : win0_0.index t = ![t.val % 8, 0] ∧ win0_1.index t = ![t.val / 8, 0] ∧ win0_2.index t = ![t.val % 8, t.val / 8] := by
  revert t; decide +kernel

variable (m : (ℓ : Loc nD τ sig) → Buf (Elt Ideal) ℓ) (c : Dev nD)

/-- The result as the reference computes it of the arguments. -/
def res : Vec Ideal S4096x6144 .f32 :=
  val_main_v3 (F := Ideal) (m ((c.tc : Thread nD τ).loc main_arg0)) (m ((c.tc : Thread nD τ).loc main_arg1))

theorem res_apply (i : Fin 4096) (j : Fin 6144) : res m c (ix2 i j) =
    ∑ k : Fin 2048, (show EReal from V m c main_arg0 (ix2 i k)) * (show EReal from V m c main_arg1 (ix2 j k)) := by
  unfold res
  pointwise [val_main_v3, val_main_v2, val_main_v1, val_main_v0]

theorem block_apply (t : Fin cfg0.N) (ht : t.val < 48) (i : Fin 512) (j : Fin 1024) : out0_2 (iblk m c 0 t) (iblk m c 1 t) (ix2 i j)
    = res m c (ix2 ⟨512 * (t.val % 8) + i.val, by omega⟩ ⟨1024 * (t.val / 8) + j.val, by omega⟩) := by
  obtain ⟨e0, e1, -⟩ := index_eq t
  rw [tile_apply, res_apply]
  refine Finset.sum_congr rfl fun k _ => ?_
  congr 1 <;> blk_ext [iblk, V, e0, e1]

theorem value : (dats m 0 c).arrAt 2 cfg0.N = res m c := by
  refine (dats m 0 c).arrAt_eq_of_covers 2 (res m c) (by decide +kernel) fun t hf y => ?_
  obtain ⟨-, -, e2⟩ := index_eq t
  rw [after0_2]
  idx_vars y
  blk_simp
  refine (block_apply m c t t.isLt y0 y1).trans ?_
  blk_ext [e2]

end Cert.InFwdIdeal.Proj

end
-- ==== Proof.Proj.OutFwd.lean ====
/-
  The output projection into the residual stream: each tile is a product over all the mixed columns, and the residual's tile.
-/
module

public import proofs.«01_k».proof.Proof.Gen.OutFwdIdeal.Value
public import proofs.«01_k».proof.Proof.Gen.OutFwdReferenceIdeal.Read
public import Idealize.ShloMosaic.Lib.Pointwise
public import Idealize.ShloMosaic.Lib.Pipeline.ValueKit.Geometry

@[expose] public section

set_option maxRecDepth 16384

noncomputable section

namespace Cert.OutFwdIdeal.Proj

open Idealize.ShloMosaic Idealize.ShloMosaic.TcCoe
open Cert.OutFwdIdeal Cert.OutFwdIdeal.Gen Cert.OutFwdReferenceIdeal.Read

theorem tile_apply (x0 : Vec Ideal S512x2048 .bf16) (x1 : Vec Ideal S2048x1024 .bf16) (x2 : Vec Ideal S512x1024 .f32) (i : Fin 512) (j : Fin 1024) :
    out0_3 x0 x1 x2 (ix2 i j) = (∑ k : Fin 2048, x0 (ix2 i k) * x1 (ix2 k j)) + x2 (ix2 i j) := by
  unfold out0_3
  rw [View.canon_cons_unit_lit _ _ _ (by decide), View.ld_unit_lit _ _ (by decide), View.ld_unit_lit _ _ (by decide), View.ld_unit_lit _ _ (by decide)]
  pointwise [k0_pay1]

theorem index_eq (t : Fin cfg0.N) : win0_0.index t = ![t.val % 8, 0] ∧ win0_1.index t = ![0, t.val / 8] ∧ win0_2.index t = ![t.val % 8, t.val / 8] ∧ win0_3.index t = ![t.val % 8, t.val / 8] := by
  revert t; decide +kernel

variable (m : (ℓ : Loc nD τ sig) → Buf (Elt Ideal) ℓ) (c : Dev nD)

/-- The result as the reference computes it of the arguments. -/
def res : Vec Ideal S4096x2048 .f32 :=
  val_main_v3 (F := Ideal) (m ((c.tc : Thread nD τ).loc main_arg0)) (m ((c.tc : Thread nD τ).loc main_arg1)) (m ((c.tc : Thread nD τ).loc main_arg2))

theorem res_apply (i : Fin 4096) (j : Fin 2048) : res m c (ix2 i j) =
    (∑ k : Fin 2048, (show EReal from V m c main_arg1 (ix2 i k)) * (show EReal from V m c main_arg2 (ix2 k j))) + (show EReal from V m c main_arg0 (ix2 i j)) := by
  unfold res
  pointwise [val_main_v3, val_main_v2, val_main_v1, val_main_v0]
  exact add_comm _ _

theorem block_apply (t : Fin cfg0.N) (ht : t.val < 16) (i : Fin 512) (j : Fin 1024) : out0_3 (iblk m c 0 t) (iblk m c 1 t) (iblk m c 2 t) (ix2 i j)
    = res m c (ix2 ⟨512 * (t.val % 8) + i.val, by omega⟩ ⟨1024 * (t.val / 8) + j.val, by omega⟩) := by
  obtain ⟨e0, e1, e2, -⟩ := index_eq t
  rw [tile_apply, res_apply]
  refine congrArg₂ (· + ·) (Finset.sum_congr rfl fun k _ => ?_) ?_
  · congr 1 <;> blk_ext [iblk, V, e0, e1]
  · blk_ext [iblk, V, e2]

theorem value : (dats m 0 c).arrAt 3 cfg0.N = res m c := by
  refine (dats m 0 c).arrAt_eq_of_covers 3 (res m c) (by decide +kernel) fun t hf y => ?_
  obtain ⟨-, -, -, e3⟩ := index_eq t
  rw [after0_3]
  idx_vars y
  blk_simp
  refine (block_apply m c t t.isLt y0 y1).trans ?_
  blk_ext [e3]

end Cert.OutFwdIdeal.Proj

end
-- ==== Proof.Proj.Adam.lean ====
/-
  The optimiser's update of one entry, as the kernel's programs and the reference both compute it.
-/
module

public import Idealize.ShloMosaic.Lib.Pointwise
public import Idealize.ShloMosaic.Lib.Pipeline.Value
public import Idealize.ShloMosaic.Lib.Pipeline.ValueKit.Geometry

@[expose] public section

noncomputable section

namespace Cert.Adam

open Idealize.ShloMosaic

/-- The constant a word stands for. -/
def lit (w : BitVec 32) : EReal := Ideal.ofBits .f32 w

/-- The first moment after gradient `g`, from `m`. -/
def newM (g m : EReal) : EReal := lit 0x3F666666#32 * m + lit 0x3DCCCCCD#32 * g

/-- The second moment after gradient `g`, from `v`. -/
def newV (g v : EReal) : EReal := lit 0x3F7FBE77#32 * v + lit 0x3A83126F#32 * (g * g)

/-- The step of a weight `w` along gradient `g` with moments `m` and `v`. -/
def delta (w g m v : EReal) : EReal :=
  lit 0xBA83126F#32 * (Ideal.div (Ideal.div (newM g m) (lit 0x3F26BD02#32))
    (Ideal.sqrt (Ideal.div (newV g v) (lit 0x3C231ACC#32)) + lit 0x322BCC77#32) + lit 0x3C23D70A#32 * w)

variable {s t : Shape}

/-- A function of two vectors' entries, of the vectors laid out anew and laid out back. -/
theorem back2 (f : EReal → EReal → EReal) (a b : s.Idx → EReal) (h : s.ShapeCasts t) (h' : t.ShapeCasts s) :
    shapeCast s (fun y => f (shapeCast t a h y) (shapeCast t b h y)) h' = fun i => f (a i) (b i) :=
  (shapeCast_shapeCast (fun i => f (a i) (b i)) h h' :)

/-- A function of four vectors' entries, of the vectors laid out anew and laid out back. -/
theorem back4 (f : EReal → EReal → EReal → EReal → EReal) (a b d e : s.Idx → EReal) (h : s.ShapeCasts t) (h' : t.ShapeCasts s) :
    shapeCast s (fun y => f (shapeCast t a h y) (shapeCast t b h y) (shapeCast t d h y) (shapeCast t e h y)) h'
      = fun i => f (a i) (b i) (d i) (e i) :=
  (shapeCast_shapeCast (fun i => f (a i) (b i) (d i) (e i)) h h' :)

end Cert.Adam

end
-- ==== Proof.Proj.OutLoss.lean ====
/-
  The last layer's output projection with the loss: each tile of the prediction's error gives its entries of the gradient and adds
  its squares to the loss, so that the loss ends as one sum over all entries.
-/
module

public import proofs.«01_k».proof.Proof.Proj.Adam
public import proofs.«01_k».proof.Proof.Gen.OutLossIdeal.Value
public import proofs.«01_k».proof.Proof.Gen.OutLossReferenceIdeal.Read
public import Idealize.ShloMosaic.Lib.Pipeline.ValueKit.Acc

@[expose] public section

set_option maxRecDepth 16384

noncomputable section

namespace Cert.OutLossIdeal.Proj

open Idealize.ShloMosaic Idealize.ShloMosaic.TcCoe Cert.Adam
open Cert.OutLossIdeal Cert.OutLossIdeal.Gen Cert.OutLossReferenceIdeal.Read

/-! ## A tile -/

section Tile

variable (x0 : Vec Ideal S512x2048 .bf16) (x1 : Vec Ideal S2048x1024 .bf16) (x2 x3 : Vec Ideal S512x1024 .f32)

/-- The error of a tile's entry. -/
def err (i : Fin 512) (j : Fin 1024) : EReal := (∑ k : Fin 2048, x0 (ix2 i k) * x1 (ix2 k j)) + x2 (ix2 i j) - x3 (ix2 i j)

theorem pay1_apply (i : Fin 512) (j : Fin 1024) : k0_pay1 x0 x1 x2 x3 (ix2 i j) = err x0 x1 x2 x3 i j := by
  unfold err
  pointwise [k0_pay1]

theorem pay2_apply (i : Fin 512) (j : Fin 1024) : k0_pay2 x0 x1 x2 x3 (ix2 i j) = err x0 x1 x2 x3 i j * lit 0x3A000000#32 :=
  congrArg (· * lit 0x3A000000#32) (pay1_apply x0 x1 x2 x3 i j)

theorem pay3_apply : k0_pay3 x0 x1 x2 x3 (ix2 0 0)
    = lit 0x39800000#32 * ∑ i : Fin 512, ∑ j : Fin 1024, err x0 x1 x2 x3 i j * err x0 x1 x2 x3 i j := by
  pointwise [k0_pay3]
  simp only [pay1_apply]
  rfl

theorem pay4_apply (a : Vec Ideal S1x1 .f32) : k0_pay4 x0 x1 x2 x3 a (ix2 0 0) = a (ix2 0 0) + k0_pay3 x0 x1 x2 x3 (ix2 0 0) := by
  pointwise [k0_pay4, shapeCast_self]

end Tile

section Point

variable (c : Dev nD) (i : grid0.Coords) (arg2 : Memref sig .tc .vmem S512x2048 .bf16) (harg2 : arg2.IsWhole)
    (arg3 : Memref sig .tc .vmem S2048x1024 .bf16) (harg3 : arg3.IsWhole)
    (arg4 : Memref sig .tc .vmem S512x1024 .f32) (harg4 : arg4.IsWhole)
    (arg5 : Memref sig .tc .vmem S512x1024 .f32) (harg5 : arg5.IsWhole)
    (arg6 : Memref sig .tc .vmem S512x1024 .f32) (harg6 : arg6.IsWhole)
    (arg7 : Memref sig .tc .vmem S1x1 .f32) (harg7 : arg7.IsWhole)
    (x0 : Vec Ideal S512x2048 .bf16) (x1 : Vec Ideal S2048x1024 .bf16) (x2 x3 : Vec Ideal S512x1024 .f32) (xo : Vec Ideal S1x1 .f32)

theorem first_dx (hc0 : cond0_0 i) (hc1 : ¬cond0_1 i) : out0_A_4 c i arg2 harg2 arg3 harg3 arg4 harg4 arg5 harg5 arg6 harg6 arg7 harg7 hc0 hc1 x0 x1 x2 x3 = k0_pay2 x0 x1 x2 x3 := by
  frame_out

theorem first_loss (hc0 : cond0_0 i) (hc1 : ¬cond0_1 i) : out0_A_5 c i arg2 harg2 arg3 harg3 arg4 harg4 arg5 harg5 arg6 harg6 arg7 harg7 hc0 hc1 x0 x1 x2 x3 = k0_pay3 x0 x1 x2 x3 := by
  frame_out

theorem next_dx (hc0 : ¬cond0_0 i) (hc1 : cond0_1 i) : out0_B_4 c i arg2 harg2 arg3 harg3 arg4 harg4 arg5 harg5 arg6 harg6 arg7 harg7 hc0 hc1 x0 x1 x2 x3 xo = k0_pay2 x0 x1 x2 x3 := by
  frame_out

theorem next_loss (hc0 : ¬cond0_0 i) (hc1 : cond0_1 i) : out0_B_5 c i arg2 harg2 arg3 harg3 arg4 harg4 arg5 harg5 arg6 harg6 arg7 harg7 hc0 hc1 x0 x1 x2 x3 xo = k0_pay4 x0 x1 x2 x3 xo := by
  frame_out

end Point

theorem index_eq (t : Fin cfg0.N) : win0_0.index t = ![t.val % 8, 0] ∧ win0_1.index t = ![0, t.val / 8]
    ∧ win0_2.index t = ![t.val % 8, t.val / 8] ∧ win0_3.index t = ![t.val % 8, t.val / 8] ∧ win0_4.index t = ![t.val % 8, t.val / 8] := by
  revert t; decide +kernel

variable (m : (ℓ : Loc nD τ sig) → Buf (Elt Ideal) ℓ) (c : Dev nD)

/-- The gradient, as the reference computes it of the arguments. -/
def resDx : Vec Ideal S4096x2048 .f32 :=
  val_main_v18 (F := Ideal) (m ((c.tc : Thread nD τ).loc main_arg0)) (m ((c.tc : Thread nD τ).loc main_arg1))
    (m ((c.tc : Thread nD τ).loc main_arg2)) (m ((c.tc : Thread nD τ).loc main_arg3))

/-- The loss, as the reference computes it of the arguments. -/
def resLoss : Vec Ideal S1x1 .f32 :=
  val_main_v19 (F := Ideal) (m ((c.tc : Thread nD τ).loc main_arg0)) (m ((c.tc : Thread nD τ).loc main_arg1))
    (m ((c.tc : Thread nD τ).loc main_arg2)) (m ((c.tc : Thread nD τ).loc main_arg3))

/-- The prediction's error. -/
def Err (i : Fin 4096) (j : Fin 2048) : EReal :=
  (∑ k : Fin 2048, (show EReal from V m c main_arg0 (ix2 i k)) * (show EReal from V m c main_arg1 (ix2 k j)))
    + (show EReal from V m c main_arg2 (ix2 i j)) - (show EReal from V m c main_arg3 (ix2 i j))

theorem err_apply (t : Fin cfg0.N) (ht : t.val < 16) (i : Fin 512) (j : Fin 1024) :
    err (iblk m c 0 t) (iblk m c 1 t) (iblk m c 2 t) (iblk m c 3 t) i j
      = Err m c ⟨512 * (t.val % 8) + i.val, by omega⟩ ⟨1024 * (t.val / 8) + j.val, by omega⟩ := by
  obtain ⟨e0, e1, e2, e3, -⟩ := index_eq t
  unfold err Err
  congr 1
  · congr 1
    · refine Finset.sum_congr rfl fun k _ => ?_
      congr 1 <;> blk_ext [iblk, V, e0, e1]
    · blk_ext [iblk, V, e2]
  · blk_ext [iblk, V, e3]

theorem v4_apply (i : Fin 4096) (j : Fin 2048) : val_main_v4 (F := Ideal) (m ((c.tc : Thread nD τ).loc main_arg0)) (m ((c.tc : Thread nD τ).loc main_arg1))
    (m ((c.tc : Thread nD τ).loc main_arg2)) (m ((c.tc : Thread nD τ).loc main_arg3)) (ix2 i j) = Err m c i j := by
  unfold Err
  rw [add_comm]
  pointwise [val_main_v4, val_main_v3, val_main_v2, val_main_v1, val_main_v0]

theorem lit_half : Ideal.ofBits .f32 0x3F000000#32 = ((1 / 2 : ℝ) : EReal) := by simp [Ideal.ofBits, Ideal.ieee, -EReal.coe_mul]; norm_num
theorem lit_one : Ideal.ofBits .f32 0x3F800000#32 = ((1 : ℝ) : EReal) := by simp [Ideal.ofBits, Ideal.ieee, -EReal.coe_mul]; try norm_num
theorem lit_two : Ideal.ofBits .f32 0x40000000#32 = ((2 : ℝ) : EReal) := by simp [Ideal.ofBits, Ideal.ieee, -EReal.coe_mul]; try norm_num
theorem lit_width : Ideal.ofBits .f32 0x45000000#32 = ((2048 : ℝ) : EReal) := by simp [Ideal.ofBits, Ideal.ieee, -EReal.coe_mul]; norm_num
theorem lit_dx : Ideal.ofBits .f32 0x3A000000#32 = ((1 / 2048 : ℝ) : EReal) := by simp [Ideal.ofBits, Ideal.ieee, -EReal.coe_mul]; norm_num
theorem lit_loss : Ideal.ofBits .f32 0x39800000#32 = ((1 / 4096 : ℝ) : EReal) := by simp [Ideal.ofBits, Ideal.ieee, -EReal.coe_mul]; norm_num

/-- A nonnegative real factor goes under a sum. -/
theorem mul_sum_real {ι : Type} (s : Finset ι) (r : ℝ) (hr : 0 ≤ r) (f : ι → EReal) : (r : EReal) * ∑ i ∈ s, f i = ∑ i ∈ s, (r : EReal) * f i := by
  classical
  induction s using Finset.induction_on with
  | empty => simp
  | insert a s ha ih =>
    rw [Finset.sum_insert ha, Finset.sum_insert ha,
      EReal.left_distrib_of_nonneg_of_ne_top (by exact_mod_cast hr) (EReal.coe_ne_top r), ih]

theorem resDx_apply (i : Fin 4096) (j : Fin 2048) : resDx m c (ix2 i j) = Err m c i j * lit 0x3A000000#32 := by
  rw [← v4_apply]
  unfold resDx
  pointwise [val_main_v18, val_main_v17, val_main_v16, val_main_v15, val_main_v14, val_main_v13, val_main_v7, val_main_v6]
  change Ideal.div (Ideal.ofBits .f32 0x3F000000#32 * Ideal.ofBits .f32 0x3F800000#32) (Ideal.ofBits .f32 0x45000000#32)
    * (Ideal.ofBits .f32 0x40000000#32 * _) = _ * Ideal.ofBits .f32 0x3A000000#32
  rw [lit_half, lit_one, lit_width, lit_two, lit_dx, Ideal.div_coe (by norm_num), mul_left_comm, ← EReal.coe_mul, ← EReal.coe_mul,
    ← mul_assoc, ← EReal.coe_mul, mul_comm]
  norm_num

theorem resLoss_apply : resLoss m c (ix2 0 0) = lit 0x39800000#32 * ∑ i : Fin 4096, ∑ j : Fin 2048, Err m c i j * Err m c i j := by
  simp only [← v4_apply]
  unfold resLoss
  pointwise [val_main_v19, val_main_v12, val_main_v11, val_main_v10, val_main_v9, val_main_v8, val_main_v5]
  change Ideal.ofBits .f32 0x3F000000#32 * (Ideal.ofBits .f32 0x00000000#32 + ∑ x, Ideal.div (Ideal.ofBits .f32 0x00000000#32 + _) (Ideal.ofBits .f32 0x45000000#32))
    = Ideal.ofBits .f32 0x39800000#32 * _
  rw [lit_half, lit_width, lit_loss]
  simp only [Ideal.ofBits_zero_f32, zero_add, Ideal.div_coe (show (2048 : ℝ) ≠ 0 by norm_num)]
  rw [mul_sum_real _ _ (by norm_num), mul_sum_real _ _ (by norm_num)]
  refine Finset.sum_congr rfl fun i _ => ?_
  rw [mul_comm, mul_assoc, ← EReal.coe_mul, mul_comm]
  norm_num

theorem tile_dx (t : Fin cfg0.N) : (outsAt0 m c t.val t.isLt).1 = k0_pay2 (iblk m c 0 t) (iblk m c 1 t) (iblk m c 2 t) (iblk m c 3 t) := by
  have ht : t.val < 16 := t.isLt
  by_cases h0 : t.val % 16 = 0
  · refine (congrArg Prod.fst (outsAt0_A m c t h0 (by omega))).trans ?_
    dsimp only
    rw [first_dx]
  · refine (congrArg Prod.fst (outsAt0_B m c t h0 (by omega))).trans ?_
    dsimp only
    rw [next_dx]

theorem block_dx (t : Fin cfg0.N) (ht : t.val < 16) (i : Fin 512) (j : Fin 1024) :
    k0_pay2 (iblk m c 0 t) (iblk m c 1 t) (iblk m c 2 t) (iblk m c 3 t) (ix2 i j)
      = resDx m c (ix2 ⟨512 * (t.val % 8) + i.val, by omega⟩ ⟨1024 * (t.val / 8) + j.val, by omega⟩) := by
  rw [resDx_apply, ← err_apply m c t ht]
  exact pay2_apply ..

theorem value_dx : (dats m 0 c).arrAt 4 cfg0.N = resDx m c := by
  refine (dats m 0 c).arrAt_eq_of_covers 4 (resDx m c) (by decide +kernel) fun t hf y => ?_
  obtain ⟨-, -, -, -, e4⟩ := index_eq t
  rw [after0_4, tile_dx]
  idx_vars y
  blk_simp
  refine (block_dx m c t t.isLt y0 y1).trans ?_
  blk_ext [e4]

/-- What a point adds to the loss. -/
def part (t : Fin cfg0.N) : EReal := k0_pay3 (iblk m c 0 t) (iblk m c 1 t) (iblk m c 2 t) (iblk m c 3 t) (ix2 0 0)

def tEnd : Fin cfg0.N := ⟨15, by decide⟩

theorem sum_part : ∑ t : Fin cfg0.N, part m c t = lit 0x39800000#32 * ∑ i : Fin 4096, ∑ j : Fin 2048, Err m c i j * Err m c i j := by
  have hp : ∀ t : Fin cfg0.N, part m c t = ((1 / 4096 : ℝ) : EReal) * ∑ i : Fin 512, ∑ j : Fin 1024,
      Err m c ⟨512 * (t.val % 8) + i.val, by omega⟩ ⟨1024 * (t.val / 8) + j.val, by have : t.val < 16 := t.isLt; omega⟩
        * Err m c ⟨512 * (t.val % 8) + i.val, by omega⟩ ⟨1024 * (t.val / 8) + j.val, by have : t.val < 16 := t.isLt; omega⟩ := fun t => by
    unfold part
    rw [pay3_apply]
    simp only [err_apply m c t t.isLt]
    exact congrArg (· * _) lit_loss
  rw [Finset.sum_congr rfl fun t _ => hp t, ← mul_sum_real _ _ (by norm_num)]
  refine congrArg₂ (· * ·) lit_loss.symm ?_
  rw [Fin.sum_univ_tiles 2 8 (by decide), Fin.sum_univ_tiles (N := 4096) 8 512 (by decide), Finset.sum_comm]
  refine Finset.sum_congr rfl fun b _ => ?_
  rw [Finset.sum_comm]
  refine Finset.sum_congr rfl fun i _ => ?_
  rw [Fin.sum_univ_tiles (N := 2048) 2 1024 (by decide)]
  refine Finset.sum_congr rfl fun a _ => Finset.sum_congr rfl fun j _ => ?_
  have e0 : 512 * ((a.val * 8 + b.val) % 8) + i.val = b.val * 512 + i.val := by omega
  have e1 : 1024 * ((a.val * 8 + b.val) / 8) + j.val = a.val * 1024 + j.val := by omega
  simp only [e0, e1]

theorem value_loss : (dats m 0 c).arrAt 5 cfg0.N = resLoss m c := by
  have hs := Pipeline.eq_sum_fin_of_reset_step_apply_last (fun n h => (outsAt0 m c n h).2) 16 (fun _ => 0) (fun t _ => part m c t)
      (fun t h j => by
        idx_vars j
        obtain rfl : j0 = 0 := Subsingleton.elim _ _
        obtain rfl : j1 = 0 := Subsingleton.elim _ _
        rw [outsAt0_A m c t h (by have := t.isLt; have : cfg0.N = 16 := rfl; omega), zero_add]
        dsimp only
        rw [first_loss]
        rfl)
      (fun t h j => by
        idx_vars j
        obtain rfl : j0 = 0 := Subsingleton.elim _ _
        obtain rfl : j1 = 0 := Subsingleton.elim _ _
        rw [outsAt0_B m c t h (by omega)]
        dsimp only
        rw [next_loss]
        exact pay4_apply ..)
      (le_of_eq N_0) tEnd rfl (ix2 0 0)
  rw [zero_add, sum_part m c, ← resLoss_apply] at hs
  refine (dats m 0 c).arrAt_eq_of_after_last 5 tEnd (by decide +kernel) _ fun y => ?_
  rw [after0_5]
  idx_vars y
  obtain rfl : y0 = 0 := Subsingleton.elim _ _
  obtain rfl : y1 = 0 := Subsingleton.elim _ _
  exact hs

theorem run (ρ : Dev nD → PrngReg) : θ_run (defs (F := Ideal)) (onTc (τ := τ) (main (F := Ideal))) ⟨m, fun _ => 0, ρ⟩ fun r => ∀ c : Dev nD,
      r.2.mem ((c.tc : Thread nD τ).loc main_v0_0) = resDx m c ∧ r.2.mem ((c.tc : Thread nD τ).loc main_v0_1) = resLoss m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun r h c => ⟨(h c).1.trans (value_dx m c), (h c).2.1.trans (value_loss m c), (h c).2.2⟩)
    (Cert.OutLossIdeal.Value.run_blocks (F := Ideal) m ρ)

end Cert.OutLossIdeal.Proj

end
-- ==== Proof.Proj.AdamWIn.lean ====
/-
  The optimiser's update of the input projections' weights, which the device holds turned.
-/
module

public import proofs.«01_k».proof.Proof.Proj.Adam
public import proofs.«01_k».proof.Proof.Gen.AdamWInIdeal.Frame
public import proofs.«01_k».proof.Proof.Gen.AdamWInReferenceIdeal.Read

@[expose] public section

set_option maxRecDepth 16384

noncomputable section

namespace Cert.AdamWInIdeal.Proj

open Idealize.ShloMosaic Idealize.ShloMosaic.TcCoe Cert.Adam
open Cert.AdamWInIdeal Cert.AdamWInIdeal.Gen Cert.AdamWInReferenceIdeal.Read

section Tile

variable (x0 x1 x2 x3 : Vec Ideal S88x2048 .f32) (y : S88x2048.Idx)

theorem tile_m : out0_5 x0 x1 x2 x3 y = newM (x1 y) (x2 y) := by
  unfold out0_5
  rw [View.canon_cons_unit_lit _ _ _ (by decide), View.ld_unit_lit _ _ (by decide), View.ld_unit_lit _ _ (by decide)]
  simp only [k0_pay2, k0_pay1, shapeCast_self]
  rfl

theorem tile_v : out0_6 x0 x1 x2 x3 y = newV (x1 y) (x3 y) := by
  unfold out0_6
  rw [View.canon_cons_unit_lit _ _ _ (by decide), View.ld_unit_lit _ _ (by decide), View.ld_unit_lit _ _ (by decide)]
  simp only [k0_pay3, k0_pay1, shapeCast_self]
  rfl

theorem tile_delta : out0_4 x0 x1 x2 x3 y = delta (x0 y) (x1 y) (x2 y) (x3 y) := by
  unfold out0_4
  rw [View.canon_cons_unit_lit _ _ _ (by decide), View.ld_unit_lit _ _ (by decide), View.ld_unit_lit _ _ (by decide),
    View.ld_unit_lit _ _ (by decide), View.ld_unit_lit _ _ (by decide)]
  simp only [k0_pay4, k0_pay2, k0_pay3, k0_pay1, shapeCast_self]
  rfl

end Tile

theorem index_eq (t : Fin cfg0.N) : win0_0.index t = ![t.val, 0] ∧ win0_1.index t = ![t.val, 0] ∧ win0_2.index t = ![t.val, 0]
    ∧ win0_3.index t = ![t.val, 0] ∧ win0_4.index t = ![t.val, 0] ∧ win0_5.index t = ![t.val, 0] ∧ win0_6.index t = ![t.val, 0] := by
  revert t; decide +kernel

variable (m : (ℓ : Loc nD τ sig) → Buf (Elt Ideal) ℓ) (c : Dev nD)

def stepOf (a0 a1 a2 a3 : Vec Ideal S2992x2048 .f32) : Vec Ideal S2992x2048 .f32 := fun y => delta (a0 y) (a1 y) (a2 y) (a3 y)
def mOf (a1 a2 : Vec Ideal S2992x2048 .f32) : Vec Ideal S2992x2048 .f32 := fun y => newM (a1 y) (a2 y)
def vOf (a1 a3 : Vec Ideal S2992x2048 .f32) : Vec Ideal S2992x2048 .f32 := fun y => newV (a1 y) (a3 y)

theorem read_0 (a : Vec Ideal S2992x2048 .f32) (t : Fin cfg0.N) (ht : t.val < 34) (i : Fin 88) (j : Fin 2048) :
    ((cfg0.win 0).blk t).view.read (Elt Ideal) a (ix2 i j) = a (ix2 ⟨88 * t.val + i.val, by omega⟩ j) := by
  obtain ⟨e0, e1, e2, e3, -⟩ := index_eq t
  blk_ext [e0]

theorem read_1 (a : Vec Ideal S2992x2048 .f32) (t : Fin cfg0.N) (ht : t.val < 34) (i : Fin 88) (j : Fin 2048) :
    ((cfg0.win 1).blk t).view.read (Elt Ideal) a (ix2 i j) = a (ix2 ⟨88 * t.val + i.val, by omega⟩ j) := by
  obtain ⟨e0, e1, e2, e3, -⟩ := index_eq t
  blk_ext [e1]

theorem read_2 (a : Vec Ideal S2992x2048 .f32) (t : Fin cfg0.N) (ht : t.val < 34) (i : Fin 88) (j : Fin 2048) :
    ((cfg0.win 2).blk t).view.read (Elt Ideal) a (ix2 i j) = a (ix2 ⟨88 * t.val + i.val, by omega⟩ j) := by
  obtain ⟨e0, e1, e2, e3, -⟩ := index_eq t
  blk_ext [e2]

theorem read_3 (a : Vec Ideal S2992x2048 .f32) (t : Fin cfg0.N) (ht : t.val < 34) (i : Fin 88) (j : Fin 2048) :
    ((cfg0.win 3).blk t).view.read (Elt Ideal) a (ix2 i j) = a (ix2 ⟨88 * t.val + i.val, by omega⟩ j) := by
  obtain ⟨e0, e1, e2, e3, -⟩ := index_eq t
  blk_ext [e3]

theorem block_delta (t : Fin cfg0.N) (ht : t.val < 34) (i : Fin 88) (j : Fin 2048) :
    out0_4 (iblk m c 0 t) (iblk m c 1 t) (iblk m c 2 t) (iblk m c 3 t) (ix2 i j)
      = stepOf (V m c main_v3) (V m c main_v4) (V m c main_v5) (V m c main_v6) (ix2 ⟨88 * t.val + i.val, by omega⟩ j) := by
  refine (tile_delta _ _ _ _ _).trans ?_
  unfold stepOf
  rw [show iblk m c 0 t (ix2 i j) = V m c main_v3 (ix2 ⟨88 * t.val + i.val, by omega⟩ j) from read_0 (V m c main_v3) t ht i j]
  rw [show iblk m c 1 t (ix2 i j) = V m c main_v4 (ix2 ⟨88 * t.val + i.val, by omega⟩ j) from read_1 (V m c main_v4) t ht i j]
  rw [show iblk m c 2 t (ix2 i j) = V m c main_v5 (ix2 ⟨88 * t.val + i.val, by omega⟩ j) from read_2 (V m c main_v5) t ht i j]
  rw [show iblk m c 3 t (ix2 i j) = V m c main_v6 (ix2 ⟨88 * t.val + i.val, by omega⟩ j) from read_3 (V m c main_v6) t ht i j]

theorem array_delta : (dats m 0 c).arrAt 4 cfg0.N = stepOf (V m c main_v3) (V m c main_v4) (V m c main_v5) (V m c main_v6) := by
  refine (dats m 0 c).arrAt_eq_of_covers 4 (stepOf (V m c main_v3) (V m c main_v4) (V m c main_v5) (V m c main_v6)) (by decide +kernel) fun t hf y => ?_
  obtain ⟨-, -, -, -, e4, e5, e6⟩ := index_eq t
  rw [after0_4]
  idx_vars y
  generalize hb : stepOf (V m c main_v3) (V m c main_v4) (V m c main_v5) (V m c main_v6) = b
  blk_simp
  refine (block_delta m c t t.isLt y0 y1).trans ?_
  rw [hb]
  blk_ext [e4]

theorem block_m (t : Fin cfg0.N) (ht : t.val < 34) (i : Fin 88) (j : Fin 2048) :
    out0_5 (iblk m c 0 t) (iblk m c 1 t) (iblk m c 2 t) (iblk m c 3 t) (ix2 i j)
      = mOf (V m c main_v4) (V m c main_v5) (ix2 ⟨88 * t.val + i.val, by omega⟩ j) := by
  refine (tile_m _ _ _ _ _).trans ?_
  unfold mOf
  rw [show iblk m c 1 t (ix2 i j) = V m c main_v4 (ix2 ⟨88 * t.val + i.val, by omega⟩ j) from read_1 (V m c main_v4) t ht i j]
  rw [show iblk m c 2 t (ix2 i j) = V m c main_v5 (ix2 ⟨88 * t.val + i.val, by omega⟩ j) from read_2 (V m c main_v5) t ht i j]

theorem array_m : (dats m 0 c).arrAt 5 cfg0.N = mOf (V m c main_v4) (V m c main_v5) := by
  refine (dats m 0 c).arrAt_eq_of_covers 5 (mOf (V m c main_v4) (V m c main_v5)) (by decide +kernel) fun t hf y => ?_
  obtain ⟨-, -, -, -, e4, e5, e6⟩ := index_eq t
  rw [after0_5]
  idx_vars y
  generalize hb : mOf (V m c main_v4) (V m c main_v5) = b
  blk_simp
  refine (block_m m c t t.isLt y0 y1).trans ?_
  rw [hb]
  blk_ext [e5]

theorem block_v (t : Fin cfg0.N) (ht : t.val < 34) (i : Fin 88) (j : Fin 2048) :
    out0_6 (iblk m c 0 t) (iblk m c 1 t) (iblk m c 2 t) (iblk m c 3 t) (ix2 i j)
      = vOf (V m c main_v4) (V m c main_v6) (ix2 ⟨88 * t.val + i.val, by omega⟩ j) := by
  refine (tile_v _ _ _ _ _).trans ?_
  unfold vOf
  rw [show iblk m c 1 t (ix2 i j) = V m c main_v4 (ix2 ⟨88 * t.val + i.val, by omega⟩ j) from read_1 (V m c main_v4) t ht i j]
  rw [show iblk m c 3 t (ix2 i j) = V m c main_v6 (ix2 ⟨88 * t.val + i.val, by omega⟩ j) from read_3 (V m c main_v6) t ht i j]

theorem array_v : (dats m 0 c).arrAt 6 cfg0.N = vOf (V m c main_v4) (V m c main_v6) := by
  refine (dats m 0 c).arrAt_eq_of_covers 6 (vOf (V m c main_v4) (V m c main_v6)) (by decide +kernel) fun t hf y => ?_
  obtain ⟨-, -, -, -, e4, e5, e6⟩ := index_eq t
  rw [after0_6]
  idx_vars y
  generalize hb : vOf (V m c main_v4) (V m c main_v6) = b
  blk_simp
  refine (block_v m c t t.isLt y0 y1).trans ?_
  rw [hb]
  blk_ext [e6]

/-- The step of the weights, as the reference computes it of the arguments. -/
def resDelta : Vec Ideal S2x2048x1496 .f32 :=
  val_main_v24 (F := Ideal) (m ((c.tc : Thread nD τ).loc main_arg0)) (m ((c.tc : Thread nD τ).loc main_arg1))
    (m ((c.tc : Thread nD τ).loc main_arg2)) (m ((c.tc : Thread nD τ).loc main_arg3))

/-- The new first moments, as the reference computes them of the arguments. -/
def resM : Vec Ideal S2x2048x1496 .f32 :=
  val_main_v5 (F := Ideal) (m ((c.tc : Thread nD τ).loc main_arg1)) (m ((c.tc : Thread nD τ).loc main_arg2))

/-- The new second moments, as the reference computes them of the arguments. -/
def resV : Vec Ideal S2x2048x1496 .f32 :=
  val_main_v11 (F := Ideal) (m ((c.tc : Thread nD τ).loc main_arg1)) (m ((c.tc : Thread nD τ).loc main_arg3))

theorem entry_0 : V m c main_v3 = shapeCast S2992x2048 (transpose S2x1496x2048 [0, 2, 1] (m ((c.tc : Thread nD τ).loc main_arg0)) transposes_S2x2048x1496_S2x1496x2048_0_2_1) shapeCasts_S2x1496x2048_S2992x2048 := by
  entry_read
  rfl

theorem entry_1 : V m c main_v4 = shapeCast S2992x2048 (m ((c.tc : Thread nD τ).loc main_arg1)) shapeCasts_S2x1496x2048_S2992x2048 := by
  entry_read
  rfl

theorem entry_2 : V m c main_v5 = shapeCast S2992x2048 (transpose S2x1496x2048 [0, 2, 1] (m ((c.tc : Thread nD τ).loc main_arg2)) transposes_S2x2048x1496_S2x1496x2048_0_2_1) shapeCasts_S2x1496x2048_S2992x2048 := by
  entry_read
  rfl

theorem entry_3 : V m c main_v6 = shapeCast S2992x2048 (transpose S2x1496x2048 [0, 2, 1] (m ((c.tc : Thread nD τ).loc main_arg3)) transposes_S2x2048x1496_S2x1496x2048_0_2_1) shapeCasts_S2x1496x2048_S2992x2048 := by
  entry_read
  rfl

/-- Turned and turned back. -/
theorem turn_turn (a : Vec Ideal S2x2048x1496 .f32) : transpose S2x2048x1496 [0, 2, 1] (transpose S2x1496x2048 [0, 2, 1] a transposes_S2x2048x1496_S2x1496x2048_0_2_1) transposes_S2x1496x2048_S2x2048x1496_0_2_1 = a :=
  funext fun i => (transpose_apply [0, 2, 1] _ transposes_S2x1496x2048_S2x2048x1496_0_2_1 i (Cert.AdamWInReferenceIdeal.Read.idx_main_v0 i) (fun b => match b with
      | ⟨0, _⟩ => rfl
      | ⟨1, _⟩ => rfl
      | ⟨2, _⟩ => rfl)).trans
    (transpose_apply [0, 2, 1] a transposes_S2x2048x1496_S2x1496x2048_0_2_1 _ i (fun b => match b with
      | ⟨0, _⟩ => rfl
      | ⟨1, _⟩ => rfl
      | ⟨2, _⟩ => rfl))

theorem value_delta : Pipeline.afterTail₀ cfgs (dats m) 0 (V0 m) [hostOps1] c main_v11 = resDelta m c := by
  have e : Pipeline.afterTail₀ cfgs (dats m) 0 (V0 m) [hostOps1] c main_v11
      = transpose S2x2048x1496 [0, 2, 1] (shapeCast S2x1496x2048 ((dats m 0 c).arrAt 4 cfg0.N) shapeCasts_S2992x2048_S2x1496x2048) transposes_S2x1496x2048_S2x2048x1496_0_2_1 := by
    unfold Pipeline.afterTail₀
    simp only [hostOps1, List.flatten_cons, List.flatten_nil, List.append_nil]
    after_results
    exact congrArg (fun a => transpose S2x2048x1496 [0, 2, 1] (shapeCast S2x1496x2048 a shapeCasts_S2992x2048_S2x1496x2048) transposes_S2x1496x2048_S2x2048x1496_0_2_1)
      (Pipeline.withArrays_arr spec0 (by decide) c (V0 m c) (fun w => (dats m 0 c).arrAt w cfg0.N) 4)
  rw [e, array_delta, entry_0, entry_1, entry_2, entry_3]
  refine (congrArg (fun a => transpose S2x2048x1496 [0, 2, 1] a transposes_S2x1496x2048_S2x2048x1496_0_2_1) (back4 delta _ _ _ _ _ _)).trans ?_
  refine (show _ = fun y => delta (transpose S2x2048x1496 [0, 2, 1] (transpose S2x1496x2048 [0, 2, 1] (m ((c.tc : Thread nD τ).loc main_arg0)) transposes_S2x2048x1496_S2x1496x2048_0_2_1) transposes_S2x1496x2048_S2x2048x1496_0_2_1 y) (transpose S2x2048x1496 [0, 2, 1] (m ((c.tc : Thread nD τ).loc main_arg1)) transposes_S2x1496x2048_S2x2048x1496_0_2_1 y) (transpose S2x2048x1496 [0, 2, 1] (transpose S2x1496x2048 [0, 2, 1] (m ((c.tc : Thread nD τ).loc main_arg2)) transposes_S2x2048x1496_S2x1496x2048_0_2_1) transposes_S2x1496x2048_S2x2048x1496_0_2_1 y) (transpose S2x2048x1496 [0, 2, 1] (transpose S2x1496x2048 [0, 2, 1] (m ((c.tc : Thread nD τ).loc main_arg3)) transposes_S2x2048x1496_S2x1496x2048_0_2_1) transposes_S2x1496x2048_S2x2048x1496_0_2_1 y) from rfl).trans ?_
  funext y
  rw [congrFun (turn_turn (m ((c.tc : Thread nD τ).loc main_arg0))) y,
    congrFun (turn_turn (m ((c.tc : Thread nD τ).loc main_arg2))) y,
    congrFun (turn_turn (m ((c.tc : Thread nD τ).loc main_arg3))) y]
  rfl

theorem value_m : Pipeline.afterTail₀ cfgs (dats m) 0 (V0 m) [hostOps1] c main_v12 = resM m c := by
  have e : Pipeline.afterTail₀ cfgs (dats m) 0 (V0 m) [hostOps1] c main_v12
      = transpose S2x2048x1496 [0, 2, 1] (shapeCast S2x1496x2048 ((dats m 0 c).arrAt 5 cfg0.N) shapeCasts_S2992x2048_S2x1496x2048) transposes_S2x1496x2048_S2x2048x1496_0_2_1 := by
    unfold Pipeline.afterTail₀
    simp only [hostOps1, List.flatten_cons, List.flatten_nil, List.append_nil]
    after_results
    exact congrArg (fun a => transpose S2x2048x1496 [0, 2, 1] (shapeCast S2x1496x2048 a shapeCasts_S2992x2048_S2x1496x2048) transposes_S2x1496x2048_S2x2048x1496_0_2_1)
      (Pipeline.withArrays_arr spec0 (by decide) c (V0 m c) (fun w => (dats m 0 c).arrAt w cfg0.N) 5)
  rw [e, array_m, entry_1, entry_2]
  refine (congrArg (fun a => transpose S2x2048x1496 [0, 2, 1] a transposes_S2x1496x2048_S2x2048x1496_0_2_1) (back2 newM _ _ _ _)).trans ?_
  refine (show _ = fun y => newM (transpose S2x2048x1496 [0, 2, 1] (m ((c.tc : Thread nD τ).loc main_arg1)) transposes_S2x1496x2048_S2x2048x1496_0_2_1 y) (transpose S2x2048x1496 [0, 2, 1] (transpose S2x1496x2048 [0, 2, 1] (m ((c.tc : Thread nD τ).loc main_arg2)) transposes_S2x2048x1496_S2x1496x2048_0_2_1) transposes_S2x1496x2048_S2x2048x1496_0_2_1 y) from rfl).trans ?_
  funext y
  rw [congrFun (turn_turn (m ((c.tc : Thread nD τ).loc main_arg2))) y]
  rfl

theorem value_v : Pipeline.afterTail₀ cfgs (dats m) 0 (V0 m) [hostOps1] c main_v13 = resV m c := by
  have e : Pipeline.afterTail₀ cfgs (dats m) 0 (V0 m) [hostOps1] c main_v13
      = transpose S2x2048x1496 [0, 2, 1] (shapeCast S2x1496x2048 ((dats m 0 c).arrAt 6 cfg0.N) shapeCasts_S2992x2048_S2x1496x2048) transposes_S2x1496x2048_S2x2048x1496_0_2_1 := by
    unfold Pipeline.afterTail₀
    simp only [hostOps1, List.flatten_cons, List.flatten_nil, List.append_nil]
    after_results
    exact congrArg (fun a => transpose S2x2048x1496 [0, 2, 1] (shapeCast S2x1496x2048 a shapeCasts_S2992x2048_S2x1496x2048) transposes_S2x1496x2048_S2x2048x1496_0_2_1)
      (Pipeline.withArrays_arr spec0 (by decide) c (V0 m c) (fun w => (dats m 0 c).arrAt w cfg0.N) 6)
  rw [e, array_v, entry_1, entry_3]
  refine (congrArg (fun a => transpose S2x2048x1496 [0, 2, 1] a transposes_S2x1496x2048_S2x2048x1496_0_2_1) (back2 newV _ _ _ _)).trans ?_
  refine (show _ = fun y => newV (transpose S2x2048x1496 [0, 2, 1] (m ((c.tc : Thread nD τ).loc main_arg1)) transposes_S2x1496x2048_S2x2048x1496_0_2_1 y) (transpose S2x2048x1496 [0, 2, 1] (transpose S2x1496x2048 [0, 2, 1] (m ((c.tc : Thread nD τ).loc main_arg3)) transposes_S2x2048x1496_S2x1496x2048_0_2_1) transposes_S2x1496x2048_S2x2048x1496_0_2_1 y) from rfl).trans ?_
  funext y
  rw [congrFun (turn_turn (m ((c.tc : Thread nD τ).loc main_arg3))) y]
  rfl

/-- Every run of the program ends with the reference's three results and the arguments as they were. -/
theorem run (ρ : Dev nD → PrngReg) : θ_run (defs (F := Ideal)) (onTc (τ := τ) (main (F := Ideal))) ⟨m, fun _ => 0, ρ⟩ fun r => ∀ c : Dev nD,
      r.2.mem ((c.tc : Thread nD τ).loc main_v11) = resDelta m c ∧ r.2.mem ((c.tc : Thread nD τ).loc main_v12) = resM m c
      ∧ r.2.mem ((c.tc : Thread nD τ).loc main_v13) = resV m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) := by
  refine (θ_run defs _ _).mono (fun r h c => ?_) (run_main m ρ)
  refine ⟨((h c).2 main_v11 (Pipeline.mem_restRefs_of main_v11 (by decide) (by decide))).trans (value_delta m c),
    ((h c).2 main_v12 (Pipeline.mem_restRefs_of main_v12 (by decide) (by decide))).trans (value_m m c),
    ((h c).2 main_v13 (Pipeline.mem_restRefs_of main_v13 (by decide) (by decide))).trans (value_v m c), ?_⟩
  exact ⟨((h c).2 main_arg0 (Pipeline.mem_restRefs_of main_arg0 (by decide) (by decide))).trans (W_main_arg0 m (dats m) c),
    ((h c).2 main_arg1 (Pipeline.mem_restRefs_of main_arg1 (by decide) (by decide))).trans (W_main_arg1 m (dats m) c),
    ((h c).2 main_arg2 (Pipeline.mem_restRefs_of main_arg2 (by decide) (by decide))).trans (W_main_arg2 m (dats m) c),
    ((h c).2 main_arg3 (Pipeline.mem_restRefs_of main_arg3 (by decide) (by decide))).trans (W_main_arg3 m (dats m) c)⟩

end Cert.AdamWInIdeal.Proj

end
-- ==== Proof.Proj.AdamNorm.lean ====
/-
  The optimiser's update of the norms' weights.
-/
module

public import proofs.«01_k».proof.Proof.Proj.Adam
public import proofs.«01_k».proof.Proof.Gen.AdamNormIdeal.Frame
public import proofs.«01_k».proof.Proof.Gen.AdamNormReferenceIdeal.Read

@[expose] public section

set_option maxRecDepth 16384

noncomputable section

namespace Cert.AdamNormIdeal.Proj

open Idealize.ShloMosaic Idealize.ShloMosaic.TcCoe Cert.Adam
open Cert.AdamNormIdeal Cert.AdamNormIdeal.Gen Cert.AdamNormReferenceIdeal.Read

section Tile

variable (x0 x1 x2 x3 : Vec Ideal S2x2048 .f32) (y : S2x2048.Idx)

theorem tile_m : out0_5 x0 x1 x2 x3 y = newM (x1 y) (x2 y) := by
  unfold out0_5
  rw [View.canon_cons_unit_lit _ _ _ (by decide), View.ld_unit_lit _ _ (by decide), View.ld_unit_lit _ _ (by decide)]
  simp only [k0_pay1]
  rfl

theorem tile_v : out0_6 x0 x1 x2 x3 y = newV (x1 y) (x3 y) := by
  unfold out0_6
  rw [View.canon_cons_unit_lit _ _ _ (by decide), View.ld_unit_lit _ _ (by decide), View.ld_unit_lit _ _ (by decide)]
  simp only [k0_pay2]
  rfl

theorem tile_delta : out0_4 x0 x1 x2 x3 y = delta (x0 y) (x1 y) (x2 y) (x3 y) := by
  unfold out0_4
  rw [View.canon_cons_unit_lit _ _ _ (by decide), View.ld_unit_lit _ _ (by decide), View.ld_unit_lit _ _ (by decide),
    View.ld_unit_lit _ _ (by decide), View.ld_unit_lit _ _ (by decide)]
  simp only [k0_pay3, k0_pay1, k0_pay2]
  rfl

end Tile

theorem index_eq (t : Fin cfg0.N) : win0_0.index t = ![t.val, 0] ∧ win0_1.index t = ![t.val, 0] ∧ win0_2.index t = ![t.val, 0]
    ∧ win0_3.index t = ![t.val, 0] ∧ win0_4.index t = ![t.val, 0] ∧ win0_5.index t = ![t.val, 0] ∧ win0_6.index t = ![t.val, 0] := by
  revert t; decide +kernel

variable (m : (ℓ : Loc nD τ sig) → Buf (Elt Ideal) ℓ) (c : Dev nD)

def stepOf (a0 a1 a2 a3 : Vec Ideal S2x2048 .f32) : Vec Ideal S2x2048 .f32 := fun y => delta (a0 y) (a1 y) (a2 y) (a3 y)
def mOf (a1 a2 : Vec Ideal S2x2048 .f32) : Vec Ideal S2x2048 .f32 := fun y => newM (a1 y) (a2 y)
def vOf (a1 a3 : Vec Ideal S2x2048 .f32) : Vec Ideal S2x2048 .f32 := fun y => newV (a1 y) (a3 y)

theorem read_0 (a : Vec Ideal S2x2048 .f32) (t : Fin cfg0.N) (ht : t.val < 1) (i : Fin 2) (j : Fin 2048) :
    ((cfg0.win 0).blk t).view.read (Elt Ideal) a (ix2 i j) = a (ix2 ⟨2 * t.val + i.val, by omega⟩ j) := by
  obtain ⟨e0, e1, e2, e3, -⟩ := index_eq t
  blk_ext [e0]

theorem read_1 (a : Vec Ideal S2x2048 .f32) (t : Fin cfg0.N) (ht : t.val < 1) (i : Fin 2) (j : Fin 2048) :
    ((cfg0.win 1).blk t).view.read (Elt Ideal) a (ix2 i j) = a (ix2 ⟨2 * t.val + i.val, by omega⟩ j) := by
  obtain ⟨e0, e1, e2, e3, -⟩ := index_eq t
  blk_ext [e1]

theorem read_2 (a : Vec Ideal S2x2048 .f32) (t : Fin cfg0.N) (ht : t.val < 1) (i : Fin 2) (j : Fin 2048) :
    ((cfg0.win 2).blk t).view.read (Elt Ideal) a (ix2 i j) = a (ix2 ⟨2 * t.val + i.val, by omega⟩ j) := by
  obtain ⟨e0, e1, e2, e3, -⟩ := index_eq t
  blk_ext [e2]

theorem read_3 (a : Vec Ideal S2x2048 .f32) (t : Fin cfg0.N) (ht : t.val < 1) (i : Fin 2) (j : Fin 2048) :
    ((cfg0.win 3).blk t).view.read (Elt Ideal) a (ix2 i j) = a (ix2 ⟨2 * t.val + i.val, by omega⟩ j) := by
  obtain ⟨e0, e1, e2, e3, -⟩ := index_eq t
  blk_ext [e3]

theorem block_delta (t : Fin cfg0.N) (ht : t.val < 1) (i : Fin 2) (j : Fin 2048) :
    out0_4 (iblk m c 0 t) (iblk m c 1 t) (iblk m c 2 t) (iblk m c 3 t) (ix2 i j)
      = stepOf (V m c main_arg0) (V m c main_arg1) (V m c main_arg2) (V m c main_arg3) (ix2 ⟨2 * t.val + i.val, by omega⟩ j) := by
  refine (tile_delta _ _ _ _ _).trans ?_
  unfold stepOf
  rw [show iblk m c 0 t (ix2 i j) = V m c main_arg0 (ix2 ⟨2 * t.val + i.val, by omega⟩ j) from read_0 (V m c main_arg0) t ht i j]
  rw [show iblk m c 1 t (ix2 i j) = V m c main_arg1 (ix2 ⟨2 * t.val + i.val, by omega⟩ j) from read_1 (V m c main_arg1) t ht i j]
  rw [show iblk m c 2 t (ix2 i j) = V m c main_arg2 (ix2 ⟨2 * t.val + i.val, by omega⟩ j) from read_2 (V m c main_arg2) t ht i j]
  rw [show iblk m c 3 t (ix2 i j) = V m c main_arg3 (ix2 ⟨2 * t.val + i.val, by omega⟩ j) from read_3 (V m c main_arg3) t ht i j]

theorem array_delta : (dats m 0 c).arrAt 4 cfg0.N = stepOf (V m c main_arg0) (V m c main_arg1) (V m c main_arg2) (V m c main_arg3) := by
  refine (dats m 0 c).arrAt_eq_of_covers 4 (stepOf (V m c main_arg0) (V m c main_arg1) (V m c main_arg2) (V m c main_arg3)) (by decide +kernel) fun t hf y => ?_
  obtain ⟨-, -, -, -, e4, e5, e6⟩ := index_eq t
  rw [after0_4]
  idx_vars y
  generalize hb : stepOf (V m c main_arg0) (V m c main_arg1) (V m c main_arg2) (V m c main_arg3) = b
  blk_simp
  refine (block_delta m c t t.isLt y0 y1).trans ?_
  rw [hb]
  blk_ext [e4]

theorem block_m (t : Fin cfg0.N) (ht : t.val < 1) (i : Fin 2) (j : Fin 2048) :
    out0_5 (iblk m c 0 t) (iblk m c 1 t) (iblk m c 2 t) (iblk m c 3 t) (ix2 i j)
      = mOf (V m c main_arg1) (V m c main_arg2) (ix2 ⟨2 * t.val + i.val, by omega⟩ j) := by
  refine (tile_m _ _ _ _ _).trans ?_
  unfold mOf
  rw [show iblk m c 1 t (ix2 i j) = V m c main_arg1 (ix2 ⟨2 * t.val + i.val, by omega⟩ j) from read_1 (V m c main_arg1) t ht i j]
  rw [show iblk m c 2 t (ix2 i j) = V m c main_arg2 (ix2 ⟨2 * t.val + i.val, by omega⟩ j) from read_2 (V m c main_arg2) t ht i j]

theorem array_m : (dats m 0 c).arrAt 5 cfg0.N = mOf (V m c main_arg1) (V m c main_arg2) := by
  refine (dats m 0 c).arrAt_eq_of_covers 5 (mOf (V m c main_arg1) (V m c main_arg2)) (by decide +kernel) fun t hf y => ?_
  obtain ⟨-, -, -, -, e4, e5, e6⟩ := index_eq t
  rw [after0_5]
  idx_vars y
  generalize hb : mOf (V m c main_arg1) (V m c main_arg2) = b
  blk_simp
  refine (block_m m c t t.isLt y0 y1).trans ?_
  rw [hb]
  blk_ext [e5]

theorem block_v (t : Fin cfg0.N) (ht : t.val < 1) (i : Fin 2) (j : Fin 2048) :
    out0_6 (iblk m c 0 t) (iblk m c 1 t) (iblk m c 2 t) (iblk m c 3 t) (ix2 i j)
      = vOf (V m c main_arg1) (V m c main_arg3) (ix2 ⟨2 * t.val + i.val, by omega⟩ j) := by
  refine (tile_v _ _ _ _ _).trans ?_
  unfold vOf
  rw [show iblk m c 1 t (ix2 i j) = V m c main_arg1 (ix2 ⟨2 * t.val + i.val, by omega⟩ j) from read_1 (V m c main_arg1) t ht i j]
  rw [show iblk m c 3 t (ix2 i j) = V m c main_arg3 (ix2 ⟨2 * t.val + i.val, by omega⟩ j) from read_3 (V m c main_arg3) t ht i j]

theorem array_v : (dats m 0 c).arrAt 6 cfg0.N = vOf (V m c main_arg1) (V m c main_arg3) := by
  refine (dats m 0 c).arrAt_eq_of_covers 6 (vOf (V m c main_arg1) (V m c main_arg3)) (by decide +kernel) fun t hf y => ?_
  obtain ⟨-, -, -, -, e4, e5, e6⟩ := index_eq t
  rw [after0_6]
  idx_vars y
  generalize hb : vOf (V m c main_arg1) (V m c main_arg3) = b
  blk_simp
  refine (block_v m c t t.isLt y0 y1).trans ?_
  rw [hb]
  blk_ext [e6]

/-- The step of the weights, as the reference computes it of the arguments. -/
def resDelta : Vec Ideal S2x2048 .f32 :=
  val_main_v23 (F := Ideal) (m ((c.tc : Thread nD τ).loc main_arg0)) (m ((c.tc : Thread nD τ).loc main_arg1))
    (m ((c.tc : Thread nD τ).loc main_arg2)) (m ((c.tc : Thread nD τ).loc main_arg3))

/-- The new first moments, as the reference computes them of the arguments. -/
def resM : Vec Ideal S2x2048 .f32 :=
  val_main_v4 (F := Ideal) (m ((c.tc : Thread nD τ).loc main_arg1)) (m ((c.tc : Thread nD τ).loc main_arg2))

/-- The new second moments, as the reference computes them of the arguments. -/
def resV : Vec Ideal S2x2048 .f32 :=
  val_main_v10 (F := Ideal) (m ((c.tc : Thread nD τ).loc main_arg1)) (m ((c.tc : Thread nD τ).loc main_arg3))

theorem value_delta : (dats m 0 c).arrAt 4 cfg0.N = resDelta m c := (array_delta m c).trans rfl
theorem value_m : (dats m 0 c).arrAt 5 cfg0.N = resM m c := (array_m m c).trans rfl
theorem value_v : (dats m 0 c).arrAt 6 cfg0.N = resV m c := (array_v m c).trans rfl

/-- Every run of the program ends with the reference's three results and the arguments as they were. -/
theorem run (ρ : Dev nD → PrngReg) : θ_run (defs (F := Ideal)) (onTc (τ := τ) (main (F := Ideal))) ⟨m, fun _ => 0, ρ⟩ fun r => ∀ c : Dev nD,
      r.2.mem ((c.tc : Thread nD τ).loc main_v0_0) = resDelta m c ∧ r.2.mem ((c.tc : Thread nD τ).loc main_v0_1) = resM m c
      ∧ r.2.mem ((c.tc : Thread nD τ).loc main_v0_2) = resV m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) := by
  run_from run_main m ρ
  · exact value_delta m c
  · exact value_m m c
  · exact value_v m c

end Cert.AdamNormIdeal.Proj

end
-- ==== Proof.Proj.AdamGroup.lean ====
/-
  The optimiser's update of the group norms' weights.
-/
module

public import proofs.«01_k».proof.Proof.Proj.Adam
public import proofs.«01_k».proof.Proof.Gen.AdamGroupIdeal.Frame
public import proofs.«01_k».proof.Proof.Gen.AdamGroupReferenceIdeal.Read

@[expose] public section

set_option maxRecDepth 16384

noncomputable section

namespace Cert.AdamGroupIdeal.Proj

open Idealize.ShloMosaic Idealize.ShloMosaic.TcCoe Cert.Adam
open Cert.AdamGroupIdeal Cert.AdamGroupIdeal.Gen Cert.AdamGroupReferenceIdeal.Read

section Tile

variable (x0 x1 x2 x3 : Vec Ideal S2x512 .f32) (y : S2x512.Idx)

theorem tile_m : out0_5 x0 x1 x2 x3 y = newM (x1 y) (x2 y) := by
  unfold out0_5
  rw [View.canon_cons_unit_lit _ _ _ (by decide), View.ld_unit_lit _ _ (by decide), View.ld_unit_lit _ _ (by decide)]
  simp only [k0_pay1]
  rfl

theorem tile_v : out0_6 x0 x1 x2 x3 y = newV (x1 y) (x3 y) := by
  unfold out0_6
  rw [View.canon_cons_unit_lit _ _ _ (by decide), View.ld_unit_lit _ _ (by decide), View.ld_unit_lit _ _ (by decide)]
  simp only [k0_pay2]
  rfl

theorem tile_delta : out0_4 x0 x1 x2 x3 y = delta (x0 y) (x1 y) (x2 y) (x3 y) := by
  unfold out0_4
  rw [View.canon_cons_unit_lit _ _ _ (by decide), View.ld_unit_lit _ _ (by decide), View.ld_unit_lit _ _ (by decide),
    View.ld_unit_lit _ _ (by decide), View.ld_unit_lit _ _ (by decide)]
  simp only [k0_pay3, k0_pay1, k0_pay2]
  rfl

end Tile

theorem index_eq (t : Fin cfg0.N) : win0_0.index t = ![t.val, 0] ∧ win0_1.index t = ![t.val, 0] ∧ win0_2.index t = ![t.val, 0]
    ∧ win0_3.index t = ![t.val, 0] ∧ win0_4.index t = ![t.val, 0] ∧ win0_5.index t = ![t.val, 0] ∧ win0_6.index t = ![t.val, 0] := by
  revert t; decide +kernel

variable (m : (ℓ : Loc nD τ sig) → Buf (Elt Ideal) ℓ) (c : Dev nD)

def stepOf (a0 a1 a2 a3 : Vec Ideal S2x512 .f32) : Vec Ideal S2x512 .f32 := fun y => delta (a0 y) (a1 y) (a2 y) (a3 y)
def mOf (a1 a2 : Vec Ideal S2x512 .f32) : Vec Ideal S2x512 .f32 := fun y => newM (a1 y) (a2 y)
def vOf (a1 a3 : Vec Ideal S2x512 .f32) : Vec Ideal S2x512 .f32 := fun y => newV (a1 y) (a3 y)

theorem read_0 (a : Vec Ideal S2x512 .f32) (t : Fin cfg0.N) (ht : t.val < 1) (i : Fin 2) (j : Fin 512) :
    ((cfg0.win 0).blk t).view.read (Elt Ideal) a (ix2 i j) = a (ix2 ⟨2 * t.val + i.val, by omega⟩ j) := by
  obtain ⟨e0, e1, e2, e3, -⟩ := index_eq t
  blk_ext [e0]

theorem read_1 (a : Vec Ideal S2x512 .f32) (t : Fin cfg0.N) (ht : t.val < 1) (i : Fin 2) (j : Fin 512) :
    ((cfg0.win 1).blk t).view.read (Elt Ideal) a (ix2 i j) = a (ix2 ⟨2 * t.val + i.val, by omega⟩ j) := by
  obtain ⟨e0, e1, e2, e3, -⟩ := index_eq t
  blk_ext [e1]

theorem read_2 (a : Vec Ideal S2x512 .f32) (t : Fin cfg0.N) (ht : t.val < 1) (i : Fin 2) (j : Fin 512) :
    ((cfg0.win 2).blk t).view.read (Elt Ideal) a (ix2 i j) = a (ix2 ⟨2 * t.val + i.val, by omega⟩ j) := by
  obtain ⟨e0, e1, e2, e3, -⟩ := index_eq t
  blk_ext [e2]

theorem read_3 (a : Vec Ideal S2x512 .f32) (t : Fin cfg0.N) (ht : t.val < 1) (i : Fin 2) (j : Fin 512) :
    ((cfg0.win 3).blk t).view.read (Elt Ideal) a (ix2 i j) = a (ix2 ⟨2 * t.val + i.val, by omega⟩ j) := by
  obtain ⟨e0, e1, e2, e3, -⟩ := index_eq t
  blk_ext [e3]

theorem block_delta (t : Fin cfg0.N) (ht : t.val < 1) (i : Fin 2) (j : Fin 512) :
    out0_4 (iblk m c 0 t) (iblk m c 1 t) (iblk m c 2 t) (iblk m c 3 t) (ix2 i j)
      = stepOf (V m c main_arg0) (V m c main_arg1) (V m c main_arg2) (V m c main_arg3) (ix2 ⟨2 * t.val + i.val, by omega⟩ j) := by
  refine (tile_delta _ _ _ _ _).trans ?_
  unfold stepOf
  rw [show iblk m c 0 t (ix2 i j) = V m c main_arg0 (ix2 ⟨2 * t.val + i.val, by omega⟩ j) from read_0 (V m c main_arg0) t ht i j]
  rw [show iblk m c 1 t (ix2 i j) = V m c main_arg1 (ix2 ⟨2 * t.val + i.val, by omega⟩ j) from read_1 (V m c main_arg1) t ht i j]
  rw [show iblk m c 2 t (ix2 i j) = V m c main_arg2 (ix2 ⟨2 * t.val + i.val, by omega⟩ j) from read_2 (V m c main_arg2) t ht i j]
  rw [show iblk m c 3 t (ix2 i j) = V m c main_arg3 (ix2 ⟨2 * t.val + i.val, by omega⟩ j) from read_3 (V m c main_arg3) t ht i j]

theorem array_delta : (dats m 0 c).arrAt 4 cfg0.N = stepOf (V m c main_arg0) (V m c main_arg1) (V m c main_arg2) (V m c main_arg3) := by
  refine (dats m 0 c).arrAt_eq_of_covers 4 (stepOf (V m c main_arg0) (V m c main_arg1) (V m c main_arg2) (V m c main_arg3)) (by decide +kernel) fun t hf y => ?_
  obtain ⟨-, -, -, -, e4, e5, e6⟩ := index_eq t
  rw [after0_4]
  idx_vars y
  generalize hb : stepOf (V m c main_arg0) (V m c main_arg1) (V m c main_arg2) (V m c main_arg3) = b
  blk_simp
  refine (block_delta m c t t.isLt y0 y1).trans ?_
  rw [hb]
  blk_ext [e4]

theorem block_m (t : Fin cfg0.N) (ht : t.val < 1) (i : Fin 2) (j : Fin 512) :
    out0_5 (iblk m c 0 t) (iblk m c 1 t) (iblk m c 2 t) (iblk m c 3 t) (ix2 i j)
      = mOf (V m c main_arg1) (V m c main_arg2) (ix2 ⟨2 * t.val + i.val, by omega⟩ j) := by
  refine (tile_m _ _ _ _ _).trans ?_
  unfold mOf
  rw [show iblk m c 1 t (ix2 i j) = V m c main_arg1 (ix2 ⟨2 * t.val + i.val, by omega⟩ j) from read_1 (V m c main_arg1) t ht i j]
  rw [show iblk m c 2 t (ix2 i j) = V m c main_arg2 (ix2 ⟨2 * t.val + i.val, by omega⟩ j) from read_2 (V m c main_arg2) t ht i j]

theorem array_m : (dats m 0 c).arrAt 5 cfg0.N = mOf (V m c main_arg1) (V m c main_arg2) := by
  refine (dats m 0 c).arrAt_eq_of_covers 5 (mOf (V m c main_arg1) (V m c main_arg2)) (by decide +kernel) fun t hf y => ?_
  obtain ⟨-, -, -, -, e4, e5, e6⟩ := index_eq t
  rw [after0_5]
  idx_vars y
  generalize hb : mOf (V m c main_arg1) (V m c main_arg2) = b
  blk_simp
  refine (block_m m c t t.isLt y0 y1).trans ?_
  rw [hb]
  blk_ext [e5]

theorem block_v (t : Fin cfg0.N) (ht : t.val < 1) (i : Fin 2) (j : Fin 512) :
    out0_6 (iblk m c 0 t) (iblk m c 1 t) (iblk m c 2 t) (iblk m c 3 t) (ix2 i j)
      = vOf (V m c main_arg1) (V m c main_arg3) (ix2 ⟨2 * t.val + i.val, by omega⟩ j) := by
  refine (tile_v _ _ _ _ _).trans ?_
  unfold vOf
  rw [show iblk m c 1 t (ix2 i j) = V m c main_arg1 (ix2 ⟨2 * t.val + i.val, by omega⟩ j) from read_1 (V m c main_arg1) t ht i j]
  rw [show iblk m c 3 t (ix2 i j) = V m c main_arg3 (ix2 ⟨2 * t.val + i.val, by omega⟩ j) from read_3 (V m c main_arg3) t ht i j]

theorem array_v : (dats m 0 c).arrAt 6 cfg0.N = vOf (V m c main_arg1) (V m c main_arg3) := by
  refine (dats m 0 c).arrAt_eq_of_covers 6 (vOf (V m c main_arg1) (V m c main_arg3)) (by decide +kernel) fun t hf y => ?_
  obtain ⟨-, -, -, -, e4, e5, e6⟩ := index_eq t
  rw [after0_6]
  idx_vars y
  generalize hb : vOf (V m c main_arg1) (V m c main_arg3) = b
  blk_simp
  refine (block_v m c t t.isLt y0 y1).trans ?_
  rw [hb]
  blk_ext [e6]

/-- The step of the weights, as the reference computes it of the arguments. -/
def resDelta : Vec Ideal S2x512 .f32 :=
  val_main_v23 (F := Ideal) (m ((c.tc : Thread nD τ).loc main_arg0)) (m ((c.tc : Thread nD τ).loc main_arg1))
    (m ((c.tc : Thread nD τ).loc main_arg2)) (m ((c.tc : Thread nD τ).loc main_arg3))

/-- The new first moments, as the reference computes them of the arguments. -/
def resM : Vec Ideal S2x512 .f32 :=
  val_main_v4 (F := Ideal) (m ((c.tc : Thread nD τ).loc main_arg1)) (m ((c.tc : Thread nD τ).loc main_arg2))

/-- The new second moments, as the reference computes them of the arguments. -/
def resV : Vec Ideal S2x512 .f32 :=
  val_main_v10 (F := Ideal) (m ((c.tc : Thread nD τ).loc main_arg1)) (m ((c.tc : Thread nD τ).loc main_arg3))

theorem value_delta : (dats m 0 c).arrAt 4 cfg0.N = resDelta m c := (array_delta m c).trans rfl
theorem value_m : (dats m 0 c).arrAt 5 cfg0.N = resM m c := (array_m m c).trans rfl
theorem value_v : (dats m 0 c).arrAt 6 cfg0.N = resV m c := (array_v m c).trans rfl

/-- Every run of the program ends with the reference's three results and the arguments as they were. -/
theorem run (ρ : Dev nD → PrngReg) : θ_run (defs (F := Ideal)) (onTc (τ := τ) (main (F := Ideal))) ⟨m, fun _ => 0, ρ⟩ fun r => ∀ c : Dev nD,
      r.2.mem ((c.tc : Thread nD τ).loc main_v0_0) = resDelta m c ∧ r.2.mem ((c.tc : Thread nD τ).loc main_v0_1) = resM m c
      ∧ r.2.mem ((c.tc : Thread nD τ).loc main_v0_2) = resV m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) := by
  run_from run_main m ρ
  · exact value_delta m c
  · exact value_m m c
  · exact value_v m c

end Cert.AdamGroupIdeal.Proj

end
-- ==== Proof.Proj.AdamHalf.lean ====
/-
  The optimiser's update of the weights of half a head's width.
-/
module

public import proofs.«01_k».proof.Proof.Proj.Adam
public import proofs.«01_k».proof.Proof.Gen.AdamHalfIdeal.Frame
public import proofs.«01_k».proof.Proof.Gen.AdamHalfReferenceIdeal.Read

@[expose] public section

set_option maxRecDepth 16384

noncomputable section

namespace Cert.AdamHalfIdeal.Proj

open Idealize.ShloMosaic Idealize.ShloMosaic.TcCoe Cert.Adam
open Cert.AdamHalfIdeal Cert.AdamHalfIdeal.Gen Cert.AdamHalfReferenceIdeal.Read

section Tile

variable (x0 x1 x2 x3 : Vec Ideal S2x256 .f32) (y : S2x256.Idx)

theorem tile_m : out0_5 x0 x1 x2 x3 y = newM (x1 y) (x2 y) := by
  unfold out0_5
  rw [View.canon_cons_unit_lit _ _ _ (by decide), View.ld_unit_lit _ _ (by decide), View.ld_unit_lit _ _ (by decide)]
  simp only [k0_pay1]
  rfl

theorem tile_v : out0_6 x0 x1 x2 x3 y = newV (x1 y) (x3 y) := by
  unfold out0_6
  rw [View.canon_cons_unit_lit _ _ _ (by decide), View.ld_unit_lit _ _ (by decide), View.ld_unit_lit _ _ (by decide)]
  simp only [k0_pay2]
  rfl

theorem tile_delta : out0_4 x0 x1 x2 x3 y = delta (x0 y) (x1 y) (x2 y) (x3 y) := by
  unfold out0_4
  rw [View.canon_cons_unit_lit _ _ _ (by decide), View.ld_unit_lit _ _ (by decide), View.ld_unit_lit _ _ (by decide),
    View.ld_unit_lit _ _ (by decide), View.ld_unit_lit _ _ (by decide)]
  simp only [k0_pay3, k0_pay1, k0_pay2]
  rfl

end Tile

theorem index_eq (t : Fin cfg0.N) : win0_0.index t = ![t.val, 0] ∧ win0_1.index t = ![t.val, 0] ∧ win0_2.index t = ![t.val, 0]
    ∧ win0_3.index t = ![t.val, 0] ∧ win0_4.index t = ![t.val, 0] ∧ win0_5.index t = ![t.val, 0] ∧ win0_6.index t = ![t.val, 0] := by
  revert t; decide +kernel

variable (m : (ℓ : Loc nD τ sig) → Buf (Elt Ideal) ℓ) (c : Dev nD)

def stepOf (a0 a1 a2 a3 : Vec Ideal S2x256 .f32) : Vec Ideal S2x256 .f32 := fun y => delta (a0 y) (a1 y) (a2 y) (a3 y)
def mOf (a1 a2 : Vec Ideal S2x256 .f32) : Vec Ideal S2x256 .f32 := fun y => newM (a1 y) (a2 y)
def vOf (a1 a3 : Vec Ideal S2x256 .f32) : Vec Ideal S2x256 .f32 := fun y => newV (a1 y) (a3 y)

theorem read_0 (a : Vec Ideal S2x256 .f32) (t : Fin cfg0.N) (ht : t.val < 1) (i : Fin 2) (j : Fin 256) :
    ((cfg0.win 0).blk t).view.read (Elt Ideal) a (ix2 i j) = a (ix2 ⟨2 * t.val + i.val, by omega⟩ j) := by
  obtain ⟨e0, e1, e2, e3, -⟩ := index_eq t
  blk_ext [e0]

theorem read_1 (a : Vec Ideal S2x256 .f32) (t : Fin cfg0.N) (ht : t.val < 1) (i : Fin 2) (j : Fin 256) :
    ((cfg0.win 1).blk t).view.read (Elt Ideal) a (ix2 i j) = a (ix2 ⟨2 * t.val + i.val, by omega⟩ j) := by
  obtain ⟨e0, e1, e2, e3, -⟩ := index_eq t
  blk_ext [e1]

theorem read_2 (a : Vec Ideal S2x256 .f32) (t : Fin cfg0.N) (ht : t.val < 1) (i : Fin 2) (j : Fin 256) :
    ((cfg0.win 2).blk t).view.read (Elt Ideal) a (ix2 i j) = a (ix2 ⟨2 * t.val + i.val, by omega⟩ j) := by
  obtain ⟨e0, e1, e2, e3, -⟩ := index_eq t
  blk_ext [e2]

theorem read_3 (a : Vec Ideal S2x256 .f32) (t : Fin cfg0.N) (ht : t.val < 1) (i : Fin 2) (j : Fin 256) :
    ((cfg0.win 3).blk t).view.read (Elt Ideal) a (ix2 i j) = a (ix2 ⟨2 * t.val + i.val, by omega⟩ j) := by
  obtain ⟨e0, e1, e2, e3, -⟩ := index_eq t
  blk_ext [e3]

theorem block_delta (t : Fin cfg0.N) (ht : t.val < 1) (i : Fin 2) (j : Fin 256) :
    out0_4 (iblk m c 0 t) (iblk m c 1 t) (iblk m c 2 t) (iblk m c 3 t) (ix2 i j)
      = stepOf (V m c main_arg0) (V m c main_arg1) (V m c main_arg2) (V m c main_arg3) (ix2 ⟨2 * t.val + i.val, by omega⟩ j) := by
  refine (tile_delta _ _ _ _ _).trans ?_
  unfold stepOf
  rw [show iblk m c 0 t (ix2 i j) = V m c main_arg0 (ix2 ⟨2 * t.val + i.val, by omega⟩ j) from read_0 (V m c main_arg0) t ht i j]
  rw [show iblk m c 1 t (ix2 i j) = V m c main_arg1 (ix2 ⟨2 * t.val + i.val, by omega⟩ j) from read_1 (V m c main_arg1) t ht i j]
  rw [show iblk m c 2 t (ix2 i j) = V m c main_arg2 (ix2 ⟨2 * t.val + i.val, by omega⟩ j) from read_2 (V m c main_arg2) t ht i j]
  rw [show iblk m c 3 t (ix2 i j) = V m c main_arg3 (ix2 ⟨2 * t.val + i.val, by omega⟩ j) from read_3 (V m c main_arg3) t ht i j]

theorem array_delta : (dats m 0 c).arrAt 4 cfg0.N = stepOf (V m c main_arg0) (V m c main_arg1) (V m c main_arg2) (V m c main_arg3) := by
  refine (dats m 0 c).arrAt_eq_of_covers 4 (stepOf (V m c main_arg0) (V m c main_arg1) (V m c main_arg2) (V m c main_arg3)) (by decide +kernel) fun t hf y => ?_
  obtain ⟨-, -, -, -, e4, e5, e6⟩ := index_eq t
  rw [after0_4]
  idx_vars y
  generalize hb : stepOf (V m c main_arg0) (V m c main_arg1) (V m c main_arg2) (V m c main_arg3) = b
  blk_simp
  refine (block_delta m c t t.isLt y0 y1).trans ?_
  rw [hb]
  blk_ext [e4]

theorem block_m (t : Fin cfg0.N) (ht : t.val < 1) (i : Fin 2) (j : Fin 256) :
    out0_5 (iblk m c 0 t) (iblk m c 1 t) (iblk m c 2 t) (iblk m c 3 t) (ix2 i j)
      = mOf (V m c main_arg1) (V m c main_arg2) (ix2 ⟨2 * t.val + i.val, by omega⟩ j) := by
  refine (tile_m _ _ _ _ _).trans ?_
  unfold mOf
  rw [show iblk m c 1 t (ix2 i j) = V m c main_arg1 (ix2 ⟨2 * t.val + i.val, by omega⟩ j) from read_1 (V m c main_arg1) t ht i j]
  rw [show iblk m c 2 t (ix2 i j) = V m c main_arg2 (ix2 ⟨2 * t.val + i.val, by omega⟩ j) from read_2 (V m c main_arg2) t ht i j]

theorem array_m : (dats m 0 c).arrAt 5 cfg0.N = mOf (V m c main_arg1) (V m c main_arg2) := by
  refine (dats m 0 c).arrAt_eq_of_covers 5 (mOf (V m c main_arg1) (V m c main_arg2)) (by decide +kernel) fun t hf y => ?_
  obtain ⟨-, -, -, -, e4, e5, e6⟩ := index_eq t
  rw [after0_5]
  idx_vars y
  generalize hb : mOf (V m c main_arg1) (V m c main_arg2) = b
  blk_simp
  refine (block_m m c t t.isLt y0 y1).trans ?_
  rw [hb]
  blk_ext [e5]

theorem block_v (t : Fin cfg0.N) (ht : t.val < 1) (i : Fin 2) (j : Fin 256) :
    out0_6 (iblk m c 0 t) (iblk m c 1 t) (iblk m c 2 t) (iblk m c 3 t) (ix2 i j)
      = vOf (V m c main_arg1) (V m c main_arg3) (ix2 ⟨2 * t.val + i.val, by omega⟩ j) := by
  refine (tile_v _ _ _ _ _).trans ?_
  unfold vOf
  rw [show iblk m c 1 t (ix2 i j) = V m c main_arg1 (ix2 ⟨2 * t.val + i.val, by omega⟩ j) from read_1 (V m c main_arg1) t ht i j]
  rw [show iblk m c 3 t (ix2 i j) = V m c main_arg3 (ix2 ⟨2 * t.val + i.val, by omega⟩ j) from read_3 (V m c main_arg3) t ht i j]

theorem array_v : (dats m 0 c).arrAt 6 cfg0.N = vOf (V m c main_arg1) (V m c main_arg3) := by
  refine (dats m 0 c).arrAt_eq_of_covers 6 (vOf (V m c main_arg1) (V m c main_arg3)) (by decide +kernel) fun t hf y => ?_
  obtain ⟨-, -, -, -, e4, e5, e6⟩ := index_eq t
  rw [after0_6]
  idx_vars y
  generalize hb : vOf (V m c main_arg1) (V m c main_arg3) = b
  blk_simp
  refine (block_v m c t t.isLt y0 y1).trans ?_
  rw [hb]
  blk_ext [e6]

/-- The step of the weights, as the reference computes it of the arguments. -/
def resDelta : Vec Ideal S2x256 .f32 :=
  val_main_v23 (F := Ideal) (m ((c.tc : Thread nD τ).loc main_arg0)) (m ((c.tc : Thread nD τ).loc main_arg1))
    (m ((c.tc : Thread nD τ).loc main_arg2)) (m ((c.tc : Thread nD τ).loc main_arg3))

/-- The new first moments, as the reference computes them of the arguments. -/
def resM : Vec Ideal S2x256 .f32 :=
  val_main_v4 (F := Ideal) (m ((c.tc : Thread nD τ).loc main_arg1)) (m ((c.tc : Thread nD τ).loc main_arg2))

/-- The new second moments, as the reference computes them of the arguments. -/
def resV : Vec Ideal S2x256 .f32 :=
  val_main_v10 (F := Ideal) (m ((c.tc : Thread nD τ).loc main_arg1)) (m ((c.tc : Thread nD τ).loc main_arg3))

theorem value_delta : (dats m 0 c).arrAt 4 cfg0.N = resDelta m c := (array_delta m c).trans rfl
theorem value_m : (dats m 0 c).arrAt 5 cfg0.N = resM m c := (array_m m c).trans rfl
theorem value_v : (dats m 0 c).arrAt 6 cfg0.N = resV m c := (array_v m c).trans rfl

/-- Every run of the program ends with the reference's three results and the arguments as they were. -/
theorem run (ρ : Dev nD → PrngReg) : θ_run (defs (F := Ideal)) (onTc (τ := τ) (main (F := Ideal))) ⟨m, fun _ => 0, ρ⟩ fun r => ∀ c : Dev nD,
      r.2.mem ((c.tc : Thread nD τ).loc main_v0_0) = resDelta m c ∧ r.2.mem ((c.tc : Thread nD τ).loc main_v0_1) = resM m c
      ∧ r.2.mem ((c.tc : Thread nD τ).loc main_v0_2) = resV m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) := by
  run_from run_main m ρ
  · exact value_delta m c
  · exact value_m m c
  · exact value_v m c

end Cert.AdamHalfIdeal.Proj

end
-- ==== Proof.Proj.AdamHead.lean ====
/-
  The optimiser's update of the weights of a head's width.
-/
module

public import proofs.«01_k».proof.Proof.Proj.Adam
public import proofs.«01_k».proof.Proof.Gen.AdamHeadIdeal.Frame
public import proofs.«01_k».proof.Proof.Gen.AdamHeadReferenceIdeal.Read

@[expose] public section

set_option maxRecDepth 16384

noncomputable section

namespace Cert.AdamHeadIdeal.Proj

open Idealize.ShloMosaic Idealize.ShloMosaic.TcCoe Cert.Adam
open Cert.AdamHeadIdeal Cert.AdamHeadIdeal.Gen Cert.AdamHeadReferenceIdeal.Read

section Tile

variable (x0 x1 x2 x3 : Vec Ideal S2x192 .f32) (y : S2x192.Idx)

theorem tile_m : out0_5 x0 x1 x2 x3 y = newM (x1 y) (x2 y) := by
  unfold out0_5
  rw [View.canon_cons_unit_lit _ _ _ (by decide), View.ld_unit_lit _ _ (by decide), View.ld_unit_lit _ _ (by decide)]
  simp only [k0_pay1]
  rfl

theorem tile_v : out0_6 x0 x1 x2 x3 y = newV (x1 y) (x3 y) := by
  unfold out0_6
  rw [View.canon_cons_unit_lit _ _ _ (by decide), View.ld_unit_lit _ _ (by decide), View.ld_unit_lit _ _ (by decide)]
  simp only [k0_pay2]
  rfl

theorem tile_delta : out0_4 x0 x1 x2 x3 y = delta (x0 y) (x1 y) (x2 y) (x3 y) := by
  unfold out0_4
  rw [View.canon_cons_unit_lit _ _ _ (by decide), View.ld_unit_lit _ _ (by decide), View.ld_unit_lit _ _ (by decide),
    View.ld_unit_lit _ _ (by decide), View.ld_unit_lit _ _ (by decide)]
  simp only [k0_pay3, k0_pay1, k0_pay2]
  rfl

end Tile

theorem index_eq (t : Fin cfg0.N) : win0_0.index t = ![t.val, 0] ∧ win0_1.index t = ![t.val, 0] ∧ win0_2.index t = ![t.val, 0]
    ∧ win0_3.index t = ![t.val, 0] ∧ win0_4.index t = ![t.val, 0] ∧ win0_5.index t = ![t.val, 0] ∧ win0_6.index t = ![t.val, 0] := by
  revert t; decide +kernel

variable (m : (ℓ : Loc nD τ sig) → Buf (Elt Ideal) ℓ) (c : Dev nD)

def stepOf (a0 a1 a2 a3 : Vec Ideal S2x192 .f32) : Vec Ideal S2x192 .f32 := fun y => delta (a0 y) (a1 y) (a2 y) (a3 y)
def mOf (a1 a2 : Vec Ideal S2x192 .f32) : Vec Ideal S2x192 .f32 := fun y => newM (a1 y) (a2 y)
def vOf (a1 a3 : Vec Ideal S2x192 .f32) : Vec Ideal S2x192 .f32 := fun y => newV (a1 y) (a3 y)

theorem read_0 (a : Vec Ideal S2x192 .f32) (t : Fin cfg0.N) (ht : t.val < 1) (i : Fin 2) (j : Fin 192) :
    ((cfg0.win 0).blk t).view.read (Elt Ideal) a (ix2 i j) = a (ix2 ⟨2 * t.val + i.val, by omega⟩ j) := by
  obtain ⟨e0, e1, e2, e3, -⟩ := index_eq t
  blk_ext [e0]

theorem read_1 (a : Vec Ideal S2x192 .f32) (t : Fin cfg0.N) (ht : t.val < 1) (i : Fin 2) (j : Fin 192) :
    ((cfg0.win 1).blk t).view.read (Elt Ideal) a (ix2 i j) = a (ix2 ⟨2 * t.val + i.val, by omega⟩ j) := by
  obtain ⟨e0, e1, e2, e3, -⟩ := index_eq t
  blk_ext [e1]

theorem read_2 (a : Vec Ideal S2x192 .f32) (t : Fin cfg0.N) (ht : t.val < 1) (i : Fin 2) (j : Fin 192) :
    ((cfg0.win 2).blk t).view.read (Elt Ideal) a (ix2 i j) = a (ix2 ⟨2 * t.val + i.val, by omega⟩ j) := by
  obtain ⟨e0, e1, e2, e3, -⟩ := index_eq t
  blk_ext [e2]

theorem read_3 (a : Vec Ideal S2x192 .f32) (t : Fin cfg0.N) (ht : t.val < 1) (i : Fin 2) (j : Fin 192) :
    ((cfg0.win 3).blk t).view.read (Elt Ideal) a (ix2 i j) = a (ix2 ⟨2 * t.val + i.val, by omega⟩ j) := by
  obtain ⟨e0, e1, e2, e3, -⟩ := index_eq t
  blk_ext [e3]

theorem block_delta (t : Fin cfg0.N) (ht : t.val < 1) (i : Fin 2) (j : Fin 192) :
    out0_4 (iblk m c 0 t) (iblk m c 1 t) (iblk m c 2 t) (iblk m c 3 t) (ix2 i j)
      = stepOf (V m c main_arg0) (V m c main_arg1) (V m c main_arg2) (V m c main_arg3) (ix2 ⟨2 * t.val + i.val, by omega⟩ j) := by
  refine (tile_delta _ _ _ _ _).trans ?_
  unfold stepOf
  rw [show iblk m c 0 t (ix2 i j) = V m c main_arg0 (ix2 ⟨2 * t.val + i.val, by omega⟩ j) from read_0 (V m c main_arg0) t ht i j]
  rw [show iblk m c 1 t (ix2 i j) = V m c main_arg1 (ix2 ⟨2 * t.val + i.val, by omega⟩ j) from read_1 (V m c main_arg1) t ht i j]
  rw [show iblk m c 2 t (ix2 i j) = V m c main_arg2 (ix2 ⟨2 * t.val + i.val, by omega⟩ j) from read_2 (V m c main_arg2) t ht i j]
  rw [show iblk m c 3 t (ix2 i j) = V m c main_arg3 (ix2 ⟨2 * t.val + i.val, by omega⟩ j) from read_3 (V m c main_arg3) t ht i j]

theorem array_delta : (dats m 0 c).arrAt 4 cfg0.N = stepOf (V m c main_arg0) (V m c main_arg1) (V m c main_arg2) (V m c main_arg3) := by
  refine (dats m 0 c).arrAt_eq_of_covers 4 (stepOf (V m c main_arg0) (V m c main_arg1) (V m c main_arg2) (V m c main_arg3)) (by decide +kernel) fun t hf y => ?_
  obtain ⟨-, -, -, -, e4, e5, e6⟩ := index_eq t
  rw [after0_4]
  idx_vars y
  generalize hb : stepOf (V m c main_arg0) (V m c main_arg1) (V m c main_arg2) (V m c main_arg3) = b
  blk_simp
  refine (block_delta m c t t.isLt y0 y1).trans ?_
  rw [hb]
  blk_ext [e4]

theorem block_m (t : Fin cfg0.N) (ht : t.val < 1) (i : Fin 2) (j : Fin 192) :
    out0_5 (iblk m c 0 t) (iblk m c 1 t) (iblk m c 2 t) (iblk m c 3 t) (ix2 i j)
      = mOf (V m c main_arg1) (V m c main_arg2) (ix2 ⟨2 * t.val + i.val, by omega⟩ j) := by
  refine (tile_m _ _ _ _ _).trans ?_
  unfold mOf
  rw [show iblk m c 1 t (ix2 i j) = V m c main_arg1 (ix2 ⟨2 * t.val + i.val, by omega⟩ j) from read_1 (V m c main_arg1) t ht i j]
  rw [show iblk m c 2 t (ix2 i j) = V m c main_arg2 (ix2 ⟨2 * t.val + i.val, by omega⟩ j) from read_2 (V m c main_arg2) t ht i j]

theorem array_m : (dats m 0 c).arrAt 5 cfg0.N = mOf (V m c main_arg1) (V m c main_arg2) := by
  refine (dats m 0 c).arrAt_eq_of_covers 5 (mOf (V m c main_arg1) (V m c main_arg2)) (by decide +kernel) fun t hf y => ?_
  obtain ⟨-, -, -, -, e4, e5, e6⟩ := index_eq t
  rw [after0_5]
  idx_vars y
  generalize hb : mOf (V m c main_arg1) (V m c main_arg2) = b
  blk_simp
  refine (block_m m c t t.isLt y0 y1).trans ?_
  rw [hb]
  blk_ext [e5]

theorem block_v (t : Fin cfg0.N) (ht : t.val < 1) (i : Fin 2) (j : Fin 192) :
    out0_6 (iblk m c 0 t) (iblk m c 1 t) (iblk m c 2 t) (iblk m c 3 t) (ix2 i j)
      = vOf (V m c main_arg1) (V m c main_arg3) (ix2 ⟨2 * t.val + i.val, by omega⟩ j) := by
  refine (tile_v _ _ _ _ _).trans ?_
  unfold vOf
  rw [show iblk m c 1 t (ix2 i j) = V m c main_arg1 (ix2 ⟨2 * t.val + i.val, by omega⟩ j) from read_1 (V m c main_arg1) t ht i j]
  rw [show iblk m c 3 t (ix2 i j) = V m c main_arg3 (ix2 ⟨2 * t.val + i.val, by omega⟩ j) from read_3 (V m c main_arg3) t ht i j]

theorem array_v : (dats m 0 c).arrAt 6 cfg0.N = vOf (V m c main_arg1) (V m c main_arg3) := by
  refine (dats m 0 c).arrAt_eq_of_covers 6 (vOf (V m c main_arg1) (V m c main_arg3)) (by decide +kernel) fun t hf y => ?_
  obtain ⟨-, -, -, -, e4, e5, e6⟩ := index_eq t
  rw [after0_6]
  idx_vars y
  generalize hb : vOf (V m c main_arg1) (V m c main_arg3) = b
  blk_simp
  refine (block_v m c t t.isLt y0 y1).trans ?_
  rw [hb]
  blk_ext [e6]

/-- The step of the weights, as the reference computes it of the arguments. -/
def resDelta : Vec Ideal S2x192 .f32 :=
  val_main_v23 (F := Ideal) (m ((c.tc : Thread nD τ).loc main_arg0)) (m ((c.tc : Thread nD τ).loc main_arg1))
    (m ((c.tc : Thread nD τ).loc main_arg2)) (m ((c.tc : Thread nD τ).loc main_arg3))

/-- The new first moments, as the reference computes them of the arguments. -/
def resM : Vec Ideal S2x192 .f32 :=
  val_main_v4 (F := Ideal) (m ((c.tc : Thread nD τ).loc main_arg1)) (m ((c.tc : Thread nD τ).loc main_arg2))

/-- The new second moments, as the reference computes them of the arguments. -/
def resV : Vec Ideal S2x192 .f32 :=
  val_main_v10 (F := Ideal) (m ((c.tc : Thread nD τ).loc main_arg1)) (m ((c.tc : Thread nD τ).loc main_arg3))

theorem value_delta : (dats m 0 c).arrAt 4 cfg0.N = resDelta m c := (array_delta m c).trans rfl
theorem value_m : (dats m 0 c).arrAt 5 cfg0.N = resM m c := (array_m m c).trans rfl
theorem value_v : (dats m 0 c).arrAt 6 cfg0.N = resV m c := (array_v m c).trans rfl

/-- Every run of the program ends with the reference's three results and the arguments as they were. -/
theorem run (ρ : Dev nD → PrngReg) : θ_run (defs (F := Ideal)) (onTc (τ := τ) (main (F := Ideal))) ⟨m, fun _ => 0, ρ⟩ fun r => ∀ c : Dev nD,
      r.2.mem ((c.tc : Thread nD τ).loc main_v0_0) = resDelta m c ∧ r.2.mem ((c.tc : Thread nD τ).loc main_v0_1) = resM m c
      ∧ r.2.mem ((c.tc : Thread nD τ).loc main_v0_2) = resV m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) := by
  run_from run_main m ρ
  · exact value_delta m c
  · exact value_m m c
  · exact value_v m c

end Cert.AdamHeadIdeal.Proj

end
-- ==== Proof.Proj.AdamPool.lean ====
/-
  The optimiser's update of the pools of every head.
-/
module

public import proofs.«01_k».proof.Proof.Proj.Adam
public import proofs.«01_k».proof.Proof.Gen.AdamPoolIdeal.Frame
public import proofs.«01_k».proof.Proof.Gen.AdamPoolReferenceIdeal.Read

@[expose] public section

set_option maxRecDepth 16384

noncomputable section

namespace Cert.AdamPoolIdeal.Proj

open Idealize.ShloMosaic Idealize.ShloMosaic.TcCoe Cert.Adam
open Cert.AdamPoolIdeal Cert.AdamPoolIdeal.Gen Cert.AdamPoolReferenceIdeal.Read

section Tile

variable (x0 x1 x2 x3 : Vec Ideal S1024x128 .f32) (y : S1024x128.Idx)

theorem tile_m : out0_5 x0 x1 x2 x3 y = newM (x1 y) (x2 y) := by
  unfold out0_5
  rw [View.canon_cons_unit_lit _ _ _ (by decide), View.ld_unit_lit _ _ (by decide), View.ld_unit_lit _ _ (by decide)]
  simp only [k0_pay2, k0_pay1, shapeCast_self]
  rfl

theorem tile_v : out0_6 x0 x1 x2 x3 y = newV (x1 y) (x3 y) := by
  unfold out0_6
  rw [View.canon_cons_unit_lit _ _ _ (by decide), View.ld_unit_lit _ _ (by decide), View.ld_unit_lit _ _ (by decide)]
  simp only [k0_pay3, k0_pay1, shapeCast_self]
  rfl

theorem tile_delta : out0_4 x0 x1 x2 x3 y = delta (x0 y) (x1 y) (x2 y) (x3 y) := by
  unfold out0_4
  rw [View.canon_cons_unit_lit _ _ _ (by decide), View.ld_unit_lit _ _ (by decide), View.ld_unit_lit _ _ (by decide),
    View.ld_unit_lit _ _ (by decide), View.ld_unit_lit _ _ (by decide)]
  simp only [k0_pay4, k0_pay2, k0_pay3, k0_pay1, shapeCast_self]
  rfl

end Tile

theorem index_eq (t : Fin cfg0.N) : win0_0.index t = ![t.val, 0] ∧ win0_1.index t = ![t.val, 0] ∧ win0_2.index t = ![t.val, 0]
    ∧ win0_3.index t = ![t.val, 0] ∧ win0_4.index t = ![t.val, 0] ∧ win0_5.index t = ![t.val, 0] ∧ win0_6.index t = ![t.val, 0] := by
  revert t; decide +kernel

variable (m : (ℓ : Loc nD τ sig) → Buf (Elt Ideal) ℓ) (c : Dev nD)

def stepOf (a0 a1 a2 a3 : Vec Ideal S1024x128 .f32) : Vec Ideal S1024x128 .f32 := fun y => delta (a0 y) (a1 y) (a2 y) (a3 y)
def mOf (a1 a2 : Vec Ideal S1024x128 .f32) : Vec Ideal S1024x128 .f32 := fun y => newM (a1 y) (a2 y)
def vOf (a1 a3 : Vec Ideal S1024x128 .f32) : Vec Ideal S1024x128 .f32 := fun y => newV (a1 y) (a3 y)

theorem read_0 (a : Vec Ideal S1024x128 .f32) (t : Fin cfg0.N) (ht : t.val < 1) (i : Fin 1024) (j : Fin 128) :
    ((cfg0.win 0).blk t).view.read (Elt Ideal) a (ix2 i j) = a (ix2 ⟨1024 * t.val + i.val, by omega⟩ j) := by
  obtain ⟨e0, e1, e2, e3, -⟩ := index_eq t
  blk_ext [e0]

theorem read_1 (a : Vec Ideal S1024x128 .f32) (t : Fin cfg0.N) (ht : t.val < 1) (i : Fin 1024) (j : Fin 128) :
    ((cfg0.win 1).blk t).view.read (Elt Ideal) a (ix2 i j) = a (ix2 ⟨1024 * t.val + i.val, by omega⟩ j) := by
  obtain ⟨e0, e1, e2, e3, -⟩ := index_eq t
  blk_ext [e1]

theorem read_2 (a : Vec Ideal S1024x128 .f32) (t : Fin cfg0.N) (ht : t.val < 1) (i : Fin 1024) (j : Fin 128) :
    ((cfg0.win 2).blk t).view.read (Elt Ideal) a (ix2 i j) = a (ix2 ⟨1024 * t.val + i.val, by omega⟩ j) := by
  obtain ⟨e0, e1, e2, e3, -⟩ := index_eq t
  blk_ext [e2]

theorem read_3 (a : Vec Ideal S1024x128 .f32) (t : Fin cfg0.N) (ht : t.val < 1) (i : Fin 1024) (j : Fin 128) :
    ((cfg0.win 3).blk t).view.read (Elt Ideal) a (ix2 i j) = a (ix2 ⟨1024 * t.val + i.val, by omega⟩ j) := by
  obtain ⟨e0, e1, e2, e3, -⟩ := index_eq t
  blk_ext [e3]

theorem block_delta (t : Fin cfg0.N) (ht : t.val < 1) (i : Fin 1024) (j : Fin 128) :
    out0_4 (iblk m c 0 t) (iblk m c 1 t) (iblk m c 2 t) (iblk m c 3 t) (ix2 i j)
      = stepOf (V m c main_v0) (V m c main_v1) (V m c main_v2) (V m c main_v3) (ix2 ⟨1024 * t.val + i.val, by omega⟩ j) := by
  refine (tile_delta _ _ _ _ _).trans ?_
  unfold stepOf
  rw [show iblk m c 0 t (ix2 i j) = V m c main_v0 (ix2 ⟨1024 * t.val + i.val, by omega⟩ j) from read_0 (V m c main_v0) t ht i j]
  rw [show iblk m c 1 t (ix2 i j) = V m c main_v1 (ix2 ⟨1024 * t.val + i.val, by omega⟩ j) from read_1 (V m c main_v1) t ht i j]
  rw [show iblk m c 2 t (ix2 i j) = V m c main_v2 (ix2 ⟨1024 * t.val + i.val, by omega⟩ j) from read_2 (V m c main_v2) t ht i j]
  rw [show iblk m c 3 t (ix2 i j) = V m c main_v3 (ix2 ⟨1024 * t.val + i.val, by omega⟩ j) from read_3 (V m c main_v3) t ht i j]

theorem array_delta : (dats m 0 c).arrAt 4 cfg0.N = stepOf (V m c main_v0) (V m c main_v1) (V m c main_v2) (V m c main_v3) := by
  refine (dats m 0 c).arrAt_eq_of_covers 4 (stepOf (V m c main_v0) (V m c main_v1) (V m c main_v2) (V m c main_v3)) (by decide +kernel) fun t hf y => ?_
  obtain ⟨-, -, -, -, e4, e5, e6⟩ := index_eq t
  rw [after0_4]
  idx_vars y
  generalize hb : stepOf (V m c main_v0) (V m c main_v1) (V m c main_v2) (V m c main_v3) = b
  blk_simp
  refine (block_delta m c t t.isLt y0 y1).trans ?_
  rw [hb]
  blk_ext [e4]

theorem block_m (t : Fin cfg0.N) (ht : t.val < 1) (i : Fin 1024) (j : Fin 128) :
    out0_5 (iblk m c 0 t) (iblk m c 1 t) (iblk m c 2 t) (iblk m c 3 t) (ix2 i j)
      = mOf (V m c main_v1) (V m c main_v2) (ix2 ⟨1024 * t.val + i.val, by omega⟩ j) := by
  refine (tile_m _ _ _ _ _).trans ?_
  unfold mOf
  rw [show iblk m c 1 t (ix2 i j) = V m c main_v1 (ix2 ⟨1024 * t.val + i.val, by omega⟩ j) from read_1 (V m c main_v1) t ht i j]
  rw [show iblk m c 2 t (ix2 i j) = V m c main_v2 (ix2 ⟨1024 * t.val + i.val, by omega⟩ j) from read_2 (V m c main_v2) t ht i j]

theorem array_m : (dats m 0 c).arrAt 5 cfg0.N = mOf (V m c main_v1) (V m c main_v2) := by
  refine (dats m 0 c).arrAt_eq_of_covers 5 (mOf (V m c main_v1) (V m c main_v2)) (by decide +kernel) fun t hf y => ?_
  obtain ⟨-, -, -, -, e4, e5, e6⟩ := index_eq t
  rw [after0_5]
  idx_vars y
  generalize hb : mOf (V m c main_v1) (V m c main_v2) = b
  blk_simp
  refine (block_m m c t t.isLt y0 y1).trans ?_
  rw [hb]
  blk_ext [e5]

theorem block_v (t : Fin cfg0.N) (ht : t.val < 1) (i : Fin 1024) (j : Fin 128) :
    out0_6 (iblk m c 0 t) (iblk m c 1 t) (iblk m c 2 t) (iblk m c 3 t) (ix2 i j)
      = vOf (V m c main_v1) (V m c main_v3) (ix2 ⟨1024 * t.val + i.val, by omega⟩ j) := by
  refine (tile_v _ _ _ _ _).trans ?_
  unfold vOf
  rw [show iblk m c 1 t (ix2 i j) = V m c main_v1 (ix2 ⟨1024 * t.val + i.val, by omega⟩ j) from read_1 (V m c main_v1) t ht i j]
  rw [show iblk m c 3 t (ix2 i j) = V m c main_v3 (ix2 ⟨1024 * t.val + i.val, by omega⟩ j) from read_3 (V m c main_v3) t ht i j]

theorem array_v : (dats m 0 c).arrAt 6 cfg0.N = vOf (V m c main_v1) (V m c main_v3) := by
  refine (dats m 0 c).arrAt_eq_of_covers 6 (vOf (V m c main_v1) (V m c main_v3)) (by decide +kernel) fun t hf y => ?_
  obtain ⟨-, -, -, -, e4, e5, e6⟩ := index_eq t
  rw [after0_6]
  idx_vars y
  generalize hb : vOf (V m c main_v1) (V m c main_v3) = b
  blk_simp
  refine (block_v m c t t.isLt y0 y1).trans ?_
  rw [hb]
  blk_ext [e6]

/-- The step of the weights, as the reference computes it of the arguments. -/
def resDelta : Vec Ideal S2x4x128x128 .f32 :=
  val_main_v23 (F := Ideal) (m ((c.tc : Thread nD τ).loc main_arg0)) (m ((c.tc : Thread nD τ).loc main_arg1))
    (m ((c.tc : Thread nD τ).loc main_arg2)) (m ((c.tc : Thread nD τ).loc main_arg3))

/-- The new first moments, as the reference computes them of the arguments. -/
def resM : Vec Ideal S2x4x128x128 .f32 :=
  val_main_v4 (F := Ideal) (m ((c.tc : Thread nD τ).loc main_arg1)) (m ((c.tc : Thread nD τ).loc main_arg2))

/-- The new second moments, as the reference computes them of the arguments. -/
def resV : Vec Ideal S2x4x128x128 .f32 :=
  val_main_v10 (F := Ideal) (m ((c.tc : Thread nD τ).loc main_arg1)) (m ((c.tc : Thread nD τ).loc main_arg3))

theorem entry_0 : V m c main_v0 = shapeCast S1024x128 (m ((c.tc : Thread nD τ).loc main_arg0)) shapeCasts_S2x4x128x128_S1024x128 := by
  entry_read
  rfl

theorem entry_1 : V m c main_v1 = shapeCast S1024x128 (m ((c.tc : Thread nD τ).loc main_arg1)) shapeCasts_S2x4x128x128_S1024x128 := by
  entry_read
  rfl

theorem entry_2 : V m c main_v2 = shapeCast S1024x128 (m ((c.tc : Thread nD τ).loc main_arg2)) shapeCasts_S2x4x128x128_S1024x128 := by
  entry_read
  rfl

theorem entry_3 : V m c main_v3 = shapeCast S1024x128 (m ((c.tc : Thread nD τ).loc main_arg3)) shapeCasts_S2x4x128x128_S1024x128 := by
  entry_read
  rfl

theorem value_delta : Pipeline.afterTail₀ cfgs (dats m) 0 (V0 m) [hostOps1] c main_v5 = resDelta m c := by
  have e : Pipeline.afterTail₀ cfgs (dats m) 0 (V0 m) [hostOps1] c main_v5
      = shapeCast S2x4x128x128 ((dats m 0 c).arrAt 4 cfg0.N) shapeCasts_S1024x128_S2x4x128x128 := by
    unfold Pipeline.afterTail₀
    simp only [hostOps1, List.flatten_cons, List.flatten_nil, List.append_nil]
    after_results
    exact congrArg (fun a => shapeCast S2x4x128x128 a shapeCasts_S1024x128_S2x4x128x128) (Pipeline.withArrays_arr spec0 (by decide) c (V0 m c)
      (fun w => (dats m 0 c).arrAt w cfg0.N) 4)
  rw [e, array_delta, entry_0, entry_1, entry_2, entry_3]
  exact back4 delta _ _ _ _ _ _

theorem value_m : Pipeline.afterTail₀ cfgs (dats m) 0 (V0 m) [hostOps1] c main_v6 = resM m c := by
  have e : Pipeline.afterTail₀ cfgs (dats m) 0 (V0 m) [hostOps1] c main_v6
      = shapeCast S2x4x128x128 ((dats m 0 c).arrAt 5 cfg0.N) shapeCasts_S1024x128_S2x4x128x128 := by
    unfold Pipeline.afterTail₀
    simp only [hostOps1, List.flatten_cons, List.flatten_nil, List.append_nil]
    after_results
    exact congrArg (fun a => shapeCast S2x4x128x128 a shapeCasts_S1024x128_S2x4x128x128) (Pipeline.withArrays_arr spec0 (by decide) c (V0 m c)
      (fun w => (dats m 0 c).arrAt w cfg0.N) 5)
  rw [e, array_m, entry_1, entry_2]
  exact back2 newM _ _ _ _

theorem value_v : Pipeline.afterTail₀ cfgs (dats m) 0 (V0 m) [hostOps1] c main_v7 = resV m c := by
  have e : Pipeline.afterTail₀ cfgs (dats m) 0 (V0 m) [hostOps1] c main_v7
      = shapeCast S2x4x128x128 ((dats m 0 c).arrAt 6 cfg0.N) shapeCasts_S1024x128_S2x4x128x128 := by
    unfold Pipeline.afterTail₀
    simp only [hostOps1, List.flatten_cons, List.flatten_nil, List.append_nil]
    after_results
    exact congrArg (fun a => shapeCast S2x4x128x128 a shapeCasts_S1024x128_S2x4x128x128) (Pipeline.withArrays_arr spec0 (by decide) c (V0 m c)
      (fun w => (dats m 0 c).arrAt w cfg0.N) 6)
  rw [e, array_v, entry_1, entry_3]
  exact back2 newV _ _ _ _

/-- Every run of the program ends with the reference's three results and the arguments as they were. -/
theorem run (ρ : Dev nD → PrngReg) : θ_run (defs (F := Ideal)) (onTc (τ := τ) (main (F := Ideal))) ⟨m, fun _ => 0, ρ⟩ fun r => ∀ c : Dev nD,
      r.2.mem ((c.tc : Thread nD τ).loc main_v5) = resDelta m c ∧ r.2.mem ((c.tc : Thread nD τ).loc main_v6) = resM m c
      ∧ r.2.mem ((c.tc : Thread nD τ).loc main_v7) = resV m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) := by
  refine (θ_run defs _ _).mono (fun r h c => ?_) (run_main m ρ)
  refine ⟨((h c).2 main_v5 (Pipeline.mem_restRefs_of main_v5 (by decide) (by decide))).trans (value_delta m c),
    ((h c).2 main_v6 (Pipeline.mem_restRefs_of main_v6 (by decide) (by decide))).trans (value_m m c),
    ((h c).2 main_v7 (Pipeline.mem_restRefs_of main_v7 (by decide) (by decide))).trans (value_v m c), ?_⟩
  exact ⟨((h c).2 main_arg0 (Pipeline.mem_restRefs_of main_arg0 (by decide) (by decide))).trans (W_main_arg0 m (dats m) c),
    ((h c).2 main_arg1 (Pipeline.mem_restRefs_of main_arg1 (by decide) (by decide))).trans (W_main_arg1 m (dats m) c),
    ((h c).2 main_arg2 (Pipeline.mem_restRefs_of main_arg2 (by decide) (by decide))).trans (W_main_arg2 m (dats m) c),
    ((h c).2 main_arg3 (Pipeline.mem_restRefs_of main_arg3 (by decide) (by decide))).trans (W_main_arg3 m (dats m) c)⟩

end Cert.AdamPoolIdeal.Proj

end
-- ==== Proof.Proj.AdamRank.lean ====
/-
  The optimiser's update of the low-rank factors.
-/
module

public import proofs.«01_k».proof.Proof.Proj.Adam
public import proofs.«01_k».proof.Proof.Gen.AdamRankIdeal.Frame
public import proofs.«01_k».proof.Proof.Gen.AdamRankReferenceIdeal.Read

@[expose] public section

set_option maxRecDepth 16384

noncomputable section

namespace Cert.AdamRankIdeal.Proj

open Idealize.ShloMosaic Idealize.ShloMosaic.TcCoe Cert.Adam
open Cert.AdamRankIdeal Cert.AdamRankIdeal.Gen Cert.AdamRankReferenceIdeal.Read

section Tile

variable (x0 x1 x2 x3 : Vec Ideal S32x64 .f32) (y : S32x64.Idx)

theorem tile_m : out0_5 x0 x1 x2 x3 y = newM (x1 y) (x2 y) := by
  unfold out0_5
  rw [View.canon_cons_unit_lit _ _ _ (by decide), View.ld_unit_lit _ _ (by decide), View.ld_unit_lit _ _ (by decide)]
  simp only [k0_pay2, k0_pay1, shapeCast_self]
  rfl

theorem tile_v : out0_6 x0 x1 x2 x3 y = newV (x1 y) (x3 y) := by
  unfold out0_6
  rw [View.canon_cons_unit_lit _ _ _ (by decide), View.ld_unit_lit _ _ (by decide), View.ld_unit_lit _ _ (by decide)]
  simp only [k0_pay3, k0_pay1, shapeCast_self]
  rfl

theorem tile_delta : out0_4 x0 x1 x2 x3 y = delta (x0 y) (x1 y) (x2 y) (x3 y) := by
  unfold out0_4
  rw [View.canon_cons_unit_lit _ _ _ (by decide), View.ld_unit_lit _ _ (by decide), View.ld_unit_lit _ _ (by decide),
    View.ld_unit_lit _ _ (by decide), View.ld_unit_lit _ _ (by decide)]
  simp only [k0_pay4, k0_pay2, k0_pay3, k0_pay1, shapeCast_self]
  rfl

end Tile

theorem index_eq (t : Fin cfg0.N) : win0_0.index t = ![t.val, 0] ∧ win0_1.index t = ![t.val, 0] ∧ win0_2.index t = ![t.val, 0]
    ∧ win0_3.index t = ![t.val, 0] ∧ win0_4.index t = ![t.val, 0] ∧ win0_5.index t = ![t.val, 0] ∧ win0_6.index t = ![t.val, 0] := by
  revert t; decide +kernel

variable (m : (ℓ : Loc nD τ sig) → Buf (Elt Ideal) ℓ) (c : Dev nD)

def stepOf (a0 a1 a2 a3 : Vec Ideal S32x64 .f32) : Vec Ideal S32x64 .f32 := fun y => delta (a0 y) (a1 y) (a2 y) (a3 y)
def mOf (a1 a2 : Vec Ideal S32x64 .f32) : Vec Ideal S32x64 .f32 := fun y => newM (a1 y) (a2 y)
def vOf (a1 a3 : Vec Ideal S32x64 .f32) : Vec Ideal S32x64 .f32 := fun y => newV (a1 y) (a3 y)

theorem read_0 (a : Vec Ideal S32x64 .f32) (t : Fin cfg0.N) (ht : t.val < 1) (i : Fin 32) (j : Fin 64) :
    ((cfg0.win 0).blk t).view.read (Elt Ideal) a (ix2 i j) = a (ix2 ⟨32 * t.val + i.val, by omega⟩ j) := by
  obtain ⟨e0, e1, e2, e3, -⟩ := index_eq t
  blk_ext [e0]

theorem read_1 (a : Vec Ideal S32x64 .f32) (t : Fin cfg0.N) (ht : t.val < 1) (i : Fin 32) (j : Fin 64) :
    ((cfg0.win 1).blk t).view.read (Elt Ideal) a (ix2 i j) = a (ix2 ⟨32 * t.val + i.val, by omega⟩ j) := by
  obtain ⟨e0, e1, e2, e3, -⟩ := index_eq t
  blk_ext [e1]

theorem read_2 (a : Vec Ideal S32x64 .f32) (t : Fin cfg0.N) (ht : t.val < 1) (i : Fin 32) (j : Fin 64) :
    ((cfg0.win 2).blk t).view.read (Elt Ideal) a (ix2 i j) = a (ix2 ⟨32 * t.val + i.val, by omega⟩ j) := by
  obtain ⟨e0, e1, e2, e3, -⟩ := index_eq t
  blk_ext [e2]

theorem read_3 (a : Vec Ideal S32x64 .f32) (t : Fin cfg0.N) (ht : t.val < 1) (i : Fin 32) (j : Fin 64) :
    ((cfg0.win 3).blk t).view.read (Elt Ideal) a (ix2 i j) = a (ix2 ⟨32 * t.val + i.val, by omega⟩ j) := by
  obtain ⟨e0, e1, e2, e3, -⟩ := index_eq t
  blk_ext [e3]

theorem block_delta (t : Fin cfg0.N) (ht : t.val < 1) (i : Fin 32) (j : Fin 64) :
    out0_4 (iblk m c 0 t) (iblk m c 1 t) (iblk m c 2 t) (iblk m c 3 t) (ix2 i j)
      = stepOf (V m c main_v0) (V m c main_v1) (V m c main_v2) (V m c main_v3) (ix2 ⟨32 * t.val + i.val, by omega⟩ j) := by
  refine (tile_delta _ _ _ _ _).trans ?_
  unfold stepOf
  rw [show iblk m c 0 t (ix2 i j) = V m c main_v0 (ix2 ⟨32 * t.val + i.val, by omega⟩ j) from read_0 (V m c main_v0) t ht i j]
  rw [show iblk m c 1 t (ix2 i j) = V m c main_v1 (ix2 ⟨32 * t.val + i.val, by omega⟩ j) from read_1 (V m c main_v1) t ht i j]
  rw [show iblk m c 2 t (ix2 i j) = V m c main_v2 (ix2 ⟨32 * t.val + i.val, by omega⟩ j) from read_2 (V m c main_v2) t ht i j]
  rw [show iblk m c 3 t (ix2 i j) = V m c main_v3 (ix2 ⟨32 * t.val + i.val, by omega⟩ j) from read_3 (V m c main_v3) t ht i j]

theorem array_delta : (dats m 0 c).arrAt 4 cfg0.N = stepOf (V m c main_v0) (V m c main_v1) (V m c main_v2) (V m c main_v3) := by
  refine (dats m 0 c).arrAt_eq_of_covers 4 (stepOf (V m c main_v0) (V m c main_v1) (V m c main_v2) (V m c main_v3)) (by decide +kernel) fun t hf y => ?_
  obtain ⟨-, -, -, -, e4, e5, e6⟩ := index_eq t
  rw [after0_4]
  idx_vars y
  generalize hb : stepOf (V m c main_v0) (V m c main_v1) (V m c main_v2) (V m c main_v3) = b
  blk_simp
  refine (block_delta m c t t.isLt y0 y1).trans ?_
  rw [hb]
  blk_ext [e4]

theorem block_m (t : Fin cfg0.N) (ht : t.val < 1) (i : Fin 32) (j : Fin 64) :
    out0_5 (iblk m c 0 t) (iblk m c 1 t) (iblk m c 2 t) (iblk m c 3 t) (ix2 i j)
      = mOf (V m c main_v1) (V m c main_v2) (ix2 ⟨32 * t.val + i.val, by omega⟩ j) := by
  refine (tile_m _ _ _ _ _).trans ?_
  unfold mOf
  rw [show iblk m c 1 t (ix2 i j) = V m c main_v1 (ix2 ⟨32 * t.val + i.val, by omega⟩ j) from read_1 (V m c main_v1) t ht i j]
  rw [show iblk m c 2 t (ix2 i j) = V m c main_v2 (ix2 ⟨32 * t.val + i.val, by omega⟩ j) from read_2 (V m c main_v2) t ht i j]

theorem array_m : (dats m 0 c).arrAt 5 cfg0.N = mOf (V m c main_v1) (V m c main_v2) := by
  refine (dats m 0 c).arrAt_eq_of_covers 5 (mOf (V m c main_v1) (V m c main_v2)) (by decide +kernel) fun t hf y => ?_
  obtain ⟨-, -, -, -, e4, e5, e6⟩ := index_eq t
  rw [after0_5]
  idx_vars y
  generalize hb : mOf (V m c main_v1) (V m c main_v2) = b
  blk_simp
  refine (block_m m c t t.isLt y0 y1).trans ?_
  rw [hb]
  blk_ext [e5]

theorem block_v (t : Fin cfg0.N) (ht : t.val < 1) (i : Fin 32) (j : Fin 64) :
    out0_6 (iblk m c 0 t) (iblk m c 1 t) (iblk m c 2 t) (iblk m c 3 t) (ix2 i j)
      = vOf (V m c main_v1) (V m c main_v3) (ix2 ⟨32 * t.val + i.val, by omega⟩ j) := by
  refine (tile_v _ _ _ _ _).trans ?_
  unfold vOf
  rw [show iblk m c 1 t (ix2 i j) = V m c main_v1 (ix2 ⟨32 * t.val + i.val, by omega⟩ j) from read_1 (V m c main_v1) t ht i j]
  rw [show iblk m c 3 t (ix2 i j) = V m c main_v3 (ix2 ⟨32 * t.val + i.val, by omega⟩ j) from read_3 (V m c main_v3) t ht i j]

theorem array_v : (dats m 0 c).arrAt 6 cfg0.N = vOf (V m c main_v1) (V m c main_v3) := by
  refine (dats m 0 c).arrAt_eq_of_covers 6 (vOf (V m c main_v1) (V m c main_v3)) (by decide +kernel) fun t hf y => ?_
  obtain ⟨-, -, -, -, e4, e5, e6⟩ := index_eq t
  rw [after0_6]
  idx_vars y
  generalize hb : vOf (V m c main_v1) (V m c main_v3) = b
  blk_simp
  refine (block_v m c t t.isLt y0 y1).trans ?_
  rw [hb]
  blk_ext [e6]

/-- The step of the weights, as the reference computes it of the arguments. -/
def resDelta : Vec Ideal S2x16x64 .f32 :=
  val_main_v23 (F := Ideal) (m ((c.tc : Thread nD τ).loc main_arg0)) (m ((c.tc : Thread nD τ).loc main_arg1))
    (m ((c.tc : Thread nD τ).loc main_arg2)) (m ((c.tc : Thread nD τ).loc main_arg3))

/-- The new first moments, as the reference computes them of the arguments. -/
def resM : Vec Ideal S2x16x64 .f32 :=
  val_main_v4 (F := Ideal) (m ((c.tc : Thread nD τ).loc main_arg1)) (m ((c.tc : Thread nD τ).loc main_arg2))

/-- The new second moments, as the reference computes them of the arguments. -/
def resV : Vec Ideal S2x16x64 .f32 :=
  val_main_v10 (F := Ideal) (m ((c.tc : Thread nD τ).loc main_arg1)) (m ((c.tc : Thread nD τ).loc main_arg3))

theorem entry_0 : V m c main_v0 = shapeCast S32x64 (m ((c.tc : Thread nD τ).loc main_arg0)) shapeCasts_S2x16x64_S32x64 := by
  entry_read
  rfl

theorem entry_1 : V m c main_v1 = shapeCast S32x64 (m ((c.tc : Thread nD τ).loc main_arg1)) shapeCasts_S2x16x64_S32x64 := by
  entry_read
  rfl

theorem entry_2 : V m c main_v2 = shapeCast S32x64 (m ((c.tc : Thread nD τ).loc main_arg2)) shapeCasts_S2x16x64_S32x64 := by
  entry_read
  rfl

theorem entry_3 : V m c main_v3 = shapeCast S32x64 (m ((c.tc : Thread nD τ).loc main_arg3)) shapeCasts_S2x16x64_S32x64 := by
  entry_read
  rfl

theorem value_delta : Pipeline.afterTail₀ cfgs (dats m) 0 (V0 m) [hostOps1] c main_v5 = resDelta m c := by
  have e : Pipeline.afterTail₀ cfgs (dats m) 0 (V0 m) [hostOps1] c main_v5
      = shapeCast S2x16x64 ((dats m 0 c).arrAt 4 cfg0.N) shapeCasts_S32x64_S2x16x64 := by
    unfold Pipeline.afterTail₀
    simp only [hostOps1, List.flatten_cons, List.flatten_nil, List.append_nil]
    after_results
    exact congrArg (fun a => shapeCast S2x16x64 a shapeCasts_S32x64_S2x16x64) (Pipeline.withArrays_arr spec0 (by decide) c (V0 m c)
      (fun w => (dats m 0 c).arrAt w cfg0.N) 4)
  rw [e, array_delta, entry_0, entry_1, entry_2, entry_3]
  exact back4 delta _ _ _ _ _ _

theorem value_m : Pipeline.afterTail₀ cfgs (dats m) 0 (V0 m) [hostOps1] c main_v6 = resM m c := by
  have e : Pipeline.afterTail₀ cfgs (dats m) 0 (V0 m) [hostOps1] c main_v6
      = shapeCast S2x16x64 ((dats m 0 c).arrAt 5 cfg0.N) shapeCasts_S32x64_S2x16x64 := by
    unfold Pipeline.afterTail₀
    simp only [hostOps1, List.flatten_cons, List.flatten_nil, List.append_nil]
    after_results
    exact congrArg (fun a => shapeCast S2x16x64 a shapeCasts_S32x64_S2x16x64) (Pipeline.withArrays_arr spec0 (by decide) c (V0 m c)
      (fun w => (dats m 0 c).arrAt w cfg0.N) 5)
  rw [e, array_m, entry_1, entry_2]
  exact back2 newM _ _ _ _

theorem value_v : Pipeline.afterTail₀ cfgs (dats m) 0 (V0 m) [hostOps1] c main_v7 = resV m c := by
  have e : Pipeline.afterTail₀ cfgs (dats m) 0 (V0 m) [hostOps1] c main_v7
      = shapeCast S2x16x64 ((dats m 0 c).arrAt 6 cfg0.N) shapeCasts_S32x64_S2x16x64 := by
    unfold Pipeline.afterTail₀
    simp only [hostOps1, List.flatten_cons, List.flatten_nil, List.append_nil]
    after_results
    exact congrArg (fun a => shapeCast S2x16x64 a shapeCasts_S32x64_S2x16x64) (Pipeline.withArrays_arr spec0 (by decide) c (V0 m c)
      (fun w => (dats m 0 c).arrAt w cfg0.N) 6)
  rw [e, array_v, entry_1, entry_3]
  exact back2 newV _ _ _ _

/-- Every run of the program ends with the reference's three results and the arguments as they were. -/
theorem run (ρ : Dev nD → PrngReg) : θ_run (defs (F := Ideal)) (onTc (τ := τ) (main (F := Ideal))) ⟨m, fun _ => 0, ρ⟩ fun r => ∀ c : Dev nD,
      r.2.mem ((c.tc : Thread nD τ).loc main_v5) = resDelta m c ∧ r.2.mem ((c.tc : Thread nD τ).loc main_v6) = resM m c
      ∧ r.2.mem ((c.tc : Thread nD τ).loc main_v7) = resV m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) := by
  refine (θ_run defs _ _).mono (fun r h c => ?_) (run_main m ρ)
  refine ⟨((h c).2 main_v5 (Pipeline.mem_restRefs_of main_v5 (by decide) (by decide))).trans (value_delta m c),
    ((h c).2 main_v6 (Pipeline.mem_restRefs_of main_v6 (by decide) (by decide))).trans (value_m m c),
    ((h c).2 main_v7 (Pipeline.mem_restRefs_of main_v7 (by decide) (by decide))).trans (value_v m c), ?_⟩
  exact ⟨((h c).2 main_arg0 (Pipeline.mem_restRefs_of main_arg0 (by decide) (by decide))).trans (W_main_arg0 m (dats m) c),
    ((h c).2 main_arg1 (Pipeline.mem_restRefs_of main_arg1 (by decide) (by decide))).trans (W_main_arg1 m (dats m) c),
    ((h c).2 main_arg2 (Pipeline.mem_restRefs_of main_arg2 (by decide) (by decide))).trans (W_main_arg2 m (dats m) c),
    ((h c).2 main_arg3 (Pipeline.mem_restRefs_of main_arg3 (by decide) (by decide))).trans (W_main_arg3 m (dats m) c)⟩

end Cert.AdamRankIdeal.Proj

end
-- ==== Proof.Proj.AdamQ.lean ====
/-
  The optimiser's update of the query weights.
-/
module

public import proofs.«01_k».proof.Proof.Proj.Adam
public import proofs.«01_k».proof.Proof.Gen.AdamQIdeal.Frame
public import proofs.«01_k».proof.Proof.Gen.AdamQReferenceIdeal.Read

@[expose] public section

set_option maxRecDepth 16384

noncomputable section

namespace Cert.AdamQIdeal.Proj

open Idealize.ShloMosaic Idealize.ShloMosaic.TcCoe Cert.Adam
open Cert.AdamQIdeal Cert.AdamQIdeal.Gen Cert.AdamQReferenceIdeal.Read

section Tile

variable (x0 x1 x2 x3 : Vec Ideal S1024x192 .f32) (y : S1024x192.Idx)

theorem tile_m : out0_5 x0 x1 x2 x3 y = newM (x1 y) (x2 y) := by
  unfold out0_5
  rw [View.canon_cons_unit_lit _ _ _ (by decide), View.ld_unit_lit _ _ (by decide), View.ld_unit_lit _ _ (by decide)]
  simp only [k0_pay2, k0_pay1, shapeCast_self]
  rfl

theorem tile_v : out0_6 x0 x1 x2 x3 y = newV (x1 y) (x3 y) := by
  unfold out0_6
  rw [View.canon_cons_unit_lit _ _ _ (by decide), View.ld_unit_lit _ _ (by decide), View.ld_unit_lit _ _ (by decide)]
  simp only [k0_pay3, k0_pay1, shapeCast_self]
  rfl

theorem tile_delta : out0_4 x0 x1 x2 x3 y = delta (x0 y) (x1 y) (x2 y) (x3 y) := by
  unfold out0_4
  rw [View.canon_cons_unit_lit _ _ _ (by decide), View.ld_unit_lit _ _ (by decide), View.ld_unit_lit _ _ (by decide),
    View.ld_unit_lit _ _ (by decide), View.ld_unit_lit _ _ (by decide)]
  simp only [k0_pay4, k0_pay2, k0_pay3, k0_pay1, shapeCast_self]
  rfl

end Tile

theorem index_eq (t : Fin cfg0.N) : win0_0.index t = ![t.val, 0] ∧ win0_1.index t = ![t.val, 0] ∧ win0_2.index t = ![t.val, 0]
    ∧ win0_3.index t = ![t.val, 0] ∧ win0_4.index t = ![t.val, 0] ∧ win0_5.index t = ![t.val, 0] ∧ win0_6.index t = ![t.val, 0] := by
  revert t; decide +kernel

variable (m : (ℓ : Loc nD τ sig) → Buf (Elt Ideal) ℓ) (c : Dev nD)

def stepOf (a0 a1 a2 a3 : Vec Ideal S1024x192 .f32) : Vec Ideal S1024x192 .f32 := fun y => delta (a0 y) (a1 y) (a2 y) (a3 y)
def mOf (a1 a2 : Vec Ideal S1024x192 .f32) : Vec Ideal S1024x192 .f32 := fun y => newM (a1 y) (a2 y)
def vOf (a1 a3 : Vec Ideal S1024x192 .f32) : Vec Ideal S1024x192 .f32 := fun y => newV (a1 y) (a3 y)

theorem read_0 (a : Vec Ideal S1024x192 .f32) (t : Fin cfg0.N) (ht : t.val < 1) (i : Fin 1024) (j : Fin 192) :
    ((cfg0.win 0).blk t).view.read (Elt Ideal) a (ix2 i j) = a (ix2 ⟨1024 * t.val + i.val, by omega⟩ j) := by
  obtain ⟨e0, e1, e2, e3, -⟩ := index_eq t
  blk_ext [e0]

theorem read_1 (a : Vec Ideal S1024x192 .f32) (t : Fin cfg0.N) (ht : t.val < 1) (i : Fin 1024) (j : Fin 192) :
    ((cfg0.win 1).blk t).view.read (Elt Ideal) a (ix2 i j) = a (ix2 ⟨1024 * t.val + i.val, by omega⟩ j) := by
  obtain ⟨e0, e1, e2, e3, -⟩ := index_eq t
  blk_ext [e1]

theorem read_2 (a : Vec Ideal S1024x192 .f32) (t : Fin cfg0.N) (ht : t.val < 1) (i : Fin 1024) (j : Fin 192) :
    ((cfg0.win 2).blk t).view.read (Elt Ideal) a (ix2 i j) = a (ix2 ⟨1024 * t.val + i.val, by omega⟩ j) := by
  obtain ⟨e0, e1, e2, e3, -⟩ := index_eq t
  blk_ext [e2]

theorem read_3 (a : Vec Ideal S1024x192 .f32) (t : Fin cfg0.N) (ht : t.val < 1) (i : Fin 1024) (j : Fin 192) :
    ((cfg0.win 3).blk t).view.read (Elt Ideal) a (ix2 i j) = a (ix2 ⟨1024 * t.val + i.val, by omega⟩ j) := by
  obtain ⟨e0, e1, e2, e3, -⟩ := index_eq t
  blk_ext [e3]

theorem block_delta (t : Fin cfg0.N) (ht : t.val < 1) (i : Fin 1024) (j : Fin 192) :
    out0_4 (iblk m c 0 t) (iblk m c 1 t) (iblk m c 2 t) (iblk m c 3 t) (ix2 i j)
      = stepOf (V m c main_v0) (V m c main_v1) (V m c main_v2) (V m c main_v3) (ix2 ⟨1024 * t.val + i.val, by omega⟩ j) := by
  refine (tile_delta _ _ _ _ _).trans ?_
  unfold stepOf
  rw [show iblk m c 0 t (ix2 i j) = V m c main_v0 (ix2 ⟨1024 * t.val + i.val, by omega⟩ j) from read_0 (V m c main_v0) t ht i j]
  rw [show iblk m c 1 t (ix2 i j) = V m c main_v1 (ix2 ⟨1024 * t.val + i.val, by omega⟩ j) from read_1 (V m c main_v1) t ht i j]
  rw [show iblk m c 2 t (ix2 i j) = V m c main_v2 (ix2 ⟨1024 * t.val + i.val, by omega⟩ j) from read_2 (V m c main_v2) t ht i j]
  rw [show iblk m c 3 t (ix2 i j) = V m c main_v3 (ix2 ⟨1024 * t.val + i.val, by omega⟩ j) from read_3 (V m c main_v3) t ht i j]

theorem array_delta : (dats m 0 c).arrAt 4 cfg0.N = stepOf (V m c main_v0) (V m c main_v1) (V m c main_v2) (V m c main_v3) := by
  refine (dats m 0 c).arrAt_eq_of_covers 4 (stepOf (V m c main_v0) (V m c main_v1) (V m c main_v2) (V m c main_v3)) (by decide +kernel) fun t hf y => ?_
  obtain ⟨-, -, -, -, e4, e5, e6⟩ := index_eq t
  rw [after0_4]
  idx_vars y
  generalize hb : stepOf (V m c main_v0) (V m c main_v1) (V m c main_v2) (V m c main_v3) = b
  blk_simp
  refine (block_delta m c t t.isLt y0 y1).trans ?_
  rw [hb]
  blk_ext [e4]

theorem block_m (t : Fin cfg0.N) (ht : t.val < 1) (i : Fin 1024) (j : Fin 192) :
    out0_5 (iblk m c 0 t) (iblk m c 1 t) (iblk m c 2 t) (iblk m c 3 t) (ix2 i j)
      = mOf (V m c main_v1) (V m c main_v2) (ix2 ⟨1024 * t.val + i.val, by omega⟩ j) := by
  refine (tile_m _ _ _ _ _).trans ?_
  unfold mOf
  rw [show iblk m c 1 t (ix2 i j) = V m c main_v1 (ix2 ⟨1024 * t.val + i.val, by omega⟩ j) from read_1 (V m c main_v1) t ht i j]
  rw [show iblk m c 2 t (ix2 i j) = V m c main_v2 (ix2 ⟨1024 * t.val + i.val, by omega⟩ j) from read_2 (V m c main_v2) t ht i j]

theorem array_m : (dats m 0 c).arrAt 5 cfg0.N = mOf (V m c main_v1) (V m c main_v2) := by
  refine (dats m 0 c).arrAt_eq_of_covers 5 (mOf (V m c main_v1) (V m c main_v2)) (by decide +kernel) fun t hf y => ?_
  obtain ⟨-, -, -, -, e4, e5, e6⟩ := index_eq t
  rw [after0_5]
  idx_vars y
  generalize hb : mOf (V m c main_v1) (V m c main_v2) = b
  blk_simp
  refine (block_m m c t t.isLt y0 y1).trans ?_
  rw [hb]
  blk_ext [e5]

theorem block_v (t : Fin cfg0.N) (ht : t.val < 1) (i : Fin 1024) (j : Fin 192) :
    out0_6 (iblk m c 0 t) (iblk m c 1 t) (iblk m c 2 t) (iblk m c 3 t) (ix2 i j)
      = vOf (V m c main_v1) (V m c main_v3) (ix2 ⟨1024 * t.val + i.val, by omega⟩ j) := by
  refine (tile_v _ _ _ _ _).trans ?_
  unfold vOf
  rw [show iblk m c 1 t (ix2 i j) = V m c main_v1 (ix2 ⟨1024 * t.val + i.val, by omega⟩ j) from read_1 (V m c main_v1) t ht i j]
  rw [show iblk m c 3 t (ix2 i j) = V m c main_v3 (ix2 ⟨1024 * t.val + i.val, by omega⟩ j) from read_3 (V m c main_v3) t ht i j]

theorem array_v : (dats m 0 c).arrAt 6 cfg0.N = vOf (V m c main_v1) (V m c main_v3) := by
  refine (dats m 0 c).arrAt_eq_of_covers 6 (vOf (V m c main_v1) (V m c main_v3)) (by decide +kernel) fun t hf y => ?_
  obtain ⟨-, -, -, -, e4, e5, e6⟩ := index_eq t
  rw [after0_6]
  idx_vars y
  generalize hb : vOf (V m c main_v1) (V m c main_v3) = b
  blk_simp
  refine (block_v m c t t.isLt y0 y1).trans ?_
  rw [hb]
  blk_ext [e6]

/-- The step of the weights, as the reference computes it of the arguments. -/
def resDelta : Vec Ideal S2x512x192 .f32 :=
  val_main_v23 (F := Ideal) (m ((c.tc : Thread nD τ).loc main_arg0)) (m ((c.tc : Thread nD τ).loc main_arg1))
    (m ((c.tc : Thread nD τ).loc main_arg2)) (m ((c.tc : Thread nD τ).loc main_arg3))

/-- The new first moments, as the reference computes them of the arguments. -/
def resM : Vec Ideal S2x512x192 .f32 :=
  val_main_v4 (F := Ideal) (m ((c.tc : Thread nD τ).loc main_arg1)) (m ((c.tc : Thread nD τ).loc main_arg2))

/-- The new second moments, as the reference computes them of the arguments. -/
def resV : Vec Ideal S2x512x192 .f32 :=
  val_main_v10 (F := Ideal) (m ((c.tc : Thread nD τ).loc main_arg1)) (m ((c.tc : Thread nD τ).loc main_arg3))

theorem entry_0 : V m c main_v0 = shapeCast S1024x192 (m ((c.tc : Thread nD τ).loc main_arg0)) shapeCasts_S2x512x192_S1024x192 := by
  entry_read
  rfl

theorem entry_1 : V m c main_v1 = shapeCast S1024x192 (m ((c.tc : Thread nD τ).loc main_arg1)) shapeCasts_S2x512x192_S1024x192 := by
  entry_read
  rfl

theorem entry_2 : V m c main_v2 = shapeCast S1024x192 (m ((c.tc : Thread nD τ).loc main_arg2)) shapeCasts_S2x512x192_S1024x192 := by
  entry_read
  rfl

theorem entry_3 : V m c main_v3 = shapeCast S1024x192 (m ((c.tc : Thread nD τ).loc main_arg3)) shapeCasts_S2x512x192_S1024x192 := by
  entry_read
  rfl

theorem value_delta : Pipeline.afterTail₀ cfgs (dats m) 0 (V0 m) [hostOps1] c main_v5 = resDelta m c := by
  have e : Pipeline.afterTail₀ cfgs (dats m) 0 (V0 m) [hostOps1] c main_v5
      = shapeCast S2x512x192 ((dats m 0 c).arrAt 4 cfg0.N) shapeCasts_S1024x192_S2x512x192 := by
    unfold Pipeline.afterTail₀
    simp only [hostOps1, List.flatten_cons, List.flatten_nil, List.append_nil]
    after_results
    exact congrArg (fun a => shapeCast S2x512x192 a shapeCasts_S1024x192_S2x512x192) (Pipeline.withArrays_arr spec0 (by decide) c (V0 m c)
      (fun w => (dats m 0 c).arrAt w cfg0.N) 4)
  rw [e, array_delta, entry_0, entry_1, entry_2, entry_3]
  exact back4 delta _ _ _ _ _ _

theorem value_m : Pipeline.afterTail₀ cfgs (dats m) 0 (V0 m) [hostOps1] c main_v6 = resM m c := by
  have e : Pipeline.afterTail₀ cfgs (dats m) 0 (V0 m) [hostOps1] c main_v6
      = shapeCast S2x512x192 ((dats m 0 c).arrAt 5 cfg0.N) shapeCasts_S1024x192_S2x512x192 := by
    unfold Pipeline.afterTail₀
    simp only [hostOps1, List.flatten_cons, List.flatten_nil, List.append_nil]
    after_results
    exact congrArg (fun a => shapeCast S2x512x192 a shapeCasts_S1024x192_S2x512x192) (Pipeline.withArrays_arr spec0 (by decide) c (V0 m c)
      (fun w => (dats m 0 c).arrAt w cfg0.N) 5)
  rw [e, array_m, entry_1, entry_2]
  exact back2 newM _ _ _ _

theorem value_v : Pipeline.afterTail₀ cfgs (dats m) 0 (V0 m) [hostOps1] c main_v7 = resV m c := by
  have e : Pipeline.afterTail₀ cfgs (dats m) 0 (V0 m) [hostOps1] c main_v7
      = shapeCast S2x512x192 ((dats m 0 c).arrAt 6 cfg0.N) shapeCasts_S1024x192_S2x512x192 := by
    unfold Pipeline.afterTail₀
    simp only [hostOps1, List.flatten_cons, List.flatten_nil, List.append_nil]
    after_results
    exact congrArg (fun a => shapeCast S2x512x192 a shapeCasts_S1024x192_S2x512x192) (Pipeline.withArrays_arr spec0 (by decide) c (V0 m c)
      (fun w => (dats m 0 c).arrAt w cfg0.N) 6)
  rw [e, array_v, entry_1, entry_3]
  exact back2 newV _ _ _ _

/-- Every run of the program ends with the reference's three results and the arguments as they were. -/
theorem run (ρ : Dev nD → PrngReg) : θ_run (defs (F := Ideal)) (onTc (τ := τ) (main (F := Ideal))) ⟨m, fun _ => 0, ρ⟩ fun r => ∀ c : Dev nD,
      r.2.mem ((c.tc : Thread nD τ).loc main_v5) = resDelta m c ∧ r.2.mem ((c.tc : Thread nD τ).loc main_v6) = resM m c
      ∧ r.2.mem ((c.tc : Thread nD τ).loc main_v7) = resV m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) := by
  refine (θ_run defs _ _).mono (fun r h c => ?_) (run_main m ρ)
  refine ⟨((h c).2 main_v5 (Pipeline.mem_restRefs_of main_v5 (by decide) (by decide))).trans (value_delta m c),
    ((h c).2 main_v6 (Pipeline.mem_restRefs_of main_v6 (by decide) (by decide))).trans (value_m m c),
    ((h c).2 main_v7 (Pipeline.mem_restRefs_of main_v7 (by decide) (by decide))).trans (value_v m c), ?_⟩
  exact ⟨((h c).2 main_arg0 (Pipeline.mem_restRefs_of main_arg0 (by decide) (by decide))).trans (W_main_arg0 m (dats m) c),
    ((h c).2 main_arg1 (Pipeline.mem_restRefs_of main_arg1 (by decide) (by decide))).trans (W_main_arg1 m (dats m) c),
    ((h c).2 main_arg2 (Pipeline.mem_restRefs_of main_arg2 (by decide) (by decide))).trans (W_main_arg2 m (dats m) c),
    ((h c).2 main_arg3 (Pipeline.mem_restRefs_of main_arg3 (by decide) (by decide))).trans (W_main_arg3 m (dats m) c)⟩

end Cert.AdamQIdeal.Proj

end
-- ==== Proof.Proj.AdamKv.lean ====
/-
  The optimiser's update of the key and value weights.
-/
module

public import proofs.«01_k».proof.Proof.Proj.Adam
public import proofs.«01_k».proof.Proof.Gen.AdamKvIdeal.Frame
public import proofs.«01_k».proof.Proof.Gen.AdamKvReferenceIdeal.Read

@[expose] public section

set_option maxRecDepth 16384

noncomputable section

namespace Cert.AdamKvIdeal.Proj

open Idealize.ShloMosaic Idealize.ShloMosaic.TcCoe Cert.Adam
open Cert.AdamKvIdeal Cert.AdamKvIdeal.Gen Cert.AdamKvReferenceIdeal.Read

section Tile

variable (x0 x1 x2 x3 : Vec Ideal S512x256 .f32) (y : S512x256.Idx)

theorem tile_m : out0_5 x0 x1 x2 x3 y = newM (x1 y) (x2 y) := by
  unfold out0_5
  rw [View.canon_cons_unit_lit _ _ _ (by decide), View.ld_unit_lit _ _ (by decide), View.ld_unit_lit _ _ (by decide)]
  simp only [k0_pay2, k0_pay1, shapeCast_self]
  rfl

theorem tile_v : out0_6 x0 x1 x2 x3 y = newV (x1 y) (x3 y) := by
  unfold out0_6
  rw [View.canon_cons_unit_lit _ _ _ (by decide), View.ld_unit_lit _ _ (by decide), View.ld_unit_lit _ _ (by decide)]
  simp only [k0_pay3, k0_pay1, shapeCast_self]
  rfl

theorem tile_delta : out0_4 x0 x1 x2 x3 y = delta (x0 y) (x1 y) (x2 y) (x3 y) := by
  unfold out0_4
  rw [View.canon_cons_unit_lit _ _ _ (by decide), View.ld_unit_lit _ _ (by decide), View.ld_unit_lit _ _ (by decide),
    View.ld_unit_lit _ _ (by decide), View.ld_unit_lit _ _ (by decide)]
  simp only [k0_pay4, k0_pay2, k0_pay3, k0_pay1, shapeCast_self]
  rfl

end Tile

theorem index_eq (t : Fin cfg0.N) : win0_0.index t = ![t.val, 0] ∧ win0_1.index t = ![t.val, 0] ∧ win0_2.index t = ![t.val, 0]
    ∧ win0_3.index t = ![t.val, 0] ∧ win0_4.index t = ![t.val, 0] ∧ win0_5.index t = ![t.val, 0] ∧ win0_6.index t = ![t.val, 0] := by
  revert t; decide +kernel

variable (m : (ℓ : Loc nD τ sig) → Buf (Elt Ideal) ℓ) (c : Dev nD)

def stepOf (a0 a1 a2 a3 : Vec Ideal S512x256 .f32) : Vec Ideal S512x256 .f32 := fun y => delta (a0 y) (a1 y) (a2 y) (a3 y)
def mOf (a1 a2 : Vec Ideal S512x256 .f32) : Vec Ideal S512x256 .f32 := fun y => newM (a1 y) (a2 y)
def vOf (a1 a3 : Vec Ideal S512x256 .f32) : Vec Ideal S512x256 .f32 := fun y => newV (a1 y) (a3 y)

theorem read_0 (a : Vec Ideal S512x256 .f32) (t : Fin cfg0.N) (ht : t.val < 1) (i : Fin 512) (j : Fin 256) :
    ((cfg0.win 0).blk t).view.read (Elt Ideal) a (ix2 i j) = a (ix2 ⟨512 * t.val + i.val, by omega⟩ j) := by
  obtain ⟨e0, e1, e2, e3, -⟩ := index_eq t
  blk_ext [e0]

theorem read_1 (a : Vec Ideal S512x256 .f32) (t : Fin cfg0.N) (ht : t.val < 1) (i : Fin 512) (j : Fin 256) :
    ((cfg0.win 1).blk t).view.read (Elt Ideal) a (ix2 i j) = a (ix2 ⟨512 * t.val + i.val, by omega⟩ j) := by
  obtain ⟨e0, e1, e2, e3, -⟩ := index_eq t
  blk_ext [e1]

theorem read_2 (a : Vec Ideal S512x256 .f32) (t : Fin cfg0.N) (ht : t.val < 1) (i : Fin 512) (j : Fin 256) :
    ((cfg0.win 2).blk t).view.read (Elt Ideal) a (ix2 i j) = a (ix2 ⟨512 * t.val + i.val, by omega⟩ j) := by
  obtain ⟨e0, e1, e2, e3, -⟩ := index_eq t
  blk_ext [e2]

theorem read_3 (a : Vec Ideal S512x256 .f32) (t : Fin cfg0.N) (ht : t.val < 1) (i : Fin 512) (j : Fin 256) :
    ((cfg0.win 3).blk t).view.read (Elt Ideal) a (ix2 i j) = a (ix2 ⟨512 * t.val + i.val, by omega⟩ j) := by
  obtain ⟨e0, e1, e2, e3, -⟩ := index_eq t
  blk_ext [e3]

theorem block_delta (t : Fin cfg0.N) (ht : t.val < 1) (i : Fin 512) (j : Fin 256) :
    out0_4 (iblk m c 0 t) (iblk m c 1 t) (iblk m c 2 t) (iblk m c 3 t) (ix2 i j)
      = stepOf (V m c main_v0) (V m c main_v1) (V m c main_v2) (V m c main_v3) (ix2 ⟨512 * t.val + i.val, by omega⟩ j) := by
  refine (tile_delta _ _ _ _ _).trans ?_
  unfold stepOf
  rw [show iblk m c 0 t (ix2 i j) = V m c main_v0 (ix2 ⟨512 * t.val + i.val, by omega⟩ j) from read_0 (V m c main_v0) t ht i j]
  rw [show iblk m c 1 t (ix2 i j) = V m c main_v1 (ix2 ⟨512 * t.val + i.val, by omega⟩ j) from read_1 (V m c main_v1) t ht i j]
  rw [show iblk m c 2 t (ix2 i j) = V m c main_v2 (ix2 ⟨512 * t.val + i.val, by omega⟩ j) from read_2 (V m c main_v2) t ht i j]
  rw [show iblk m c 3 t (ix2 i j) = V m c main_v3 (ix2 ⟨512 * t.val + i.val, by omega⟩ j) from read_3 (V m c main_v3) t ht i j]

theorem array_delta : (dats m 0 c).arrAt 4 cfg0.N = stepOf (V m c main_v0) (V m c main_v1) (V m c main_v2) (V m c main_v3) := by
  refine (dats m 0 c).arrAt_eq_of_covers 4 (stepOf (V m c main_v0) (V m c main_v1) (V m c main_v2) (V m c main_v3)) (by decide +kernel) fun t hf y => ?_
  obtain ⟨-, -, -, -, e4, e5, e6⟩ := index_eq t
  rw [after0_4]
  idx_vars y
  generalize hb : stepOf (V m c main_v0) (V m c main_v1) (V m c main_v2) (V m c main_v3) = b
  blk_simp
  refine (block_delta m c t t.isLt y0 y1).trans ?_
  rw [hb]
  blk_ext [e4]

theorem block_m (t : Fin cfg0.N) (ht : t.val < 1) (i : Fin 512) (j : Fin 256) :
    out0_5 (iblk m c 0 t) (iblk m c 1 t) (iblk m c 2 t) (iblk m c 3 t) (ix2 i j)
      = mOf (V m c main_v1) (V m c main_v2) (ix2 ⟨512 * t.val + i.val, by omega⟩ j) := by
  refine (tile_m _ _ _ _ _).trans ?_
  unfold mOf
  rw [show iblk m c 1 t (ix2 i j) = V m c main_v1 (ix2 ⟨512 * t.val + i.val, by omega⟩ j) from read_1 (V m c main_v1) t ht i j]
  rw [show iblk m c 2 t (ix2 i j) = V m c main_v2 (ix2 ⟨512 * t.val + i.val, by omega⟩ j) from read_2 (V m c main_v2) t ht i j]

theorem array_m : (dats m 0 c).arrAt 5 cfg0.N = mOf (V m c main_v1) (V m c main_v2) := by
  refine (dats m 0 c).arrAt_eq_of_covers 5 (mOf (V m c main_v1) (V m c main_v2)) (by decide +kernel) fun t hf y => ?_
  obtain ⟨-, -, -, -, e4, e5, e6⟩ := index_eq t
  rw [after0_5]
  idx_vars y
  generalize hb : mOf (V m c main_v1) (V m c main_v2) = b
  blk_simp
  refine (block_m m c t t.isLt y0 y1).trans ?_
  rw [hb]
  blk_ext [e5]

theorem block_v (t : Fin cfg0.N) (ht : t.val < 1) (i : Fin 512) (j : Fin 256) :
    out0_6 (iblk m c 0 t) (iblk m c 1 t) (iblk m c 2 t) (iblk m c 3 t) (ix2 i j)
      = vOf (V m c main_v1) (V m c main_v3) (ix2 ⟨512 * t.val + i.val, by omega⟩ j) := by
  refine (tile_v _ _ _ _ _).trans ?_
  unfold vOf
  rw [show iblk m c 1 t (ix2 i j) = V m c main_v1 (ix2 ⟨512 * t.val + i.val, by omega⟩ j) from read_1 (V m c main_v1) t ht i j]
  rw [show iblk m c 3 t (ix2 i j) = V m c main_v3 (ix2 ⟨512 * t.val + i.val, by omega⟩ j) from read_3 (V m c main_v3) t ht i j]

theorem array_v : (dats m 0 c).arrAt 6 cfg0.N = vOf (V m c main_v1) (V m c main_v3) := by
  refine (dats m 0 c).arrAt_eq_of_covers 6 (vOf (V m c main_v1) (V m c main_v3)) (by decide +kernel) fun t hf y => ?_
  obtain ⟨-, -, -, -, e4, e5, e6⟩ := index_eq t
  rw [after0_6]
  idx_vars y
  generalize hb : vOf (V m c main_v1) (V m c main_v3) = b
  blk_simp
  refine (block_v m c t t.isLt y0 y1).trans ?_
  rw [hb]
  blk_ext [e6]

/-- The step of the weights, as the reference computes it of the arguments. -/
def resDelta : Vec Ideal S2x256x256 .f32 :=
  val_main_v23 (F := Ideal) (m ((c.tc : Thread nD τ).loc main_arg0)) (m ((c.tc : Thread nD τ).loc main_arg1))
    (m ((c.tc : Thread nD τ).loc main_arg2)) (m ((c.tc : Thread nD τ).loc main_arg3))

/-- The new first moments, as the reference computes them of the arguments. -/
def resM : Vec Ideal S2x256x256 .f32 :=
  val_main_v4 (F := Ideal) (m ((c.tc : Thread nD τ).loc main_arg1)) (m ((c.tc : Thread nD τ).loc main_arg2))

/-- The new second moments, as the reference computes them of the arguments. -/
def resV : Vec Ideal S2x256x256 .f32 :=
  val_main_v10 (F := Ideal) (m ((c.tc : Thread nD τ).loc main_arg1)) (m ((c.tc : Thread nD τ).loc main_arg3))

theorem entry_0 : V m c main_v0 = shapeCast S512x256 (m ((c.tc : Thread nD τ).loc main_arg0)) shapeCasts_S2x256x256_S512x256 := by
  entry_read
  rfl

theorem entry_1 : V m c main_v1 = shapeCast S512x256 (m ((c.tc : Thread nD τ).loc main_arg1)) shapeCasts_S2x256x256_S512x256 := by
  entry_read
  rfl

theorem entry_2 : V m c main_v2 = shapeCast S512x256 (m ((c.tc : Thread nD τ).loc main_arg2)) shapeCasts_S2x256x256_S512x256 := by
  entry_read
  rfl

theorem entry_3 : V m c main_v3 = shapeCast S512x256 (m ((c.tc : Thread nD τ).loc main_arg3)) shapeCasts_S2x256x256_S512x256 := by
  entry_read
  rfl

theorem value_delta : Pipeline.afterTail₀ cfgs (dats m) 0 (V0 m) [hostOps1] c main_v5 = resDelta m c := by
  have e : Pipeline.afterTail₀ cfgs (dats m) 0 (V0 m) [hostOps1] c main_v5
      = shapeCast S2x256x256 ((dats m 0 c).arrAt 4 cfg0.N) shapeCasts_S512x256_S2x256x256 := by
    unfold Pipeline.afterTail₀
    simp only [hostOps1, List.flatten_cons, List.flatten_nil, List.append_nil]
    after_results
    exact congrArg (fun a => shapeCast S2x256x256 a shapeCasts_S512x256_S2x256x256) (Pipeline.withArrays_arr spec0 (by decide) c (V0 m c)
      (fun w => (dats m 0 c).arrAt w cfg0.N) 4)
  rw [e, array_delta, entry_0, entry_1, entry_2, entry_3]
  exact back4 delta _ _ _ _ _ _

theorem value_m : Pipeline.afterTail₀ cfgs (dats m) 0 (V0 m) [hostOps1] c main_v6 = resM m c := by
  have e : Pipeline.afterTail₀ cfgs (dats m) 0 (V0 m) [hostOps1] c main_v6
      = shapeCast S2x256x256 ((dats m 0 c).arrAt 5 cfg0.N) shapeCasts_S512x256_S2x256x256 := by
    unfold Pipeline.afterTail₀
    simp only [hostOps1, List.flatten_cons, List.flatten_nil, List.append_nil]
    after_results
    exact congrArg (fun a => shapeCast S2x256x256 a shapeCasts_S512x256_S2x256x256) (Pipeline.withArrays_arr spec0 (by decide) c (V0 m c)
      (fun w => (dats m 0 c).arrAt w cfg0.N) 5)
  rw [e, array_m, entry_1, entry_2]
  exact back2 newM _ _ _ _

theorem value_v : Pipeline.afterTail₀ cfgs (dats m) 0 (V0 m) [hostOps1] c main_v7 = resV m c := by
  have e : Pipeline.afterTail₀ cfgs (dats m) 0 (V0 m) [hostOps1] c main_v7
      = shapeCast S2x256x256 ((dats m 0 c).arrAt 6 cfg0.N) shapeCasts_S512x256_S2x256x256 := by
    unfold Pipeline.afterTail₀
    simp only [hostOps1, List.flatten_cons, List.flatten_nil, List.append_nil]
    after_results
    exact congrArg (fun a => shapeCast S2x256x256 a shapeCasts_S512x256_S2x256x256) (Pipeline.withArrays_arr spec0 (by decide) c (V0 m c)
      (fun w => (dats m 0 c).arrAt w cfg0.N) 6)
  rw [e, array_v, entry_1, entry_3]
  exact back2 newV _ _ _ _

/-- Every run of the program ends with the reference's three results and the arguments as they were. -/
theorem run (ρ : Dev nD → PrngReg) : θ_run (defs (F := Ideal)) (onTc (τ := τ) (main (F := Ideal))) ⟨m, fun _ => 0, ρ⟩ fun r => ∀ c : Dev nD,
      r.2.mem ((c.tc : Thread nD τ).loc main_v5) = resDelta m c ∧ r.2.mem ((c.tc : Thread nD τ).loc main_v6) = resM m c
      ∧ r.2.mem ((c.tc : Thread nD τ).loc main_v7) = resV m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) := by
  refine (θ_run defs _ _).mono (fun r h c => ?_) (run_main m ρ)
  refine ⟨((h c).2 main_v5 (Pipeline.mem_restRefs_of main_v5 (by decide) (by decide))).trans (value_delta m c),
    ((h c).2 main_v6 (Pipeline.mem_restRefs_of main_v6 (by decide) (by decide))).trans (value_m m c),
    ((h c).2 main_v7 (Pipeline.mem_restRefs_of main_v7 (by decide) (by decide))).trans (value_v m c), ?_⟩
  exact ⟨((h c).2 main_arg0 (Pipeline.mem_restRefs_of main_arg0 (by decide) (by decide))).trans (W_main_arg0 m (dats m) c),
    ((h c).2 main_arg1 (Pipeline.mem_restRefs_of main_arg1 (by decide) (by decide))).trans (W_main_arg1 m (dats m) c),
    ((h c).2 main_arg2 (Pipeline.mem_restRefs_of main_arg2 (by decide) (by decide))).trans (W_main_arg2 m (dats m) c),
    ((h c).2 main_arg3 (Pipeline.mem_restRefs_of main_arg3 (by decide) (by decide))).trans (W_main_arg3 m (dats m) c)⟩

end Cert.AdamKvIdeal.Proj

end
-- ==== Proof.Proj.AdamWOut.lean ====
/-
  The optimiser's update of the output projections' weights.
-/
module

public import proofs.«01_k».proof.Proof.Proj.Adam
public import proofs.«01_k».proof.Proof.Gen.AdamWOutIdeal.Frame
public import proofs.«01_k».proof.Proof.Gen.AdamWOutReferenceIdeal.Read

@[expose] public section

set_option maxRecDepth 16384

noncomputable section

namespace Cert.AdamWOutIdeal.Proj

open Idealize.ShloMosaic Idealize.ShloMosaic.TcCoe Cert.Adam
open Cert.AdamWOutIdeal Cert.AdamWOutIdeal.Gen Cert.AdamWOutReferenceIdeal.Read

section Tile

variable (x0 x1 x2 x3 : Vec Ideal S128x2048 .f32) (y : S128x2048.Idx)

theorem tile_m : out0_5 x0 x1 x2 x3 y = newM (x1 y) (x2 y) := by
  unfold out0_5
  rw [View.canon_cons_unit_lit _ _ _ (by decide), View.ld_unit_lit _ _ (by decide), View.ld_unit_lit _ _ (by decide)]
  simp only [k0_pay2, k0_pay1, shapeCast_self]
  rfl

theorem tile_v : out0_6 x0 x1 x2 x3 y = newV (x1 y) (x3 y) := by
  unfold out0_6
  rw [View.canon_cons_unit_lit _ _ _ (by decide), View.ld_unit_lit _ _ (by decide), View.ld_unit_lit _ _ (by decide)]
  simp only [k0_pay3, k0_pay1, shapeCast_self]
  rfl

theorem tile_delta : out0_4 x0 x1 x2 x3 y = delta (x0 y) (x1 y) (x2 y) (x3 y) := by
  unfold out0_4
  rw [View.canon_cons_unit_lit _ _ _ (by decide), View.ld_unit_lit _ _ (by decide), View.ld_unit_lit _ _ (by decide),
    View.ld_unit_lit _ _ (by decide), View.ld_unit_lit _ _ (by decide)]
  simp only [k0_pay4, k0_pay2, k0_pay3, k0_pay1, shapeCast_self]
  rfl

end Tile

theorem index_eq (t : Fin cfg0.N) : win0_0.index t = ![t.val, 0] ∧ win0_1.index t = ![t.val, 0] ∧ win0_2.index t = ![t.val, 0]
    ∧ win0_3.index t = ![t.val, 0] ∧ win0_4.index t = ![t.val, 0] ∧ win0_5.index t = ![t.val, 0] ∧ win0_6.index t = ![t.val, 0] := by
  revert t; decide +kernel

variable (m : (ℓ : Loc nD τ sig) → Buf (Elt Ideal) ℓ) (c : Dev nD)

def stepOf (a0 a1 a2 a3 : Vec Ideal S1024x2048 .f32) : Vec Ideal S1024x2048 .f32 := fun y => delta (a0 y) (a1 y) (a2 y) (a3 y)
def mOf (a1 a2 : Vec Ideal S1024x2048 .f32) : Vec Ideal S1024x2048 .f32 := fun y => newM (a1 y) (a2 y)
def vOf (a1 a3 : Vec Ideal S1024x2048 .f32) : Vec Ideal S1024x2048 .f32 := fun y => newV (a1 y) (a3 y)

theorem read_0 (a : Vec Ideal S1024x2048 .f32) (t : Fin cfg0.N) (ht : t.val < 8) (i : Fin 128) (j : Fin 2048) :
    ((cfg0.win 0).blk t).view.read (Elt Ideal) a (ix2 i j) = a (ix2 ⟨128 * t.val + i.val, by omega⟩ j) := by
  obtain ⟨e0, e1, e2, e3, -⟩ := index_eq t
  blk_ext [e0]

theorem read_1 (a : Vec Ideal S1024x2048 .f32) (t : Fin cfg0.N) (ht : t.val < 8) (i : Fin 128) (j : Fin 2048) :
    ((cfg0.win 1).blk t).view.read (Elt Ideal) a (ix2 i j) = a (ix2 ⟨128 * t.val + i.val, by omega⟩ j) := by
  obtain ⟨e0, e1, e2, e3, -⟩ := index_eq t
  blk_ext [e1]

theorem read_2 (a : Vec Ideal S1024x2048 .f32) (t : Fin cfg0.N) (ht : t.val < 8) (i : Fin 128) (j : Fin 2048) :
    ((cfg0.win 2).blk t).view.read (Elt Ideal) a (ix2 i j) = a (ix2 ⟨128 * t.val + i.val, by omega⟩ j) := by
  obtain ⟨e0, e1, e2, e3, -⟩ := index_eq t
  blk_ext [e2]

theorem read_3 (a : Vec Ideal S1024x2048 .f32) (t : Fin cfg0.N) (ht : t.val < 8) (i : Fin 128) (j : Fin 2048) :
    ((cfg0.win 3).blk t).view.read (Elt Ideal) a (ix2 i j) = a (ix2 ⟨128 * t.val + i.val, by omega⟩ j) := by
  obtain ⟨e0, e1, e2, e3, -⟩ := index_eq t
  blk_ext [e3]

theorem block_delta (t : Fin cfg0.N) (ht : t.val < 8) (i : Fin 128) (j : Fin 2048) :
    out0_4 (iblk m c 0 t) (iblk m c 1 t) (iblk m c 2 t) (iblk m c 3 t) (ix2 i j)
      = stepOf (V m c main_v0) (V m c main_v1) (V m c main_v2) (V m c main_v3) (ix2 ⟨128 * t.val + i.val, by omega⟩ j) := by
  refine (tile_delta _ _ _ _ _).trans ?_
  unfold stepOf
  rw [show iblk m c 0 t (ix2 i j) = V m c main_v0 (ix2 ⟨128 * t.val + i.val, by omega⟩ j) from read_0 (V m c main_v0) t ht i j]
  rw [show iblk m c 1 t (ix2 i j) = V m c main_v1 (ix2 ⟨128 * t.val + i.val, by omega⟩ j) from read_1 (V m c main_v1) t ht i j]
  rw [show iblk m c 2 t (ix2 i j) = V m c main_v2 (ix2 ⟨128 * t.val + i.val, by omega⟩ j) from read_2 (V m c main_v2) t ht i j]
  rw [show iblk m c 3 t (ix2 i j) = V m c main_v3 (ix2 ⟨128 * t.val + i.val, by omega⟩ j) from read_3 (V m c main_v3) t ht i j]

theorem array_delta : (dats m 0 c).arrAt 4 cfg0.N = stepOf (V m c main_v0) (V m c main_v1) (V m c main_v2) (V m c main_v3) := by
  refine (dats m 0 c).arrAt_eq_of_covers 4 (stepOf (V m c main_v0) (V m c main_v1) (V m c main_v2) (V m c main_v3)) (by decide +kernel) fun t hf y => ?_
  obtain ⟨-, -, -, -, e4, e5, e6⟩ := index_eq t
  rw [after0_4]
  idx_vars y
  generalize hb : stepOf (V m c main_v0) (V m c main_v1) (V m c main_v2) (V m c main_v3) = b
  blk_simp
  refine (block_delta m c t t.isLt y0 y1).trans ?_
  rw [hb]
  blk_ext [e4]

theorem block_m (t : Fin cfg0.N) (ht : t.val < 8) (i : Fin 128) (j : Fin 2048) :
    out0_5 (iblk m c 0 t) (iblk m c 1 t) (iblk m c 2 t) (iblk m c 3 t) (ix2 i j)
      = mOf (V m c main_v1) (V m c main_v2) (ix2 ⟨128 * t.val + i.val, by omega⟩ j) := by
  refine (tile_m _ _ _ _ _).trans ?_
  unfold mOf
  rw [show iblk m c 1 t (ix2 i j) = V m c main_v1 (ix2 ⟨128 * t.val + i.val, by omega⟩ j) from read_1 (V m c main_v1) t ht i j]
  rw [show iblk m c 2 t (ix2 i j) = V m c main_v2 (ix2 ⟨128 * t.val + i.val, by omega⟩ j) from read_2 (V m c main_v2) t ht i j]

theorem array_m : (dats m 0 c).arrAt 5 cfg0.N = mOf (V m c main_v1) (V m c main_v2) := by
  refine (dats m 0 c).arrAt_eq_of_covers 5 (mOf (V m c main_v1) (V m c main_v2)) (by decide +kernel) fun t hf y => ?_
  obtain ⟨-, -, -, -, e4, e5, e6⟩ := index_eq t
  rw [after0_5]
  idx_vars y
  generalize hb : mOf (V m c main_v1) (V m c main_v2) = b
  blk_simp
  refine (block_m m c t t.isLt y0 y1).trans ?_
  rw [hb]
  blk_ext [e5]

theorem block_v (t : Fin cfg0.N) (ht : t.val < 8) (i : Fin 128) (j : Fin 2048) :
    out0_6 (iblk m c 0 t) (iblk m c 1 t) (iblk m c 2 t) (iblk m c 3 t) (ix2 i j)
      = vOf (V m c main_v1) (V m c main_v3) (ix2 ⟨128 * t.val + i.val, by omega⟩ j) := by
  refine (tile_v _ _ _ _ _).trans ?_
  unfold vOf
  rw [show iblk m c 1 t (ix2 i j) = V m c main_v1 (ix2 ⟨128 * t.val + i.val, by omega⟩ j) from read_1 (V m c main_v1) t ht i j]
  rw [show iblk m c 3 t (ix2 i j) = V m c main_v3 (ix2 ⟨128 * t.val + i.val, by omega⟩ j) from read_3 (V m c main_v3) t ht i j]

theorem array_v : (dats m 0 c).arrAt 6 cfg0.N = vOf (V m c main_v1) (V m c main_v3) := by
  refine (dats m 0 c).arrAt_eq_of_covers 6 (vOf (V m c main_v1) (V m c main_v3)) (by decide +kernel) fun t hf y => ?_
  obtain ⟨-, -, -, -, e4, e5, e6⟩ := index_eq t
  rw [after0_6]
  idx_vars y
  generalize hb : vOf (V m c main_v1) (V m c main_v3) = b
  blk_simp
  refine (block_v m c t t.isLt y0 y1).trans ?_
  rw [hb]
  blk_ext [e6]

/-- The step of the weights, as the reference computes it of the arguments. -/
def resDelta : Vec Ideal S2x512x2048 .f32 :=
  val_main_v23 (F := Ideal) (m ((c.tc : Thread nD τ).loc main_arg0)) (m ((c.tc : Thread nD τ).loc main_arg1))
    (m ((c.tc : Thread nD τ).loc main_arg2)) (m ((c.tc : Thread nD τ).loc main_arg3))

/-- The new first moments, as the reference computes them of the arguments. -/
def resM : Vec Ideal S2x512x2048 .f32 :=
  val_main_v4 (F := Ideal) (m ((c.tc : Thread nD τ).loc main_arg1)) (m ((c.tc : Thread nD τ).loc main_arg2))

/-- The new second moments, as the reference computes them of the arguments. -/
def resV : Vec Ideal S2x512x2048 .f32 :=
  val_main_v10 (F := Ideal) (m ((c.tc : Thread nD τ).loc main_arg1)) (m ((c.tc : Thread nD τ).loc main_arg3))

theorem entry_0 : V m c main_v0 = shapeCast S1024x2048 (m ((c.tc : Thread nD τ).loc main_arg0)) shapeCasts_S2x512x2048_S1024x2048 := by
  entry_read
  rfl

theorem entry_1 : V m c main_v1 = shapeCast S1024x2048 (m ((c.tc : Thread nD τ).loc main_arg1)) shapeCasts_S2x512x2048_S1024x2048 := by
  entry_read
  rfl

theorem entry_2 : V m c main_v2 = shapeCast S1024x2048 (m ((c.tc : Thread nD τ).loc main_arg2)) shapeCasts_S2x512x2048_S1024x2048 := by
  entry_read
  rfl

theorem entry_3 : V m c main_v3 = shapeCast S1024x2048 (m ((c.tc : Thread nD τ).loc main_arg3)) shapeCasts_S2x512x2048_S1024x2048 := by
  entry_read
  rfl

theorem value_delta : Pipeline.afterTail₀ cfgs (dats m) 0 (V0 m) [hostOps1] c main_v5 = resDelta m c := by
  have e : Pipeline.afterTail₀ cfgs (dats m) 0 (V0 m) [hostOps1] c main_v5
      = shapeCast S2x512x2048 ((dats m 0 c).arrAt 4 cfg0.N) shapeCasts_S1024x2048_S2x512x2048 := by
    unfold Pipeline.afterTail₀
    simp only [hostOps1, List.flatten_cons, List.flatten_nil, List.append_nil]
    after_results
    exact congrArg (fun a => shapeCast S2x512x2048 a shapeCasts_S1024x2048_S2x512x2048) (Pipeline.withArrays_arr spec0 (by decide) c (V0 m c)
      (fun w => (dats m 0 c).arrAt w cfg0.N) 4)
  rw [e, array_delta, entry_0, entry_1, entry_2, entry_3]
  exact back4 delta _ _ _ _ _ _

theorem value_m : Pipeline.afterTail₀ cfgs (dats m) 0 (V0 m) [hostOps1] c main_v6 = resM m c := by
  have e : Pipeline.afterTail₀ cfgs (dats m) 0 (V0 m) [hostOps1] c main_v6
      = shapeCast S2x512x2048 ((dats m 0 c).arrAt 5 cfg0.N) shapeCasts_S1024x2048_S2x512x2048 := by
    unfold Pipeline.afterTail₀
    simp only [hostOps1, List.flatten_cons, List.flatten_nil, List.append_nil]
    after_results
    exact congrArg (fun a => shapeCast S2x512x2048 a shapeCasts_S1024x2048_S2x512x2048) (Pipeline.withArrays_arr spec0 (by decide) c (V0 m c)
      (fun w => (dats m 0 c).arrAt w cfg0.N) 5)
  rw [e, array_m, entry_1, entry_2]
  exact back2 newM _ _ _ _

theorem value_v : Pipeline.afterTail₀ cfgs (dats m) 0 (V0 m) [hostOps1] c main_v7 = resV m c := by
  have e : Pipeline.afterTail₀ cfgs (dats m) 0 (V0 m) [hostOps1] c main_v7
      = shapeCast S2x512x2048 ((dats m 0 c).arrAt 6 cfg0.N) shapeCasts_S1024x2048_S2x512x2048 := by
    unfold Pipeline.afterTail₀
    simp only [hostOps1, List.flatten_cons, List.flatten_nil, List.append_nil]
    after_results
    exact congrArg (fun a => shapeCast S2x512x2048 a shapeCasts_S1024x2048_S2x512x2048) (Pipeline.withArrays_arr spec0 (by decide) c (V0 m c)
      (fun w => (dats m 0 c).arrAt w cfg0.N) 6)
  rw [e, array_v, entry_1, entry_3]
  exact back2 newV _ _ _ _

/-- Every run of the program ends with the reference's three results and the arguments as they were. -/
theorem run (ρ : Dev nD → PrngReg) : θ_run (defs (F := Ideal)) (onTc (τ := τ) (main (F := Ideal))) ⟨m, fun _ => 0, ρ⟩ fun r => ∀ c : Dev nD,
      r.2.mem ((c.tc : Thread nD τ).loc main_v5) = resDelta m c ∧ r.2.mem ((c.tc : Thread nD τ).loc main_v6) = resM m c
      ∧ r.2.mem ((c.tc : Thread nD τ).loc main_v7) = resV m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) := by
  refine (θ_run defs _ _).mono (fun r h c => ?_) (run_main m ρ)
  refine ⟨((h c).2 main_v5 (Pipeline.mem_restRefs_of main_v5 (by decide) (by decide))).trans (value_delta m c),
    ((h c).2 main_v6 (Pipeline.mem_restRefs_of main_v6 (by decide) (by decide))).trans (value_m m c),
    ((h c).2 main_v7 (Pipeline.mem_restRefs_of main_v7 (by decide) (by decide))).trans (value_v m c), ?_⟩
  exact ⟨((h c).2 main_arg0 (Pipeline.mem_restRefs_of main_arg0 (by decide) (by decide))).trans (W_main_arg0 m (dats m) c),
    ((h c).2 main_arg1 (Pipeline.mem_restRefs_of main_arg1 (by decide) (by decide))).trans (W_main_arg1 m (dats m) c),
    ((h c).2 main_arg2 (Pipeline.mem_restRefs_of main_arg2 (by decide) (by decide))).trans (W_main_arg2 m (dats m) c),
    ((h c).2 main_arg3 (Pipeline.mem_restRefs_of main_arg3 (by decide) (by decide))).trans (W_main_arg3 m (dats m) c)⟩

end Cert.AdamWOutIdeal.Proj

end
-- ==== Proof.Proj.RowNorm.lean ====
/-
  A row's norm and its gradient: the gradient of an entry as the norm's rule gives it, and as its derivative, taken factor by
  factor, gives it. The two are equal for any row of extended reals, of any width.
-/
module

public import proofs.«01_k».proof.Proof.Proj.OutLoss

@[expose] public section

noncomputable section

namespace Cert.RowNorm

open Idealize.ShloMosaic Idealize.ShloMosaic.TcCoe Cert.Adam
open Cert.OutLossIdeal.Proj (mul_sum_real)

theorem lit_eps : Ideal.ofBits .f32 0x358637BD#32 = ((8796093 / 8796093022208 : ℝ) : EReal) := by
  simp [Ideal.ofBits, Ideal.ieee, -EReal.coe_mul]; norm_num
theorem lit_neg_half : Ideal.ofBits .f32 0xBF000000#32 = ((-(1 / 2) : ℝ) : EReal) := by
  simp [Ideal.ofBits, Ideal.ieee, -EReal.coe_mul]; norm_num

variable {n : Nat}

/-- The mean of a row's squares, and a little more. -/
def meanSq (w : EReal) (x : Fin n → EReal) : EReal := Ideal.div (∑ k, x k * x k) w + lit 0x358637BD#32

theorem sq_nonneg' (x : EReal) : 0 ≤ x * x := by
  rcases le_total 0 x with h | h
  · exact mul_nonneg h h
  · rw [← neg_mul_neg]
    exact mul_nonneg (EReal.neg_nonneg.mpr h) (EReal.neg_nonneg.mpr h)

theorem sum_sq_nonneg (x : Fin n → EReal) : 0 ≤ ∑ k, x k * x k := Finset.sum_nonneg fun k _ => sq_nonneg' (x k)

variable {w : ℝ} (hw : 0 < w)
include hw

/-- It is infinite or a positive real number. -/
theorem meanSq_cases (x : Fin n → EReal) : meanSq w x = ⊤ ∨ ∃ v : ℝ, 0 < v ∧ meanSq w x = v := by
  unfold meanSq
  rw [show lit 0x358637BD#32 = ((8796093 / 8796093022208 : ℝ) : EReal) from lit_eps, Ideal.div_coe hw.ne']
  have h0 := sum_sq_nonneg x
  generalize ∑ k, x k * x k = s at h0
  induction s with
  | bot => simp at h0
  | top => exact .inl (by rw [EReal.top_mul_coe_of_pos (by positivity)]; rfl)
  | coe s => exact .inr ⟨s * (1 / w) + 8796093 / 8796093022208, by
      have : 0 ≤ s := by exact_mod_cast h0
      positivity, by norm_cast⟩

/-- With an infinite entry it is infinite. -/
theorem meanSq_top (x : Fin n → EReal) (j : Fin n) (hj : x j * x j = ⊤) : meanSq w x = ⊤ := by
  have h : ∑ k, x k * x k = ⊤ :=
    top_le_iff.mp (hj ▸ Finset.single_le_sum (f := fun k => x k * x k) (fun k _ => sq_nonneg' (x k)) (Finset.mem_univ j))
  unfold meanSq
  rw [h, Ideal.div_coe hw.ne', EReal.top_mul_coe_of_pos (by positivity),
    show lit 0x358637BD#32 = ((8796093 / 8796093022208 : ℝ) : EReal) from lit_eps]
  rfl

/-- A normed entry is a real number, whatever the row. -/
theorem normed_real (x : Fin n → EReal) (j : Fin n) : ∃ r : ℝ, x j * Ideal.rsqrt (meanSq w x) = r := by
  rcases meanSq_cases hw x with h | ⟨v, hv, h⟩
  · exact ⟨0, by rw [h, Ideal.rsqrt_top, mul_zero]; rfl⟩
  · have hr : Ideal.rsqrt (v : EReal) = (((Real.sqrt v)⁻¹ : ℝ) : EReal) := by
      rw [Ideal.rsqrt_coe, if_neg hv.le.not_gt, if_neg hv.ne']
    have hx : x j * x j ≠ ⊤ := fun e => by
      rw [meanSq_top hw x j e] at h
      exact EReal.top_ne_coe v h
    rw [h, hr]
    generalize x j = y at hx
    induction y with
    | bot => simp at hx
    | top => simp at hx
    | coe y => exact ⟨_, (EReal.coe_mul _ _).symm⟩

/-- The gradient of a row's entry, as the norm's rule gives it and as its derivative, taken factor by factor, gives it. -/
theorem row_eq (x d : Fin n → EReal) (e : EReal) (j : Fin n) :
    e + Ideal.rsqrt (meanSq w x) * (d j - x j * Ideal.rsqrt (meanSq w x)
        * Ideal.div (∑ k, d k * (x k * Ideal.rsqrt (meanSq w x))) w)
      = e + d j * Ideal.rsqrt (meanSq w x)
        + x j * Ideal.div ((∑ k, x k * d k) * (lit 0xBF000000#32 * Ideal.div (Ideal.rsqrt (meanSq w x)) (meanSq w x))) w
        + Ideal.div ((∑ k, x k * d k) * (lit 0xBF000000#32 * Ideal.div (Ideal.rsqrt (meanSq w x)) (meanSq w x))) w * x j := by
  rw [show lit 0xBF000000#32 = ((-(1 / 2) : ℝ) : EReal) from lit_neg_half]
  simp only [Ideal.div_coe hw.ne']
  rcases meanSq_cases hw x with h | ⟨v, hv, h⟩
  · have hz : Ideal.div 0 ⊤ = 0 := by simp [Ideal.div]
    rw [h, Ideal.rsqrt_top, hz]
    simp
  · have hr : Ideal.rsqrt (v : EReal) = (((Real.sqrt v)⁻¹ : ℝ) : EReal) := by
      rw [Ideal.rsqrt_coe, if_neg hv.le.not_gt, if_neg hv.ne']
    have hq : (Real.sqrt v)⁻¹ * (Real.sqrt v)⁻¹ = 1 / v := by
      rw [← mul_inv, Real.mul_self_sqrt hv.le, one_div]
    have hρ : 0 ≤ (Real.sqrt v)⁻¹ := inv_nonneg.mpr (Real.sqrt_nonneg v)
    rw [h, hr, Ideal.div_coe hv.ne', ← EReal.coe_mul, ← hq]
    generalize (Real.sqrt v)⁻¹ = ρ at hρ
    have hs : ∑ k, d k * (x k * (ρ : EReal)) = (ρ : EReal) * ∑ k, x k * d k := by
      rw [mul_sum_real _ _ hρ]
      exact Finset.sum_congr rfl fun k _ => by rw [mul_comm, mul_comm (x k), mul_assoc]
    rw [hs]
    generalize ∑ k, x k * d k = S
    have ha : 0 ≤ ρ * (ρ * ρ) / 2 * (1 / w) := by positivity
    have e1 : x j * (ρ : EReal) * ((ρ : EReal) * S * ((1 / w : ℝ) : EReal)) = x j * S * ((ρ * ρ * (1 / w) : ℝ) : EReal) := by
      simp only [EReal.coe_mul]
      ac_rfl
    have e2 : S * (((-(1 / 2) : ℝ) : EReal) * ((ρ * (ρ * ρ) : ℝ) : EReal)) * ((1 / w : ℝ) : EReal)
        = -S * ((ρ * (ρ * ρ) / 2 * (1 / w) : ℝ) : EReal) := by
      rw [mul_assoc, ← EReal.coe_mul, ← EReal.coe_mul,
        show -(1 / 2) * (ρ * (ρ * ρ)) * (1 / w) = -(ρ * (ρ * ρ) / 2 * (1 / w)) by ring, EReal.coe_neg, mul_neg, neg_mul]
    have e3 : ∀ (a : ℝ) (y : EReal), (a : EReal) * -y = ((-a : ℝ) : EReal) * y := fun a y => by rw [EReal.coe_neg, mul_neg, neg_mul]
    rw [e1, e2, mul_comm _ (x j), sub_eq_add_neg, EReal.left_distrib_of_nonneg_of_ne_top (by exact_mod_cast hρ) (EReal.coe_ne_top ρ),
      add_assoc (e + _), ← mul_assoc, mul_comm _ ((ρ * (ρ * ρ) / 2 * (1 / w) : ℝ) : EReal),
      ← EReal.right_distrib_of_nonneg (by exact_mod_cast ha) (by exact_mod_cast ha), ← EReal.coe_add, ← add_assoc, mul_comm (d j)]
    congr 1
    rw [mul_comm (x j * S), ← neg_mul, ← EReal.coe_neg, ← mul_assoc, ← EReal.coe_mul, mul_neg, mul_neg (x j) S, e3]
    exact congrArg (fun a : ℝ => (a : EReal) * (x j * S)) (by ring)

end Cert.RowNorm

end
-- ==== Proof.Proj.NormBwd.lean ====
/-
  The gradient of a layer's norm. A row's gradient is one expression of the row; the gain's gradient is a sum over all rows,
  which the kernel takes a block of rows at a time.
-/
module

public import proofs.«01_k».proof.Proof.Proj.RowNorm
public import proofs.«01_k».proof.Proof.Gen.NormBwdIdeal.Value
public import proofs.«01_k».proof.Proof.Gen.NormBwdReferenceIdeal.Read

@[expose] public section

set_option maxRecDepth 16384

noncomputable section

namespace Cert.NormBwdIdeal.Proj

open Idealize.ShloMosaic Idealize.ShloMosaic.TcCoe Cert.Adam
open Cert.NormBwdIdeal Cert.NormBwdIdeal.Gen Cert.NormBwdReferenceIdeal.Read
open Cert.OutLossIdeal.Proj (lit_width)
open Cert.RowNorm (meanSq row_eq)

/-! ## A tile -/

section Tile

variable (x dh : Vec Ideal S512x2048 .f32) (g : Vec Ideal S1x2048 .f32) (dres : Vec Ideal S512x2048 .f32)

/-- The reciprocal root of a row of a tile. -/
def tscale (i : Fin 512) : EReal := Ideal.rsqrt (meanSq (lit 0x45000000#32) fun k => x (ix2 i k))

theorem pay1_apply (i : Fin 512) : k0_pay1 x (ix2 i 0) = tscale x i := by
  unfold tscale meanSq
  pointwise [k0_pay1]
  rfl

theorem pay2_apply (i : Fin 512) (j : Fin 2048) : k0_pay2 x (ix2 i j) = x (ix2 i j) * tscale x i := by
  rw [← pay1_apply]
  pointwise [k0_pay2]

theorem pay3_apply (j : Fin 2048) : k0_pay3 x dh (ix2 0 j) = ∑ i : Fin 512, dh (ix2 i j) * (x (ix2 i j) * tscale x i) := by
  pointwise [k0_pay3]
  simp only [pay2_apply]

theorem pay4_apply (a : Vec Ideal S1x2048 .f32) (j : Fin 2048) : k0_pay4 x dh a (ix2 0 j) = a (ix2 0 j) + k0_pay3 x dh (ix2 0 j) := by
  pointwise [k0_pay4, shapeCast_self]

theorem pay5_apply (i : Fin 512) (j : Fin 2048) : k0_pay5 x dh g dres (ix2 i j)
    = dres (ix2 i j) + tscale x i * (dh (ix2 i j) * g (ix2 0 j) - x (ix2 i j) * tscale x i
        * Ideal.div (∑ k : Fin 2048, dh (ix2 i k) * g (ix2 0 k) * (x (ix2 i k) * tscale x i)) (lit 0x45000000#32)) := by
  pointwise [k0_pay5]
  simp only [pay2_apply, pay1_apply]
  rfl

end Tile

section Point

variable (c : Dev nD) (i : grid0.Coords) (arg1 : Memref sig .tc .vmem S512x2048 .f32) (harg1 : arg1.IsWhole)
    (arg2 : Memref sig .tc .vmem S512x2048 .f32) (harg2 : arg2.IsWhole)
    (arg3 : Memref sig .tc .vmem S1x2048 .f32) (harg3 : arg3.IsWhole)
    (arg4 : Memref sig .tc .vmem S512x2048 .f32) (harg4 : arg4.IsWhole)
    (arg5 : Memref sig .tc .vmem S512x2048 .f32) (harg5 : arg5.IsWhole)
    (arg6 : Memref sig .tc .vmem S1x2048 .f32) (harg6 : arg6.IsWhole)
    (x0 x1 : Vec Ideal S512x2048 .f32) (x2 : Vec Ideal S1x2048 .f32) (x3 : Vec Ideal S512x2048 .f32) (xo : Vec Ideal S1x2048 .f32)

theorem first_dx (hc0 : cond0_0 i) (hc1 : ¬cond0_1 i) : out0_A_4 c i arg1 harg1 arg2 harg2 arg3 harg3 arg4 harg4 arg5 harg5 arg6 harg6 hc0 hc1 x0 x1 x2 x3 = k0_pay5 x0 x1 x2 x3 := by
  frame_out

theorem first_dg (hc0 : cond0_0 i) (hc1 : ¬cond0_1 i) : out0_A_5 c i arg1 harg1 arg2 harg2 arg3 harg3 arg4 harg4 arg5 harg5 arg6 harg6 hc0 hc1 x0 x1 x2 x3 = k0_pay3 x0 x1 := by
  frame_out

theorem next_dx (hc0 : ¬cond0_0 i) (hc1 : cond0_1 i) : out0_B_4 c i arg1 harg1 arg2 harg2 arg3 harg3 arg4 harg4 arg5 harg5 arg6 harg6 hc0 hc1 x0 x1 x2 x3 xo = k0_pay5 x0 x1 x2 x3 := by
  frame_out

theorem next_dg (hc0 : ¬cond0_0 i) (hc1 : cond0_1 i) : out0_B_5 c i arg1 harg1 arg2 harg2 arg3 harg3 arg4 harg4 arg5 harg5 arg6 harg6 hc0 hc1 x0 x1 x2 x3 xo = k0_pay4 x0 x1 xo := by
  frame_out

end Point

theorem index_eq (t : Fin cfg0.N) : win0_0.index t = ![t.val, 0] ∧ win0_1.index t = ![t.val, 0]
    ∧ win0_2.index t = ![0, 0] ∧ win0_3.index t = ![t.val, 0] ∧ win0_4.index t = ![t.val, 0] := by
  revert t; decide +kernel

/-! ## The arrays -/

variable (m : (ℓ : Loc nD τ sig) → Buf (Elt Ideal) ℓ) (c : Dev nD)

/-- The input's gradient, as the reference computes it of the arguments. -/
def resDx : Vec Ideal S4096x2048 .f32 :=
  val_main_v34 (F := Ideal) (m ((c.tc : Thread nD τ).loc main_arg0)) (m ((c.tc : Thread nD τ).loc main_arg1))
    (m ((c.tc : Thread nD τ).loc main_arg2)) (m ((c.tc : Thread nD τ).loc main_arg3))

/-- The gain's gradient, as the reference computes it of the arguments. -/
def resDg : Vec Ideal S1x2048 .f32 :=
  val_main_v17 (F := Ideal) (m ((c.tc : Thread nD τ).loc main_arg0)) (m ((c.tc : Thread nD τ).loc main_arg1))

def x_ (i : Fin 4096) (j : Fin 2048) : EReal := m ((c.tc : Thread nD τ).loc main_arg0) (ix2 i j)
def dh_ (i : Fin 4096) (j : Fin 2048) : EReal := m ((c.tc : Thread nD τ).loc main_arg1) (ix2 i j)
def g_ (j : Fin 2048) : EReal := m ((c.tc : Thread nD τ).loc main_arg2) (ix2 0 j)
def dres_ (i : Fin 4096) (j : Fin 2048) : EReal := m ((c.tc : Thread nD τ).loc main_arg3) (ix2 i j)

/-- The reciprocal root of a row of the argument. -/
def scale (i : Fin 4096) : EReal := Ideal.rsqrt (meanSq (lit 0x45000000#32) (x_ m c i))

theorem v6_apply (i : Fin 4096) : val_main_v6 (F := Ideal) (m ((c.tc : Thread nD τ).loc main_arg0)) (ix2 i 0) = meanSq (lit 0x45000000#32) (x_ m c i) := by
  unfold meanSq x_
  pointwise [val_main_v6, val_main_v5, val_main_v4, val_main_v3, val_main_v2, val_main_v1, val_main_v0]
  change Ideal.div (Ideal.ofBits .f32 0x00000000#32 + _) _ + _ = _
  rw [Ideal.ofBits_zero_f32, zero_add]
  rfl

theorem resDx_apply (i : Fin 4096) (j : Fin 2048) : resDx m c (ix2 i j)
    = dres_ m c i j + scale m c i * (dh_ m c i j * g_ m c j - x_ m c i j * scale m c i
        * Ideal.div (∑ k : Fin 2048, dh_ m c i k * g_ m c k * (x_ m c i k * scale m c i)) (lit 0x45000000#32)) := by
  unfold scale
  rw [show lit 0x45000000#32 = ((2048 : ℝ) : EReal) from lit_width]
  refine Eq.trans ?_ (row_eq (by norm_num) (x_ m c i) (fun k => dh_ m c i k * g_ m c k) _ j).symm
  rw [← show lit 0x45000000#32 = ((2048 : ℝ) : EReal) from lit_width, ← v6_apply]
  unfold resDx x_ dh_ g_ dres_
  pointwise [val_main_v34, val_main_v33, val_main_v32, val_main_v31, val_main_v30, val_main_v29, val_main_v28, val_main_v27, val_main_v26, val_main_v25,
    val_main_v24, val_main_v23, val_main_v22, val_main_v21, val_main_v20, val_main_v19, val_main_v18, val_main_v10, val_main_v9, val_main_v8, val_main_v7]
  simp only [show val_main_cst_6 (F := Ideal) (Shape.Idx.first Cert.NormBwdReferenceIdeal.Gen.h_S_) = 0 from Ideal.ofBits_zero_f32,
    show val_main_cst_4 (F := Ideal) (Shape.Idx.first Cert.NormBwdReferenceIdeal.Gen.h_S_) = 0 from Ideal.ofBits_zero_f32,
    zero_add, Finset.univ_unique, Finset.sum_singleton]
  rfl

theorem resDg_apply (j : Fin 2048) : resDg m c (ix2 0 j) = ∑ i : Fin 4096, dh_ m c i j * (x_ m c i j * scale m c i) := by
  unfold scale
  simp only [← v6_apply]
  unfold resDg x_ dh_
  pointwise [val_main_v17, val_main_v16, val_main_v15, val_main_v12, val_main_v11, val_main_v7]
  change Ideal.ofBits .f32 0x00000000#32 + _ = _
  rw [Ideal.ofBits_zero_f32, zero_add]
  exact Finset.sum_congr rfl fun i _ => mul_comm _ _

theorem tscale_eq (t : Fin cfg0.N) (ht : t.val < 8) (i : Fin 512) : tscale (iblk m c 0 t) i = scale m c ⟨512 * t.val + i.val, by omega⟩ := by
  obtain ⟨e0, -⟩ := index_eq t
  unfold tscale scale x_
  congr 2
  funext k
  blk_ext [iblk, V, e0]

theorem block_dx (t : Fin cfg0.N) (ht : t.val < 8) (i : Fin 512) (j : Fin 2048) :
    k0_pay5 (iblk m c 0 t) (iblk m c 1 t) (iblk m c 2 t) (iblk m c 3 t) (ix2 i j) = resDx m c (ix2 ⟨512 * t.val + i.val, by omega⟩ j) := by
  rw [resDx_apply, pay5_apply, tscale_eq m c t ht]
  obtain ⟨e0, e1, e2, e3, -⟩ := index_eq t
  have h0 : ∀ k : Fin 2048, iblk m c 0 t (ix2 i k) = x_ m c ⟨512 * t.val + i.val, by omega⟩ k := fun k => by unfold x_; blk_ext [iblk, V, e0]
  have h1 : ∀ k : Fin 2048, iblk m c 1 t (ix2 i k) = dh_ m c ⟨512 * t.val + i.val, by omega⟩ k := fun k => by unfold dh_; blk_ext [iblk, V, e1]
  have h2 : ∀ k : Fin 2048, iblk m c 2 t (ix2 0 k) = g_ m c k := fun k => by unfold g_; blk_ext [iblk, V, e2]
  have h3 : iblk m c 3 t (ix2 i j) = dres_ m c ⟨512 * t.val + i.val, by omega⟩ j := by unfold dres_; blk_ext [iblk, V, e3]
  simp only [h0, h1, h2, h3]

theorem tile_dx (t : Fin cfg0.N) : (outsAt0 m c t.val t.isLt).1 = k0_pay5 (iblk m c 0 t) (iblk m c 1 t) (iblk m c 2 t) (iblk m c 3 t) := by
  have ht : t.val < 8 := t.isLt
  by_cases h0 : t.val % 8 = 0
  · refine (congrArg Prod.fst (outsAt0_A m c t h0 (by omega))).trans ?_
    dsimp only
    rw [first_dx]
  · refine (congrArg Prod.fst (outsAt0_B m c t h0 (by omega))).trans ?_
    dsimp only
    rw [next_dx]

theorem value_dx : (dats m 0 c).arrAt 4 cfg0.N = resDx m c := by
  refine (dats m 0 c).arrAt_eq_of_covers 4 (resDx m c) (by decide +kernel) fun t hf y => ?_
  obtain ⟨-, -, -, -, e4⟩ := index_eq t
  rw [after0_4, tile_dx]
  idx_vars y
  blk_simp
  refine (block_dx m c t t.isLt y0 y1).trans ?_
  blk_ext [e4]

/-- What a point adds to the gain's gradient. -/
def part (t : Fin cfg0.N) : Vec Ideal S1x2048 .f32 := k0_pay3 (iblk m c 0 t) (iblk m c 1 t)

def tEnd : Fin cfg0.N := ⟨7, by decide⟩

theorem part_apply (t : Fin cfg0.N) (ht : t.val < 8) (j : Fin 2048) : part m c t (ix2 0 j)
    = ∑ i : Fin 512, dh_ m c ⟨512 * t.val + i.val, by omega⟩ j * (x_ m c ⟨512 * t.val + i.val, by omega⟩ j * scale m c ⟨512 * t.val + i.val, by omega⟩) := by
  obtain ⟨e0, e1, -⟩ := index_eq t
  unfold part
  rw [pay3_apply]
  refine Finset.sum_congr rfl fun i _ => ?_
  rw [tscale_eq m c t ht]
  have h0 : iblk m c 0 t (ix2 i j) = x_ m c ⟨512 * t.val + i.val, by omega⟩ j := by unfold x_; blk_ext [iblk, V, e0]
  have h1 : iblk m c 1 t (ix2 i j) = dh_ m c ⟨512 * t.val + i.val, by omega⟩ j := by unfold dh_; blk_ext [iblk, V, e1]
  rw [h0, h1]

theorem sum_part (j : Fin 2048) : ∑ t : Fin cfg0.N, part m c t (ix2 0 j) = resDg m c (ix2 0 j) := by
  rw [resDg_apply, Fin.sum_univ_tiles (N := 4096) 8 512 (by decide)]
  refine Finset.sum_congr rfl fun t _ => ?_
  rw [part_apply m c t t.isLt]
  refine Finset.sum_congr rfl fun i _ => ?_
  have e : 512 * t.val + i.val = t.val * 512 + i.val := by omega
  simp only [e]

theorem last_dg : (outsAt0 m c tEnd.val tEnd.isLt).2 = resDg m c := by
  funext y
  idx_vars y
  obtain rfl : y0 = 0 := Subsingleton.elim _ _
  rw [← sum_part]
  refine (Pipeline.eq_sum_fin_of_reset_step_apply_last (fun n h => (outsAt0 m c n h).2) 8 (fun _ => 0) (part m c)
      (fun t h j => ?_) (fun t h j => ?_) (le_of_eq N_0) tEnd rfl (ix2 0 y1)).trans (zero_add _)
  · rw [outsAt0_A m c t h (by have := t.isLt; have : cfg0.N = 8 := rfl; omega), zero_add]
    dsimp only
    rw [first_dg]
    rfl
  · idx_vars j
    obtain rfl : j0 = 0 := Subsingleton.elim _ _
    rw [outsAt0_B m c t h (by omega)]
    dsimp only
    rw [next_dg]
    exact pay4_apply ..

theorem value_dg : (dats m 0 c).arrAt 5 cfg0.N = resDg m c := by
  refine (dats m 0 c).arrAt_eq_of_after_last 5 tEnd (by decide +kernel) _ fun y => ?_
  rw [after0_5, last_dg]
  generalize resDg m c = b
  idx_vars y
  blk_ext []

theorem run (ρ : Dev nD → PrngReg) : θ_run (defs (F := Ideal)) (onTc (τ := τ) (main (F := Ideal))) ⟨m, fun _ => 0, ρ⟩ fun r => ∀ c : Dev nD,
      r.2.mem ((c.tc : Thread nD τ).loc main_v0_0) = resDx m c ∧ r.2.mem ((c.tc : Thread nD τ).loc main_v0_1) = resDg m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun r h c => ⟨(h c).1.trans (value_dx m c), (h c).2.1.trans (value_dg m c), (h c).2.2⟩)
    (Cert.NormBwdIdeal.Value.run_blocks (F := Ideal) m ρ)

end Cert.NormBwdIdeal.Proj

end
-- ==== Proof.Proj.NormFwd.lean ====
/-
  The norm of a layer's input: a block of rows at a time, each row its own.
-/
module

public import proofs.«01_k».proof.Proof.Proj.Adam
public import proofs.«01_k».proof.Proof.Gen.NormFwdIdeal.Value
public import proofs.«01_k».proof.Proof.Gen.NormFwdReferenceIdeal.Read

@[expose] public section

set_option maxRecDepth 16384

noncomputable section

namespace Cert.NormFwdIdeal.Proj

open Idealize.ShloMosaic Idealize.ShloMosaic.TcCoe Cert.Adam
open Cert.NormFwdIdeal Cert.NormFwdIdeal.Gen Cert.NormFwdReferenceIdeal.Read

/-- A row normed and scaled by the gain, at an entry. -/
def normed (x g : Fin 2048 → EReal) (j : Fin 2048) : EReal :=
  x j * Ideal.rsqrt (Ideal.div (∑ k, x k * x k) (lit 0x45000000#32) + lit 0x358637BD#32) * g j

theorem pay1_apply (x : Vec Ideal S512x2048 .f32) (g : Vec Ideal S1x2048 .f32) (i : Fin 512) (j : Fin 2048) :
    k0_pay1 x g (ix2 i j) = normed (fun k => x (ix2 i k)) (fun k => g (ix2 0 k)) j := by
  unfold normed
  pointwise [k0_pay1]
  rfl

theorem out_eq (x : Vec Ideal S512x2048 .f32) (g : Vec Ideal S1x2048 .f32) : out0_2 x g = k0_pay1 x g := by
  unfold out0_2
  rw [View.canon_cons_unit_lit _ _ _ (by decide), View.ld_unit_lit _ _ (by decide), View.ld_unit_lit _ _ (by decide)]

theorem index_eq (t : Fin cfg0.N) : win0_0.index t = ![t.val, 0] ∧ win0_1.index t = ![0, 0] ∧ win0_2.index t = ![t.val, 0] := by
  revert t; decide +kernel

variable (m : (ℓ : Loc nD τ sig) → Buf (Elt Ideal) ℓ) (c : Dev nD)

/-- The normed rows, as the reference computes them of the arguments. -/
def res : Vec Ideal S4096x2048 .bf16 :=
  val_main_v12 (F := Ideal) (m ((c.tc : Thread nD τ).loc main_arg0)) (m ((c.tc : Thread nD τ).loc main_arg1))

theorem res_apply (i : Fin 4096) (j : Fin 2048) : res m c (ix2 i j)
    = normed (fun k => m ((c.tc : Thread nD τ).loc main_arg0) (ix2 i k)) (fun k => m ((c.tc : Thread nD τ).loc main_arg1) (ix2 0 k)) j := by
  unfold res normed
  pointwise [val_main_v12, val_main_v11, val_main_v10, val_main_v9, val_main_v8, val_main_v7, val_main_v6, val_main_v5, val_main_v4,
    val_main_v3, val_main_v2, val_main_v1, val_main_v0]
  simp only [show val_main_cst (F := Ideal) (Shape.Idx.first Cert.NormFwdReferenceIdeal.Gen.h_S_) = 0 from Ideal.ofBits_zero_f32, zero_add]
  rfl

theorem value : (dats m 0 c).arrAt 2 cfg0.N = res m c := by
  refine (dats m 0 c).arrAt_eq_of_covers 2 (res m c) (by decide +kernel) fun t hf y => ?_
  obtain ⟨e0, e1, e2⟩ := index_eq t
  have ht : t.val < 8 := t.isLt
  rw [after0_2, out_eq]
  idx_vars y
  blk_simp
  have h0 : ∀ k : Fin 2048, iblk m c 0 t (ix2 y0 k) = m ((c.tc : Thread nD τ).loc main_arg0) (ix2 ⟨512 * t.val + y0.val, by omega⟩ k) := fun k => by
    blk_ext [iblk, V, e0]
  have h1 : ∀ k : Fin 2048, iblk m c 1 t (ix2 0 k) = m ((c.tc : Thread nD τ).loc main_arg1) (ix2 0 k) := fun k => by blk_ext [iblk, V, e1]
  refine ((pay1_apply _ _ y0 y1).trans ?_).trans ((res_apply m c ⟨512 * t.val + y0.val, by omega⟩ y1).symm.trans ?_)
  · simp only [h0, h1]
  · blk_ext [e2]

theorem run (ρ : Dev nD → PrngReg) : θ_run (defs (F := Ideal)) (onTc (τ := τ) (main (F := Ideal))) ⟨m, fun _ => 0, ρ⟩ fun r => ∀ c : Dev nD,
      r.2.mem ((c.tc : Thread nD τ).loc main_v0) = res m c
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c => ⟨(h c).1.trans (value m c), (h c).2⟩)
    (Cert.NormFwdIdeal.Value.run_blocks (F := Ideal) m ρ)

end Cert.NormFwdIdeal.Proj

end
-- ==== Proof.Proj.Gate.lean ====
/-
  A mixer's end: the two directions' outputs are added, each head of 128 columns is normed and scaled, and the gate's silu
  multiplies it. The kernel takes a block of rows at a time and writes each head apart.
-/
module

public import proofs.«01_k».proof.Proof.Proj.Adam
public import Idealize.ShloMosaic.Lib.Pipeline.ValueKit.Tiles
public import proofs.«01_k».proof.Proof.Gen.GateIdeal.Value
public import proofs.«01_k».proof.Proof.Gen.GateReferenceIdeal.Read

@[expose] public section

set_option maxRecDepth 16384

noncomputable section

namespace Cert.GateIdeal.Proj

open Idealize.ShloMosaic Idealize.ShloMosaic.TcCoe Cert.Adam
open Cert.GateIdeal Cert.GateIdeal.Gen Cert.GateReferenceIdeal.Read

/-! ## A row of a head -/

/-- The gate's silu. -/
def silu (z : EReal) : EReal := z * Ideal.div 1 (1 + Ideal.exp (-z))

/-- The reciprocal root of a head's row. -/
def scale (o : Fin 128 → EReal) : EReal :=
  Ideal.rsqrt (Ideal.div (∑ k, o k * o k) (lit 0x43000000#32) + lit 0x358637BD#32)

/-- An entry of the gated head, from the gate's entry, the head's row and the gain's entry. -/
def entry (z : EReal) (o : Fin 128 → EReal) (g : EReal) (j : Fin 128) : EReal := silu z * (o j * scale o * g)

/-- The column of a head's entry. -/
abbrev col (h : Fin 4) (j : Fin 128) : Fin 512 := ⟨128 * h.val + j.val, by omega⟩

/-! ## A tile -/

section Tile

variable (a b : Vec Ideal S1024x128 .f32) (z : Vec Ideal S1024x512 .f32) (g : Vec Ideal S1x128 .f32)

theorem pay2_apply (i : Fin 1024) (q : Fin 512) : k0_pay2 z (ix2 i q) = silu (z (ix2 i q)) := by
  unfold silu
  pointwise [k0_pay2]
  rw [zero_sub]

theorem head0 (i : Fin 1024) (j : Fin 128) : k0_pay3 z a b g (ix2 i j)
    = entry (z (ix2 i (col 0 j))) (fun k => a (ix2 i k) + b (ix2 i k)) (g (ix2 0 j)) j := by
  unfold entry scale
  rw [← pay2_apply]
  pointwise [k0_pay3]
  refine congrArg₂ (· * ·) (congrArg (fun q => k0_pay2 z (ix2 i q)) (Fin.ext ?_)) rfl
  simp

theorem head1 (i : Fin 1024) (j : Fin 128) : k0_pay7 (k0_pay2 z) (k0_pay4 a b) (k0_pay5 a b) k0_pay6 g (ix2 i j)
    = entry (z (ix2 i (col 1 j))) (fun k => a (ix2 i k) + b (ix2 i k)) (g (ix2 0 j)) j := by
  unfold entry scale
  rw [← pay2_apply]
  pointwise [k0_pay7, k0_pay4, k0_pay5, k0_pay6]
  refine congrArg₂ (· * ·) (congrArg (fun q => k0_pay2 z (ix2 i q)) (Fin.ext ?_)) rfl
  simp

theorem head2 (i : Fin 1024) (j : Fin 128) : k0_pay8 (k0_pay2 z) a b g (ix2 i j)
    = entry (z (ix2 i (col 2 j))) (fun k => a (ix2 i k) + b (ix2 i k)) (g (ix2 0 j)) j := by
  unfold entry scale
  rw [← pay2_apply]
  pointwise [k0_pay8]
  refine congrArg₂ (· * ·) (congrArg (fun q => k0_pay2 z (ix2 i q)) (Fin.ext ?_)) rfl
  simp

theorem head3 (i : Fin 1024) (j : Fin 128) : k0_pay1 (k0_pay2 z) (k0_pay9 a b) (k0_pay10 a b) g (ix2 i j)
    = entry (z (ix2 i (col 3 j))) (fun k => a (ix2 i k) + b (ix2 i k)) (g (ix2 0 j)) j := by
  unfold entry scale
  rw [← pay2_apply]
  pointwise [k0_pay1, k0_pay9, k0_pay10]
  refine congrArg₂ (· * ·) (congrArg (fun q => k0_pay2 z (ix2 i q)) (Fin.ext ?_)) rfl
  simp

end Tile

/-- A head's columns of a block, loaded apart. -/
theorem ld_head {n : Nat} (X : Vec Ideal ⟨2, ![n, 512]⟩ .f32) (h : Fin 4) (o : Nat) (ho : o = 128 * h.val) (inb) (i : Fin n) (k : Fin 128) :
    View.ld X (Rect.unit (s := ⟨2, ![n, 512]⟩) ![0, o] ![n, 128] inb) (ix2 i k) = X (ix2 i (col h k)) := by
  subst ho
  refine View.ld_unit_apply_of X _ _ inb _ _ fun a => ?_
  fin_cases a <;> simp

theorem tile_apply (a b z : Vec Ideal S1024x512 .f32) (g : Vec Ideal S1x512 .f32) (i : Fin 1024) (h : Fin 4) (j : Fin 128) :
    out0_4 a b z g (ix2 i (col h j))
      = entry (z (ix2 i (col h j))) (fun k => a (ix2 i (col h k)) + b (ix2 i (col h k))) (g (ix2 0 (col h j))) j := by
  have e0 : View.ld z r0_0 = z := View.ld_unit_lit _ z (by decide)
  have e : k0_pay11 a b z g = k0_pay2 z := by
    unfold k0_pay11
    rw [e0]
  unfold out0_4
  rw [e, e0]
  canon_tiles x hx
  all_goals
    idx_vars x
    obtain rfl : i = x0 := Fin.ext hx0
  · obtain rfl : h = 3 := Fin.ext (show h.val = 3 by omega)
    obtain rfl : j = x1 := Fin.ext (by simpa using hx1)
    refine (head3 ..).trans ?_
    simp only [r0_7, r0_8, ld_head a 3 384 rfl, ld_head b 3 384 rfl, ld_head g 3 384 rfl]
  · obtain rfl : h = 2 := Fin.ext (show h.val = 2 by omega)
    obtain rfl : j = x1 := Fin.ext (by simpa using hx1)
    refine (head2 ..).trans ?_
    simp only [r0_5, r0_6, ld_head a 2 256 rfl, ld_head b 2 256 rfl, ld_head g 2 256 rfl]
  · obtain rfl : h = 1 := Fin.ext (show h.val = 1 by omega)
    obtain rfl : j = x1 := Fin.ext (by simpa using hx1)
    refine (head1 ..).trans ?_
    simp only [r0_3, r0_4, ld_head a 1 128 rfl, ld_head b 1 128 rfl, ld_head g 1 128 rfl]
  · obtain rfl : h = 0 := Fin.ext (show h.val = 0 by omega)
    obtain rfl : j = x1 := Fin.ext (by simpa using hx1)
    refine (head0 ..).trans ?_
    simp only [r0_1, r0_2, ld_head a 0 0 rfl, ld_head b 0 0 rfl, ld_head g 0 0 rfl]

theorem index_eq (t : Fin cfg0.N) : win0_0.index t = ![t.val, 0] ∧ win0_1.index t = ![t.val, 0] ∧ win0_2.index t = ![t.val, 3]
    ∧ win0_3.index t = ![0, 0] ∧ win0_4.index t = ![t.val, 0] := by
  revert t; decide +kernel

/-! ## The array -/

variable (m : (ℓ : Loc nD τ sig) → Buf (Elt Ideal) ℓ) (c : Dev nD)

/-- The gated heads, as the reference computes them of the arguments. -/
def res : Vec Ideal S4096x512 .bf16 :=
  val_main_v20 (F := Ideal) (m ((c.tc : Thread nD τ).loc main_arg0)) (m ((c.tc : Thread nD τ).loc main_arg1))
    (m ((c.tc : Thread nD τ).loc main_arg2)) (m ((c.tc : Thread nD τ).loc main_arg3))

def a_ (i : Fin 4096) (q : Fin 512) : EReal := m ((c.tc : Thread nD τ).loc main_arg0) (ix2 i q)
def b_ (i : Fin 4096) (q : Fin 512) : EReal := m ((c.tc : Thread nD τ).loc main_arg1) (ix2 i q)
def o_ (i : Fin 4096) (q : Fin 512) : EReal := a_ m c i q + b_ m c i q
def z_ (i : Fin 4096) (q : Fin 512) : EReal := m ((c.tc : Thread nD τ).loc main_arg2) (ix2 i ⟨1536 + q.val, by omega⟩)
def g_ (q : Fin 512) : EReal := m ((c.tc : Thread nD τ).loc main_arg3) (ix2 0 q)

theorem v16_apply (i : Fin 4096) (h : Fin 4) (j : Fin 128) :
    val_main_v16 (F := Ideal) (m ((c.tc : Thread nD τ).loc main_arg0)) (m ((c.tc : Thread nD τ).loc main_arg1))
      (m ((c.tc : Thread nD τ).loc main_arg3)) (ix3 i h j)
      = o_ m c i (col h j) * scale (fun k => o_ m c i (col h k)) * g_ m c (col h j) := by
  have e : ∀ k : Fin 128, val_main_v2 (F := Ideal) (m ((c.tc : Thread nD τ).loc main_arg0)) (m ((c.tc : Thread nD τ).loc main_arg1)) (ix3 i h k)
      = o_ m c i (col h k) := fun k => by
    unfold o_ a_ b_
    pointwise [val_main_v2, val_main_v1]
    congr 1 <;> blk_ext []
  unfold scale g_
  simp only [← e]
  pointwise [val_main_v16, val_main_v15, val_main_v14, val_main_v13, val_main_v12, val_main_v11, val_main_v10, val_main_v9, val_main_v8,
    val_main_v7, val_main_v6, val_main_v5, val_main_v4, val_main_v3]
  simp only [show val_main_cst (F := Ideal) (Shape.Idx.first Cert.GateReferenceIdeal.Gen.h_S_) = 0 from Ideal.ofBits_zero_f32, zero_add]
  refine congrArg₂ (· * ·) rfl ?_
  blk_ext []

theorem res_apply (i : Fin 4096) (h : Fin 4) (j : Fin 128) : res m c (ix2 i (col h j))
    = entry (z_ m c i (col h j)) (fun k => o_ m c i (col h k)) (g_ m c (col h j)) j := by
  unfold entry silu z_
  rw [← v16_apply]
  unfold res
  pointwise [val_main_v20, val_main_v19, val_main_v18, val_main_v17, val_main_call0_v5, val_main_call0_v4, val_main_call0_v3, val_main_call0_v2,
    val_main_call0_v1, val_main_call0_v0, val_main_v0]
  rw [show val_main_call0_cst_0 (F := Ideal) ix0 = 1 from Ideal.ofBits_one_f32, show val_main_call0_cst (F := Ideal) ix0 = 1 from Ideal.ofBits_one_f32]
  refine congrArg₂ (· * ·) rfl ?_
  blk_ext []

theorem value : (dats m 0 c).arrAt 4 cfg0.N = res m c := by
  refine (dats m 0 c).arrAt_eq_of_covers 4 (res m c) (by decide +kernel) fun t hf y => ?_
  obtain ⟨e0, e1, e2, e3, e4⟩ := index_eq t
  have ht : t.val < 4 := t.isLt
  rw [after0_4]
  idx_vars y
  blk_simp
  obtain ⟨h, j, rfl⟩ : ∃ (h : Fin 4) (j : Fin 128), y1 = col h j :=
    ⟨⟨y1.val / 128, by omega⟩, ⟨y1.val % 128, by omega⟩, Fin.ext (by simp only []; omega)⟩
  have h0 : ∀ k : Fin 512, iblk m c 0 t (ix2 y0 k) = a_ m c ⟨1024 * t.val + y0.val, by omega⟩ k := fun k => by
    unfold a_
    blk_ext [iblk, V, e0]
  have h1 : ∀ k : Fin 512, iblk m c 1 t (ix2 y0 k) = b_ m c ⟨1024 * t.val + y0.val, by omega⟩ k := fun k => by
    unfold b_
    blk_ext [iblk, V, e1]
  have h2 : ∀ k : Fin 512, iblk m c 2 t (ix2 y0 k) = z_ m c ⟨1024 * t.val + y0.val, by omega⟩ k := fun k => by
    unfold z_
    blk_ext [iblk, V, e2]
  have h3 : ∀ k : Fin 512, iblk m c 3 t (ix2 0 k) = g_ m c k := fun k => by
    unfold g_
    blk_ext [iblk, V, e3]
  refine ((tile_apply _ _ _ _ y0 h j).trans ?_).trans ((res_apply m c ⟨1024 * t.val + y0.val, by omega⟩ h j).symm.trans ?_)
  · simp only [h0, h1, h2, h3]
    rfl
  · blk_ext [e4]

theorem run (ρ : Dev nD → PrngReg) : θ_run (defs (F := Ideal)) (onTc (τ := τ) (main (F := Ideal))) ⟨m, fun _ => 0, ρ⟩ fun r => ∀ c : Dev nD,
      r.2.mem ((c.tc : Thread nD τ).loc main_v0) = res m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun r h c => ⟨(h c).1.trans (value m c), (h c).2⟩)
    (Cert.GateIdeal.Value.run_blocks (F := Ideal) m ρ)

end Cert.GateIdeal.Proj

end
-- ==== Proof.Proj.GateBwd.lean ====
/-
  The gradient of a mixer's end: of the gate, of each head's norm and of the gain. A row's gradients are expressions of the row;
  the gain's gradient is a sum over all rows, which the kernel takes a block of rows at a time. The kernel takes each head apart,
  and writes the gate's gradient in place, into its columns of a wider array.
-/
module

public import proofs.«01_k».proof.Proof.Proj.Gate
public import proofs.«01_k».proof.Proof.Proj.RowNorm
public import proofs.«01_k».proof.Proof.Attn.Final
public import Idealize.ShloMosaic.Lib.Pipeline.ValueKit.Partial
public import proofs.«01_k».proof.Proof.Gen.GateBwdIdeal.Value
public import proofs.«01_k».proof.Proof.Gen.GateBwdReferenceIdeal.Read

@[expose] public section

set_option maxRecDepth 16384

noncomputable section

namespace Cert.GateBwdIdeal.Proj

open Idealize.ShloMosaic Idealize.ShloMosaic.TcCoe Cert.Adam
open Cert.GateBwdIdeal Cert.GateBwdIdeal.Gen Cert.GateBwdReferenceIdeal.Read
open Cert.GateIdeal.Proj (silu scale col ld_head)
open Cert.KernelIdeal.Attn (real_of_abs)
open Cert.RowNorm (meanSq row_eq normed_real)

/-! ## A row of a head -/

theorem lit_head : lit 0x43000000#32 = ((128 : ℝ) : EReal) := by
  simp [lit, Ideal.ofBits, Ideal.ieee, -EReal.coe_mul]
  norm_num

/-- The logistic function. -/
def logistic (z : EReal) : EReal := Ideal.div 1 (1 + Ideal.exp (-z))

/-- The derivative of the silu. -/
def dsilu (z : EReal) : EReal := logistic z * (1 + z * (1 - logistic z))

/-- A real number times the silu's derivative: in one product, and as the two terms of a product's derivative. -/
theorem dsilu_eq (r : ℝ) (z : EReal) : r * dsilu z = r * logistic z + z * r * (logistic z * (1 - logistic z)) := by
  have h1 : (1 : EReal) = ((1 : ℝ) : EReal) := rfl
  unfold dsilu
  induction z with
  | bot =>
    have : logistic ⊥ = 0 := by
      unfold logistic
      rw [show Ideal.exp (-(⊥ : EReal)) = ⊤ from rfl, show (1 : EReal) + ⊤ = ⊤ from rfl]
      simp [Ideal.div]
    simp [this]
  | top =>
    have : logistic ⊤ = 1 := by
      unfold logistic
      rw [show Ideal.exp (-(⊤ : EReal)) = 0 from rfl, add_zero]
      simp [Ideal.div]
    have e : (1 : EReal) - 1 = 0 := by rw [h1, ← EReal.coe_sub, sub_self]; rfl
    simp [this, e]
  | coe z =>
    obtain ⟨s, hs⟩ : ∃ s : ℝ, logistic z = s := by
      have hp := Real.exp_pos (-z)
      refine ⟨1 * (1 / (1 + Real.exp (-z))), ?_⟩
      unfold logistic
      rw [show Ideal.exp (-(z : EReal)) = ((Real.exp (-z) : ℝ) : EReal) from rfl, h1, ← EReal.coe_add, Ideal.div_coe (by positivity), ← EReal.coe_mul]
    rw [hs, h1]
    norm_cast
    ring

/-- The gradient of a head's entry, from the head's row and the gradient of its normed row. -/
def entryDo (o d : Fin 128 → EReal) (j : Fin 128) : EReal :=
  scale o * (d j - o j * scale o * Ideal.div (∑ k, d k * (o k * scale o)) (lit 0x43000000#32))

/-- The gradient of a gate's entry. -/
def entryDz (dy z : EReal) (o : Fin 128 → EReal) (g : EReal) (j : Fin 128) : EReal := dy * (o j * scale o * g) * dsilu z

/-- A row's term in the gradient of the gain's entry. -/
def entryDg (dy z : EReal) (o : Fin 128 → EReal) (j : Fin 128) : EReal := dy * silu z * (o j * scale o)

/-! ## A tile -/

section Head

variable (a b dn : Vec Ideal S1024x128 .f32) (g : Vec Ideal S1x128 .f32) (z dy : Vec Ideal S1024x512 .f32)

/-- A row of a head, from the two directions' outputs. -/
def hrow (i : Fin 1024) : Fin 128 → EReal := fun k => a (ix2 i k) + b (ix2 i k)

theorem pay4_apply (i : Fin 1024) (q : Fin 512) : k0_pay4 z (ix2 i q) = logistic (z (ix2 i q)) := by
  unfold logistic
  pointwise [k0_pay4]
  rw [zero_sub]

theorem pay5_apply (i : Fin 1024) (q : Fin 512) : k0_pay5 z (ix2 i q) = silu (z (ix2 i q)) := by
  unfold silu
  refine Eq.trans ?_ (congrArg (fun s => z (ix2 i q) * s) (pay4_apply z i q))
  pointwise [k0_pay5]

theorem pay6_apply (i : Fin 1024) (q : Fin 512) : k0_pay6 z (ix2 i q) = dsilu (z (ix2 i q)) := by
  unfold dsilu
  rw [← pay4_apply]
  pointwise [k0_pay6]

theorem pay9_apply (i : Fin 1024) : k0_pay9 a b (ix2 i 0) = scale (hrow a b i) := by
  unfold scale hrow
  pointwise [k0_pay9, k0_pay7]
  rfl

theorem pay10_apply (i : Fin 1024) (j : Fin 128) : k0_pay10 a b (ix2 i j) = hrow a b i j * scale (hrow a b i) := by
  rw [← pay9_apply]
  unfold hrow
  pointwise [k0_pay10, k0_pay7]

theorem do_apply (i : Fin 1024) (j : Fin 128) : k0_pay13 dn (k0_pay9 a b) (k0_pay10 a b) g (ix2 i j)
    = entryDo (hrow a b i) (fun k => dn (ix2 i k) * g (ix2 0 k)) j := by
  unfold entryDo
  rw [← pay9_apply]
  simp only [pay9_apply, ← pay10_apply]
  rw [← pay9_apply]
  pointwise [k0_pay13]
  rfl

theorem dg_apply (j : Fin 128) : k0_pay12 (F := Ideal) dn (k0_pay10 a b) (ix2 0 j)
    = ∑ i : Fin 1024, dn (ix2 i j) * (hrow a b i j * scale (hrow a b i)) := by
  pointwise [k0_pay12]
  simp only [pay10_apply]

theorem dn0 (i : Fin 1024) (j : Fin 128) : k0_pay8 z dy (ix2 i j) = dy (ix2 i (col 0 j)) * silu (z (ix2 i (col 0 j))) := by
  rw [← pay5_apply]
  pointwise [k0_pay8]
  refine congrArg (fun q => dy (ix2 i q) * k0_pay5 z (ix2 i q)) (Fin.ext ?_)
  simp

theorem dn1 (i : Fin 1024) (j : Fin 128) : k0_pay15 (k0_pay5 z) dy (ix2 i j) = dy (ix2 i (col 1 j)) * silu (z (ix2 i (col 1 j))) := by
  rw [← pay5_apply]
  pointwise [k0_pay15]
  refine congrArg (fun q => dy (ix2 i q) * k0_pay5 z (ix2 i q)) (Fin.ext ?_)
  simp

theorem dn2 (i : Fin 1024) (j : Fin 128) : k0_pay22 (k0_pay5 z) dy (ix2 i j) = dy (ix2 i (col 2 j)) * silu (z (ix2 i (col 2 j))) := by
  rw [← pay5_apply]
  pointwise [k0_pay22]
  refine congrArg (fun q => dy (ix2 i q) * k0_pay5 z (ix2 i q)) (Fin.ext ?_)
  simp

theorem dn3 (i : Fin 1024) (j : Fin 128) : k0_pay29 (k0_pay5 z) dy (ix2 i j) = dy (ix2 i (col 3 j)) * silu (z (ix2 i (col 3 j))) := by
  rw [← pay5_apply]
  pointwise [k0_pay29]
  refine congrArg (fun q => dy (ix2 i q) * k0_pay5 z (ix2 i q)) (Fin.ext ?_)
  simp

theorem dz0 (i : Fin 1024) (j : Fin 128) : k0_pay11 z dy a b g (ix2 i j)
    = entryDz (dy (ix2 i (col 0 j))) (z (ix2 i (col 0 j))) (hrow a b i) (g (ix2 0 j)) j := by
  unfold entryDz
  rw [← pay6_apply, ← pay10_apply]
  pointwise [k0_pay11]
  refine congrArg (fun q => dy (ix2 i q) * (k0_pay10 a b (ix2 i j) * g (ix2 0 j)) * k0_pay6 z (ix2 i q)) (Fin.ext ?_)
  simp

theorem dz1 (i : Fin 1024) (j : Fin 128) : k0_pay18 (k0_pay6 z) dy a b g (ix2 i j)
    = entryDz (dy (ix2 i (col 1 j))) (z (ix2 i (col 1 j))) (hrow a b i) (g (ix2 0 j)) j := by
  unfold entryDz
  rw [← pay6_apply, ← pay10_apply]
  pointwise [k0_pay18]
  refine congrArg (fun q => dy (ix2 i q) * (k0_pay10 a b (ix2 i j) * g (ix2 0 j)) * k0_pay6 z (ix2 i q)) (Fin.ext ?_)
  simp

theorem dz2 (i : Fin 1024) (j : Fin 128) : k0_pay25 (k0_pay6 z) dy a b g (ix2 i j)
    = entryDz (dy (ix2 i (col 2 j))) (z (ix2 i (col 2 j))) (hrow a b i) (g (ix2 0 j)) j := by
  unfold entryDz
  rw [← pay6_apply, ← pay10_apply]
  pointwise [k0_pay25]
  refine congrArg (fun q => dy (ix2 i q) * (k0_pay10 a b (ix2 i j) * g (ix2 0 j)) * k0_pay6 z (ix2 i q)) (Fin.ext ?_)
  simp

theorem dz3 (i : Fin 1024) (j : Fin 128) : k0_pay32 (k0_pay6 z) dy a b g (ix2 i j)
    = entryDz (dy (ix2 i (col 3 j))) (z (ix2 i (col 3 j))) (hrow a b i) (g (ix2 0 j)) j := by
  unfold entryDz
  rw [← pay6_apply, ← pay10_apply]
  pointwise [k0_pay32]
  refine congrArg (fun q => dy (ix2 i q) * (k0_pay10 a b (ix2 i j) * g (ix2 0 j)) * k0_pay6 z (ix2 i q)) (Fin.ext ?_)
  simp

end Head

section Tile

variable (dy a b z : Vec Ideal S1024x512 .f32) (g : Vec Ideal S1x512 .f32)

/-- Head 0's columns of a block, and of the gain. -/
abbrev cut0 (X : Vec Ideal S1024x512 .f32) : Vec Ideal S1024x128 .f32 := View.ld X (Rect.unit ![0, 0] ![1024, 128] inb_S1024x512_S1024x128_0_0)
abbrev gain0 (X : Vec Ideal S1x512 .f32) : Vec Ideal S1x128 .f32 := View.ld X (Rect.unit ![0, 0] ![1, 128] inb_S1x512_S1x128_0_0)

/-- Head 1's columns of a block, and of the gain. -/
abbrev cut1 (X : Vec Ideal S1024x512 .f32) : Vec Ideal S1024x128 .f32 := View.ld X (Rect.unit ![0, 128] ![1024, 128] inb_S1024x512_S1024x128_0_128)
abbrev gain1 (X : Vec Ideal S1x512 .f32) : Vec Ideal S1x128 .f32 := View.ld X (Rect.unit ![0, 128] ![1, 128] inb_S1x512_S1x128_0_128)

/-- Head 2's columns of a block, and of the gain. -/
abbrev cut2 (X : Vec Ideal S1024x512 .f32) : Vec Ideal S1024x128 .f32 := View.ld X (Rect.unit ![0, 256] ![1024, 128] inb_S1024x512_S1024x128_0_256)
abbrev gain2 (X : Vec Ideal S1x512 .f32) : Vec Ideal S1x128 .f32 := View.ld X (Rect.unit ![0, 256] ![1, 128] inb_S1x512_S1x128_0_256)

/-- Head 3's columns of a block, and of the gain. -/
abbrev cut3 (X : Vec Ideal S1024x512 .f32) : Vec Ideal S1024x128 .f32 := View.ld X (Rect.unit ![0, 384] ![1024, 128] inb_S1024x512_S1024x128_0_384)
abbrev gain3 (X : Vec Ideal S1x512 .f32) : Vec Ideal S1x128 .f32 := View.ld X (Rect.unit ![0, 384] ![1, 128] inb_S1x512_S1x128_0_384)

/-- What a point leaves of the gate's gradient, of the heads' and of the gain's. -/
def tileDz : Vec Ideal S1024x512 .bf16 := View.canon [
    ⟨Rect.unit ![0, 384] ![1024, 128] inb_S1024x512_S1024x128_0_384, k0_pay32 (k0_pay6 z) dy (cut3 a) (cut3 b) (gain3 g)⟩,
    ⟨Rect.unit ![0, 256] ![1024, 128] inb_S1024x512_S1024x128_0_256, k0_pay25 (k0_pay6 z) dy (cut2 a) (cut2 b) (gain2 g)⟩,
    ⟨Rect.unit ![0, 128] ![1024, 128] inb_S1024x512_S1024x128_0_128, k0_pay18 (k0_pay6 z) dy (cut1 a) (cut1 b) (gain1 g)⟩,
    ⟨Rect.unit ![0, 0] ![1024, 128] inb_S1024x512_S1024x128_0_0, k0_pay11 z dy (cut0 a) (cut0 b) (gain0 g)⟩]

def tileDo : Vec Ideal S1024x512 .f32 := View.canon [
    ⟨Rect.unit ![0, 384] ![1024, 128] inb_S1024x512_S1024x128_0_384, k0_pay1 (k0_pay29 (k0_pay5 z) dy) (k0_pay30 (cut3 a) (cut3 b)) (k0_pay31 (cut3 a) (cut3 b)) (gain3 g)⟩,
    ⟨Rect.unit ![0, 256] ![1024, 128] inb_S1024x512_S1024x128_0_256, k0_pay27 (k0_pay22 (k0_pay5 z) dy) (k0_pay23 (cut2 a) (cut2 b)) (k0_pay24 (cut2 a) (cut2 b)) (gain2 g)⟩,
    ⟨Rect.unit ![0, 128] ![1024, 128] inb_S1024x512_S1024x128_0_128, k0_pay20 (k0_pay15 (k0_pay5 z) dy) (k0_pay16 (cut1 a) (cut1 b)) (k0_pay17 (cut1 a) (cut1 b)) (gain1 g)⟩,
    ⟨Rect.unit ![0, 0] ![1024, 128] inb_S1024x512_S1024x128_0_0, k0_pay13 (k0_pay8 z dy) (k0_pay9 (cut0 a) (cut0 b)) (k0_pay10 (cut0 a) (cut0 b)) (gain0 g)⟩]

def tileDg : Vec Ideal S1x512 .f32 := k0_pay2
    (k0_pay12 (k0_pay8 z dy) (k0_pay10 (cut0 a) (cut0 b)))
    (k0_pay19 (k0_pay15 (k0_pay5 z) dy) (k0_pay17 (cut1 a) (cut1 b)))
    (k0_pay26 (k0_pay22 (k0_pay5 z) dy) (k0_pay24 (cut2 a) (cut2 b)))
    (k0_pay29 (k0_pay5 z) dy) (k0_pay31 (cut3 a) (cut3 b))

theorem tileDz_apply (i : Fin 1024) (h : Fin 4) (j : Fin 128) : tileDz dy a b z g (ix2 i (col h j))
    = entryDz (dy (ix2 i (col h j))) (z (ix2 i (col h j))) (fun k => a (ix2 i (col h k)) + b (ix2 i (col h k))) (g (ix2 0 (col h j))) j := by
  unfold tileDz
  canon_tiles x hx
  all_goals
    idx_vars x
    obtain rfl : i = x0 := Fin.ext hx0
  · obtain rfl : h = 3 := Fin.ext (show h.val = 3 by omega)
    obtain rfl : j = x1 := Fin.ext (by simpa using hx1)
    refine (dz3 ..).trans ?_
    unfold hrow
    simp only [ld_head a 3 384 rfl, ld_head b 3 384 rfl, ld_head g 3 384 rfl]
  · obtain rfl : h = 2 := Fin.ext (show h.val = 2 by omega)
    obtain rfl : j = x1 := Fin.ext (by simpa using hx1)
    refine (dz2 ..).trans ?_
    unfold hrow
    simp only [ld_head a 2 256 rfl, ld_head b 2 256 rfl, ld_head g 2 256 rfl]
  · obtain rfl : h = 1 := Fin.ext (show h.val = 1 by omega)
    obtain rfl : j = x1 := Fin.ext (by simpa using hx1)
    refine (dz1 ..).trans ?_
    unfold hrow
    simp only [ld_head a 1 128 rfl, ld_head b 1 128 rfl, ld_head g 1 128 rfl]
  · obtain rfl : h = 0 := Fin.ext (show h.val = 0 by omega)
    obtain rfl : j = x1 := Fin.ext (by simpa using hx1)
    refine (dz0 ..).trans ?_
    unfold hrow
    simp only [ld_head a 0 0 rfl, ld_head b 0 0 rfl, ld_head g 0 0 rfl]

theorem tileDo_apply (i : Fin 1024) (h : Fin 4) (j : Fin 128) : tileDo dy a b z g (ix2 i (col h j))
    = entryDo (fun k => a (ix2 i (col h k)) + b (ix2 i (col h k)))
        (fun k => dy (ix2 i (col h k)) * silu (z (ix2 i (col h k))) * g (ix2 0 (col h k))) j := by
  unfold tileDo
  canon_tiles x hx
  all_goals
    idx_vars x
    obtain rfl : i = x0 := Fin.ext hx0
  · obtain rfl : h = 3 := Fin.ext (show h.val = 3 by omega)
    obtain rfl : j = x1 := Fin.ext (by simpa using hx1)
    refine (do_apply (cut3 a) (cut3 b) (k0_pay29 (k0_pay5 z) dy) (gain3 g) i j).trans ?_
    unfold hrow
    simp only [dn3, ld_head a 3 384 rfl, ld_head b 3 384 rfl, ld_head g 3 384 rfl]
  · obtain rfl : h = 2 := Fin.ext (show h.val = 2 by omega)
    obtain rfl : j = x1 := Fin.ext (by simpa using hx1)
    refine (do_apply (cut2 a) (cut2 b) (k0_pay22 (k0_pay5 z) dy) (gain2 g) i j).trans ?_
    unfold hrow
    simp only [dn2, ld_head a 2 256 rfl, ld_head b 2 256 rfl, ld_head g 2 256 rfl]
  · obtain rfl : h = 1 := Fin.ext (show h.val = 1 by omega)
    obtain rfl : j = x1 := Fin.ext (by simpa using hx1)
    refine (do_apply (cut1 a) (cut1 b) (k0_pay15 (k0_pay5 z) dy) (gain1 g) i j).trans ?_
    unfold hrow
    simp only [dn1, ld_head a 1 128 rfl, ld_head b 1 128 rfl, ld_head g 1 128 rfl]
  · obtain rfl : h = 0 := Fin.ext (show h.val = 0 by omega)
    obtain rfl : j = x1 := Fin.ext (by simpa using hx1)
    refine (do_apply (cut0 a) (cut0 b) (k0_pay8 z dy) (gain0 g) i j).trans ?_
    unfold hrow
    simp only [dn0, ld_head a 0 0 rfl, ld_head b 0 0 rfl, ld_head g 0 0 rfl]

/-- The heads' parts of the gain's gradient lie side by side. -/
theorem pay2_apply (v w u : Vec Ideal S1x128 .f32) (d x : Vec Ideal S1024x128 .f32) (h : Fin 4) (j : Fin 128) :
    k0_pay2 (F := Ideal) v w u d x (ix2 0 (col h j)) = (![v, w, u, k0_pay12 (F := Ideal) d x] : Fin 4 → Vec Ideal S1x128 .f32) h (ix2 0 j) :=
  concatenate_ofFn_apply (t := S1x512) (s₁ := S1x128) 1 (![v, w, u, k0_pay12 (F := Ideal) d x] : Fin 4 → Vec Ideal S1x128 .f32)
    concatenates_S1x128_S1x128_S1x128_S1x128_S1x512_d1 rfl 128 rfl (ix2 0 (col h j)) h
    (by show (128 * h.val + j.val) / 128 = h.val; omega) (ix2 0 j)
    (by show j.val = (128 * h.val + j.val) % 128; omega) (fun b hb => by
      fin_cases b
      · rfl
      · exact absurd rfl hb)

theorem tileDg_apply (h : Fin 4) (j : Fin 128) : tileDg dy a b z (ix2 0 (col h j))
    = ∑ i : Fin 1024, entryDg (dy (ix2 i (col h j))) (z (ix2 i (col h j))) (fun k => a (ix2 i (col h k)) + b (ix2 i (col h k))) j := by
  unfold tileDg entryDg
  refine (pay2_apply ..).trans ?_
  obtain rfl | rfl | rfl | rfl : h = 0 ∨ h = 1 ∨ h = 2 ∨ h = 3 := by omega
  · refine (dg_apply (cut0 a) (cut0 b) (k0_pay8 z dy) j).trans ?_
    unfold hrow
    simp only [dn0, ld_head a 0 0 rfl, ld_head b 0 0 rfl]
  · refine (dg_apply (cut1 a) (cut1 b) (k0_pay15 (k0_pay5 z) dy) j).trans ?_
    unfold hrow
    simp only [dn1, ld_head a 1 128 rfl, ld_head b 1 128 rfl]
  · refine (dg_apply (cut2 a) (cut2 b) (k0_pay22 (k0_pay5 z) dy) j).trans ?_
    unfold hrow
    simp only [dn2, ld_head a 2 256 rfl, ld_head b 2 256 rfl]
  · refine (dg_apply (cut3 a) (cut3 b) (k0_pay29 (k0_pay5 z) dy) j).trans ?_
    unfold hrow
    simp only [dn3, ld_head a 3 384 rfl, ld_head b 3 384 rfl]

theorem pay3_apply (v43 v84 v125 : Vec Ideal S1x128 .f32) (v144 v154 : Vec Ideal S1024x128 .f32) (v : Vec Ideal S1x512 .f32) (j : Fin 512) :
    k0_pay3 (F := Ideal) v43 v84 v125 v144 v154 v (ix2 0 j) = v (ix2 0 j) + k0_pay2 v43 v84 v125 v144 v154 (ix2 0 j) := by
  pointwise [k0_pay3, shapeCast_self]

end Tile

section Point

variable (c : Dev nD) (i : grid0.Coords) (arg1 : Memref sig .tc .vmem S1024x512 .f32) (harg1 : arg1.IsWhole)
    (arg2 : Memref sig .tc .vmem S1024x512 .f32) (harg2 : arg2.IsWhole)
    (arg3 : Memref sig .tc .vmem S1024x512 .f32) (harg3 : arg3.IsWhole)
    (arg4 : Memref sig .tc .vmem S1024x512 .f32) (harg4 : arg4.IsWhole)
    (arg5 : Memref sig .tc .vmem S1x512 .f32) (harg5 : arg5.IsWhole)
    (arg7 : Memref sig .tc .vmem S1024x512 .bf16) (harg7 : arg7.IsWhole)
    (arg8 : Memref sig .tc .vmem S1024x512 .f32) (harg8 : arg8.IsWhole)
    (arg9 : Memref sig .tc .vmem S1x512 .f32) (harg9 : arg9.IsWhole)
    (x0 x1 x2 x3 : Vec Ideal S1024x512 .f32) (x4 xo : Vec Ideal S1x512 .f32)

theorem first_dz (hc0 : cond0_0 i) (hc1 : ¬cond0_1 i) : out0_A_5 c i arg1 harg1 arg2 harg2 arg3 harg3 arg4 harg4 arg5 harg5 arg7 harg7 arg8 harg8 arg9 harg9 hc0 hc1 x0 x1 x2 x3 x4 = tileDz x0 x1 x2 x3 x4 := by
  frame_out

theorem next_dz (hc0 : ¬cond0_0 i) (hc1 : cond0_1 i) : out0_B_5 c i arg1 harg1 arg2 harg2 arg3 harg3 arg4 harg4 arg5 harg5 arg7 harg7 arg8 harg8 arg9 harg9 hc0 hc1 x0 x1 x2 x3 x4 xo = tileDz x0 x1 x2 x3 x4 := by
  frame_out

theorem first_do (hc0 : cond0_0 i) (hc1 : ¬cond0_1 i) : out0_A_6 c i arg1 harg1 arg2 harg2 arg3 harg3 arg4 harg4 arg5 harg5 arg7 harg7 arg8 harg8 arg9 harg9 hc0 hc1 x0 x1 x2 x3 x4 = tileDo x0 x1 x2 x3 x4 := by
  frame_out

theorem next_do (hc0 : ¬cond0_0 i) (hc1 : cond0_1 i) : out0_B_6 c i arg1 harg1 arg2 harg2 arg3 harg3 arg4 harg4 arg5 harg5 arg7 harg7 arg8 harg8 arg9 harg9 hc0 hc1 x0 x1 x2 x3 x4 xo = tileDo x0 x1 x2 x3 x4 := by
  frame_out

theorem first_dg (hc0 : cond0_0 i) (hc1 : ¬cond0_1 i) : out0_A_7 c i arg1 harg1 arg2 harg2 arg3 harg3 arg4 harg4 arg5 harg5 arg7 harg7 arg8 harg8 arg9 harg9 hc0 hc1 x0 x1 x2 x3 x4 = tileDg x0 x1 x2 x3 := by
  frame_out
  rfl

theorem next_dg (hc0 : ¬cond0_0 i) (hc1 : cond0_1 i) (j : Fin 512) : out0_B_7 c i arg1 harg1 arg2 harg2 arg3 harg3 arg4 harg4 arg5 harg5 arg7 harg7 arg8 harg8 arg9 harg9 hc0 hc1 x0 x1 x2 x3 x4 xo (ix2 0 j) = xo (ix2 0 j) + tileDg x0 x1 x2 x3 (ix2 0 j) := by
  frame_out
  exact pay3_apply ..

end Point

theorem index_eq (t : Fin cfg0.N) : win0_0.index t = ![t.val, 0] ∧ win0_1.index t = ![t.val, 0] ∧ win0_2.index t = ![t.val, 0]
    ∧ win0_3.index t = ![t.val, 3] ∧ win0_4.index t = ![0, 0] ∧ win0_5.index t = ![t.val, 3] ∧ win0_6.index t = ![t.val, 0] := by
  revert t; decide +kernel

/-! ## The arrays -/

variable (m : (ℓ : Loc nD τ sig) → Buf (Elt Ideal) ℓ) (c : Dev nD)

/-- The gate's gradient in its columns of the wider array, as the reference computes it of the arguments. -/
def resDz : Vec Ideal S4096x6144 .bf16 :=
  val_main_v51 (F := Ideal) (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4)) (m ((c.tc : Thread nD τ).loc main_arg5))

/-- The heads' gradient. -/
def resDo : Vec Ideal S4096x512 .f32 :=
  val_main_v49 (F := Ideal) (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4))

/-- The gain's gradient. -/
def resDg : Vec Ideal S1x512 .f32 :=
  val_main_v34 (F := Ideal) (m ((c.tc : Thread nD τ).loc main_arg0)) (m ((c.tc : Thread nD τ).loc main_arg1)) (m ((c.tc : Thread nD τ).loc main_arg2))
    (m ((c.tc : Thread nD τ).loc main_arg3))

def dy_ (i : Fin 4096) (q : Fin 512) : EReal := m ((c.tc : Thread nD τ).loc main_arg0) (ix2 i ⟨q.val, by omega⟩)
def a_ (i : Fin 4096) (q : Fin 512) : EReal := m ((c.tc : Thread nD τ).loc main_arg1) (ix2 i q)
def b_ (i : Fin 4096) (q : Fin 512) : EReal := m ((c.tc : Thread nD τ).loc main_arg2) (ix2 i q)
def z_ (i : Fin 4096) (q : Fin 512) : EReal := m ((c.tc : Thread nD τ).loc main_arg3) (ix2 i ⟨1536 + q.val, by omega⟩)
def g_ (q : Fin 512) : EReal := m ((c.tc : Thread nD τ).loc main_arg4) (ix2 0 q)

/-- A row of a head. -/
def o_ (i : Fin 4096) (h : Fin 4) : Fin 128 → EReal := fun k => a_ m c i (col h k) + b_ m c i (col h k)

theorem v2_apply (i : Fin 4096) (h : Fin 4) (k : Fin 128) :
    val_main_v2 (F := Ideal) (m ((c.tc : Thread nD τ).loc main_arg1)) (m ((c.tc : Thread nD τ).loc main_arg2)) (ix3 i h k) = o_ m c i h k := by
  unfold o_ a_ b_
  pointwise [val_main_v2, val_main_v1]
  congr 1 <;> blk_ext []

theorem v9_apply (i : Fin 4096) (h : Fin 4) :
    val_main_v9 (F := Ideal) (m ((c.tc : Thread nD τ).loc main_arg1)) (m ((c.tc : Thread nD τ).loc main_arg2)) (ix3 i h 0)
      = meanSq (lit 0x43000000#32) (o_ m c i h) := by
  unfold meanSq
  simp only [← v2_apply]
  pointwise [val_main_v9, val_main_v8, val_main_v7, val_main_v6, val_main_v5, val_main_v4, val_main_v3]
  simp only [show val_main_cst (F := Ideal) (Shape.Idx.first Cert.GateBwdReferenceIdeal.Gen.h_S_) = 0 from Ideal.ofBits_zero_f32, zero_add]
  rfl

theorem v15_apply (i : Fin 4096) (h : Fin 4) (j : Fin 128) :
    val_main_v15 (F := Ideal) (m ((c.tc : Thread nD τ).loc main_arg1)) (m ((c.tc : Thread nD τ).loc main_arg2)) (ix3 i h j)
      = o_ m c i h j * scale (o_ m c i h) := by
  refine Eq.trans ?_ (congrArg₂ (fun a b => a * Ideal.rsqrt b) (v2_apply m c i h j) (v9_apply m c i h))
  pointwise [val_main_v15, val_main_v14, val_main_v10]

theorem v20_2_apply (i : Fin 4096) (q : Fin 512) : val_main_v20_2 (F := Ideal) (m ((c.tc : Thread nD τ).loc main_arg3)) (ix2 i q) = logistic (z_ m c i q) := by
  unfold logistic z_
  pointwise [val_main_v20_2, val_main_call0_v4, val_main_call0_v3, val_main_call0_v2, val_main_call0_v1, val_main_call0_v0, val_main_v0]
  rw [show val_main_call0_cst_0 (F := Ideal) ix0 = 1 from Ideal.ofBits_one_f32, show val_main_call0_cst (F := Ideal) ix0 = 1 from Ideal.ofBits_one_f32]

theorem v26_apply (i : Fin 4096) (h : Fin 4) (j : Fin 128) :
    val_main_v26 (F := Ideal) (m ((c.tc : Thread nD τ).loc main_arg0)) (m ((c.tc : Thread nD τ).loc main_arg3)) (ix3 i h j)
      = dy_ m c i (col h j) * silu (z_ m c i (col h j)) := by
  have e : val_main_v20_0 (F := Ideal) (m ((c.tc : Thread nD τ).loc main_arg3)) (ix2 i (col h j)) = silu (z_ m c i (col h j)) := by
    refine Eq.trans ?_ (congrArg (fun s => z_ m c i (col h j) * s) (v20_2_apply m c i (col h j)))
    unfold z_
    pointwise [val_main_v20_0, val_main_v0]
  rw [mul_comm, ← e]
  unfold dy_
  pointwise [val_main_v26, val_main_v24, val_main_v23]
  congr 1 <;> blk_ext []

theorem v21_apply (i : Fin 4096) (h : Fin 4) (j : Fin 128) :
    val_main_v21 (F := Ideal) (m ((c.tc : Thread nD τ).loc main_arg1)) (m ((c.tc : Thread nD τ).loc main_arg2)) (m ((c.tc : Thread nD τ).loc main_arg4)) (ix2 i (col h j))
      = o_ m c i h j * scale (o_ m c i h) * g_ m c (col h j) := by
  rw [← v15_apply]
  unfold g_
  pointwise [val_main_v21, val_main_v19, val_main_v18, val_main_v17, val_main_v16]
  congr 1 <;> blk_ext []

theorem resDo_apply (i : Fin 4096) (h : Fin 4) (j : Fin 128) : resDo m c (ix2 i (col h j))
    = entryDo (o_ m c i h) (fun k => dy_ m c i (col h k) * silu (z_ m c i (col h k)) * g_ m c (col h k)) j := by
  unfold entryDo scale
  change _ = Ideal.rsqrt (meanSq (lit 0x43000000#32) (o_ m c i h)) * (_ - _ * Ideal.rsqrt (meanSq (lit 0x43000000#32) (o_ m c i h))
    * Ideal.div (∑ k, _ * (_ * Ideal.rsqrt (meanSq (lit 0x43000000#32) (o_ m c i h)))) _)
  rw [lit_head]
  refine Eq.trans ?_ ((row_eq (w := 128) (by norm_num) (o_ m c i h) (fun k => dy_ m c i (col h k) * silu (z_ m c i (col h k)) * g_ m c (col h k)) 0 j).symm.trans (zero_add _))
  rw [← lit_head, ← v9_apply]
  simp only [← v2_apply, ← v26_apply]
  unfold resDo g_
  pointwise [val_main_v49, val_main_v48, val_main_v47, val_main_v46, val_main_v45, val_main_v44, val_main_v43, val_main_v42, val_main_v41, val_main_v40,
    val_main_v39, val_main_v38, val_main_v37, val_main_v36, val_main_v35, val_main_v32, val_main_v31, val_main_v17, val_main_v16, val_main_v13, val_main_v12,
    val_main_v11, val_main_v10]
  simp only [show val_main_cst_5 (F := Ideal) (Shape.Idx.first Cert.GateBwdReferenceIdeal.Gen.h_S_) = 0 from Ideal.ofBits_zero_f32,
    show val_main_cst_7 (F := Ideal) (Shape.Idx.first Cert.GateBwdReferenceIdeal.Gen.h_S_) = 0 from Ideal.ofBits_zero_f32,
    zero_add, Finset.univ_unique, Finset.sum_singleton]
  have n1 : (128 * h.val + j.val) / 128 = h.val := by omega
  have n2 : (128 * h.val + j.val) % 128 = j.val := by omega
  simp only [n1, n2, mul_comm h.val 128]
  rfl

theorem resDg_apply (h : Fin 4) (j : Fin 128) : resDg m c (ix2 0 (col h j))
    = ∑ i : Fin 4096, entryDg (dy_ m c i (col h j)) (z_ m c i (col h j)) (o_ m c i h) j := by
  unfold entryDg
  simp only [← v26_apply, ← v15_apply]
  unfold resDg
  pointwise [val_main_v34, val_main_v33, val_main_v30, val_main_v29, val_main_v28]
  simp only [show val_main_cst_3 (F := Ideal) (Shape.Idx.first Cert.GateBwdReferenceIdeal.Gen.h_S_) = 0 from Ideal.ofBits_zero_f32,
    show val_main_cst_4 (F := Ideal) (Shape.Idx.first Cert.GateBwdReferenceIdeal.Gen.h_S_) = 0 from Ideal.ofBits_zero_f32,
    zero_add, Finset.univ_unique, Finset.sum_singleton]
  refine Finset.sum_congr rfl fun i _ => (mul_comm ..).trans ?_
  congr 2 <;> blk_ext []

/-- The reference's gradient of the gate, by the silu's two factors. -/
theorem v50_apply (i : Fin 4096) (h : Fin 4) (j : Fin 128) :
    val_main_v50 (F := Ideal) (m ((c.tc : Thread nD τ).loc main_arg0)) (m ((c.tc : Thread nD τ).loc main_arg1)) (m ((c.tc : Thread nD τ).loc main_arg2))
        (m ((c.tc : Thread nD τ).loc main_arg3)) (m ((c.tc : Thread nD τ).loc main_arg4)) (ix2 i (col h j))
      = dy_ m c i (col h j) * (o_ m c i h j * scale (o_ m c i h) * g_ m c (col h j)) * logistic (z_ m c i (col h j))
        + z_ m c i (col h j) * (dy_ m c i (col h j) * (o_ m c i h j * scale (o_ m c i h) * g_ m c (col h j)))
          * (logistic (z_ m c i (col h j)) * (1 - logistic (z_ m c i (col h j)))) := by
  rw [← v21_apply, ← v20_2_apply]
  unfold dy_ z_
  pointwise [val_main_v50, val_main_v27, val_main_call1_v2, val_main_call1_v1, val_main_call1_v0, val_main_v25, val_main_v23, val_main_v20_1,
    val_main_call0_v7, val_main_call0_v6, val_main_v0]
  rw [show val_main_call0_cst_1 (F := Ideal) ix0 = 1 from Ideal.ofBits_one_f32]

theorem resDz_in (i : Fin 4096) (q : Fin 512) : resDz m c (ix2 i ⟨1536 + q.val, by omega⟩)
    = val_main_v50 (F := Ideal) (m ((c.tc : Thread nD τ).loc main_arg0)) (m ((c.tc : Thread nD τ).loc main_arg1)) (m ((c.tc : Thread nD τ).loc main_arg2))
        (m ((c.tc : Thread nD τ).loc main_arg3)) (m ((c.tc : Thread nD τ).loc main_arg4)) (ix2 i q) := by
  unfold resDz
  pointwise [val_main_v51]
  refine (dif_pos (show 0 ≤ i.val ∧ 1536 ≤ 1536 + q.val ∧ 1536 + q.val < 1536 + 512 from by omega)).trans ?_
  congr 1
  refine congrArg₂ ix2 (Fin.ext (Nat.sub_zero _)) (Fin.ext (show 1536 + q.val - 1536 = q.val by omega))

theorem resDz_out (i : Fin 4096) (q : Fin 6144) (hq : ¬q.val / 512 = 3) : resDz m c (ix2 i q) = m ((c.tc : Thread nD τ).loc main_arg5) (ix2 i q) := by
  unfold resDz
  pointwise [val_main_v51]
  exact dif_neg (show ¬(0 ≤ i.val ∧ 1536 ≤ q.val ∧ q.val < 1536 + 512) from by omega)

/-! ## The blocks -/

theorem blocks (t : Fin cfg0.N) (ht : t.val < 4) (i : Fin 1024) (k : Fin 512) :
    iblk m c 0 t (ix2 i k) = dy_ m c ⟨1024 * t.val + i.val, by omega⟩ k ∧ iblk m c 1 t (ix2 i k) = a_ m c ⟨1024 * t.val + i.val, by omega⟩ k
    ∧ iblk m c 2 t (ix2 i k) = b_ m c ⟨1024 * t.val + i.val, by omega⟩ k ∧ iblk m c 3 t (ix2 i k) = z_ m c ⟨1024 * t.val + i.val, by omega⟩ k
    ∧ iblk m c 4 t (ix2 0 k) = g_ m c k := by
  obtain ⟨e0, e1, e2, e3, e4, -⟩ := index_eq t
  unfold dy_ a_ b_ z_ g_
  refine ⟨?_, ?_, ?_, ?_, ?_⟩
  · blk_ext [iblk, V, e0]
  · blk_ext [iblk, V, e1]
  · blk_ext [iblk, V, e2]
  · blk_ext [iblk, V, e3]
  · blk_ext [iblk, V, e4]

theorem outs (t : Fin cfg0.N) : (outsAt0 m c t.val t.isLt).1 = tileDz (iblk m c 0 t) (iblk m c 1 t) (iblk m c 2 t) (iblk m c 3 t) (iblk m c 4 t)
    ∧ (outsAt0 m c t.val t.isLt).2.1 = tileDo (iblk m c 0 t) (iblk m c 1 t) (iblk m c 2 t) (iblk m c 3 t) (iblk m c 4 t) := by
  have ht : t.val < 4 := t.isLt
  by_cases h0 : t.val % 4 = 0
  · refine ⟨(congrArg Prod.fst (outsAt0_A m c t h0 (by omega))).trans ?_, (congrArg (fun p => p.2.1) (outsAt0_A m c t h0 (by omega))).trans ?_⟩
    · dsimp only
      rw [first_dz]
    · dsimp only
      rw [first_do]
  · refine ⟨(congrArg Prod.fst (outsAt0_B m c t h0 (by omega))).trans ?_, (congrArg (fun p => p.2.1) (outsAt0_B m c t h0 (by omega))).trans ?_⟩
    · dsimp only
      rw [next_dz]
    · dsimp only
      rw [next_do]

theorem value_do : (dats m 0 c).arrAt 6 cfg0.N = resDo m c := by
  refine (dats m 0 c).arrAt_eq_of_covers 6 (resDo m c) (by decide +kernel) fun t hf y => ?_
  obtain ⟨-, -, -, -, -, -, e6⟩ := index_eq t
  have ht : t.val < 4 := t.isLt
  rw [after0_6, (outs m c t).2]
  idx_vars y
  blk_simp
  obtain ⟨h, j, rfl⟩ : ∃ (h : Fin 4) (j : Fin 128), y1 = col h j :=
    ⟨⟨y1.val / 128, by omega⟩, ⟨y1.val % 128, by omega⟩, Fin.ext (by simp only []; omega)⟩
  refine ((tileDo_apply _ _ _ _ _ y0 h j).trans ?_).trans ((resDo_apply m c ⟨1024 * t.val + y0.val, by omega⟩ h j).symm.trans ?_)
  · simp only [fun k => (blocks m c t ht y0 k).1, fun k => (blocks m c t ht y0 k).2.1, fun k => (blocks m c t ht y0 k).2.2.1,
      fun k => (blocks m c t ht y0 k).2.2.2.1, fun k => (blocks m c t ht y0 k).2.2.2.2]
    rfl
  · blk_ext [e6]

/-- What a point adds to the gain's gradient. -/
def part (t : Fin cfg0.N) : Vec Ideal S1x512 .f32 := tileDg (iblk m c 0 t) (iblk m c 1 t) (iblk m c 2 t) (iblk m c 3 t)

def tEnd : Fin cfg0.N := ⟨3, by decide⟩

theorem sum_part (h : Fin 4) (j : Fin 128) : ∑ t : Fin cfg0.N, part m c t (ix2 0 (col h j)) = resDg m c (ix2 0 (col h j)) := by
  rw [resDg_apply, Fin.sum_univ_tiles (N := 4096) 4 1024 (by decide)]
  refine Finset.sum_congr rfl fun t _ => ?_
  have ht : t.val < 4 := t.isLt
  unfold part
  rw [tileDg_apply]
  refine Finset.sum_congr rfl fun i _ => ?_
  simp only [fun k => (blocks m c t ht i k).1, fun k => (blocks m c t ht i k).2.1, fun k => (blocks m c t ht i k).2.2.1,
    fun k => (blocks m c t ht i k).2.2.2.1]
  have e : 1024 * t.val + i.val = t.val * 1024 + i.val := by omega
  simp only [e]
  rfl

theorem last_dg : (outsAt0 m c tEnd.val tEnd.isLt).2.2 = resDg m c := by
  funext y
  idx_vars y
  obtain rfl : y0 = 0 := Subsingleton.elim _ _
  obtain ⟨h, j, rfl⟩ : ∃ (h : Fin 4) (j : Fin 128), y1 = col h j :=
    ⟨⟨y1.val / 128, by omega⟩, ⟨y1.val % 128, by omega⟩, Fin.ext (by simp only []; omega)⟩
  rw [← sum_part]
  refine (Pipeline.eq_sum_fin_of_reset_step_apply_last (fun n h => (outsAt0 m c n h).2.2) 4 (fun _ => 0) (part m c)
      (fun t h j => ?_) (fun t h j => ?_) (le_of_eq N_0) tEnd rfl (ix2 0 (col h j))).trans (zero_add _)
  · rw [outsAt0_A m c t h (by have := t.isLt; have : cfg0.N = 4 := rfl; omega), zero_add]
    dsimp only
    rw [first_dg]
    rfl
  · idx_vars j
    obtain rfl : j0 = 0 := Subsingleton.elim _ _
    rw [outsAt0_B m c t h (by omega)]
    dsimp only
    exact next_dg ..

theorem value_dg : (dats m 0 c).arrAt 7 cfg0.N = resDg m c := by
  refine (dats m 0 c).arrAt_eq_of_after_last 7 tEnd (by decide +kernel) _ fun y => ?_
  rw [after0_7, last_dg]
  generalize resDg m c = b
  idx_vars y
  blk_ext []

/-! ## The gate's gradient -/

variable [Cert.Pre_finite_gate.Facts] (hm : Cert.Pre_GateBwdIdeal_finite_gate m)
include hm

/-- With a finite incoming gradient and a finite gain the gradient of the normed heads is real. -/
theorem ct_real (i : Fin 4096) (h : Fin 4) (j : Fin 128) :
    ∃ r : ℝ, dy_ m c i (col h j) * (o_ m c i h j * scale (o_ m c i h) * g_ m c (col h j)) = r := by
  obtain ⟨h0, h1⟩ := hm c
  have e : dy_ m c i (col h j) = extractStridedSlice Cert.Pre_finite_gate.S4096x512 ![0, 0] (m ((c.tc : Thread nD τ).loc main_arg0))
      Cert.Pre_finite_gate.Facts.slices_S4096x2048_S4096x512_0_0 (ix2 i (col h j)) := by
    unfold dy_
    pointwise []
  obtain ⟨y, hy⟩ : ∃ r : ℝ, dy_ m c i (col h j) = r := by
    rw [e]
    exact real_of_abs _ (congrFun h0 (ix2 i (col h j)))
  obtain ⟨g, hg⟩ : ∃ r : ℝ, g_ m c (col h j) = r := real_of_abs _ (congrFun h1 (ix2 0 (col h j)))
  obtain ⟨x, hx⟩ := normed_real (w := 128) (by norm_num) (o_ m c i h) j
  rw [← lit_head] at hx
  refine ⟨y * (x * g), ?_⟩
  rw [hy, hg, show o_ m c i h j * scale (o_ m c i h) = x from hx]
  push_cast
  rfl

theorem value_dz : (dats m 0 c).arrAt 5 cfg0.N = resDz m c := by
  refine (dats m 0 c).arrAt_eq_of_coversWhere_of_agree 5 (resDz m c) (fun β => β (1 : Fin 2) = 3) (by decide +kernel) (fun t hf y => ?_) (fun j hj => ?_)
  · obtain ⟨-, -, -, -, -, e5, -⟩ := index_eq t
    have ht : t.val < 4 := t.isLt
    rw [after0_5, (outs m c t).1]
    idx_vars y
    blk_simp
    obtain ⟨h, j, rfl⟩ : ∃ (h : Fin 4) (j : Fin 128), y1 = col h j :=
      ⟨⟨y1.val / 128, by omega⟩, ⟨y1.val % 128, by omega⟩, Fin.ext (by simp only []; omega)⟩
    obtain ⟨r, hr⟩ := ct_real m c hm ⟨1024 * t.val + y0.val, by omega⟩ h j
    refine ((tileDz_apply _ _ _ _ _ y0 h j).trans ?_).trans ((resDz_in m c ⟨1024 * t.val + y0.val, by omega⟩ (col h j)).symm.trans ?_)
    · rw [v50_apply, hr, ← dsilu_eq, ← hr]
      simp only [fun k => (blocks m c t ht y0 k).1, fun k => (blocks m c t ht y0 k).2.1, fun k => (blocks m c t ht y0 k).2.2.1,
        fun k => (blocks m c t ht y0 k).2.2.2.1, fun k => (blocks m c t ht y0 k).2.2.2.2]
      rfl
    · blk_ext [e5]
  · blk_simp [Pipeline.Window.cell_apply] at hj
    idx_vars j
    refine Eq.trans ?_ (resDz_out m c j0 j1 hj).symm
    refine (congrFun (A_eq m c 5) _).trans ?_
    rfl

theorem run (ρ : Dev nD → PrngReg) : θ_run (defs (F := Ideal)) (onTc (τ := τ) (main (F := Ideal))) ⟨m, fun _ => 0, ρ⟩ fun r => ∀ c : Dev nD,
      r.2.mem ((c.tc : Thread nD τ).loc main_v0_0) = resDz m c ∧ r.2.mem ((c.tc : Thread nD τ).loc main_v0_1) = resDo m c
      ∧ r.2.mem ((c.tc : Thread nD τ).loc main_v0_2) = resDg m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun r h c => ⟨(h c).1.trans (value_dz m c hm), (h c).2.1.trans (value_do m c), (h c).2.2.1.trans (value_dg m c), (h c).2.2.2⟩)
    (Cert.GateBwdIdeal.Value.run_blocks (F := Ideal) m ρ)

end Cert.GateBwdIdeal.Proj

end
-- ==== Proof.Proj.AttnGate.lean ====
/-
  The attention's gate: the gate's silu multiplies the attention's output. The kernel takes a block of rows at a time and
  writes each head of 128 columns apart.
-/
module

public import proofs.«01_k».proof.Proof.Proj.Gate
public import proofs.«01_k».proof.Proof.Gen.AttnGateIdeal.Value
public import proofs.«01_k».proof.Proof.Gen.AttnGateReferenceIdeal.Read

@[expose] public section

set_option maxRecDepth 16384

noncomputable section

namespace Cert.AttnGateIdeal.Proj

open Idealize.ShloMosaic Idealize.ShloMosaic.TcCoe Cert.Adam
open Cert.AttnGateIdeal Cert.AttnGateIdeal.Gen Cert.AttnGateReferenceIdeal.Read
open Cert.GateIdeal.Proj (silu col ld_head)

/-! ## A tile -/

theorem pay1_apply (z : Vec Ideal S1024x512 .f32) (i : Fin 1024) (q : Fin 512) : k0_pay1 z (ix2 i q) = silu (z (ix2 i q)) := by
  unfold silu
  pointwise [k0_pay1]
  rw [zero_sub]

section Head

variable (z : Vec Ideal S1024x512 .f32) (o : Vec Ideal S1024x128 .f32) (i : Fin 1024) (j : Fin 128)

theorem head0 : k0_pay2 z o (ix2 i j) = silu (z (ix2 i (col 0 j))) * o (ix2 i j) := by
  rw [← pay1_apply]
  pointwise [k0_pay2]
  refine congrArg₂ (· * ·) (congrArg (fun q => k0_pay1 z (ix2 i q)) (Fin.ext ?_)) rfl
  simp

theorem head1 : k0_pay3 z o (ix2 i j) = silu (z (ix2 i (col 1 j))) * o (ix2 i j) := by
  rw [← pay1_apply]
  pointwise [k0_pay3]
  refine congrArg₂ (· * ·) (congrArg (fun q => k0_pay1 z (ix2 i q)) (Fin.ext ?_)) rfl
  simp

theorem head2 : k0_pay4 z o (ix2 i j) = silu (z (ix2 i (col 2 j))) * o (ix2 i j) := by
  rw [← pay1_apply]
  pointwise [k0_pay4]
  refine congrArg₂ (· * ·) (congrArg (fun q => k0_pay1 z (ix2 i q)) (Fin.ext ?_)) rfl
  simp

theorem head3 : k0_pay5 z o (ix2 i j) = silu (z (ix2 i (col 3 j))) * o (ix2 i j) := by
  rw [← pay1_apply]
  pointwise [k0_pay5]
  refine congrArg₂ (· * ·) (congrArg (fun q => k0_pay1 z (ix2 i q)) (Fin.ext ?_)) rfl
  simp

end Head

theorem tile_apply (o z : Vec Ideal S1024x512 .f32) (g : Vec Ideal S1x512 .f32) (i : Fin 1024) (h : Fin 4) (j : Fin 128) :
    out0_3 o z g (ix2 i (col h j)) = silu (z (ix2 i (col h j))) * o (ix2 i (col h j)) := by
  have e0 : View.ld z r0_0 = z := View.ld_unit_lit _ z (by decide)
  unfold out0_3
  rw [e0]
  canon_tiles x hx
  all_goals
    idx_vars x
    obtain rfl : i = x0 := Fin.ext hx0
  · obtain rfl : h = 3 := Fin.ext (show h.val = 3 by omega)
    obtain rfl : j = x1 := Fin.ext (by simpa using hx1)
    refine (head3 ..).trans ?_
    simp only [r0_4, ld_head o 3 384 rfl]
  · obtain rfl : h = 2 := Fin.ext (show h.val = 2 by omega)
    obtain rfl : j = x1 := Fin.ext (by simpa using hx1)
    refine (head2 ..).trans ?_
    simp only [r0_3, ld_head o 2 256 rfl]
  · obtain rfl : h = 1 := Fin.ext (show h.val = 1 by omega)
    obtain rfl : j = x1 := Fin.ext (by simpa using hx1)
    refine (head1 ..).trans ?_
    simp only [r0_2, ld_head o 1 128 rfl]
  · obtain rfl : h = 0 := Fin.ext (show h.val = 0 by omega)
    obtain rfl : j = x1 := Fin.ext (by simpa using hx1)
    refine (head0 ..).trans ?_
    simp only [r0_1, ld_head o 0 0 rfl]

theorem index_eq (t : Fin cfg0.N) : win0_0.index t = ![t.val, 0] ∧ win0_1.index t = ![t.val, 9] ∧ win0_3.index t = ![t.val, 0] := by
  revert t; decide +kernel

/-! ## The array -/

variable (m : (ℓ : Loc nD τ sig) → Buf (Elt Ideal) ℓ) (c : Dev nD)

/-- The gated output, as the reference computes it of the arguments. -/
def res : Vec Ideal S4096x512 .bf16 :=
  val_main_v3 (F := Ideal) (m ((c.tc : Thread nD τ).loc main_arg0)) (m ((c.tc : Thread nD τ).loc main_arg1))

def o_ (i : Fin 4096) (q : Fin 512) : EReal := m ((c.tc : Thread nD τ).loc main_arg0) (ix2 i q)
def z_ (i : Fin 4096) (q : Fin 512) : EReal := m ((c.tc : Thread nD τ).loc main_arg1) (ix2 i ⟨4608 + q.val, by omega⟩)

theorem res_apply (i : Fin 4096) (q : Fin 512) : res m c (ix2 i q) = silu (z_ m c i q) * o_ m c i q := by
  unfold res silu z_ o_
  pointwise [val_main_v3, val_main_v2, val_main_v1, val_main_call0_v5, val_main_call0_v4, val_main_call0_v3, val_main_call0_v2,
    val_main_call0_v1, val_main_call0_v0, val_main_v0]
  rw [show val_main_call0_cst_0 (F := Ideal) ix0 = 1 from Ideal.ofBits_one_f32, show val_main_call0_cst (F := Ideal) ix0 = 1 from Ideal.ofBits_one_f32]

theorem value : (dats m 0 c).arrAt 3 cfg0.N = res m c := by
  refine (dats m 0 c).arrAt_eq_of_covers 3 (res m c) (by decide +kernel) fun t hf y => ?_
  obtain ⟨e0, e1, e3⟩ := index_eq t
  have ht : t.val < 4 := t.isLt
  rw [after0_3]
  idx_vars y
  blk_simp
  obtain ⟨h, j, rfl⟩ : ∃ (h : Fin 4) (j : Fin 128), y1 = col h j :=
    ⟨⟨y1.val / 128, by omega⟩, ⟨y1.val % 128, by omega⟩, Fin.ext (by simp only []; omega)⟩
  have h0 : iblk m c 0 t (ix2 y0 (col h j)) = o_ m c ⟨1024 * t.val + y0.val, by omega⟩ (col h j) := by
    unfold o_
    blk_ext [iblk, V, e0]
  have h1 : iblk m c 1 t (ix2 y0 (col h j)) = z_ m c ⟨1024 * t.val + y0.val, by omega⟩ (col h j) := by
    unfold z_
    blk_ext [iblk, V, e1]
  refine ((tile_apply _ _ _ y0 h j).trans ?_).trans ((res_apply m c ⟨1024 * t.val + y0.val, by omega⟩ (col h j)).symm.trans ?_)
  · rw [h0, h1]
  · blk_ext [e3]

theorem run (ρ : Dev nD → PrngReg) : θ_run (defs (F := Ideal)) (onTc (τ := τ) (main (F := Ideal))) ⟨m, fun _ => 0, ρ⟩ fun r => ∀ c : Dev nD,
      r.2.mem ((c.tc : Thread nD τ).loc main_v0) = res m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun r h c => ⟨(h c).1.trans (value m c), (h c).2⟩)
    (Cert.AttnGateIdeal.Value.run_blocks (F := Ideal) m ρ)

end Cert.AttnGateIdeal.Proj

end
-- ==== Proof.Proj.AttnGateBwd.lean ====
/-
  The gradient of the attention's gate: of the gate and of the attention's output. The kernel takes a block of rows at a time
  and each head of 128 columns apart, and writes the gate's gradient in place, into its columns of a wider array. There is no
  gain here, and in the place of a gain's gradient the kernel leaves zero.
-/
module

public import proofs.«01_k».proof.Proof.Proj.GateBwd
public import proofs.«01_k».proof.Proof.Gen.AttnGateBwdIdeal.Value
public import proofs.«01_k».proof.Proof.Gen.AttnGateBwdReferenceIdeal.Read

@[expose] public section

set_option maxRecDepth 16384

noncomputable section

namespace Cert.AttnGateBwdIdeal.Proj

open Idealize.ShloMosaic Idealize.ShloMosaic.TcCoe Cert.Adam
open Cert.AttnGateBwdIdeal Cert.AttnGateBwdIdeal.Gen Cert.AttnGateBwdReferenceIdeal.Read
open Cert.GateIdeal.Proj (silu col ld_head)
open Cert.GateBwdIdeal.Proj (dsilu dsilu_eq)
open Cert.KernelIdeal.Attn (real_of_abs)

/-! ## A tile -/

section Tile

variable (dy o z : Vec Ideal S1024x512 .f32) (x : Vec Ideal S1024x128 .f32) (i : Fin 1024) (j : Fin 128)

theorem pay2_apply (q : Fin 512) : k0_pay2 z (ix2 i q) = Cert.GateBwdIdeal.Proj.logistic (z (ix2 i q)) := by
  unfold Cert.GateBwdIdeal.Proj.logistic
  pointwise [k0_pay2]
  rw [zero_sub]

theorem pay3_apply (q : Fin 512) : k0_pay3 z (ix2 i q) = silu (z (ix2 i q)) := by
  refine Eq.trans ?_ (congrArg (fun s => z (ix2 i q) * s) (pay2_apply z i q))
  pointwise [k0_pay3]

theorem pay4_apply (q : Fin 512) : k0_pay4 z (ix2 i q) = dsilu (z (ix2 i q)) := by
  unfold dsilu
  rw [← pay2_apply]
  pointwise [k0_pay4]

theorem do0 : k0_pay5 z dy (ix2 i j) = dy (ix2 i (col 0 j)) * silu (z (ix2 i (col 0 j))) := by
  rw [← pay3_apply]
  pointwise [k0_pay5]
  rw [show (⟨j.val, by omega⟩ : Fin 512) = col 0 j from Fin.ext (show j.val = 128 * 0 + j.val by omega)]

theorem do1 : k0_pay8 z dy (ix2 i j) = dy (ix2 i (col 1 j)) * silu (z (ix2 i (col 1 j))) := by
  rw [← pay3_apply]
  pointwise [k0_pay8]
  rfl

theorem do2 : k0_pay10 (k0_pay3 z) dy (ix2 i j) = dy (ix2 i (col 2 j)) * silu (z (ix2 i (col 2 j))) := by
  rw [← pay3_apply]
  pointwise [k0_pay10]
  rfl

theorem do3 : k0_pay12 (k0_pay3 z) dy (ix2 i j) = dy (ix2 i (col 3 j)) * silu (z (ix2 i (col 3 j))) := by
  rw [← pay3_apply]
  pointwise [k0_pay12]
  rfl

theorem dz0 : k0_pay6 z dy x (ix2 i j) = dy (ix2 i (col 0 j)) * x (ix2 i j) * dsilu (z (ix2 i (col 0 j))) := by
  rw [← pay4_apply]
  pointwise [k0_pay6]
  rw [show (⟨j.val, by omega⟩ : Fin 512) = col 0 j from Fin.ext (show j.val = 128 * 0 + j.val by omega)]

theorem dz1 : k0_pay9 z dy x (ix2 i j) = dy (ix2 i (col 1 j)) * x (ix2 i j) * dsilu (z (ix2 i (col 1 j))) := by
  rw [← pay4_apply]
  pointwise [k0_pay9]
  rfl

theorem dz2 : k0_pay11 (k0_pay4 z) dy x (ix2 i j) = dy (ix2 i (col 2 j)) * x (ix2 i j) * dsilu (z (ix2 i (col 2 j))) := by
  rw [← pay4_apply]
  pointwise [k0_pay11]
  rfl

theorem dz3 : k0_pay13 (k0_pay4 z) dy x (ix2 i j) = dy (ix2 i (col 3 j)) * x (ix2 i j) * dsilu (z (ix2 i (col 3 j))) := by
  rw [← pay4_apply]
  pointwise [k0_pay13]
  rfl

/-- What a point leaves of the gate's gradient, of the attention's and in the gain's place. -/
def tileDz : Vec Ideal S1024x512 .bf16 := View.canon [
    ⟨Rect.unit ![0, 384] ![1024, 128] inb_S1024x512_S1024x128_0_384, k0_pay13 (k0_pay4 z) dy (View.ld o (Rect.unit ![0, 384] ![1024, 128] inb_S1024x512_S1024x128_0_384))⟩,
    ⟨Rect.unit ![0, 256] ![1024, 128] inb_S1024x512_S1024x128_0_256, k0_pay11 (k0_pay4 z) dy (View.ld o (Rect.unit ![0, 256] ![1024, 128] inb_S1024x512_S1024x128_0_256))⟩,
    ⟨Rect.unit ![0, 128] ![1024, 128] inb_S1024x512_S1024x128_0_128, k0_pay9 z dy (View.ld o (Rect.unit ![0, 128] ![1024, 128] inb_S1024x512_S1024x128_0_128))⟩,
    ⟨Rect.unit ![0, 0] ![1024, 128] inb_S1024x512_S1024x128_0_0, k0_pay6 z dy (View.ld o (Rect.unit ![0, 0] ![1024, 128] inb_S1024x512_S1024x128_0_0))⟩]

def tileDo : Vec Ideal S1024x512 .f32 := View.canon [
    ⟨Rect.unit ![0, 384] ![1024, 128] inb_S1024x512_S1024x128_0_384, k0_pay12 (k0_pay3 z) dy⟩,
    ⟨Rect.unit ![0, 256] ![1024, 128] inb_S1024x512_S1024x128_0_256, k0_pay10 (k0_pay3 z) dy⟩,
    ⟨Rect.unit ![0, 128] ![1024, 128] inb_S1024x512_S1024x128_0_128, k0_pay8 z dy⟩,
    ⟨Rect.unit ![0, 0] ![1024, 128] inb_S1024x512_S1024x128_0_0, k0_pay5 z dy⟩]

def tileDg : Vec Ideal S1x512 .f32 := k0_pay14 (F := Ideal) (k0_pay7 (F := Ideal))

theorem tileDz_apply (h : Fin 4) : tileDz dy o z (ix2 i (col h j))
    = dy (ix2 i (col h j)) * o (ix2 i (col h j)) * dsilu (z (ix2 i (col h j))) := by
  unfold tileDz
  canon_tiles x hx
  all_goals
    idx_vars x
    obtain rfl : i = x0 := Fin.ext hx0
  · obtain rfl : h = 3 := Fin.ext (show h.val = 3 by omega)
    obtain rfl : j = x1 := Fin.ext (by simpa using hx1)
    refine (dz3 ..).trans ?_
    simp only [ld_head o 3 384 rfl]
  · obtain rfl : h = 2 := Fin.ext (show h.val = 2 by omega)
    obtain rfl : j = x1 := Fin.ext (by simpa using hx1)
    refine (dz2 ..).trans ?_
    simp only [ld_head o 2 256 rfl]
  · obtain rfl : h = 1 := Fin.ext (show h.val = 1 by omega)
    obtain rfl : j = x1 := Fin.ext (by simpa using hx1)
    refine (dz1 ..).trans ?_
    simp only [ld_head o 1 128 rfl]
  · obtain rfl : h = 0 := Fin.ext (show h.val = 0 by omega)
    obtain rfl : j = x1 := Fin.ext (by simpa using hx1)
    refine (dz0 ..).trans ?_
    simp only [ld_head o 0 0 rfl]

theorem tileDo_apply (h : Fin 4) : tileDo dy z (ix2 i (col h j)) = dy (ix2 i (col h j)) * silu (z (ix2 i (col h j))) := by
  unfold tileDo
  canon_tiles x hx
  all_goals
    idx_vars x
    obtain rfl : i = x0 := Fin.ext hx0
  · obtain rfl : h = 3 := Fin.ext (show h.val = 3 by omega)
    obtain rfl : j = x1 := Fin.ext (by simpa using hx1)
    exact do3 ..
  · obtain rfl : h = 2 := Fin.ext (show h.val = 2 by omega)
    obtain rfl : j = x1 := Fin.ext (by simpa using hx1)
    exact do2 ..
  · obtain rfl : h = 1 := Fin.ext (show h.val = 1 by omega)
    obtain rfl : j = x1 := Fin.ext (by simpa using hx1)
    exact do1 ..
  · obtain rfl : h = 0 := Fin.ext (show h.val = 0 by omega)
    obtain rfl : j = x1 := Fin.ext (by simpa using hx1)
    exact do0 ..

theorem tileDg_apply (q : Fin 512) : tileDg (ix2 0 q) = 0 := by
  obtain ⟨h, j, rfl⟩ : ∃ (h : Fin 4) (j : Fin 128), q = col h j :=
    ⟨⟨q.val / 128, by omega⟩, ⟨q.val % 128, by omega⟩, Fin.ext (by simp only []; omega)⟩
  refine (concatenate_ofFn_apply (t := S1x512) (s₁ := S1x128) 1 (fun _ : Fin 4 => k0_pay7 (F := Ideal))
    concatenates_S1x128_S1x128_S1x128_S1x128_S1x512_d1 rfl 128 rfl (ix2 0 (col h j)) h
    (by show (128 * h.val + j.val) / 128 = h.val; omega) (ix2 0 j)
    (by show j.val = (128 * h.val + j.val) % 128; omega) (fun b hb => by
      fin_cases b
      · rfl
      · exact absurd rfl hb)).trans ?_
  pointwise [k0_pay7]

theorem pay1_apply (v w : Vec Ideal S1x512 .f32) (q : Fin 512) : k0_pay1 (F := Ideal) v w (ix2 0 q) = w (ix2 0 q) + v (ix2 0 q) := by
  pointwise [k0_pay1, shapeCast_self]

end Tile

section Point

variable (c : Dev nD) (i : grid0.Coords) (arg1 : Memref sig .tc .vmem S1024x512 .f32) (harg1 : arg1.IsWhole)
    (arg2 : Memref sig .tc .vmem S1024x512 .f32) (harg2 : arg2.IsWhole)
    (arg3 : Memref sig .tc .vmem S1024x512 .f32) (harg3 : arg3.IsWhole)
    (arg4 : Memref sig .tc .vmem S1x512 .f32) (harg4 : arg4.IsWhole)
    (arg6 : Memref sig .tc .vmem S1024x512 .bf16) (harg6 : arg6.IsWhole)
    (arg7 : Memref sig .tc .vmem S1024x512 .f32) (harg7 : arg7.IsWhole)
    (arg8 : Memref sig .tc .vmem S1x512 .f32) (harg8 : arg8.IsWhole)
    (x0 x1 x2 : Vec Ideal S1024x512 .f32) (x3 xo : Vec Ideal S1x512 .f32)

theorem first_dz (hc0 : cond0_0 i) (hc1 : ¬cond0_1 i) : out0_A_4 c i arg1 harg1 arg2 harg2 arg3 harg3 arg4 harg4 arg6 harg6 arg7 harg7 arg8 harg8 hc0 hc1 x0 x1 x2 x3 = tileDz x0 x1 x2 := by
  frame_out

theorem next_dz (hc0 : ¬cond0_0 i) (hc1 : cond0_1 i) : out0_B_4 c i arg1 harg1 arg2 harg2 arg3 harg3 arg4 harg4 arg6 harg6 arg7 harg7 arg8 harg8 hc0 hc1 x0 x1 x2 x3 xo = tileDz x0 x1 x2 := by
  frame_out

theorem first_do (hc0 : cond0_0 i) (hc1 : ¬cond0_1 i) : out0_A_5 c i arg1 harg1 arg2 harg2 arg3 harg3 arg4 harg4 arg6 harg6 arg7 harg7 arg8 harg8 hc0 hc1 x0 x1 x2 x3 = tileDo x0 x2 := by
  frame_out

theorem next_do (hc0 : ¬cond0_0 i) (hc1 : cond0_1 i) : out0_B_5 c i arg1 harg1 arg2 harg2 arg3 harg3 arg4 harg4 arg6 harg6 arg7 harg7 arg8 harg8 hc0 hc1 x0 x1 x2 x3 xo = tileDo x0 x2 := by
  frame_out

theorem first_dg (hc0 : cond0_0 i) (hc1 : ¬cond0_1 i) : out0_A_6 c i arg1 harg1 arg2 harg2 arg3 harg3 arg4 harg4 arg6 harg6 arg7 harg7 arg8 harg8 hc0 hc1 x0 x1 x2 x3 = tileDg := by
  frame_out
  rfl

theorem next_dg (hc0 : ¬cond0_0 i) (hc1 : cond0_1 i) (q : Fin 512) : out0_B_6 c i arg1 harg1 arg2 harg2 arg3 harg3 arg4 harg4 arg6 harg6 arg7 harg7 arg8 harg8 hc0 hc1 x0 x1 x2 x3 xo (ix2 0 q) = xo (ix2 0 q) + tileDg (ix2 0 q) := by
  frame_out
  exact pay1_apply ..

end Point

theorem index_eq (t : Fin cfg0.N) : win0_0.index t = ![t.val, 3] ∧ win0_1.index t = ![t.val, 0] ∧ win0_2.index t = ![t.val, 9]
    ∧ win0_4.index t = ![t.val, 9] ∧ win0_5.index t = ![t.val, 0] := by
  revert t; decide +kernel

/-! ## The arrays -/

variable (m : (ℓ : Loc nD τ sig) → Buf (Elt Ideal) ℓ) (c : Dev nD)

/-- The gate's gradient in its columns of the wider array, as the reference computes it of the arguments. -/
def resDz : Vec Ideal S4096x6144 .bf16 :=
  val_main_v8 (F := Ideal) (m ((c.tc : Thread nD τ).loc main_arg0)) (m ((c.tc : Thread nD τ).loc main_arg1)) (m ((c.tc : Thread nD τ).loc main_arg2))
    (m ((c.tc : Thread nD τ).loc main_arg4))

/-- The gradient of the attention's output. -/
def resDo : Vec Ideal S4096x512 .f32 :=
  val_main_v4 (F := Ideal) (m ((c.tc : Thread nD τ).loc main_arg0)) (m ((c.tc : Thread nD τ).loc main_arg2))

/-- Zero, in the place of a gain's gradient. -/
def resDg : Vec Ideal S1x512 .f32 := val_main_v9 (F := Ideal)

def dy_ (i : Fin 4096) (q : Fin 512) : EReal := m ((c.tc : Thread nD τ).loc main_arg0) (ix2 i ⟨1536 + q.val, by omega⟩)
def o_ (i : Fin 4096) (q : Fin 512) : EReal := m ((c.tc : Thread nD τ).loc main_arg1) (ix2 i q)
def z_ (i : Fin 4096) (q : Fin 512) : EReal := m ((c.tc : Thread nD τ).loc main_arg2) (ix2 i ⟨4608 + q.val, by omega⟩)

theorem v1_2_apply (i : Fin 4096) (q : Fin 512) : val_main_v1_2 (F := Ideal) (m ((c.tc : Thread nD τ).loc main_arg2)) (ix2 i q) = Cert.GateBwdIdeal.Proj.logistic (z_ m c i q) := by
  unfold Cert.GateBwdIdeal.Proj.logistic z_
  pointwise [val_main_v1_2, val_main_call0_v4, val_main_call0_v3, val_main_call0_v2, val_main_call0_v1, val_main_call0_v0, val_main_v0]
  rw [show val_main_call0_cst_0 (F := Ideal) ix0 = 1 from Ideal.ofBits_one_f32, show val_main_call0_cst (F := Ideal) ix0 = 1 from Ideal.ofBits_one_f32]

theorem resDo_apply (i : Fin 4096) (q : Fin 512) : resDo m c (ix2 i q) = dy_ m c i q * silu (z_ m c i q) := by
  rw [mul_comm]
  refine Eq.trans ?_ (congrArg (fun s => z_ m c i q * s * dy_ m c i q) (v1_2_apply m c i q))
  unfold resDo z_ dy_
  pointwise [val_main_v4, val_main_v3, val_main_v1_0, val_main_v0]

theorem resDg_apply (q : Fin 512) : resDg (ix2 0 q) = 0 := by
  unfold resDg
  pointwise [val_main_v9]
  exact Ideal.ofBits_zero_f32

/-- The reference's gradient of the gate, by the silu's two factors. -/
theorem v7_apply (i : Fin 4096) (q : Fin 512) :
    val_main_v7 (F := Ideal) (m ((c.tc : Thread nD τ).loc main_arg0)) (m ((c.tc : Thread nD τ).loc main_arg1)) (m ((c.tc : Thread nD τ).loc main_arg2)) (ix2 i q)
      = dy_ m c i q * o_ m c i q * Cert.GateBwdIdeal.Proj.logistic (z_ m c i q)
        + z_ m c i q * (dy_ m c i q * o_ m c i q) * (Cert.GateBwdIdeal.Proj.logistic (z_ m c i q) * (1 - Cert.GateBwdIdeal.Proj.logistic (z_ m c i q))) := by
  rw [← v1_2_apply]
  unfold dy_ z_ o_
  pointwise [val_main_v7, val_main_v6, val_main_call1_v2, val_main_call1_v1, val_main_call1_v0, val_main_v5, val_main_v3, val_main_v1_1,
    val_main_call0_v7, val_main_call0_v6, val_main_v0]
  rw [show val_main_call0_cst_1 (F := Ideal) ix0 = 1 from Ideal.ofBits_one_f32]

theorem resDz_in (i : Fin 4096) (q : Fin 512) : resDz m c (ix2 i ⟨4608 + q.val, by omega⟩)
    = val_main_v7 (F := Ideal) (m ((c.tc : Thread nD τ).loc main_arg0)) (m ((c.tc : Thread nD τ).loc main_arg1)) (m ((c.tc : Thread nD τ).loc main_arg2)) (ix2 i q) := by
  unfold resDz
  pointwise [val_main_v8]
  refine (dif_pos (show 0 ≤ i.val ∧ 4608 ≤ 4608 + q.val ∧ 4608 + q.val < 4608 + 512 from by omega)).trans ?_
  refine congrArg (val_main_v7 (F := Ideal) _ _ _) (congrArg₂ ix2 (Fin.ext (Nat.sub_zero _)) (Fin.ext (Nat.add_sub_cancel_left ..)))

theorem resDz_out (i : Fin 4096) (q : Fin 6144) (hq : ¬q.val / 512 = 9) : resDz m c (ix2 i q) = m ((c.tc : Thread nD τ).loc main_arg4) (ix2 i q) := by
  unfold resDz
  pointwise [val_main_v8]
  exact dif_neg (show ¬(0 ≤ i.val ∧ 4608 ≤ q.val ∧ q.val < 4608 + 512) from by omega)

/-! ## The blocks -/

theorem blocks (t : Fin cfg0.N) (ht : t.val < 4) (i : Fin 1024) (k : Fin 512) :
    iblk m c 0 t (ix2 i k) = dy_ m c ⟨1024 * t.val + i.val, by omega⟩ k ∧ iblk m c 1 t (ix2 i k) = o_ m c ⟨1024 * t.val + i.val, by omega⟩ k
    ∧ iblk m c 2 t (ix2 i k) = z_ m c ⟨1024 * t.val + i.val, by omega⟩ k := by
  obtain ⟨e0, e1, e2, -⟩ := index_eq t
  unfold dy_ o_ z_
  refine ⟨?_, ?_, ?_⟩
  · blk_ext [iblk, V, e0]
  · blk_ext [iblk, V, e1]
  · blk_ext [iblk, V, e2]

theorem outs (t : Fin cfg0.N) : (outsAt0 m c t.val t.isLt).1 = tileDz (iblk m c 0 t) (iblk m c 1 t) (iblk m c 2 t)
    ∧ (outsAt0 m c t.val t.isLt).2.1 = tileDo (iblk m c 0 t) (iblk m c 2 t) := by
  have ht : t.val < 4 := t.isLt
  by_cases h0 : t.val % 4 = 0
  · refine ⟨(congrArg Prod.fst (outsAt0_A m c t h0 (by omega))).trans ?_, (congrArg (fun p => p.2.1) (outsAt0_A m c t h0 (by omega))).trans ?_⟩
    · dsimp only
      rw [first_dz]
    · dsimp only
      rw [first_do]
  · refine ⟨(congrArg Prod.fst (outsAt0_B m c t h0 (by omega))).trans ?_, (congrArg (fun p => p.2.1) (outsAt0_B m c t h0 (by omega))).trans ?_⟩
    · dsimp only
      rw [next_dz]
    · dsimp only
      rw [next_do]

theorem value_do : (dats m 0 c).arrAt 5 cfg0.N = resDo m c := by
  refine (dats m 0 c).arrAt_eq_of_covers 5 (resDo m c) (by decide +kernel) fun t hf y => ?_
  obtain ⟨-, -, -, -, e5⟩ := index_eq t
  have ht : t.val < 4 := t.isLt
  rw [after0_5, (outs m c t).2]
  idx_vars y
  blk_simp
  obtain ⟨h, j, rfl⟩ : ∃ (h : Fin 4) (j : Fin 128), y1 = col h j :=
    ⟨⟨y1.val / 128, by omega⟩, ⟨y1.val % 128, by omega⟩, Fin.ext (by simp only []; omega)⟩
  refine ((tileDo_apply _ _ y0 j h).trans ?_).trans ((resDo_apply m c ⟨1024 * t.val + y0.val, by omega⟩ (col h j)).symm.trans ?_)
  · rw [(blocks m c t ht y0 _).1, (blocks m c t ht y0 _).2.2]
  · blk_ext [e5]

def tEnd : Fin cfg0.N := ⟨3, by decide⟩

theorem last_dg : (outsAt0 m c tEnd.val tEnd.isLt).2.2 = resDg := by
  funext y
  idx_vars y
  obtain rfl : y0 = 0 := Subsingleton.elim _ _
  refine (Pipeline.eq_sum_fin_of_reset_step_apply_last (fun n h => (outsAt0 m c n h).2.2) 4 (fun _ => 0) (fun _ => tileDg)
      (fun t h j => ?_) (fun t h j => ?_) (le_of_eq N_0) tEnd rfl (ix2 0 y1)).trans ?_
  · rw [outsAt0_A m c t h (by have := t.isLt; have : cfg0.N = 4 := rfl; omega), zero_add]
    dsimp only
    rw [first_dg]
  · idx_vars j
    obtain rfl : j0 = 0 := Subsingleton.elim _ _
    rw [outsAt0_B m c t h (by omega)]
    dsimp only
    exact next_dg ..
  · rw [zero_add, resDg_apply]
    exact Finset.sum_eq_zero fun t _ => tileDg_apply y1

theorem value_dg : (dats m 0 c).arrAt 6 cfg0.N = resDg := by
  refine (dats m 0 c).arrAt_eq_of_after_last 6 tEnd (by decide +kernel) _ fun y => ?_
  rw [after0_6, last_dg]
  generalize resDg = b
  idx_vars y
  blk_ext []

/-! ## The gate's gradient -/

variable [Cert.Pre_finite_heads.Facts] (hm : Cert.Pre_AttnGateBwdIdeal_finite_heads m)
include hm

/-- With a finite incoming gradient and a finite output of the attention their product is real. -/
theorem ct_real (i : Fin 4096) (q : Fin 512) : ∃ r : ℝ, dy_ m c i q * o_ m c i q = r := by
  obtain ⟨h0, h1⟩ := hm c
  have e : dy_ m c i q = extractStridedSlice Cert.Pre_finite_heads.S4096x512 ![0, 1536] (m ((c.tc : Thread nD τ).loc main_arg0))
      Cert.Pre_finite_heads.Facts.slices_S4096x2048_S4096x512_0_1536 (ix2 i q) := by
    unfold dy_
    pointwise []
  obtain ⟨y, hy⟩ : ∃ r : ℝ, dy_ m c i q = r := by
    rw [e]
    exact real_of_abs _ (congrFun h0 (ix2 i q))
  obtain ⟨o, ho⟩ : ∃ r : ℝ, o_ m c i q = r := real_of_abs _ (congrFun h1 (ix2 i q))
  refine ⟨y * o, ?_⟩
  rw [hy, ho]
  push_cast
  rfl

theorem value_dz : (dats m 0 c).arrAt 4 cfg0.N = resDz m c := by
  refine (dats m 0 c).arrAt_eq_of_coversWhere_of_agree 4 (resDz m c) (fun β => β (1 : Fin 2) = 9) (by decide +kernel) (fun t hf y => ?_) (fun j hj => ?_)
  · obtain ⟨-, -, -, e4, -⟩ := index_eq t
    have ht : t.val < 4 := t.isLt
    rw [after0_4, (outs m c t).1]
    idx_vars y
    blk_simp
    obtain ⟨h, j, rfl⟩ : ∃ (h : Fin 4) (j : Fin 128), y1 = col h j :=
      ⟨⟨y1.val / 128, by omega⟩, ⟨y1.val % 128, by omega⟩, Fin.ext (by simp only []; omega)⟩
    obtain ⟨r, hr⟩ := ct_real m c hm ⟨1024 * t.val + y0.val, by omega⟩ (col h j)
    refine ((tileDz_apply _ _ _ y0 j h).trans ?_).trans ((resDz_in m c ⟨1024 * t.val + y0.val, by omega⟩ (col h j)).symm.trans ?_)
    · rw [v7_apply, hr, ← dsilu_eq, ← hr, (blocks m c t ht y0 _).1, (blocks m c t ht y0 _).2.1, (blocks m c t ht y0 _).2.2]
    · blk_ext [e4]
  · blk_simp [Pipeline.Window.cell_apply] at hj
    idx_vars j
    refine Eq.trans ?_ (resDz_out m c j0 j1 hj).symm
    refine (congrFun (A_eq m c 4) _).trans ?_
    rfl

theorem run (ρ : Dev nD → PrngReg) : θ_run (defs (F := Ideal)) (onTc (τ := τ) (main (F := Ideal))) ⟨m, fun _ => 0, ρ⟩ fun r => ∀ c : Dev nD,
      r.2.mem ((c.tc : Thread nD τ).loc main_v0_0) = resDz m c ∧ r.2.mem ((c.tc : Thread nD τ).loc main_v0_1) = resDo m c
      ∧ r.2.mem ((c.tc : Thread nD τ).loc main_v0_2) = resDg
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun r h c => ⟨(h c).1.trans (value_dz m c hm), (h c).2.1.trans (value_do m c), (h c).2.2.1.trans (value_dg m c), (h c).2.2.2⟩)
    (Cert.AttnGateBwdIdeal.Value.run_blocks (F := Ideal) m ρ)

end Cert.AttnGateBwdIdeal.Proj

end
-- ==== Proof.Proj.SumSmall.lean ====
/-
  The loss and the gradients of the small weights, each a sum over the devices of what the devices sent: the kernel adds the
  devices' blocks entry by entry and cuts the sums apart, the reference cuts the blocks apart and adds the pieces.
-/
module

public import proofs.«01_k».proof.Proof.Proj.Adam
public import proofs.«01_k».proof.Proof.Gen.SumSmallIdeal.Frame
public import proofs.«01_k».proof.Proof.Gen.SumSmallReferenceIdeal.Read

@[expose] public section

set_option maxRecDepth 16384

noncomputable section

namespace Cert.SumSmallIdeal.Proj

open Idealize.ShloMosaic Idealize.ShloMosaic.TcCoe
open Cert.SumSmallIdeal Cert.SumSmallIdeal.Gen Cert.SumSmallReferenceIdeal.Read

theorem tile_apply (x : Vec Ideal S8x16x128 .f32) (i : Fin 16) (j : Fin 128) : out0_1 x (ix2 i j) = ∑ d : Fin 8, x (ix3 d i j) := by
  unfold out0_1
  rw [View.canon_cons_unit_lit _ _ _ (by decide), Fin.sum_univ_eight]
  pointwise [k0_pay1]

theorem index_eq (t : Fin cfg0.N) : win0_0.index t = ![0, t.val, 0] ∧ win0_1.index t = ![t.val, 0] := by
  revert t; decide +kernel

/-- The sums over the devices, entry by entry. -/
def sums (a : Vec Ideal S8x1136x128 .f32) : Vec Ideal S1136x128 .f32 := fun y => ∑ d : Fin 8, a (ix3 d (y 0) (y 1))

variable (m : (ℓ : Loc nD τ sig) → Buf (Elt Ideal) ℓ) (c : Dev nD)

/-- What the devices sent. -/
def sent : Vec Ideal S8x1136x128 .f32 := m ((c.tc : Thread nD τ).loc main_arg0)

theorem block_apply (t : Fin cfg0.N) (ht : t.val < 71) (i : Fin 16) (j : Fin 128) :
    out0_1 (iblk m c 0 t) (ix2 i j) = sums (sent m c) (ix2 ⟨16 * t.val + i.val, by omega⟩ j) := by
  rw [tile_apply]
  unfold sums
  refine Finset.sum_congr rfl fun d _ => ?_
  obtain ⟨e0, -⟩ := index_eq t
  unfold sent
  blk_ext [iblk, V, e0]

theorem array_eq : (dats m 0 c).arrAt 1 cfg0.N = sums (sent m c) := by
  refine (dats m 0 c).arrAt_eq_of_covers 1 (sums (sent m c)) (by decide +kernel) fun t hf y => ?_
  obtain ⟨-, e1⟩ := index_eq t
  rw [after0_1]
  idx_vars y
  generalize hb : sums (sent m c) = b
  blk_simp
  refine (block_apply m c t t.isLt y0 y1).trans ?_
  rw [hb]
  blk_ext [e1]

/-! ## Cutting the sums apart -/

/-- The sums in one row: each is a sum of the entries at its place in the devices' rows. -/
theorem flat_apply (a : Vec Ideal S8x1136x128 .f32) (h : S1136x128.ShapeCasts S145408) (p : Fin 145408) :
    shapeCast S145408 (sums a) h (ix1 p) = ∑ d : Fin 8, val_main_v0 (F := Ideal) a (ix2 d p) := by
  have e := shapeCast_apply (sums a) h (ix1 p) (ix2 ⟨p.val / 128, by omega⟩ ⟨p.val % 128, by omega⟩)
    (by rw [Shape.rowMajor_val_one, Shape.rowMajor_val_two]; show p.val / 128 * 128 + p.val % 128 = p.val; omega)
  rw [e]
  refine Finset.sum_congr rfl fun d _ => ?_
  rw [val_main_v0_apply]
  refine congrArg a (funext fun k => Fin.ext ?_)
  match k with
  | ⟨0, _⟩ => show d.val = (d.val * 145408 + p.val) / 145408; omega
  | ⟨1, _⟩ => show p.val / 128 = (d.val * 145408 + p.val) / 128 % 1136; omega
  | ⟨2, _⟩ => show p.val % 128 = (d.val * 145408 + p.val) % 128; omega

/-- A piece of the sums is the sum of the devices' pieces. -/
theorem piece_apply (n off : Nat) (a : Vec Ideal S8x1136x128 .f32) (h : S1136x128.ShapeCasts S145408) (h1 : S145408.Slices ![off] ⟨1, ![n]⟩)
    (hn : off + n ≤ 145408) (k : Fin n) :
    extractStridedSlice ⟨1, ![n]⟩ ![off] (shapeCast S145408 (sums a) h) h1 (ix1 k)
      = ∑ d : Fin 8, val_main_v0 (F := Ideal) a (ix2 d ⟨off + k.val, by omega⟩) := by
  rw [extractStridedSlice_apply ![off] (shapeCast S145408 (sums a) h) h1 (ix1 k) (ix1 ⟨off + k.val, by omega⟩)
    (fun b => match b with | ⟨0, _⟩ => rfl)]
  exact flat_apply a h _

theorem cutNormG (a : Vec Ideal S8x1136x128 .f32) : extractStridedSlice S4096 ![0] (shapeCast S145408 (sums a) shapeCasts_S1136x128_S145408) slices_S145408_S4096_0
    = val_main_v2 (F := Ideal) a := by
  funext y
  idx_vars y
  refine (piece_apply 4096 0 a _ _ (by decide) y0).trans ?_
  rw [val_main_v2_apply, val_main_cst_apply]
  refine Eq.trans ?_ (congrArg (· + _) Ideal.ofBits_zero_f32.symm)
  refine Eq.trans ?_ (zero_add _).symm
  refine Finset.sum_congr rfl fun d _ => ?_
  rw [val_main_v1_apply]
  refine congrArg (val_main_v0 (F := Ideal) a) (funext fun k => Fin.ext ?_)
  match k with
  | ⟨0, _⟩ => rfl
  | ⟨1, _⟩ => exact Nat.zero_add _

theorem cutRetNormG (a : Vec Ideal S8x1136x128 .f32) : extractStridedSlice S1024 ![4096] (shapeCast S145408 (sums a) shapeCasts_S1136x128_S145408) slices_S145408_S1024_4096
    = val_main_v5 (F := Ideal) a := by
  funext y
  idx_vars y
  refine (piece_apply 1024 4096 a _ _ (by decide) y0).trans ?_
  rw [val_main_v5_apply, val_main_cst_0_apply]
  refine Eq.trans ?_ (congrArg (· + _) Ideal.ofBits_zero_f32.symm)
  refine Eq.trans ?_ (zero_add _).symm
  refine Finset.sum_congr rfl fun d _ => ?_
  rw [val_main_v4_apply]
  refine congrArg (val_main_v0 (F := Ideal) a) (funext fun k => Fin.ext ?_)
  match k with
  | ⟨0, _⟩ => rfl
  | ⟨1, _⟩ => rfl

theorem cutGlaBaF (a : Vec Ideal S8x1136x128 .f32) : extractStridedSlice S512 ![5120] (shapeCast S145408 (sums a) shapeCasts_S1136x128_S145408) slices_S145408_S512_5120
    = val_main_v8 (F := Ideal) a := by
  funext y
  idx_vars y
  refine (piece_apply 512 5120 a _ _ (by decide) y0).trans ?_
  rw [val_main_v8_apply, val_main_cst_1_apply]
  refine Eq.trans ?_ (congrArg (· + _) Ideal.ofBits_zero_f32.symm)
  refine Eq.trans ?_ (zero_add _).symm
  refine Finset.sum_congr rfl fun d _ => ?_
  rw [val_main_v7_apply]
  refine congrArg (val_main_v0 (F := Ideal) a) (funext fun k => Fin.ext ?_)
  match k with
  | ⟨0, _⟩ => rfl
  | ⟨1, _⟩ => rfl

theorem cutGlaBaB (a : Vec Ideal S8x1136x128 .f32) : extractStridedSlice S512 ![6144] (shapeCast S145408 (sums a) shapeCasts_S1136x128_S145408) slices_S145408_S512_6144
    = val_main_v11 (F := Ideal) a := by
  funext y
  idx_vars y
  refine (piece_apply 512 6144 a _ _ (by decide) y0).trans ?_
  rw [val_main_v11_apply, val_main_cst_2_apply]
  refine Eq.trans ?_ (congrArg (· + _) Ideal.ofBits_zero_f32.symm)
  refine Eq.trans ?_ (zero_add _).symm
  refine Finset.sum_congr rfl fun d _ => ?_
  rw [val_main_v10_apply]
  refine congrArg (val_main_v0 (F := Ideal) a) (funext fun k => Fin.ext ?_)
  match k with
  | ⟨0, _⟩ => rfl
  | ⟨1, _⟩ => rfl

theorem cutGlaNormG (a : Vec Ideal S8x1136x128 .f32) : extractStridedSlice S1024 ![7168] (shapeCast S145408 (sums a) shapeCasts_S1136x128_S145408) slices_S145408_S1024_7168
    = val_main_v14 (F := Ideal) a := by
  funext y
  idx_vars y
  refine (piece_apply 1024 7168 a _ _ (by decide) y0).trans ?_
  rw [val_main_v14_apply, val_main_cst_3_apply]
  refine Eq.trans ?_ (congrArg (· + _) Ideal.ofBits_zero_f32.symm)
  refine Eq.trans ?_ (zero_add _).symm
  refine Finset.sum_congr rfl fun d _ => ?_
  rw [val_main_v13_apply]
  refine congrArg (val_main_v0 (F := Ideal) a) (funext fun k => Fin.ext ?_)
  match k with
  | ⟨0, _⟩ => rfl
  | ⟨1, _⟩ => rfl

theorem cutPoolW (a : Vec Ideal S8x1136x128 .f32) : extractStridedSlice S131072 ![8192] (shapeCast S145408 (sums a) shapeCasts_S1136x128_S145408) slices_S145408_S131072_8192
    = val_main_v17 (F := Ideal) a := by
  funext y
  idx_vars y
  refine (piece_apply 131072 8192 a _ _ (by decide) y0).trans ?_
  rw [val_main_v17_apply, val_main_cst_4_apply]
  refine Eq.trans ?_ (congrArg (· + _) Ideal.ofBits_zero_f32.symm)
  refine Eq.trans ?_ (zero_add _).symm
  refine Finset.sum_congr rfl fun d _ => ?_
  rw [val_main_v16_apply]
  refine congrArg (val_main_v0 (F := Ideal) a) (funext fun k => Fin.ext ?_)
  match k with
  | ⟨0, _⟩ => rfl
  | ⟨1, _⟩ => rfl

theorem cutPoolScale (a : Vec Ideal S8x1136x128 .f32) : extractStridedSlice S1024 ![139264] (shapeCast S145408 (sums a) shapeCasts_S1136x128_S145408) slices_S145408_S1024_139264
    = val_main_v20 (F := Ideal) a := by
  funext y
  idx_vars y
  refine (piece_apply 1024 139264 a _ _ (by decide) y0).trans ?_
  rw [val_main_v20_apply, val_main_cst_5_apply]
  refine Eq.trans ?_ (congrArg (· + _) Ideal.ofBits_zero_f32.symm)
  refine Eq.trans ?_ (zero_add _).symm
  refine Finset.sum_congr rfl fun d _ => ?_
  rw [val_main_v19_apply]
  refine congrArg (val_main_v0 (F := Ideal) a) (funext fun k => Fin.ext ?_)
  match k with
  | ⟨0, _⟩ => rfl
  | ⟨1, _⟩ => rfl

theorem cutMlaQNormG (a : Vec Ideal S8x1136x128 .f32) : extractStridedSlice S1024 ![140288] (shapeCast S145408 (sums a) shapeCasts_S1136x128_S145408) slices_S145408_S1024_140288
    = val_main_v23 (F := Ideal) a := by
  funext y
  idx_vars y
  refine (piece_apply 1024 140288 a _ _ (by decide) y0).trans ?_
  rw [val_main_v23_apply, val_main_cst_6_apply]
  refine Eq.trans ?_ (congrArg (· + _) Ideal.ofBits_zero_f32.symm)
  refine Eq.trans ?_ (zero_add _).symm
  refine Finset.sum_congr rfl fun d _ => ?_
  rw [val_main_v22_apply]
  refine congrArg (val_main_v0 (F := Ideal) a) (funext fun k => Fin.ext ?_)
  match k with
  | ⟨0, _⟩ => rfl
  | ⟨1, _⟩ => rfl

theorem cutMlaKvNormG (a : Vec Ideal S8x1136x128 .f32) : extractStridedSlice S512 ![141312] (shapeCast S145408 (sums a) shapeCasts_S1136x128_S145408) slices_S145408_S512_141312
    = val_main_v26 (F := Ideal) a := by
  funext y
  idx_vars y
  refine (piece_apply 512 141312 a _ _ (by decide) y0).trans ?_
  rw [val_main_v26_apply, val_main_cst_7_apply]
  refine Eq.trans ?_ (congrArg (· + _) Ideal.ofBits_zero_f32.symm)
  refine Eq.trans ?_ (zero_add _).symm
  refine Finset.sum_congr rfl fun d _ => ?_
  rw [val_main_v25_apply]
  refine congrArg (val_main_v0 (F := Ideal) a) (funext fun k => Fin.ext ?_)
  match k with
  | ⟨0, _⟩ => rfl
  | ⟨1, _⟩ => rfl

theorem cutMlaQkNormQ (a : Vec Ideal S8x1136x128 .f32) : extractStridedSlice S384 ![142336] (shapeCast S145408 (sums a) shapeCasts_S1136x128_S145408) slices_S145408_S384_142336
    = val_main_v29 (F := Ideal) a := by
  funext y
  idx_vars y
  refine (piece_apply 384 142336 a _ _ (by decide) y0).trans ?_
  rw [val_main_v29_apply, val_main_cst_8_apply]
  refine Eq.trans ?_ (congrArg (· + _) Ideal.ofBits_zero_f32.symm)
  refine Eq.trans ?_ (zero_add _).symm
  refine Finset.sum_congr rfl fun d _ => ?_
  rw [val_main_v28_apply]
  refine congrArg (val_main_v0 (F := Ideal) a) (funext fun k => Fin.ext ?_)
  match k with
  | ⟨0, _⟩ => rfl
  | ⟨1, _⟩ => rfl

theorem cutMlaQkNormK (a : Vec Ideal S8x1136x128 .f32) : extractStridedSlice S384 ![143360] (shapeCast S145408 (sums a) shapeCasts_S1136x128_S145408) slices_S145408_S384_143360
    = val_main_v32 (F := Ideal) a := by
  funext y
  idx_vars y
  refine (piece_apply 384 143360 a _ _ (by decide) y0).trans ?_
  rw [val_main_v32_apply, val_main_cst_9_apply]
  refine Eq.trans ?_ (congrArg (· + _) Ideal.ofBits_zero_f32.symm)
  refine Eq.trans ?_ (zero_add _).symm
  refine Finset.sum_congr rfl fun d _ => ?_
  rw [val_main_v31_apply]
  refine congrArg (val_main_v0 (F := Ideal) a) (funext fun k => Fin.ext ?_)
  match k with
  | ⟨0, _⟩ => rfl
  | ⟨1, _⟩ => rfl

theorem cutLoss (a : Vec Ideal S8x1136x128 .f32) :
    shapeCast S_ (extractStridedSlice S1 ![144384] (shapeCast S145408 (sums a) shapeCasts_S1136x128_S145408) slices_S145408_S1_144384) shapeCasts_S1_S_
      = val_main_v36 (F := Ideal) a := by
  funext y
  rw [val_main_v36_apply, val_main_cst_10_apply]
  refine (shapeCast_apply _ _ y (ix1 (0 : Fin 1)) (by rw [Shape.rowMajor_val_one]; exact (Nat.lt_one_iff.mp (S_.rowMajor y).isLt).symm)).trans ?_
  refine (piece_apply 1 144384 a _ _ (by decide) 0).trans ?_
  refine Eq.trans ?_ (congrArg (· + _) Ideal.ofBits_zero_f32.symm)
  refine Eq.trans ?_ (zero_add _).symm
  refine Eq.trans ?_ (sum_idx1 _).symm
  refine Finset.sum_congr rfl fun d _ => ?_
  rw [val_main_v35_apply, val_main_v34_apply]
  refine congrArg (val_main_v0 (F := Ideal) a) (funext fun k => Fin.ext ?_)
  match k with
  | ⟨0, _⟩ => exact (Nat.div_one d.val).symm
  | ⟨1, _⟩ => rfl

/-! ## The results -/

def resLoss : Vec Ideal S_ .f32 := val_main_v36 (F := Ideal) (m ((c.tc : Thread nD τ).loc main_arg0))
def resNormG : Vec Ideal S2x2048 .f32 := val_main_v3 (F := Ideal) (m ((c.tc : Thread nD τ).loc main_arg0))
def resRetNormG : Vec Ideal S2x512 .f32 := val_main_v6 (F := Ideal) (m ((c.tc : Thread nD τ).loc main_arg0))
def resGlaBaF : Vec Ideal S2x256 .f32 := val_main_v9 (F := Ideal) (m ((c.tc : Thread nD τ).loc main_arg0))
def resGlaBaB : Vec Ideal S2x256 .f32 := val_main_v12 (F := Ideal) (m ((c.tc : Thread nD τ).loc main_arg0))
def resGlaNormG : Vec Ideal S2x512 .f32 := val_main_v15 (F := Ideal) (m ((c.tc : Thread nD τ).loc main_arg0))
def resPoolW : Vec Ideal S2x4x128x128 .f32 := val_main_v18 (F := Ideal) (m ((c.tc : Thread nD τ).loc main_arg0))
def resPoolScale : Vec Ideal S2x512 .f32 := val_main_v21 (F := Ideal) (m ((c.tc : Thread nD τ).loc main_arg0))
def resMlaQNormG : Vec Ideal S2x512 .f32 := val_main_v24 (F := Ideal) (m ((c.tc : Thread nD τ).loc main_arg0))
def resMlaKvNormG : Vec Ideal S2x256 .f32 := val_main_v27 (F := Ideal) (m ((c.tc : Thread nD τ).loc main_arg0))
def resMlaQkNormQ : Vec Ideal S2x192 .f32 := val_main_v30 (F := Ideal) (m ((c.tc : Thread nD τ).loc main_arg0))
def resMlaQkNormK : Vec Ideal S2x192 .f32 := val_main_v33 (F := Ideal) (m ((c.tc : Thread nD τ).loc main_arg0))

set_option maxHeartbeats 4000000 in
theorem valueLoss : Pipeline.afterTail₀ cfgs (dats m) 0 (V0 m) [hostOps1] c main_v14 = resLoss m c := by
  have e : Pipeline.afterTail₀ cfgs (dats m) 0 (V0 m) [hostOps1] c main_v14
      = shapeCast S_ (extractStridedSlice S1 ![144384] (shapeCast S145408 ((dats m 0 c).arrAt 1 cfg0.N) shapeCasts_S1136x128_S145408) slices_S145408_S1_144384) shapeCasts_S1_S_ := by
    unfold Pipeline.afterTail₀
    simp only [hostOps1, List.flatten_cons, List.flatten_nil, List.append_nil]
    rw [← Pipeline.withArrays_arr spec0 (by decide) c (V0 m c) (fun w => (dats m 0 c).arrAt w cfg0.N) 1]
    generalize Pipeline.withArrays spec0 c (V0 m c) (fun w => (dats m 0 c).arrAt w cfg0.N) = σ
    after_results
    rfl
  rw [e, array_eq]
  exact cutLoss _

set_option maxHeartbeats 4000000 in
theorem valueNormG : Pipeline.afterTail₀ cfgs (dats m) 0 (V0 m) [hostOps1] c main_v15 = resNormG m c := by
  have e : Pipeline.afterTail₀ cfgs (dats m) 0 (V0 m) [hostOps1] c main_v15
      = shapeCast S2x2048 (extractStridedSlice S4096 ![0] (shapeCast S145408 ((dats m 0 c).arrAt 1 cfg0.N) shapeCasts_S1136x128_S145408) slices_S145408_S4096_0) shapeCasts_S4096_S2x2048 := by
    unfold Pipeline.afterTail₀
    simp only [hostOps1, List.flatten_cons, List.flatten_nil, List.append_nil]
    rw [← Pipeline.withArrays_arr spec0 (by decide) c (V0 m c) (fun w => (dats m 0 c).arrAt w cfg0.N) 1]
    generalize Pipeline.withArrays spec0 c (V0 m c) (fun w => (dats m 0 c).arrAt w cfg0.N) = σ
    after_results
    rfl
  rw [e, array_eq]
  exact congrArg (fun a => shapeCast S2x2048 a shapeCasts_S4096_S2x2048) (cutNormG _)

set_option maxHeartbeats 4000000 in
theorem valueRetNormG : Pipeline.afterTail₀ cfgs (dats m) 0 (V0 m) [hostOps1] c main_v16 = resRetNormG m c := by
  have e : Pipeline.afterTail₀ cfgs (dats m) 0 (V0 m) [hostOps1] c main_v16
      = shapeCast S2x512 (extractStridedSlice S1024 ![4096] (shapeCast S145408 ((dats m 0 c).arrAt 1 cfg0.N) shapeCasts_S1136x128_S145408) slices_S145408_S1024_4096) shapeCasts_S1024_S2x512 := by
    unfold Pipeline.afterTail₀
    simp only [hostOps1, List.flatten_cons, List.flatten_nil, List.append_nil]
    rw [← Pipeline.withArrays_arr spec0 (by decide) c (V0 m c) (fun w => (dats m 0 c).arrAt w cfg0.N) 1]
    generalize Pipeline.withArrays spec0 c (V0 m c) (fun w => (dats m 0 c).arrAt w cfg0.N) = σ
    after_results
    rfl
  rw [e, array_eq]
  exact congrArg (fun a => shapeCast S2x512 a shapeCasts_S1024_S2x512) (cutRetNormG _)

set_option maxHeartbeats 4000000 in
theorem valueGlaBaF : Pipeline.afterTail₀ cfgs (dats m) 0 (V0 m) [hostOps1] c main_v17 = resGlaBaF m c := by
  have e : Pipeline.afterTail₀ cfgs (dats m) 0 (V0 m) [hostOps1] c main_v17
      = shapeCast S2x256 (extractStridedSlice S512 ![5120] (shapeCast S145408 ((dats m 0 c).arrAt 1 cfg0.N) shapeCasts_S1136x128_S145408) slices_S145408_S512_5120) shapeCasts_S512_S2x256 := by
    unfold Pipeline.afterTail₀
    simp only [hostOps1, List.flatten_cons, List.flatten_nil, List.append_nil]
    rw [← Pipeline.withArrays_arr spec0 (by decide) c (V0 m c) (fun w => (dats m 0 c).arrAt w cfg0.N) 1]
    generalize Pipeline.withArrays spec0 c (V0 m c) (fun w => (dats m 0 c).arrAt w cfg0.N) = σ
    after_results
    rfl
  rw [e, array_eq]
  exact congrArg (fun a => shapeCast S2x256 a shapeCasts_S512_S2x256) (cutGlaBaF _)

set_option maxHeartbeats 4000000 in
theorem valueGlaBaB : Pipeline.afterTail₀ cfgs (dats m) 0 (V0 m) [hostOps1] c main_v18 = resGlaBaB m c := by
  have e : Pipeline.afterTail₀ cfgs (dats m) 0 (V0 m) [hostOps1] c main_v18
      = shapeCast S2x256 (extractStridedSlice S512 ![6144] (shapeCast S145408 ((dats m 0 c).arrAt 1 cfg0.N) shapeCasts_S1136x128_S145408) slices_S145408_S512_6144) shapeCasts_S512_S2x256 := by
    unfold Pipeline.afterTail₀
    simp only [hostOps1, List.flatten_cons, List.flatten_nil, List.append_nil]
    rw [← Pipeline.withArrays_arr spec0 (by decide) c (V0 m c) (fun w => (dats m 0 c).arrAt w cfg0.N) 1]
    generalize Pipeline.withArrays spec0 c (V0 m c) (fun w => (dats m 0 c).arrAt w cfg0.N) = σ
    after_results
    rfl
  rw [e, array_eq]
  exact congrArg (fun a => shapeCast S2x256 a shapeCasts_S512_S2x256) (cutGlaBaB _)

set_option maxHeartbeats 4000000 in
theorem valueGlaNormG : Pipeline.afterTail₀ cfgs (dats m) 0 (V0 m) [hostOps1] c main_v19 = resGlaNormG m c := by
  have e : Pipeline.afterTail₀ cfgs (dats m) 0 (V0 m) [hostOps1] c main_v19
      = shapeCast S2x512 (extractStridedSlice S1024 ![7168] (shapeCast S145408 ((dats m 0 c).arrAt 1 cfg0.N) shapeCasts_S1136x128_S145408) slices_S145408_S1024_7168) shapeCasts_S1024_S2x512 := by
    unfold Pipeline.afterTail₀
    simp only [hostOps1, List.flatten_cons, List.flatten_nil, List.append_nil]
    rw [← Pipeline.withArrays_arr spec0 (by decide) c (V0 m c) (fun w => (dats m 0 c).arrAt w cfg0.N) 1]
    generalize Pipeline.withArrays spec0 c (V0 m c) (fun w => (dats m 0 c).arrAt w cfg0.N) = σ
    after_results
    rfl
  rw [e, array_eq]
  exact congrArg (fun a => shapeCast S2x512 a shapeCasts_S1024_S2x512) (cutGlaNormG _)

set_option maxHeartbeats 4000000 in
theorem valuePoolW : Pipeline.afterTail₀ cfgs (dats m) 0 (V0 m) [hostOps1] c main_v20 = resPoolW m c := by
  have e : Pipeline.afterTail₀ cfgs (dats m) 0 (V0 m) [hostOps1] c main_v20
      = shapeCast S2x4x128x128 (extractStridedSlice S131072 ![8192] (shapeCast S145408 ((dats m 0 c).arrAt 1 cfg0.N) shapeCasts_S1136x128_S145408) slices_S145408_S131072_8192) shapeCasts_S131072_S2x4x128x128 := by
    unfold Pipeline.afterTail₀
    simp only [hostOps1, List.flatten_cons, List.flatten_nil, List.append_nil]
    rw [← Pipeline.withArrays_arr spec0 (by decide) c (V0 m c) (fun w => (dats m 0 c).arrAt w cfg0.N) 1]
    generalize Pipeline.withArrays spec0 c (V0 m c) (fun w => (dats m 0 c).arrAt w cfg0.N) = σ
    after_results
    rfl
  rw [e, array_eq]
  exact congrArg (fun a => shapeCast S2x4x128x128 a shapeCasts_S131072_S2x4x128x128) (cutPoolW _)

set_option maxHeartbeats 4000000 in
theorem valuePoolScale : Pipeline.afterTail₀ cfgs (dats m) 0 (V0 m) [hostOps1] c main_v21 = resPoolScale m c := by
  have e : Pipeline.afterTail₀ cfgs (dats m) 0 (V0 m) [hostOps1] c main_v21
      = shapeCast S2x512 (extractStridedSlice S1024 ![139264] (shapeCast S145408 ((dats m 0 c).arrAt 1 cfg0.N) shapeCasts_S1136x128_S145408) slices_S145408_S1024_139264) shapeCasts_S1024_S2x512 := by
    unfold Pipeline.afterTail₀
    simp only [hostOps1, List.flatten_cons, List.flatten_nil, List.append_nil]
    rw [← Pipeline.withArrays_arr spec0 (by decide) c (V0 m c) (fun w => (dats m 0 c).arrAt w cfg0.N) 1]
    generalize Pipeline.withArrays spec0 c (V0 m c) (fun w => (dats m 0 c).arrAt w cfg0.N) = σ
    after_results
    rfl
  rw [e, array_eq]
  exact congrArg (fun a => shapeCast S2x512 a shapeCasts_S1024_S2x512) (cutPoolScale _)

set_option maxHeartbeats 4000000 in
theorem valueMlaQNormG : Pipeline.afterTail₀ cfgs (dats m) 0 (V0 m) [hostOps1] c main_v22 = resMlaQNormG m c := by
  have e : Pipeline.afterTail₀ cfgs (dats m) 0 (V0 m) [hostOps1] c main_v22
      = shapeCast S2x512 (extractStridedSlice S1024 ![140288] (shapeCast S145408 ((dats m 0 c).arrAt 1 cfg0.N) shapeCasts_S1136x128_S145408) slices_S145408_S1024_140288) shapeCasts_S1024_S2x512 := by
    unfold Pipeline.afterTail₀
    simp only [hostOps1, List.flatten_cons, List.flatten_nil, List.append_nil]
    rw [← Pipeline.withArrays_arr spec0 (by decide) c (V0 m c) (fun w => (dats m 0 c).arrAt w cfg0.N) 1]
    generalize Pipeline.withArrays spec0 c (V0 m c) (fun w => (dats m 0 c).arrAt w cfg0.N) = σ
    after_results
    rfl
  rw [e, array_eq]
  exact congrArg (fun a => shapeCast S2x512 a shapeCasts_S1024_S2x512) (cutMlaQNormG _)

set_option maxHeartbeats 4000000 in
theorem valueMlaKvNormG : Pipeline.afterTail₀ cfgs (dats m) 0 (V0 m) [hostOps1] c main_v23 = resMlaKvNormG m c := by
  have e : Pipeline.afterTail₀ cfgs (dats m) 0 (V0 m) [hostOps1] c main_v23
      = shapeCast S2x256 (extractStridedSlice S512 ![141312] (shapeCast S145408 ((dats m 0 c).arrAt 1 cfg0.N) shapeCasts_S1136x128_S145408) slices_S145408_S512_141312) shapeCasts_S512_S2x256 := by
    unfold Pipeline.afterTail₀
    simp only [hostOps1, List.flatten_cons, List.flatten_nil, List.append_nil]
    rw [← Pipeline.withArrays_arr spec0 (by decide) c (V0 m c) (fun w => (dats m 0 c).arrAt w cfg0.N) 1]
    generalize Pipeline.withArrays spec0 c (V0 m c) (fun w => (dats m 0 c).arrAt w cfg0.N) = σ
    after_results
    rfl
  rw [e, array_eq]
  exact congrArg (fun a => shapeCast S2x256 a shapeCasts_S512_S2x256) (cutMlaKvNormG _)

set_option maxHeartbeats 4000000 in
theorem valueMlaQkNormQ : Pipeline.afterTail₀ cfgs (dats m) 0 (V0 m) [hostOps1] c main_v24 = resMlaQkNormQ m c := by
  have e : Pipeline.afterTail₀ cfgs (dats m) 0 (V0 m) [hostOps1] c main_v24
      = shapeCast S2x192 (extractStridedSlice S384 ![142336] (shapeCast S145408 ((dats m 0 c).arrAt 1 cfg0.N) shapeCasts_S1136x128_S145408) slices_S145408_S384_142336) shapeCasts_S384_S2x192 := by
    unfold Pipeline.afterTail₀
    simp only [hostOps1, List.flatten_cons, List.flatten_nil, List.append_nil]
    rw [← Pipeline.withArrays_arr spec0 (by decide) c (V0 m c) (fun w => (dats m 0 c).arrAt w cfg0.N) 1]
    generalize Pipeline.withArrays spec0 c (V0 m c) (fun w => (dats m 0 c).arrAt w cfg0.N) = σ
    after_results
    rfl
  rw [e, array_eq]
  exact congrArg (fun a => shapeCast S2x192 a shapeCasts_S384_S2x192) (cutMlaQkNormQ _)

set_option maxHeartbeats 4000000 in
theorem valueMlaQkNormK : Pipeline.afterTail₀ cfgs (dats m) 0 (V0 m) [hostOps1] c main_v25 = resMlaQkNormK m c := by
  have e : Pipeline.afterTail₀ cfgs (dats m) 0 (V0 m) [hostOps1] c main_v25
      = shapeCast S2x192 (extractStridedSlice S384 ![143360] (shapeCast S145408 ((dats m 0 c).arrAt 1 cfg0.N) shapeCasts_S1136x128_S145408) slices_S145408_S384_143360) shapeCasts_S384_S2x192 := by
    unfold Pipeline.afterTail₀
    simp only [hostOps1, List.flatten_cons, List.flatten_nil, List.append_nil]
    rw [← Pipeline.withArrays_arr spec0 (by decide) c (V0 m c) (fun w => (dats m 0 c).arrAt w cfg0.N) 1]
    generalize Pipeline.withArrays spec0 c (V0 m c) (fun w => (dats m 0 c).arrAt w cfg0.N) = σ
    after_results
    rfl
  rw [e, array_eq]
  exact congrArg (fun a => shapeCast S2x192 a shapeCasts_S384_S2x192) (cutMlaQkNormK _)

/-- Every run of the program ends with the reference's results and the argument as it was. -/
theorem run (ρ : Dev nD → PrngReg) : θ_run (defs (F := Ideal)) (onTc (τ := τ) (main (F := Ideal))) ⟨m, fun _ => 0, ρ⟩ fun r => ∀ c : Dev nD,
      r.2.mem ((c.tc : Thread nD τ).loc main_v14) = resLoss m c
      ∧ r.2.mem ((c.tc : Thread nD τ).loc main_v15) = resNormG m c
      ∧ r.2.mem ((c.tc : Thread nD τ).loc main_v16) = resRetNormG m c
      ∧ r.2.mem ((c.tc : Thread nD τ).loc main_v17) = resGlaBaF m c
      ∧ r.2.mem ((c.tc : Thread nD τ).loc main_v18) = resGlaBaB m c
      ∧ r.2.mem ((c.tc : Thread nD τ).loc main_v19) = resGlaNormG m c
      ∧ r.2.mem ((c.tc : Thread nD τ).loc main_v20) = resPoolW m c
      ∧ r.2.mem ((c.tc : Thread nD τ).loc main_v21) = resPoolScale m c
      ∧ r.2.mem ((c.tc : Thread nD τ).loc main_v22) = resMlaQNormG m c
      ∧ r.2.mem ((c.tc : Thread nD τ).loc main_v23) = resMlaKvNormG m c
      ∧ r.2.mem ((c.tc : Thread nD τ).loc main_v24) = resMlaQkNormQ m c
      ∧ r.2.mem ((c.tc : Thread nD τ).loc main_v25) = resMlaQkNormK m c
      ∧ r.2.mem ((c.tc : Thread nD τ).loc main_arg0) = m ((c.tc : Thread nD τ).loc main_arg0) := by
  refine (θ_run defs _ _).mono (fun r h c => ?_) (run_main m ρ)
  exact ⟨((h c).2 main_v14 (Pipeline.mem_restRefs_of main_v14 (by decide) (by decide))).trans (valueLoss m c),
    ((h c).2 main_v15 (Pipeline.mem_restRefs_of main_v15 (by decide) (by decide))).trans (valueNormG m c),
    ((h c).2 main_v16 (Pipeline.mem_restRefs_of main_v16 (by decide) (by decide))).trans (valueRetNormG m c),
    ((h c).2 main_v17 (Pipeline.mem_restRefs_of main_v17 (by decide) (by decide))).trans (valueGlaBaF m c),
    ((h c).2 main_v18 (Pipeline.mem_restRefs_of main_v18 (by decide) (by decide))).trans (valueGlaBaB m c),
    ((h c).2 main_v19 (Pipeline.mem_restRefs_of main_v19 (by decide) (by decide))).trans (valueGlaNormG m c),
    ((h c).2 main_v20 (Pipeline.mem_restRefs_of main_v20 (by decide) (by decide))).trans (valuePoolW m c),
    ((h c).2 main_v21 (Pipeline.mem_restRefs_of main_v21 (by decide) (by decide))).trans (valuePoolScale m c),
    ((h c).2 main_v22 (Pipeline.mem_restRefs_of main_v22 (by decide) (by decide))).trans (valueMlaQNormG m c),
    ((h c).2 main_v23 (Pipeline.mem_restRefs_of main_v23 (by decide) (by decide))).trans (valueMlaKvNormG m c),
    ((h c).2 main_v24 (Pipeline.mem_restRefs_of main_v24 (by decide) (by decide))).trans (valueMlaQkNormQ m c),
    ((h c).2 main_v25 (Pipeline.mem_restRefs_of main_v25 (by decide) (by decide))).trans (valueMlaQkNormK m c),
    ((h c).1 0).trans (((dats m 0 c).arrAt_in 0 rfl _).trans (A_eq m c 0))⟩

end Cert.SumSmallIdeal.Proj

end
-- ==== Proof.Proj.AttnRow.lean ====
/-
  A row's softmax, taken a tile of keys at a time: the largest score so far, the sum of the exponentials shifted by it, and the weighted
  sum of the values, rescaled from tile to tile.
-/
module

public import proofs.«01_k».proof.Proof.Proj.OutLoss
public import proofs.«01_k».proof.Proof.Attn.Equation

@[expose] public section

noncomputable section

namespace Cert.AttnFwdIdeal.Row

open Idealize.ShloMosaic
open Cert.OutLossIdeal.Proj (mul_sum_real)

/-- The scores of a row by key tile. -/
abbrev Scores := ℕ → Fin 1024 → EReal

/-- A tile's largest score. -/
def tileTop (f : Fin 1024 → EReal) : EReal := Finset.univ.fold max ⊥ f

/-- The largest score of the first `n` tiles. -/
def topOf (s : Scores) : ℕ → EReal
  | 0 => ⊥
  | n + 1 => max (topOf s n) (tileTop (s n))

/-- The sum over the first `n` tiles of the exponentials shifted by `T`, each times its weight. -/
def massOf (s w : Scores) (T : EReal) (n : ℕ) : EReal := ∑ j ∈ Finset.range n, ∑ r : Fin 1024, Ideal.exp (s j r - T) * w j r

theorem massOf_succ (s w : Scores) (T : EReal) (n : ℕ) :
    massOf s w T (n + 1) = massOf s w T n + ∑ r : Fin 1024, Ideal.exp (s n r - T) * w n r := Finset.sum_range_succ _ _

theorem tileTop_real {f : Fin 1024 → EReal} (hf : ∀ r, ∃ x : ℝ, f r = x) : ∃ x : ℝ, tileTop f = x := by
  obtain ⟨k, -, hk⟩ := Finset.exists_mem_eq_sup (Finset.univ : Finset (Fin 1024)) ⟨0, Finset.mem_univ _⟩ f
  obtain ⟨x, hx⟩ := hf k
  exact ⟨x, Eq.trans hk hx⟩

theorem topOf_le (s : Scores) (x : EReal) : ∀ n, topOf s n ≤ x ↔ ∀ j < n, ∀ r, s j r ≤ x
  | 0 => by simp [topOf]
  | n + 1 => by
    rw [topOf, max_le_iff, topOf_le s x n, tileTop, Finset.fold_max_le]
    constructor
    · rintro ⟨h, -, h'⟩ j hj r
      rcases Nat.lt_succ_iff_lt_or_eq.mp hj with hj | rfl
      · exact h j hj r
      · exact h' r (Finset.mem_univ r)
    · exact fun h => ⟨fun j hj r => h j (hj.trans n.lt_succ_self) r, bot_le, fun r _ => h n n.lt_succ_self r⟩

/-- Key `r` of tile `j`. -/
def keyAt (j : ℕ) (r : Fin 1024) : Fin 4096 := ⟨(1024 * j + r.val) % 4096, Nat.mod_lt _ (by decide)⟩

/-- After the four tiles: the row's largest score. -/
theorem topOf_all (f : Fin 4096 → EReal) : topOf (fun j r => f (keyAt j r)) 4 = Finset.univ.fold max ⊥ f := by
  refine eq_of_forall_ge_iff fun x => ?_
  rw [topOf_le, Finset.fold_max_le]
  constructor
  · refine fun h => ⟨bot_le, fun k _ => ?_⟩
    have := h (k.val / 1024) (by omega) ⟨k.val % 1024, by omega⟩
    rwa [show keyAt (k.val / 1024) ⟨k.val % 1024, by omega⟩ = k from Fin.ext (by unfold keyAt; dsimp only; omega)] at this
  · exact fun h j _ r => h.2 _ (Finset.mem_univ _)

/-- And its weighted sum. -/
theorem massOf_all (f g : Fin 4096 → EReal) (T : EReal) :
    massOf (fun j r => f (keyAt j r)) (fun j r => g (keyAt j r)) T 4 = ∑ k : Fin 4096, Ideal.exp (f k - T) * g k := by
  unfold massOf
  rw [Finset.sum_range, Fin.sum_univ_tiles (N := 4096) 4 1024 (by decide)]
  refine Finset.sum_congr rfl fun j _ => Finset.sum_congr rfl fun r _ => ?_
  have e : keyAt j.val r = ⟨j.val * 1024 + r.val, by omega⟩ := Fin.ext (by unfold keyAt; dsimp only; omega)
  dsimp only
  rw [e]

/-- The quotient of the sum is the sum of the quotients, by a positive real. -/
theorem quotient (p v : Fin 4096 → EReal) {L : ℝ} (hL : 0 < L) :
    Ideal.div (∑ k, p k * v k) (L : EReal) = ∑ k, v k * Ideal.div (p k) (L : EReal) := by
  simp only [Ideal.div_coe hL.ne']
  rw [mul_comm, mul_sum_real _ _ (by positivity)]
  exact Finset.sum_congr rfl fun k _ => by rw [mul_comm, mul_comm (p k), mul_assoc]

variable {s : Scores} (hs : ∀ n r, ∃ x : ℝ, s n r = x) (w : Scores)
include hs

theorem topOf_real : ∀ n, ∃ x : ℝ, topOf s (n + 1) = x
  | 0 => by
    obtain ⟨x, hx⟩ := tileTop_real (hs 0)
    exact ⟨x, (max_eq_right bot_le).trans hx⟩
  | n + 1 => by
    obtain ⟨x, hx⟩ := topOf_real n
    obtain ⟨y, hy⟩ := tileTop_real (hs (n + 1))
    rw [topOf, hx, hy]
    rcases max_choice (x : EReal) (y : EReal) with h | h
    · exact ⟨x, h⟩
    · exact ⟨y, h⟩

/-- Rescaling the sum to the next tile's largest score. -/
theorem rescale (n : ℕ) : Ideal.exp (topOf s n - topOf s (n + 1)) * massOf s w (topOf s n) n = massOf s w (topOf s (n + 1)) n := by
  cases n with
  | zero => simp [massOf]
  | succ n =>
    obtain ⟨x, hx⟩ := topOf_real hs n
    obtain ⟨y, hy⟩ := topOf_real hs (n + 1)
    rw [hx, hy, ← EReal.coe_sub, Ideal.exp_coe]
    unfold massOf
    rw [mul_sum_real _ _ (Real.exp_pos _).le]
    refine Finset.sum_congr rfl fun j _ => ?_
    rw [mul_sum_real _ _ (Real.exp_pos _).le]
    refine Finset.sum_congr rfl fun r _ => ?_
    obtain ⟨z, hz⟩ := hs j r
    rw [hz, ← EReal.coe_sub, ← EReal.coe_sub, Ideal.exp_coe, Ideal.exp_coe, ← mul_assoc, ← EReal.coe_mul, ← Real.exp_add]
    rw [show x - y + (z - x) = z - y by ring]

/-- A tile's step. -/
theorem step (n : ℕ) : Ideal.exp (topOf s n - topOf s (n + 1)) * massOf s w (topOf s n) n
    + ∑ r : Fin 1024, Ideal.exp (s n r - topOf s (n + 1)) * w n r = massOf s w (topOf s (n + 1)) (n + 1) := by
  rw [rescale hs, massOf_succ]

end Cert.AttnFwdIdeal.Row

end
-- ==== Proof.Proj.AttnPoint.lean ====
/-
  A point of the attention's forward pass: what it leaves in the three arrays it carries, and in the two outputs.
-/
module

public import proofs.«01_k».proof.Proof.Proj.AttnRow
public import proofs.«01_k».proof.Proof.Gen.AttnFwdIdeal.Frame

@[expose] public section

set_option maxRecDepth 16384

noncomputable section

namespace Cert.AttnFwdIdeal.Proj

open Idealize.ShloMosaic Idealize.ShloMosaic.TcCoe Idealize.SL.Sem
open Cert.AttnFwdIdeal Cert.AttnFwdIdeal.Gen Cert.AttnFwdIdeal.Row
open Cert.KernelIdeal.Attn (row colQ colV)
open Cert.ReferenceIdeal.Attn (score top expo mass word_bot)

/-! ## A tile -/

section Tile

variable (x0 x1 : Vec Ideal S1024x256 .bf16) (x2 : Vec Ideal S1024x128 .bf16) (a l o : Vec Ideal S1024x128 .f32)

/-- A tile's scores. -/
def tscore (q k : Fin 1024) : EReal := ∑ d : Fin 256, x0 (ix2 q d) * x1 (ix2 k d)

theorem pay8_apply (q k : Fin 1024) : k0_pay8 x0 x1 (ix2 q k) = tscore x0 x1 q k := by
  unfold tscore
  pointwise [k0_pay8]

theorem pay9_apply (q : Fin 1024) (e : Fin 128) : k0_pay9 x0 x1 a (ix2 q e) = max (a (ix2 q e)) (tileTop (tscore x0 x1 q)) := by
  unfold tileTop
  pointwise [k0_pay9, pay8_apply]
  rw [word_bot]

theorem pay10_apply (q k : Fin 1024) : k0_pay10 x0 x1 a (ix2 q k) = Ideal.exp (tscore x0 x1 q k - k0_pay9 x0 x1 a (ix2 q 0)) := by
  pointwise [k0_pay10, pay8_apply]

theorem pay11_apply (q : Fin 1024) (e : Fin 128) : k0_pay11 x0 x1 a (ix2 q e) = Ideal.exp (a (ix2 q e) - k0_pay9 x0 x1 a (ix2 q e)) := by
  pointwise [k0_pay11]

theorem pay12_apply (q : Fin 1024) (e : Fin 128) : k0_pay12 x0 x1 a l (ix2 q e)
    = k0_pay11 x0 x1 a (ix2 q e) * l (ix2 q e) + ∑ k : Fin 1024, k0_pay10 x0 x1 a (ix2 q k) := by
  pointwise [k0_pay12]

theorem pay13_apply (q : Fin 1024) (e : Fin 128) : k0_pay13 x0 x1 a o x2 (ix2 q e)
    = k0_pay11 x0 x1 a (ix2 q e) * o (ix2 q e) + ∑ k : Fin 1024, k0_pay10 x0 x1 a (ix2 q k) * x2 (ix2 k e) := by
  pointwise [k0_pay13]

end Tile

section Point

variable (c : Dev nD) (i : grid0.Coords) (arg3 : Memref sig .tc .vmem S1024x256 .bf16) (harg3 : arg3.IsWhole)
    (arg4 : Memref sig .tc .vmem S1024x256 .bf16) (harg4 : arg4.IsWhole)
    (arg5 : Memref sig .tc .vmem S1024x128 .bf16) (harg5 : arg5.IsWhole)
    (arg6 : Memref sig .tc .vmem S1024x128 .f32) (harg6 : arg6.IsWhole)
    (arg7 : Memref sig .tc .vmem S1024x128 .f32) (harg7 : arg7.IsWhole)
    (arg8 : Memref sig .tc .vmem S1024x128 .f32) (harg8 : arg8.IsWhole)
    (arg9 : Memref sig .tc .vmem S1024x128 .f32) (harg9 : arg9.IsWhole)
    (arg10 : Memref sig .tc .vmem S1024x128 .f32) (harg10 : arg10.IsWhole)
    (x0 x1 : Vec Ideal S1024x256 .bf16) (x2 : Vec Ideal S1024x128 .bf16) (a l o : Vec Ideal S1024x128 .f32)

theorem first_top (hc0 : cond0_0 i) (hc1 : ¬cond0_1 i) : sout0_A_0 c i arg3 harg3 arg4 harg4 arg5 harg5 arg6 harg6 arg7 harg7 arg8 harg8 arg9 harg9 arg10 harg10 hc0 hc1 x0 x1 x2
    = k0_pay2 (k0_pay9 x0 x1 (k0_pay5 (F := Ideal))) := by
  frame_out
theorem first_mass (hc0 : cond0_0 i) (hc1 : ¬cond0_1 i) : sout0_A_1 c i arg3 harg3 arg4 harg4 arg5 harg5 arg6 harg6 arg7 harg7 arg8 harg8 arg9 harg9 arg10 harg10 hc0 hc1 x0 x1 x2
    = k0_pay12 x0 x1 (k0_pay5 (F := Ideal)) (k0_pay6 (F := Ideal)) := by
  frame_out
theorem first_sum (hc0 : cond0_0 i) (hc1 : ¬cond0_1 i) : sout0_A_2 c i arg3 harg3 arg4 harg4 arg5 harg5 arg6 harg6 arg7 harg7 arg8 harg8 arg9 harg9 arg10 harg10 hc0 hc1 x0 x1 x2
    = k0_pay1 (k0_pay13 x0 x1 (k0_pay5 (F := Ideal)) (k0_pay7 (F := Ideal)) x2) := by
  frame_out
theorem next_top (hc0 : ¬cond0_0 i) (hc1 : ¬cond0_1 i) : sout0_B_0 c i arg3 harg3 arg4 harg4 arg5 harg5 arg6 harg6 arg7 harg7 arg8 harg8 arg9 harg9 arg10 harg10 hc0 hc1 x0 x1 x2 a l o
    = k0_pay2 (k0_pay9 x0 x1 a) := by
  frame_out
theorem next_mass (hc0 : ¬cond0_0 i) (hc1 : ¬cond0_1 i) : sout0_B_1 c i arg3 harg3 arg4 harg4 arg5 harg5 arg6 harg6 arg7 harg7 arg8 harg8 arg9 harg9 arg10 harg10 hc0 hc1 x0 x1 x2 a l o
    = k0_pay12 x0 x1 a l := by
  frame_out
theorem next_sum (hc0 : ¬cond0_0 i) (hc1 : ¬cond0_1 i) : sout0_B_2 c i arg3 harg3 arg4 harg4 arg5 harg5 arg6 harg6 arg7 harg7 arg8 harg8 arg9 harg9 arg10 harg10 hc0 hc1 x0 x1 x2 a l o
    = k0_pay1 (k0_pay13 x0 x1 a o x2) := by
  frame_out
theorem last_out (hc0 : ¬cond0_0 i) (hc1 : cond0_1 i) : out0_C_3 c i arg3 harg3 arg4 harg4 arg5 harg5 arg6 harg6 arg7 harg7 arg8 harg8 arg9 harg9 arg10 harg10 hc0 hc1 x0 x1 x2 a l o
    = k0_pay3 (k0_pay1 (k0_pay13 x0 x1 a o x2)) (k0_pay12 x0 x1 a l) := by
  frame_out
theorem last_lse (hc0 : ¬cond0_0 i) (hc1 : cond0_1 i) : out0_C_4 c i arg3 harg3 arg4 harg4 arg5 harg5 arg6 harg6 arg7 harg7 arg8 harg8 arg9 harg9 arg10 harg10 hc0 hc1 x0 x1 x2 a l o
    = k0_pay4 (k0_pay2 (k0_pay9 x0 x1 a)) (k0_pay12 x0 x1 a l) := by
  frame_out

end Point

end Cert.AttnFwdIdeal.Proj

end
-- ==== Proof.Proj.AttnFwd.lean ====
/-
  The attention's forward pass: a row's softmax, taken a tile of keys at a time, ends as the softmax of the whole row, and its saved
  log-sum as the row's.
-/
module

public import proofs.«01_k».proof.Proof.Proj.AttnPoint
public import proofs.«01_k».proof.Proof.Attn.Final
public import proofs.«01_k».proof.Proof.Gen.AttnFwdIdeal.Value
public import proofs.«01_k».proof.Proof.Gen.AttnFwdReferenceIdeal.Read

@[expose] public section

set_option maxRecDepth 16384

noncomputable section

namespace Cert.AttnFwdIdeal.Proj

open Idealize.ShloMosaic Idealize.ShloMosaic.TcCoe Idealize.SL.Sem
open Cert.AttnFwdIdeal Cert.AttnFwdIdeal.Gen Cert.AttnFwdIdeal.Row
open Cert.KernelIdeal.Attn (row colQ colV hScore hTop hLse hSpread hScore_apply hTop_apply hLse_apply hSpread_apply ext_V lift lift_of_real
  real_of_abs score_real top_real mass_real total_pos total rScore)
open Cert.ReferenceIdeal.Attn (score top expo mass word_bot v37_apply)

/-! ## A tile's step -/

/-- What the three carried arrays hold after `n` key tiles: each row's largest score, its sum and its weighted sums. -/
structure Holds (S : Fin 1024 → Scores) (W : Fin 128 → Scores) (n : ℕ) (a l o : Vec Ideal S1024x128 .f32) : Prop where
  top : ∀ q e, a (ix2 q e) = topOf (S q) n
  mass : ∀ q e, l (ix2 q e) = massOf (S q) (fun _ _ => 1) (topOf (S q) n) n
  sum : ∀ q e, o (ix2 q e) = massOf (S q) (W e) (topOf (S q) n) n

theorem Holds.zero (S : Fin 1024 → Scores) (W : Fin 128 → Scores) : Holds S W 0 (k0_pay5 (F := Ideal)) (k0_pay6 (F := Ideal)) (k0_pay7 (F := Ideal)) where
  top q e := by
    pointwise [k0_pay5, shapeCast_self]
    exact word_bot
  mass q e := by
    pointwise [k0_pay6, shapeCast_self]
    rfl
  sum q e := by
    pointwise [k0_pay7, shapeCast_self]
    rfl

theorem Holds.step {S : Fin 1024 → Scores} {W : Fin 128 → Scores} {n : ℕ} {a l o : Vec Ideal S1024x128 .f32}
    (hS : ∀ q n r, ∃ x : ℝ, S q n r = x) {x0 x1 : Vec Ideal S1024x256 .bf16} {x2 : Vec Ideal S1024x128 .bf16}
    (h0 : ∀ q, tscore x0 x1 q = S q n) (h2 : ∀ k e, x2 (ix2 k e) = W e n k) (H : Holds S W n a l o) :
    Holds S W (n + 1) (k0_pay2 (k0_pay9 x0 x1 a)) (k0_pay12 x0 x1 a l) (k0_pay1 (k0_pay13 x0 x1 a o x2)) := by
  have t : ∀ q e, k0_pay9 x0 x1 a (ix2 q e) = topOf (S q) (n + 1) := fun q e => by rw [pay9_apply, H.top, h0]; rfl
  refine ⟨fun q e => ?_, fun q e => ?_, fun q e => ?_⟩
  · unfold k0_pay2
    rw [shapeCast_self]
    exact t q e
  · rw [pay12_apply, pay11_apply, H.top, H.mass, t, ← Row.step (hS q)]
    simp only [pay10_apply, h0, t, mul_one]
  · unfold k0_pay1
    rw [shapeCast_self, pay13_apply, pay11_apply, H.top, H.sum, t, ← Row.step (hS q)]
    simp only [pay10_apply, h0, t, h2]

/-! ## The points -/

variable (m : (ℓ : Loc nD τ sig) → Buf (Elt Ideal) ℓ) (c : Dev nD)

/-- The point of head `h`, query tile `i` and key tile `j`. -/
def pt (h i : Fin 4) (j : ℕ) (hj : j < 4) : Fin cfg0.N := ⟨16 * h.val + 4 * i.val + j, by have : cfg0.N = 64 := N_0; omega⟩

theorem pt_mod (h i : Fin 4) (j : ℕ) (hj : j < 4) : (pt h i j hj).val % 4 = j := by unfold pt; dsimp only; omega

theorem index_eq (t : Fin cfg0.N) : win0_0.index t = ![t.val / 4 % 4, t.val / 16] ∧ win0_1.index t = ![t.val % 4, t.val / 16]
    ∧ win0_2.index t = ![t.val % 4, t.val / 16] ∧ win0_3.index t = ![t.val / 4 % 4, t.val / 16]
    ∧ win0_4.index t = ![t.val / 4 % 4, t.val / 16] := by
  revert t; decide +kernel

/-- The scores of a row of a head. -/
def S_ (h : Fin 4) (q : Fin 4096) (k : Fin 4096) : EReal :=
  score (m ((c.tc : Thread nD τ).loc main_arg0)) (m ((c.tc : Thread nD τ).loc main_arg1)) h q k
/-- A column of a head's values. -/
def W_ (h : Fin 4) (e : Fin 128) (k : Fin 4096) : EReal := m ((c.tc : Thread nD τ).loc main_arg2) (ix2 k (colV h e))
/-- The row's largest score. -/
def T_ (h : Fin 4) (q : Fin 4096) : EReal := Finset.univ.fold max ⊥ (S_ m c h q)

section Blocks

variable (h i : Fin 4) (j : ℕ) (hj : j < 4)

theorem blk_q (r : Fin 1024) (d : Fin 256) : iblk m c 0 (pt h i j hj) (ix2 r d) = m ((c.tc : Thread nD τ).loc main_arg0) (ix2 (row i r) (colQ h d)) := by
  have e := (index_eq (pt h i j hj)).1
  unfold iblk V pt row colQ at *
  blk_ext [e]
theorem blk_k (r : Fin 1024) (d : Fin 256) : iblk m c 1 (pt h i j hj) (ix2 r d) = m ((c.tc : Thread nD τ).loc main_arg1) (ix2 (keyAt j r) (colQ h d)) := by
  have e := (index_eq (pt h i j hj)).2.1
  unfold iblk V pt keyAt colQ at *
  blk_ext [e]
theorem blk_v (r : Fin 1024) (d : Fin 128) : iblk m c 2 (pt h i j hj) (ix2 r d) = W_ m c h d (keyAt j r) := by
  have e := (index_eq (pt h i j hj)).2.2.1
  unfold W_ iblk V pt keyAt colV at *
  blk_ext [e]

theorem tscore_pt (q : Fin 1024) : tscore (iblk m c 0 (pt h i j hj)) (iblk m c 1 (pt h i j hj)) q = fun r => S_ m c h (row i q) (keyAt j r) := by
  funext r
  unfold tscore S_ score
  simp only [blk_q, blk_k]

end Blocks

variable (hS : ∀ h q k, ∃ x : ℝ, S_ m c h q k = x)
include hS

/-- A point's step. -/
theorem next (h i : Fin 4) (j : ℕ) (hj : j < 4) {a l o : Vec Ideal S1024x128 .f32}
    (H : Holds (fun q j r => S_ m c h (row i q) (keyAt j r)) (fun e j r => W_ m c h e (keyAt j r)) j a l o) :
    Holds (fun q j r => S_ m c h (row i q) (keyAt j r)) (fun e j r => W_ m c h e (keyAt j r)) (j + 1)
      (k0_pay2 (k0_pay9 (iblk m c 0 (pt h i j hj)) (iblk m c 1 (pt h i j hj)) a)) (k0_pay12 (iblk m c 0 (pt h i j hj)) (iblk m c 1 (pt h i j hj)) a l)
      (k0_pay1 (k0_pay13 (iblk m c 0 (pt h i j hj)) (iblk m c 1 (pt h i j hj)) a o (iblk m c 2 (pt h i j hj)))) :=
  H.step (fun q n r => hS h (row i q) (keyAt n r)) (fun q => tscore_pt m c h i j hj q) fun k e => blk_v m c h i j hj k e

/-- After each key tile but the last. -/
theorem state (h i : Fin 4) : ∀ (j : ℕ) (hj : j < 3), Holds (fun q j r => S_ m c h (row i q) (keyAt j r)) (fun e j r => W_ m c h e (keyAt j r)) (j + 1)
    (outsAt0 m c (pt h i j (by omega)).val (pt h i j (by omega)).isLt).2.2.1 (outsAt0 m c (pt h i j (by omega)).val (pt h i j (by omega)).isLt).2.2.2.1
    (outsAt0 m c (pt h i j (by omega)).val (pt h i j (by omega)).isLt).2.2.2.2
  | 0, _ => by
    rw [outsAt0_A m c (pt h i 0 (by omega)) (by rw [pt_mod]) (by rw [pt_mod]; omega)]
    dsimp only
    rw [first_top, first_mass, first_sum]
    exact next m c hS h i 0 (by omega) (Holds.zero _ _)
  | j + 1, hj => by
    have H := state h i j (by omega)
    rw [outsAt0_B m c (pt h i (j + 1) (by omega)) (by rw [pt_mod]; omega) (by rw [pt_mod]; omega)]
    dsimp only
    rw [next_top, next_mass, next_sum]
    exact next m c hS h i (j + 1) (by omega) H

/-- The outputs at the last key tile. -/
theorem last (h i : Fin 4) (q : Fin 1024) (e : Fin 128) :
    (outsAt0 m c (pt h i 3 (by omega)).val (pt h i 3 (by omega)).isLt).1 (ix2 q e)
        = Ideal.div (∑ k, Ideal.exp (S_ m c h (row i q) k - T_ m c h (row i q)) * W_ m c h e k)
            (∑ k, Ideal.exp (S_ m c h (row i q) k - T_ m c h (row i q)))
      ∧ (outsAt0 m c (pt h i 3 (by omega)).val (pt h i 3 (by omega)).isLt).2.1 (ix2 q e)
        = T_ m c h (row i q) + Ideal.log (∑ k, Ideal.exp (S_ m c h (row i q) k - T_ m c h (row i q))) := by
  have H := next m c hS h i 3 (by omega) (state m c hS h i 2 (by omega))
  have e0 := topOf_all (S_ m c h (row i q))
  have ht := (H.top q e).trans e0
  have hm := (H.mass q e).trans ((congrArg (fun T => massOf _ _ T 4) e0).trans (massOf_all (S_ m c h (row i q)) (fun _ => 1) _))
  have hs := (H.sum q e).trans ((congrArg (fun T => massOf _ _ T 4) e0).trans (massOf_all (S_ m c h (row i q)) (W_ m c h e) _))
  simp only [mul_one] at hm
  clear H
  have hC := outsAt0_C m c (pt h i 3 (by omega)) (by rw [pt_mod]; decide) (pt_mod h i 3 (by omega))
  constructor
  · refine (congrArg (fun p => p.1 (ix2 q e)) hC).trans ?_
    dsimp only
    rw [last_out]
    exact congrArg₂ Ideal.div hs hm
  · refine (congrArg (fun p => p.2.1 (ix2 q e)) hC).trans ?_
    dsimp only
    rw [last_lse]
    exact congrArg₂ (fun x y => x + Ideal.log y) ht hm

/-! ## The results -/

omit hS

/-- The output, as the reference computes it of the arguments. -/
def resO : Vec Ideal S4096x512 .f32 :=
  Cert.AttnFwdReferenceIdeal.Read.val_main_v20 (F := Ideal) (m ((c.tc : Thread nD τ).loc main_arg0)) (m ((c.tc : Thread nD τ).loc main_arg1))
    (m ((c.tc : Thread nD τ).loc main_arg2))

/-- The log-sums, as the reference computes them of the arguments. -/
def resLse : Vec Ideal S4096x512 .f32 :=
  Cert.AttnFwdReferenceIdeal.Read.val_main_v35 (F := Ideal) (m ((c.tc : Thread nD τ).loc main_arg0)) (m ((c.tc : Thread nD τ).loc main_arg1))

theorem resO_apply (q : Fin 4096) (h : Fin 4) (e : Fin 128) : resO m c (ix2 q (colV h e))
    = ∑ k : Fin 4096, W_ m c h e k * Ideal.div (Ideal.exp (S_ m c h q k - T_ m c h q)) (∑ k, Ideal.exp (S_ m c h q k - T_ m c h q)) := by
  have e1 : resO m c = Cert.ReferenceIdeal.Read.val_main_v37 (F := Ideal) (m ((c.tc : Thread nD τ).loc main_arg0)) (m ((c.tc : Thread nD τ).loc main_arg1))
      (m ((c.tc : Thread nD τ).loc main_arg2)) := rfl
  have e2 : top (m ((c.tc : Thread nD τ).loc main_arg0)) (m ((c.tc : Thread nD τ).loc main_arg1)) h q = T_ m c h q := max_eq_right bot_le
  rw [e1, v37_apply]
  unfold mass expo
  rw [e2]
  rfl

theorem resLse_apply (q : Fin 4096) (h : Fin 4) (e : Fin 128) : resLse m c (ix2 q (colV h e))
    = T_ m c h q + Ideal.log (∑ k, Ideal.exp (S_ m c h q k - T_ m c h q)) := by
  have e1 : resLse m c = hSpread (hLse (hScore (m ((c.tc : Thread nD τ).loc main_arg0)) (m ((c.tc : Thread nD τ).loc main_arg1)))
      (hTop (hScore (m ((c.tc : Thread nD τ).loc main_arg0)) (m ((c.tc : Thread nD τ).loc main_arg1))))) := rfl
  have hs : ∀ k, hScore (m ((c.tc : Thread nD τ).loc main_arg0)) (m ((c.tc : Thread nD τ).loc main_arg1)) (ix3 q h k) = S_ m c h q k := fun k => by
    rw [hScore_apply]
    exact Finset.sum_congr rfl fun d _ => mul_comm _ _
  rw [e1, hSpread_apply, hLse_apply, hTop_apply]
  simp only [hs]
  rfl

variable [Cert.Pre_finite_scores.Facts] (hm : Cert.Pre_AttnFwdIdeal_finite_scores m)
include hm

/-- The scores are real, and so is a row's sum, which is positive. -/
theorem scores_real (h : Fin 4) (q : Fin 4096) : (∀ k, ∃ x : ℝ, S_ m c h q k = x)
    ∧ ∃ L : ℝ, 0 < L ∧ ∑ k, Ideal.exp (S_ m c h q k - T_ m c h q) = L := by
  obtain ⟨h0, h1⟩ := hm c
  obtain ⟨a0, e0⟩ := lift_of_real (s := S4096x1024) .bf16 (m (c.tc.loc main_arg0)) fun i => real_of_abs _ (congrFun h0 i)
  obtain ⟨a1, e1⟩ := lift_of_real (s := S4096x1024) .bf16 (m (c.tc.loc main_arg1)) fun i => real_of_abs _ (congrFun h1 i)
  obtain ⟨M, hM⟩ := top_real a0 a1 h q
  have e2 : T_ m c h q = top (lift .bf16 a0) (lift .bf16 a1) h q := by
    unfold T_ S_
    rw [e0, e1]
    exact (max_eq_right bot_le).symm
  refine ⟨fun k => ⟨_, by unfold S_; rw [e0, e1]; exact score_real a0 a1 h q k⟩, total (rScore a0 a1 h q) M, total_pos _ M, ?_⟩
  rw [← mass_real hM, e2]
  unfold S_
  rw [e0, e1]
  rfl

theorem value_o : (dats m 0 c).arrAt 3 cfg0.N = resO m c := by
  refine (dats m 0 c).arrAt_eq_of_covers 3 (resO m c) (by decide +kernel) fun t hf y => ?_
  have ht := (flush0_3 t).mp hf
  obtain ⟨h, i, rfl⟩ : ∃ h i, t = pt h i 3 (by decide) := ⟨⟨t.val / 16, by have : cfg0.N = 64 := N_0; omega⟩, ⟨t.val / 4 % 4, by omega⟩,
    Fin.ext (by show _ = 16 * (t.val / 16) + 4 * (t.val / 4 % 4) + 3; omega)⟩
  have e3 := (index_eq (pt h i 3 (by omega))).2.2.2.1
  rw [after0_3]
  idx_vars y
  blk_simp
  refine (last m c (fun h q => (scores_real m c hm h q).1) h i y0 y1).1.trans ?_
  obtain ⟨L, hL, eL⟩ := (scores_real m c hm h (row i y0)).2
  rw [eL, quotient _ _ hL, ← eL, ← resO_apply]
  clear hf ht eL
  generalize resO m c = b
  unfold pt row colV at *
  blk_ext [e3]

theorem value_lse : (dats m 0 c).arrAt 4 cfg0.N = resLse m c := by
  refine (dats m 0 c).arrAt_eq_of_covers 4 (resLse m c) (by decide +kernel) fun t hf y => ?_
  have ht := (flush0_4 t).mp hf
  obtain ⟨h, i, rfl⟩ : ∃ h i, t = pt h i 3 (by decide) := ⟨⟨t.val / 16, by have : cfg0.N = 64 := N_0; omega⟩, ⟨t.val / 4 % 4, by omega⟩,
    Fin.ext (by show _ = 16 * (t.val / 16) + 4 * (t.val / 4 % 4) + 3; omega)⟩
  have e4 := (index_eq (pt h i 3 (by omega))).2.2.2.2
  rw [after0_4]
  idx_vars y
  blk_simp
  refine (last m c (fun h q => (scores_real m c hm h q).1) h i y0 y1).2.trans ?_
  refine (resLse_apply m c (row i y0) h y1).symm.trans ?_
  generalize resLse m c = b
  clear hf ht
  unfold pt row colV at *
  blk_ext [e4]

omit c

theorem run (ρ : Dev nD → PrngReg) : θ_run (defs (F := Ideal)) (onTc (τ := τ) (main (F := Ideal))) ⟨m, fun _ => 0, ρ⟩ fun r => ∀ c : Dev nD,
      r.2.mem ((c.tc : Thread nD τ).loc main_v0_0) = resO m c ∧ r.2.mem ((c.tc : Thread nD τ).loc main_v0_1) = resLse m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun r h c => ⟨(h c).1.trans (value_o m c hm), (h c).2.1.trans (value_lse m c hm), (h c).2.2⟩)
    (Cert.AttnFwdIdeal.Value.run_blocks (F := Ideal) m ρ)

end Cert.AttnFwdIdeal.Proj

end
-- ==== Proof.lean ====
/-
  The claims of the statement: of each call, that it and its reference run to the end and write no argument, and that its
  results are the reference's; first the attention's gradient, then the projections, the optimiser steps, the
  normalisation and its gradient, the gates and their gradients, and the sums over the devices.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.InDh
public import proofs.«01_k».proof.Proof.Gen.InDh.Skeleton
public import proofs.«01_k».proof.Proof.Gen.InDh.Launch
public import proofs.«01_k».proof.Proof.Gen.InDh.Points
public import proofs.«01_k».proof.Proof.Gen.InDh.Frame
public import proofs.«01_k».proof.Proof.Gen.InDhIdeal
public import proofs.«01_k».proof.Proof.Gen.InDhIdeal.Value
public import proofs.«01_k».proof.Proof.Gen.InDhIdeal.Skeleton
public import proofs.«01_k».proof.Proof.Gen.InDhIdeal.Launch
public import proofs.«01_k».proof.Proof.Gen.InDhIdeal.Points
public import proofs.«01_k».proof.Proof.Gen.InDhIdeal.Frame
public import proofs.«01_k».proof.Proof.Gen.InDhReferenceIdeal
public import proofs.«01_k».proof.Proof.Gen.InDhReferenceIdeal.Run
public import proofs.«01_k».proof.Proof.Gen.InDhReferenceIdeal.Read
public import proofs.«01_k».proof.Proof.Gen.InDw
public import proofs.«01_k».proof.Proof.Gen.InDw.Skeleton
public import proofs.«01_k».proof.Proof.Gen.InDw.Launch
public import proofs.«01_k».proof.Proof.Gen.InDw.Points
public import proofs.«01_k».proof.Proof.Gen.InDw.Frame
public import proofs.«01_k».proof.Proof.Gen.InDwIdeal
public import proofs.«01_k».proof.Proof.Gen.InDwIdeal.Value
public import proofs.«01_k».proof.Proof.Gen.InDwIdeal.Skeleton
public import proofs.«01_k».proof.Proof.Gen.InDwIdeal.Launch
public import proofs.«01_k».proof.Proof.Gen.InDwIdeal.Points
public import proofs.«01_k».proof.Proof.Gen.InDwIdeal.Frame
public import proofs.«01_k».proof.Proof.Gen.InDwReferenceIdeal
public import proofs.«01_k».proof.Proof.Gen.InDwReferenceIdeal.Run
public import proofs.«01_k».proof.Proof.Gen.InDwReferenceIdeal.Read
public import proofs.«01_k».proof.Proof.Gen.OutDy
public import proofs.«01_k».proof.Proof.Gen.OutDy.Skeleton
public import proofs.«01_k».proof.Proof.Gen.OutDy.Launch
public import proofs.«01_k».proof.Proof.Gen.OutDy.Points
public import proofs.«01_k».proof.Proof.Gen.OutDy.Frame
public import proofs.«01_k».proof.Proof.Gen.OutDyIdeal
public import proofs.«01_k».proof.Proof.Gen.OutDyIdeal.Value
public import proofs.«01_k».proof.Proof.Gen.OutDyIdeal.Skeleton
public import proofs.«01_k».proof.Proof.Gen.OutDyIdeal.Launch
public import proofs.«01_k».proof.Proof.Gen.OutDyIdeal.Points
public import proofs.«01_k».proof.Proof.Gen.OutDyIdeal.Frame
public import proofs.«01_k».proof.Proof.Gen.OutDyReferenceIdeal
public import proofs.«01_k».proof.Proof.Gen.OutDyReferenceIdeal.Run
public import proofs.«01_k».proof.Proof.Gen.OutDyReferenceIdeal.Read
public import proofs.«01_k».proof.Proof.Gen.OutDw
public import proofs.«01_k».proof.Proof.Gen.OutDw.Skeleton
public import proofs.«01_k».proof.Proof.Gen.OutDw.Launch
public import proofs.«01_k».proof.Proof.Gen.OutDw.Points
public import proofs.«01_k».proof.Proof.Gen.OutDw.Frame
public import proofs.«01_k».proof.Proof.Gen.OutDwIdeal
public import proofs.«01_k».proof.Proof.Gen.OutDwIdeal.Value
public import proofs.«01_k».proof.Proof.Gen.OutDwIdeal.Skeleton
public import proofs.«01_k».proof.Proof.Gen.OutDwIdeal.Launch
public import proofs.«01_k».proof.Proof.Gen.OutDwIdeal.Points
public import proofs.«01_k».proof.Proof.Gen.OutDwIdeal.Frame
public import proofs.«01_k».proof.Proof.Gen.OutDwReferenceIdeal
public import proofs.«01_k».proof.Proof.Gen.OutDwReferenceIdeal.Run
public import proofs.«01_k».proof.Proof.Gen.OutDwReferenceIdeal.Read
public import proofs.«01_k».proof.Proof.Gen.InFwd
public import proofs.«01_k».proof.Proof.Gen.InFwd.Skeleton
public import proofs.«01_k».proof.Proof.Gen.InFwd.Launch
public import proofs.«01_k».proof.Proof.Gen.InFwd.Points
public import proofs.«01_k».proof.Proof.Gen.InFwd.Frame
public import proofs.«01_k».proof.Proof.Gen.InFwdIdeal
public import proofs.«01_k».proof.Proof.Gen.InFwdIdeal.Value
public import proofs.«01_k».proof.Proof.Gen.InFwdIdeal.Skeleton
public import proofs.«01_k».proof.Proof.Gen.InFwdIdeal.Launch
public import proofs.«01_k».proof.Proof.Gen.InFwdIdeal.Points
public import proofs.«01_k».proof.Proof.Gen.InFwdIdeal.Frame
public import proofs.«01_k».proof.Proof.Gen.InFwdReferenceIdeal
public import proofs.«01_k».proof.Proof.Gen.InFwdReferenceIdeal.Run
public import proofs.«01_k».proof.Proof.Gen.InFwdReferenceIdeal.Read
public import proofs.«01_k».proof.Proof.Gen.OutFwd
public import proofs.«01_k».proof.Proof.Gen.OutFwd.Skeleton
public import proofs.«01_k».proof.Proof.Gen.OutFwd.Launch
public import proofs.«01_k».proof.Proof.Gen.OutFwd.Points
public import proofs.«01_k».proof.Proof.Gen.OutFwd.Frame
public import proofs.«01_k».proof.Proof.Gen.OutFwdIdeal
public import proofs.«01_k».proof.Proof.Gen.OutFwdIdeal.Value
public import proofs.«01_k».proof.Proof.Gen.OutFwdIdeal.Skeleton
public import proofs.«01_k».proof.Proof.Gen.OutFwdIdeal.Launch
public import proofs.«01_k».proof.Proof.Gen.OutFwdIdeal.Points
public import proofs.«01_k».proof.Proof.Gen.OutFwdIdeal.Frame
public import proofs.«01_k».proof.Proof.Gen.OutFwdReferenceIdeal
public import proofs.«01_k».proof.Proof.Gen.OutFwdReferenceIdeal.Run
public import proofs.«01_k».proof.Proof.Gen.OutFwdReferenceIdeal.Read
public import proofs.«01_k».proof.Proof.Gen.OutLoss
public import proofs.«01_k».proof.Proof.Gen.OutLoss.Skeleton
public import proofs.«01_k».proof.Proof.Gen.OutLoss.Launch
public import proofs.«01_k».proof.Proof.Gen.OutLoss.Points
public import proofs.«01_k».proof.Proof.Gen.OutLoss.Frame
public import proofs.«01_k».proof.Proof.Gen.OutLossIdeal
public import proofs.«01_k».proof.Proof.Gen.OutLossIdeal.Value
public import proofs.«01_k».proof.Proof.Gen.OutLossIdeal.Skeleton
public import proofs.«01_k».proof.Proof.Gen.OutLossIdeal.Launch
public import proofs.«01_k».proof.Proof.Gen.OutLossIdeal.Points
public import proofs.«01_k».proof.Proof.Gen.OutLossIdeal.Frame
public import proofs.«01_k».proof.Proof.Gen.OutLossReferenceIdeal
public import proofs.«01_k».proof.Proof.Gen.OutLossReferenceIdeal.Run
public import proofs.«01_k».proof.Proof.Gen.OutLossReferenceIdeal.Read
public import proofs.«01_k».proof.Proof.Gen.AdamWIn
public import proofs.«01_k».proof.Proof.Gen.AdamWIn.Skeleton
public import proofs.«01_k».proof.Proof.Gen.AdamWIn.Launch
public import proofs.«01_k».proof.Proof.Gen.AdamWIn.Points
public import proofs.«01_k».proof.Proof.Gen.AdamWIn.Frame
public import proofs.«01_k».proof.Proof.Gen.AdamWInIdeal
public import proofs.«01_k».proof.Proof.Gen.AdamWInIdeal.Skeleton
public import proofs.«01_k».proof.Proof.Gen.AdamWInIdeal.Launch
public import proofs.«01_k».proof.Proof.Gen.AdamWInIdeal.Points
public import proofs.«01_k».proof.Proof.Gen.AdamWInIdeal.Frame
public import proofs.«01_k».proof.Proof.Gen.AdamWInReferenceIdeal
public import proofs.«01_k».proof.Proof.Gen.AdamWInReferenceIdeal.Run
public import proofs.«01_k».proof.Proof.Gen.AdamWInReferenceIdeal.Read
public import proofs.«01_k».proof.Proof.Gen.AdamNorm
public import proofs.«01_k».proof.Proof.Gen.AdamNorm.Skeleton
public import proofs.«01_k».proof.Proof.Gen.AdamNorm.Launch
public import proofs.«01_k».proof.Proof.Gen.AdamNorm.Points
public import proofs.«01_k».proof.Proof.Gen.AdamNorm.Frame
public import proofs.«01_k».proof.Proof.Gen.AdamNormIdeal
public import proofs.«01_k».proof.Proof.Gen.AdamNormIdeal.Skeleton
public import proofs.«01_k».proof.Proof.Gen.AdamNormIdeal.Launch
public import proofs.«01_k».proof.Proof.Gen.AdamNormIdeal.Points
public import proofs.«01_k».proof.Proof.Gen.AdamNormIdeal.Frame
public import proofs.«01_k».proof.Proof.Gen.AdamNormReferenceIdeal
public import proofs.«01_k».proof.Proof.Gen.AdamNormReferenceIdeal.Run
public import proofs.«01_k».proof.Proof.Gen.AdamNormReferenceIdeal.Read
public import proofs.«01_k».proof.Proof.Gen.AdamGroup
public import proofs.«01_k».proof.Proof.Gen.AdamGroup.Skeleton
public import proofs.«01_k».proof.Proof.Gen.AdamGroup.Launch
public import proofs.«01_k».proof.Proof.Gen.AdamGroup.Points
public import proofs.«01_k».proof.Proof.Gen.AdamGroup.Frame
public import proofs.«01_k».proof.Proof.Gen.AdamGroupIdeal
public import proofs.«01_k».proof.Proof.Gen.AdamGroupIdeal.Skeleton
public import proofs.«01_k».proof.Proof.Gen.AdamGroupIdeal.Launch
public import proofs.«01_k».proof.Proof.Gen.AdamGroupIdeal.Points
public import proofs.«01_k».proof.Proof.Gen.AdamGroupIdeal.Frame
public import proofs.«01_k».proof.Proof.Gen.AdamGroupReferenceIdeal
public import proofs.«01_k».proof.Proof.Gen.AdamGroupReferenceIdeal.Run
public import proofs.«01_k».proof.Proof.Gen.AdamGroupReferenceIdeal.Read
public import proofs.«01_k».proof.Proof.Gen.AdamHalf
public import proofs.«01_k».proof.Proof.Gen.AdamHalf.Skeleton
public import proofs.«01_k».proof.Proof.Gen.AdamHalf.Launch
public import proofs.«01_k».proof.Proof.Gen.AdamHalf.Points
public import proofs.«01_k».proof.Proof.Gen.AdamHalf.Frame
public import proofs.«01_k».proof.Proof.Gen.AdamHalfIdeal
public import proofs.«01_k».proof.Proof.Gen.AdamHalfIdeal.Skeleton
public import proofs.«01_k».proof.Proof.Gen.AdamHalfIdeal.Launch
public import proofs.«01_k».proof.Proof.Gen.AdamHalfIdeal.Points
public import proofs.«01_k».proof.Proof.Gen.AdamHalfIdeal.Frame
public import proofs.«01_k».proof.Proof.Gen.AdamHalfReferenceIdeal
public import proofs.«01_k».proof.Proof.Gen.AdamHalfReferenceIdeal.Run
public import proofs.«01_k».proof.Proof.Gen.AdamHalfReferenceIdeal.Read
public import proofs.«01_k».proof.Proof.Gen.AdamHead
public import proofs.«01_k».proof.Proof.Gen.AdamHead.Skeleton
public import proofs.«01_k».proof.Proof.Gen.AdamHead.Launch
public import proofs.«01_k».proof.Proof.Gen.AdamHead.Points
public import proofs.«01_k».proof.Proof.Gen.AdamHead.Frame
public import proofs.«01_k».proof.Proof.Gen.AdamHeadIdeal
public import proofs.«01_k».proof.Proof.Gen.AdamHeadIdeal.Skeleton
public import proofs.«01_k».proof.Proof.Gen.AdamHeadIdeal.Launch
public import proofs.«01_k».proof.Proof.Gen.AdamHeadIdeal.Points
public import proofs.«01_k».proof.Proof.Gen.AdamHeadIdeal.Frame
public import proofs.«01_k».proof.Proof.Gen.AdamHeadReferenceIdeal
public import proofs.«01_k».proof.Proof.Gen.AdamHeadReferenceIdeal.Run
public import proofs.«01_k».proof.Proof.Gen.AdamHeadReferenceIdeal.Read
public import proofs.«01_k».proof.Proof.Gen.AdamPool
public import proofs.«01_k».proof.Proof.Gen.AdamPool.Skeleton
public import proofs.«01_k».proof.Proof.Gen.AdamPool.Launch
public import proofs.«01_k».proof.Proof.Gen.AdamPool.Points
public import proofs.«01_k».proof.Proof.Gen.AdamPool.Frame
public import proofs.«01_k».proof.Proof.Gen.AdamPoolIdeal
public import proofs.«01_k».proof.Proof.Gen.AdamPoolIdeal.Skeleton
public import proofs.«01_k».proof.Proof.Gen.AdamPoolIdeal.Launch
public import proofs.«01_k».proof.Proof.Gen.AdamPoolIdeal.Points
public import proofs.«01_k».proof.Proof.Gen.AdamPoolIdeal.Frame
public import proofs.«01_k».proof.Proof.Gen.AdamPoolReferenceIdeal
public import proofs.«01_k».proof.Proof.Gen.AdamPoolReferenceIdeal.Run
public import proofs.«01_k».proof.Proof.Gen.AdamPoolReferenceIdeal.Read
public import proofs.«01_k».proof.Proof.Gen.AdamRank
public import proofs.«01_k».proof.Proof.Gen.AdamRank.Skeleton
public import proofs.«01_k».proof.Proof.Gen.AdamRank.Launch
public import proofs.«01_k».proof.Proof.Gen.AdamRank.Points
public import proofs.«01_k».proof.Proof.Gen.AdamRank.Frame
public import proofs.«01_k».proof.Proof.Gen.AdamRankIdeal
public import proofs.«01_k».proof.Proof.Gen.AdamRankIdeal.Skeleton
public import proofs.«01_k».proof.Proof.Gen.AdamRankIdeal.Launch
public import proofs.«01_k».proof.Proof.Gen.AdamRankIdeal.Points
public import proofs.«01_k».proof.Proof.Gen.AdamRankIdeal.Frame
public import proofs.«01_k».proof.Proof.Gen.AdamRankReferenceIdeal
public import proofs.«01_k».proof.Proof.Gen.AdamRankReferenceIdeal.Run
public import proofs.«01_k».proof.Proof.Gen.AdamRankReferenceIdeal.Read
public import proofs.«01_k».proof.Proof.Gen.AdamQ
public import proofs.«01_k».proof.Proof.Gen.AdamQ.Skeleton
public import proofs.«01_k».proof.Proof.Gen.AdamQ.Launch
public import proofs.«01_k».proof.Proof.Gen.AdamQ.Points
public import proofs.«01_k».proof.Proof.Gen.AdamQ.Frame
public import proofs.«01_k».proof.Proof.Gen.AdamQIdeal
public import proofs.«01_k».proof.Proof.Gen.AdamQIdeal.Skeleton
public import proofs.«01_k».proof.Proof.Gen.AdamQIdeal.Launch
public import proofs.«01_k».proof.Proof.Gen.AdamQIdeal.Points
public import proofs.«01_k».proof.Proof.Gen.AdamQIdeal.Frame
public import proofs.«01_k».proof.Proof.Gen.AdamQReferenceIdeal
public import proofs.«01_k».proof.Proof.Gen.AdamQReferenceIdeal.Run
public import proofs.«01_k».proof.Proof.Gen.AdamQReferenceIdeal.Read
public import proofs.«01_k».proof.Proof.Gen.AdamKv
public import proofs.«01_k».proof.Proof.Gen.AdamKv.Skeleton
public import proofs.«01_k».proof.Proof.Gen.AdamKv.Launch
public import proofs.«01_k».proof.Proof.Gen.AdamKv.Points
public import proofs.«01_k».proof.Proof.Gen.AdamKv.Frame
public import proofs.«01_k».proof.Proof.Gen.AdamKvIdeal
public import proofs.«01_k».proof.Proof.Gen.AdamKvIdeal.Skeleton
public import proofs.«01_k».proof.Proof.Gen.AdamKvIdeal.Launch
public import proofs.«01_k».proof.Proof.Gen.AdamKvIdeal.Points
public import proofs.«01_k».proof.Proof.Gen.AdamKvIdeal.Frame
public import proofs.«01_k».proof.Proof.Gen.AdamKvReferenceIdeal
public import proofs.«01_k».proof.Proof.Gen.AdamKvReferenceIdeal.Run
public import proofs.«01_k».proof.Proof.Gen.AdamKvReferenceIdeal.Read
public import proofs.«01_k».proof.Proof.Gen.AdamWOut
public import proofs.«01_k».proof.Proof.Gen.AdamWOut.Skeleton
public import proofs.«01_k».proof.Proof.Gen.AdamWOut.Launch
public import proofs.«01_k».proof.Proof.Gen.AdamWOut.Points
public import proofs.«01_k».proof.Proof.Gen.AdamWOut.Frame
public import proofs.«01_k».proof.Proof.Gen.AdamWOutIdeal
public import proofs.«01_k».proof.Proof.Gen.AdamWOutIdeal.Skeleton
public import proofs.«01_k».proof.Proof.Gen.AdamWOutIdeal.Launch
public import proofs.«01_k».proof.Proof.Gen.AdamWOutIdeal.Points
public import proofs.«01_k».proof.Proof.Gen.AdamWOutIdeal.Frame
public import proofs.«01_k».proof.Proof.Gen.AdamWOutReferenceIdeal
public import proofs.«01_k».proof.Proof.Gen.AdamWOutReferenceIdeal.Run
public import proofs.«01_k».proof.Proof.Gen.AdamWOutReferenceIdeal.Read
public import proofs.«01_k».proof.Proof.Gen.NormBwd
public import proofs.«01_k».proof.Proof.Gen.NormBwd.Skeleton
public import proofs.«01_k».proof.Proof.Gen.NormBwd.Launch
public import proofs.«01_k».proof.Proof.Gen.NormBwd.Points
public import proofs.«01_k».proof.Proof.Gen.NormBwd.Frame
public import proofs.«01_k».proof.Proof.Gen.NormBwdIdeal
public import proofs.«01_k».proof.Proof.Gen.NormBwdIdeal.Value
public import proofs.«01_k».proof.Proof.Gen.NormBwdIdeal.Skeleton
public import proofs.«01_k».proof.Proof.Gen.NormBwdIdeal.Launch
public import proofs.«01_k».proof.Proof.Gen.NormBwdIdeal.Points
public import proofs.«01_k».proof.Proof.Gen.NormBwdIdeal.Frame
public import proofs.«01_k».proof.Proof.Gen.NormBwdReferenceIdeal
public import proofs.«01_k».proof.Proof.Gen.NormBwdReferenceIdeal.Run
public import proofs.«01_k».proof.Proof.Gen.NormBwdReferenceIdeal.Read
public import proofs.«01_k».proof.Proof.Gen.SumSmall
public import proofs.«01_k».proof.Proof.Gen.SumSmall.Skeleton
public import proofs.«01_k».proof.Proof.Gen.SumSmall.Launch
public import proofs.«01_k».proof.Proof.Gen.SumSmall.Points
public import proofs.«01_k».proof.Proof.Gen.SumSmall.Frame
public import proofs.«01_k».proof.Proof.Gen.SumSmallIdeal
public import proofs.«01_k».proof.Proof.Gen.SumSmallIdeal.Skeleton
public import proofs.«01_k».proof.Proof.Gen.SumSmallIdeal.Launch
public import proofs.«01_k».proof.Proof.Gen.SumSmallIdeal.Points
public import proofs.«01_k».proof.Proof.Gen.SumSmallIdeal.Frame
public import proofs.«01_k».proof.Proof.Gen.SumSmallReferenceIdeal
public import proofs.«01_k».proof.Proof.Gen.SumSmallReferenceIdeal.Run
public import proofs.«01_k».proof.Proof.Gen.SumSmallReferenceIdeal.Read
public import proofs.«01_k».proof.Proof.Gen.AttnFwd
public import proofs.«01_k».proof.Proof.Gen.AttnFwd.Skeleton
public import proofs.«01_k».proof.Proof.Gen.AttnFwd.Launch
public import proofs.«01_k».proof.Proof.Gen.AttnFwd.Points
public import proofs.«01_k».proof.Proof.Gen.AttnFwd.Frame
public import proofs.«01_k».proof.Proof.Gen.AttnFwdIdeal
public import proofs.«01_k».proof.Proof.Gen.AttnFwdIdeal.Value
public import proofs.«01_k».proof.Proof.Gen.NormFwdIdeal.Value
public import proofs.«01_k».proof.Proof.Gen.NormFwdReferenceIdeal.Run
public import proofs.«01_k».proof.Proof.Gen.NormFwdReferenceIdeal.Read
public import proofs.«01_k».proof.Proof.Gen.NormFwd.Frame
public import proofs.«01_k».proof.Proof.Gen.GateIdeal.Value
public import proofs.«01_k».proof.Proof.Gen.GateReferenceIdeal.Run
public import proofs.«01_k».proof.Proof.Gen.GateReferenceIdeal.Read
public import proofs.«01_k».proof.Proof.Gen.Gate.Frame
public import proofs.«01_k».proof.Proof.Gen.GateBwdIdeal.Value
public import proofs.«01_k».proof.Proof.Gen.GateBwdReferenceIdeal.Run
public import proofs.«01_k».proof.Proof.Gen.GateBwdReferenceIdeal.Read
public import proofs.«01_k».proof.Proof.Gen.GateBwd.Frame
public import proofs.«01_k».proof.Proof.Gen.AttnGateIdeal.Value
public import proofs.«01_k».proof.Proof.Gen.AttnGateReferenceIdeal.Run
public import proofs.«01_k».proof.Proof.Gen.AttnGateReferenceIdeal.Read
public import proofs.«01_k».proof.Proof.Gen.AttnGate.Frame
public import proofs.«01_k».proof.Proof.Gen.AttnGateBwdIdeal.Value
public import proofs.«01_k».proof.Proof.Gen.AttnGateBwdReferenceIdeal.Run
public import proofs.«01_k».proof.Proof.Gen.AttnGateBwdReferenceIdeal.Read
public import proofs.«01_k».proof.Proof.Gen.AttnGateBwd.Frame
public import proofs.«01_k».proof.Proof.Gen.AttnFwdIdeal.Skeleton
public import proofs.«01_k».proof.Proof.Gen.AttnFwdIdeal.Launch
public import proofs.«01_k».proof.Proof.Gen.AttnFwdIdeal.Points
public import proofs.«01_k».proof.Proof.Gen.AttnFwdIdeal.Frame
public import proofs.«01_k».proof.Proof.Gen.AttnFwdReferenceIdeal
public import proofs.«01_k».proof.Proof.Gen.AttnFwdReferenceIdeal.Run
public import proofs.«01_k».proof.Proof.Gen.AttnFwdReferenceIdeal.Read
public import proofs.«01_k».proof.Proof.Gen.Pre_finite
public import proofs.«01_k».proof.Proof.Gen.Pre_finite_scores
public import proofs.«01_k».proof.Proof.Gen.Pre_finite_gate
public import proofs.«01_k».proof.Proof.Gen.Pre_finite_heads
public import proofs.«01_k».proof.Proof.Attn.Final
public import proofs.«01_k».proof.Proof.Proj.InDh
public import proofs.«01_k».proof.Proof.Proj.InDw
public import proofs.«01_k».proof.Proof.Proj.OutDy
public import proofs.«01_k».proof.Proof.Proj.OutDw
public import proofs.«01_k».proof.Proof.Proj.InFwd
public import proofs.«01_k».proof.Proof.Proj.OutFwd
public import proofs.«01_k».proof.Proof.Proj.OutLoss
public import proofs.«01_k».proof.Proof.Proj.AdamWIn
public import proofs.«01_k».proof.Proof.Proj.AdamNorm
public import proofs.«01_k».proof.Proof.Proj.AdamGroup
public import proofs.«01_k».proof.Proof.Proj.AdamHalf
public import proofs.«01_k».proof.Proof.Proj.AdamHead
public import proofs.«01_k».proof.Proof.Proj.AdamPool
public import proofs.«01_k».proof.Proof.Proj.AdamRank
public import proofs.«01_k».proof.Proof.Proj.AdamQ
public import proofs.«01_k».proof.Proof.Proj.AdamKv
public import proofs.«01_k».proof.Proof.Proj.AdamWOut
public import proofs.«01_k».proof.Proof.Proj.NormBwd
public import proofs.«01_k».proof.Proof.Proj.NormFwd
public import proofs.«01_k».proof.Proof.Proj.Gate
public import proofs.«01_k».proof.Proof.Proj.GateBwd
public import proofs.«01_k».proof.Proof.Proj.AttnGate
public import proofs.«01_k».proof.Proof.Proj.AttnGateBwd
public import proofs.«01_k».proof.Proof.Proj.SumSmall
public import proofs.«01_k».proof.Proof.Proj.AttnFwd
public import Idealize.ShloMosaic.Adequacy
public import Idealize.ShloMosaic.Init

@[expose] public section

noncomputable section

namespace Cert.Proof

open Idealize.ShloMosaic Idealize.SL.Sem Cert.Kernel

set_option smartUnfolding false in
set_option maxHeartbeats 1000000 in
/-- The kernel's frame: the ideal kernel's run has the same text, at any float values. The two texts' case
    distinctions are named apart, so that they are compared unfolded. -/
theorem frame_kernel : Cert.quiescent_Kernel := fun m ρ _ => Cert.KernelIdeal.Attn.frame (F := Bits) m ρ

/-- The reference runs, and writes no argument; it declares no semaphore. -/
theorem frame_reference : Cert.quiescent_ReferenceIdeal := fun m ρ _ =>
  (θ_run Cert.ReferenceIdeal.defs _ _).mono (fun r h => ⟨fun c => (h c).2.2.2, sem_eq_zero_of_no_sems (by decide) r.2⟩)
    (Cert.ReferenceIdeal.Value.run (F := Ideal) m ρ)

/-- The kernel's three gradients are the reference's. -/
theorem attention : Cert.algebraic_KernelIdeal_ReferenceIdeal_pre_finite := by
  intro m ρ m' ρ' hm he
  refine ⟨fun c => Cert.KernelIdeal.Attn.resQ m c, fun c => Cert.KernelIdeal.Attn.resK m c, fun c => Cert.KernelIdeal.Attn.resV m c, ?_, ?_⟩
  · refine (θ_run Cert.KernelIdeal.defs _ _).mono (fun r h c => ?_) (Cert.KernelIdeal.Attn.run_main (F := Ideal) m ρ)
    exact ⟨Cert.KernelIdeal.Attn.result_q m c r h.1, Cert.KernelIdeal.Attn.result_k m c r h.1, Cert.KernelIdeal.Attn.result_v m c r h.1,
      Cert.KernelIdeal.Attn.args_kept m c r h.1⟩
  · refine (θ_run Cert.ReferenceIdeal.defs _ _).mono (fun r h c => ?_) (Cert.ReferenceIdeal.Value.run (F := Ideal) m' ρ')
    obtain ⟨h0, h1, h2, h3⟩ := h c
    obtain ⟨e0, e1, e2, e3⟩ := he c
    refine ⟨h0.trans ?_, h1.trans ?_, h2.trans ?_, h3⟩
    · rw [Cert.ReferenceIdeal.Read.val_main_v61_eq, e0, e1, e2, e3]
      exact (Cert.KernelIdeal.Attn.resQ_eq m hm c).symm
    · rw [Cert.ReferenceIdeal.Read.val_main_v60_eq, e0, e1, e2, e3]
      exact (Cert.KernelIdeal.Attn.resK_eq m hm c).symm
    · rw [e0, e1, e3]
      exact (Cert.KernelIdeal.Attn.resV_eq m hm c).symm

/-- The input projection's gradient to its input: its reference runs, and writes no argument. -/
theorem inDh_frame_reference : Cert.quiescent_InDhReferenceIdeal := fun m ρ _ =>
  (θ_run Cert.InDhReferenceIdeal.defs _ _).mono (fun r h => ⟨fun c => (h c).2, sem_eq_zero_of_no_sems (by decide) r.2⟩)
    (Cert.InDhReferenceIdeal.Value.run (F := Ideal) m ρ)

/-- The input projection's gradient to its input is the reference's. -/
theorem inDh_algebraic : Cert.algebraic_InDhIdeal_InDhReferenceIdeal := by
  intro m ρ m' ρ' _ he
  refine ⟨fun c => Cert.InDhIdeal.Proj.res m c, ?_, ?_⟩
  · exact (θ_run Cert.InDhIdeal.defs _ _).mono (fun r h c => ⟨(h c).1.trans (Cert.InDhIdeal.Proj.value m c), (h c).2⟩)
      (Cert.InDhIdeal.Value.run_blocks (F := Ideal) m ρ)
  · refine (θ_run Cert.InDhReferenceIdeal.defs _ _).mono (fun r h c => ?_) (Cert.InDhReferenceIdeal.Value.run (F := Ideal) m' ρ')
    obtain ⟨e0, e1⟩ := he c
    refine ⟨(h c).1.trans ?_, (h c).2⟩
    rw [e0, e1]
    rfl

/-- The input projection's gradient to its weights: its reference runs, and writes no argument. -/
theorem inDw_frame_reference : Cert.quiescent_InDwReferenceIdeal := fun m ρ _ =>
  (θ_run Cert.InDwReferenceIdeal.defs _ _).mono (fun r h => ⟨fun c => (h c).2, sem_eq_zero_of_no_sems (by decide) r.2⟩)
    (Cert.InDwReferenceIdeal.Value.run (F := Ideal) m ρ)

/-- The input projection's gradient to its weights is the reference's. -/
theorem inDw_algebraic : Cert.algebraic_InDwIdeal_InDwReferenceIdeal := by
  intro m ρ m' ρ' _ he
  refine ⟨fun c => Cert.InDwIdeal.Proj.res m c, ?_, ?_⟩
  · exact (θ_run Cert.InDwIdeal.defs _ _).mono (fun r h c => ⟨(h c).1.trans (Cert.InDwIdeal.Proj.value m c), (h c).2⟩)
      (Cert.InDwIdeal.Value.run_blocks (F := Ideal) m ρ)
  · refine (θ_run Cert.InDwReferenceIdeal.defs _ _).mono (fun r h c => ?_) (Cert.InDwReferenceIdeal.Value.run (F := Ideal) m' ρ')
    obtain ⟨e0, e1⟩ := he c
    refine ⟨(h c).1.trans ?_, (h c).2⟩
    rw [e0, e1]
    rfl

/-- The output projection's gradient to its input: its reference runs, and writes no argument. -/
theorem outDy_frame_reference : Cert.quiescent_OutDyReferenceIdeal := fun m ρ _ =>
  (θ_run Cert.OutDyReferenceIdeal.defs _ _).mono (fun r h => ⟨fun c => (h c).2, sem_eq_zero_of_no_sems (by decide) r.2⟩)
    (Cert.OutDyReferenceIdeal.Value.run (F := Ideal) m ρ)

/-- The output projection's gradient to its input is the reference's. -/
theorem outDy_algebraic : Cert.algebraic_OutDyIdeal_OutDyReferenceIdeal := by
  intro m ρ m' ρ' _ he
  refine ⟨fun c => Cert.OutDyIdeal.Proj.res m c, ?_, ?_⟩
  · exact (θ_run Cert.OutDyIdeal.defs _ _).mono (fun r h c => ⟨(h c).1.trans (Cert.OutDyIdeal.Proj.value m c), (h c).2⟩)
      (Cert.OutDyIdeal.Value.run_blocks (F := Ideal) m ρ)
  · refine (θ_run Cert.OutDyReferenceIdeal.defs _ _).mono (fun r h c => ?_) (Cert.OutDyReferenceIdeal.Value.run (F := Ideal) m' ρ')
    obtain ⟨e0, e1⟩ := he c
    refine ⟨(h c).1.trans ?_, (h c).2⟩
    rw [e0, e1]
    rfl

/-- The output projection's gradient to its weights: its reference runs, and writes no argument. -/
theorem outDw_frame_reference : Cert.quiescent_OutDwReferenceIdeal := fun m ρ _ =>
  (θ_run Cert.OutDwReferenceIdeal.defs _ _).mono (fun r h => ⟨fun c => (h c).2, sem_eq_zero_of_no_sems (by decide) r.2⟩)
    (Cert.OutDwReferenceIdeal.Value.run (F := Ideal) m ρ)

/-- The output projection's gradient to its weights is the reference's. -/
theorem outDw_algebraic : Cert.algebraic_OutDwIdeal_OutDwReferenceIdeal := by
  intro m ρ m' ρ' _ he
  refine ⟨fun c => Cert.OutDwIdeal.Proj.res m c, ?_, ?_⟩
  · exact (θ_run Cert.OutDwIdeal.defs _ _).mono (fun r h c => ⟨(h c).1.trans (Cert.OutDwIdeal.Proj.value m c), (h c).2⟩)
      (Cert.OutDwIdeal.Value.run_blocks (F := Ideal) m ρ)
  · refine (θ_run Cert.OutDwReferenceIdeal.defs _ _).mono (fun r h c => ?_) (Cert.OutDwReferenceIdeal.Value.run (F := Ideal) m' ρ')
    obtain ⟨e0, e1⟩ := he c
    refine ⟨(h c).1.trans ?_, (h c).2⟩
    rw [e0, e1]
    rfl

/-- The input projection: its reference runs, and writes no argument. -/
theorem inFwd_frame_reference : Cert.quiescent_InFwdReferenceIdeal := fun m ρ _ =>
  (θ_run Cert.InFwdReferenceIdeal.defs _ _).mono (fun r h => ⟨fun c => (h c).2, sem_eq_zero_of_no_sems (by decide) r.2⟩)
    (Cert.InFwdReferenceIdeal.Value.run (F := Ideal) m ρ)

/-- The input projection is the reference's. -/
theorem inFwd_algebraic : Cert.algebraic_InFwdIdeal_InFwdReferenceIdeal := by
  intro m ρ m' ρ' _ he
  refine ⟨fun c => Cert.InFwdIdeal.Proj.res m c, ?_, ?_⟩
  · exact (θ_run Cert.InFwdIdeal.defs _ _).mono (fun r h c => ⟨(h c).1.trans (Cert.InFwdIdeal.Proj.value m c), (h c).2⟩)
      (Cert.InFwdIdeal.Value.run_blocks (F := Ideal) m ρ)
  · refine (θ_run Cert.InFwdReferenceIdeal.defs _ _).mono (fun r h c => ?_) (Cert.InFwdReferenceIdeal.Value.run (F := Ideal) m' ρ')
    obtain ⟨e0, e1⟩ := he c
    refine ⟨(h c).1.trans ?_, (h c).2⟩
    rw [e0, e1]
    rfl

/-- The output projection: its reference runs, and writes no argument. -/
theorem outFwd_frame_reference : Cert.quiescent_OutFwdReferenceIdeal := fun m ρ _ =>
  (θ_run Cert.OutFwdReferenceIdeal.defs _ _).mono (fun r h => ⟨fun c => (h c).2, sem_eq_zero_of_no_sems (by decide) r.2⟩)
    (Cert.OutFwdReferenceIdeal.Value.run (F := Ideal) m ρ)

/-- The output projection is the reference's. -/
theorem outFwd_algebraic : Cert.algebraic_OutFwdIdeal_OutFwdReferenceIdeal := by
  intro m ρ m' ρ' _ he
  refine ⟨fun c => Cert.OutFwdIdeal.Proj.res m c, ?_, ?_⟩
  · exact (θ_run Cert.OutFwdIdeal.defs _ _).mono (fun r h c => ⟨(h c).1.trans (Cert.OutFwdIdeal.Proj.value m c), (h c).2⟩)
      (Cert.OutFwdIdeal.Value.run_blocks (F := Ideal) m ρ)
  · refine (θ_run Cert.OutFwdReferenceIdeal.defs _ _).mono (fun r h c => ?_) (Cert.OutFwdReferenceIdeal.Value.run (F := Ideal) m' ρ')
    obtain ⟨e0, e1, e2⟩ := he c
    refine ⟨(h c).1.trans ?_, (h c).2⟩
    rw [e0, e1, e2]
    rfl

/-- The last layer's output projection with the loss: its reference runs, and writes no argument. -/
theorem outLoss_frame_reference : Cert.quiescent_OutLossReferenceIdeal := fun m ρ _ =>
  (θ_run Cert.OutLossReferenceIdeal.defs _ _).mono (fun r h => ⟨fun c => (h c).2.2, sem_eq_zero_of_no_sems (by decide) r.2⟩)
    (Cert.OutLossReferenceIdeal.Value.run (F := Ideal) m ρ)

/-- The last layer's output projection with the loss: the two results are the reference's. -/
theorem outLoss_algebraic : Cert.algebraic_OutLossIdeal_OutLossReferenceIdeal := by
  intro m ρ m' ρ' _ he
  refine ⟨fun c => Cert.OutLossIdeal.Proj.resDx m c, fun c => Cert.OutLossIdeal.Proj.resLoss m c,
    Cert.OutLossIdeal.Proj.run m ρ, ?_⟩
  refine (θ_run Cert.OutLossReferenceIdeal.defs _ _).mono (fun r h c => ?_) (Cert.OutLossReferenceIdeal.Value.run (F := Ideal) m' ρ')
  obtain ⟨e0, e1, e2, e3⟩ := he c
  exact ⟨(h c).1.trans (by rw [e0, e1, e2, e3]; rfl),
      (h c).2.1.trans (by rw [e0, e1, e2, e3]; rfl),
      (h c).2.2⟩

/-- The optimiser step of the input projection's weight: its reference runs, and writes no argument. -/
theorem adamWIn_frame_reference : Cert.quiescent_AdamWInReferenceIdeal := fun m ρ _ =>
  (θ_run Cert.AdamWInReferenceIdeal.defs _ _).mono (fun r h => ⟨fun c => (h c).2.2.2, sem_eq_zero_of_no_sems (by decide) r.2⟩)
    (Cert.AdamWInReferenceIdeal.Value.run (F := Ideal) m ρ)

/-- The optimiser step of the input projection's weight: the three results are the reference's. -/
theorem adamWIn_algebraic : Cert.algebraic_AdamWInIdeal_AdamWInReferenceIdeal := by
  intro m ρ m' ρ' _ he
  refine ⟨fun c => Cert.AdamWInIdeal.Proj.resDelta m c, fun c => Cert.AdamWInIdeal.Proj.resM m c, fun c => Cert.AdamWInIdeal.Proj.resV m c,
    Cert.AdamWInIdeal.Proj.run m ρ, ?_⟩
  refine (θ_run Cert.AdamWInReferenceIdeal.defs _ _).mono (fun r h c => ?_) (Cert.AdamWInReferenceIdeal.Value.run (F := Ideal) m' ρ')
  obtain ⟨e0, e1, e2, e3⟩ := he c
  exact ⟨(h c).1.trans (by rw [e0, e1, e2, e3]; rfl),
      (h c).2.1.trans (by rw [e1, e2]; rfl),
      (h c).2.2.1.trans (by rw [e1, e3]; rfl),
      (h c).2.2.2⟩

/-- The optimiser step of the normalisation's gain: its reference runs, and writes no argument. -/
theorem adamNorm_frame_reference : Cert.quiescent_AdamNormReferenceIdeal := fun m ρ _ =>
  (θ_run Cert.AdamNormReferenceIdeal.defs _ _).mono (fun r h => ⟨fun c => (h c).2.2.2, sem_eq_zero_of_no_sems (by decide) r.2⟩)
    (Cert.AdamNormReferenceIdeal.Value.run (F := Ideal) m ρ)

/-- The optimiser step of the normalisation's gain: the three results are the reference's. -/
theorem adamNorm_algebraic : Cert.algebraic_AdamNormIdeal_AdamNormReferenceIdeal := by
  intro m ρ m' ρ' _ he
  refine ⟨fun c => Cert.AdamNormIdeal.Proj.resDelta m c, fun c => Cert.AdamNormIdeal.Proj.resM m c, fun c => Cert.AdamNormIdeal.Proj.resV m c,
    Cert.AdamNormIdeal.Proj.run m ρ, ?_⟩
  refine (θ_run Cert.AdamNormReferenceIdeal.defs _ _).mono (fun r h c => ?_) (Cert.AdamNormReferenceIdeal.Value.run (F := Ideal) m' ρ')
  obtain ⟨e0, e1, e2, e3⟩ := he c
  exact ⟨(h c).1.trans (by rw [e0, e1, e2, e3]; rfl),
      (h c).2.1.trans (by rw [e1, e2]; rfl),
      (h c).2.2.1.trans (by rw [e1, e3]; rfl),
      (h c).2.2.2⟩

/-- The optimiser step of the group gains and the pool scale: its reference runs, and writes no argument. -/
theorem adamGroup_frame_reference : Cert.quiescent_AdamGroupReferenceIdeal := fun m ρ _ =>
  (θ_run Cert.AdamGroupReferenceIdeal.defs _ _).mono (fun r h => ⟨fun c => (h c).2.2.2, sem_eq_zero_of_no_sems (by decide) r.2⟩)
    (Cert.AdamGroupReferenceIdeal.Value.run (F := Ideal) m ρ)

/-- The optimiser step of the group gains and the pool scale: the three results are the reference's. -/
theorem adamGroup_algebraic : Cert.algebraic_AdamGroupIdeal_AdamGroupReferenceIdeal := by
  intro m ρ m' ρ' _ he
  refine ⟨fun c => Cert.AdamGroupIdeal.Proj.resDelta m c, fun c => Cert.AdamGroupIdeal.Proj.resM m c, fun c => Cert.AdamGroupIdeal.Proj.resV m c,
    Cert.AdamGroupIdeal.Proj.run m ρ, ?_⟩
  refine (θ_run Cert.AdamGroupReferenceIdeal.defs _ _).mono (fun r h c => ?_) (Cert.AdamGroupReferenceIdeal.Value.run (F := Ideal) m' ρ')
  obtain ⟨e0, e1, e2, e3⟩ := he c
  exact ⟨(h c).1.trans (by rw [e0, e1, e2, e3]; rfl),
      (h c).2.1.trans (by rw [e1, e2]; rfl),
      (h c).2.2.1.trans (by rw [e1, e3]; rfl),
      (h c).2.2.2⟩

/-- The optimiser step of the gains and biases of half width: its reference runs, and writes no argument. -/
theorem adamHalf_frame_reference : Cert.quiescent_AdamHalfReferenceIdeal := fun m ρ _ =>
  (θ_run Cert.AdamHalfReferenceIdeal.defs _ _).mono (fun r h => ⟨fun c => (h c).2.2.2, sem_eq_zero_of_no_sems (by decide) r.2⟩)
    (Cert.AdamHalfReferenceIdeal.Value.run (F := Ideal) m ρ)

/-- The optimiser step of the gains and biases of half width: the three results are the reference's. -/
theorem adamHalf_algebraic : Cert.algebraic_AdamHalfIdeal_AdamHalfReferenceIdeal := by
  intro m ρ m' ρ' _ he
  refine ⟨fun c => Cert.AdamHalfIdeal.Proj.resDelta m c, fun c => Cert.AdamHalfIdeal.Proj.resM m c, fun c => Cert.AdamHalfIdeal.Proj.resV m c,
    Cert.AdamHalfIdeal.Proj.run m ρ, ?_⟩
  refine (θ_run Cert.AdamHalfReferenceIdeal.defs _ _).mono (fun r h c => ?_) (Cert.AdamHalfReferenceIdeal.Value.run (F := Ideal) m' ρ')
  obtain ⟨e0, e1, e2, e3⟩ := he c
  exact ⟨(h c).1.trans (by rw [e0, e1, e2, e3]; rfl),
      (h c).2.1.trans (by rw [e1, e2]; rfl),
      (h c).2.2.1.trans (by rw [e1, e3]; rfl),
      (h c).2.2.2⟩

/-- The optimiser step of the head gains: its reference runs, and writes no argument. -/
theorem adamHead_frame_reference : Cert.quiescent_AdamHeadReferenceIdeal := fun m ρ _ =>
  (θ_run Cert.AdamHeadReferenceIdeal.defs _ _).mono (fun r h => ⟨fun c => (h c).2.2.2, sem_eq_zero_of_no_sems (by decide) r.2⟩)
    (Cert.AdamHeadReferenceIdeal.Value.run (F := Ideal) m ρ)

/-- The optimiser step of the head gains: the three results are the reference's. -/
theorem adamHead_algebraic : Cert.algebraic_AdamHeadIdeal_AdamHeadReferenceIdeal := by
  intro m ρ m' ρ' _ he
  refine ⟨fun c => Cert.AdamHeadIdeal.Proj.resDelta m c, fun c => Cert.AdamHeadIdeal.Proj.resM m c, fun c => Cert.AdamHeadIdeal.Proj.resV m c,
    Cert.AdamHeadIdeal.Proj.run m ρ, ?_⟩
  refine (θ_run Cert.AdamHeadReferenceIdeal.defs _ _).mono (fun r h c => ?_) (Cert.AdamHeadReferenceIdeal.Value.run (F := Ideal) m' ρ')
  obtain ⟨e0, e1, e2, e3⟩ := he c
  exact ⟨(h c).1.trans (by rw [e0, e1, e2, e3]; rfl),
      (h c).2.1.trans (by rw [e1, e2]; rfl),
      (h c).2.2.1.trans (by rw [e1, e3]; rfl),
      (h c).2.2.2⟩

/-- The optimiser step of the pool weights: its reference runs, and writes no argument. -/
theorem adamPool_frame_reference : Cert.quiescent_AdamPoolReferenceIdeal := fun m ρ _ =>
  (θ_run Cert.AdamPoolReferenceIdeal.defs _ _).mono (fun r h => ⟨fun c => (h c).2.2.2, sem_eq_zero_of_no_sems (by decide) r.2⟩)
    (Cert.AdamPoolReferenceIdeal.Value.run (F := Ideal) m ρ)

/-- The optimiser step of the pool weights: the three results are the reference's. -/
theorem adamPool_algebraic : Cert.algebraic_AdamPoolIdeal_AdamPoolReferenceIdeal := by
  intro m ρ m' ρ' _ he
  refine ⟨fun c => Cert.AdamPoolIdeal.Proj.resDelta m c, fun c => Cert.AdamPoolIdeal.Proj.resM m c, fun c => Cert.AdamPoolIdeal.Proj.resV m c,
    Cert.AdamPoolIdeal.Proj.run m ρ, ?_⟩
  refine (θ_run Cert.AdamPoolReferenceIdeal.defs _ _).mono (fun r h c => ?_) (Cert.AdamPoolReferenceIdeal.Value.run (F := Ideal) m' ρ')
  obtain ⟨e0, e1, e2, e3⟩ := he c
  exact ⟨(h c).1.trans (by rw [e0, e1, e2, e3]; rfl),
      (h c).2.1.trans (by rw [e1, e2]; rfl),
      (h c).2.2.1.trans (by rw [e1, e3]; rfl),
      (h c).2.2.2⟩

/-- The optimiser step of the low-rank weights: its reference runs, and writes no argument. -/
theorem adamRank_frame_reference : Cert.quiescent_AdamRankReferenceIdeal := fun m ρ _ =>
  (θ_run Cert.AdamRankReferenceIdeal.defs _ _).mono (fun r h => ⟨fun c => (h c).2.2.2, sem_eq_zero_of_no_sems (by decide) r.2⟩)
    (Cert.AdamRankReferenceIdeal.Value.run (F := Ideal) m ρ)

/-- The optimiser step of the low-rank weights: the three results are the reference's. -/
theorem adamRank_algebraic : Cert.algebraic_AdamRankIdeal_AdamRankReferenceIdeal := by
  intro m ρ m' ρ' _ he
  refine ⟨fun c => Cert.AdamRankIdeal.Proj.resDelta m c, fun c => Cert.AdamRankIdeal.Proj.resM m c, fun c => Cert.AdamRankIdeal.Proj.resV m c,
    Cert.AdamRankIdeal.Proj.run m ρ, ?_⟩
  refine (θ_run Cert.AdamRankReferenceIdeal.defs _ _).mono (fun r h c => ?_) (Cert.AdamRankReferenceIdeal.Value.run (F := Ideal) m' ρ')
  obtain ⟨e0, e1, e2, e3⟩ := he c
  exact ⟨(h c).1.trans (by rw [e0, e1, e2, e3]; rfl),
      (h c).2.1.trans (by rw [e1, e2]; rfl),
      (h c).2.2.1.trans (by rw [e1, e3]; rfl),
      (h c).2.2.2⟩

/-- The optimiser step of the query weight: its reference runs, and writes no argument. -/
theorem adamQ_frame_reference : Cert.quiescent_AdamQReferenceIdeal := fun m ρ _ =>
  (θ_run Cert.AdamQReferenceIdeal.defs _ _).mono (fun r h => ⟨fun c => (h c).2.2.2, sem_eq_zero_of_no_sems (by decide) r.2⟩)
    (Cert.AdamQReferenceIdeal.Value.run (F := Ideal) m ρ)

/-- The optimiser step of the query weight: the three results are the reference's. -/
theorem adamQ_algebraic : Cert.algebraic_AdamQIdeal_AdamQReferenceIdeal := by
  intro m ρ m' ρ' _ he
  refine ⟨fun c => Cert.AdamQIdeal.Proj.resDelta m c, fun c => Cert.AdamQIdeal.Proj.resM m c, fun c => Cert.AdamQIdeal.Proj.resV m c,
    Cert.AdamQIdeal.Proj.run m ρ, ?_⟩
  refine (θ_run Cert.AdamQReferenceIdeal.defs _ _).mono (fun r h c => ?_) (Cert.AdamQReferenceIdeal.Value.run (F := Ideal) m' ρ')
  obtain ⟨e0, e1, e2, e3⟩ := he c
  exact ⟨(h c).1.trans (by rw [e0, e1, e2, e3]; rfl),
      (h c).2.1.trans (by rw [e1, e2]; rfl),
      (h c).2.2.1.trans (by rw [e1, e3]; rfl),
      (h c).2.2.2⟩

/-- The optimiser step of the key and value weight: its reference runs, and writes no argument. -/
theorem adamKv_frame_reference : Cert.quiescent_AdamKvReferenceIdeal := fun m ρ _ =>
  (θ_run Cert.AdamKvReferenceIdeal.defs _ _).mono (fun r h => ⟨fun c => (h c).2.2.2, sem_eq_zero_of_no_sems (by decide) r.2⟩)
    (Cert.AdamKvReferenceIdeal.Value.run (F := Ideal) m ρ)

/-- The optimiser step of the key and value weight: the three results are the reference's. -/
theorem adamKv_algebraic : Cert.algebraic_AdamKvIdeal_AdamKvReferenceIdeal := by
  intro m ρ m' ρ' _ he
  refine ⟨fun c => Cert.AdamKvIdeal.Proj.resDelta m c, fun c => Cert.AdamKvIdeal.Proj.resM m c, fun c => Cert.AdamKvIdeal.Proj.resV m c,
    Cert.AdamKvIdeal.Proj.run m ρ, ?_⟩
  refine (θ_run Cert.AdamKvReferenceIdeal.defs _ _).mono (fun r h c => ?_) (Cert.AdamKvReferenceIdeal.Value.run (F := Ideal) m' ρ')
  obtain ⟨e0, e1, e2, e3⟩ := he c
  exact ⟨(h c).1.trans (by rw [e0, e1, e2, e3]; rfl),
      (h c).2.1.trans (by rw [e1, e2]; rfl),
      (h c).2.2.1.trans (by rw [e1, e3]; rfl),
      (h c).2.2.2⟩

/-- The optimiser step of the output projection's weight: its reference runs, and writes no argument. -/
theorem adamWOut_frame_reference : Cert.quiescent_AdamWOutReferenceIdeal := fun m ρ _ =>
  (θ_run Cert.AdamWOutReferenceIdeal.defs _ _).mono (fun r h => ⟨fun c => (h c).2.2.2, sem_eq_zero_of_no_sems (by decide) r.2⟩)
    (Cert.AdamWOutReferenceIdeal.Value.run (F := Ideal) m ρ)

/-- The optimiser step of the output projection's weight: the three results are the reference's. -/
theorem adamWOut_algebraic : Cert.algebraic_AdamWOutIdeal_AdamWOutReferenceIdeal := by
  intro m ρ m' ρ' _ he
  refine ⟨fun c => Cert.AdamWOutIdeal.Proj.resDelta m c, fun c => Cert.AdamWOutIdeal.Proj.resM m c, fun c => Cert.AdamWOutIdeal.Proj.resV m c,
    Cert.AdamWOutIdeal.Proj.run m ρ, ?_⟩
  refine (θ_run Cert.AdamWOutReferenceIdeal.defs _ _).mono (fun r h c => ?_) (Cert.AdamWOutReferenceIdeal.Value.run (F := Ideal) m' ρ')
  obtain ⟨e0, e1, e2, e3⟩ := he c
  exact ⟨(h c).1.trans (by rw [e0, e1, e2, e3]; rfl),
      (h c).2.1.trans (by rw [e1, e2]; rfl),
      (h c).2.2.1.trans (by rw [e1, e3]; rfl),
      (h c).2.2.2⟩

/-- The gradient of the normalisation: its reference runs, and writes no argument. -/
theorem normBwd_frame_reference : Cert.quiescent_NormBwdReferenceIdeal := fun m ρ _ =>
  (θ_run Cert.NormBwdReferenceIdeal.defs _ _).mono (fun r h => ⟨fun c => (h c).2.2, sem_eq_zero_of_no_sems (by decide) r.2⟩)
    (Cert.NormBwdReferenceIdeal.Value.run (F := Ideal) m ρ)

/-- The gradient of the normalisation: the two results are the reference's. -/
theorem normBwd_algebraic : Cert.algebraic_NormBwdIdeal_NormBwdReferenceIdeal := by
  intro m ρ m' ρ' _ he
  refine ⟨fun c => Cert.NormBwdIdeal.Proj.resDx m c, fun c => Cert.NormBwdIdeal.Proj.resDg m c,
    Cert.NormBwdIdeal.Proj.run m ρ, ?_⟩
  refine (θ_run Cert.NormBwdReferenceIdeal.defs _ _).mono (fun r h c => ?_) (Cert.NormBwdReferenceIdeal.Value.run (F := Ideal) m' ρ')
  obtain ⟨e0, e1, e2, e3⟩ := he c
  exact ⟨(h c).1.trans (by rw [e0, e1, e2, e3]; rfl),
      (h c).2.1.trans (by rw [e0, e1]; rfl),
      (h c).2.2⟩

/-- The normalisation: its reference runs, and writes no argument. -/
theorem normFwd_frame_reference : Cert.quiescent_NormFwdReferenceIdeal := fun m ρ _ =>
  (θ_run Cert.NormFwdReferenceIdeal.defs _ _).mono (fun r h => ⟨fun c => (h c).2, sem_eq_zero_of_no_sems (by decide) r.2⟩)
    (Cert.NormFwdReferenceIdeal.Value.run (F := Ideal) m ρ)

/-- The normalisation: the result is the reference's. -/
theorem normFwd_algebraic : Cert.algebraic_NormFwdIdeal_NormFwdReferenceIdeal := by
  intro m ρ m' ρ' _ he
  refine ⟨fun c => Cert.NormFwdIdeal.Proj.res m c,
    Cert.NormFwdIdeal.Proj.run m ρ, ?_⟩
  refine (θ_run Cert.NormFwdReferenceIdeal.defs _ _).mono (fun r h c => ?_) (Cert.NormFwdReferenceIdeal.Value.run (F := Ideal) m' ρ')
  obtain ⟨e0, e1⟩ := he c
  exact ⟨(h c).1.trans (by rw [e0, e1]; rfl),
      (h c).2⟩

/-- The gate with its head norm: its reference runs, and writes no argument. -/
theorem gate_frame_reference : Cert.quiescent_GateReferenceIdeal := fun m ρ _ =>
  (θ_run Cert.GateReferenceIdeal.defs _ _).mono (fun r h => ⟨fun c => (h c).2, sem_eq_zero_of_no_sems (by decide) r.2⟩)
    (Cert.GateReferenceIdeal.Value.run (F := Ideal) m ρ)

/-- The gate with its head norm: the result is the reference's. -/
theorem gate_algebraic : Cert.algebraic_GateIdeal_GateReferenceIdeal := by
  intro m ρ m' ρ' _ he
  refine ⟨fun c => Cert.GateIdeal.Proj.res m c,
    Cert.GateIdeal.Proj.run m ρ, ?_⟩
  refine (θ_run Cert.GateReferenceIdeal.defs _ _).mono (fun r h c => ?_) (Cert.GateReferenceIdeal.Value.run (F := Ideal) m' ρ')
  obtain ⟨e0, e1, e2, e3⟩ := he c
  exact ⟨(h c).1.trans (by rw [e0, e1, e2, e3]; rfl),
      (h c).2⟩

/-- The attention's gate: its reference runs, and writes no argument. -/
theorem attnGate_frame_reference : Cert.quiescent_AttnGateReferenceIdeal := fun m ρ _ =>
  (θ_run Cert.AttnGateReferenceIdeal.defs _ _).mono (fun r h => ⟨fun c => (h c).2, sem_eq_zero_of_no_sems (by decide) r.2⟩)
    (Cert.AttnGateReferenceIdeal.Value.run (F := Ideal) m ρ)

/-- The attention's gate: the result is the reference's. -/
theorem attnGate_algebraic : Cert.algebraic_AttnGateIdeal_AttnGateReferenceIdeal := by
  intro m ρ m' ρ' _ he
  refine ⟨fun c => Cert.AttnGateIdeal.Proj.res m c,
    Cert.AttnGateIdeal.Proj.run m ρ, ?_⟩
  refine (θ_run Cert.AttnGateReferenceIdeal.defs _ _).mono (fun r h c => ?_) (Cert.AttnGateReferenceIdeal.Value.run (F := Ideal) m' ρ')
  obtain ⟨e0, e1, -⟩ := he c
  exact ⟨(h c).1.trans (by rw [e0, e1]; rfl),
      (h c).2⟩

/-- The sums over the devices: its reference runs, and writes no argument. -/
theorem sumSmall_frame_reference : Cert.quiescent_SumSmallReferenceIdeal := fun m ρ _ =>
  (θ_run Cert.SumSmallReferenceIdeal.defs _ _).mono (fun r h => ⟨fun c => (h c).2.2.2.2.2.2.2.2.2.2.2.2, sem_eq_zero_of_no_sems (by decide) r.2⟩)
    (Cert.SumSmallReferenceIdeal.Value.run (F := Ideal) m ρ)

/-- The sums over the devices: the twelve results are the reference's. -/
theorem sumSmall_algebraic : Cert.algebraic_SumSmallIdeal_SumSmallReferenceIdeal := by
  intro m ρ m' ρ' _ he
  refine ⟨fun c => Cert.SumSmallIdeal.Proj.resLoss m c, fun c => Cert.SumSmallIdeal.Proj.resNormG m c, fun c => Cert.SumSmallIdeal.Proj.resRetNormG m c, fun c => Cert.SumSmallIdeal.Proj.resGlaBaF m c, fun c => Cert.SumSmallIdeal.Proj.resGlaBaB m c, fun c => Cert.SumSmallIdeal.Proj.resGlaNormG m c, fun c => Cert.SumSmallIdeal.Proj.resPoolW m c, fun c => Cert.SumSmallIdeal.Proj.resPoolScale m c, fun c => Cert.SumSmallIdeal.Proj.resMlaQNormG m c, fun c => Cert.SumSmallIdeal.Proj.resMlaKvNormG m c, fun c => Cert.SumSmallIdeal.Proj.resMlaQkNormQ m c, fun c => Cert.SumSmallIdeal.Proj.resMlaQkNormK m c,
    Cert.SumSmallIdeal.Proj.run m ρ, ?_⟩
  refine (θ_run Cert.SumSmallReferenceIdeal.defs _ _).mono (fun r h c => ?_) (Cert.SumSmallReferenceIdeal.Value.run (F := Ideal) m' ρ')
  have e0 := he c
  exact ⟨(h c).1.trans (by rw [e0]; rfl),
      (h c).2.1.trans (by rw [e0]; rfl),
      (h c).2.2.1.trans (by rw [e0]; rfl),
      (h c).2.2.2.1.trans (by rw [e0]; rfl),
      (h c).2.2.2.2.1.trans (by rw [e0]; rfl),
      (h c).2.2.2.2.2.1.trans (by rw [e0]; rfl),
      (h c).2.2.2.2.2.2.1.trans (by rw [e0]; rfl),
      (h c).2.2.2.2.2.2.2.1.trans (by rw [e0]; rfl),
      (h c).2.2.2.2.2.2.2.2.1.trans (by rw [e0]; rfl),
      (h c).2.2.2.2.2.2.2.2.2.1.trans (by rw [e0]; rfl),
      (h c).2.2.2.2.2.2.2.2.2.2.1.trans (by rw [e0]; rfl),
      (h c).2.2.2.2.2.2.2.2.2.2.2.1.trans (by rw [e0]; rfl),
      (h c).2.2.2.2.2.2.2.2.2.2.2.2⟩

/-- The attention's forward pass: its reference runs, and writes no argument. -/
theorem attnFwd_frame_reference : Cert.quiescent_AttnFwdReferenceIdeal := fun m ρ _ =>
  (θ_run Cert.AttnFwdReferenceIdeal.defs _ _).mono (fun r h => ⟨fun c => (h c).2.2, sem_eq_zero_of_no_sems (by decide) r.2⟩)
    (Cert.AttnFwdReferenceIdeal.Value.run (F := Ideal) m ρ)

/-- The attention's forward pass: the two results are the reference's. -/
theorem attnFwd_algebraic : Cert.algebraic_AttnFwdIdeal_AttnFwdReferenceIdeal_pre_finite_scores := by
  intro m ρ m' ρ' hm he
  refine ⟨fun c => Cert.AttnFwdIdeal.Proj.resO m c, fun c => Cert.AttnFwdIdeal.Proj.resLse m c,
    Cert.AttnFwdIdeal.Proj.run m hm ρ, ?_⟩
  refine (θ_run Cert.AttnFwdReferenceIdeal.defs _ _).mono (fun r h c => ?_) (Cert.AttnFwdReferenceIdeal.Value.run (F := Ideal) m' ρ')
  obtain ⟨e0, e1, e2⟩ := he c
  exact ⟨(h c).1.trans (by rw [Cert.AttnFwdReferenceIdeal.Read.val_main_v20_eq, e0, e1, e2]; rfl),
      (h c).2.1.trans (by rw [Cert.AttnFwdReferenceIdeal.Read.val_main_v35_eq, e0, e1]; rfl),
      (h c).2.2⟩

/-- The gradient of the gate and its head norm: its reference runs, and writes no argument. -/
theorem gateBwd_frame_reference : Cert.quiescent_GateBwdReferenceIdeal := fun m ρ _ =>
  (θ_run Cert.GateBwdReferenceIdeal.defs _ _).mono (fun r h => ⟨fun c => (h c).2.2.2, sem_eq_zero_of_no_sems (by decide) r.2⟩)
    (Cert.GateBwdReferenceIdeal.Value.run (F := Ideal) m ρ)

/-- The gradient of the gate and its head norm: the three results are the reference's. -/
theorem gateBwd_algebraic : Cert.algebraic_GateBwdIdeal_GateBwdReferenceIdeal_pre_finite_gate := by
  intro m ρ m' ρ' hm he
  refine ⟨fun c => Cert.GateBwdIdeal.Proj.resDz m c, fun c => Cert.GateBwdIdeal.Proj.resDo m c, fun c => Cert.GateBwdIdeal.Proj.resDg m c,
    Cert.GateBwdIdeal.Proj.run m hm ρ, ?_⟩
  refine (θ_run Cert.GateBwdReferenceIdeal.defs _ _).mono (fun r h c => ?_) (Cert.GateBwdReferenceIdeal.Value.run (F := Ideal) m' ρ')
  obtain ⟨e0, e1, e2, e3, e4, e5⟩ := he c
  exact ⟨(h c).1.trans ((Cert.GateBwdReferenceIdeal.Read.val_main_v51_eq ..).trans (by rw [e0, e1, e2, e3, e4, e5]; rfl)),
      (h c).2.1.trans (by rw [Cert.GateBwdReferenceIdeal.Read.val_main_v49_eq, e0, e1, e2, e3, e4]; rfl),
      (h c).2.2.1.trans (by rw [Cert.GateBwdReferenceIdeal.Read.val_main_v34_eq, e0, e1, e2, e3]; rfl),
      (h c).2.2.2⟩

/-- The gradient of the attention's gate: its reference runs, and writes no argument. -/
theorem attnGateBwd_frame_reference : Cert.quiescent_AttnGateBwdReferenceIdeal := fun m ρ _ =>
  (θ_run Cert.AttnGateBwdReferenceIdeal.defs _ _).mono (fun r h => ⟨fun c => (h c).2.2.2, sem_eq_zero_of_no_sems (by decide) r.2⟩)
    (Cert.AttnGateBwdReferenceIdeal.Value.run (F := Ideal) m ρ)

/-- The gradient of the attention's gate: the three results are the reference's. -/
theorem attnGateBwd_algebraic : Cert.algebraic_AttnGateBwdIdeal_AttnGateBwdReferenceIdeal_pre_finite_heads := by
  intro m ρ m' ρ' hm he
  refine ⟨fun c => Cert.AttnGateBwdIdeal.Proj.resDz m c, fun c => Cert.AttnGateBwdIdeal.Proj.resDo m c, fun c => Cert.AttnGateBwdIdeal.Proj.resDg,
    Cert.AttnGateBwdIdeal.Proj.run m hm ρ, ?_⟩
  refine (θ_run Cert.AttnGateBwdReferenceIdeal.defs _ _).mono (fun r h c => ?_) (Cert.AttnGateBwdReferenceIdeal.Value.run (F := Ideal) m' ρ')
  obtain ⟨e0, e1, e2, -, e4⟩ := he c
  exact ⟨(h c).1.trans ((Cert.AttnGateBwdReferenceIdeal.Read.val_main_v8_eq ..).trans (by rw [e0, e1, e2, e4]; rfl)),
      (h c).2.1.trans (by rw [Cert.AttnGateBwdReferenceIdeal.Read.val_main_v4_eq, e0, e2]; rfl),
      (h c).2.2.1.trans (by rfl),
      (h c).2.2.2⟩

theorem claim : Cert.Claim := ⟨Cert.Kernel.Gen.facts, Cert.KernelIdeal.Gen.facts, Cert.ReferenceIdeal.Gen.facts,
  Cert.InDh.Gen.facts, Cert.InDhIdeal.Gen.facts, Cert.InDhReferenceIdeal.Gen.facts,
  Cert.InDw.Gen.facts, Cert.InDwIdeal.Gen.facts, Cert.InDwReferenceIdeal.Gen.facts,
  Cert.OutDy.Gen.facts, Cert.OutDyIdeal.Gen.facts, Cert.OutDyReferenceIdeal.Gen.facts,
  Cert.OutDw.Gen.facts, Cert.OutDwIdeal.Gen.facts, Cert.OutDwReferenceIdeal.Gen.facts,
  Cert.InFwd.Gen.facts, Cert.InFwdIdeal.Gen.facts, Cert.InFwdReferenceIdeal.Gen.facts,
  Cert.OutFwd.Gen.facts, Cert.OutFwdIdeal.Gen.facts, Cert.OutFwdReferenceIdeal.Gen.facts,
  Cert.OutLoss.Gen.facts, Cert.OutLossIdeal.Gen.facts, Cert.OutLossReferenceIdeal.Gen.facts,
  Cert.AdamWIn.Gen.facts, Cert.AdamWInIdeal.Gen.facts, Cert.AdamWInReferenceIdeal.Gen.facts,
  Cert.AdamNorm.Gen.facts, Cert.AdamNormIdeal.Gen.facts, Cert.AdamNormReferenceIdeal.Gen.facts,
  Cert.AdamGroup.Gen.facts, Cert.AdamGroupIdeal.Gen.facts, Cert.AdamGroupReferenceIdeal.Gen.facts,
  Cert.AdamHalf.Gen.facts, Cert.AdamHalfIdeal.Gen.facts, Cert.AdamHalfReferenceIdeal.Gen.facts,
  Cert.AdamHead.Gen.facts, Cert.AdamHeadIdeal.Gen.facts, Cert.AdamHeadReferenceIdeal.Gen.facts,
  Cert.AdamPool.Gen.facts, Cert.AdamPoolIdeal.Gen.facts, Cert.AdamPoolReferenceIdeal.Gen.facts,
  Cert.AdamRank.Gen.facts, Cert.AdamRankIdeal.Gen.facts, Cert.AdamRankReferenceIdeal.Gen.facts,
  Cert.AdamQ.Gen.facts, Cert.AdamQIdeal.Gen.facts, Cert.AdamQReferenceIdeal.Gen.facts,
  Cert.AdamKv.Gen.facts, Cert.AdamKvIdeal.Gen.facts, Cert.AdamKvReferenceIdeal.Gen.facts,
  Cert.AdamWOut.Gen.facts, Cert.AdamWOutIdeal.Gen.facts, Cert.AdamWOutReferenceIdeal.Gen.facts,
  Cert.NormBwd.Gen.facts, Cert.NormBwdIdeal.Gen.facts, Cert.NormBwdReferenceIdeal.Gen.facts,
  Cert.NormFwd.Gen.facts, Cert.NormFwdIdeal.Gen.facts, Cert.NormFwdReferenceIdeal.Gen.facts,
  Cert.Gate.Gen.facts, Cert.GateIdeal.Gen.facts, Cert.GateReferenceIdeal.Gen.facts,
  Cert.AttnGate.Gen.facts, Cert.AttnGateIdeal.Gen.facts, Cert.AttnGateReferenceIdeal.Gen.facts,
  Cert.SumSmall.Gen.facts, Cert.SumSmallIdeal.Gen.facts, Cert.SumSmallReferenceIdeal.Gen.facts,
  Cert.AttnFwd.Gen.facts, Cert.AttnFwdIdeal.Gen.facts, Cert.AttnFwdReferenceIdeal.Gen.facts,
  Cert.GateBwd.Gen.facts, Cert.GateBwdIdeal.Gen.facts, Cert.GateBwdReferenceIdeal.Gen.facts,
  Cert.AttnGateBwd.Gen.facts, Cert.AttnGateBwdIdeal.Gen.facts, Cert.AttnGateBwdReferenceIdeal.Gen.facts,
  Cert.Pre_finite.Gen.facts, Cert.Pre_finite_scores.Gen.facts, Cert.Pre_finite_gate.Gen.facts, Cert.Pre_finite_heads.Gen.facts,
  frame_kernel, fun m ρ _ => Cert.KernelIdeal.Attn.frame m ρ, fun m ρ _ => Cert.KernelIdeal.Attn.frame m ρ,
  frame_reference, fun m ρ _ => frame_reference m ρ trivial,
  fun m ρ _ => Cert.InDh.Gen.frame m ρ, fun m ρ _ => Cert.InDhIdeal.Gen.frame m ρ, inDh_frame_reference,
  fun m ρ _ => Cert.InDw.Gen.frame m ρ, fun m ρ _ => Cert.InDwIdeal.Gen.frame m ρ, inDw_frame_reference,
  fun m ρ _ => Cert.OutDy.Gen.frame m ρ, fun m ρ _ => Cert.OutDyIdeal.Gen.frame m ρ, outDy_frame_reference,
  fun m ρ _ => Cert.OutDw.Gen.frame m ρ, fun m ρ _ => Cert.OutDwIdeal.Gen.frame m ρ, outDw_frame_reference,
  fun m ρ _ => Cert.InFwd.Gen.frame m ρ, fun m ρ _ => Cert.InFwdIdeal.Gen.frame m ρ, inFwd_frame_reference,
  fun m ρ _ => Cert.OutFwd.Gen.frame m ρ, fun m ρ _ => Cert.OutFwdIdeal.Gen.frame m ρ, outFwd_frame_reference,
  fun m ρ _ => Cert.OutLoss.Gen.frame m ρ, fun m ρ _ => Cert.OutLossIdeal.Gen.frame m ρ, outLoss_frame_reference,
  fun m ρ _ => Cert.AdamWIn.Gen.frame m ρ, fun m ρ _ => Cert.AdamWInIdeal.Gen.frame m ρ, adamWIn_frame_reference,
  fun m ρ _ => Cert.AdamNorm.Gen.frame m ρ, fun m ρ _ => Cert.AdamNormIdeal.Gen.frame m ρ, adamNorm_frame_reference,
  fun m ρ _ => Cert.AdamGroup.Gen.frame m ρ, fun m ρ _ => Cert.AdamGroupIdeal.Gen.frame m ρ, adamGroup_frame_reference,
  fun m ρ _ => Cert.AdamHalf.Gen.frame m ρ, fun m ρ _ => Cert.AdamHalfIdeal.Gen.frame m ρ, adamHalf_frame_reference,
  fun m ρ _ => Cert.AdamHead.Gen.frame m ρ, fun m ρ _ => Cert.AdamHeadIdeal.Gen.frame m ρ, adamHead_frame_reference,
  fun m ρ _ => Cert.AdamPool.Gen.frame m ρ, fun m ρ _ => Cert.AdamPoolIdeal.Gen.frame m ρ, adamPool_frame_reference,
  fun m ρ _ => Cert.AdamRank.Gen.frame m ρ, fun m ρ _ => Cert.AdamRankIdeal.Gen.frame m ρ, adamRank_frame_reference,
  fun m ρ _ => Cert.AdamQ.Gen.frame m ρ, fun m ρ _ => Cert.AdamQIdeal.Gen.frame m ρ, adamQ_frame_reference,
  fun m ρ _ => Cert.AdamKv.Gen.frame m ρ, fun m ρ _ => Cert.AdamKvIdeal.Gen.frame m ρ, adamKv_frame_reference,
  fun m ρ _ => Cert.AdamWOut.Gen.frame m ρ, fun m ρ _ => Cert.AdamWOutIdeal.Gen.frame m ρ, adamWOut_frame_reference,
  fun m ρ _ => Cert.NormBwd.Gen.frame m ρ, fun m ρ _ => Cert.NormBwdIdeal.Gen.frame m ρ, normBwd_frame_reference,
  fun m ρ _ => Cert.NormFwd.Gen.frame m ρ, fun m ρ _ => Cert.NormFwdIdeal.Gen.frame m ρ, normFwd_frame_reference,
  fun m ρ _ => Cert.Gate.Gen.frame m ρ, fun m ρ _ => Cert.GateIdeal.Gen.frame m ρ, gate_frame_reference,
  fun m ρ _ => Cert.AttnGate.Gen.frame m ρ, fun m ρ _ => Cert.AttnGateIdeal.Gen.frame m ρ, attnGate_frame_reference,
  fun m ρ _ => Cert.SumSmall.Gen.frame m ρ, fun m ρ _ => Cert.SumSmallIdeal.Gen.frame m ρ, sumSmall_frame_reference,
  fun m ρ _ => Cert.AttnFwd.Gen.frame m ρ, fun m ρ _ => Cert.AttnFwdIdeal.Gen.frame m ρ, fun m ρ _ => Cert.AttnFwdIdeal.Gen.frame m ρ,
  attnFwd_frame_reference, fun m ρ _ => attnFwd_frame_reference m ρ trivial,
  fun m ρ _ => Cert.GateBwd.Gen.frame m ρ, fun m ρ _ => Cert.GateBwdIdeal.Gen.frame m ρ, fun m ρ _ => Cert.GateBwdIdeal.Gen.frame m ρ,
  gateBwd_frame_reference, fun m ρ _ => gateBwd_frame_reference m ρ trivial,
  fun m ρ _ => Cert.AttnGateBwd.Gen.frame m ρ, fun m ρ _ => Cert.AttnGateBwdIdeal.Gen.frame m ρ, fun m ρ _ => Cert.AttnGateBwdIdeal.Gen.frame m ρ,
  attnGateBwd_frame_reference, fun m ρ _ => attnGateBwd_frame_reference m ρ trivial,
  trivial, attention,
  trivial, inDh_algebraic,
  trivial, inDw_algebraic,
  trivial, outDy_algebraic,
  trivial, outDw_algebraic,
  trivial, inFwd_algebraic,
  trivial, outFwd_algebraic,
  trivial, outLoss_algebraic,
  trivial, adamWIn_algebraic,
  trivial, adamNorm_algebraic,
  trivial, adamGroup_algebraic,
  trivial, adamHalf_algebraic,
  trivial, adamHead_algebraic,
  trivial, adamPool_algebraic,
  trivial, adamRank_algebraic,
  trivial, adamQ_algebraic,
  trivial, adamKv_algebraic,
  trivial, adamWOut_algebraic,
  trivial, normBwd_algebraic,
  trivial, normFwd_algebraic,
  trivial, gate_algebraic,
  trivial, attnGate_algebraic,
  trivial, sumSmall_algebraic,
  trivial, attnFwd_algebraic,
  trivial, gateBwd_algebraic,
  trivial, attnGateBwd_algebraic⟩

end Cert.Proof

end
